-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_ffn [hPre_finite_ffn : Cert.Pre_finite_ffn.Facts] (m : (ℓ : Loc Cert.GateIdeal.nD Cert.GateIdeal.τ Cert.GateIdeal.sig) → Buf (Elt Ideal) ℓ) : Prop :=
  ∀ c : Dev Cert.GateIdeal.nD,
    (Cert.Pre_finite_ffn.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_ffn [hPre_finite_ffn : Cert.Pre_finite_ffn.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_ffn.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXRefIdeal (m : (ℓ : Loc Cert.GateXRefIdeal.nD Cert.GateXRefIdeal.τ Cert.GateXRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_DownLnRefIdeal (m : (ℓ : Loc Cert.DownLnRefIdeal.nD Cert.DownLnRefIdeal.τ Cert.DownLnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQRefIdeal (m : (ℓ : Loc Cert.MlaQRefIdeal.nD Cert.MlaQRefIdeal.τ Cert.MlaQRefIdeal.sig) → Buf (Elt Ideal) ℓ) : Prop :=
  True

def Pre_MlaQX (m : (ℓ : Loc Cert.MlaQX.nD Cert.MlaQX.τ Cert.MlaQX.sig) → Buf (Elt Bits) ℓ) : Prop :=
  True

def Pre_MlaQXIdeal (m : (ℓ : Loc Cert.MlaQXIdeal.nD Cert.MlaQXIdeal.τ Cert.MlaQXIdeal.sig) → Buf (Elt Ideal) ℓ) : Prop :=
  True

def Pre_MlaQXRefIdeal (m : (ℓ : Loc Cert.MlaQXRefIdeal.nD Cert.MlaQXRefIdeal.τ Cert.MlaQXRefIdeal.sig) → Buf (Elt Ideal) ℓ) : Prop :=
  True

def Pre_MlaQW (m : (ℓ : Loc Cert.MlaQW.nD Cert.MlaQW.τ Cert.MlaQW.sig) → Buf (Elt Bits) ℓ) : Prop :=
  True

def Pre_MlaQWIdeal (m : (ℓ : Loc Cert.MlaQWIdeal.nD Cert.MlaQWIdeal.τ Cert.MlaQWIdeal.sig) → Buf (Elt Ideal) ℓ) : Prop :=
  True

def Pre_MlaQWRefIdeal (m : (ℓ : Loc Cert.MlaQWRefIdeal.nD Cert.MlaQWRefIdeal.τ Cert.MlaQWRefIdeal.sig) → Buf (Elt Ideal) ℓ) : Prop :=
  True

def Pre_MlaKv (m : (ℓ : Loc Cert.MlaKv.nD Cert.MlaKv.τ Cert.MlaKv.sig) → Buf (Elt Bits) ℓ) : Prop :=
  True

def Pre_MlaKvIdeal (m : (ℓ : Loc Cert.MlaKvIdeal.nD Cert.MlaKvIdeal.τ Cert.MlaKvIdeal.sig) → Buf (Elt Ideal) ℓ) : Prop :=
  True

def Pre_MlaKvRefIdeal (m : (ℓ : Loc Cert.MlaKvRefIdeal.nD Cert.MlaKvRefIdeal.τ Cert.MlaKvRefIdeal.sig) → Buf (Elt Ideal) ℓ) : Prop :=
  True

def Pre_MlaKvX (m : (ℓ : Loc Cert.MlaKvX.nD Cert.MlaKvX.τ Cert.MlaKvX.sig) → Buf (Elt Bits) ℓ) : Prop :=
  True

def Pre_MlaKvXIdeal (m : (ℓ : Loc Cert.MlaKvXIdeal.nD Cert.MlaKvXIdeal.τ Cert.MlaKvXIdeal.sig) → Buf (Elt Ideal) ℓ) : Prop :=
  True

def Pre_MlaKvXRefIdeal (m : (ℓ : Loc Cert.MlaKvXRefIdeal.nD Cert.MlaKvXRefIdeal.τ Cert.MlaKvXRefIdeal.sig) → Buf (Elt Ideal) ℓ) : Prop :=
  True

def Pre_MlaKvW (m : (ℓ : Loc Cert.MlaKvW.nD Cert.MlaKvW.τ Cert.MlaKvW.sig) → Buf (Elt Bits) ℓ) : Prop :=
  True

def Pre_MlaKvWIdeal (m : (ℓ : Loc Cert.MlaKvWIdeal.nD Cert.MlaKvWIdeal.τ Cert.MlaKvWIdeal.sig) → Buf (Elt Ideal) ℓ) : Prop :=
  True

def Pre_MlaKvWRefIdeal (m : (ℓ : Loc Cert.MlaKvWRefIdeal.nD Cert.MlaKvWRefIdeal.τ Cert.MlaKvWRefIdeal.sig) → Buf (Elt Ideal) ℓ) : Prop :=
  True

def Pre_MlaNorm (m : (ℓ : Loc Cert.MlaNorm.nD Cert.MlaNorm.τ Cert.MlaNorm.sig) → Buf (Elt Bits) ℓ) : Prop :=
  True

def Pre_MlaNormIdeal (m : (ℓ : Loc Cert.MlaNormIdeal.nD Cert.MlaNormIdeal.τ Cert.MlaNormIdeal.sig) → Buf (Elt Ideal) ℓ) : Prop :=
  True

def Pre_MlaNormRefIdeal (m : (ℓ : Loc Cert.MlaNormRefIdeal.nD Cert.MlaNormRefIdeal.τ Cert.MlaNormRefIdeal.sig) → Buf (Elt Ideal) ℓ) : Prop :=
  True

def Pre_SsdPost (m : (ℓ : Loc Cert.SsdPost.nD Cert.SsdPost.τ Cert.SsdPost.sig) → Buf (Elt Bits) ℓ) : Prop :=
  True

def Pre_SsdPostIdeal (m : (ℓ : Loc Cert.SsdPostIdeal.nD Cert.SsdPostIdeal.τ Cert.SsdPostIdeal.sig) → Buf (Elt Ideal) ℓ) : Prop :=
  True

def Pre_SsdPostRefIdeal (m : (ℓ : Loc Cert.SsdPostRefIdeal.nD Cert.SsdPostRefIdeal.τ Cert.SsdPostRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_RopeT (m : (ℓ : Loc Cert.RopeT.nD Cert.RopeT.τ Cert.RopeT.sig) → Buf (Elt Bits) ℓ) : Prop :=
  True

def Pre_RopeTIdeal (m : (ℓ : Loc Cert.RopeTIdeal.nD Cert.RopeTIdeal.τ Cert.RopeTIdeal.sig) → Buf (Elt Ideal) ℓ) : Prop :=
  True

def Pre_RopeTRefIdeal (m : (ℓ : Loc Cert.RopeTRefIdeal.nD Cert.RopeTRefIdeal.τ Cert.RopeTRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtRefIdeal (m : (ℓ : Loc Cert.SsdDtRefIdeal.nD Cert.SsdDtRefIdeal.τ Cert.SsdDtRefIdeal.sig) → Buf (Elt Ideal) ℓ) : Prop :=
  True

def Pre_FfnLnBwd (m : (ℓ : Loc Cert.FfnLnBwd.nD Cert.FfnLnBwd.τ Cert.FfnLnBwd.sig) → Buf (Elt Bits) ℓ) : Prop :=
  True

def Pre_FfnLnBwdIdeal (m : (ℓ : Loc Cert.FfnLnBwdIdeal.nD Cert.FfnLnBwdIdeal.τ Cert.FfnLnBwdIdeal.sig) → Buf (Elt Ideal) ℓ) : Prop :=
  True

def Pre_FfnLnBwdIdeal_finite_ln [hPre_finite_ln : Cert.Pre_finite_ln.Facts] (m : (ℓ : Loc Cert.FfnLnBwdIdeal.nD Cert.FfnLnBwdIdeal.τ Cert.FfnLnBwdIdeal.sig) → Buf (Elt Ideal) ℓ) : Prop :=
  ∀ c : Dev Cert.FfnLnBwdIdeal.nD,
    (Cert.Pre_finite_ln.fn (F := Ideal) (m ((c.tc : Thread Cert.FfnLnBwdIdeal.nD Cert.FfnLnBwdIdeal.τ).loc Cert.FfnLnBwdIdeal.main_arg0)) (m ((c.tc : Thread Cert.FfnLnBwdIdeal.nD Cert.FfnLnBwdIdeal.τ).loc Cert.FfnLnBwdIdeal.main_arg1)) (m ((c.tc : Thread Cert.FfnLnBwdIdeal.nD Cert.FfnLnBwdIdeal.τ).loc Cert.FfnLnBwdIdeal.main_arg2)) (m ((c.tc : Thread Cert.FfnLnBwdIdeal.nD Cert.FfnLnBwdIdeal.τ).loc Cert.FfnLnBwdIdeal.main_arg3)) (m ((c.tc : Thread Cert.FfnLnBwdIdeal.nD Cert.FfnLnBwdIdeal.τ).loc Cert.FfnLnBwdIdeal.main_arg4))) = (fun _ => 1#1)

def Pre_FfnLnBwdRefIdeal (m : (ℓ : Loc Cert.FfnLnBwdRefIdeal.nD Cert.FfnLnBwdRefIdeal.τ Cert.FfnLnBwdRefIdeal.sig) → Buf (Elt Ideal) ℓ) : Prop :=
  True

def Pre_FfnLnBwdRefIdeal_finite_ln [hPre_finite_ln : Cert.Pre_finite_ln.Facts] (m : (ℓ : Loc Cert.FfnLnBwdRefIdeal.nD Cert.FfnLnBwdRefIdeal.τ Cert.FfnLnBwdRefIdeal.sig) → Buf (Elt Ideal) ℓ) : Prop :=
  ∀ c : Dev Cert.FfnLnBwdRefIdeal.nD,
    (Cert.Pre_finite_ln.fn (F := Ideal) (m ((c.tc : Thread Cert.FfnLnBwdRefIdeal.nD Cert.FfnLnBwdRefIdeal.τ).loc Cert.FfnLnBwdRefIdeal.main_arg0)) (m ((c.tc : Thread Cert.FfnLnBwdRefIdeal.nD Cert.FfnLnBwdRefIdeal.τ).loc Cert.FfnLnBwdRefIdeal.main_arg1)) (m ((c.tc : Thread Cert.FfnLnBwdRefIdeal.nD Cert.FfnLnBwdRefIdeal.τ).loc Cert.FfnLnBwdRefIdeal.main_arg2)) (m ((c.tc : Thread Cert.FfnLnBwdRefIdeal.nD Cert.FfnLnBwdRefIdeal.τ).loc Cert.FfnLnBwdRefIdeal.main_arg3)) (m ((c.tc : Thread Cert.FfnLnBwdRefIdeal.nD Cert.FfnLnBwdRefIdeal.τ).loc Cert.FfnLnBwdRefIdeal.main_arg4))) = (fun _ => 1#1)

def Pre_MixLnBwd (m : (ℓ : Loc Cert.MixLnBwd.nD Cert.MixLnBwd.τ Cert.MixLnBwd.sig) → Buf (Elt Bits) ℓ) : Prop :=
  True

def Pre_MixLnBwdIdeal (m : (ℓ : Loc Cert.MixLnBwdIdeal.nD Cert.MixLnBwdIdeal.τ Cert.MixLnBwdIdeal.sig) → Buf (Elt Ideal) ℓ) : Prop :=
  True

def Pre_MixLnBwdIdeal_finite_ln [hPre_finite_ln : Cert.Pre_finite_ln.Facts] (m : (ℓ : Loc Cert.MixLnBwdIdeal.nD Cert.MixLnBwdIdeal.τ Cert.MixLnBwdIdeal.sig) → Buf (Elt Ideal) ℓ) : Prop :=
  ∀ c : Dev Cert.MixLnBwdIdeal.nD,
    (Cert.Pre_finite_ln.fn (F := Ideal) (m ((c.tc : Thread Cert.MixLnBwdIdeal.nD Cert.MixLnBwdIdeal.τ).loc Cert.MixLnBwdIdeal.main_arg0)) (m ((c.tc : Thread Cert.MixLnBwdIdeal.nD Cert.MixLnBwdIdeal.τ).loc Cert.MixLnBwdIdeal.main_arg1)) (m ((c.tc : Thread Cert.MixLnBwdIdeal.nD Cert.MixLnBwdIdeal.τ).loc Cert.MixLnBwdIdeal.main_arg2)) (m ((c.tc : Thread Cert.MixLnBwdIdeal.nD Cert.MixLnBwdIdeal.τ).loc Cert.MixLnBwdIdeal.main_arg3)) (m ((c.tc : Thread Cert.MixLnBwdIdeal.nD Cert.MixLnBwdIdeal.τ).loc Cert.MixLnBwdIdeal.main_arg4))) = (fun _ => 1#1)

def Pre_MixLnBwdRefIdeal (m : (ℓ : Loc Cert.MixLnBwdRefIdeal.nD Cert.MixLnBwdRefIdeal.τ Cert.MixLnBwdRefIdeal.sig) → Buf (Elt Ideal) ℓ) : Prop :=
  True

def Pre_MixLnBwdRefIdeal_finite_ln [hPre_finite_ln : Cert.Pre_finite_ln.Facts] (m : (ℓ : Loc Cert.MixLnBwdRefIdeal.nD Cert.MixLnBwdRefIdeal.τ Cert.MixLnBwdRefIdeal.sig) → Buf (Elt Ideal) ℓ) : Prop :=
  ∀ c : Dev Cert.MixLnBwdRefIdeal.nD,
    (Cert.Pre_finite_ln.fn (F := Ideal) (m ((c.tc : Thread Cert.MixLnBwdRefIdeal.nD Cert.MixLnBwdRefIdeal.τ).loc Cert.MixLnBwdRefIdeal.main_arg0)) (m ((c.tc : Thread Cert.MixLnBwdRefIdeal.nD Cert.MixLnBwdRefIdeal.τ).loc Cert.MixLnBwdRefIdeal.main_arg1)) (m ((c.tc : Thread Cert.MixLnBwdRefIdeal.nD Cert.MixLnBwdRefIdeal.τ).loc Cert.MixLnBwdRefIdeal.main_arg2)) (m ((c.tc : Thread Cert.MixLnBwdRefIdeal.nD Cert.MixLnBwdRefIdeal.τ).loc Cert.MixLnBwdRefIdeal.main_arg3)) (m ((c.tc : Thread Cert.MixLnBwdRefIdeal.nD Cert.MixLnBwdRefIdeal.τ).loc Cert.MixLnBwdRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_ffn [hGateIdeal : Cert.GateIdeal.Facts] [hPre_finite_ffn : Cert.Pre_finite_ffn.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_ffn m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_ffn [hGateRefIdeal : Cert.GateRefIdeal.Facts] [hPre_finite_ffn : Cert.Pre_finite_ffn.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_ffn m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1)
      ∧ r.2.mem ((c.tc : Thread Cert.GateW.nD Cert.GateW.τ).loc Cert.GateW.main_arg2) = m ((c.tc : Thread Cert.GateW.nD Cert.GateW.τ).loc Cert.GateW.main_arg2))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
      ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1)
      ∧ r.2.mem ((c.tc : Thread Cert.GateWRefIdeal.nD Cert.GateWRefIdeal.τ).loc Cert.GateWRefIdeal.main_arg2) = m ((c.tc : Thread Cert.GateWRefIdeal.nD Cert.GateWRefIdeal.τ).loc Cert.GateWRefIdeal.main_arg2))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1)
      ∧ r.2.mem ((c.tc : Thread Cert.GateX.nD Cert.GateX.τ).loc Cert.GateX.main_arg2) = m ((c.tc : Thread Cert.GateX.nD Cert.GateX.τ).loc Cert.GateX.main_arg2)
      ∧ r.2.mem ((c.tc : Thread Cert.GateX.nD Cert.GateX.τ).loc Cert.GateX.main_arg3) = m ((c.tc : Thread Cert.GateX.nD Cert.GateX.τ).loc Cert.GateX.main_arg3)
      ∧ r.2.mem ((c.tc : Thread Cert.GateX.nD Cert.GateX.τ).loc Cert.GateX.main_arg4) = m ((c.tc : Thread Cert.GateX.nD Cert.GateX.τ).loc Cert.GateX.main_arg4))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
      ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2)
      ∧ r.2.mem ((c.tc : Thread Cert.GateXIdeal.nD Cert.GateXIdeal.τ).loc Cert.GateXIdeal.main_arg3) = m ((c.tc : Thread Cert.GateXIdeal.nD Cert.GateXIdeal.τ).loc Cert.GateXIdeal.main_arg3)
      ∧ r.2.mem ((c.tc : Thread Cert.GateXIdeal.nD Cert.GateXIdeal.τ).loc Cert.GateXIdeal.main_arg4) = m ((c.tc : Thread Cert.GateXIdeal.nD Cert.GateXIdeal.τ).loc Cert.GateXIdeal.main_arg4))
      ∧ r.2.sem = fun _ => 0)

def quiescent_GateXRefIdeal [hGateXRefIdeal : Cert.GateXRefIdeal.Facts] : Prop :=
  ∀ (m : (ℓ : Loc Cert.GateXRefIdeal.nD Cert.GateXRefIdeal.τ Cert.GateXRefIdeal.sig) → Buf (Elt Ideal) ℓ) (g : Dev Cert.GateXRefIdeal.nD → PrngReg), Pre_GateXRefIdeal m →
    θ_run (Cert.GateXRefIdeal.defs (F := Ideal)) (onTc (τ := Cert.GateXRefIdeal.τ) (Cert.GateXRefIdeal.main (F := Ideal))) ⟨m, fun _ => 0, g⟩ (fun r => (∀ c : Dev Cert.GateXRefIdeal.nD,
      r.2.mem ((c.tc : Thread Cert.GateXRefIdeal.nD Cert.GateXRefIdeal.τ).loc Cert.GateXRefIdeal.main_arg0) = m ((c.tc : Thread Cert.GateXRefIdeal.nD Cert.GateXRefIdeal.τ).loc Cert.GateXRefIdeal.main_arg0)
      ∧ r.2.mem ((c.tc : Thread Cert.GateXRefIdeal.nD Cert.GateXRefIdeal.τ).loc Cert.GateXRefIdeal.main_arg1) = m ((c.tc : Thread Cert.GateXRefIdeal.nD Cert.GateXRefIdeal.τ).loc Cert.GateXRefIdeal.main_arg1)
      ∧ r.2.mem ((c.tc : Thread Cert.GateXRefIdeal.nD Cert.GateXRefIdeal.τ).loc Cert.GateXRefIdeal.main_arg2) = m ((c.tc : Thread Cert.GateXRefIdeal.nD Cert.GateXRefIdeal.τ).loc Cert.GateXRefIdeal.main_arg2)
      ∧ r.2.mem ((c.tc : Thread Cert.GateXRefIdeal.nD Cert.GateXRefIdeal.τ).loc Cert.GateXRefIdeal.main_arg3) = m ((c.tc : Thread Cert.GateXRefIdeal.nD Cert.GateXRefIdeal.τ).loc Cert.GateXRefIdeal.main_arg3)
      ∧ r.2.mem ((c.tc : Thread Cert.GateXRefIdeal.nD Cert.GateXRefIdeal.τ).loc Cert.GateXRefIdeal.main_arg4) = m ((c.tc : Thread Cert.GateXRefIdeal.nD Cert.GateXRefIdeal.τ).loc Cert.GateXRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_DownLnRefIdeal [hDownLnRefIdeal : Cert.DownLnRefIdeal.Facts] : Prop :=
  ∀ (m : (ℓ : Loc Cert.DownLnRefIdeal.nD Cert.DownLnRefIdeal.τ Cert.DownLnRefIdeal.sig) → Buf (Elt Ideal) ℓ) (g : Dev Cert.DownLnRefIdeal.nD → PrngReg), Pre_DownLnRefIdeal m →
    θ_run (Cert.DownLnRefIdeal.defs (F := Ideal)) (onTc (τ := Cert.DownLnRefIdeal.τ) (Cert.DownLnRefIdeal.main (F := Ideal))) ⟨m, fun _ => 0, g⟩ (fun r => (∀ c : Dev Cert.DownLnRefIdeal.nD,
      r.2.mem ((c.tc : Thread Cert.DownLnRefIdeal.nD Cert.DownLnRefIdeal.τ).loc Cert.DownLnRefIdeal.main_arg0) = m ((c.tc : Thread Cert.DownLnRefIdeal.nD Cert.DownLnRefIdeal.τ).loc Cert.DownLnRefIdeal.main_arg0)
      ∧ r.2.mem ((c.tc : Thread Cert.DownLnRefIdeal.nD Cert.DownLnRefIdeal.τ).loc Cert.DownLnRefIdeal.main_arg1) = m ((c.tc : Thread Cert.DownLnRefIdeal.nD Cert.DownLnRefIdeal.τ).loc Cert.DownLnRefIdeal.main_arg1)
      ∧ r.2.mem ((c.tc : Thread Cert.DownLnRefIdeal.nD Cert.DownLnRefIdeal.τ).loc Cert.DownLnRefIdeal.main_arg2) = m ((c.tc : Thread Cert.DownLnRefIdeal.nD Cert.DownLnRefIdeal.τ).loc Cert.DownLnRefIdeal.main_arg2)
      ∧ r.2.mem ((c.tc : Thread Cert.DownLnRefIdeal.nD Cert.DownLnRefIdeal.τ).loc Cert.DownLnRefIdeal.main_arg3) = m ((c.tc : Thread Cert.DownLnRefIdeal.nD Cert.DownLnRefIdeal.τ).loc Cert.DownLnRefIdeal.main_arg3)
      ∧ r.2.mem ((c.tc : Thread Cert.DownLnRefIdeal.nD Cert.DownLnRefIdeal.τ).loc Cert.DownLnRefIdeal.main_arg4) = m ((c.tc : Thread Cert.DownLnRefIdeal.nD Cert.DownLnRefIdeal.τ).loc Cert.DownLnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1))
      ∧ r.2.sem = fun _ => 0)

def quiescent_MlaQRefIdeal [hMlaQRefIdeal : Cert.MlaQRefIdeal.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1))
      ∧ r.2.sem = fun _ => 0)

def quiescent_MlaQX [hMlaQX : Cert.MlaQX.Facts] : Prop :=
  ∀ (m : (ℓ : Loc Cert.MlaQX.nD Cert.MlaQX.τ Cert.MlaQX.sig) → Buf (Elt Bits) ℓ) (g : Dev Cert.MlaQX.nD → PrngReg), Pre_MlaQX m →
    θ_run (Cert.MlaQX.defs (F := Bits)) (onTc (τ := Cert.MlaQX.τ) (Cert.MlaQX.main (F := Bits))) ⟨m, fun _ => 0, g⟩ (fun r => (∀ c : Dev Cert.MlaQX.nD,
      r.2.mem ((c.tc : Thread Cert.MlaQX.nD Cert.MlaQX.τ).loc Cert.MlaQX.main_arg0) = m ((c.tc : Thread Cert.MlaQX.nD Cert.MlaQX.τ).loc Cert.MlaQX.main_arg0)
      ∧ r.2.mem ((c.tc : Thread Cert.MlaQX.nD Cert.MlaQX.τ).loc Cert.MlaQX.main_arg1) = m ((c.tc : Thread Cert.MlaQX.nD Cert.MlaQX.τ).loc Cert.MlaQX.main_arg1))
      ∧ r.2.sem = fun _ => 0)

def quiescent_MlaQXIdeal [hMlaQXIdeal : Cert.MlaQXIdeal.Facts] : Prop :=
  ∀ (m : (ℓ : Loc Cert.MlaQXIdeal.nD Cert.MlaQXIdeal.τ Cert.MlaQXIdeal.sig) → Buf (Elt Ideal) ℓ) (g : Dev Cert.MlaQXIdeal.nD → PrngReg), Pre_MlaQXIdeal m →
    θ_run (Cert.MlaQXIdeal.defs (F := Ideal)) (onTc (τ := Cert.MlaQXIdeal.τ) (Cert.MlaQXIdeal.main (F := Ideal))) ⟨m, fun _ => 0, g⟩ (fun r => (∀ c : Dev Cert.MlaQXIdeal.nD,
      r.2.mem ((c.tc : Thread Cert.MlaQXIdeal.nD Cert.MlaQXIdeal.τ).loc Cert.MlaQXIdeal.main_arg0) = m ((c.tc : Thread Cert.MlaQXIdeal.nD Cert.MlaQXIdeal.τ).loc Cert.MlaQXIdeal.main_arg0)
      ∧ r.2.mem ((c.tc : Thread Cert.MlaQXIdeal.nD Cert.MlaQXIdeal.τ).loc Cert.MlaQXIdeal.main_arg1) = m ((c.tc : Thread Cert.MlaQXIdeal.nD Cert.MlaQXIdeal.τ).loc Cert.MlaQXIdeal.main_arg1))
      ∧ r.2.sem = fun _ => 0)

def quiescent_MlaQXRefIdeal [hMlaQXRefIdeal : Cert.MlaQXRefIdeal.Facts] : Prop :=
  ∀ (m : (ℓ : Loc Cert.MlaQXRefIdeal.nD Cert.MlaQXRefIdeal.τ Cert.MlaQXRefIdeal.sig) → Buf (Elt Ideal) ℓ) (g : Dev Cert.MlaQXRefIdeal.nD → PrngReg), Pre_MlaQXRefIdeal m →
    θ_run (Cert.MlaQXRefIdeal.defs (F := Ideal)) (onTc (τ := Cert.MlaQXRefIdeal.τ) (Cert.MlaQXRefIdeal.main (F := Ideal))) ⟨m, fun _ => 0, g⟩ (fun r => (∀ c : Dev Cert.MlaQXRefIdeal.nD,
      r.2.mem ((c.tc : Thread Cert.MlaQXRefIdeal.nD Cert.MlaQXRefIdeal.τ).loc Cert.MlaQXRefIdeal.main_arg0) = m ((c.tc : Thread Cert.MlaQXRefIdeal.nD Cert.MlaQXRefIdeal.τ).loc Cert.MlaQXRefIdeal.main_arg0)
      ∧ r.2.mem ((c.tc : Thread Cert.MlaQXRefIdeal.nD Cert.MlaQXRefIdeal.τ).loc Cert.MlaQXRefIdeal.main_arg1) = m ((c.tc : Thread Cert.MlaQXRefIdeal.nD Cert.MlaQXRefIdeal.τ).loc Cert.MlaQXRefIdeal.main_arg1))
      ∧ r.2.sem = fun _ => 0)

def quiescent_MlaQW [hMlaQW : Cert.MlaQW.Facts] : Prop :=
  ∀ (m : (ℓ : Loc Cert.MlaQW.nD Cert.MlaQW.τ Cert.MlaQW.sig) → Buf (Elt Bits) ℓ) (g : Dev Cert.MlaQW.nD → PrngReg), Pre_MlaQW m →
    θ_run (Cert.MlaQW.defs (F := Bits)) (onTc (τ := Cert.MlaQW.τ) (Cert.MlaQW.main (F := Bits))) ⟨m, fun _ => 0, g⟩ (fun r => (∀ c : Dev Cert.MlaQW.nD,
      r.2.mem ((c.tc : Thread Cert.MlaQW.nD Cert.MlaQW.τ).loc Cert.MlaQW.main_arg0) = m ((c.tc : Thread Cert.MlaQW.nD Cert.MlaQW.τ).loc Cert.MlaQW.main_arg0)
      ∧ r.2.mem ((c.tc : Thread Cert.MlaQW.nD Cert.MlaQW.τ).loc Cert.MlaQW.main_arg1) = m ((c.tc : Thread Cert.MlaQW.nD Cert.MlaQW.τ).loc Cert.MlaQW.main_arg1))
      ∧ r.2.sem = fun _ => 0)

def quiescent_MlaQWIdeal [hMlaQWIdeal : Cert.MlaQWIdeal.Facts] : Prop :=
  ∀ (m : (ℓ : Loc Cert.MlaQWIdeal.nD Cert.MlaQWIdeal.τ Cert.MlaQWIdeal.sig) → Buf (Elt Ideal) ℓ) (g : Dev Cert.MlaQWIdeal.nD → PrngReg), Pre_MlaQWIdeal m →
    θ_run (Cert.MlaQWIdeal.defs (F := Ideal)) (onTc (τ := Cert.MlaQWIdeal.τ) (Cert.MlaQWIdeal.main (F := Ideal))) ⟨m, fun _ => 0, g⟩ (fun r => (∀ c : Dev Cert.MlaQWIdeal.nD,
      r.2.mem ((c.tc : Thread Cert.MlaQWIdeal.nD Cert.MlaQWIdeal.τ).loc Cert.MlaQWIdeal.main_arg0) = m ((c.tc : Thread Cert.MlaQWIdeal.nD Cert.MlaQWIdeal.τ).loc Cert.MlaQWIdeal.main_arg0)
      ∧ r.2.mem ((c.tc : Thread Cert.MlaQWIdeal.nD Cert.MlaQWIdeal.τ).loc Cert.MlaQWIdeal.main_arg1) = m ((c.tc : Thread Cert.MlaQWIdeal.nD Cert.MlaQWIdeal.τ).loc Cert.MlaQWIdeal.main_arg1))
      ∧ r.2.sem = fun _ => 0)

def quiescent_MlaQWRefIdeal [hMlaQWRefIdeal : Cert.MlaQWRefIdeal.Facts] : Prop :=
  ∀ (m : (ℓ : Loc Cert.MlaQWRefIdeal.nD Cert.MlaQWRefIdeal.τ Cert.MlaQWRefIdeal.sig) → Buf (Elt Ideal) ℓ) (g : Dev Cert.MlaQWRefIdeal.nD → PrngReg), Pre_MlaQWRefIdeal m →
    θ_run (Cert.MlaQWRefIdeal.defs (F := Ideal)) (onTc (τ := Cert.MlaQWRefIdeal.τ) (Cert.MlaQWRefIdeal.main (F := Ideal))) ⟨m, fun _ => 0, g⟩ (fun r => (∀ c : Dev Cert.MlaQWRefIdeal.nD,
      r.2.mem ((c.tc : Thread Cert.MlaQWRefIdeal.nD Cert.MlaQWRefIdeal.τ).loc Cert.MlaQWRefIdeal.main_arg0) = m ((c.tc : Thread Cert.MlaQWRefIdeal.nD Cert.MlaQWRefIdeal.τ).loc Cert.MlaQWRefIdeal.main_arg0)
      ∧ r.2.mem ((c.tc : Thread Cert.MlaQWRefIdeal.nD Cert.MlaQWRefIdeal.τ).loc Cert.MlaQWRefIdeal.main_arg1) = m ((c.tc : Thread Cert.MlaQWRefIdeal.nD Cert.MlaQWRefIdeal.τ).loc Cert.MlaQWRefIdeal.main_arg1))
      ∧ r.2.sem = fun _ => 0)

def quiescent_MlaKv [hMlaKv : Cert.MlaKv.Facts] : Prop :=
  ∀ (m : (ℓ : Loc Cert.MlaKv.nD Cert.MlaKv.τ Cert.MlaKv.sig) → Buf (Elt Bits) ℓ) (g : Dev Cert.MlaKv.nD → PrngReg), Pre_MlaKv m →
    θ_run (Cert.MlaKv.defs (F := Bits)) (onTc (τ := Cert.MlaKv.τ) (Cert.MlaKv.main (F := Bits))) ⟨m, fun _ => 0, g⟩ (fun r => (∀ c : Dev Cert.MlaKv.nD,
      r.2.mem ((c.tc : Thread Cert.MlaKv.nD Cert.MlaKv.τ).loc Cert.MlaKv.main_arg0) = m ((c.tc : Thread Cert.MlaKv.nD Cert.MlaKv.τ).loc Cert.MlaKv.main_arg0)
      ∧ r.2.mem ((c.tc : Thread Cert.MlaKv.nD Cert.MlaKv.τ).loc Cert.MlaKv.main_arg1) = m ((c.tc : Thread Cert.MlaKv.nD Cert.MlaKv.τ).loc Cert.MlaKv.main_arg1))
      ∧ r.2.sem = fun _ => 0)

def quiescent_MlaKvIdeal [hMlaKvIdeal : Cert.MlaKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1))
      ∧ r.2.sem = fun _ => 0)

def quiescent_MlaKvRefIdeal [hMlaKvRefIdeal : Cert.MlaKvRefIdeal.Facts] : Prop :=
  ∀ (m : (ℓ : Loc Cert.MlaKvRefIdeal.nD Cert.MlaKvRefIdeal.τ Cert.MlaKvRefIdeal.sig) → Buf (Elt Ideal) ℓ) (g : Dev Cert.MlaKvRefIdeal.nD → PrngReg), Pre_MlaKvRefIdeal m →
    θ_run (Cert.MlaKvRefIdeal.defs (F := Ideal)) (onTc (τ := Cert.MlaKvRefIdeal.τ) (Cert.MlaKvRefIdeal.main (F := Ideal))) ⟨m, fun _ => 0, g⟩ (fun r => (∀ c : Dev Cert.MlaKvRefIdeal.nD,
      r.2.mem ((c.tc : Thread Cert.MlaKvRefIdeal.nD Cert.MlaKvRefIdeal.τ).loc Cert.MlaKvRefIdeal.main_arg0) = m ((c.tc : Thread Cert.MlaKvRefIdeal.nD Cert.MlaKvRefIdeal.τ).loc Cert.MlaKvRefIdeal.main_arg0)
      ∧ r.2.mem ((c.tc : Thread Cert.MlaKvRefIdeal.nD Cert.MlaKvRefIdeal.τ).loc Cert.MlaKvRefIdeal.main_arg1) = m ((c.tc : Thread Cert.MlaKvRefIdeal.nD Cert.MlaKvRefIdeal.τ).loc Cert.MlaKvRefIdeal.main_arg1))
      ∧ r.2.sem = fun _ => 0)

def quiescent_MlaKvX [hMlaKvX : Cert.MlaKvX.Facts] : Prop :=
  ∀ (m : (ℓ : Loc Cert.MlaKvX.nD Cert.MlaKvX.τ Cert.MlaKvX.sig) → Buf (Elt Bits) ℓ) (g : Dev Cert.MlaKvX.nD → PrngReg), Pre_MlaKvX m →
    θ_run (Cert.MlaKvX.defs (F := Bits)) (onTc (τ := Cert.MlaKvX.τ) (Cert.MlaKvX.main (F := Bits))) ⟨m, fun _ => 0, g⟩ (fun r => (∀ c : Dev Cert.MlaKvX.nD,
      r.2.mem ((c.tc : Thread Cert.MlaKvX.nD Cert.MlaKvX.τ).loc Cert.MlaKvX.main_arg0) = m ((c.tc : Thread Cert.MlaKvX.nD Cert.MlaKvX.τ).loc Cert.MlaKvX.main_arg0)
      ∧ r.2.mem ((c.tc : Thread Cert.MlaKvX.nD Cert.MlaKvX.τ).loc Cert.MlaKvX.main_arg1) = m ((c.tc : Thread Cert.MlaKvX.nD Cert.MlaKvX.τ).loc Cert.MlaKvX.main_arg1))
      ∧ r.2.sem = fun _ => 0)

def quiescent_MlaKvXIdeal [hMlaKvXIdeal : Cert.MlaKvXIdeal.Facts] : Prop :=
  ∀ (m : (ℓ : Loc Cert.MlaKvXIdeal.nD Cert.MlaKvXIdeal.τ Cert.MlaKvXIdeal.sig) → Buf (Elt Ideal) ℓ) (g : Dev Cert.MlaKvXIdeal.nD → PrngReg), Pre_MlaKvXIdeal m →
    θ_run (Cert.MlaKvXIdeal.defs (F := Ideal)) (onTc (τ := Cert.MlaKvXIdeal.τ) (Cert.MlaKvXIdeal.main (F := Ideal))) ⟨m, fun _ => 0, g⟩ (fun r => (∀ c : Dev Cert.MlaKvXIdeal.nD,
      r.2.mem ((c.tc : Thread Cert.MlaKvXIdeal.nD Cert.MlaKvXIdeal.τ).loc Cert.MlaKvXIdeal.main_arg0) = m ((c.tc : Thread Cert.MlaKvXIdeal.nD Cert.MlaKvXIdeal.τ).loc Cert.MlaKvXIdeal.main_arg0)
      ∧ r.2.mem ((c.tc : Thread Cert.MlaKvXIdeal.nD Cert.MlaKvXIdeal.τ).loc Cert.MlaKvXIdeal.main_arg1) = m ((c.tc : Thread Cert.MlaKvXIdeal.nD Cert.MlaKvXIdeal.τ).loc Cert.MlaKvXIdeal.main_arg1))
      ∧ r.2.sem = fun _ => 0)

def quiescent_MlaKvXRefIdeal [hMlaKvXRefIdeal : Cert.MlaKvXRefIdeal.Facts] : Prop :=
  ∀ (m : (ℓ : Loc Cert.MlaKvXRefIdeal.nD Cert.MlaKvXRefIdeal.τ Cert.MlaKvXRefIdeal.sig) → Buf (Elt Ideal) ℓ) (g : Dev Cert.MlaKvXRefIdeal.nD → PrngReg), Pre_MlaKvXRefIdeal m →
    θ_run (Cert.MlaKvXRefIdeal.defs (F := Ideal)) (onTc (τ := Cert.MlaKvXRefIdeal.τ) (Cert.MlaKvXRefIdeal.main (F := Ideal))) ⟨m, fun _ => 0, g⟩ (fun r => (∀ c : Dev Cert.MlaKvXRefIdeal.nD,
      r.2.mem ((c.tc : Thread Cert.MlaKvXRefIdeal.nD Cert.MlaKvXRefIdeal.τ).loc Cert.MlaKvXRefIdeal.main_arg0) = m ((c.tc : Thread Cert.MlaKvXRefIdeal.nD Cert.MlaKvXRefIdeal.τ).loc Cert.MlaKvXRefIdeal.main_arg0)
      ∧ r.2.mem ((c.tc : Thread Cert.MlaKvXRefIdeal.nD Cert.MlaKvXRefIdeal.τ).loc Cert.MlaKvXRefIdeal.main_arg1) = m ((c.tc : Thread Cert.MlaKvXRefIdeal.nD Cert.MlaKvXRefIdeal.τ).loc Cert.MlaKvXRefIdeal.main_arg1))
      ∧ r.2.sem = fun _ => 0)

def quiescent_MlaKvW [hMlaKvW : Cert.MlaKvW.Facts] : Prop :=
  ∀ (m : (ℓ : Loc Cert.MlaKvW.nD Cert.MlaKvW.τ Cert.MlaKvW.sig) → Buf (Elt Bits) ℓ) (g : Dev Cert.MlaKvW.nD → PrngReg), Pre_MlaKvW m →
    θ_run (Cert.MlaKvW.defs (F := Bits)) (onTc (τ := Cert.MlaKvW.τ) (Cert.MlaKvW.main (F := Bits))) ⟨m, fun _ => 0, g⟩ (fun r => (∀ c : Dev Cert.MlaKvW.nD,
      r.2.mem ((c.tc : Thread Cert.MlaKvW.nD Cert.MlaKvW.τ).loc Cert.MlaKvW.main_arg0) = m ((c.tc : Thread Cert.MlaKvW.nD Cert.MlaKvW.τ).loc Cert.MlaKvW.main_arg0)
      ∧ r.2.mem ((c.tc : Thread Cert.MlaKvW.nD Cert.MlaKvW.τ).loc Cert.MlaKvW.main_arg1) = m ((c.tc : Thread Cert.MlaKvW.nD Cert.MlaKvW.τ).loc Cert.MlaKvW.main_arg1))
      ∧ r.2.sem = fun _ => 0)

def quiescent_MlaKvWIdeal [hMlaKvWIdeal : Cert.MlaKvWIdeal.Facts] : Prop :=
  ∀ (m : (ℓ : Loc Cert.MlaKvWIdeal.nD Cert.MlaKvWIdeal.τ Cert.MlaKvWIdeal.sig) → Buf (Elt Ideal) ℓ) (g : Dev Cert.MlaKvWIdeal.nD → PrngReg), Pre_MlaKvWIdeal m →
    θ_run (Cert.MlaKvWIdeal.defs (F := Ideal)) (onTc (τ := Cert.MlaKvWIdeal.τ) (Cert.MlaKvWIdeal.main (F := Ideal))) ⟨m, fun _ => 0, g⟩ (fun r => (∀ c : Dev Cert.MlaKvWIdeal.nD,
      r.2.mem ((c.tc : Thread Cert.MlaKvWIdeal.nD Cert.MlaKvWIdeal.τ).loc Cert.MlaKvWIdeal.main_arg0) = m ((c.tc : Thread Cert.MlaKvWIdeal.nD Cert.MlaKvWIdeal.τ).loc Cert.MlaKvWIdeal.main_arg0)
      ∧ r.2.mem ((c.tc : Thread Cert.MlaKvWIdeal.nD Cert.MlaKvWIdeal.τ).loc Cert.MlaKvWIdeal.main_arg1) = m ((c.tc : Thread Cert.MlaKvWIdeal.nD Cert.MlaKvWIdeal.τ).loc Cert.MlaKvWIdeal.main_arg1))
      ∧ r.2.sem = fun _ => 0)

def quiescent_MlaKvWRefIdeal [hMlaKvWRefIdeal : Cert.MlaKvWRefIdeal.Facts] : Prop :=
  ∀ (m : (ℓ : Loc Cert.MlaKvWRefIdeal.nD Cert.MlaKvWRefIdeal.τ Cert.MlaKvWRefIdeal.sig) → Buf (Elt Ideal) ℓ) (g : Dev Cert.MlaKvWRefIdeal.nD → PrngReg), Pre_MlaKvWRefIdeal m →
    θ_run (Cert.MlaKvWRefIdeal.defs (F := Ideal)) (onTc (τ := Cert.MlaKvWRefIdeal.τ) (Cert.MlaKvWRefIdeal.main (F := Ideal))) ⟨m, fun _ => 0, g⟩ (fun r => (∀ c : Dev Cert.MlaKvWRefIdeal.nD,
      r.2.mem ((c.tc : Thread Cert.MlaKvWRefIdeal.nD Cert.MlaKvWRefIdeal.τ).loc Cert.MlaKvWRefIdeal.main_arg0) = m ((c.tc : Thread Cert.MlaKvWRefIdeal.nD Cert.MlaKvWRefIdeal.τ).loc Cert.MlaKvWRefIdeal.main_arg0)
      ∧ r.2.mem ((c.tc : Thread Cert.MlaKvWRefIdeal.nD Cert.MlaKvWRefIdeal.τ).loc Cert.MlaKvWRefIdeal.main_arg1) = m ((c.tc : Thread Cert.MlaKvWRefIdeal.nD Cert.MlaKvWRefIdeal.τ).loc Cert.MlaKvWRefIdeal.main_arg1))
      ∧ r.2.sem = fun _ => 0)

def quiescent_MlaNorm [hMlaNorm : Cert.MlaNorm.Facts] : Prop :=
  ∀ (m : (ℓ : Loc Cert.MlaNorm.nD Cert.MlaNorm.τ Cert.MlaNorm.sig) → Buf (Elt Bits) ℓ) (g : Dev Cert.MlaNorm.nD → PrngReg), Pre_MlaNorm m →
    θ_run (Cert.MlaNorm.defs (F := Bits)) (onTc (τ := Cert.MlaNorm.τ) (Cert.MlaNorm.main (F := Bits))) ⟨m, fun _ => 0, g⟩ (fun r => (∀ c : Dev Cert.MlaNorm.nD,
      r.2.mem ((c.tc : Thread Cert.MlaNorm.nD Cert.MlaNorm.τ).loc Cert.MlaNorm.main_arg0) = m ((c.tc : Thread Cert.MlaNorm.nD Cert.MlaNorm.τ).loc Cert.MlaNorm.main_arg0)
      ∧ r.2.mem ((c.tc : Thread Cert.MlaNorm.nD Cert.MlaNorm.τ).loc Cert.MlaNorm.main_arg1) = m ((c.tc : Thread Cert.MlaNorm.nD Cert.MlaNorm.τ).loc Cert.MlaNorm.main_arg1)
      ∧ r.2.mem ((c.tc : Thread Cert.MlaNorm.nD Cert.MlaNorm.τ).loc Cert.MlaNorm.main_arg2) = m ((c.tc : Thread Cert.MlaNorm.nD Cert.MlaNorm.τ).loc Cert.MlaNorm.main_arg2))
      ∧ r.2.sem = fun _ => 0)

def quiescent_MlaNormIdeal [hMlaNormIdeal : Cert.MlaNormIdeal.Facts] : Prop :=
  ∀ (m : (ℓ : Loc Cert.MlaNormIdeal.nD Cert.MlaNormIdeal.τ Cert.MlaNormIdeal.sig) → Buf (Elt Ideal) ℓ) (g : Dev Cert.MlaNormIdeal.nD → PrngReg), Pre_MlaNormIdeal m →
    θ_run (Cert.MlaNormIdeal.defs (F := Ideal)) (onTc (τ := Cert.MlaNormIdeal.τ) (Cert.MlaNormIdeal.main (F := Ideal))) ⟨m, fun _ => 0, g⟩ (fun r => (∀ c : Dev Cert.MlaNormIdeal.nD,
      r.2.mem ((c.tc : Thread Cert.MlaNormIdeal.nD Cert.MlaNormIdeal.τ).loc Cert.MlaNormIdeal.main_arg0) = m ((c.tc : Thread Cert.MlaNormIdeal.nD Cert.MlaNormIdeal.τ).loc Cert.MlaNormIdeal.main_arg0)
      ∧ r.2.mem ((c.tc : Thread Cert.MlaNormIdeal.nD Cert.MlaNormIdeal.τ).loc Cert.MlaNormIdeal.main_arg1) = m ((c.tc : Thread Cert.MlaNormIdeal.nD Cert.MlaNormIdeal.τ).loc Cert.MlaNormIdeal.main_arg1)
      ∧ r.2.mem ((c.tc : Thread Cert.MlaNormIdeal.nD Cert.MlaNormIdeal.τ).loc Cert.MlaNormIdeal.main_arg2) = m ((c.tc : Thread Cert.MlaNormIdeal.nD Cert.MlaNormIdeal.τ).loc Cert.MlaNormIdeal.main_arg2))
      ∧ r.2.sem = fun _ => 0)

def quiescent_MlaNormRefIdeal [hMlaNormRefIdeal : Cert.MlaNormRefIdeal.Facts] : Prop :=
  ∀ (m : (ℓ : Loc Cert.MlaNormRefIdeal.nD Cert.MlaNormRefIdeal.τ Cert.MlaNormRefIdeal.sig) → Buf (Elt Ideal) ℓ) (g : Dev Cert.MlaNormRefIdeal.nD → PrngReg), Pre_MlaNormRefIdeal m →
    θ_run (Cert.MlaNormRefIdeal.defs (F := Ideal)) (onTc (τ := Cert.MlaNormRefIdeal.τ) (Cert.MlaNormRefIdeal.main (F := Ideal))) ⟨m, fun _ => 0, g⟩ (fun r => (∀ c : Dev Cert.MlaNormRefIdeal.nD,
      r.2.mem ((c.tc : Thread Cert.MlaNormRefIdeal.nD Cert.MlaNormRefIdeal.τ).loc Cert.MlaNormRefIdeal.main_arg0) = m ((c.tc : Thread Cert.MlaNormRefIdeal.nD Cert.MlaNormRefIdeal.τ).loc Cert.MlaNormRefIdeal.main_arg0)
      ∧ r.2.mem ((c.tc : Thread Cert.MlaNormRefIdeal.nD Cert.MlaNormRefIdeal.τ).loc Cert.MlaNormRefIdeal.main_arg1) = m ((c.tc : Thread Cert.MlaNormRefIdeal.nD Cert.MlaNormRefIdeal.τ).loc Cert.MlaNormRefIdeal.main_arg1)
      ∧ r.2.mem ((c.tc : Thread Cert.MlaNormRefIdeal.nD Cert.MlaNormRefIdeal.τ).loc Cert.MlaNormRefIdeal.main_arg2) = m ((c.tc : Thread Cert.MlaNormRefIdeal.nD Cert.MlaNormRefIdeal.τ).loc Cert.MlaNormRefIdeal.main_arg2))
      ∧ r.2.sem = fun _ => 0)

def quiescent_SsdPost [hSsdPost : Cert.SsdPost.Facts] : Prop :=
  ∀ (m : (ℓ : Loc Cert.SsdPost.nD Cert.SsdPost.τ Cert.SsdPost.sig) → Buf (Elt Bits) ℓ) (g : Dev Cert.SsdPost.nD → PrngReg), Pre_SsdPost m →
    θ_run (Cert.SsdPost.defs (F := Bits)) (onTc (τ := Cert.SsdPost.τ) (Cert.SsdPost.main (F := Bits))) ⟨m, fun _ => 0, g⟩ (fun r => (∀ c : Dev Cert.SsdPost.nD,
      r.2.mem ((c.tc : Thread Cert.SsdPost.nD Cert.SsdPost.τ).loc Cert.SsdPost.main_arg0) = m ((c.tc : Thread Cert.SsdPost.nD Cert.SsdPost.τ).loc Cert.SsdPost.main_arg0)
      ∧ r.2.mem ((c.tc : Thread Cert.SsdPost.nD Cert.SsdPost.τ).loc Cert.SsdPost.main_arg1) = m ((c.tc : Thread Cert.SsdPost.nD Cert.SsdPost.τ).loc Cert.SsdPost.main_arg1)
      ∧ r.2.mem ((c.tc : Thread Cert.SsdPost.nD Cert.SsdPost.τ).loc Cert.SsdPost.main_arg2) = m ((c.tc : Thread Cert.SsdPost.nD Cert.SsdPost.τ).loc Cert.SsdPost.main_arg2)
      ∧ r.2.mem ((c.tc : Thread Cert.SsdPost.nD Cert.SsdPost.τ).loc Cert.SsdPost.main_arg3) = m ((c.tc : Thread Cert.SsdPost.nD Cert.SsdPost.τ).loc Cert.SsdPost.main_arg3)
      ∧ r.2.mem ((c.tc : Thread Cert.SsdPost.nD Cert.SsdPost.τ).loc Cert.SsdPost.main_arg4) = m ((c.tc : Thread Cert.SsdPost.nD Cert.SsdPost.τ).loc Cert.SsdPost.main_arg4))
      ∧ r.2.sem = fun _ => 0)

def quiescent_SsdPostIdeal [hSsdPostIdeal : Cert.SsdPostIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg), Pre_SsdPostIdeal m →
    θ_run (Cert.SsdPostIdeal.defs (F := Ideal)) (onTc (τ := Cert.SsdPostIdeal.τ) (Cert.SsdPostIdeal.main (F := Ideal))) ⟨m, fun _ => 0, g⟩ (fun r => (∀ c : Dev Cert.SsdPostIdeal.nD,
      r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
      ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
      ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2)
      ∧ r.2.mem ((c.tc : Thread Cert.SsdPostIdeal.nD Cert.SsdPostIdeal.τ).loc Cert.SsdPostIdeal.main_arg3) = m ((c.tc : Thread Cert.SsdPostIdeal.nD Cert.SsdPostIdeal.τ).loc Cert.SsdPostIdeal.main_arg3)
      ∧ r.2.mem ((c.tc : Thread Cert.SsdPostIdeal.nD Cert.SsdPostIdeal.τ).loc Cert.SsdPostIdeal.main_arg4) = m ((c.tc : Thread Cert.SsdPostIdeal.nD Cert.SsdPostIdeal.τ).loc Cert.SsdPostIdeal.main_arg4))
      ∧ r.2.sem = fun _ => 0)

def quiescent_SsdPostRefIdeal [hSsdPostRefIdeal : Cert.SsdPostRefIdeal.Facts] : Prop :=
  ∀ (m : (ℓ : Loc Cert.SsdPostRefIdeal.nD Cert.SsdPostRefIdeal.τ Cert.SsdPostRefIdeal.sig) → Buf (Elt Ideal) ℓ) (g : Dev Cert.SsdPostRefIdeal.nD → PrngReg), Pre_SsdPostRefIdeal m →
    θ_run (Cert.SsdPostRefIdeal.defs (F := Ideal)) (onTc (τ := Cert.SsdPostRefIdeal.τ) (Cert.SsdPostRefIdeal.main (F := Ideal))) ⟨m, fun _ => 0, g⟩ (fun r => (∀ c : Dev Cert.SsdPostRefIdeal.nD,
      r.2.mem ((c.tc : Thread Cert.SsdPostRefIdeal.nD Cert.SsdPostRefIdeal.τ).loc Cert.SsdPostRefIdeal.main_arg0) = m ((c.tc : Thread Cert.SsdPostRefIdeal.nD Cert.SsdPostRefIdeal.τ).loc Cert.SsdPostRefIdeal.main_arg0)
      ∧ r.2.mem ((c.tc : Thread Cert.SsdPostRefIdeal.nD Cert.SsdPostRefIdeal.τ).loc Cert.SsdPostRefIdeal.main_arg1) = m ((c.tc : Thread Cert.SsdPostRefIdeal.nD Cert.SsdPostRefIdeal.τ).loc Cert.SsdPostRefIdeal.main_arg1)
      ∧ r.2.mem ((c.tc : Thread Cert.SsdPostRefIdeal.nD Cert.SsdPostRefIdeal.τ).loc Cert.SsdPostRefIdeal.main_arg2) = m ((c.tc : Thread Cert.SsdPostRefIdeal.nD Cert.SsdPostRefIdeal.τ).loc Cert.SsdPostRefIdeal.main_arg2)
      ∧ r.2.mem ((c.tc : Thread Cert.SsdPostRefIdeal.nD Cert.SsdPostRefIdeal.τ).loc Cert.SsdPostRefIdeal.main_arg3) = m ((c.tc : Thread Cert.SsdPostRefIdeal.nD Cert.SsdPostRefIdeal.τ).loc Cert.SsdPostRefIdeal.main_arg3)
      ∧ r.2.mem ((c.tc : Thread Cert.SsdPostRefIdeal.nD Cert.SsdPostRefIdeal.τ).loc Cert.SsdPostRefIdeal.main_arg4) = m ((c.tc : Thread Cert.SsdPostRefIdeal.nD Cert.SsdPostRefIdeal.τ).loc Cert.SsdPostRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_RopeT [hRopeT : Cert.RopeT.Facts] : Prop :=
  ∀ (m : (ℓ : Loc Cert.RopeT.nD Cert.RopeT.τ Cert.RopeT.sig) → Buf (Elt Bits) ℓ) (g : Dev Cert.RopeT.nD → PrngReg), Pre_RopeT m →
    θ_run (Cert.RopeT.defs (F := Bits)) (onTc (τ := Cert.RopeT.τ) (Cert.RopeT.main (F := Bits))) ⟨m, fun _ => 0, g⟩ (fun r => (∀ c : Dev Cert.RopeT.nD,
      r.2.mem ((c.tc : Thread Cert.RopeT.nD Cert.RopeT.τ).loc Cert.RopeT.main_arg0) = m ((c.tc : Thread Cert.RopeT.nD Cert.RopeT.τ).loc Cert.RopeT.main_arg0)
      ∧ r.2.mem ((c.tc : Thread Cert.RopeT.nD Cert.RopeT.τ).loc Cert.RopeT.main_arg1) = m ((c.tc : Thread Cert.RopeT.nD Cert.RopeT.τ).loc Cert.RopeT.main_arg1)
      ∧ r.2.mem ((c.tc : Thread Cert.RopeT.nD Cert.RopeT.τ).loc Cert.RopeT.main_arg2) = m ((c.tc : Thread Cert.RopeT.nD Cert.RopeT.τ).loc Cert.RopeT.main_arg2)
      ∧ r.2.mem ((c.tc : Thread Cert.RopeT.nD Cert.RopeT.τ).loc Cert.RopeT.main_arg3) = m ((c.tc : Thread Cert.RopeT.nD Cert.RopeT.τ).loc Cert.RopeT.main_arg3))
      ∧ r.2.sem = fun _ => 0)

def quiescent_RopeTIdeal [hRopeTIdeal : Cert.RopeTIdeal.Facts] : Prop :=
  ∀ (m : (ℓ : Loc Cert.RopeTIdeal.nD Cert.RopeTIdeal.τ Cert.RopeTIdeal.sig) → Buf (Elt Ideal) ℓ) (g : Dev Cert.RopeTIdeal.nD → PrngReg), Pre_RopeTIdeal m →
    θ_run (Cert.RopeTIdeal.defs (F := Ideal)) (onTc (τ := Cert.RopeTIdeal.τ) (Cert.RopeTIdeal.main (F := Ideal))) ⟨m, fun _ => 0, g⟩ (fun r => (∀ c : Dev Cert.RopeTIdeal.nD,
      r.2.mem ((c.tc : Thread Cert.RopeTIdeal.nD Cert.RopeTIdeal.τ).loc Cert.RopeTIdeal.main_arg0) = m ((c.tc : Thread Cert.RopeTIdeal.nD Cert.RopeTIdeal.τ).loc Cert.RopeTIdeal.main_arg0)
      ∧ r.2.mem ((c.tc : Thread Cert.RopeTIdeal.nD Cert.RopeTIdeal.τ).loc Cert.RopeTIdeal.main_arg1) = m ((c.tc : Thread Cert.RopeTIdeal.nD Cert.RopeTIdeal.τ).loc Cert.RopeTIdeal.main_arg1)
      ∧ r.2.mem ((c.tc : Thread Cert.RopeTIdeal.nD Cert.RopeTIdeal.τ).loc Cert.RopeTIdeal.main_arg2) = m ((c.tc : Thread Cert.RopeTIdeal.nD Cert.RopeTIdeal.τ).loc Cert.RopeTIdeal.main_arg2)
      ∧ r.2.mem ((c.tc : Thread Cert.RopeTIdeal.nD Cert.RopeTIdeal.τ).loc Cert.RopeTIdeal.main_arg3) = m ((c.tc : Thread Cert.RopeTIdeal.nD Cert.RopeTIdeal.τ).loc Cert.RopeTIdeal.main_arg3))
      ∧ r.2.sem = fun _ => 0)

def quiescent_RopeTRefIdeal [hRopeTRefIdeal : Cert.RopeTRefIdeal.Facts] : Prop :=
  ∀ (m : (ℓ : Loc Cert.RopeTRefIdeal.nD Cert.RopeTRefIdeal.τ Cert.RopeTRefIdeal.sig) → Buf (Elt Ideal) ℓ) (g : Dev Cert.RopeTRefIdeal.nD → PrngReg), Pre_RopeTRefIdeal m →
    θ_run (Cert.RopeTRefIdeal.defs (F := Ideal)) (onTc (τ := Cert.RopeTRefIdeal.τ) (Cert.RopeTRefIdeal.main (F := Ideal))) ⟨m, fun _ => 0, g⟩ (fun r => (∀ c : Dev Cert.RopeTRefIdeal.nD,
      r.2.mem ((c.tc : Thread Cert.RopeTRefIdeal.nD Cert.RopeTRefIdeal.τ).loc Cert.RopeTRefIdeal.main_arg0) = m ((c.tc : Thread Cert.RopeTRefIdeal.nD Cert.RopeTRefIdeal.τ).loc Cert.RopeTRefIdeal.main_arg0)
      ∧ r.2.mem ((c.tc : Thread Cert.RopeTRefIdeal.nD Cert.RopeTRefIdeal.τ).loc Cert.RopeTRefIdeal.main_arg1) = m ((c.tc : Thread Cert.RopeTRefIdeal.nD Cert.RopeTRefIdeal.τ).loc Cert.RopeTRefIdeal.main_arg1)
      ∧ r.2.mem ((c.tc : Thread Cert.RopeTRefIdeal.nD Cert.RopeTRefIdeal.τ).loc Cert.RopeTRefIdeal.main_arg2) = m ((c.tc : Thread Cert.RopeTRefIdeal.nD Cert.RopeTRefIdeal.τ).loc Cert.RopeTRefIdeal.main_arg2)
      ∧ r.2.mem ((c.tc : Thread Cert.RopeTRefIdeal.nD Cert.RopeTRefIdeal.τ).loc Cert.RopeTRefIdeal.main_arg3) = m ((c.tc : Thread Cert.RopeTRefIdeal.nD Cert.RopeTRefIdeal.τ).loc Cert.RopeTRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1))
      ∧ r.2.sem = fun _ => 0)

def quiescent_FfnLnBwd [hFfnLnBwd : Cert.FfnLnBwd.Facts] : Prop :=
  ∀ (m : (ℓ : Loc Cert.FfnLnBwd.nD Cert.FfnLnBwd.τ Cert.FfnLnBwd.sig) → Buf (Elt Bits) ℓ) (g : Dev Cert.FfnLnBwd.nD → PrngReg), Pre_FfnLnBwd m →
    θ_run (Cert.FfnLnBwd.defs (F := Bits)) (onTc (τ := Cert.FfnLnBwd.τ) (Cert.FfnLnBwd.main (F := Bits))) ⟨m, fun _ => 0, g⟩ (fun r => (∀ c : Dev Cert.FfnLnBwd.nD,
      r.2.mem ((c.tc : Thread Cert.FfnLnBwd.nD Cert.FfnLnBwd.τ).loc Cert.FfnLnBwd.main_arg0) = m ((c.tc : Thread Cert.FfnLnBwd.nD Cert.FfnLnBwd.τ).loc Cert.FfnLnBwd.main_arg0)
      ∧ r.2.mem ((c.tc : Thread Cert.FfnLnBwd.nD Cert.FfnLnBwd.τ).loc Cert.FfnLnBwd.main_arg1) = m ((c.tc : Thread Cert.FfnLnBwd.nD Cert.FfnLnBwd.τ).loc Cert.FfnLnBwd.main_arg1)
      ∧ r.2.mem ((c.tc : Thread Cert.FfnLnBwd.nD Cert.FfnLnBwd.τ).loc Cert.FfnLnBwd.main_arg2) = m ((c.tc : Thread Cert.FfnLnBwd.nD Cert.FfnLnBwd.τ).loc Cert.FfnLnBwd.main_arg2)
      ∧ r.2.mem ((c.tc : Thread Cert.FfnLnBwd.nD Cert.FfnLnBwd.τ).loc Cert.FfnLnBwd.main_arg3) = m ((c.tc : Thread Cert.FfnLnBwd.nD Cert.FfnLnBwd.τ).loc Cert.FfnLnBwd.main_arg3)
      ∧ r.2.mem ((c.tc : Thread Cert.FfnLnBwd.nD Cert.FfnLnBwd.τ).loc Cert.FfnLnBwd.main_arg4) = m ((c.tc : Thread Cert.FfnLnBwd.nD Cert.FfnLnBwd.τ).loc Cert.FfnLnBwd.main_arg4))
      ∧ r.2.sem = fun _ => 0)

def quiescent_FfnLnBwdIdeal [hFfnLnBwdIdeal : Cert.FfnLnBwdIdeal.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg), Pre_FfnLnBwdIdeal m →
    θ_run (Cert.FfnLnBwdIdeal.defs (F := Ideal)) (onTc (τ := Cert.FfnLnBwdIdeal.τ) (Cert.FfnLnBwdIdeal.main (F := Ideal))) ⟨m, fun _ => 0, g⟩ (fun r => (∀ c : Dev Cert.FfnLnBwdIdeal.nD,
      r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
      ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
      ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
      ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
      ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4))
      ∧ r.2.sem = fun _ => 0)

def quiescent_FfnLnBwdIdeal_pre_finite_ln [hFfnLnBwdIdeal : Cert.FfnLnBwdIdeal.Facts] [hPre_finite_ln : Cert.Pre_finite_ln.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg), Pre_FfnLnBwdIdeal_finite_ln m →
    θ_run (Cert.FfnLnBwdIdeal.defs (F := Ideal)) (onTc (τ := Cert.FfnLnBwdIdeal.τ) (Cert.FfnLnBwdIdeal.main (F := Ideal))) ⟨m, fun _ => 0, g⟩ (fun r => (∀ c : Dev Cert.FfnLnBwdIdeal.nD,
      r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
      ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
      ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
      ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
      ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4))
      ∧ r.2.sem = fun _ => 0)

def quiescent_FfnLnBwdRefIdeal [hFfnLnBwdRefIdeal : Cert.FfnLnBwdRefIdeal.Facts] : Prop :=
  ∀ (m : (ℓ : Loc Cert.FfnLnBwdRefIdeal.nD Cert.FfnLnBwdRefIdeal.τ Cert.FfnLnBwdRefIdeal.sig) → Buf (Elt Ideal) ℓ) (g : Dev Cert.FfnLnBwdRefIdeal.nD → PrngReg), Pre_FfnLnBwdRefIdeal m →
    θ_run (Cert.FfnLnBwdRefIdeal.defs (F := Ideal)) (onTc (τ := Cert.FfnLnBwdRefIdeal.τ) (Cert.FfnLnBwdRefIdeal.main (F := Ideal))) ⟨m, fun _ => 0, g⟩ (fun r => (∀ c : Dev Cert.FfnLnBwdRefIdeal.nD,
      r.2.mem ((c.tc : Thread Cert.FfnLnBwdRefIdeal.nD Cert.FfnLnBwdRefIdeal.τ).loc Cert.FfnLnBwdRefIdeal.main_arg0) = m ((c.tc : Thread Cert.FfnLnBwdRefIdeal.nD Cert.FfnLnBwdRefIdeal.τ).loc Cert.FfnLnBwdRefIdeal.main_arg0)
      ∧ r.2.mem ((c.tc : Thread Cert.FfnLnBwdRefIdeal.nD Cert.FfnLnBwdRefIdeal.τ).loc Cert.FfnLnBwdRefIdeal.main_arg1) = m ((c.tc : Thread Cert.FfnLnBwdRefIdeal.nD Cert.FfnLnBwdRefIdeal.τ).loc Cert.FfnLnBwdRefIdeal.main_arg1)
      ∧ r.2.mem ((c.tc : Thread Cert.FfnLnBwdRefIdeal.nD Cert.FfnLnBwdRefIdeal.τ).loc Cert.FfnLnBwdRefIdeal.main_arg2) = m ((c.tc : Thread Cert.FfnLnBwdRefIdeal.nD Cert.FfnLnBwdRefIdeal.τ).loc Cert.FfnLnBwdRefIdeal.main_arg2)
      ∧ r.2.mem ((c.tc : Thread Cert.FfnLnBwdRefIdeal.nD Cert.FfnLnBwdRefIdeal.τ).loc Cert.FfnLnBwdRefIdeal.main_arg3) = m ((c.tc : Thread Cert.FfnLnBwdRefIdeal.nD Cert.FfnLnBwdRefIdeal.τ).loc Cert.FfnLnBwdRefIdeal.main_arg3)
      ∧ r.2.mem ((c.tc : Thread Cert.FfnLnBwdRefIdeal.nD Cert.FfnLnBwdRefIdeal.τ).loc Cert.FfnLnBwdRefIdeal.main_arg4) = m ((c.tc : Thread Cert.FfnLnBwdRefIdeal.nD Cert.FfnLnBwdRefIdeal.τ).loc Cert.FfnLnBwdRefIdeal.main_arg4))
      ∧ r.2.sem = fun _ => 0)

def quiescent_FfnLnBwdRefIdeal_pre_finite_ln [hFfnLnBwdRefIdeal : Cert.FfnLnBwdRefIdeal.Facts] [hPre_finite_ln : Cert.Pre_finite_ln.Facts] : Prop :=
  ∀ (m : (ℓ : Loc Cert.FfnLnBwdRefIdeal.nD Cert.FfnLnBwdRefIdeal.τ Cert.FfnLnBwdRefIdeal.sig) → Buf (Elt Ideal) ℓ) (g : Dev Cert.FfnLnBwdRefIdeal.nD → PrngReg), Pre_FfnLnBwdRefIdeal_finite_ln m →
    θ_run (Cert.FfnLnBwdRefIdeal.defs (F := Ideal)) (onTc (τ := Cert.FfnLnBwdRefIdeal.τ) (Cert.FfnLnBwdRefIdeal.main (F := Ideal))) ⟨m, fun _ => 0, g⟩ (fun r => (∀ c : Dev Cert.FfnLnBwdRefIdeal.nD,
      r.2.mem ((c.tc : Thread Cert.FfnLnBwdRefIdeal.nD Cert.FfnLnBwdRefIdeal.τ).loc Cert.FfnLnBwdRefIdeal.main_arg0) = m ((c.tc : Thread Cert.FfnLnBwdRefIdeal.nD Cert.FfnLnBwdRefIdeal.τ).loc Cert.FfnLnBwdRefIdeal.main_arg0)
      ∧ r.2.mem ((c.tc : Thread Cert.FfnLnBwdRefIdeal.nD Cert.FfnLnBwdRefIdeal.τ).loc Cert.FfnLnBwdRefIdeal.main_arg1) = m ((c.tc : Thread Cert.FfnLnBwdRefIdeal.nD Cert.FfnLnBwdRefIdeal.τ).loc Cert.FfnLnBwdRefIdeal.main_arg1)
      ∧ r.2.mem ((c.tc : Thread Cert.FfnLnBwdRefIdeal.nD Cert.FfnLnBwdRefIdeal.τ).loc Cert.FfnLnBwdRefIdeal.main_arg2) = m ((c.tc : Thread Cert.FfnLnBwdRefIdeal.nD Cert.FfnLnBwdRefIdeal.τ).loc Cert.FfnLnBwdRefIdeal.main_arg2)
      ∧ r.2.mem ((c.tc : Thread Cert.FfnLnBwdRefIdeal.nD Cert.FfnLnBwdRefIdeal.τ).loc Cert.FfnLnBwdRefIdeal.main_arg3) = m ((c.tc : Thread Cert.FfnLnBwdRefIdeal.nD Cert.FfnLnBwdRefIdeal.τ).loc Cert.FfnLnBwdRefIdeal.main_arg3)
      ∧ r.2.mem ((c.tc : Thread Cert.FfnLnBwdRefIdeal.nD Cert.FfnLnBwdRefIdeal.τ).loc Cert.FfnLnBwdRefIdeal.main_arg4) = m ((c.tc : Thread Cert.FfnLnBwdRefIdeal.nD Cert.FfnLnBwdRefIdeal.τ).loc Cert.FfnLnBwdRefIdeal.main_arg4))
      ∧ r.2.sem = fun _ => 0)

def quiescent_MixLnBwd [hMixLnBwd : Cert.MixLnBwd.Facts] : Prop :=
  ∀ (m : (ℓ : Loc Cert.MixLnBwd.nD Cert.MixLnBwd.τ Cert.MixLnBwd.sig) → Buf (Elt Bits) ℓ) (g : Dev Cert.MixLnBwd.nD → PrngReg), Pre_MixLnBwd m →
    θ_run (Cert.MixLnBwd.defs (F := Bits)) (onTc (τ := Cert.MixLnBwd.τ) (Cert.MixLnBwd.main (F := Bits))) ⟨m, fun _ => 0, g⟩ (fun r => (∀ c : Dev Cert.MixLnBwd.nD,
      r.2.mem ((c.tc : Thread Cert.MixLnBwd.nD Cert.MixLnBwd.τ).loc Cert.MixLnBwd.main_arg0) = m ((c.tc : Thread Cert.MixLnBwd.nD Cert.MixLnBwd.τ).loc Cert.MixLnBwd.main_arg0)
      ∧ r.2.mem ((c.tc : Thread Cert.MixLnBwd.nD Cert.MixLnBwd.τ).loc Cert.MixLnBwd.main_arg1) = m ((c.tc : Thread Cert.MixLnBwd.nD Cert.MixLnBwd.τ).loc Cert.MixLnBwd.main_arg1)
      ∧ r.2.mem ((c.tc : Thread Cert.MixLnBwd.nD Cert.MixLnBwd.τ).loc Cert.MixLnBwd.main_arg2) = m ((c.tc : Thread Cert.MixLnBwd.nD Cert.MixLnBwd.τ).loc Cert.MixLnBwd.main_arg2)
      ∧ r.2.mem ((c.tc : Thread Cert.MixLnBwd.nD Cert.MixLnBwd.τ).loc Cert.MixLnBwd.main_arg3) = m ((c.tc : Thread Cert.MixLnBwd.nD Cert.MixLnBwd.τ).loc Cert.MixLnBwd.main_arg3)
      ∧ r.2.mem ((c.tc : Thread Cert.MixLnBwd.nD Cert.MixLnBwd.τ).loc Cert.MixLnBwd.main_arg4) = m ((c.tc : Thread Cert.MixLnBwd.nD Cert.MixLnBwd.τ).loc Cert.MixLnBwd.main_arg4))
      ∧ r.2.sem = fun _ => 0)

def quiescent_MixLnBwdIdeal [hMixLnBwdIdeal : Cert.MixLnBwdIdeal.Facts] : Prop :=
  ∀ (m : (ℓ : Loc Cert.MixLnBwdIdeal.nD Cert.MixLnBwdIdeal.τ Cert.MixLnBwdIdeal.sig) → Buf (Elt Ideal) ℓ) (g : Dev Cert.MixLnBwdIdeal.nD → PrngReg), Pre_MixLnBwdIdeal m →
    θ_run (Cert.MixLnBwdIdeal.defs (F := Ideal)) (onTc (τ := Cert.MixLnBwdIdeal.τ) (Cert.MixLnBwdIdeal.main (F := Ideal))) ⟨m, fun _ => 0, g⟩ (fun r => (∀ c : Dev Cert.MixLnBwdIdeal.nD,
      r.2.mem ((c.tc : Thread Cert.MixLnBwdIdeal.nD Cert.MixLnBwdIdeal.τ).loc Cert.MixLnBwdIdeal.main_arg0) = m ((c.tc : Thread Cert.MixLnBwdIdeal.nD Cert.MixLnBwdIdeal.τ).loc Cert.MixLnBwdIdeal.main_arg0)
      ∧ r.2.mem ((c.tc : Thread Cert.MixLnBwdIdeal.nD Cert.MixLnBwdIdeal.τ).loc Cert.MixLnBwdIdeal.main_arg1) = m ((c.tc : Thread Cert.MixLnBwdIdeal.nD Cert.MixLnBwdIdeal.τ).loc Cert.MixLnBwdIdeal.main_arg1)
      ∧ r.2.mem ((c.tc : Thread Cert.MixLnBwdIdeal.nD Cert.MixLnBwdIdeal.τ).loc Cert.MixLnBwdIdeal.main_arg2) = m ((c.tc : Thread Cert.MixLnBwdIdeal.nD Cert.MixLnBwdIdeal.τ).loc Cert.MixLnBwdIdeal.main_arg2)
      ∧ r.2.mem ((c.tc : Thread Cert.MixLnBwdIdeal.nD Cert.MixLnBwdIdeal.τ).loc Cert.MixLnBwdIdeal.main_arg3) = m ((c.tc : Thread Cert.MixLnBwdIdeal.nD Cert.MixLnBwdIdeal.τ).loc Cert.MixLnBwdIdeal.main_arg3)
      ∧ r.2.mem ((c.tc : Thread Cert.MixLnBwdIdeal.nD Cert.MixLnBwdIdeal.τ).loc Cert.MixLnBwdIdeal.main_arg4) = m ((c.tc : Thread Cert.MixLnBwdIdeal.nD Cert.MixLnBwdIdeal.τ).loc Cert.MixLnBwdIdeal.main_arg4))
      ∧ r.2.sem = fun _ => 0)

def quiescent_MixLnBwdIdeal_pre_finite_ln [hMixLnBwdIdeal : Cert.MixLnBwdIdeal.Facts] [hPre_finite_ln : Cert.Pre_finite_ln.Facts] : Prop :=
  ∀ (m : (ℓ : Loc Cert.MixLnBwdIdeal.nD Cert.MixLnBwdIdeal.τ Cert.MixLnBwdIdeal.sig) → Buf (Elt Ideal) ℓ) (g : Dev Cert.MixLnBwdIdeal.nD → PrngReg), Pre_MixLnBwdIdeal_finite_ln m →
    θ_run (Cert.MixLnBwdIdeal.defs (F := Ideal)) (onTc (τ := Cert.MixLnBwdIdeal.τ) (Cert.MixLnBwdIdeal.main (F := Ideal))) ⟨m, fun _ => 0, g⟩ (fun r => (∀ c : Dev Cert.MixLnBwdIdeal.nD,
      r.2.mem ((c.tc : Thread Cert.MixLnBwdIdeal.nD Cert.MixLnBwdIdeal.τ).loc Cert.MixLnBwdIdeal.main_arg0) = m ((c.tc : Thread Cert.MixLnBwdIdeal.nD Cert.MixLnBwdIdeal.τ).loc Cert.MixLnBwdIdeal.main_arg0)
      ∧ r.2.mem ((c.tc : Thread Cert.MixLnBwdIdeal.nD Cert.MixLnBwdIdeal.τ).loc Cert.MixLnBwdIdeal.main_arg1) = m ((c.tc : Thread Cert.MixLnBwdIdeal.nD Cert.MixLnBwdIdeal.τ).loc Cert.MixLnBwdIdeal.main_arg1)
      ∧ r.2.mem ((c.tc : Thread Cert.MixLnBwdIdeal.nD Cert.MixLnBwdIdeal.τ).loc Cert.MixLnBwdIdeal.main_arg2) = m ((c.tc : Thread Cert.MixLnBwdIdeal.nD Cert.MixLnBwdIdeal.τ).loc Cert.MixLnBwdIdeal.main_arg2)
      ∧ r.2.mem ((c.tc : Thread Cert.MixLnBwdIdeal.nD Cert.MixLnBwdIdeal.τ).loc Cert.MixLnBwdIdeal.main_arg3) = m ((c.tc : Thread Cert.MixLnBwdIdeal.nD Cert.MixLnBwdIdeal.τ).loc Cert.MixLnBwdIdeal.main_arg3)
      ∧ r.2.mem ((c.tc : Thread Cert.MixLnBwdIdeal.nD Cert.MixLnBwdIdeal.τ).loc Cert.MixLnBwdIdeal.main_arg4) = m ((c.tc : Thread Cert.MixLnBwdIdeal.nD Cert.MixLnBwdIdeal.τ).loc Cert.MixLnBwdIdeal.main_arg4))
      ∧ r.2.sem = fun _ => 0)

def quiescent_MixLnBwdRefIdeal [hMixLnBwdRefIdeal : Cert.MixLnBwdRefIdeal.Facts] : Prop :=
  ∀ (m : (ℓ : Loc Cert.MixLnBwdRefIdeal.nD Cert.MixLnBwdRefIdeal.τ Cert.MixLnBwdRefIdeal.sig) → Buf (Elt Ideal) ℓ) (g : Dev Cert.MixLnBwdRefIdeal.nD → PrngReg), Pre_MixLnBwdRefIdeal m →
    θ_run (Cert.MixLnBwdRefIdeal.defs (F := Ideal)) (onTc (τ := Cert.MixLnBwdRefIdeal.τ) (Cert.MixLnBwdRefIdeal.main (F := Ideal))) ⟨m, fun _ => 0, g⟩ (fun r => (∀ c : Dev Cert.MixLnBwdRefIdeal.nD,
      r.2.mem ((c.tc : Thread Cert.MixLnBwdRefIdeal.nD Cert.MixLnBwdRefIdeal.τ).loc Cert.MixLnBwdRefIdeal.main_arg0) = m ((c.tc : Thread Cert.MixLnBwdRefIdeal.nD Cert.MixLnBwdRefIdeal.τ).loc Cert.MixLnBwdRefIdeal.main_arg0)
      ∧ r.2.mem ((c.tc : Thread Cert.MixLnBwdRefIdeal.nD Cert.MixLnBwdRefIdeal.τ).loc Cert.MixLnBwdRefIdeal.main_arg1) = m ((c.tc : Thread Cert.MixLnBwdRefIdeal.nD Cert.MixLnBwdRefIdeal.τ).loc Cert.MixLnBwdRefIdeal.main_arg1)
      ∧ r.2.mem ((c.tc : Thread Cert.MixLnBwdRefIdeal.nD Cert.MixLnBwdRefIdeal.τ).loc Cert.MixLnBwdRefIdeal.main_arg2) = m ((c.tc : Thread Cert.MixLnBwdRefIdeal.nD Cert.MixLnBwdRefIdeal.τ).loc Cert.MixLnBwdRefIdeal.main_arg2)
      ∧ r.2.mem ((c.tc : Thread Cert.MixLnBwdRefIdeal.nD Cert.MixLnBwdRefIdeal.τ).loc Cert.MixLnBwdRefIdeal.main_arg3) = m ((c.tc : Thread Cert.MixLnBwdRefIdeal.nD Cert.MixLnBwdRefIdeal.τ).loc Cert.MixLnBwdRefIdeal.main_arg3)
      ∧ r.2.mem ((c.tc : Thread Cert.MixLnBwdRefIdeal.nD Cert.MixLnBwdRefIdeal.τ).loc Cert.MixLnBwdRefIdeal.main_arg4) = m ((c.tc : Thread Cert.MixLnBwdRefIdeal.nD Cert.MixLnBwdRefIdeal.τ).loc Cert.MixLnBwdRefIdeal.main_arg4))
      ∧ r.2.sem = fun _ => 0)

def quiescent_MixLnBwdRefIdeal_pre_finite_ln [hMixLnBwdRefIdeal : Cert.MixLnBwdRefIdeal.Facts] [hPre_finite_ln : Cert.Pre_finite_ln.Facts] : Prop :=
  ∀ (m : (ℓ : Loc Cert.MixLnBwdRefIdeal.nD Cert.MixLnBwdRefIdeal.τ Cert.MixLnBwdRefIdeal.sig) → Buf (Elt Ideal) ℓ) (g : Dev Cert.MixLnBwdRefIdeal.nD → PrngReg), Pre_MixLnBwdRefIdeal_finite_ln m →
    θ_run (Cert.MixLnBwdRefIdeal.defs (F := Ideal)) (onTc (τ := Cert.MixLnBwdRefIdeal.τ) (Cert.MixLnBwdRefIdeal.main (F := Ideal))) ⟨m, fun _ => 0, g⟩ (fun r => (∀ c : Dev Cert.MixLnBwdRefIdeal.nD,
      r.2.mem ((c.tc : Thread Cert.MixLnBwdRefIdeal.nD Cert.MixLnBwdRefIdeal.τ).loc Cert.MixLnBwdRefIdeal.main_arg0) = m ((c.tc : Thread Cert.MixLnBwdRefIdeal.nD Cert.MixLnBwdRefIdeal.τ).loc Cert.MixLnBwdRefIdeal.main_arg0)
      ∧ r.2.mem ((c.tc : Thread Cert.MixLnBwdRefIdeal.nD Cert.MixLnBwdRefIdeal.τ).loc Cert.MixLnBwdRefIdeal.main_arg1) = m ((c.tc : Thread Cert.MixLnBwdRefIdeal.nD Cert.MixLnBwdRefIdeal.τ).loc Cert.MixLnBwdRefIdeal.main_arg1)
      ∧ r.2.mem ((c.tc : Thread Cert.MixLnBwdRefIdeal.nD Cert.MixLnBwdRefIdeal.τ).loc Cert.MixLnBwdRefIdeal.main_arg2) = m ((c.tc : Thread Cert.MixLnBwdRefIdeal.nD Cert.MixLnBwdRefIdeal.τ).loc Cert.MixLnBwdRefIdeal.main_arg2)
      ∧ r.2.mem ((c.tc : Thread Cert.MixLnBwdRefIdeal.nD Cert.MixLnBwdRefIdeal.τ).loc Cert.MixLnBwdRefIdeal.main_arg3) = m ((c.tc : Thread Cert.MixLnBwdRefIdeal.nD Cert.MixLnBwdRefIdeal.τ).loc Cert.MixLnBwdRefIdeal.main_arg3)
      ∧ r.2.mem ((c.tc : Thread Cert.MixLnBwdRefIdeal.nD Cert.MixLnBwdRefIdeal.τ).loc Cert.MixLnBwdRefIdeal.main_arg4) = m ((c.tc : Thread Cert.MixLnBwdRefIdeal.nD Cert.MixLnBwdRefIdeal.τ).loc Cert.MixLnBwdRefIdeal.main_arg4))
      ∧ r.2.sem = fun _ => 0)

def preserves_Kernel_KernelIdeal : Prop :=
  IdealRules.named_const.Statement Cert.KernelIdeal.κ "mask" .f32 0xF149F2CA#32 ⊥

def preserves_Gate_GateIdeal : Prop :=
  True

def algebraic_GateIdeal_GateRefIdeal_pre_finite_ffn [hGateIdeal : Cert.GateIdeal.Facts] [hGateRefIdeal : Cert.GateRefIdeal.Facts] [hPre_finite_ffn : Cert.Pre_finite_ffn.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_ffn m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v7) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)
      ∧ m' ((c.tc : Thread Cert.GateWRefIdeal.nD Cert.GateWRefIdeal.τ).loc Cert.GateWRefIdeal.main_arg2) = m ((c.tc : Thread Cert.GateWIdeal.nD Cert.GateWIdeal.τ).loc Cert.GateWIdeal.main_arg2)) →
    ∃ (v0 : (c : Dev Cert.GateWIdeal.nD) → Buf (Elt Ideal) ((c.tc : Thread Cert.GateWIdeal.nD Cert.GateWIdeal.τ).loc Cert.GateWIdeal.main_v0_0)) (v1 : (c : Dev Cert.GateWIdeal.nD) → Buf (Elt Ideal) ((c.tc : Thread Cert.GateWIdeal.nD Cert.GateWIdeal.τ).loc Cert.GateWIdeal.main_v0_1)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0_0) = v0 c
          ∧ r.2.mem ((c.tc : Thread Cert.GateWIdeal.nD Cert.GateWIdeal.τ).loc Cert.GateWIdeal.main_v0_1) = v1 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
          ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v17) = v0 c
          ∧ r.2.mem ((c.tc : Thread Cert.GateWRefIdeal.nD Cert.GateWRefIdeal.τ).loc Cert.GateWRefIdeal.main_v13) = v1 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1)
          ∧ r.2.mem ((c.tc : Thread Cert.GateWRefIdeal.nD Cert.GateWRefIdeal.τ).loc Cert.GateWRefIdeal.main_arg2) = m' ((c.tc : Thread Cert.GateWRefIdeal.nD Cert.GateWRefIdeal.τ).loc Cert.GateWRefIdeal.main_arg2))

def preserves_GateX_GateXIdeal : Prop :=
  True

def algebraic_GateXIdeal_GateXRefIdeal [hGateXIdeal : Cert.GateXIdeal.Facts] [hGateXRefIdeal : Cert.GateXRefIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXRefIdeal.nD Cert.GateXRefIdeal.τ Cert.GateXRefIdeal.sig) → Buf (Elt Ideal) ℓ) (g' : Dev Cert.GateXRefIdeal.nD → PrngReg), Pre_GateXIdeal m →
    (∀ c : Dev Cert.GateXIdeal.nD,
      m' ((c.tc : Thread Cert.GateXRefIdeal.nD Cert.GateXRefIdeal.τ).loc Cert.GateXRefIdeal.main_arg0) = m ((c.tc : Thread Cert.GateXIdeal.nD Cert.GateXIdeal.τ).loc Cert.GateXIdeal.main_arg0)
      ∧ m' ((c.tc : Thread Cert.GateXRefIdeal.nD Cert.GateXRefIdeal.τ).loc Cert.GateXRefIdeal.main_arg1) = m ((c.tc : Thread Cert.GateXIdeal.nD Cert.GateXIdeal.τ).loc Cert.GateXIdeal.main_arg1)
      ∧ m' ((c.tc : Thread Cert.GateXRefIdeal.nD Cert.GateXRefIdeal.τ).loc Cert.GateXRefIdeal.main_arg2) = m ((c.tc : Thread Cert.GateXIdeal.nD Cert.GateXIdeal.τ).loc Cert.GateXIdeal.main_arg2)
      ∧ m' ((c.tc : Thread Cert.GateXRefIdeal.nD Cert.GateXRefIdeal.τ).loc Cert.GateXRefIdeal.main_arg3) = m ((c.tc : Thread Cert.GateXIdeal.nD Cert.GateXIdeal.τ).loc Cert.GateXIdeal.main_arg3)
      ∧ m' ((c.tc : Thread Cert.GateXRefIdeal.nD Cert.GateXRefIdeal.τ).loc Cert.GateXRefIdeal.main_arg4) = m ((c.tc : Thread Cert.GateXIdeal.nD Cert.GateXIdeal.τ).loc Cert.GateXIdeal.main_arg4)) →
    ∃ (v0 : (c : Dev Cert.GateXIdeal.nD) → Buf (Elt Ideal) ((c.tc : Thread Cert.GateXIdeal.nD Cert.GateXIdeal.τ).loc Cert.GateXIdeal.main_v0)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v0) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1)
          ∧ r.2.mem ((c.tc : Thread Cert.GateXIdeal.nD Cert.GateXIdeal.τ).loc Cert.GateXIdeal.main_arg2) = m ((c.tc : Thread Cert.GateXIdeal.nD Cert.GateXIdeal.τ).loc Cert.GateXIdeal.main_arg2)
          ∧ r.2.mem ((c.tc : Thread Cert.GateXIdeal.nD Cert.GateXIdeal.τ).loc Cert.GateXIdeal.main_arg3) = m ((c.tc : Thread Cert.GateXIdeal.nD Cert.GateXIdeal.τ).loc Cert.GateXIdeal.main_arg3)
          ∧ r.2.mem ((c.tc : Thread Cert.GateXIdeal.nD Cert.GateXIdeal.τ).loc Cert.GateXIdeal.main_arg4) = m ((c.tc : Thread Cert.GateXIdeal.nD Cert.GateXIdeal.τ).loc Cert.GateXIdeal.main_arg4))
      ∧ θ_run (Cert.GateXRefIdeal.defs (F := Ideal)) (onTc (τ := Cert.GateXRefIdeal.τ) (Cert.GateXRefIdeal.main (F := Ideal))) ⟨m', fun _ => 0, g'⟩ (fun r => ∀ c : Dev Cert.GateXRefIdeal.nD,
          r.2.mem ((c.tc : Thread Cert.GateXRefIdeal.nD Cert.GateXRefIdeal.τ).loc Cert.GateXRefIdeal.main_v14) = v0 c
          ∧ r.2.mem ((c.tc : Thread Cert.GateXRefIdeal.nD Cert.GateXRefIdeal.τ).loc Cert.GateXRefIdeal.main_arg0) = m' ((c.tc : Thread Cert.GateXRefIdeal.nD Cert.GateXRefIdeal.τ).loc Cert.GateXRefIdeal.main_arg0)
          ∧ r.2.mem ((c.tc : Thread Cert.GateXRefIdeal.nD Cert.GateXRefIdeal.τ).loc Cert.GateXRefIdeal.main_arg1) = m' ((c.tc : Thread Cert.GateXRefIdeal.nD Cert.GateXRefIdeal.τ).loc Cert.GateXRefIdeal.main_arg1)
          ∧ r.2.mem ((c.tc : Thread Cert.GateXRefIdeal.nD Cert.GateXRefIdeal.τ).loc Cert.GateXRefIdeal.main_arg2) = m' ((c.tc : Thread Cert.GateXRefIdeal.nD Cert.GateXRefIdeal.τ).loc Cert.GateXRefIdeal.main_arg2)
          ∧ r.2.mem ((c.tc : Thread Cert.GateXRefIdeal.nD Cert.GateXRefIdeal.τ).loc Cert.GateXRefIdeal.main_arg3) = m' ((c.tc : Thread Cert.GateXRefIdeal.nD Cert.GateXRefIdeal.τ).loc Cert.GateXRefIdeal.main_arg3)
          ∧ r.2.mem ((c.tc : Thread Cert.GateXRefIdeal.nD Cert.GateXRefIdeal.τ).loc Cert.GateXRefIdeal.main_arg4) = m' ((c.tc : Thread Cert.GateXRefIdeal.nD Cert.GateXRefIdeal.τ).loc Cert.GateXRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_v11) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_DownLn_DownLnIdeal : Prop :=
  True

def algebraic_DownLnIdeal_DownLnRefIdeal [hDownLnIdeal : Cert.DownLnIdeal.Facts] [hDownLnRefIdeal : Cert.DownLnRefIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.DownLnRefIdeal.nD Cert.DownLnRefIdeal.τ Cert.DownLnRefIdeal.sig) → Buf (Elt Ideal) ℓ) (g' : Dev Cert.DownLnRefIdeal.nD → PrngReg), Pre_DownLnIdeal m →
    (∀ c : Dev Cert.DownLnIdeal.nD,
      m' ((c.tc : Thread Cert.DownLnRefIdeal.nD Cert.DownLnRefIdeal.τ).loc Cert.DownLnRefIdeal.main_arg0) = m ((c.tc : Thread Cert.DownLnIdeal.nD Cert.DownLnIdeal.τ).loc Cert.DownLnIdeal.main_arg0)
      ∧ m' ((c.tc : Thread Cert.DownLnRefIdeal.nD Cert.DownLnRefIdeal.τ).loc Cert.DownLnRefIdeal.main_arg1) = m ((c.tc : Thread Cert.DownLnIdeal.nD Cert.DownLnIdeal.τ).loc Cert.DownLnIdeal.main_arg1)
      ∧ m' ((c.tc : Thread Cert.DownLnRefIdeal.nD Cert.DownLnRefIdeal.τ).loc Cert.DownLnRefIdeal.main_arg2) = m ((c.tc : Thread Cert.DownLnIdeal.nD Cert.DownLnIdeal.τ).loc Cert.DownLnIdeal.main_arg2)
      ∧ m' ((c.tc : Thread Cert.DownLnRefIdeal.nD Cert.DownLnRefIdeal.τ).loc Cert.DownLnRefIdeal.main_arg3) = m ((c.tc : Thread Cert.DownLnIdeal.nD Cert.DownLnIdeal.τ).loc Cert.DownLnIdeal.main_arg3)
      ∧ m' ((c.tc : Thread Cert.DownLnRefIdeal.nD Cert.DownLnRefIdeal.τ).loc Cert.DownLnRefIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v0_0)) (v1 : (c : Dev Cert.DownLnIdeal.nD) → Buf (Elt Ideal) ((c.tc : Thread Cert.DownLnIdeal.nD Cert.DownLnIdeal.τ).loc Cert.DownLnIdeal.main_v0_1)) (v2 : (c : Dev Cert.DownLnIdeal.nD) → Buf (Elt Ideal) ((c.tc : Thread Cert.DownLnIdeal.nD Cert.DownLnIdeal.τ).loc Cert.DownLnIdeal.main_v0_2)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v0_0) = v0 c
          ∧ r.2.mem ((c.tc : Thread Cert.DownLnIdeal.nD Cert.DownLnIdeal.τ).loc Cert.DownLnIdeal.main_v0_1) = v1 c
          ∧ r.2.mem ((c.tc : Thread Cert.DownLnIdeal.nD Cert.DownLnIdeal.τ).loc Cert.DownLnIdeal.main_v0_2) = v2 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.DownLnRefIdeal.defs (F := Ideal)) (onTc (τ := Cert.DownLnRefIdeal.τ) (Cert.DownLnRefIdeal.main (F := Ideal))) ⟨m', fun _ => 0, g'⟩ (fun r => ∀ c : Dev Cert.DownLnRefIdeal.nD,
          r.2.mem ((c.tc : Thread Cert.DownLnRefIdeal.nD Cert.DownLnRefIdeal.τ).loc Cert.DownLnRefIdeal.main_v3) = v0 c
          ∧ r.2.mem ((c.tc : Thread Cert.DownLnRefIdeal.nD Cert.DownLnRefIdeal.τ).loc Cert.DownLnRefIdeal.main_v30) = v1 c
          ∧ r.2.mem ((c.tc : Thread Cert.DownLnRefIdeal.nD Cert.DownLnRefIdeal.τ).loc Cert.DownLnRefIdeal.main_v31) = v2 c
          ∧ r.2.mem ((c.tc : Thread Cert.DownLnRefIdeal.nD Cert.DownLnRefIdeal.τ).loc Cert.DownLnRefIdeal.main_arg0) = m' ((c.tc : Thread Cert.DownLnRefIdeal.nD Cert.DownLnRefIdeal.τ).loc Cert.DownLnRefIdeal.main_arg0)
          ∧ r.2.mem ((c.tc : Thread Cert.DownLnRefIdeal.nD Cert.DownLnRefIdeal.τ).loc Cert.DownLnRefIdeal.main_arg1) = m' ((c.tc : Thread Cert.DownLnRefIdeal.nD Cert.DownLnRefIdeal.τ).loc Cert.DownLnRefIdeal.main_arg1)
          ∧ r.2.mem ((c.tc : Thread Cert.DownLnRefIdeal.nD Cert.DownLnRefIdeal.τ).loc Cert.DownLnRefIdeal.main_arg2) = m' ((c.tc : Thread Cert.DownLnRefIdeal.nD Cert.DownLnRefIdeal.τ).loc Cert.DownLnRefIdeal.main_arg2)
          ∧ r.2.mem ((c.tc : Thread Cert.DownLnRefIdeal.nD Cert.DownLnRefIdeal.τ).loc Cert.DownLnRefIdeal.main_arg3) = m' ((c.tc : Thread Cert.DownLnRefIdeal.nD Cert.DownLnRefIdeal.τ).loc Cert.DownLnRefIdeal.main_arg3)
          ∧ r.2.mem ((c.tc : Thread Cert.DownLnRefIdeal.nD Cert.DownLnRefIdeal.τ).loc Cert.DownLnRefIdeal.main_arg4) = m' ((c.tc : Thread Cert.DownLnRefIdeal.nD Cert.DownLnRefIdeal.τ).loc Cert.DownLnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v5) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v5) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v7) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v0_0)) (v1 : (c : Dev Cert.OutLnIdeal.nD) → Buf (Elt Ideal) ((c.tc : Thread Cert.OutLnIdeal.nD Cert.OutLnIdeal.τ).loc Cert.OutLnIdeal.main_v0_1)) (v2 : (c : Dev Cert.OutLnIdeal.nD) → Buf (Elt Ideal) ((c.tc : Thread Cert.OutLnIdeal.nD Cert.OutLnIdeal.τ).loc Cert.OutLnIdeal.main_v0_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0_0) = v0 c
          ∧ r.2.mem ((c.tc : Thread Cert.OutLnIdeal.nD Cert.OutLnIdeal.τ).loc Cert.OutLnIdeal.main_v0_1) = v1 c
          ∧ r.2.mem ((c.tc : Thread Cert.OutLnIdeal.nD Cert.OutLnIdeal.τ).loc Cert.OutLnIdeal.main_v0_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v3) = v0 c
          ∧ r.2.mem ((c.tc : Thread Cert.OutLnRefIdeal.nD Cert.OutLnRefIdeal.τ).loc Cert.OutLnRefIdeal.main_v28) = v1 c
          ∧ r.2.mem ((c.tc : Thread Cert.OutLnRefIdeal.nD Cert.OutLnRefIdeal.τ).loc Cert.OutLnRefIdeal.main_v29) = v2 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_MlaQ_MlaQIdeal : Prop :=
  True

def algebraic_MlaQIdeal_MlaQRefIdeal [hMlaQIdeal : Cert.MlaQIdeal.Facts] [hMlaQRefIdeal : Cert.MlaQRefIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQRefIdeal.nD Cert.MlaQRefIdeal.τ Cert.MlaQRefIdeal.sig) → Buf (Elt Ideal) ℓ) (g' : Dev Cert.MlaQRefIdeal.nD → PrngReg), Pre_MlaQIdeal m →
    (∀ c : Dev Cert.MlaQIdeal.nD,
      m' ((c.tc : Thread Cert.MlaQRefIdeal.nD Cert.MlaQRefIdeal.τ).loc Cert.MlaQRefIdeal.main_arg0) = m ((c.tc : Thread Cert.MlaQIdeal.nD Cert.MlaQIdeal.τ).loc Cert.MlaQIdeal.main_arg0)
      ∧ m' ((c.tc : Thread Cert.MlaQRefIdeal.nD Cert.MlaQRefIdeal.τ).loc Cert.MlaQRefIdeal.main_arg1) = m ((c.tc : Thread Cert.MlaQIdeal.nD Cert.MlaQIdeal.τ).loc Cert.MlaQIdeal.main_arg1)) →
    ∃ (v0 : (c : Dev Cert.MlaQIdeal.nD) → Buf (Elt Ideal) ((c.tc : Thread Cert.MlaQIdeal.nD Cert.MlaQIdeal.τ).loc Cert.MlaQIdeal.main_v0)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v0) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1))
      ∧ θ_run (Cert.MlaQRefIdeal.defs (F := Ideal)) (onTc (τ := Cert.MlaQRefIdeal.τ) (Cert.MlaQRefIdeal.main (F := Ideal))) ⟨m', fun _ => 0, g'⟩ (fun r => ∀ c : Dev Cert.MlaQRefIdeal.nD,
          r.2.mem ((c.tc : Thread Cert.MlaQRefIdeal.nD Cert.MlaQRefIdeal.τ).loc Cert.MlaQRefIdeal.main_v2) = v0 c
          ∧ r.2.mem ((c.tc : Thread Cert.MlaQRefIdeal.nD Cert.MlaQRefIdeal.τ).loc Cert.MlaQRefIdeal.main_arg0) = m' ((c.tc : Thread Cert.MlaQRefIdeal.nD Cert.MlaQRefIdeal.τ).loc Cert.MlaQRefIdeal.main_arg0)
          ∧ r.2.mem ((c.tc : Thread Cert.MlaQRefIdeal.nD Cert.MlaQRefIdeal.τ).loc Cert.MlaQRefIdeal.main_arg1) = m' ((c.tc : Thread Cert.MlaQRefIdeal.nD Cert.MlaQRefIdeal.τ).loc Cert.MlaQRefIdeal.main_arg1))

def preserves_MlaQX_MlaQXIdeal : Prop :=
  True

def algebraic_MlaQXIdeal_MlaQXRefIdeal [hMlaQXIdeal : Cert.MlaQXIdeal.Facts] [hMlaQXRefIdeal : Cert.MlaQXRefIdeal.Facts] : Prop :=
  ∀ (m : (ℓ : Loc Cert.MlaQXIdeal.nD Cert.MlaQXIdeal.τ Cert.MlaQXIdeal.sig) → Buf (Elt Ideal) ℓ) (g : Dev Cert.MlaQXIdeal.nD → PrngReg)
    (m' : (ℓ : Loc Cert.MlaQXRefIdeal.nD Cert.MlaQXRefIdeal.τ Cert.MlaQXRefIdeal.sig) → Buf (Elt Ideal) ℓ) (g' : Dev Cert.MlaQXRefIdeal.nD → PrngReg), Pre_MlaQXIdeal m →
    (∀ c : Dev Cert.MlaQXIdeal.nD,
      m' ((c.tc : Thread Cert.MlaQXRefIdeal.nD Cert.MlaQXRefIdeal.τ).loc Cert.MlaQXRefIdeal.main_arg0) = m ((c.tc : Thread Cert.MlaQXIdeal.nD Cert.MlaQXIdeal.τ).loc Cert.MlaQXIdeal.main_arg0)
      ∧ m' ((c.tc : Thread Cert.MlaQXRefIdeal.nD Cert.MlaQXRefIdeal.τ).loc Cert.MlaQXRefIdeal.main_arg1) = m ((c.tc : Thread Cert.MlaQXIdeal.nD Cert.MlaQXIdeal.τ).loc Cert.MlaQXIdeal.main_arg1)) →
    ∃ (v0 : (c : Dev Cert.MlaQXIdeal.nD) → Buf (Elt Ideal) ((c.tc : Thread Cert.MlaQXIdeal.nD Cert.MlaQXIdeal.τ).loc Cert.MlaQXIdeal.main_v0)),
      θ_run (Cert.MlaQXIdeal.defs (F := Ideal)) (onTc (τ := Cert.MlaQXIdeal.τ) (Cert.MlaQXIdeal.main (F := Ideal))) ⟨m, fun _ => 0, g⟩ (fun r => ∀ c : Dev Cert.MlaQXIdeal.nD,
          r.2.mem ((c.tc : Thread Cert.MlaQXIdeal.nD Cert.MlaQXIdeal.τ).loc Cert.MlaQXIdeal.main_v0) = v0 c
          ∧ r.2.mem ((c.tc : Thread Cert.MlaQXIdeal.nD Cert.MlaQXIdeal.τ).loc Cert.MlaQXIdeal.main_arg0) = m ((c.tc : Thread Cert.MlaQXIdeal.nD Cert.MlaQXIdeal.τ).loc Cert.MlaQXIdeal.main_arg0)
          ∧ r.2.mem ((c.tc : Thread Cert.MlaQXIdeal.nD Cert.MlaQXIdeal.τ).loc Cert.MlaQXIdeal.main_arg1) = m ((c.tc : Thread Cert.MlaQXIdeal.nD Cert.MlaQXIdeal.τ).loc Cert.MlaQXIdeal.main_arg1))
      ∧ θ_run (Cert.MlaQXRefIdeal.defs (F := Ideal)) (onTc (τ := Cert.MlaQXRefIdeal.τ) (Cert.MlaQXRefIdeal.main (F := Ideal))) ⟨m', fun _ => 0, g'⟩ (fun r => ∀ c : Dev Cert.MlaQXRefIdeal.nD,
          r.2.mem ((c.tc : Thread Cert.MlaQXRefIdeal.nD Cert.MlaQXRefIdeal.τ).loc Cert.MlaQXRefIdeal.main_v4) = v0 c
          ∧ r.2.mem ((c.tc : Thread Cert.MlaQXRefIdeal.nD Cert.MlaQXRefIdeal.τ).loc Cert.MlaQXRefIdeal.main_arg0) = m' ((c.tc : Thread Cert.MlaQXRefIdeal.nD Cert.MlaQXRefIdeal.τ).loc Cert.MlaQXRefIdeal.main_arg0)
          ∧ r.2.mem ((c.tc : Thread Cert.MlaQXRefIdeal.nD Cert.MlaQXRefIdeal.τ).loc Cert.MlaQXRefIdeal.main_arg1) = m' ((c.tc : Thread Cert.MlaQXRefIdeal.nD Cert.MlaQXRefIdeal.τ).loc Cert.MlaQXRefIdeal.main_arg1))

def preserves_MlaQW_MlaQWIdeal : Prop :=
  True

def algebraic_MlaQWIdeal_MlaQWRefIdeal [hMlaQWIdeal : Cert.MlaQWIdeal.Facts] [hMlaQWRefIdeal : Cert.MlaQWRefIdeal.Facts] : Prop :=
  ∀ (m : (ℓ : Loc Cert.MlaQWIdeal.nD Cert.MlaQWIdeal.τ Cert.MlaQWIdeal.sig) → Buf (Elt Ideal) ℓ) (g : Dev Cert.MlaQWIdeal.nD → PrngReg)
    (m' : (ℓ : Loc Cert.MlaQWRefIdeal.nD Cert.MlaQWRefIdeal.τ Cert.MlaQWRefIdeal.sig) → Buf (Elt Ideal) ℓ) (g' : Dev Cert.MlaQWRefIdeal.nD → PrngReg), Pre_MlaQWIdeal m →
    (∀ c : Dev Cert.MlaQWIdeal.nD,
      m' ((c.tc : Thread Cert.MlaQWRefIdeal.nD Cert.MlaQWRefIdeal.τ).loc Cert.MlaQWRefIdeal.main_arg0) = m ((c.tc : Thread Cert.MlaQWIdeal.nD Cert.MlaQWIdeal.τ).loc Cert.MlaQWIdeal.main_arg0)
      ∧ m' ((c.tc : Thread Cert.MlaQWRefIdeal.nD Cert.MlaQWRefIdeal.τ).loc Cert.MlaQWRefIdeal.main_arg1) = m ((c.tc : Thread Cert.MlaQWIdeal.nD Cert.MlaQWIdeal.τ).loc Cert.MlaQWIdeal.main_arg1)) →
    ∃ (v0 : (c : Dev Cert.MlaQWIdeal.nD) → Buf (Elt Ideal) ((c.tc : Thread Cert.MlaQWIdeal.nD Cert.MlaQWIdeal.τ).loc Cert.MlaQWIdeal.main_v0)),
      θ_run (Cert.MlaQWIdeal.defs (F := Ideal)) (onTc (τ := Cert.MlaQWIdeal.τ) (Cert.MlaQWIdeal.main (F := Ideal))) ⟨m, fun _ => 0, g⟩ (fun r => ∀ c : Dev Cert.MlaQWIdeal.nD,
          r.2.mem ((c.tc : Thread Cert.MlaQWIdeal.nD Cert.MlaQWIdeal.τ).loc Cert.MlaQWIdeal.main_v0) = v0 c
          ∧ r.2.mem ((c.tc : Thread Cert.MlaQWIdeal.nD Cert.MlaQWIdeal.τ).loc Cert.MlaQWIdeal.main_arg0) = m ((c.tc : Thread Cert.MlaQWIdeal.nD Cert.MlaQWIdeal.τ).loc Cert.MlaQWIdeal.main_arg0)
          ∧ r.2.mem ((c.tc : Thread Cert.MlaQWIdeal.nD Cert.MlaQWIdeal.τ).loc Cert.MlaQWIdeal.main_arg1) = m ((c.tc : Thread Cert.MlaQWIdeal.nD Cert.MlaQWIdeal.τ).loc Cert.MlaQWIdeal.main_arg1))
      ∧ θ_run (Cert.MlaQWRefIdeal.defs (F := Ideal)) (onTc (τ := Cert.MlaQWRefIdeal.τ) (Cert.MlaQWRefIdeal.main (F := Ideal))) ⟨m', fun _ => 0, g'⟩ (fun r => ∀ c : Dev Cert.MlaQWRefIdeal.nD,
          r.2.mem ((c.tc : Thread Cert.MlaQWRefIdeal.nD Cert.MlaQWRefIdeal.τ).loc Cert.MlaQWRefIdeal.main_v5) = v0 c
          ∧ r.2.mem ((c.tc : Thread Cert.MlaQWRefIdeal.nD Cert.MlaQWRefIdeal.τ).loc Cert.MlaQWRefIdeal.main_arg0) = m' ((c.tc : Thread Cert.MlaQWRefIdeal.nD Cert.MlaQWRefIdeal.τ).loc Cert.MlaQWRefIdeal.main_arg0)
          ∧ r.2.mem ((c.tc : Thread Cert.MlaQWRefIdeal.nD Cert.MlaQWRefIdeal.τ).loc Cert.MlaQWRefIdeal.main_arg1) = m' ((c.tc : Thread Cert.MlaQWRefIdeal.nD Cert.MlaQWRefIdeal.τ).loc Cert.MlaQWRefIdeal.main_arg1))

def preserves_MlaKv_MlaKvIdeal : Prop :=
  True

def algebraic_MlaKvIdeal_MlaKvRefIdeal [hMlaKvIdeal : Cert.MlaKvIdeal.Facts] [hMlaKvRefIdeal : Cert.MlaKvRefIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg)
    (m' : (ℓ : Loc Cert.MlaKvRefIdeal.nD Cert.MlaKvRefIdeal.τ Cert.MlaKvRefIdeal.sig) → Buf (Elt Ideal) ℓ) (g' : Dev Cert.MlaKvRefIdeal.nD → PrngReg), Pre_MlaKvIdeal m →
    (∀ c : Dev Cert.MlaKvIdeal.nD,
      m' ((c.tc : Thread Cert.MlaKvRefIdeal.nD Cert.MlaKvRefIdeal.τ).loc Cert.MlaKvRefIdeal.main_arg0) = m ((c.tc : Thread Cert.MlaKvIdeal.nD Cert.MlaKvIdeal.τ).loc Cert.MlaKvIdeal.main_arg0)
      ∧ m' ((c.tc : Thread Cert.MlaKvRefIdeal.nD Cert.MlaKvRefIdeal.τ).loc Cert.MlaKvRefIdeal.main_arg1) = m ((c.tc : Thread Cert.MlaKvIdeal.nD Cert.MlaKvIdeal.τ).loc Cert.MlaKvIdeal.main_arg1)) →
    ∃ (v0 : (c : Dev Cert.MlaKvIdeal.nD) → Buf (Elt Ideal) ((c.tc : Thread Cert.MlaKvIdeal.nD Cert.MlaKvIdeal.τ).loc Cert.MlaKvIdeal.main_v0)),
      θ_run (Cert.MlaKvIdeal.defs (F := Ideal)) (onTc (τ := Cert.MlaKvIdeal.τ) (Cert.MlaKvIdeal.main (F := Ideal))) ⟨m, fun _ => 0, g⟩ (fun r => ∀ c : Dev Cert.MlaKvIdeal.nD,
          r.2.mem ((c.tc : Thread Cert.MlaKvIdeal.nD Cert.MlaKvIdeal.τ).loc Cert.MlaKvIdeal.main_v0) = v0 c
          ∧ r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
          ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1))
      ∧ θ_run (Cert.MlaKvRefIdeal.defs (F := Ideal)) (onTc (τ := Cert.MlaKvRefIdeal.τ) (Cert.MlaKvRefIdeal.main (F := Ideal))) ⟨m', fun _ => 0, g'⟩ (fun r => ∀ c : Dev Cert.MlaKvRefIdeal.nD,
          r.2.mem ((c.tc : Thread Cert.MlaKvRefIdeal.nD Cert.MlaKvRefIdeal.τ).loc Cert.MlaKvRefIdeal.main_v2) = v0 c
          ∧ r.2.mem ((c.tc : Thread Cert.MlaKvRefIdeal.nD Cert.MlaKvRefIdeal.τ).loc Cert.MlaKvRefIdeal.main_arg0) = m' ((c.tc : Thread Cert.MlaKvRefIdeal.nD Cert.MlaKvRefIdeal.τ).loc Cert.MlaKvRefIdeal.main_arg0)
          ∧ r.2.mem ((c.tc : Thread Cert.MlaKvRefIdeal.nD Cert.MlaKvRefIdeal.τ).loc Cert.MlaKvRefIdeal.main_arg1) = m' ((c.tc : Thread Cert.MlaKvRefIdeal.nD Cert.MlaKvRefIdeal.τ).loc Cert.MlaKvRefIdeal.main_arg1))

def preserves_MlaKvX_MlaKvXIdeal : Prop :=
  True

def algebraic_MlaKvXIdeal_MlaKvXRefIdeal [hMlaKvXIdeal : Cert.MlaKvXIdeal.Facts] [hMlaKvXRefIdeal : Cert.MlaKvXRefIdeal.Facts] : Prop :=
  ∀ (m : (ℓ : Loc Cert.MlaKvXIdeal.nD Cert.MlaKvXIdeal.τ Cert.MlaKvXIdeal.sig) → Buf (Elt Ideal) ℓ) (g : Dev Cert.MlaKvXIdeal.nD → PrngReg)
    (m' : (ℓ : Loc Cert.MlaKvXRefIdeal.nD Cert.MlaKvXRefIdeal.τ Cert.MlaKvXRefIdeal.sig) → Buf (Elt Ideal) ℓ) (g' : Dev Cert.MlaKvXRefIdeal.nD → PrngReg), Pre_MlaKvXIdeal m →
    (∀ c : Dev Cert.MlaKvXIdeal.nD,
      m' ((c.tc : Thread Cert.MlaKvXRefIdeal.nD Cert.MlaKvXRefIdeal.τ).loc Cert.MlaKvXRefIdeal.main_arg0) = m ((c.tc : Thread Cert.MlaKvXIdeal.nD Cert.MlaKvXIdeal.τ).loc Cert.MlaKvXIdeal.main_arg0)
      ∧ m' ((c.tc : Thread Cert.MlaKvXRefIdeal.nD Cert.MlaKvXRefIdeal.τ).loc Cert.MlaKvXRefIdeal.main_arg1) = m ((c.tc : Thread Cert.MlaKvXIdeal.nD Cert.MlaKvXIdeal.τ).loc Cert.MlaKvXIdeal.main_arg1)) →
    ∃ (v0 : (c : Dev Cert.MlaKvXIdeal.nD) → Buf (Elt Ideal) ((c.tc : Thread Cert.MlaKvXIdeal.nD Cert.MlaKvXIdeal.τ).loc Cert.MlaKvXIdeal.main_v0)),
      θ_run (Cert.MlaKvXIdeal.defs (F := Ideal)) (onTc (τ := Cert.MlaKvXIdeal.τ) (Cert.MlaKvXIdeal.main (F := Ideal))) ⟨m, fun _ => 0, g⟩ (fun r => ∀ c : Dev Cert.MlaKvXIdeal.nD,
          r.2.mem ((c.tc : Thread Cert.MlaKvXIdeal.nD Cert.MlaKvXIdeal.τ).loc Cert.MlaKvXIdeal.main_v0) = v0 c
          ∧ r.2.mem ((c.tc : Thread Cert.MlaKvXIdeal.nD Cert.MlaKvXIdeal.τ).loc Cert.MlaKvXIdeal.main_arg0) = m ((c.tc : Thread Cert.MlaKvXIdeal.nD Cert.MlaKvXIdeal.τ).loc Cert.MlaKvXIdeal.main_arg0)
          ∧ r.2.mem ((c.tc : Thread Cert.MlaKvXIdeal.nD Cert.MlaKvXIdeal.τ).loc Cert.MlaKvXIdeal.main_arg1) = m ((c.tc : Thread Cert.MlaKvXIdeal.nD Cert.MlaKvXIdeal.τ).loc Cert.MlaKvXIdeal.main_arg1))
      ∧ θ_run (Cert.MlaKvXRefIdeal.defs (F := Ideal)) (onTc (τ := Cert.MlaKvXRefIdeal.τ) (Cert.MlaKvXRefIdeal.main (F := Ideal))) ⟨m', fun _ => 0, g'⟩ (fun r => ∀ c : Dev Cert.MlaKvXRefIdeal.nD,
          r.2.mem ((c.tc : Thread Cert.MlaKvXRefIdeal.nD Cert.MlaKvXRefIdeal.τ).loc Cert.MlaKvXRefIdeal.main_v4) = v0 c
          ∧ r.2.mem ((c.tc : Thread Cert.MlaKvXRefIdeal.nD Cert.MlaKvXRefIdeal.τ).loc Cert.MlaKvXRefIdeal.main_arg0) = m' ((c.tc : Thread Cert.MlaKvXRefIdeal.nD Cert.MlaKvXRefIdeal.τ).loc Cert.MlaKvXRefIdeal.main_arg0)
          ∧ r.2.mem ((c.tc : Thread Cert.MlaKvXRefIdeal.nD Cert.MlaKvXRefIdeal.τ).loc Cert.MlaKvXRefIdeal.main_arg1) = m' ((c.tc : Thread Cert.MlaKvXRefIdeal.nD Cert.MlaKvXRefIdeal.τ).loc Cert.MlaKvXRefIdeal.main_arg1))

def preserves_MlaKvW_MlaKvWIdeal : Prop :=
  True

def algebraic_MlaKvWIdeal_MlaKvWRefIdeal [hMlaKvWIdeal : Cert.MlaKvWIdeal.Facts] [hMlaKvWRefIdeal : Cert.MlaKvWRefIdeal.Facts] : Prop :=
  ∀ (m : (ℓ : Loc Cert.MlaKvWIdeal.nD Cert.MlaKvWIdeal.τ Cert.MlaKvWIdeal.sig) → Buf (Elt Ideal) ℓ) (g : Dev Cert.MlaKvWIdeal.nD → PrngReg)
    (m' : (ℓ : Loc Cert.MlaKvWRefIdeal.nD Cert.MlaKvWRefIdeal.τ Cert.MlaKvWRefIdeal.sig) → Buf (Elt Ideal) ℓ) (g' : Dev Cert.MlaKvWRefIdeal.nD → PrngReg), Pre_MlaKvWIdeal m →
    (∀ c : Dev Cert.MlaKvWIdeal.nD,
      m' ((c.tc : Thread Cert.MlaKvWRefIdeal.nD Cert.MlaKvWRefIdeal.τ).loc Cert.MlaKvWRefIdeal.main_arg0) = m ((c.tc : Thread Cert.MlaKvWIdeal.nD Cert.MlaKvWIdeal.τ).loc Cert.MlaKvWIdeal.main_arg0)
      ∧ m' ((c.tc : Thread Cert.MlaKvWRefIdeal.nD Cert.MlaKvWRefIdeal.τ).loc Cert.MlaKvWRefIdeal.main_arg1) = m ((c.tc : Thread Cert.MlaKvWIdeal.nD Cert.MlaKvWIdeal.τ).loc Cert.MlaKvWIdeal.main_arg1)) →
    ∃ (v0 : (c : Dev Cert.MlaKvWIdeal.nD) → Buf (Elt Ideal) ((c.tc : Thread Cert.MlaKvWIdeal.nD Cert.MlaKvWIdeal.τ).loc Cert.MlaKvWIdeal.main_v0)),
      θ_run (Cert.MlaKvWIdeal.defs (F := Ideal)) (onTc (τ := Cert.MlaKvWIdeal.τ) (Cert.MlaKvWIdeal.main (F := Ideal))) ⟨m, fun _ => 0, g⟩ (fun r => ∀ c : Dev Cert.MlaKvWIdeal.nD,
          r.2.mem ((c.tc : Thread Cert.MlaKvWIdeal.nD Cert.MlaKvWIdeal.τ).loc Cert.MlaKvWIdeal.main_v0) = v0 c
          ∧ r.2.mem ((c.tc : Thread Cert.MlaKvWIdeal.nD Cert.MlaKvWIdeal.τ).loc Cert.MlaKvWIdeal.main_arg0) = m ((c.tc : Thread Cert.MlaKvWIdeal.nD Cert.MlaKvWIdeal.τ).loc Cert.MlaKvWIdeal.main_arg0)
          ∧ r.2.mem ((c.tc : Thread Cert.MlaKvWIdeal.nD Cert.MlaKvWIdeal.τ).loc Cert.MlaKvWIdeal.main_arg1) = m ((c.tc : Thread Cert.MlaKvWIdeal.nD Cert.MlaKvWIdeal.τ).loc Cert.MlaKvWIdeal.main_arg1))
      ∧ θ_run (Cert.MlaKvWRefIdeal.defs (F := Ideal)) (onTc (τ := Cert.MlaKvWRefIdeal.τ) (Cert.MlaKvWRefIdeal.main (F := Ideal))) ⟨m', fun _ => 0, g'⟩ (fun r => ∀ c : Dev Cert.MlaKvWRefIdeal.nD,
          r.2.mem ((c.tc : Thread Cert.MlaKvWRefIdeal.nD Cert.MlaKvWRefIdeal.τ).loc Cert.MlaKvWRefIdeal.main_v5) = v0 c
          ∧ r.2.mem ((c.tc : Thread Cert.MlaKvWRefIdeal.nD Cert.MlaKvWRefIdeal.τ).loc Cert.MlaKvWRefIdeal.main_arg0) = m' ((c.tc : Thread Cert.MlaKvWRefIdeal.nD Cert.MlaKvWRefIdeal.τ).loc Cert.MlaKvWRefIdeal.main_arg0)
          ∧ r.2.mem ((c.tc : Thread Cert.MlaKvWRefIdeal.nD Cert.MlaKvWRefIdeal.τ).loc Cert.MlaKvWRefIdeal.main_arg1) = m' ((c.tc : Thread Cert.MlaKvWRefIdeal.nD Cert.MlaKvWRefIdeal.τ).loc Cert.MlaKvWRefIdeal.main_arg1))

def preserves_MlaNorm_MlaNormIdeal : Prop :=
  True

def algebraic_MlaNormIdeal_MlaNormRefIdeal [hMlaNormIdeal : Cert.MlaNormIdeal.Facts] [hMlaNormRefIdeal : Cert.MlaNormRefIdeal.Facts] : Prop :=
  ∀ (m : (ℓ : Loc Cert.MlaNormIdeal.nD Cert.MlaNormIdeal.τ Cert.MlaNormIdeal.sig) → Buf (Elt Ideal) ℓ) (g : Dev Cert.MlaNormIdeal.nD → PrngReg)
    (m' : (ℓ : Loc Cert.MlaNormRefIdeal.nD Cert.MlaNormRefIdeal.τ Cert.MlaNormRefIdeal.sig) → Buf (Elt Ideal) ℓ) (g' : Dev Cert.MlaNormRefIdeal.nD → PrngReg), Pre_MlaNormIdeal m →
    (∀ c : Dev Cert.MlaNormIdeal.nD,
      m' ((c.tc : Thread Cert.MlaNormRefIdeal.nD Cert.MlaNormRefIdeal.τ).loc Cert.MlaNormRefIdeal.main_arg0) = m ((c.tc : Thread Cert.MlaNormIdeal.nD Cert.MlaNormIdeal.τ).loc Cert.MlaNormIdeal.main_arg0)
      ∧ m' ((c.tc : Thread Cert.MlaNormRefIdeal.nD Cert.MlaNormRefIdeal.τ).loc Cert.MlaNormRefIdeal.main_arg1) = m ((c.tc : Thread Cert.MlaNormIdeal.nD Cert.MlaNormIdeal.τ).loc Cert.MlaNormIdeal.main_arg1)
      ∧ m' ((c.tc : Thread Cert.MlaNormRefIdeal.nD Cert.MlaNormRefIdeal.τ).loc Cert.MlaNormRefIdeal.main_arg2) = m ((c.tc : Thread Cert.MlaNormIdeal.nD Cert.MlaNormIdeal.τ).loc Cert.MlaNormIdeal.main_arg2)) →
    ∃ (v0 : (c : Dev Cert.MlaNormIdeal.nD) → Buf (Elt Ideal) ((c.tc : Thread Cert.MlaNormIdeal.nD Cert.MlaNormIdeal.τ).loc Cert.MlaNormIdeal.main_v0_0)) (v1 : (c : Dev Cert.MlaNormIdeal.nD) → Buf (Elt Ideal) ((c.tc : Thread Cert.MlaNormIdeal.nD Cert.MlaNormIdeal.τ).loc Cert.MlaNormIdeal.main_v0_1)),
      θ_run (Cert.MlaNormIdeal.defs (F := Ideal)) (onTc (τ := Cert.MlaNormIdeal.τ) (Cert.MlaNormIdeal.main (F := Ideal))) ⟨m, fun _ => 0, g⟩ (fun r => ∀ c : Dev Cert.MlaNormIdeal.nD,
          r.2.mem ((c.tc : Thread Cert.MlaNormIdeal.nD Cert.MlaNormIdeal.τ).loc Cert.MlaNormIdeal.main_v0_0) = v0 c
          ∧ r.2.mem ((c.tc : Thread Cert.MlaNormIdeal.nD Cert.MlaNormIdeal.τ).loc Cert.MlaNormIdeal.main_v0_1) = v1 c
          ∧ r.2.mem ((c.tc : Thread Cert.MlaNormIdeal.nD Cert.MlaNormIdeal.τ).loc Cert.MlaNormIdeal.main_arg0) = m ((c.tc : Thread Cert.MlaNormIdeal.nD Cert.MlaNormIdeal.τ).loc Cert.MlaNormIdeal.main_arg0)
          ∧ r.2.mem ((c.tc : Thread Cert.MlaNormIdeal.nD Cert.MlaNormIdeal.τ).loc Cert.MlaNormIdeal.main_arg1) = m ((c.tc : Thread Cert.MlaNormIdeal.nD Cert.MlaNormIdeal.τ).loc Cert.MlaNormIdeal.main_arg1)
          ∧ r.2.mem ((c.tc : Thread Cert.MlaNormIdeal.nD Cert.MlaNormIdeal.τ).loc Cert.MlaNormIdeal.main_arg2) = m ((c.tc : Thread Cert.MlaNormIdeal.nD Cert.MlaNormIdeal.τ).loc Cert.MlaNormIdeal.main_arg2))
      ∧ θ_run (Cert.MlaNormRefIdeal.defs (F := Ideal)) (onTc (τ := Cert.MlaNormRefIdeal.τ) (Cert.MlaNormRefIdeal.main (F := Ideal))) ⟨m', fun _ => 0, g'⟩ (fun r => ∀ c : Dev Cert.MlaNormRefIdeal.nD,
          r.2.mem ((c.tc : Thread Cert.MlaNormRefIdeal.nD Cert.MlaNormRefIdeal.τ).loc Cert.MlaNormRefIdeal.main_v13) = v0 c
          ∧ r.2.mem ((c.tc : Thread Cert.MlaNormRefIdeal.nD Cert.MlaNormRefIdeal.τ).loc Cert.MlaNormRefIdeal.main_v27) = v1 c
          ∧ r.2.mem ((c.tc : Thread Cert.MlaNormRefIdeal.nD Cert.MlaNormRefIdeal.τ).loc Cert.MlaNormRefIdeal.main_arg0) = m' ((c.tc : Thread Cert.MlaNormRefIdeal.nD Cert.MlaNormRefIdeal.τ).loc Cert.MlaNormRefIdeal.main_arg0)
          ∧ r.2.mem ((c.tc : Thread Cert.MlaNormRefIdeal.nD Cert.MlaNormRefIdeal.τ).loc Cert.MlaNormRefIdeal.main_arg1) = m' ((c.tc : Thread Cert.MlaNormRefIdeal.nD Cert.MlaNormRefIdeal.τ).loc Cert.MlaNormRefIdeal.main_arg1)
          ∧ r.2.mem ((c.tc : Thread Cert.MlaNormRefIdeal.nD Cert.MlaNormRefIdeal.τ).loc Cert.MlaNormRefIdeal.main_arg2) = m' ((c.tc : Thread Cert.MlaNormRefIdeal.nD Cert.MlaNormRefIdeal.τ).loc Cert.MlaNormRefIdeal.main_arg2))

def preserves_SsdPost_SsdPostIdeal : Prop :=
  True

def algebraic_SsdPostIdeal_SsdPostRefIdeal [hSsdPostIdeal : Cert.SsdPostIdeal.Facts] [hSsdPostRefIdeal : Cert.SsdPostRefIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg)
    (m' : (ℓ : Loc Cert.SsdPostRefIdeal.nD Cert.SsdPostRefIdeal.τ Cert.SsdPostRefIdeal.sig) → Buf (Elt Ideal) ℓ) (g' : Dev Cert.SsdPostRefIdeal.nD → PrngReg), Pre_SsdPostIdeal m →
    (∀ c : Dev Cert.SsdPostIdeal.nD,
      m' ((c.tc : Thread Cert.SsdPostRefIdeal.nD Cert.SsdPostRefIdeal.τ).loc Cert.SsdPostRefIdeal.main_arg0) = m ((c.tc : Thread Cert.SsdPostIdeal.nD Cert.SsdPostIdeal.τ).loc Cert.SsdPostIdeal.main_arg0)
      ∧ m' ((c.tc : Thread Cert.SsdPostRefIdeal.nD Cert.SsdPostRefIdeal.τ).loc Cert.SsdPostRefIdeal.main_arg1) = m ((c.tc : Thread Cert.SsdPostIdeal.nD Cert.SsdPostIdeal.τ).loc Cert.SsdPostIdeal.main_arg1)
      ∧ m' ((c.tc : Thread Cert.SsdPostRefIdeal.nD Cert.SsdPostRefIdeal.τ).loc Cert.SsdPostRefIdeal.main_arg2) = m ((c.tc : Thread Cert.SsdPostIdeal.nD Cert.SsdPostIdeal.τ).loc Cert.SsdPostIdeal.main_arg2)
      ∧ m' ((c.tc : Thread Cert.SsdPostRefIdeal.nD Cert.SsdPostRefIdeal.τ).loc Cert.SsdPostRefIdeal.main_arg3) = m ((c.tc : Thread Cert.SsdPostIdeal.nD Cert.SsdPostIdeal.τ).loc Cert.SsdPostIdeal.main_arg3)
      ∧ m' ((c.tc : Thread Cert.SsdPostRefIdeal.nD Cert.SsdPostRefIdeal.τ).loc Cert.SsdPostRefIdeal.main_arg4) = m ((c.tc : Thread Cert.SsdPostIdeal.nD Cert.SsdPostIdeal.τ).loc Cert.SsdPostIdeal.main_arg4)) →
    ∃ (v0 : (c : Dev Cert.SsdPostIdeal.nD) → Buf (Elt Ideal) ((c.tc : Thread Cert.SsdPostIdeal.nD Cert.SsdPostIdeal.τ).loc Cert.SsdPostIdeal.main_v0)),
      θ_run (Cert.SsdPostIdeal.defs (F := Ideal)) (onTc (τ := Cert.SsdPostIdeal.τ) (Cert.SsdPostIdeal.main (F := Ideal))) ⟨m, fun _ => 0, g⟩ (fun r => ∀ c : Dev Cert.SsdPostIdeal.nD,
          r.2.mem ((c.tc : Thread Cert.SsdPostIdeal.nD Cert.SsdPostIdeal.τ).loc Cert.SsdPostIdeal.main_v0) = v0 c
          ∧ r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
          ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
          ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2)
          ∧ r.2.mem ((c.tc : Thread Cert.SsdPostIdeal.nD Cert.SsdPostIdeal.τ).loc Cert.SsdPostIdeal.main_arg3) = m ((c.tc : Thread Cert.SsdPostIdeal.nD Cert.SsdPostIdeal.τ).loc Cert.SsdPostIdeal.main_arg3)
          ∧ r.2.mem ((c.tc : Thread Cert.SsdPostIdeal.nD Cert.SsdPostIdeal.τ).loc Cert.SsdPostIdeal.main_arg4) = m ((c.tc : Thread Cert.SsdPostIdeal.nD Cert.SsdPostIdeal.τ).loc Cert.SsdPostIdeal.main_arg4))
      ∧ θ_run (Cert.SsdPostRefIdeal.defs (F := Ideal)) (onTc (τ := Cert.SsdPostRefIdeal.τ) (Cert.SsdPostRefIdeal.main (F := Ideal))) ⟨m', fun _ => 0, g'⟩ (fun r => ∀ c : Dev Cert.SsdPostRefIdeal.nD,
          r.2.mem ((c.tc : Thread Cert.SsdPostRefIdeal.nD Cert.SsdPostRefIdeal.τ).loc Cert.SsdPostRefIdeal.main_v22) = v0 c
          ∧ r.2.mem ((c.tc : Thread Cert.SsdPostRefIdeal.nD Cert.SsdPostRefIdeal.τ).loc Cert.SsdPostRefIdeal.main_arg0) = m' ((c.tc : Thread Cert.SsdPostRefIdeal.nD Cert.SsdPostRefIdeal.τ).loc Cert.SsdPostRefIdeal.main_arg0)
          ∧ r.2.mem ((c.tc : Thread Cert.SsdPostRefIdeal.nD Cert.SsdPostRefIdeal.τ).loc Cert.SsdPostRefIdeal.main_arg1) = m' ((c.tc : Thread Cert.SsdPostRefIdeal.nD Cert.SsdPostRefIdeal.τ).loc Cert.SsdPostRefIdeal.main_arg1)
          ∧ r.2.mem ((c.tc : Thread Cert.SsdPostRefIdeal.nD Cert.SsdPostRefIdeal.τ).loc Cert.SsdPostRefIdeal.main_arg2) = m' ((c.tc : Thread Cert.SsdPostRefIdeal.nD Cert.SsdPostRefIdeal.τ).loc Cert.SsdPostRefIdeal.main_arg2)
          ∧ r.2.mem ((c.tc : Thread Cert.SsdPostRefIdeal.nD Cert.SsdPostRefIdeal.τ).loc Cert.SsdPostRefIdeal.main_arg3) = m' ((c.tc : Thread Cert.SsdPostRefIdeal.nD Cert.SsdPostRefIdeal.τ).loc Cert.SsdPostRefIdeal.main_arg3)
          ∧ r.2.mem ((c.tc : Thread Cert.SsdPostRefIdeal.nD Cert.SsdPostRefIdeal.τ).loc Cert.SsdPostRefIdeal.main_arg4) = m' ((c.tc : Thread Cert.SsdPostRefIdeal.nD Cert.SsdPostRefIdeal.τ).loc Cert.SsdPostRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v9_0)) (v1 : (c : Dev Cert.RopeIdeal.nD) → Buf (Elt Ideal) ((c.tc : Thread Cert.RopeIdeal.nD Cert.RopeIdeal.τ).loc Cert.RopeIdeal.main_v9_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v9_0) = v0 c
          ∧ r.2.mem ((c.tc : Thread Cert.RopeIdeal.nD Cert.RopeIdeal.τ).loc Cert.RopeIdeal.main_v9_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v15) = v0 c
          ∧ r.2.mem ((c.tc : Thread Cert.RopeRefIdeal.nD Cert.RopeRefIdeal.τ).loc Cert.RopeRefIdeal.main_v25) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_RopeT_RopeTIdeal : Prop :=
  True

def algebraic_RopeTIdeal_RopeTRefIdeal [hRopeTIdeal : Cert.RopeTIdeal.Facts] [hRopeTRefIdeal : Cert.RopeTRefIdeal.Facts] : Prop :=
  ∀ (m : (ℓ : Loc Cert.RopeTIdeal.nD Cert.RopeTIdeal.τ Cert.RopeTIdeal.sig) → Buf (Elt Ideal) ℓ) (g : Dev Cert.RopeTIdeal.nD → PrngReg)
    (m' : (ℓ : Loc Cert.RopeTRefIdeal.nD Cert.RopeTRefIdeal.τ Cert.RopeTRefIdeal.sig) → Buf (Elt Ideal) ℓ) (g' : Dev Cert.RopeTRefIdeal.nD → PrngReg), Pre_RopeTIdeal m →
    (∀ c : Dev Cert.RopeTIdeal.nD,
      m' ((c.tc : Thread Cert.RopeTRefIdeal.nD Cert.RopeTRefIdeal.τ).loc Cert.RopeTRefIdeal.main_arg0) = m ((c.tc : Thread Cert.RopeTIdeal.nD Cert.RopeTIdeal.τ).loc Cert.RopeTIdeal.main_arg0)
      ∧ m' ((c.tc : Thread Cert.RopeTRefIdeal.nD Cert.RopeTRefIdeal.τ).loc Cert.RopeTRefIdeal.main_arg1) = m ((c.tc : Thread Cert.RopeTIdeal.nD Cert.RopeTIdeal.τ).loc Cert.RopeTIdeal.main_arg1)
      ∧ m' ((c.tc : Thread Cert.RopeTRefIdeal.nD Cert.RopeTRefIdeal.τ).loc Cert.RopeTRefIdeal.main_arg2) = m ((c.tc : Thread Cert.RopeTIdeal.nD Cert.RopeTIdeal.τ).loc Cert.RopeTIdeal.main_arg2)
      ∧ m' ((c.tc : Thread Cert.RopeTRefIdeal.nD Cert.RopeTRefIdeal.τ).loc Cert.RopeTRefIdeal.main_arg3) = m ((c.tc : Thread Cert.RopeTIdeal.nD Cert.RopeTIdeal.τ).loc Cert.RopeTIdeal.main_arg3)) →
    ∃ (v0 : (c : Dev Cert.RopeTIdeal.nD) → Buf (Elt Ideal) ((c.tc : Thread Cert.RopeTIdeal.nD Cert.RopeTIdeal.τ).loc Cert.RopeTIdeal.main_v9_0)) (v1 : (c : Dev Cert.RopeTIdeal.nD) → Buf (Elt Ideal) ((c.tc : Thread Cert.RopeTIdeal.nD Cert.RopeTIdeal.τ).loc Cert.RopeTIdeal.main_v9_1)),
      θ_run (Cert.RopeTIdeal.defs (F := Ideal)) (onTc (τ := Cert.RopeTIdeal.τ) (Cert.RopeTIdeal.main (F := Ideal))) ⟨m, fun _ => 0, g⟩ (fun r => ∀ c : Dev Cert.RopeTIdeal.nD,
          r.2.mem ((c.tc : Thread Cert.RopeTIdeal.nD Cert.RopeTIdeal.τ).loc Cert.RopeTIdeal.main_v9_0) = v0 c
          ∧ r.2.mem ((c.tc : Thread Cert.RopeTIdeal.nD Cert.RopeTIdeal.τ).loc Cert.RopeTIdeal.main_v9_1) = v1 c
          ∧ r.2.mem ((c.tc : Thread Cert.RopeTIdeal.nD Cert.RopeTIdeal.τ).loc Cert.RopeTIdeal.main_arg0) = m ((c.tc : Thread Cert.RopeTIdeal.nD Cert.RopeTIdeal.τ).loc Cert.RopeTIdeal.main_arg0)
          ∧ r.2.mem ((c.tc : Thread Cert.RopeTIdeal.nD Cert.RopeTIdeal.τ).loc Cert.RopeTIdeal.main_arg1) = m ((c.tc : Thread Cert.RopeTIdeal.nD Cert.RopeTIdeal.τ).loc Cert.RopeTIdeal.main_arg1)
          ∧ r.2.mem ((c.tc : Thread Cert.RopeTIdeal.nD Cert.RopeTIdeal.τ).loc Cert.RopeTIdeal.main_arg2) = m ((c.tc : Thread Cert.RopeTIdeal.nD Cert.RopeTIdeal.τ).loc Cert.RopeTIdeal.main_arg2)
          ∧ r.2.mem ((c.tc : Thread Cert.RopeTIdeal.nD Cert.RopeTIdeal.τ).loc Cert.RopeTIdeal.main_arg3) = m ((c.tc : Thread Cert.RopeTIdeal.nD Cert.RopeTIdeal.τ).loc Cert.RopeTIdeal.main_arg3))
      ∧ θ_run (Cert.RopeTRefIdeal.defs (F := Ideal)) (onTc (τ := Cert.RopeTRefIdeal.τ) (Cert.RopeTRefIdeal.main (F := Ideal))) ⟨m', fun _ => 0, g'⟩ (fun r => ∀ c : Dev Cert.RopeTRefIdeal.nD,
          r.2.mem ((c.tc : Thread Cert.RopeTRefIdeal.nD Cert.RopeTRefIdeal.τ).loc Cert.RopeTRefIdeal.main_v44) = v0 c
          ∧ r.2.mem ((c.tc : Thread Cert.RopeTRefIdeal.nD Cert.RopeTRefIdeal.τ).loc Cert.RopeTRefIdeal.main_v34) = v1 c
          ∧ r.2.mem ((c.tc : Thread Cert.RopeTRefIdeal.nD Cert.RopeTRefIdeal.τ).loc Cert.RopeTRefIdeal.main_arg0) = m' ((c.tc : Thread Cert.RopeTRefIdeal.nD Cert.RopeTRefIdeal.τ).loc Cert.RopeTRefIdeal.main_arg0)
          ∧ r.2.mem ((c.tc : Thread Cert.RopeTRefIdeal.nD Cert.RopeTRefIdeal.τ).loc Cert.RopeTRefIdeal.main_arg1) = m' ((c.tc : Thread Cert.RopeTRefIdeal.nD Cert.RopeTRefIdeal.τ).loc Cert.RopeTRefIdeal.main_arg1)
          ∧ r.2.mem ((c.tc : Thread Cert.RopeTRefIdeal.nD Cert.RopeTRefIdeal.τ).loc Cert.RopeTRefIdeal.main_arg2) = m' ((c.tc : Thread Cert.RopeTRefIdeal.nD Cert.RopeTRefIdeal.τ).loc Cert.RopeTRefIdeal.main_arg2)
          ∧ r.2.mem ((c.tc : Thread Cert.RopeTRefIdeal.nD Cert.RopeTRefIdeal.τ).loc Cert.RopeTRefIdeal.main_arg3) = m' ((c.tc : Thread Cert.RopeTRefIdeal.nD Cert.RopeTRefIdeal.τ).loc Cert.RopeTRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SsdDt_SsdDtIdeal : Prop :=
  True

def algebraic_SsdDtIdeal_SsdDtRefIdeal [hSsdDtIdeal : Cert.SsdDtIdeal.Facts] [hSsdDtRefIdeal : Cert.SsdDtRefIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)) →
    ∃ (v0 : (c : Dev Cert.SsdDtIdeal.nD) → Buf (Elt Ideal) ((c.tc : Thread Cert.SsdDtIdeal.nD Cert.SsdDtIdeal.τ).loc Cert.SsdDtIdeal.main_v0_0)) (v1 : (c : Dev Cert.SsdDtIdeal.nD) → Buf (Elt Ideal) ((c.tc : Thread Cert.SsdDtIdeal.nD Cert.SsdDtIdeal.τ).loc Cert.SsdDtIdeal.main_v0_1)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v0_0) = v0 c
          ∧ r.2.mem ((c.tc : Thread Cert.SsdDtIdeal.nD Cert.SsdDtIdeal.τ).loc Cert.SsdDtIdeal.main_v0_1) = v1 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v4) = v0 c
          ∧ r.2.mem ((c.tc : Thread Cert.SsdDtRefIdeal.nD Cert.SsdDtRefIdeal.τ).loc Cert.SsdDtRefIdeal.main_v5) = v1 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1))

def preserves_FfnLnBwd_FfnLnBwdIdeal : Prop :=
  True

def algebraic_FfnLnBwdIdeal_FfnLnBwdRefIdeal_pre_finite_ln [hFfnLnBwdIdeal : Cert.FfnLnBwdIdeal.Facts] [hFfnLnBwdRefIdeal : Cert.FfnLnBwdRefIdeal.Facts] [hPre_finite_ln : Cert.Pre_finite_ln.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg)
    (m' : (ℓ : Loc Cert.FfnLnBwdRefIdeal.nD Cert.FfnLnBwdRefIdeal.τ Cert.FfnLnBwdRefIdeal.sig) → Buf (Elt Ideal) ℓ) (g' : Dev Cert.FfnLnBwdRefIdeal.nD → PrngReg), Pre_FfnLnBwdIdeal_finite_ln m →
    (∀ c : Dev Cert.FfnLnBwdIdeal.nD,
      m' ((c.tc : Thread Cert.FfnLnBwdRefIdeal.nD Cert.FfnLnBwdRefIdeal.τ).loc Cert.FfnLnBwdRefIdeal.main_arg0) = m ((c.tc : Thread Cert.FfnLnBwdIdeal.nD Cert.FfnLnBwdIdeal.τ).loc Cert.FfnLnBwdIdeal.main_arg0)
      ∧ m' ((c.tc : Thread Cert.FfnLnBwdRefIdeal.nD Cert.FfnLnBwdRefIdeal.τ).loc Cert.FfnLnBwdRefIdeal.main_arg1) = m ((c.tc : Thread Cert.FfnLnBwdIdeal.nD Cert.FfnLnBwdIdeal.τ).loc Cert.FfnLnBwdIdeal.main_arg1)
      ∧ m' ((c.tc : Thread Cert.FfnLnBwdRefIdeal.nD Cert.FfnLnBwdRefIdeal.τ).loc Cert.FfnLnBwdRefIdeal.main_arg2) = m ((c.tc : Thread Cert.FfnLnBwdIdeal.nD Cert.FfnLnBwdIdeal.τ).loc Cert.FfnLnBwdIdeal.main_arg2)
      ∧ m' ((c.tc : Thread Cert.FfnLnBwdRefIdeal.nD Cert.FfnLnBwdRefIdeal.τ).loc Cert.FfnLnBwdRefIdeal.main_arg3) = m ((c.tc : Thread Cert.FfnLnBwdIdeal.nD Cert.FfnLnBwdIdeal.τ).loc Cert.FfnLnBwdIdeal.main_arg3)
      ∧ m' ((c.tc : Thread Cert.FfnLnBwdRefIdeal.nD Cert.FfnLnBwdRefIdeal.τ).loc Cert.FfnLnBwdRefIdeal.main_arg4) = m ((c.tc : Thread Cert.FfnLnBwdIdeal.nD Cert.FfnLnBwdIdeal.τ).loc Cert.FfnLnBwdIdeal.main_arg4)) →
    ∃ (v0 : (c : Dev Cert.FfnLnBwdIdeal.nD) → Buf (Elt Ideal) ((c.tc : Thread Cert.FfnLnBwdIdeal.nD Cert.FfnLnBwdIdeal.τ).loc Cert.FfnLnBwdIdeal.main_v0_0)) (v1 : (c : Dev Cert.FfnLnBwdIdeal.nD) → Buf (Elt Ideal) ((c.tc : Thread Cert.FfnLnBwdIdeal.nD Cert.FfnLnBwdIdeal.τ).loc Cert.FfnLnBwdIdeal.main_v0_1)) (v2 : (c : Dev Cert.FfnLnBwdIdeal.nD) → Buf (Elt Ideal) ((c.tc : Thread Cert.FfnLnBwdIdeal.nD Cert.FfnLnBwdIdeal.τ).loc Cert.FfnLnBwdIdeal.main_v0_2)) (v3 : (c : Dev Cert.FfnLnBwdIdeal.nD) → Buf (Elt Ideal) ((c.tc : Thread Cert.FfnLnBwdIdeal.nD Cert.FfnLnBwdIdeal.τ).loc Cert.FfnLnBwdIdeal.main_v0_3)),
      θ_run (Cert.FfnLnBwdIdeal.defs (F := Ideal)) (onTc (τ := Cert.FfnLnBwdIdeal.τ) (Cert.FfnLnBwdIdeal.main (F := Ideal))) ⟨m, fun _ => 0, g⟩ (fun r => ∀ c : Dev Cert.FfnLnBwdIdeal.nD,
          r.2.mem ((c.tc : Thread Cert.FfnLnBwdIdeal.nD Cert.FfnLnBwdIdeal.τ).loc Cert.FfnLnBwdIdeal.main_v0_0) = v0 c
          ∧ r.2.mem ((c.tc : Thread Cert.FfnLnBwdIdeal.nD Cert.FfnLnBwdIdeal.τ).loc Cert.FfnLnBwdIdeal.main_v0_1) = v1 c
          ∧ r.2.mem ((c.tc : Thread Cert.FfnLnBwdIdeal.nD Cert.FfnLnBwdIdeal.τ).loc Cert.FfnLnBwdIdeal.main_v0_2) = v2 c
          ∧ r.2.mem ((c.tc : Thread Cert.FfnLnBwdIdeal.nD Cert.FfnLnBwdIdeal.τ).loc Cert.FfnLnBwdIdeal.main_v0_3) = v3 c
          ∧ r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
          ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
          ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
          ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
          ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4))
      ∧ θ_run (Cert.FfnLnBwdRefIdeal.defs (F := Ideal)) (onTc (τ := Cert.FfnLnBwdRefIdeal.τ) (Cert.FfnLnBwdRefIdeal.main (F := Ideal))) ⟨m', fun _ => 0, g'⟩ (fun r => ∀ c : Dev Cert.FfnLnBwdRefIdeal.nD,
          r.2.mem ((c.tc : Thread Cert.FfnLnBwdRefIdeal.nD Cert.FfnLnBwdRefIdeal.τ).loc Cert.FfnLnBwdRefIdeal.main_v67) = v0 c
          ∧ r.2.mem ((c.tc : Thread Cert.FfnLnBwdRefIdeal.nD Cert.FfnLnBwdRefIdeal.τ).loc Cert.FfnLnBwdRefIdeal.main_v68) = v1 c
          ∧ r.2.mem ((c.tc : Thread Cert.FfnLnBwdRefIdeal.nD Cert.FfnLnBwdRefIdeal.τ).loc Cert.FfnLnBwdRefIdeal.main_v37) = v2 c
          ∧ r.2.mem ((c.tc : Thread Cert.FfnLnBwdRefIdeal.nD Cert.FfnLnBwdRefIdeal.τ).loc Cert.FfnLnBwdRefIdeal.main_v34) = v3 c
          ∧ r.2.mem ((c.tc : Thread Cert.FfnLnBwdRefIdeal.nD Cert.FfnLnBwdRefIdeal.τ).loc Cert.FfnLnBwdRefIdeal.main_arg0) = m' ((c.tc : Thread Cert.FfnLnBwdRefIdeal.nD Cert.FfnLnBwdRefIdeal.τ).loc Cert.FfnLnBwdRefIdeal.main_arg0)
          ∧ r.2.mem ((c.tc : Thread Cert.FfnLnBwdRefIdeal.nD Cert.FfnLnBwdRefIdeal.τ).loc Cert.FfnLnBwdRefIdeal.main_arg1) = m' ((c.tc : Thread Cert.FfnLnBwdRefIdeal.nD Cert.FfnLnBwdRefIdeal.τ).loc Cert.FfnLnBwdRefIdeal.main_arg1)
          ∧ r.2.mem ((c.tc : Thread Cert.FfnLnBwdRefIdeal.nD Cert.FfnLnBwdRefIdeal.τ).loc Cert.FfnLnBwdRefIdeal.main_arg2) = m' ((c.tc : Thread Cert.FfnLnBwdRefIdeal.nD Cert.FfnLnBwdRefIdeal.τ).loc Cert.FfnLnBwdRefIdeal.main_arg2)
          ∧ r.2.mem ((c.tc : Thread Cert.FfnLnBwdRefIdeal.nD Cert.FfnLnBwdRefIdeal.τ).loc Cert.FfnLnBwdRefIdeal.main_arg3) = m' ((c.tc : Thread Cert.FfnLnBwdRefIdeal.nD Cert.FfnLnBwdRefIdeal.τ).loc Cert.FfnLnBwdRefIdeal.main_arg3)
          ∧ r.2.mem ((c.tc : Thread Cert.FfnLnBwdRefIdeal.nD Cert.FfnLnBwdRefIdeal.τ).loc Cert.FfnLnBwdRefIdeal.main_arg4) = m' ((c.tc : Thread Cert.FfnLnBwdRefIdeal.nD Cert.FfnLnBwdRefIdeal.τ).loc Cert.FfnLnBwdRefIdeal.main_arg4))

def preserves_MixLnBwd_MixLnBwdIdeal : Prop :=
  True

def algebraic_MixLnBwdIdeal_MixLnBwdRefIdeal_pre_finite_ln [hMixLnBwdIdeal : Cert.MixLnBwdIdeal.Facts] [hMixLnBwdRefIdeal : Cert.MixLnBwdRefIdeal.Facts] [hPre_finite_ln : Cert.Pre_finite_ln.Facts] : Prop :=
  ∀ (m : (ℓ : Loc Cert.MixLnBwdIdeal.nD Cert.MixLnBwdIdeal.τ Cert.MixLnBwdIdeal.sig) → Buf (Elt Ideal) ℓ) (g : Dev Cert.MixLnBwdIdeal.nD → PrngReg)
    (m' : (ℓ : Loc Cert.MixLnBwdRefIdeal.nD Cert.MixLnBwdRefIdeal.τ Cert.MixLnBwdRefIdeal.sig) → Buf (Elt Ideal) ℓ) (g' : Dev Cert.MixLnBwdRefIdeal.nD → PrngReg), Pre_MixLnBwdIdeal_finite_ln m →
    (∀ c : Dev Cert.MixLnBwdIdeal.nD,
      m' ((c.tc : Thread Cert.MixLnBwdRefIdeal.nD Cert.MixLnBwdRefIdeal.τ).loc Cert.MixLnBwdRefIdeal.main_arg0) = m ((c.tc : Thread Cert.MixLnBwdIdeal.nD Cert.MixLnBwdIdeal.τ).loc Cert.MixLnBwdIdeal.main_arg0)
      ∧ m' ((c.tc : Thread Cert.MixLnBwdRefIdeal.nD Cert.MixLnBwdRefIdeal.τ).loc Cert.MixLnBwdRefIdeal.main_arg1) = m ((c.tc : Thread Cert.MixLnBwdIdeal.nD Cert.MixLnBwdIdeal.τ).loc Cert.MixLnBwdIdeal.main_arg1)
      ∧ m' ((c.tc : Thread Cert.MixLnBwdRefIdeal.nD Cert.MixLnBwdRefIdeal.τ).loc Cert.MixLnBwdRefIdeal.main_arg2) = m ((c.tc : Thread Cert.MixLnBwdIdeal.nD Cert.MixLnBwdIdeal.τ).loc Cert.MixLnBwdIdeal.main_arg2)
      ∧ m' ((c.tc : Thread Cert.MixLnBwdRefIdeal.nD Cert.MixLnBwdRefIdeal.τ).loc Cert.MixLnBwdRefIdeal.main_arg3) = m ((c.tc : Thread Cert.MixLnBwdIdeal.nD Cert.MixLnBwdIdeal.τ).loc Cert.MixLnBwdIdeal.main_arg3)
      ∧ m' ((c.tc : Thread Cert.MixLnBwdRefIdeal.nD Cert.MixLnBwdRefIdeal.τ).loc Cert.MixLnBwdRefIdeal.main_arg4) = m ((c.tc : Thread Cert.MixLnBwdIdeal.nD Cert.MixLnBwdIdeal.τ).loc Cert.MixLnBwdIdeal.main_arg4)) →
    ∃ (v0 : (c : Dev Cert.MixLnBwdIdeal.nD) → Buf (Elt Ideal) ((c.tc : Thread Cert.MixLnBwdIdeal.nD Cert.MixLnBwdIdeal.τ).loc Cert.MixLnBwdIdeal.main_v0_0)) (v1 : (c : Dev Cert.MixLnBwdIdeal.nD) → Buf (Elt Ideal) ((c.tc : Thread Cert.MixLnBwdIdeal.nD Cert.MixLnBwdIdeal.τ).loc Cert.MixLnBwdIdeal.main_v0_1)) (v2 : (c : Dev Cert.MixLnBwdIdeal.nD) → Buf (Elt Ideal) ((c.tc : Thread Cert.MixLnBwdIdeal.nD Cert.MixLnBwdIdeal.τ).loc Cert.MixLnBwdIdeal.main_v0_2)) (v3 : (c : Dev Cert.MixLnBwdIdeal.nD) → Buf (Elt Ideal) ((c.tc : Thread Cert.MixLnBwdIdeal.nD Cert.MixLnBwdIdeal.τ).loc Cert.MixLnBwdIdeal.main_v0_3)),
      θ_run (Cert.MixLnBwdIdeal.defs (F := Ideal)) (onTc (τ := Cert.MixLnBwdIdeal.τ) (Cert.MixLnBwdIdeal.main (F := Ideal))) ⟨m, fun _ => 0, g⟩ (fun r => ∀ c : Dev Cert.MixLnBwdIdeal.nD,
          r.2.mem ((c.tc : Thread Cert.MixLnBwdIdeal.nD Cert.MixLnBwdIdeal.τ).loc Cert.MixLnBwdIdeal.main_v0_0) = v0 c
          ∧ r.2.mem ((c.tc : Thread Cert.MixLnBwdIdeal.nD Cert.MixLnBwdIdeal.τ).loc Cert.MixLnBwdIdeal.main_v0_1) = v1 c
          ∧ r.2.mem ((c.tc : Thread Cert.MixLnBwdIdeal.nD Cert.MixLnBwdIdeal.τ).loc Cert.MixLnBwdIdeal.main_v0_2) = v2 c
          ∧ r.2.mem ((c.tc : Thread Cert.MixLnBwdIdeal.nD Cert.MixLnBwdIdeal.τ).loc Cert.MixLnBwdIdeal.main_v0_3) = v3 c
          ∧ r.2.mem ((c.tc : Thread Cert.MixLnBwdIdeal.nD Cert.MixLnBwdIdeal.τ).loc Cert.MixLnBwdIdeal.main_arg0) = m ((c.tc : Thread Cert.MixLnBwdIdeal.nD Cert.MixLnBwdIdeal.τ).loc Cert.MixLnBwdIdeal.main_arg0)
          ∧ r.2.mem ((c.tc : Thread Cert.MixLnBwdIdeal.nD Cert.MixLnBwdIdeal.τ).loc Cert.MixLnBwdIdeal.main_arg1) = m ((c.tc : Thread Cert.MixLnBwdIdeal.nD Cert.MixLnBwdIdeal.τ).loc Cert.MixLnBwdIdeal.main_arg1)
          ∧ r.2.mem ((c.tc : Thread Cert.MixLnBwdIdeal.nD Cert.MixLnBwdIdeal.τ).loc Cert.MixLnBwdIdeal.main_arg2) = m ((c.tc : Thread Cert.MixLnBwdIdeal.nD Cert.MixLnBwdIdeal.τ).loc Cert.MixLnBwdIdeal.main_arg2)
          ∧ r.2.mem ((c.tc : Thread Cert.MixLnBwdIdeal.nD Cert.MixLnBwdIdeal.τ).loc Cert.MixLnBwdIdeal.main_arg3) = m ((c.tc : Thread Cert.MixLnBwdIdeal.nD Cert.MixLnBwdIdeal.τ).loc Cert.MixLnBwdIdeal.main_arg3)
          ∧ r.2.mem ((c.tc : Thread Cert.MixLnBwdIdeal.nD Cert.MixLnBwdIdeal.τ).loc Cert.MixLnBwdIdeal.main_arg4) = m ((c.tc : Thread Cert.MixLnBwdIdeal.nD Cert.MixLnBwdIdeal.τ).loc Cert.MixLnBwdIdeal.main_arg4))
      ∧ θ_run (Cert.MixLnBwdRefIdeal.defs (F := Ideal)) (onTc (τ := Cert.MixLnBwdRefIdeal.τ) (Cert.MixLnBwdRefIdeal.main (F := Ideal))) ⟨m', fun _ => 0, g'⟩ (fun r => ∀ c : Dev Cert.MixLnBwdRefIdeal.nD,
          r.2.mem ((c.tc : Thread Cert.MixLnBwdRefIdeal.nD Cert.MixLnBwdRefIdeal.τ).loc Cert.MixLnBwdRefIdeal.main_v67) = v0 c
          ∧ r.2.mem ((c.tc : Thread Cert.MixLnBwdRefIdeal.nD Cert.MixLnBwdRefIdeal.τ).loc Cert.MixLnBwdRefIdeal.main_v68) = v1 c
          ∧ r.2.mem ((c.tc : Thread Cert.MixLnBwdRefIdeal.nD Cert.MixLnBwdRefIdeal.τ).loc Cert.MixLnBwdRefIdeal.main_v37) = v2 c
          ∧ r.2.mem ((c.tc : Thread Cert.MixLnBwdRefIdeal.nD Cert.MixLnBwdRefIdeal.τ).loc Cert.MixLnBwdRefIdeal.main_v34) = v3 c
          ∧ r.2.mem ((c.tc : Thread Cert.MixLnBwdRefIdeal.nD Cert.MixLnBwdRefIdeal.τ).loc Cert.MixLnBwdRefIdeal.main_arg0) = m' ((c.tc : Thread Cert.MixLnBwdRefIdeal.nD Cert.MixLnBwdRefIdeal.τ).loc Cert.MixLnBwdRefIdeal.main_arg0)
          ∧ r.2.mem ((c.tc : Thread Cert.MixLnBwdRefIdeal.nD Cert.MixLnBwdRefIdeal.τ).loc Cert.MixLnBwdRefIdeal.main_arg1) = m' ((c.tc : Thread Cert.MixLnBwdRefIdeal.nD Cert.MixLnBwdRefIdeal.τ).loc Cert.MixLnBwdRefIdeal.main_arg1)
          ∧ r.2.mem ((c.tc : Thread Cert.MixLnBwdRefIdeal.nD Cert.MixLnBwdRefIdeal.τ).loc Cert.MixLnBwdRefIdeal.main_arg2) = m' ((c.tc : Thread Cert.MixLnBwdRefIdeal.nD Cert.MixLnBwdRefIdeal.τ).loc Cert.MixLnBwdRefIdeal.main_arg2)
          ∧ r.2.mem ((c.tc : Thread Cert.MixLnBwdRefIdeal.nD Cert.MixLnBwdRefIdeal.τ).loc Cert.MixLnBwdRefIdeal.main_arg3) = m' ((c.tc : Thread Cert.MixLnBwdRefIdeal.nD Cert.MixLnBwdRefIdeal.τ).loc Cert.MixLnBwdRefIdeal.main_arg3)
          ∧ r.2.mem ((c.tc : Thread Cert.MixLnBwdRefIdeal.nD Cert.MixLnBwdRefIdeal.τ).loc Cert.MixLnBwdRefIdeal.main_arg4) = m' ((c.tc : Thread Cert.MixLnBwdRefIdeal.nD Cert.MixLnBwdRefIdeal.τ).loc Cert.MixLnBwdRefIdeal.main_arg4))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDownW : Cert.DownW.Facts) (hDownWIdeal : Cert.DownWIdeal.Facts) (hDownWRefIdeal : Cert.DownWRefIdeal.Facts) (hGateW : Cert.GateW.Facts) (hGateWIdeal : Cert.GateWIdeal.Facts) (hGateWRefIdeal : Cert.GateWRefIdeal.Facts) (hGateX : Cert.GateX.Facts) (hGateXIdeal : Cert.GateXIdeal.Facts) (hGateXRefIdeal : Cert.GateXRefIdeal.Facts) (hUp : Cert.Up.Facts) (hUpIdeal : Cert.UpIdeal.Facts) (hUpRefIdeal : Cert.UpRefIdeal.Facts) (hDownLn : Cert.DownLn.Facts) (hDownLnIdeal : Cert.DownLnIdeal.Facts) (hDownLnRefIdeal : Cert.DownLnRefIdeal.Facts) (hInProj : Cert.InProj.Facts) (hInProjIdeal : Cert.InProjIdeal.Facts) (hInProjRefIdeal : Cert.InProjRefIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hOutLn : Cert.OutLn.Facts) (hOutLnIdeal : Cert.OutLnIdeal.Facts) (hOutLnRefIdeal : Cert.OutLnRefIdeal.Facts) (hMlaQ : Cert.MlaQ.Facts) (hMlaQIdeal : Cert.MlaQIdeal.Facts) (hMlaQRefIdeal : Cert.MlaQRefIdeal.Facts) (hMlaQX : Cert.MlaQX.Facts) (hMlaQXIdeal : Cert.MlaQXIdeal.Facts) (hMlaQXRefIdeal : Cert.MlaQXRefIdeal.Facts) (hMlaQW : Cert.MlaQW.Facts) (hMlaQWIdeal : Cert.MlaQWIdeal.Facts) (hMlaQWRefIdeal : Cert.MlaQWRefIdeal.Facts) (hMlaKv : Cert.MlaKv.Facts) (hMlaKvIdeal : Cert.MlaKvIdeal.Facts) (hMlaKvRefIdeal : Cert.MlaKvRefIdeal.Facts) (hMlaKvX : Cert.MlaKvX.Facts) (hMlaKvXIdeal : Cert.MlaKvXIdeal.Facts) (hMlaKvXRefIdeal : Cert.MlaKvXRefIdeal.Facts) (hMlaKvW : Cert.MlaKvW.Facts) (hMlaKvWIdeal : Cert.MlaKvWIdeal.Facts) (hMlaKvWRefIdeal : Cert.MlaKvWRefIdeal.Facts) (hMlaNorm : Cert.MlaNorm.Facts) (hMlaNormIdeal : Cert.MlaNormIdeal.Facts) (hMlaNormRefIdeal : Cert.MlaNormRefIdeal.Facts) (hSsdPost : Cert.SsdPost.Facts) (hSsdPostIdeal : Cert.SsdPostIdeal.Facts) (hSsdPostRefIdeal : Cert.SsdPostRefIdeal.Facts) (hRope : Cert.Rope.Facts) (hRopeIdeal : Cert.RopeIdeal.Facts) (hRopeRefIdeal : Cert.RopeRefIdeal.Facts) (hRopeT : Cert.RopeT.Facts) (hRopeTIdeal : Cert.RopeTIdeal.Facts) (hRopeTRefIdeal : Cert.RopeTRefIdeal.Facts) (hAdam : Cert.Adam.Facts) (hAdamIdeal : Cert.AdamIdeal.Facts) (hAdamRefIdeal : Cert.AdamRefIdeal.Facts) (hLoss : Cert.Loss.Facts) (hLossIdeal : Cert.LossIdeal.Facts) (hLossRefIdeal : Cert.LossRefIdeal.Facts) (hSsdDt : Cert.SsdDt.Facts) (hSsdDtIdeal : Cert.SsdDtIdeal.Facts) (hSsdDtRefIdeal : Cert.SsdDtRefIdeal.Facts) (hFfnLnBwd : Cert.FfnLnBwd.Facts) (hFfnLnBwdIdeal : Cert.FfnLnBwdIdeal.Facts) (hFfnLnBwdRefIdeal : Cert.FfnLnBwdRefIdeal.Facts) (hMixLnBwd : Cert.MixLnBwd.Facts) (hMixLnBwdIdeal : Cert.MixLnBwdIdeal.Facts) (hMixLnBwdRefIdeal : Cert.MixLnBwdRefIdeal.Facts) (hPre_finite_ffn : Cert.Pre_finite_ffn.Facts) (hPre_finite_ln : Cert.Pre_finite_ln.Facts),
    quiescent_Kernel (hKernel := hKernel)
    ∧ quiescent_KernelIdeal (hKernelIdeal := hKernelIdeal)
    ∧ quiescent_ReferenceIdeal (hReferenceIdeal := hReferenceIdeal)
    ∧ quiescent_Gate (hGate := hGate)
    ∧ quiescent_GateIdeal (hGateIdeal := hGateIdeal)
    ∧ quiescent_GateIdeal_pre_finite_ffn (hGateIdeal := hGateIdeal) (hPre_finite_ffn := hPre_finite_ffn)
    ∧ quiescent_GateRefIdeal (hGateRefIdeal := hGateRefIdeal)
    ∧ quiescent_GateRefIdeal_pre_finite_ffn (hGateRefIdeal := hGateRefIdeal) (hPre_finite_ffn := hPre_finite_ffn)
    ∧ quiescent_DownW (hDownW := hDownW)
    ∧ quiescent_DownWIdeal (hDownWIdeal := hDownWIdeal)
    ∧ quiescent_DownWRefIdeal (hDownWRefIdeal := hDownWRefIdeal)
    ∧ quiescent_GateW (hGateW := hGateW)
    ∧ quiescent_GateWIdeal (hGateWIdeal := hGateWIdeal)
    ∧ quiescent_GateWRefIdeal (hGateWRefIdeal := hGateWRefIdeal)
    ∧ quiescent_GateX (hGateX := hGateX)
    ∧ quiescent_GateXIdeal (hGateXIdeal := hGateXIdeal)
    ∧ quiescent_GateXRefIdeal (hGateXRefIdeal := hGateXRefIdeal)
    ∧ quiescent_Up (hUp := hUp)
    ∧ quiescent_UpIdeal (hUpIdeal := hUpIdeal)
    ∧ quiescent_UpRefIdeal (hUpRefIdeal := hUpRefIdeal)
    ∧ quiescent_DownLn (hDownLn := hDownLn)
    ∧ quiescent_DownLnIdeal (hDownLnIdeal := hDownLnIdeal)
    ∧ quiescent_DownLnRefIdeal (hDownLnRefIdeal := hDownLnRefIdeal)
    ∧ quiescent_InProj (hInProj := hInProj)
    ∧ quiescent_InProjIdeal (hInProjIdeal := hInProjIdeal)
    ∧ quiescent_InProjRefIdeal (hInProjRefIdeal := hInProjRefIdeal)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_MlaQ (hMlaQ := hMlaQ)
    ∧ quiescent_MlaQIdeal (hMlaQIdeal := hMlaQIdeal)
    ∧ quiescent_MlaQRefIdeal (hMlaQRefIdeal := hMlaQRefIdeal)
    ∧ quiescent_MlaQX (hMlaQX := hMlaQX)
    ∧ quiescent_MlaQXIdeal (hMlaQXIdeal := hMlaQXIdeal)
    ∧ quiescent_MlaQXRefIdeal (hMlaQXRefIdeal := hMlaQXRefIdeal)
    ∧ quiescent_MlaQW (hMlaQW := hMlaQW)
    ∧ quiescent_MlaQWIdeal (hMlaQWIdeal := hMlaQWIdeal)
    ∧ quiescent_MlaQWRefIdeal (hMlaQWRefIdeal := hMlaQWRefIdeal)
    ∧ quiescent_MlaKv (hMlaKv := hMlaKv)
    ∧ quiescent_MlaKvIdeal (hMlaKvIdeal := hMlaKvIdeal)
    ∧ quiescent_MlaKvRefIdeal (hMlaKvRefIdeal := hMlaKvRefIdeal)
    ∧ quiescent_MlaKvX (hMlaKvX := hMlaKvX)
    ∧ quiescent_MlaKvXIdeal (hMlaKvXIdeal := hMlaKvXIdeal)
    ∧ quiescent_MlaKvXRefIdeal (hMlaKvXRefIdeal := hMlaKvXRefIdeal)
    ∧ quiescent_MlaKvW (hMlaKvW := hMlaKvW)
    ∧ quiescent_MlaKvWIdeal (hMlaKvWIdeal := hMlaKvWIdeal)
    ∧ quiescent_MlaKvWRefIdeal (hMlaKvWRefIdeal := hMlaKvWRefIdeal)
    ∧ quiescent_MlaNorm (hMlaNorm := hMlaNorm)
    ∧ quiescent_MlaNormIdeal (hMlaNormIdeal := hMlaNormIdeal)
    ∧ quiescent_MlaNormRefIdeal (hMlaNormRefIdeal := hMlaNormRefIdeal)
    ∧ quiescent_SsdPost (hSsdPost := hSsdPost)
    ∧ quiescent_SsdPostIdeal (hSsdPostIdeal := hSsdPostIdeal)
    ∧ quiescent_SsdPostRefIdeal (hSsdPostRefIdeal := hSsdPostRefIdeal)
    ∧ quiescent_Rope (hRope := hRope)
    ∧ quiescent_RopeIdeal (hRopeIdeal := hRopeIdeal)
    ∧ quiescent_RopeRefIdeal (hRopeRefIdeal := hRopeRefIdeal)
    ∧ quiescent_RopeT (hRopeT := hRopeT)
    ∧ quiescent_RopeTIdeal (hRopeTIdeal := hRopeTIdeal)
    ∧ quiescent_RopeTRefIdeal (hRopeTRefIdeal := hRopeTRefIdeal)
    ∧ quiescent_Adam (hAdam := hAdam)
    ∧ quiescent_AdamIdeal (hAdamIdeal := hAdamIdeal)
    ∧ quiescent_AdamRefIdeal (hAdamRefIdeal := hAdamRefIdeal)
    ∧ quiescent_Loss (hLoss := hLoss)
    ∧ quiescent_LossIdeal (hLossIdeal := hLossIdeal)
    ∧ quiescent_LossRefIdeal (hLossRefIdeal := hLossRefIdeal)
    ∧ quiescent_SsdDt (hSsdDt := hSsdDt)
    ∧ quiescent_SsdDtIdeal (hSsdDtIdeal := hSsdDtIdeal)
    ∧ quiescent_SsdDtRefIdeal (hSsdDtRefIdeal := hSsdDtRefIdeal)
    ∧ quiescent_FfnLnBwd (hFfnLnBwd := hFfnLnBwd)
    ∧ quiescent_FfnLnBwdIdeal (hFfnLnBwdIdeal := hFfnLnBwdIdeal)
    ∧ quiescent_FfnLnBwdIdeal_pre_finite_ln (hFfnLnBwdIdeal := hFfnLnBwdIdeal) (hPre_finite_ln := hPre_finite_ln)
    ∧ quiescent_FfnLnBwdRefIdeal (hFfnLnBwdRefIdeal := hFfnLnBwdRefIdeal)
    ∧ quiescent_FfnLnBwdRefIdeal_pre_finite_ln (hFfnLnBwdRefIdeal := hFfnLnBwdRefIdeal) (hPre_finite_ln := hPre_finite_ln)
    ∧ quiescent_MixLnBwd (hMixLnBwd := hMixLnBwd)
    ∧ quiescent_MixLnBwdIdeal (hMixLnBwdIdeal := hMixLnBwdIdeal)
    ∧ quiescent_MixLnBwdIdeal_pre_finite_ln (hMixLnBwdIdeal := hMixLnBwdIdeal) (hPre_finite_ln := hPre_finite_ln)
    ∧ quiescent_MixLnBwdRefIdeal (hMixLnBwdRefIdeal := hMixLnBwdRefIdeal)
    ∧ quiescent_MixLnBwdRefIdeal_pre_finite_ln (hMixLnBwdRefIdeal := hMixLnBwdRefIdeal) (hPre_finite_ln := hPre_finite_ln)
    ∧ preserves_Kernel_KernelIdeal
    ∧ preserves_Gate_GateIdeal
    ∧ algebraic_GateIdeal_GateRefIdeal_pre_finite_ffn (hGateIdeal := hGateIdeal) (hGateRefIdeal := hGateRefIdeal) (hPre_finite_ffn := hPre_finite_ffn)
    ∧ preserves_DownW_DownWIdeal
    ∧ algebraic_DownWIdeal_DownWRefIdeal (hDownWIdeal := hDownWIdeal) (hDownWRefIdeal := hDownWRefIdeal)
    ∧ preserves_GateW_GateWIdeal
    ∧ algebraic_GateWIdeal_GateWRefIdeal (hGateWIdeal := hGateWIdeal) (hGateWRefIdeal := hGateWRefIdeal)
    ∧ preserves_GateX_GateXIdeal
    ∧ algebraic_GateXIdeal_GateXRefIdeal (hGateXIdeal := hGateXIdeal) (hGateXRefIdeal := hGateXRefIdeal)
    ∧ preserves_Up_UpIdeal
    ∧ algebraic_UpIdeal_UpRefIdeal (hUpIdeal := hUpIdeal) (hUpRefIdeal := hUpRefIdeal)
    ∧ preserves_DownLn_DownLnIdeal
    ∧ algebraic_DownLnIdeal_DownLnRefIdeal (hDownLnIdeal := hDownLnIdeal) (hDownLnRefIdeal := hDownLnRefIdeal)
    ∧ preserves_InProj_InProjIdeal
    ∧ algebraic_InProjIdeal_InProjRefIdeal (hInProjIdeal := hInProjIdeal) (hInProjRefIdeal := hInProjRefIdeal)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_OutLn_OutLnIdeal
    ∧ algebraic_OutLnIdeal_OutLnRefIdeal (hOutLnIdeal := hOutLnIdeal) (hOutLnRefIdeal := hOutLnRefIdeal)
    ∧ preserves_MlaQ_MlaQIdeal
    ∧ algebraic_MlaQIdeal_MlaQRefIdeal (hMlaQIdeal := hMlaQIdeal) (hMlaQRefIdeal := hMlaQRefIdeal)
    ∧ preserves_MlaQX_MlaQXIdeal
    ∧ algebraic_MlaQXIdeal_MlaQXRefIdeal (hMlaQXIdeal := hMlaQXIdeal) (hMlaQXRefIdeal := hMlaQXRefIdeal)
    ∧ preserves_MlaQW_MlaQWIdeal
    ∧ algebraic_MlaQWIdeal_MlaQWRefIdeal (hMlaQWIdeal := hMlaQWIdeal) (hMlaQWRefIdeal := hMlaQWRefIdeal)
    ∧ preserves_MlaKv_MlaKvIdeal
    ∧ algebraic_MlaKvIdeal_MlaKvRefIdeal (hMlaKvIdeal := hMlaKvIdeal) (hMlaKvRefIdeal := hMlaKvRefIdeal)
    ∧ preserves_MlaKvX_MlaKvXIdeal
    ∧ algebraic_MlaKvXIdeal_MlaKvXRefIdeal (hMlaKvXIdeal := hMlaKvXIdeal) (hMlaKvXRefIdeal := hMlaKvXRefIdeal)
    ∧ preserves_MlaKvW_MlaKvWIdeal
    ∧ algebraic_MlaKvWIdeal_MlaKvWRefIdeal (hMlaKvWIdeal := hMlaKvWIdeal) (hMlaKvWRefIdeal := hMlaKvWRefIdeal)
    ∧ preserves_MlaNorm_MlaNormIdeal
    ∧ algebraic_MlaNormIdeal_MlaNormRefIdeal (hMlaNormIdeal := hMlaNormIdeal) (hMlaNormRefIdeal := hMlaNormRefIdeal)
    ∧ preserves_SsdPost_SsdPostIdeal
    ∧ algebraic_SsdPostIdeal_SsdPostRefIdeal (hSsdPostIdeal := hSsdPostIdeal) (hSsdPostRefIdeal := hSsdPostRefIdeal)
    ∧ preserves_Rope_RopeIdeal
    ∧ algebraic_RopeIdeal_RopeRefIdeal (hRopeIdeal := hRopeIdeal) (hRopeRefIdeal := hRopeRefIdeal)
    ∧ preserves_RopeT_RopeTIdeal
    ∧ algebraic_RopeTIdeal_RopeTRefIdeal (hRopeTIdeal := hRopeTIdeal) (hRopeTRefIdeal := hRopeTRefIdeal)
    ∧ preserves_Adam_AdamIdeal
    ∧ algebraic_AdamIdeal_AdamRefIdeal (hAdamIdeal := hAdamIdeal) (hAdamRefIdeal := hAdamRefIdeal)
    ∧ preserves_Loss_LossIdeal
    ∧ algebraic_LossIdeal_LossRefIdeal (hLossIdeal := hLossIdeal) (hLossRefIdeal := hLossRefIdeal)
    ∧ preserves_SsdDt_SsdDtIdeal
    ∧ algebraic_SsdDtIdeal_SsdDtRefIdeal (hSsdDtIdeal := hSsdDtIdeal) (hSsdDtRefIdeal := hSsdDtRefIdeal)
    ∧ preserves_FfnLnBwd_FfnLnBwdIdeal
    ∧ algebraic_FfnLnBwdIdeal_FfnLnBwdRefIdeal_pre_finite_ln (hFfnLnBwdIdeal := hFfnLnBwdIdeal) (hFfnLnBwdRefIdeal := hFfnLnBwdRefIdeal) (hPre_finite_ln := hPre_finite_ln)
    ∧ preserves_MixLnBwd_MixLnBwdIdeal
    ∧ algebraic_MixLnBwdIdeal_MixLnBwdRefIdeal_pre_finite_ln (hMixLnBwdIdeal := hMixLnBwdIdeal) (hMixLnBwdRefIdeal := hMixLnBwdRefIdeal) (hPre_finite_ln := hPre_finite_ln)
-- ==== Pre_finite_ffn.lean ====
abbrev S2176x1024 : Shape := ⟨2, ![2176, 1024]⟩
abbrev S4x768x1024 : Shape := ⟨3, ![4, 768, 1024]⟩
abbrev S2176x3072 : Shape := ⟨2, ![2176, 3072]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S4x768x1024 : S_.BroadcastsInDim S4x768x1024 (![] : Fin 0 → Fin S4x768x1024.rank)
  reducesTo_S4x768x1024_S_d0_1_2 : S4x768x1024.ReducesTo [0, 1, 2] S_
  bcast_S_S2176x3072 : S_.BroadcastsInDim S2176x3072 (![] : Fin 0 → Fin S2176x3072.rank)
  reducesTo_S2176x3072_S_d0_1 : S2176x3072.ReducesTo [0, 1] S_

variable [Facts]

def fn {F : FTy → Type} [FloatOps F] (main_arg0 : FVec F S2176x1024 .bf16) (main_arg1 : FVec F S4x768x1024 .bf16) (main_arg2 : FVec F S2176x3072 .f32) (main_arg3 : FVec F S2176x3072 .f32) : IVec S_ 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S4x768x1024 .f32 := (extf .f32 · bitsLt_bf16_f32) main_arg1
  let main_v6 : FVec F S4x768x1024 .f32 := Host.absf main_v5
  let main_cst_0 : FVec F S_ .f32 := constant S_ .f32 0x7F800000#32
  let main_v7 : FVec F S4x768x1024 .f32 := broadcastInDim S4x768x1024 ![] bcast_S_S4x768x1024 main_cst_0
  let main_v8 : IVec S4x768x1024 1 := cmpf .olt main_v6 main_v7
  let main_c_1 : IVec S_ 1 := constantI S_ 1 1#1
  let main_v9 : IVec S_ 1 := (fun x v => Host.reduce IntOp.andi x v reducesTo_S4x768x1024_S_d0_1_2 h_S_) main_v8 main_c_1
  let main_v10 : IVec S_ 1 := andi main_v4 main_v9
  let main_v11 : FVec F S2176x3072 .f32 := Host.absf main_arg3
  let main_cst_2 : FVec F S_ .f32 := constant S_ .f32 0x7F800000#32
  let main_v12 : FVec F S2176x3072 .f32 := broadcastInDim S2176x3072 ![] bcast_S_S2176x3072 main_cst_2
  let main_v13 : IVec S2176x3072 1 := cmpf .olt main_v11 main_v12
  let main_c_3 : IVec S_ 1 := constantI S_ 1 1#1
  let main_v14 : IVec S_ 1 := (fun x v => Host.reduce IntOp.andi x v reducesTo_S2176x3072_S_d0_1 h_S_) main_v13 main_c_3
  let main_v15 : IVec S_ 1 := andi main_v10 main_v14
  main_v15
-- ==== Pre_finite_ln.lean ====
abbrev S2176x1024 : Shape := ⟨2, ![2176, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2176x1024 : S_.BroadcastsInDim S2176x1024 (![] : Fin 0 → Fin S2176x1024.rank)
  reducesTo_S2176x1024_S_d0_1 : S2176x1024.ReducesTo [0, 1] S_

variable [Facts]

def fn {F : FTy → Type} [FloatOps F] (main_arg0 : FVec F S2176x1024 .f32) (main_arg1 : FVec F S2176x1024 .f32) (main_arg2 : FVec F S1x1024 .f32) (main_arg3 : FVec F S1x1024 .f32) (main_arg4 : FVec F S2176x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S2176x1024 .f32 := Host.absf main_arg4
  let main_cst_0 : FVec F S_ .f32 := constant S_ .f32 0x7F800000#32
  let main_v5 : FVec F S2176x1024 .f32 := broadcastInDim S2176x1024 ![] bcast_S_S2176x1024 main_cst_0
  let main_v6 : IVec S2176x1024 1 := cmpf .olt main_v4 main_v5
  let main_c_1 : IVec S_ 1 := constantI S_ 1 1#1
  let main_v7 : IVec S_ 1 := (fun x v => Host.reduce IntOp.andi x v reducesTo_S2176x1024_S_d0_1 h_S_) main_v6 main_c_1
  let main_v8 : IVec S_ 1 := andi main_v3 main_v7
  main_v8
-- ==== Kernel.lean ====
abbrev S2176x256 : Shape := ⟨2, ![2176, 256]⟩
abbrev S2176x128 : Shape := ⟨2, ![2176, 128]⟩
abbrev S128x2176 : Shape := ⟨2, ![128, 2176]⟩
abbrev S2176x4x64 : Shape := ⟨3, ![2176, 4, 64]⟩
abbrev S4x2176x2176 : Shape := ⟨3, ![4, 2176, 2176]⟩
abbrev S_ : Shape := ⟨0, ![]⟩
abbrev S2176x4 : Shape := ⟨2, ![2176, 4]⟩
abbrev S4x2176 : Shape := ⟨2, ![4, 2176]⟩
abbrev S4x2176x1 : Shape := ⟨3, ![4, 2176, 1]⟩
abbrev S4x1x2176 : Shape := ⟨3, ![4, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S4x64x2176 : Shape := ⟨3, ![4, 64, 2176]⟩
abbrev S272x256 : Shape := ⟨2, ![272, 256]⟩
abbrev S272x128 : Shape := ⟨2, ![272, 128]⟩
abbrev S272x640 : Shape := ⟨2, ![272, 640]⟩
abbrev S640x256 : Shape := ⟨2, ![640, 256]⟩
abbrev S1x256 : Shape := ⟨2, ![1, 256]⟩
abbrev S1x128 : Shape := ⟨2, ![1, 128]⟩
abbrev S272 : Shape := ⟨1, ![272]⟩
abbrev S272x1 : Shape := ⟨2, ![272, 1]⟩
abbrev S1x640 : Shape := ⟨2, ![1, 640]⟩
abbrev S640 : Shape := ⟨1, ![640]⟩
abbrev S272x1152 : Shape := ⟨2, ![272, 1152]⟩
abbrev S1152x256 : Shape := ⟨2, ![1152, 256]⟩
abbrev S1x1152 : Shape := ⟨2, ![1, 1152]⟩
abbrev S1152 : Shape := ⟨1, ![1152]⟩
abbrev S272x1664 : Shape := ⟨2, ![272, 1664]⟩
abbrev S1664x256 : Shape := ⟨2, ![1664, 256]⟩
abbrev S1x1664 : Shape := ⟨2, ![1, 1664]⟩
abbrev S1664 : Shape := ⟨1, ![1664]⟩
abbrev S272x2176 : Shape := ⟨2, ![272, 2176]⟩

abbrev nBuf : Space → Nat
  | .hbm => 119
  | .vmem => 20
  | .smem => 0
  | _ => 0

abbrev bufTy : (tb : Table) → Fin (tcTables nBuf tb) → BufTy
  | .hbm, ⟨0, _⟩ => ⟨S2176x256, .f32⟩
  | .hbm, ⟨1, _⟩ => ⟨S2176x256, .f32⟩
  | .hbm, ⟨2, _⟩ => ⟨S2176x256, .f32⟩
  | .hbm, ⟨3, _⟩ => ⟨S2176x128, .f32⟩
  | .hbm, ⟨4, _⟩ => ⟨S128x2176, .f32⟩
  | .hbm, ⟨5, _⟩ => ⟨S2176x256, .f32⟩
  | .hbm, ⟨6, _⟩ => ⟨S2176x4x64, .f32⟩
  | .hbm, ⟨7, _⟩ => ⟨S2176x4x64, .f32⟩
  | .hbm, ⟨8, _⟩ => ⟨S4x2176x2176, .f32⟩
  | .hbm, ⟨9, _⟩ => ⟨S_, .f32⟩
  | .hbm, ⟨10, _⟩ => ⟨S4x2176x2176, .f32⟩
  | .hbm, ⟨11, _⟩ => ⟨S4x2176x2176, .f32⟩
  | .hbm, ⟨12, _⟩ => ⟨S2176x4, .f32⟩
  | .hbm, ⟨13, _⟩ => ⟨S4x2176, .f32⟩
  | .hbm, ⟨14, _⟩ => ⟨S4x2176x1, .f32⟩
  | .hbm, ⟨15, _⟩ => ⟨S4x2176, .f32⟩
  | .hbm, ⟨16, _⟩ => ⟨S4x1x2176, .f32⟩
  | .hbm, ⟨17, _⟩ => ⟨S4x2176x2176, .f32⟩
  | .hbm, ⟨18, _⟩ => ⟨S4x2176x2176, .f32⟩
  | .hbm, ⟨19, _⟩ => ⟨S4x2176x2176, .f32⟩
  | .hbm, ⟨20, _⟩ => ⟨S4x2176x2176, .f32⟩
  | .hbm, ⟨21, _⟩ => ⟨S2176, .i32⟩
  | .hbm, ⟨22, _⟩ => ⟨S2176x1, .i32⟩
  | .hbm, ⟨23, _⟩ => ⟨S2176, .i32⟩
  | .hbm, ⟨24, _⟩ => ⟨S1x2176, .i32⟩
  | .hbm, ⟨25, _⟩ => ⟨S2176x2176, .i32⟩
  | .hbm, ⟨26, _⟩ => ⟨S2176x2176, .i32⟩
  | .hbm, ⟨27, _⟩ => ⟨S2176x2176, .i1⟩
  | .hbm, ⟨28, _⟩ => ⟨S_, .i32⟩
  | .hbm, ⟨29, _⟩ => ⟨S1x2176, .i32⟩
  | .hbm, ⟨30, _⟩ => ⟨S1x2176, .i1⟩
  | .hbm, ⟨31, _⟩ => ⟨S_, .i32⟩
  | .hbm, ⟨32, _⟩ => ⟨S2176x1, .i32⟩
  | .hbm, ⟨33, _⟩ => ⟨S2176x1, .i1⟩
  | .hbm, ⟨34, _⟩ => ⟨S2176x2176, .i1⟩
  | .hbm, ⟨35, _⟩ => ⟨S2176x2176, .i1⟩
  | .hbm, ⟨36, _⟩ => ⟨S2176x2176, .i1⟩
  | .hbm, ⟨37, _⟩ => ⟨S2176x2176, .i1⟩
  | .hbm, ⟨38, _⟩ => ⟨S_, .f32⟩
  | .hbm, ⟨39, _⟩ => ⟨S_, .f32⟩
  | .hbm, ⟨40, _⟩ => ⟨S4x2176x2176, .i1⟩
  | .hbm, ⟨41, _⟩ => ⟨S4x2176x2176, .f32⟩
  | .hbm, ⟨42, _⟩ => ⟨S4x2176x2176, .f32⟩
  | .hbm, ⟨43, _⟩ => ⟨S2176x4x64, .f32⟩
  | .hbm, ⟨44, _⟩ => ⟨S2176x4x64, .f32⟩
  | .hbm, ⟨45, _⟩ => ⟨S4x2176x2176, .f32⟩
  | .hbm, ⟨46, _⟩ => ⟨S_, .f32⟩
  | .hbm, ⟨47, _⟩ => ⟨S4x2176x2176, .f32⟩
  | .hbm, ⟨48, _⟩ => ⟨S4x2176x2176, .f32⟩
  | .hbm, ⟨49, _⟩ => ⟨S2176x4, .f32⟩
  | .hbm, ⟨50, _⟩ => ⟨S4x2176, .f32⟩
  | .hbm, ⟨51, _⟩ => ⟨S4x2176x1, .f32⟩
  | .hbm, ⟨52, _⟩ => ⟨S4x2176, .f32⟩
  | .hbm, ⟨53, _⟩ => ⟨S4x1x2176, .f32⟩
  | .hbm, ⟨54, _⟩ => ⟨S4x2176x2176, .f32⟩
  | .hbm, ⟨55, _⟩ => ⟨S4x2176x2176, .f32⟩
  | .hbm, ⟨56, _⟩ => ⟨S4x2176x2176, .f32⟩
  | .hbm, ⟨57, _⟩ => ⟨S4x2176x2176, .f32⟩
  | .hbm, ⟨58, _⟩ => ⟨S2176, .i32⟩
  | .hbm, ⟨59, _⟩ => ⟨S2176x1, .i32⟩
  | .hbm, ⟨60, _⟩ => ⟨S2176, .i32⟩
  | .hbm, ⟨61, _⟩ => ⟨S1x2176, .i32⟩
  | .hbm, ⟨62, _⟩ => ⟨S2176x2176, .i32⟩
  | .hbm, ⟨63, _⟩ => ⟨S2176x2176, .i32⟩
  | .hbm, ⟨64, _⟩ => ⟨S2176x2176, .i1⟩
  | .hbm, ⟨65, _⟩ => ⟨S_, .i32⟩
  | .hbm, ⟨66, _⟩ => ⟨S1x2176, .i32⟩
  | .hbm, ⟨67, _⟩ => ⟨S1x2176, .i1⟩
  | .hbm, ⟨68, _⟩ => ⟨S_, .i32⟩
  | .hbm, ⟨69, _⟩ => ⟨S2176x1, .i32⟩
  | .hbm, ⟨70, _⟩ => ⟨S2176x1, .i1⟩
  | .hbm, ⟨71, _⟩ => ⟨S2176x2176, .i1⟩
  | .hbm, ⟨72, _⟩ => ⟨S2176x2176, .i1⟩
  | .hbm, ⟨73, _⟩ => ⟨S2176x2176, .i1⟩
  | .hbm, ⟨74, _⟩ => ⟨S2176x2176, .i1⟩
  | .hbm, ⟨75, _⟩ => ⟨S_, .f32⟩
  | .hbm, ⟨76, _⟩ => ⟨S_, .f32⟩
  | .hbm, ⟨77, _⟩ => ⟨S4x2176x2176, .i1⟩
  | .hbm, ⟨78, _⟩ => ⟨S4x2176x2176, .f32⟩
  | .hbm, ⟨79, _⟩ => ⟨S4x2176x2176, .f32⟩
  | .hbm, ⟨80, _⟩ => ⟨S_, .f32⟩
  | .hbm, ⟨81, _⟩ => ⟨S4x2176, .f32⟩
  | .hbm, ⟨82, _⟩ => ⟨S_, .f32⟩
  | .hbm, ⟨83, _⟩ => ⟨S4x2176, .f32⟩
  | .hbm, ⟨84, _⟩ => ⟨S4x2176, .f32⟩
  | .hbm, ⟨85, _⟩ => ⟨S4x2176x1, .f32⟩
  | .hbm, ⟨86, _⟩ => ⟨S4x2176x2176, .f32⟩
  | .hbm, ⟨87, _⟩ => ⟨S4x2176x2176, .f32⟩
  | .hbm, ⟨88, _⟩ => ⟨S4x2176x2176, .f32⟩
  | .hbm, ⟨89, _⟩ => ⟨S_, .f32⟩
  | .hbm, ⟨90, _⟩ => ⟨S4x2176, .f32⟩
  | .hbm, ⟨91, _⟩ => ⟨S4x2176x1, .f32⟩
  | .hbm, ⟨92, _⟩ => ⟨S4x2176x2176, .f32⟩
  | .hbm, ⟨93, _⟩ => ⟨S4x2176x2176, .f32⟩
  | .hbm, ⟨94, _⟩ => ⟨S2176x4x64, .f32⟩
  | .hbm, ⟨95, _⟩ => ⟨S4x64x2176, .f32⟩
  | .hbm, ⟨96, _⟩ => ⟨S2176x4x64, .f32⟩
  | .hbm, ⟨97, _⟩ => ⟨S2176x256, .f32⟩
  | .hbm, ⟨98, _⟩ => ⟨S_, .f32⟩
  | .hbm, ⟨99, _⟩ => ⟨S4x2176, .f32⟩
  | .hbm, ⟨100, _⟩ => ⟨S4x2176x1, .f32⟩
  | .hbm, ⟨101, _⟩ => ⟨S4x2176x2176, .f32⟩
  | .hbm, ⟨102, _⟩ => ⟨S4x2176x2176, .f32⟩
  | .hbm, ⟨103, _⟩ => ⟨S4x2176x2176, .f32⟩
  | .hbm, ⟨104, _⟩ => ⟨S_, .f32⟩
  | .hbm, ⟨105, _⟩ => ⟨S4x2176, .f32⟩
  | .hbm, ⟨106, _⟩ => ⟨S4x2176x1, .f32⟩
  | .hbm, ⟨107, _⟩ => ⟨S4x2176x1, .f32⟩
  | .hbm, ⟨108, _⟩ => ⟨S4x2176x1, .f32⟩
  | .hbm, ⟨109, _⟩ => ⟨S4x2176, .f32⟩
  | .hbm, ⟨110, _⟩ => ⟨S2176x4, .f32⟩
  | .hbm, ⟨111, _⟩ => ⟨S_, .i32⟩
  | .hbm, ⟨112, _⟩ => ⟨S_, .f32⟩
  | .hbm, ⟨113, _⟩ => ⟨S2176x128, .f32⟩
  | .hbm, ⟨114, _⟩ => ⟨S2176x256, .f32⟩
  | .hbm, ⟨115, _⟩ => ⟨S2176x256, .f32⟩
  | .hbm, ⟨116, _⟩ => ⟨S2176x256, .f32⟩
  | .hbm, ⟨117, _⟩ => ⟨S2176x128, .f32⟩
  | .hbm, ⟨118, _⟩ => ⟨S128x2176, .f32⟩
  | .local _ .vmem, ⟨0, _⟩ => ⟨S272x256, .f32⟩
  | .local _ .vmem, ⟨1, _⟩ => ⟨S272x256, .f32⟩
  | .local _ .vmem, ⟨2, _⟩ => ⟨S2176x256, .f32⟩
  | .local _ .vmem, ⟨3, _⟩ => ⟨S2176x256, .f32⟩
  | .local _ .vmem, ⟨4, _⟩ => ⟨S272x128, .f32⟩
  | .local _ .vmem, ⟨5, _⟩ => ⟨S272x128, .f32⟩
  | .local _ .vmem, ⟨6, _⟩ => ⟨S128x2176, .f32⟩
  | .local _ .vmem, ⟨7, _⟩ => ⟨S272x256, .f32⟩
  | .local _ .vmem, ⟨8, _⟩ => ⟨S272x256, .f32⟩
  | .local _ .vmem, ⟨9, _⟩ => ⟨S272x128, .f32⟩
  | .local _ .vmem, ⟨10, _⟩ => ⟨S272x128, .f32⟩
  | .local _ .vmem, ⟨11, _⟩ => ⟨S272x256, .f32⟩
  | .local _ .vmem, ⟨12, _⟩ => ⟨S272x256, .f32⟩
  | .local _ .vmem, ⟨13, _⟩ => ⟨S272x256, .f32⟩
  | .local _ .vmem, ⟨14, _⟩ => ⟨S272x256, .f32⟩
  | .local _ .vmem, ⟨15, _⟩ => ⟨S2176x256, .f32⟩
  | .local _ .vmem, ⟨16, _⟩ => ⟨S2176x256, .f32⟩
  | .local _ .vmem, ⟨17, _⟩ => ⟨S272x128, .f32⟩
  | .local _ .vmem, ⟨18, _⟩ => ⟨S272x128, .f32⟩
  | .local _ .vmem, ⟨19, _⟩ => ⟨S128x2176, .f32⟩
  | _, _ => ⟨S2176x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_3 : Ref sig .tc := ⟨.hbm, 65, rfl⟩
abbrev main_v51 : Ref sig .tc := ⟨.hbm, 66, rfl⟩
abbrev main_v52 : Ref sig .tc := ⟨.hbm, 67, rfl⟩
abbrev main_c_4 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_11 : Ref sig .tc := ⟨.hbm, 111, rfl⟩
abbrev main_call2_v0 : Ref sig .tc := ⟨.hbm, 112, rfl⟩
abbrev main_v86 : Ref sig .tc := ⟨.hbm, 113, rfl⟩
abbrev main_v87_0 : Ref sig .tc := ⟨.hbm, 114, rfl⟩
abbrev main_v87_1 : Ref sig .tc := ⟨.hbm, 115, rfl⟩
abbrev main_v87_2 : Ref sig .tc := ⟨.hbm, 116, rfl⟩
abbrev main_v87_3 : Ref sig .tc := ⟨.hbm, 117, rfl⟩
abbrev main_v87_4 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg0 c2_i32
  let c0_i32_5 : BitVec 32 := 0#32
  let v16 : BitVec 1 := Scalar.cmpi .ne v15 c0_i32_5
  let v17 : BitVec 1 := Scalar.andi v14 v16
  let v3 : BitVec 32 := Scalar.divsi arg0 c2_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

@[reducible] def k0_t1_loop : Scf.Loop 32 :=
  let c0_i32_60 : BitVec 32 := 0#32
  let c4_i32 : BitVec 32 := 4#32
  let v160 : BitVec 32 := Scalar.addi c0_i32_60 c4_i32
  let c1_i32_61 : BitVec 32 := 1#32
  ⟨c0_i32_60, v160, c1_i32_61⟩
def k0_off1 (k0_t1 : Fin k0_t1_loop.trips) : Fin 2 → Nat :=
  let c0_i32_60 : BitVec 32 := 0#32
  let c1_i32_61 : BitVec 32 := 1#32
  let arg14 : BitVec 32 := Scf.iv c0_i32_60 c1_i32_61 k0_t1
  let v183 : Index := Scalar.indexCast arg14
  let c0_74 : Index := 0#32
  ![v183.toNat, 0]
def k0_cond3 (i : grid0.Coords) : BitVec 1 :=
  let arg0 : BitVec 32 := BitVec.ofNat 32 (i 0).val
  let c0_i32_9 : BitVec 32 := 0#32
  let v24 : BitVec 1 := Scalar.cmpi .sgt arg0 c0_i32_9
  let v25 : BitVec 32 := Scalar.extui v24
  let c0_i32_10 : BitVec 32 := 0#32
  let v26 : BitVec 1 := Scalar.cmpi .slt arg0 c0_i32_10
  let v27 : BitVec 32 := Scalar.extui v26
  let v28 : BitVec 32 := Scalar.subi v25 v27
  let c2_i32_8 : BitVec 32 := 2#32
  let c0_i32_11 : BitVec 32 := 0#32
  let v29 : BitVec 1 := Scalar.cmpi .sgt c2_i32_8 c0_i32_11
  let v30 : BitVec 32 := Scalar.extui v29
  let c0_i32_12 : BitVec 32 := 0#32
  let v31 : BitVec 1 := Scalar.cmpi .slt c2_i32_8 c0_i32_12
  let v32 : BitVec 32 := Scalar.extui v31
  let v33 : BitVec 32 := Scalar.subi v30 v32
  let v34 : BitVec 1 := Scalar.cmpi .ne v28 v33
  let v35 : BitVec 32 := Scalar.remsi arg0 c2_i32_8
  let c0_i32_13 : BitVec 32 := 0#32
  let v36 : BitVec 1 := Scalar.cmpi .ne v35 c0_i32_13
  let v37 : BitVec 1 := Scalar.andi v34 v36
  let v23 : BitVec 32 := Scalar.divsi arg0 c2_i32_8
  let c1_i32_14 : BitVec 32 := 1#32
  let v38 : BitVec 32 := Scalar.subi v23 c1_i32_14
  let v39 : BitVec 32 := Scalar.select v37 v38 v23
  let c1_i32_15 : BitVec 32 := 1#32
  let v40 : BitVec 1 := Scalar.cmpi .eq v39 c1_i32_15
  let v41 : BitVec 32 := Scalar.extui v40
  let c0_i32_16 : BitVec 32 := 0#32
  let v42 : BitVec 1 := Scalar.cmpi .ne v41 c0_i32_16
  v42

@[reducible] def k0_t2_loop : Scf.Loop 32 :=
  let c0_i32_60 : BitVec 32 := 0#32
  let c4_i32 : BitVec 32 := 4#32
  let v160 : BitVec 32 := Scalar.addi c0_i32_60 c4_i32
  let c1_i32_61 : BitVec 32 := 1#32
  ⟨c0_i32_60, v160, c1_i32_61⟩
def k0_off2 (k0_t2 : Fin k0_t2_loop.trips) : Fin 2 → Nat :=
  let c0_i32_60 : BitVec 32 := 0#32
  let c1_i32_61 : BitVec 32 := 1#32
  let arg14 : BitVec 32 := Scf.iv c0_i32_60 c1_i32_61 k0_t2
  let v183 : Index := Scalar.indexCast arg14
  let c0_74 : Index := 0#32
  ![v183.toNat, 0]
def k0_cond4 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .slt arg0 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi arg0 c2_i32_17
  let c0_i32_22 : BitVec 32 := 0#32
  let v56 : BitVec 1 := Scalar.cmpi .ne v55 c0_i32_22
  let v57 : BitVec 1 := Scalar.andi v54 v56
  let v43 : BitVec 32 := Scalar.divsi arg0 c2_i32_17
  let c1_i32_23 : BitVec 32 := 1#32
  let v58 : BitVec 32 := Scalar.subi v43 c1_i32_23
  let v59 : BitVec 32 := Scalar.select v57 v58 v43
  let c2_i32_24 : BitVec 32 := 2#32
  let v60 : BitVec 1 := Scalar.cmpi .eq v59 c2_i32_24
  let v61 : BitVec 32 := Scalar.extui v60
  let c0_i32_25 : BitVec 32 := 0#32
  let v62 : BitVec 1 := Scalar.cmpi .ne v61 c0_i32_25
  v62

@[reducible] def k0_t3_loop : Scf.Loop 32 :=
  let c0_i32_60 : BitVec 32 := 0#32
  let c4_i32 : BitVec 32 := 4#32
  let v160 : BitVec 32 := Scalar.addi c0_i32_60 c4_i32
  let c1_i32_61 : BitVec 32 := 1#32
  ⟨c0_i32_60, v160, c1_i32_61⟩
def k0_off3 (k0_t3 : Fin k0_t3_loop.trips) : Fin 2 → Nat :=
  let c0_i32_60 : BitVec 32 := 0#32
  let c1_i32_61 : BitVec 32 := 1#32
  let arg14 : BitVec 32 := Scf.iv c0_i32_60 c1_i32_61 k0_t3
  let v183 : Index := Scalar.indexCast arg14
  let c0_74 : Index := 0#32
  ![v183.toNat, 0]
def k0_cond5 (i : grid0.Coords) : BitVec 1 :=
  let arg0 : BitVec 32 := BitVec.ofNat 32 (i 0).val
  let c0_i32_27 : BitVec 32 := 0#32
  let v64 : BitVec 1 := Scalar.cmpi .sgt arg0 c0_i32_27
  let v65 : BitVec 32 := Scalar.extui v64
  let c0_i32_28 : BitVec 32 := 0#32
  let v66 : BitVec 1 := Scalar.cmpi .slt arg0 c0_i32_28
  let v67 : BitVec 32 := Scalar.extui v66
  let v68 : BitVec 32 := Scalar.subi v65 v67
  let c2_i32_26 : BitVec 32 := 2#32
  let c0_i32_29 : BitVec 32 := 0#32
  let v69 : BitVec 1 := Scalar.cmpi .sgt c2_i32_26 c0_i32_29
  let v70 : BitVec 32 := Scalar.extui v69
  let c0_i32_30 : BitVec 32 := 0#32
  let v71 : BitVec 1 := Scalar.cmpi .slt c2_i32_26 c0_i32_30
  let v72 : BitVec 32 := Scalar.extui v71
  let v73 : BitVec 32 := Scalar.subi v70 v72
  let v74 : BitVec 1 := Scalar.cmpi .ne v68 v73
  let v75 : BitVec 32 := Scalar.remsi arg0 c2_i32_26
  let c0_i32_31 : BitVec 32 := 0#32
  let v76 : BitVec 1 := Scalar.cmpi .ne v75 c0_i32_31
  let v77 : BitVec 1 := Scalar.andi v74 v76
  let v63 : BitVec 32 := Scalar.divsi arg0 c2_i32_26
  let c1_i32_32 : BitVec 32 := 1#32
  let v78 : BitVec 32 := Scalar.subi v63 c1_i32_32
  let v79 : BitVec 32 := Scalar.select v77 v78 v63
  let c3_i32 : BitVec 32 := 3#32
  let v80 : BitVec 1 := Scalar.cmpi .eq v79 c3_i32
  let v81 : BitVec 32 := Scalar.extui v80
  let c0_i32_33 : BitVec 32 := 0#32
  let v82 : BitVec 1 := Scalar.cmpi .ne v81 c0_i32_33
  v82

@[reducible] def k0_t4_loop : Scf.Loop 32 :=
  let c0_i32_60 : BitVec 32 := 0#32
  let c4_i32 : BitVec 32 := 4#32
  let v160 : BitVec 32 := Scalar.addi c0_i32_60 c4_i32
  let c1_i32_61 : BitVec 32 := 1#32
  ⟨c0_i32_60, v160, c1_i32_61⟩
def k0_off4 (k0_t4 : Fin k0_t4_loop.trips) : Fin 2 → Nat :=
  let c0_i32_60 : BitVec 32 := 0#32
  let c1_i32_61 : BitVec 32 := 1#32
  let arg14 : BitVec 32 := Scf.iv c0_i32_60 c1_i32_61 k0_t4
  let v183 : Index := Scalar.indexCast arg14
  let c0_74 : Index := 0#32
  ![v183.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2176x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2176x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S272x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x2176 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2176x256 : Shape := ⟨2, ![2176, 256]⟩
abbrev S2176x128 : Shape := ⟨2, ![2176, 128]⟩
abbrev S128x2176 : Shape := ⟨2, ![128, 2176]⟩
abbrev S2176x4x64 : Shape := ⟨3, ![2176, 4, 64]⟩
abbrev S4x2176x2176 : Shape := ⟨3, ![4, 2176, 2176]⟩
abbrev S_ : Shape := ⟨0, ![]⟩
abbrev S2176x4 : Shape := ⟨2, ![2176, 4]⟩
abbrev S4x2176 : Shape := ⟨2, ![4, 2176]⟩
abbrev S4x2176x1 : Shape := ⟨3, ![4, 2176, 1]⟩
abbrev S4x1x2176 : Shape := ⟨3, ![4, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S4x64x2176 : Shape := ⟨3, ![4, 64, 2176]⟩
abbrev S4x2176x64 : Shape := ⟨3, ![4, 2176, 64]⟩

abbrev nBuf : Space → Nat
  | .hbm => 135
  | .vmem => 0
  | .smem => 0
  | _ => 0

abbrev hbmTy0_0 (i : Nat) : BufTy := match i % 128 with
  | 0 => ⟨S2176x256, .f32⟩
  | 1 => ⟨S2176x256, .f32⟩
  | 2 => ⟨S2176x256, .f32⟩
  | 3 => ⟨S2176x128, .f32⟩
  | 4 => ⟨S128x2176, .f32⟩
  | 5 => ⟨S2176x256, .f32⟩
  | 6 => ⟨S2176x4x64, .f32⟩
  | 7 => ⟨S2176x4x64, .f32⟩
  | 8 => ⟨S4x2176x2176, .f32⟩
  | 9 => ⟨S_, .f32⟩
  | 10 => ⟨S4x2176x2176, .f32⟩
  | 11 => ⟨S4x2176x2176, .f32⟩
  | 12 => ⟨S2176x4, .f32⟩
  | 13 => ⟨S4x2176, .f32⟩
  | 14 => ⟨S4x2176x1, .f32⟩
  | 15 => ⟨S4x2176, .f32⟩
  | 16 => ⟨S4x1x2176, .f32⟩
  | 17 => ⟨S4x2176x2176, .f32⟩
  | 18 => ⟨S4x2176x2176, .f32⟩
  | 19 => ⟨S4x2176x2176, .f32⟩
  | 20 => ⟨S4x2176x2176, .f32⟩
  | 21 => ⟨S2176, .i32⟩
  | 22 => ⟨S2176x1, .i32⟩
  | 23 => ⟨S2176, .i32⟩
  | 24 => ⟨S1x2176, .i32⟩
  | 25 => ⟨S2176x2176, .i32⟩
  | 26 => ⟨S2176x2176, .i32⟩
  | 27 => ⟨S2176x2176, .i1⟩
  | 28 => ⟨S_, .i32⟩
  | 29 => ⟨S1x2176, .i32⟩
  | 30 => ⟨S1x2176, .i1⟩
  | 31 => ⟨S_, .i32⟩
  | 32 => ⟨S2176x1, .i32⟩
  | 33 => ⟨S2176x1, .i1⟩
  | 34 => ⟨S2176x2176, .i1⟩
  | 35 => ⟨S2176x2176, .i1⟩
  | 36 => ⟨S2176x2176, .i1⟩
  | 37 => ⟨S2176x2176, .i1⟩
  | 38 => ⟨S_, .f32⟩
  | 39 => ⟨S_, .f32⟩
  | 40 => ⟨S4x2176x2176, .i1⟩
  | 41 => ⟨S4x2176x2176, .f32⟩
  | 42 => ⟨S4x2176x2176, .f32⟩
  | 43 => ⟨S_, .f32⟩
  | 44 => ⟨S4x2176x2176, .f32⟩
  | 45 => ⟨S_, .f32⟩
  | 46 => ⟨S4x2176, .f32⟩
  | 47 => ⟨S4x2176x1, .f32⟩
  | 48 => ⟨S4x2176x2176, .f32⟩
  | 49 => ⟨S4x2176x2176, .i1⟩
  | 50 => ⟨S4x2176x2176, .f32⟩
  | 51 => ⟨S_, .f32⟩
  | 52 => ⟨S4x2176, .f32⟩
  | 53 => ⟨S_, .f32⟩
  | 54 => ⟨S4x2176, .f32⟩
  | 55 => ⟨S4x2176, .f32⟩
  | 56 => ⟨S_, .f32⟩
  | 57 => ⟨S4x2176, .f32⟩
  | 58 => ⟨S4x2176, .i1⟩
  | 59 => ⟨S_, .f32⟩
  | 60 => ⟨S4x2176, .f32⟩
  | 61 => ⟨S4x2176, .i1⟩
  | 62 => ⟨S_, .f32⟩
  | 63 => ⟨S4x2176, .f32⟩
  | 64 => ⟨S_, .f32⟩
  | 65 => ⟨S4x2176, .f32⟩
  | 66 => ⟨S_, .f32⟩
  | 67 => ⟨S4x2176, .f32⟩
  | 68 => ⟨S4x2176, .f32⟩
  | 69 => ⟨S4x2176, .f32⟩
  | 70 => ⟨S4x2176x1, .f32⟩
  | 71 => ⟨S4x2176x2176, .f32⟩
  | 72 => ⟨S4x2176x2176, .f32⟩
  | 73 => ⟨S4x2176x2176, .f32⟩
  | 74 => ⟨S_, .f32⟩
  | 75 => ⟨S4x2176, .f32⟩
  | 76 => ⟨S4x2176x1, .f32⟩
  | 77 => ⟨S4x2176x2176, .f32⟩
  | 78 => ⟨S4x2176x2176, .f32⟩
  | 79 => ⟨S4x2176x1, .f32⟩
  | 80 => ⟨S_, .f32⟩
  | 81 => ⟨S4x2176x1, .f32⟩
  | 82 => ⟨S4x2176x1, .f32⟩
  | 83 => ⟨S2176x4x64, .f32⟩
  | 84 => ⟨S4x64x2176, .f32⟩
  | 85 => ⟨S2176x4x64, .f32⟩
  | 86 => ⟨S2176x256, .f32⟩
  | 87 => ⟨S2176x4x64, .f32⟩
  | 88 => ⟨S4x64x2176, .f32⟩
  | 89 => ⟨S4x2176x2176, .f32⟩
  | 90 => ⟨S4x64x2176, .f32⟩
  | 91 => ⟨S2176x4x64, .f32⟩
  | 92 => ⟨S2176x256, .f32⟩
  | 93 => ⟨S4x2176x2176, .f32⟩
  | 94 => ⟨S4x2176x2176, .f32⟩
  | 95 => ⟨S4x2176x2176, .f32⟩
  | 96 => ⟨S_, .f32⟩
  | 97 => ⟨S4x2176, .f32⟩
  | 98 => ⟨S4x2176x1, .f32⟩
  | 99 => ⟨S4x2176x1, .f32⟩
  | 100 => ⟨S4x2176x2176, .f32⟩
  | 101 => ⟨S4x2176x2176, .f32⟩
  | 102 => ⟨S_, .f32⟩
  | 103 => ⟨S4x2176, .f32⟩
  | 104 => ⟨S4x2176x2176, .f32⟩
  | 105 => ⟨S4x2176x2176, .f32⟩
  | 106 => ⟨S4x2176x2176, .f32⟩
  | 107 => ⟨S_, .f32⟩
  | 108 => ⟨S4x2176x2176, .f32⟩
  | 109 => ⟨S4x2176x2176, .f32⟩
  | 110 => ⟨S_, .f32⟩
  | 111 => ⟨S4x2176, .f32⟩
  | 112 => ⟨S4x2176x1, .f32⟩
  | 113 => ⟨S4x2176x2176, .f32⟩
  | 114 => ⟨S_, .f32⟩
  | 115 => ⟨S4x2176, .f32⟩
  | 116 => ⟨S4x1x2176, .f32⟩
  | 117 => ⟨S_, .f32⟩
  | 118 => ⟨S4x2176, .f32⟩
  | 119 => ⟨S_, .f32⟩
  | 120 => ⟨S128x2176, .f32⟩
  | 121 => ⟨S_, .f32⟩
  | 122 => ⟨S4x2176, .f32⟩
  | 123 => ⟨S2176x4, .f32⟩
  | 124 => ⟨S_, .f32⟩
  | 125 => ⟨S2176x128, .f32⟩
  | 126 => ⟨S_, .f32⟩
  | 127 => ⟨S4x2176x2176, .f32⟩
  | _ => ⟨S2176x256, .f32⟩

abbrev hbmTy0_1 (i : Nat) : BufTy := match i % 128 with
  | 0 => ⟨S4x2176x2176, .f32⟩
  | 1 => ⟨S4x2176x64, .f32⟩
  | 2 => ⟨S2176x4x64, .f32⟩
  | 3 => ⟨S4x2176x64, .f32⟩
  | 4 => ⟨S2176x4x64, .f32⟩
  | 5 => ⟨S2176x256, .f32⟩
  | 6 => ⟨S2176x256, .f32⟩
  | _ => ⟨S2176x256, .f32⟩

abbrev hbmTy (i : Nat) : BufTy := match i / 128 with
  | 0 => hbmTy0_0 i
  | 1 => hbmTy0_1 i
  | _ => ⟨S2176x256, .f32⟩

abbrev bufTy : (tb : Table) → Fin (tcTables nBuf tb) → BufTy
  | .hbm, ⟨i, _⟩ => hbmTy i
  | _, _ => ⟨S2176x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_call0_v0 : Ref sig .tc := ⟨.hbm, 39, rfl⟩
abbrev main_v29_1 : Ref sig .tc := ⟨.hbm, 40, rfl⟩
abbrev main_call0_v2 : Ref sig .tc := ⟨.hbm, 41, rfl⟩
abbrev main_v29_0 : Ref sig .tc := ⟨.hbm, 42, rfl⟩
abbrev main_call0_cst : Ref sig .tc := ⟨.hbm, 43, rfl⟩
abbrev main_v29_2 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call1_cst : Ref sig .tc := ⟨.hbm, 107, rfl⟩
abbrev main_call1_v0 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]
-- ==== Gate.lean ====
abbrev S2176x1024 : Shape := ⟨2, ![2176, 1024]⟩
abbrev S4x768x1024 : Shape := ⟨3, ![4, 768, 1024]⟩
abbrev S2176x3072 : Shape := ⟨2, ![2176, 3072]⟩
abbrev S1088x1024 : Shape := ⟨2, ![1088, 1024]⟩
abbrev S1x768x1024 : Shape := ⟨3, ![1, 768, 1024]⟩
abbrev S1088x768 : Shape := ⟨2, ![1088, 768]⟩
abbrev S768x1024 : Shape := ⟨2, ![768, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2176x1024, .bf16⟩
  | .hbm, ⟨1, _⟩ => ⟨S4x768x1024, .bf16⟩
  | .hbm, ⟨2, _⟩ => ⟨S2176x3072, .f32⟩
  | .hbm, ⟨3, _⟩ => ⟨S2176x3072, .f32⟩
  | .hbm, ⟨4, _⟩ => ⟨S2176x3072, .bf16⟩
  | .hbm, ⟨5, _⟩ => ⟨S2176x3072, .bf16⟩
  | .local _ .vmem, ⟨0, _⟩ => ⟨S1088x1024, .bf16⟩
  | .local _ .vmem, ⟨1, _⟩ => ⟨S1088x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1088x768, .f32⟩
  | .local _ .vmem, ⟨5, _⟩ => ⟨S1088x768, .f32⟩
  | .local _ .vmem, ⟨6, _⟩ => ⟨S1088x768, .f32⟩
  | .local _ .vmem, ⟨7, _⟩ => ⟨S1088x768, .f32⟩
  | .local _ .vmem, ⟨8, _⟩ => ⟨S1088x768, .bf16⟩
  | .local _ .vmem, ⟨9, _⟩ => ⟨S1088x768, .bf16⟩
  | .local _ .vmem, ⟨10, _⟩ => ⟨S1088x768, .bf16⟩
  | .local _ .vmem, ⟨11, _⟩ => ⟨S1088x768, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateIdeal.lean ====
abbrev S2176x1024 : Shape := ⟨2, ![2176, 1024]⟩
abbrev S4x768x1024 : Shape := ⟨3, ![4, 768, 1024]⟩
abbrev S2176x3072 : Shape := ⟨2, ![2176, 3072]⟩
abbrev S1088x1024 : Shape := ⟨2, ![1088, 1024]⟩
abbrev S1x768x1024 : Shape := ⟨3, ![1, 768, 1024]⟩
abbrev S1088x768 : Shape := ⟨2, ![1088, 768]⟩
abbrev S768x1024 : Shape := ⟨2, ![768, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2176x1024, .bf16⟩
  | .hbm, ⟨1, _⟩ => ⟨S4x768x1024, .bf16⟩
  | .hbm, ⟨2, _⟩ => ⟨S2176x3072, .f32⟩
  | .hbm, ⟨3, _⟩ => ⟨S2176x3072, .f32⟩
  | .hbm, ⟨4, _⟩ => ⟨S2176x3072, .bf16⟩
  | .hbm, ⟨5, _⟩ => ⟨S2176x3072, .bf16⟩
  | .local _ .vmem, ⟨0, _⟩ => ⟨S1088x1024, .bf16⟩
  | .local _ .vmem, ⟨1, _⟩ => ⟨S1088x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1088x768, .f32⟩
  | .local _ .vmem, ⟨5, _⟩ => ⟨S1088x768, .f32⟩
  | .local _ .vmem, ⟨6, _⟩ => ⟨S1088x768, .f32⟩
  | .local _ .vmem, ⟨7, _⟩ => ⟨S1088x768, .f32⟩
  | .local _ .vmem, ⟨8, _⟩ => ⟨S1088x768, .bf16⟩
  | .local _ .vmem, ⟨9, _⟩ => ⟨S1088x768, .bf16⟩
  | .local _ .vmem, ⟨10, _⟩ => ⟨S1088x768, .bf16⟩
  | .local _ .vmem, ⟨11, _⟩ => ⟨S1088x768, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S2176x1024 : Shape := ⟨2, ![2176, 1024]⟩
abbrev S4x768x1024 : Shape := ⟨3, ![4, 768, 1024]⟩
abbrev S2176x3072 : Shape := ⟨2, ![2176, 3072]⟩
abbrev S_ : Shape := ⟨0, ![]⟩
abbrev S3072x1024 : Shape := ⟨2, ![3072, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x768x1024, .bf16⟩
  | .hbm, ⟨2, _⟩ => ⟨S2176x3072, .f32⟩
  | .hbm, ⟨3, _⟩ => ⟨S2176x3072, .f32⟩
  | .hbm, ⟨4, _⟩ => ⟨S2176x3072, .f32⟩
  | .hbm, ⟨5, _⟩ => ⟨S2176x3072, .f32⟩
  | .hbm, ⟨6, _⟩ => ⟨S_, .f32⟩
  | .hbm, ⟨7, _⟩ => ⟨S2176x3072, .f32⟩
  | .hbm, ⟨8, _⟩ => ⟨S2176x3072, .f32⟩
  | .hbm, ⟨9, _⟩ => ⟨S_, .f32⟩
  | .hbm, ⟨10, _⟩ => ⟨S2176x3072, .f32⟩
  | .hbm, ⟨11, _⟩ => ⟨S2176x3072, .f32⟩
  | .hbm, ⟨12, _⟩ => ⟨S_, .f32⟩
  | .hbm, ⟨13, _⟩ => ⟨S2176x3072, .f32⟩
  | .hbm, ⟨14, _⟩ => ⟨S2176x3072, .f32⟩
  | .hbm, ⟨15, _⟩ => ⟨S2176x3072, .f32⟩
  | .hbm, ⟨16, _⟩ => ⟨S2176x3072, .f32⟩
  | .hbm, ⟨17, _⟩ => ⟨S2176x3072, .f32⟩
  | .hbm, ⟨18, _⟩ => ⟨S3072x1024, .bf16⟩
  | .hbm, ⟨19, _⟩ => ⟨S3072x1024, .f32⟩
  | .hbm, ⟨20, _⟩ => ⟨S2176x1024, .f32⟩
  | .hbm, ⟨21, _⟩ => ⟨S2176x1024, .f32⟩
  | .hbm, ⟨22, _⟩ => ⟨S2176x3072, .f32⟩
  | .hbm, ⟨23, _⟩ => ⟨S2176x3072, .f32⟩
  | .hbm, ⟨24, _⟩ => ⟨S2176x3072, .f32⟩
  | .hbm, ⟨25, _⟩ => ⟨S2176x3072, .f32⟩
  | .hbm, ⟨26, _⟩ => ⟨S2176x3072, .f32⟩
  | .hbm, ⟨27, _⟩ => ⟨S2176x3072, .f32⟩
  | .hbm, ⟨28, _⟩ => ⟨S2176x3072, .f32⟩
  | .hbm, ⟨29, _⟩ => ⟨S2176x3072, .bf16⟩
  | .hbm, ⟨30, _⟩ => ⟨S2176x3072, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DownW.lean ====
abbrev S2176x3072 : Shape := ⟨2, ![2176, 3072]⟩
abbrev S2176x1024 : Shape := ⟨2, ![2176, 1024]⟩
abbrev S4x768x1024 : Shape := ⟨3, ![4, 768, 1024]⟩
abbrev S2176x768 : Shape := ⟨2, ![2176, 768]⟩
abbrev S1x768x1024 : Shape := ⟨3, ![1, 768, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x3072, .bf16⟩
  | .hbm, ⟨1, _⟩ => ⟨S2176x1024, .bf16⟩
  | .hbm, ⟨2, _⟩ => ⟨S4x768x1024, .f32⟩
  | .local _ .vmem, ⟨0, _⟩ => ⟨S2176x768, .bf16⟩
  | .local _ .vmem, ⟨1, _⟩ => ⟨S2176x768, .bf16⟩
  | .local _ .vmem, ⟨2, _⟩ => ⟨S2176x1024, .bf16⟩
  | .local _ .vmem, ⟨3, _⟩ => ⟨S1x768x1024, .f32⟩
  | .local _ .vmem, ⟨4, _⟩ => ⟨S1x768x1024, .f32⟩
  | .local _ .vmem, ⟨5, _⟩ => ⟨S768x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownWIdeal.lean ====
abbrev S2176x3072 : Shape := ⟨2, ![2176, 3072]⟩
abbrev S2176x1024 : Shape := ⟨2, ![2176, 1024]⟩
abbrev S4x768x1024 : Shape := ⟨3, ![4, 768, 1024]⟩
abbrev S2176x768 : Shape := ⟨2, ![2176, 768]⟩
abbrev S1x768x1024 : Shape := ⟨3, ![1, 768, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x3072, .bf16⟩
  | .hbm, ⟨1, _⟩ => ⟨S2176x1024, .bf16⟩
  | .hbm, ⟨2, _⟩ => ⟨S4x768x1024, .f32⟩
  | .local _ .vmem, ⟨0, _⟩ => ⟨S2176x768, .bf16⟩
  | .local _ .vmem, ⟨1, _⟩ => ⟨S2176x768, .bf16⟩
  | .local _ .vmem, ⟨2, _⟩ => ⟨S2176x1024, .bf16⟩
  | .local _ .vmem, ⟨3, _⟩ => ⟨S1x768x1024, .f32⟩
  | .local _ .vmem, ⟨4, _⟩ => ⟨S1x768x1024, .f32⟩
  | .local _ .vmem, ⟨5, _⟩ => ⟨S768x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownWRefIdeal.lean ====
abbrev S2176x3072 : Shape := ⟨2, ![2176, 3072]⟩
abbrev S2176x1024 : Shape := ⟨2, ![2176, 1024]⟩
abbrev S_ : Shape := ⟨0, ![]⟩
abbrev S4x768x1024 : Shape := ⟨3, ![4, 768, 1024]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S2176x3072, .bf16⟩
  | .hbm, ⟨1, _⟩ => ⟨S2176x1024, .bf16⟩
  | .hbm, ⟨2, _⟩ => ⟨S_, .f32⟩
  | .hbm, ⟨3, _⟩ => ⟨S4x768x1024, .f32⟩
  | .hbm, ⟨4, _⟩ => ⟨S2176x3072, .f32⟩
  | .hbm, ⟨5, _⟩ => ⟨S3072x1024, .f32⟩
  | .hbm, ⟨6, _⟩ => ⟨S2176x1024, .f32⟩
  | .hbm, ⟨7, _⟩ => ⟨S2176x1024, .f32⟩
  | .hbm, ⟨8, _⟩ => ⟨S1024x3072, .f32⟩
  | .hbm, ⟨9, _⟩ => ⟨S3072x1024, .f32⟩
  | .hbm, ⟨10, _⟩ => ⟨S4x768x1024, .f32⟩
  | _, _ => ⟨S2176x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateW.lean ====
abbrev S2176x3072 : Shape := ⟨2, ![2176, 3072]⟩
abbrev S2176x1024 : Shape := ⟨2, ![2176, 1024]⟩
abbrev S4x768x1024 : Shape := ⟨3, ![4, 768, 1024]⟩
abbrev S2176x768 : Shape := ⟨2, ![2176, 768]⟩
abbrev S1x768x1024 : Shape := ⟨3, ![1, 768, 1024]⟩
abbrev S768x1024 : Shape := ⟨2, ![768, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2176x3072, .bf16⟩
  | .hbm, ⟨1, _⟩ => ⟨S2176x3072, .bf16⟩
  | .hbm, ⟨2, _⟩ => ⟨S2176x1024, .bf16⟩
  | .hbm, ⟨3, _⟩ => ⟨S4x768x1024, .f32⟩
  | .hbm, ⟨4, _⟩ => ⟨S4x768x1024, .f32⟩
  | .local _ .vmem, ⟨0, _⟩ => ⟨S2176x768, .bf16⟩
  | .local _ .vmem, ⟨1, _⟩ => ⟨S2176x768, .bf16⟩
  | .local _ .vmem, ⟨2, _⟩ => ⟨S2176x768, .bf16⟩
  | .local _ .vmem, ⟨3, _⟩ => ⟨S2176x768, .bf16⟩
  | .local _ .vmem, ⟨4, _⟩ => ⟨S2176x1024, .bf16⟩
  | .local _ .vmem, ⟨5, _⟩ => ⟨S1x768x1024, .f32⟩
  | .local _ .vmem, ⟨6, _⟩ => ⟨S1x768x1024, .f32⟩
  | .local _ .vmem, ⟨7, _⟩ => ⟨S1x768x1024, .f32⟩
  | .local _ .vmem, ⟨8, _⟩ => ⟨S1x768x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateWIdeal.lean ====
abbrev S2176x3072 : Shape := ⟨2, ![2176, 3072]⟩
abbrev S2176x1024 : Shape := ⟨2, ![2176, 1024]⟩
abbrev S4x768x1024 : Shape := ⟨3, ![4, 768, 1024]⟩
abbrev S2176x768 : Shape := ⟨2, ![2176, 768]⟩
abbrev S1x768x1024 : Shape := ⟨3, ![1, 768, 1024]⟩
abbrev S768x1024 : Shape := ⟨2, ![768, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2176x3072, .bf16⟩
  | .hbm, ⟨1, _⟩ => ⟨S2176x3072, .bf16⟩
  | .hbm, ⟨2, _⟩ => ⟨S2176x1024, .bf16⟩
  | .hbm, ⟨3, _⟩ => ⟨S4x768x1024, .f32⟩
  | .hbm, ⟨4, _⟩ => ⟨S4x768x1024, .f32⟩
  | .local _ .vmem, ⟨0, _⟩ => ⟨S2176x768, .bf16⟩
  | .local _ .vmem, ⟨1, _⟩ => ⟨S2176x768, .bf16⟩
  | .local _ .vmem, ⟨2, _⟩ => ⟨S2176x768, .bf16⟩
  | .local _ .vmem, ⟨3, _⟩ => ⟨S2176x768, .bf16⟩
  | .local _ .vmem, ⟨4, _⟩ => ⟨S2176x1024, .bf16⟩
  | .local _ .vmem, ⟨5, _⟩ => ⟨S1x768x1024, .f32⟩
  | .local _ .vmem, ⟨6, _⟩ => ⟨S1x768x1024, .f32⟩
  | .local _ .vmem, ⟨7, _⟩ => ⟨S1x768x1024, .f32⟩
  | .local _ .vmem, ⟨8, _⟩ => ⟨S1x768x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateWRefIdeal.lean ====
abbrev S2176x3072 : Shape := ⟨2, ![2176, 3072]⟩
abbrev S2176x1024 : Shape := ⟨2, ![2176, 1024]⟩
abbrev S_ : Shape := ⟨0, ![]⟩
abbrev S4x768x1024 : Shape := ⟨3, ![4, 768, 1024]⟩
abbrev S3072x1024 : Shape := ⟨2, ![3072, 1024]⟩
abbrev S1024x3072 : Shape := ⟨2, ![1024, 3072]⟩

abbrev nBuf : Space → Nat
  | .hbm => 22
  | .vmem => 0
  | .smem => 0
  | _ => 0

abbrev bufTy : (tb : Table) → Fin (tcTables nBuf tb) → BufTy
  | .hbm, ⟨0, _⟩ => ⟨S2176x3072, .bf16⟩
  | .hbm, ⟨1, _⟩ => ⟨S2176x3072, .bf16⟩
  | .hbm, ⟨2, _⟩ => ⟨S2176x1024, .bf16⟩
  | .hbm, ⟨3, _⟩ => ⟨S_, .f32⟩
  | .hbm, ⟨4, _⟩ => ⟨S4x768x1024, .f32⟩
  | .hbm, ⟨5, _⟩ => ⟨S2176x1024, .f32⟩
  | .hbm, ⟨6, _⟩ => ⟨S3072x1024, .f32⟩
  | .hbm, ⟨7, _⟩ => ⟨S1024x3072, .f32⟩
  | .hbm, ⟨8, _⟩ => ⟨S2176x3072, .f32⟩
  | .hbm, ⟨9, _⟩ => ⟨S3072x1024, .f32⟩
  | .hbm, ⟨10, _⟩ => ⟨S1024x3072, .f32⟩
  | .hbm, ⟨11, _⟩ => ⟨S2176x3072, .f32⟩
  | .hbm, ⟨12, _⟩ => ⟨S2176x3072, .f32⟩
  | .hbm, ⟨13, _⟩ => ⟨S2176x3072, .f32⟩
  | .hbm, ⟨14, _⟩ => ⟨S3072x1024, .f32⟩
  | .hbm, ⟨15, _⟩ => ⟨S1024x3072, .f32⟩
  | .hbm, ⟨16, _⟩ => ⟨S3072x1024, .f32⟩
  | .hbm, ⟨17, _⟩ => ⟨S4x768x1024, .f32⟩
  | .hbm, ⟨18, _⟩ => ⟨S3072x1024, .f32⟩
  | .hbm, ⟨19, _⟩ => ⟨S1024x3072, .f32⟩
  | .hbm, ⟨20, _⟩ => ⟨S3072x1024, .f32⟩
  | .hbm, ⟨21, _⟩ => ⟨S4x768x1024, .f32⟩
  | _, _ => ⟨S2176x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== GateX.lean ====
abbrev S2176x3072 : Shape := ⟨2, ![2176, 3072]⟩
abbrev S4x768x1024 : Shape := ⟨3, ![4, 768, 1024]⟩
abbrev S2176x1024 : Shape := ⟨2, ![2176, 1024]⟩
abbrev S1088x768 : Shape := ⟨2, ![1088, 768]⟩
abbrev S1x768x1024 : Shape := ⟨3, ![1, 768, 1024]⟩
abbrev S1088x1024 : Shape := ⟨2, ![1088, 1024]⟩
abbrev S768x1024 : Shape := ⟨2, ![768, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2176x3072, .bf16⟩
  | .hbm, ⟨1, _⟩ => ⟨S2176x3072, .bf16⟩
  | .hbm, ⟨2, _⟩ => ⟨S4x768x1024, .bf16⟩
  | .hbm, ⟨3, _⟩ => ⟨S4x768x1024, .bf16⟩
  | .hbm, ⟨4, _⟩ => ⟨S2176x1024, .f32⟩
  | .hbm, ⟨5, _⟩ => ⟨S2176x1024, .f32⟩
  | .local _ .vmem, ⟨0, _⟩ => ⟨S1088x768, .bf16⟩
  | .local _ .vmem, ⟨1, _⟩ => ⟨S1088x768, .bf16⟩
  | .local _ .vmem, ⟨2, _⟩ => ⟨S1088x768, .bf16⟩
  | .local _ .vmem, ⟨3, _⟩ => ⟨S1088x768, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GateXIdeal.lean ====
abbrev S2176x3072 : Shape := ⟨2, ![2176, 3072]⟩
abbrev S4x768x1024 : Shape := ⟨3, ![4, 768, 1024]⟩
abbrev S2176x1024 : Shape := ⟨2, ![2176, 1024]⟩
abbrev S1088x768 : Shape := ⟨2, ![1088, 768]⟩
abbrev S1x768x1024 : Shape := ⟨3, ![1, 768, 1024]⟩
abbrev S1088x1024 : Shape := ⟨2, ![1088, 1024]⟩
abbrev S768x1024 : Shape := ⟨2, ![768, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2176x3072, .bf16⟩
  | .hbm, ⟨1, _⟩ => ⟨S2176x3072, .bf16⟩
  | .hbm, ⟨2, _⟩ => ⟨S4x768x1024, .bf16⟩
  | .hbm, ⟨3, _⟩ => ⟨S4x768x1024, .bf16⟩
  | .hbm, ⟨4, _⟩ => ⟨S2176x1024, .f32⟩
  | .hbm, ⟨5, _⟩ => ⟨S2176x1024, .f32⟩
  | .local _ .vmem, ⟨0, _⟩ => ⟨S1088x768, .bf16⟩
  | .local _ .vmem, ⟨1, _⟩ => ⟨S1088x768, .bf16⟩
  | .local _ .vmem, ⟨2, _⟩ => ⟨S1088x768, .bf16⟩
  | .local _ .vmem, ⟨3, _⟩ => ⟨S1088x768, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GateXRefIdeal.lean ====
abbrev S2176x3072 : Shape := ⟨2, ![2176, 3072]⟩
abbrev S4x768x1024 : Shape := ⟨3, ![4, 768, 1024]⟩
abbrev S2176x1024 : Shape := ⟨2, ![2176, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 21
  | .vmem => 0
  | .smem => 0
  | _ => 0

abbrev bufTy : (tb : Table) → Fin (tcTables nBuf tb) → BufTy
  | .hbm, ⟨0, _⟩ => ⟨S2176x3072, .bf16⟩
  | .hbm, ⟨1, _⟩ => ⟨S2176x3072, .bf16⟩
  | .hbm, ⟨2, _⟩ => ⟨S4x768x1024, .bf16⟩
  | .hbm, ⟨3, _⟩ => ⟨S4x768x1024, .bf16⟩
  | .hbm, ⟨4, _⟩ => ⟨S2176x1024, .f32⟩
  | .hbm, ⟨5, _⟩ => ⟨S_, .f32⟩
  | .hbm, ⟨6, _⟩ => ⟨S2176x1024, .f32⟩
  | .hbm, ⟨7, _⟩ => ⟨S3072x1024, .bf16⟩
  | .hbm, ⟨8, _⟩ => ⟨S3072x1024, .f32⟩
  | .hbm, ⟨9, _⟩ => ⟨S1024x3072, .f32⟩
  | .hbm, ⟨10, _⟩ => ⟨S2176x3072, .f32⟩
  | .hbm, ⟨11, _⟩ => ⟨S3072x1024, .bf16⟩
  | .hbm, ⟨12, _⟩ => ⟨S3072x1024, .f32⟩
  | .hbm, ⟨13, _⟩ => ⟨S1024x3072, .f32⟩
  | .hbm, ⟨14, _⟩ => ⟨S2176x3072, .f32⟩
  | .hbm, ⟨15, _⟩ => ⟨S2176x3072, .f32⟩
  | .hbm, ⟨16, _⟩ => ⟨S2176x3072, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .f32⟩
  | _, _ => ⟨S2176x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Up.lean ====
abbrev S2176x1024 : Shape := ⟨2, ![2176, 1024]⟩
abbrev S4x768x1024 : Shape := ⟨3, ![4, 768, 1024]⟩
abbrev S2176x3072 : Shape := ⟨2, ![2176, 3072]⟩
abbrev S1088x1024 : Shape := ⟨2, ![1088, 1024]⟩
abbrev S1x768x1024 : Shape := ⟨3, ![1, 768, 1024]⟩
abbrev S1088x768 : Shape := ⟨2, ![1088, 768]⟩
abbrev S768x1024 : Shape := ⟨2, ![768, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2176x1024, .bf16⟩
  | .hbm, ⟨1, _⟩ => ⟨S4x768x1024, .bf16⟩
  | .hbm, ⟨2, _⟩ => ⟨S4x768x1024, .bf16⟩
  | .hbm, ⟨3, _⟩ => ⟨S2176x3072, .f32⟩
  | .hbm, ⟨4, _⟩ => ⟨S2176x3072, .f32⟩
  | .hbm, ⟨5, _⟩ => ⟨S2176x3072, .bf16⟩
  | .local _ .vmem, ⟨0, _⟩ => ⟨S1088x1024, .bf16⟩
  | .local _ .vmem, ⟨1, _⟩ => ⟨S1088x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1088x768, .f32⟩
  | .local _ .vmem, ⟨7, _⟩ => ⟨S1088x768, .f32⟩
  | .local _ .vmem, ⟨8, _⟩ => ⟨S1088x768, .f32⟩
  | .local _ .vmem, ⟨9, _⟩ => ⟨S1088x768, .f32⟩
  | .local _ .vmem, ⟨10, _⟩ => ⟨S1088x768, .bf16⟩
  | .local _ .vmem, ⟨11, _⟩ => ⟨S1088x768, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpIdeal.lean ====
abbrev S2176x1024 : Shape := ⟨2, ![2176, 1024]⟩
abbrev S4x768x1024 : Shape := ⟨3, ![4, 768, 1024]⟩
abbrev S2176x3072 : Shape := ⟨2, ![2176, 3072]⟩
abbrev S1088x1024 : Shape := ⟨2, ![1088, 1024]⟩
abbrev S1x768x1024 : Shape := ⟨3, ![1, 768, 1024]⟩
abbrev S1088x768 : Shape := ⟨2, ![1088, 768]⟩
abbrev S768x1024 : Shape := ⟨2, ![768, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2176x1024, .bf16⟩
  | .hbm, ⟨1, _⟩ => ⟨S4x768x1024, .bf16⟩
  | .hbm, ⟨2, _⟩ => ⟨S4x768x1024, .bf16⟩
  | .hbm, ⟨3, _⟩ => ⟨S2176x3072, .f32⟩
  | .hbm, ⟨4, _⟩ => ⟨S2176x3072, .f32⟩
  | .hbm, ⟨5, _⟩ => ⟨S2176x3072, .bf16⟩
  | .local _ .vmem, ⟨0, _⟩ => ⟨S1088x1024, .bf16⟩
  | .local _ .vmem, ⟨1, _⟩ => ⟨S1088x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1088x768, .f32⟩
  | .local _ .vmem, ⟨7, _⟩ => ⟨S1088x768, .f32⟩
  | .local _ .vmem, ⟨8, _⟩ => ⟨S1088x768, .f32⟩
  | .local _ .vmem, ⟨9, _⟩ => ⟨S1088x768, .f32⟩
  | .local _ .vmem, ⟨10, _⟩ => ⟨S1088x768, .bf16⟩
  | .local _ .vmem, ⟨11, _⟩ => ⟨S1088x768, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S2176x1024 : Shape := ⟨2, ![2176, 1024]⟩
abbrev S4x768x1024 : Shape := ⟨3, ![4, 768, 1024]⟩
abbrev S3072x1024 : Shape := ⟨2, ![3072, 1024]⟩
abbrev S1024x3072 : Shape := ⟨2, ![1024, 3072]⟩
abbrev S2176x3072 : Shape := ⟨2, ![2176, 3072]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x768x1024, .bf16⟩
  | .hbm, ⟨2, _⟩ => ⟨S4x768x1024, .bf16⟩
  | .hbm, ⟨3, _⟩ => ⟨S2176x1024, .f32⟩
  | .hbm, ⟨4, _⟩ => ⟨S3072x1024, .bf16⟩
  | .hbm, ⟨5, _⟩ => ⟨S3072x1024, .f32⟩
  | .hbm, ⟨6, _⟩ => ⟨S1024x3072, .f32⟩
  | .hbm, ⟨7, _⟩ => ⟨S2176x3072, .f32⟩
  | .hbm, ⟨8, _⟩ => ⟨S3072x1024, .bf16⟩
  | .hbm, ⟨9, _⟩ => ⟨S3072x1024, .f32⟩
  | .hbm, ⟨10, _⟩ => ⟨S1024x3072, .f32⟩
  | .hbm, ⟨11, _⟩ => ⟨S2176x3072, .f32⟩
  | .hbm, ⟨12, _⟩ => ⟨S2176x3072, .f32⟩
  | .hbm, ⟨13, _⟩ => ⟨S2176x3072, .f32⟩
  | .hbm, ⟨14, _⟩ => ⟨S_, .f32⟩
  | .hbm, ⟨15, _⟩ => ⟨S2176x3072, .f32⟩
  | .hbm, ⟨16, _⟩ => ⟨S2176x3072, .f32⟩
  | .hbm, ⟨17, _⟩ => ⟨S_, .f32⟩
  | .hbm, ⟨18, _⟩ => ⟨S2176x3072, .f32⟩
  | .hbm, ⟨19, _⟩ => ⟨S2176x3072, .f32⟩
  | .hbm, ⟨20, _⟩ => ⟨S2176x3072, .f32⟩
  | .hbm, ⟨21, _⟩ => ⟨S2176x3072, .f32⟩
  | .hbm, ⟨22, _⟩ => ⟨S2176x3072, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== DownLn.lean ====
abbrev S2176x3072 : Shape := ⟨2, ![2176, 3072]⟩
abbrev S4x768x1024 : Shape := ⟨3, ![4, 768, 1024]⟩
abbrev S2176x1024 : Shape := ⟨2, ![2176, 1024]⟩
abbrev S1x1024 : Shape := ⟨2, ![1, 1024]⟩
abbrev S1088x768 : Shape := ⟨2, ![1088, 768]⟩
abbrev S1x768x1024 : Shape := ⟨3, ![1, 768, 1024]⟩
abbrev S1088x1024 : Shape := ⟨2, ![1088, 1024]⟩
abbrev S768x1024 : Shape := ⟨2, ![768, 1024]⟩
abbrev S1088 : Shape := ⟨1, ![1088]⟩
abbrev S1088x1 : Shape := ⟨2, ![1088, 1]⟩

abbrev nBuf : Space → Nat
  | .hbm => 8
  | .vmem => 15
  | .smem => 0
  | _ => 0

abbrev bufTy : (tb : Table) → Fin (tcTables nBuf tb) → BufTy
  | .hbm, ⟨0, _⟩ => ⟨S2176x3072, .bf16⟩
  | .hbm, ⟨1, _⟩ => ⟨S4x768x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S2176x1024, .f32⟩
  | .hbm, ⟨6, _⟩ => ⟨S2176x1024, .f32⟩
  | .hbm, ⟨7, _⟩ => ⟨S2176x1024, .bf16⟩
  | .local _ .vmem, ⟨0, _⟩ => ⟨S1088x768, .bf16⟩
  | .local _ .vmem, ⟨1, _⟩ => ⟨S1088x768, .bf16⟩
  | .local _ .vmem, ⟨2, _⟩ => ⟨S1x768x1024, .bf16⟩
  | .local _ .vmem, ⟨3, _⟩ => ⟨S1x768x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownLnIdeal.lean ====
abbrev S2176x3072 : Shape := ⟨2, ![2176, 3072]⟩
abbrev S4x768x1024 : Shape := ⟨3, ![4, 768, 1024]⟩
abbrev S2176x1024 : Shape := ⟨2, ![2176, 1024]⟩
abbrev S1x1024 : Shape := ⟨2, ![1, 1024]⟩
abbrev S1088x768 : Shape := ⟨2, ![1088, 768]⟩
abbrev S1x768x1024 : Shape := ⟨3, ![1, 768, 1024]⟩
abbrev S1088x1024 : Shape := ⟨2, ![1088, 1024]⟩
abbrev S768x1024 : Shape := ⟨2, ![768, 1024]⟩
abbrev S1088 : Shape := ⟨1, ![1088]⟩
abbrev S1088x1 : Shape := ⟨2, ![1088, 1]⟩

abbrev nBuf : Space → Nat
  | .hbm => 8
  | .vmem => 15
  | .smem => 0
  | _ => 0

abbrev bufTy : (tb : Table) → Fin (tcTables nBuf tb) → BufTy
  | .hbm, ⟨0, _⟩ => ⟨S2176x3072, .bf16⟩
  | .hbm, ⟨1, _⟩ => ⟨S4x768x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S2176x1024, .f32⟩
  | .hbm, ⟨6, _⟩ => ⟨S2176x1024, .f32⟩
  | .hbm, ⟨7, _⟩ => ⟨S2176x1024, .bf16⟩
  | .local _ .vmem, ⟨0, _⟩ => ⟨S1088x768, .bf16⟩
  | .local _ .vmem, ⟨1, _⟩ => ⟨S1088x768, .bf16⟩
  | .local _ .vmem, ⟨2, _⟩ => ⟨S1x768x1024, .bf16⟩
  | .local _ .vmem, ⟨3, _⟩ => ⟨S1x768x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownLnRefIdeal.lean ====
abbrev S2176x3072 : Shape := ⟨2, ![2176, 3072]⟩
abbrev S4x768x1024 : Shape := ⟨3, ![4, 768, 1024]⟩
abbrev S2176x1024 : Shape := ⟨2, ![2176, 1024]⟩
abbrev S1x1024 : Shape := ⟨2, ![1, 1024]⟩
abbrev S3072x1024 : Shape := ⟨2, ![3072, 1024]⟩
abbrev S_ : Shape := ⟨0, ![]⟩
abbrev S2176 : Shape := ⟨1, ![2176]⟩
abbrev S2176x1 : Shape := ⟨2, ![2176, 1]⟩

abbrev nBuf : Space → Nat
  | .hbm => 44
  | .vmem => 0
  | .smem => 0
  | _ => 0

abbrev bufTy : (tb : Table) → Fin (tcTables nBuf tb) → BufTy
  | .hbm, ⟨0, _⟩ => ⟨S2176x3072, .bf16⟩
  | .hbm, ⟨1, _⟩ => ⟨S4x768x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S2176x3072, .f32⟩
  | .hbm, ⟨6, _⟩ => ⟨S3072x1024, .bf16⟩
  | .hbm, ⟨7, _⟩ => ⟨S3072x1024, .f32⟩
  | .hbm, ⟨8, _⟩ => ⟨S2176x1024, .f32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S_, .f32⟩
  | .hbm, ⟨26, _⟩ => ⟨S2176, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1024, .f32⟩
  | .hbm, ⟨32, _⟩ => ⟨S2176x1024, .f32⟩
  | .hbm, ⟨33, _⟩ => ⟨S_, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .bf16⟩
  | _, _ => ⟨S2176x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== InProj.lean ====
abbrev S2176x1024 : Shape := ⟨2, ![2176, 1024]⟩
abbrev S1024x2816 : Shape := ⟨2, ![1024, 2816]⟩
abbrev S2176x2816 : Shape := ⟨2, ![2176, 2816]⟩
abbrev S544x1024 : Shape := ⟨2, ![544, 1024]⟩
abbrev S544x2816 : Shape := ⟨2, ![544, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S1024x2816, .bf16⟩
  | .hbm, ⟨2, _⟩ => ⟨S2176x2816, .f32⟩
  | .local _ .vmem, ⟨0, _⟩ => ⟨S544x1024, .bf16⟩
  | .local _ .vmem, ⟨1, _⟩ => ⟨S544x1024, .bf16⟩
  | .local _ .vmem, ⟨2, _⟩ => ⟨S1024x2816, .bf16⟩
  | .local _ .vmem, ⟨3, _⟩ => ⟨S544x2816, .f32⟩
  | .local _ .vmem, ⟨4, _⟩ => ⟨S544x2816, .f32⟩
  | .local _ .vmem, ⟨5, _⟩ => ⟨S544x2816, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjIdeal.lean ====
abbrev S2176x1024 : Shape := ⟨2, ![2176, 1024]⟩
abbrev S1024x2816 : Shape := ⟨2, ![1024, 2816]⟩
abbrev S2176x2816 : Shape := ⟨2, ![2176, 2816]⟩
abbrev S544x1024 : Shape := ⟨2, ![544, 1024]⟩
abbrev S544x2816 : Shape := ⟨2, ![544, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S1024x2816, .bf16⟩
  | .hbm, ⟨2, _⟩ => ⟨S2176x2816, .f32⟩
  | .local _ .vmem, ⟨0, _⟩ => ⟨S544x1024, .bf16⟩
  | .local _ .vmem, ⟨1, _⟩ => ⟨S544x1024, .bf16⟩
  | .local _ .vmem, ⟨2, _⟩ => ⟨S1024x2816, .bf16⟩
  | .local _ .vmem, ⟨3, _⟩ => ⟨S544x2816, .f32⟩
  | .local _ .vmem, ⟨4, _⟩ => ⟨S544x2816, .f32⟩
  | .local _ .vmem, ⟨5, _⟩ => ⟨S544x2816, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S2176x1024 : Shape := ⟨2, ![2176, 1024]⟩
abbrev S1024x2816 : Shape := ⟨2, ![1024, 2816]⟩
abbrev S2176x2816 : Shape := ⟨2, ![2176, 2816]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x2816, .bf16⟩
  | .hbm, ⟨2, _⟩ => ⟨S2176x1024, .f32⟩
  | .hbm, ⟨3, _⟩ => ⟨S1024x2816, .f32⟩
  | .hbm, ⟨4, _⟩ => ⟨S2176x2816, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InX.lean ====
abbrev S2176x2816 : Shape := ⟨2, ![2176, 2816]⟩
abbrev S1024x2816 : Shape := ⟨2, ![1024, 2816]⟩
abbrev S2176x1024 : Shape := ⟨2, ![2176, 1024]⟩
abbrev S544x2816 : Shape := ⟨2, ![544, 2816]⟩
abbrev S544x1024 : Shape := ⟨2, ![544, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2176x2816, .bf16⟩
  | .hbm, ⟨1, _⟩ => ⟨S1024x2816, .bf16⟩
  | .hbm, ⟨2, _⟩ => ⟨S2176x1024, .f32⟩
  | .hbm, ⟨3, _⟩ => ⟨S2176x1024, .f32⟩
  | .local _ .vmem, ⟨0, _⟩ => ⟨S544x2816, .bf16⟩
  | .local _ .vmem, ⟨1, _⟩ => ⟨S544x2816, .bf16⟩
  | .local _ .vmem, ⟨2, _⟩ => ⟨S1024x2816, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXIdeal.lean ====
abbrev S2176x2816 : Shape := ⟨2, ![2176, 2816]⟩
abbrev S1024x2816 : Shape := ⟨2, ![1024, 2816]⟩
abbrev S2176x1024 : Shape := ⟨2, ![2176, 1024]⟩
abbrev S544x2816 : Shape := ⟨2, ![544, 2816]⟩
abbrev S544x1024 : Shape := ⟨2, ![544, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2176x2816, .bf16⟩
  | .hbm, ⟨1, _⟩ => ⟨S1024x2816, .bf16⟩
  | .hbm, ⟨2, _⟩ => ⟨S2176x1024, .f32⟩
  | .hbm, ⟨3, _⟩ => ⟨S2176x1024, .f32⟩
  | .local _ .vmem, ⟨0, _⟩ => ⟨S544x2816, .bf16⟩
  | .local _ .vmem, ⟨1, _⟩ => ⟨S544x2816, .bf16⟩
  | .local _ .vmem, ⟨2, _⟩ => ⟨S1024x2816, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXRefIdeal.lean ====
abbrev S2176x2816 : Shape := ⟨2, ![2176, 2816]⟩
abbrev S1024x2816 : Shape := ⟨2, ![1024, 2816]⟩
abbrev S2176x1024 : Shape := ⟨2, ![2176, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S1024x2816, .bf16⟩
  | .hbm, ⟨2, _⟩ => ⟨S2176x1024, .f32⟩
  | .hbm, ⟨3, _⟩ => ⟨S_, .f32⟩
  | .hbm, ⟨4, _⟩ => ⟨S2176x1024, .f32⟩
  | .hbm, ⟨5, _⟩ => ⟨S1024x2816, .f32⟩
  | .hbm, ⟨6, _⟩ => ⟨S2176x2816, .f32⟩
  | .hbm, ⟨7, _⟩ => ⟨S2176x2816, .f32⟩
  | .hbm, ⟨8, _⟩ => ⟨S2176x1024, .f32⟩
  | .hbm, ⟨9, _⟩ => ⟨S2176x1024, .f32⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InW.lean ====
abbrev S2176x1024 : Shape := ⟨2, ![2176, 1024]⟩
abbrev S2176x2816 : Shape := ⟨2, ![2176, 2816]⟩
abbrev S1024x2816 : Shape := ⟨2, ![1024, 2816]⟩
abbrev S2176x1408 : Shape := ⟨2, ![2176, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x2816, .bf16⟩
  | .hbm, ⟨2, _⟩ => ⟨S1024x2816, .f32⟩
  | .local _ .vmem, ⟨0, _⟩ => ⟨S2176x1024, .bf16⟩
  | .local _ .vmem, ⟨1, _⟩ => ⟨S2176x1408, .bf16⟩
  | .local _ .vmem, ⟨2, _⟩ => ⟨S2176x1408, .bf16⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWIdeal.lean ====
abbrev S2176x1024 : Shape := ⟨2, ![2176, 1024]⟩
abbrev S2176x2816 : Shape := ⟨2, ![2176, 2816]⟩
abbrev S1024x2816 : Shape := ⟨2, ![1024, 2816]⟩
abbrev S2176x1408 : Shape := ⟨2, ![2176, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x2816, .bf16⟩
  | .hbm, ⟨2, _⟩ => ⟨S1024x2816, .f32⟩
  | .local _ .vmem, ⟨0, _⟩ => ⟨S2176x1024, .bf16⟩
  | .local _ .vmem, ⟨1, _⟩ => ⟨S2176x1408, .bf16⟩
  | .local _ .vmem, ⟨2, _⟩ => ⟨S2176x1408, .bf16⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S2176x1024 : Shape := ⟨2, ![2176, 1024]⟩
abbrev S2176x2816 : Shape := ⟨2, ![2176, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x2816, .bf16⟩
  | .hbm, ⟨2, _⟩ => ⟨S_, .f32⟩
  | .hbm, ⟨3, _⟩ => ⟨S1024x2816, .f32⟩
  | .hbm, ⟨4, _⟩ => ⟨S2176x1024, .f32⟩
  | .hbm, ⟨5, _⟩ => ⟨S2176x2816, .f32⟩
  | .hbm, ⟨6, _⟩ => ⟨S2176x2816, .f32⟩
  | .hbm, ⟨7, _⟩ => ⟨S2816x1024, .f32⟩
  | .hbm, ⟨8, _⟩ => ⟨S1024x2816, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutX.lean ====
abbrev S2176x1024 : Shape := ⟨2, ![2176, 1024]⟩
abbrev S4x256x1024 : Shape := ⟨3, ![4, 256, 1024]⟩
abbrev S1088x1024 : Shape := ⟨2, ![1088, 1024]⟩
abbrev S1x256x1024 : Shape := ⟨3, ![1, 256, 1024]⟩
abbrev S1088x256 : Shape := ⟨2, ![1088, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S4x256x1024, .bf16⟩
  | .hbm, ⟨2, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1088x256, .f32⟩
  | .local _ .vmem, ⟨5, _⟩ => ⟨S1088x256, .f32⟩
  | .local _ .vmem, ⟨6, _⟩ => ⟨S1088x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXIdeal.lean ====
abbrev S2176x1024 : Shape := ⟨2, ![2176, 1024]⟩
abbrev S4x256x1024 : Shape := ⟨3, ![4, 256, 1024]⟩
abbrev S1088x1024 : Shape := ⟨2, ![1088, 1024]⟩
abbrev S1x256x1024 : Shape := ⟨3, ![1, 256, 1024]⟩
abbrev S1088x256 : Shape := ⟨2, ![1088, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S4x256x1024, .bf16⟩
  | .hbm, ⟨2, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1088x256, .f32⟩
  | .local _ .vmem, ⟨5, _⟩ => ⟨S1088x256, .f32⟩
  | .local _ .vmem, ⟨6, _⟩ => ⟨S1088x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S2176x1024 : Shape := ⟨2, ![2176, 1024]⟩
abbrev S4x256x1024 : Shape := ⟨3, ![4, 256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x256x1024, .bf16⟩
  | .hbm, ⟨2, _⟩ => ⟨S_, .f32⟩
  | .hbm, ⟨3, _⟩ => ⟨S2176x1024, .f32⟩
  | .hbm, ⟨4, _⟩ => ⟨S1024x1024, .bf16⟩
  | .hbm, ⟨5, _⟩ => ⟨S1024x1024, .f32⟩
  | .hbm, ⟨6, _⟩ => ⟨S2176x1024, .f32⟩
  | .hbm, ⟨7, _⟩ => ⟨S2176x1024, .f32⟩
  | .hbm, ⟨8, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutW.lean ====
abbrev S2176x1024 : Shape := ⟨2, ![2176, 1024]⟩
abbrev S4x256x1024 : Shape := ⟨3, ![4, 256, 1024]⟩
abbrev S2176x256 : Shape := ⟨2, ![2176, 256]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S4x256x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S1x256x1024, .f32⟩
  | .local _ .vmem, ⟨4, _⟩ => ⟨S1x256x1024, .f32⟩
  | .local _ .vmem, ⟨5, _⟩ => ⟨S256x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutWIdeal.lean ====
abbrev S2176x1024 : Shape := ⟨2, ![2176, 1024]⟩
abbrev S4x256x1024 : Shape := ⟨3, ![4, 256, 1024]⟩
abbrev S2176x256 : Shape := ⟨2, ![2176, 256]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S4x256x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S1x256x1024, .f32⟩
  | .local _ .vmem, ⟨4, _⟩ => ⟨S1x256x1024, .f32⟩
  | .local _ .vmem, ⟨5, _⟩ => ⟨S256x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutWRefIdeal.lean ====
abbrev S2176x1024 : Shape := ⟨2, ![2176, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S4x256x1024, .f32⟩
  | .hbm, ⟨4, _⟩ => ⟨S1024x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutLn.lean ====
abbrev S2176x1024 : Shape := ⟨2, ![2176, 1024]⟩
abbrev S4x256x1024 : Shape := ⟨3, ![4, 256, 1024]⟩
abbrev S1x1024 : Shape := ⟨2, ![1, 1024]⟩
abbrev S1088x256 : Shape := ⟨2, ![1088, 256]⟩
abbrev S1x256x1024 : Shape := ⟨3, ![1, 256, 1024]⟩
abbrev S1088x1024 : Shape := ⟨2, ![1088, 1024]⟩
abbrev S256x1024 : Shape := ⟨2, ![256, 1024]⟩
abbrev S1088 : Shape := ⟨1, ![1088]⟩
abbrev S1088x1 : Shape := ⟨2, ![1088, 1]⟩

abbrev nBuf : Space → Nat
  | .hbm => 8
  | .vmem => 15
  | .smem => 0
  | _ => 0

abbrev bufTy : (tb : Table) → Fin (tcTables nBuf tb) → BufTy
  | .hbm, ⟨0, _⟩ => ⟨S2176x1024, .bf16⟩
  | .hbm, ⟨1, _⟩ => ⟨S4x256x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S2176x1024, .f32⟩
  | .hbm, ⟨6, _⟩ => ⟨S2176x1024, .f32⟩
  | .hbm, ⟨7, _⟩ => ⟨S2176x1024, .bf16⟩
  | .local _ .vmem, ⟨0, _⟩ => ⟨S1088x256, .bf16⟩
  | .local _ .vmem, ⟨1, _⟩ => ⟨S1088x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OutLnIdeal.lean ====
abbrev S2176x1024 : Shape := ⟨2, ![2176, 1024]⟩
abbrev S4x256x1024 : Shape := ⟨3, ![4, 256, 1024]⟩
abbrev S1x1024 : Shape := ⟨2, ![1, 1024]⟩
abbrev S1088x256 : Shape := ⟨2, ![1088, 256]⟩
abbrev S1x256x1024 : Shape := ⟨3, ![1, 256, 1024]⟩
abbrev S1088x1024 : Shape := ⟨2, ![1088, 1024]⟩
abbrev S256x1024 : Shape := ⟨2, ![256, 1024]⟩
abbrev S1088 : Shape := ⟨1, ![1088]⟩
abbrev S1088x1 : Shape := ⟨2, ![1088, 1]⟩

abbrev nBuf : Space → Nat
  | .hbm => 8
  | .vmem => 15
  | .smem => 0
  | _ => 0

abbrev bufTy : (tb : Table) → Fin (tcTables nBuf tb) → BufTy
  | .hbm, ⟨0, _⟩ => ⟨S2176x1024, .bf16⟩
  | .hbm, ⟨1, _⟩ => ⟨S4x256x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S2176x1024, .f32⟩
  | .hbm, ⟨6, _⟩ => ⟨S2176x1024, .f32⟩
  | .hbm, ⟨7, _⟩ => ⟨S2176x1024, .bf16⟩
  | .local _ .vmem, ⟨0, _⟩ => ⟨S1088x256, .bf16⟩
  | .local _ .vmem, ⟨1, _⟩ => ⟨S1088x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OutLnRefIdeal.lean ====
abbrev S2176x1024 : Shape := ⟨2, ![2176, 1024]⟩
abbrev S4x256x1024 : Shape := ⟨3, ![4, 256, 1024]⟩
abbrev S1x1024 : Shape := ⟨2, ![1, 1024]⟩
abbrev S1024x1024 : Shape := ⟨2, ![1024, 1024]⟩
abbrev S_ : Shape := ⟨0, ![]⟩
abbrev S2176 : Shape := ⟨1, ![2176]⟩
abbrev S2176x1 : Shape := ⟨2, ![2176, 1]⟩

abbrev nBuf : Space → Nat
  | .hbm => 41
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x256x1024, .bf16⟩
  | .hbm, ⟨2, _⟩ => ⟨S2176x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S2176x1024, .f32⟩
  | .hbm, ⟨7, _⟩ => ⟨S1024x1024, .f32⟩
  | .hbm, ⟨8, _⟩ => ⟨S2176x1024, .f32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S2176x1024, .f32⟩
  | .hbm, ⟨13, _⟩ => ⟨S_, .f32⟩
  | .hbm, ⟨14, _⟩ => ⟨S2176, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S_, .f32⟩
  | .hbm, ⟨23, _⟩ => ⟨S2176, .f32⟩
  | .hbm, ⟨24, _⟩ => ⟨S2176x1, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176x1, .f32⟩
  | .hbm, ⟨32, _⟩ => ⟨S2176x1, .f32⟩
  | .hbm, ⟨33, _⟩ => ⟨S2176x1, .f32⟩
  | .hbm, ⟨34, _⟩ => ⟨S2176x1024, .f32⟩
  | .hbm, ⟨35, _⟩ => ⟨S2176x1024, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MlaQ.lean ====
abbrev S2176x256 : Shape := ⟨2, ![2176, 256]⟩
abbrev S256x384 : Shape := ⟨2, ![256, 384]⟩
abbrev S2176x384 : Shape := ⟨2, ![2176, 384]⟩

abbrev nBuf : Space → Nat
  | .hbm => 3
  | .vmem => 4
  | .smem => 0
  | _ => 0

abbrev bufTy : (tb : Table) → Fin (tcTables nBuf tb) → BufTy
  | .hbm, ⟨0, _⟩ => ⟨S2176x256, .bf16⟩
  | .hbm, ⟨1, _⟩ => ⟨S256x384, .bf16⟩
  | .hbm, ⟨2, _⟩ => ⟨S2176x384, .f32⟩
  | .local _ .vmem, ⟨0, _⟩ => ⟨S2176x256, .bf16⟩
  | .local _ .vmem, ⟨1, _⟩ => ⟨S256x384, .bf16⟩
  | .local _ .vmem, ⟨2, _⟩ => ⟨S2176x384, .f32⟩
  | .local _ .vmem, ⟨3, _⟩ => ⟨S2176x384, .f32⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQIdeal.lean ====
abbrev S2176x256 : Shape := ⟨2, ![2176, 256]⟩
abbrev S256x384 : Shape := ⟨2, ![256, 384]⟩
abbrev S2176x384 : Shape := ⟨2, ![2176, 384]⟩

abbrev nBuf : Space → Nat
  | .hbm => 3
  | .vmem => 4
  | .smem => 0
  | _ => 0

abbrev bufTy : (tb : Table) → Fin (tcTables nBuf tb) → BufTy
  | .hbm, ⟨0, _⟩ => ⟨S2176x256, .bf16⟩
  | .hbm, ⟨1, _⟩ => ⟨S256x384, .bf16⟩
  | .hbm, ⟨2, _⟩ => ⟨S2176x384, .f32⟩
  | .local _ .vmem, ⟨0, _⟩ => ⟨S2176x256, .bf16⟩
  | .local _ .vmem, ⟨1, _⟩ => ⟨S256x384, .bf16⟩
  | .local _ .vmem, ⟨2, _⟩ => ⟨S2176x384, .f32⟩
  | .local _ .vmem, ⟨3, _⟩ => ⟨S2176x384, .f32⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQRefIdeal.lean ====
abbrev S2176x256 : Shape := ⟨2, ![2176, 256]⟩
abbrev S256x384 : Shape := ⟨2, ![256, 384]⟩
abbrev S2176x384 : Shape := ⟨2, ![2176, 384]⟩

abbrev nBuf : Space → Nat
  | .hbm => 5
  | .vmem => 0
  | .smem => 0
  | _ => 0

abbrev bufTy : (tb : Table) → Fin (tcTables nBuf tb) → BufTy
  | .hbm, ⟨0, _⟩ => ⟨S2176x256, .bf16⟩
  | .hbm, ⟨1, _⟩ => ⟨S256x384, .bf16⟩
  | .hbm, ⟨2, _⟩ => ⟨S2176x256, .f32⟩
  | .hbm, ⟨3, _⟩ => ⟨S256x384, .f32⟩
  | .hbm, ⟨4, _⟩ => ⟨S2176x384, .f32⟩
  | _, _ => ⟨S2176x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaQX.lean ====
abbrev S2176x384 : Shape := ⟨2, ![2176, 384]⟩
abbrev S256x384 : Shape := ⟨2, ![256, 384]⟩
abbrev S2176x256 : Shape := ⟨2, ![2176, 256]⟩

abbrev nBuf : Space → Nat
  | .hbm => 3
  | .vmem => 4
  | .smem => 0
  | _ => 0

abbrev bufTy : (tb : Table) → Fin (tcTables nBuf tb) → BufTy
  | .hbm, ⟨0, _⟩ => ⟨S2176x384, .bf16⟩
  | .hbm, ⟨1, _⟩ => ⟨S256x384, .bf16⟩
  | .hbm, ⟨2, _⟩ => ⟨S2176x256, .f32⟩
  | .local _ .vmem, ⟨0, _⟩ => ⟨S2176x384, .bf16⟩
  | .local _ .vmem, ⟨1, _⟩ => ⟨S256x384, .bf16⟩
  | .local _ .vmem, ⟨2, _⟩ => ⟨S2176x256, .f32⟩
  | .local _ .vmem, ⟨3, _⟩ => ⟨S2176x256, .f32⟩
  | _, _ => ⟨S2176x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQXIdeal.lean ====
abbrev S2176x384 : Shape := ⟨2, ![2176, 384]⟩
abbrev S256x384 : Shape := ⟨2, ![256, 384]⟩
abbrev S2176x256 : Shape := ⟨2, ![2176, 256]⟩

abbrev nBuf : Space → Nat
  | .hbm => 3
  | .vmem => 4
  | .smem => 0
  | _ => 0

abbrev bufTy : (tb : Table) → Fin (tcTables nBuf tb) → BufTy
  | .hbm, ⟨0, _⟩ => ⟨S2176x384, .bf16⟩
  | .hbm, ⟨1, _⟩ => ⟨S256x384, .bf16⟩
  | .hbm, ⟨2, _⟩ => ⟨S2176x256, .f32⟩
  | .local _ .vmem, ⟨0, _⟩ => ⟨S2176x384, .bf16⟩
  | .local _ .vmem, ⟨1, _⟩ => ⟨S256x384, .bf16⟩
  | .local _ .vmem, ⟨2, _⟩ => ⟨S2176x256, .f32⟩
  | .local _ .vmem, ⟨3, _⟩ => ⟨S2176x256, .f32⟩
  | _, _ => ⟨S2176x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQXRefIdeal.lean ====
abbrev S2176x384 : Shape := ⟨2, ![2176, 384]⟩
abbrev S256x384 : Shape := ⟨2, ![256, 384]⟩
abbrev S_ : Shape := ⟨0, ![]⟩
abbrev S2176x256 : Shape := ⟨2, ![2176, 256]⟩

abbrev nBuf : Space → Nat
  | .hbm => 8
  | .vmem => 0
  | .smem => 0
  | _ => 0

abbrev bufTy : (tb : Table) → Fin (tcTables nBuf tb) → BufTy
  | .hbm, ⟨0, _⟩ => ⟨S2176x384, .bf16⟩
  | .hbm, ⟨1, _⟩ => ⟨S256x384, .bf16⟩
  | .hbm, ⟨2, _⟩ => ⟨S_, .f32⟩
  | .hbm, ⟨3, _⟩ => ⟨S2176x256, .f32⟩
  | .hbm, ⟨4, _⟩ => ⟨S256x384, .f32⟩
  | .hbm, ⟨5, _⟩ => ⟨S2176x384, .f32⟩
  | .hbm, ⟨6, _⟩ => ⟨S2176x384, .f32⟩
  | .hbm, ⟨7, _⟩ => ⟨S2176x256, .f32⟩
  | _, _ => ⟨S2176x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaQW.lean ====
abbrev S2176x256 : Shape := ⟨2, ![2176, 256]⟩
abbrev S2176x384 : Shape := ⟨2, ![2176, 384]⟩
abbrev S256x384 : Shape := ⟨2, ![256, 384]⟩

abbrev nBuf : Space → Nat
  | .hbm => 3
  | .vmem => 4
  | .smem => 0
  | _ => 0

abbrev bufTy : (tb : Table) → Fin (tcTables nBuf tb) → BufTy
  | .hbm, ⟨0, _⟩ => ⟨S2176x256, .bf16⟩
  | .hbm, ⟨1, _⟩ => ⟨S2176x384, .bf16⟩
  | .hbm, ⟨2, _⟩ => ⟨S256x384, .f32⟩
  | .local _ .vmem, ⟨0, _⟩ => ⟨S2176x256, .bf16⟩
  | .local _ .vmem, ⟨1, _⟩ => ⟨S2176x384, .bf16⟩
  | .local _ .vmem, ⟨2, _⟩ => ⟨S256x384, .f32⟩
  | .local _ .vmem, ⟨3, _⟩ => ⟨S256x384, .f32⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2176x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQWIdeal.lean ====
abbrev S2176x256 : Shape := ⟨2, ![2176, 256]⟩
abbrev S2176x384 : Shape := ⟨2, ![2176, 384]⟩
abbrev S256x384 : Shape := ⟨2, ![256, 384]⟩

abbrev nBuf : Space → Nat
  | .hbm => 3
  | .vmem => 4
  | .smem => 0
  | _ => 0

abbrev bufTy : (tb : Table) → Fin (tcTables nBuf tb) → BufTy
  | .hbm, ⟨0, _⟩ => ⟨S2176x256, .bf16⟩
  | .hbm, ⟨1, _⟩ => ⟨S2176x384, .bf16⟩
  | .hbm, ⟨2, _⟩ => ⟨S256x384, .f32⟩
  | .local _ .vmem, ⟨0, _⟩ => ⟨S2176x256, .bf16⟩
  | .local _ .vmem, ⟨1, _⟩ => ⟨S2176x384, .bf16⟩
  | .local _ .vmem, ⟨2, _⟩ => ⟨S256x384, .f32⟩
  | .local _ .vmem, ⟨3, _⟩ => ⟨S256x384, .f32⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2176x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQWRefIdeal.lean ====
abbrev S2176x256 : Shape := ⟨2, ![2176, 256]⟩
abbrev S2176x384 : Shape := ⟨2, ![2176, 384]⟩
abbrev S_ : Shape := ⟨0, ![]⟩
abbrev S256x384 : Shape := ⟨2, ![256, 384]⟩
abbrev S384x256 : Shape := ⟨2, ![384, 256]⟩

abbrev nBuf : Space → Nat
  | .hbm => 9
  | .vmem => 0
  | .smem => 0
  | _ => 0

abbrev bufTy : (tb : Table) → Fin (tcTables nBuf tb) → BufTy
  | .hbm, ⟨0, _⟩ => ⟨S2176x256, .bf16⟩
  | .hbm, ⟨1, _⟩ => ⟨S2176x384, .bf16⟩
  | .hbm, ⟨2, _⟩ => ⟨S_, .f32⟩
  | .hbm, ⟨3, _⟩ => ⟨S256x384, .f32⟩
  | .hbm, ⟨4, _⟩ => ⟨S2176x256, .f32⟩
  | .hbm, ⟨5, _⟩ => ⟨S2176x384, .f32⟩
  | .hbm, ⟨6, _⟩ => ⟨S2176x384, .f32⟩
  | .hbm, ⟨7, _⟩ => ⟨S384x256, .f32⟩
  | .hbm, ⟨8, _⟩ => ⟨S256x384, .f32⟩
  | _, _ => ⟨S2176x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlaKv.lean ====
abbrev S2176x128 : Shape := ⟨2, ![2176, 128]⟩
abbrev S128x512 : Shape := ⟨2, ![128, 512]⟩
abbrev S2176x512 : Shape := ⟨2, ![2176, 512]⟩

abbrev nBuf : Space → Nat
  | .hbm => 3
  | .vmem => 4
  | .smem => 0
  | _ => 0

abbrev bufTy : (tb : Table) → Fin (tcTables nBuf tb) → BufTy
  | .hbm, ⟨0, _⟩ => ⟨S2176x128, .bf16⟩
  | .hbm, ⟨1, _⟩ => ⟨S128x512, .bf16⟩
  | .hbm, ⟨2, _⟩ => ⟨S2176x512, .f32⟩
  | .local _ .vmem, ⟨0, _⟩ => ⟨S2176x128, .bf16⟩
  | .local _ .vmem, ⟨1, _⟩ => ⟨S128x512, .bf16⟩
  | .local _ .vmem, ⟨2, _⟩ => ⟨S2176x512, .f32⟩
  | .local _ .vmem, ⟨3, _⟩ => ⟨S2176x512, .f32⟩
  | _, _ => ⟨S2176x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvIdeal.lean ====
abbrev S2176x128 : Shape := ⟨2, ![2176, 128]⟩
abbrev S128x512 : Shape := ⟨2, ![128, 512]⟩
abbrev S2176x512 : Shape := ⟨2, ![2176, 512]⟩

abbrev nBuf : Space → Nat
  | .hbm => 3
  | .vmem => 4
  | .smem => 0
  | _ => 0

abbrev bufTy : (tb : Table) → Fin (tcTables nBuf tb) → BufTy
  | .hbm, ⟨0, _⟩ => ⟨S2176x128, .bf16⟩
  | .hbm, ⟨1, _⟩ => ⟨S128x512, .bf16⟩
  | .hbm, ⟨2, _⟩ => ⟨S2176x512, .f32⟩
  | .local _ .vmem, ⟨0, _⟩ => ⟨S2176x128, .bf16⟩
  | .local _ .vmem, ⟨1, _⟩ => ⟨S128x512, .bf16⟩
  | .local _ .vmem, ⟨2, _⟩ => ⟨S2176x512, .f32⟩
  | .local _ .vmem, ⟨3, _⟩ => ⟨S2176x512, .f32⟩
  | _, _ => ⟨S2176x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvRefIdeal.lean ====
abbrev S2176x128 : Shape := ⟨2, ![2176, 128]⟩
abbrev S128x512 : Shape := ⟨2, ![128, 512]⟩
abbrev S2176x512 : Shape := ⟨2, ![2176, 512]⟩

abbrev nBuf : Space → Nat
  | .hbm => 5
  | .vmem => 0
  | .smem => 0
  | _ => 0

abbrev bufTy : (tb : Table) → Fin (tcTables nBuf tb) → BufTy
  | .hbm, ⟨0, _⟩ => ⟨S2176x128, .bf16⟩
  | .hbm, ⟨1, _⟩ => ⟨S128x512, .bf16⟩
  | .hbm, ⟨2, _⟩ => ⟨S2176x128, .f32⟩
  | .hbm, ⟨3, _⟩ => ⟨S128x512, .f32⟩
  | .hbm, ⟨4, _⟩ => ⟨S2176x512, .f32⟩
  | _, _ => ⟨S2176x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaKvX.lean ====
abbrev S2176x512 : Shape := ⟨2, ![2176, 512]⟩
abbrev S128x512 : Shape := ⟨2, ![128, 512]⟩
abbrev S2176x128 : Shape := ⟨2, ![2176, 128]⟩

abbrev nBuf : Space → Nat
  | .hbm => 3
  | .vmem => 4
  | .smem => 0
  | _ => 0

abbrev bufTy : (tb : Table) → Fin (tcTables nBuf tb) → BufTy
  | .hbm, ⟨0, _⟩ => ⟨S2176x512, .bf16⟩
  | .hbm, ⟨1, _⟩ => ⟨S128x512, .bf16⟩
  | .hbm, ⟨2, _⟩ => ⟨S2176x128, .f32⟩
  | .local _ .vmem, ⟨0, _⟩ => ⟨S2176x512, .bf16⟩
  | .local _ .vmem, ⟨1, _⟩ => ⟨S128x512, .bf16⟩
  | .local _ .vmem, ⟨2, _⟩ => ⟨S2176x128, .f32⟩
  | .local _ .vmem, ⟨3, _⟩ => ⟨S2176x128, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvXIdeal.lean ====
abbrev S2176x512 : Shape := ⟨2, ![2176, 512]⟩
abbrev S128x512 : Shape := ⟨2, ![128, 512]⟩
abbrev S2176x128 : Shape := ⟨2, ![2176, 128]⟩

abbrev nBuf : Space → Nat
  | .hbm => 3
  | .vmem => 4
  | .smem => 0
  | _ => 0

abbrev bufTy : (tb : Table) → Fin (tcTables nBuf tb) → BufTy
  | .hbm, ⟨0, _⟩ => ⟨S2176x512, .bf16⟩
  | .hbm, ⟨1, _⟩ => ⟨S128x512, .bf16⟩
  | .hbm, ⟨2, _⟩ => ⟨S2176x128, .f32⟩
  | .local _ .vmem, ⟨0, _⟩ => ⟨S2176x512, .bf16⟩
  | .local _ .vmem, ⟨1, _⟩ => ⟨S128x512, .bf16⟩
  | .local _ .vmem, ⟨2, _⟩ => ⟨S2176x128, .f32⟩
  | .local _ .vmem, ⟨3, _⟩ => ⟨S2176x128, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvXRefIdeal.lean ====
abbrev S2176x512 : Shape := ⟨2, ![2176, 512]⟩
abbrev S128x512 : Shape := ⟨2, ![128, 512]⟩
abbrev S_ : Shape := ⟨0, ![]⟩
abbrev S2176x128 : Shape := ⟨2, ![2176, 128]⟩

abbrev nBuf : Space → Nat
  | .hbm => 8
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S128x512, .bf16⟩
  | .hbm, ⟨2, _⟩ => ⟨S_, .f32⟩
  | .hbm, ⟨3, _⟩ => ⟨S2176x128, .f32⟩
  | .hbm, ⟨4, _⟩ => ⟨S128x512, .f32⟩
  | .hbm, ⟨5, _⟩ => ⟨S2176x512, .f32⟩
  | .hbm, ⟨6, _⟩ => ⟨S2176x512, .f32⟩
  | .hbm, ⟨7, _⟩ => ⟨S2176x128, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaKvW.lean ====
abbrev S2176x128 : Shape := ⟨2, ![2176, 128]⟩
abbrev S2176x512 : Shape := ⟨2, ![2176, 512]⟩
abbrev S128x512 : Shape := ⟨2, ![128, 512]⟩

abbrev nBuf : Space → Nat
  | .hbm => 3
  | .vmem => 4
  | .smem => 0
  | _ => 0

abbrev bufTy : (tb : Table) → Fin (tcTables nBuf tb) → BufTy
  | .hbm, ⟨0, _⟩ => ⟨S2176x128, .bf16⟩
  | .hbm, ⟨1, _⟩ => ⟨S2176x512, .bf16⟩
  | .hbm, ⟨2, _⟩ => ⟨S128x512, .f32⟩
  | .local _ .vmem, ⟨0, _⟩ => ⟨S2176x128, .bf16⟩
  | .local _ .vmem, ⟨1, _⟩ => ⟨S2176x512, .bf16⟩
  | .local _ .vmem, ⟨2, _⟩ => ⟨S128x512, .f32⟩
  | .local _ .vmem, ⟨3, _⟩ => ⟨S128x512, .f32⟩
  | _, _ => ⟨S2176x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvWIdeal.lean ====
abbrev S2176x128 : Shape := ⟨2, ![2176, 128]⟩
abbrev S2176x512 : Shape := ⟨2, ![2176, 512]⟩
abbrev S128x512 : Shape := ⟨2, ![128, 512]⟩

abbrev nBuf : Space → Nat
  | .hbm => 3
  | .vmem => 4
  | .smem => 0
  | _ => 0

abbrev bufTy : (tb : Table) → Fin (tcTables nBuf tb) → BufTy
  | .hbm, ⟨0, _⟩ => ⟨S2176x128, .bf16⟩
  | .hbm, ⟨1, _⟩ => ⟨S2176x512, .bf16⟩
  | .hbm, ⟨2, _⟩ => ⟨S128x512, .f32⟩
  | .local _ .vmem, ⟨0, _⟩ => ⟨S2176x128, .bf16⟩
  | .local _ .vmem, ⟨1, _⟩ => ⟨S2176x512, .bf16⟩
  | .local _ .vmem, ⟨2, _⟩ => ⟨S128x512, .f32⟩
  | .local _ .vmem, ⟨3, _⟩ => ⟨S128x512, .f32⟩
  | _, _ => ⟨S2176x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvWRefIdeal.lean ====
abbrev S2176x128 : Shape := ⟨2, ![2176, 128]⟩
abbrev S2176x512 : Shape := ⟨2, ![2176, 512]⟩
abbrev S_ : Shape := ⟨0, ![]⟩
abbrev S128x512 : Shape := ⟨2, ![128, 512]⟩
abbrev S512x128 : Shape := ⟨2, ![512, 128]⟩

abbrev nBuf : Space → Nat
  | .hbm => 9
  | .vmem => 0
  | .smem => 0
  | _ => 0

abbrev bufTy : (tb : Table) → Fin (tcTables nBuf tb) → BufTy
  | .hbm, ⟨0, _⟩ => ⟨S2176x128, .bf16⟩
  | .hbm, ⟨1, _⟩ => ⟨S2176x512, .bf16⟩
  | .hbm, ⟨2, _⟩ => ⟨S_, .f32⟩
  | .hbm, ⟨3, _⟩ => ⟨S128x512, .f32⟩
  | .hbm, ⟨4, _⟩ => ⟨S2176x128, .f32⟩
  | .hbm, ⟨5, _⟩ => ⟨S2176x512, .f32⟩
  | .hbm, ⟨6, _⟩ => ⟨S2176x512, .f32⟩
  | .hbm, ⟨7, _⟩ => ⟨S512x128, .f32⟩
  | .hbm, ⟨8, _⟩ => ⟨S128x512, .f32⟩
  | _, _ => ⟨S2176x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlaNorm.lean ====
abbrev S2176x2816 : Shape := ⟨2, ![2176, 2816]⟩
abbrev S1x256 : Shape := ⟨2, ![1, 256]⟩
abbrev S1x128 : Shape := ⟨2, ![1, 128]⟩
abbrev S2176x256 : Shape := ⟨2, ![2176, 256]⟩
abbrev S2176x128 : Shape := ⟨2, ![2176, 128]⟩
abbrev S544x256 : Shape := ⟨2, ![544, 256]⟩
abbrev S544x128 : Shape := ⟨2, ![544, 128]⟩
abbrev S544 : Shape := ⟨1, ![544]⟩
abbrev S544x1 : Shape := ⟨2, ![544, 1]⟩

abbrev nBuf : Space → Nat
  | .hbm => 5
  | .vmem => 10
  | .smem => 0
  | _ => 0

abbrev bufTy : (tb : Table) → Fin (tcTables nBuf tb) → BufTy
  | .hbm, ⟨0, _⟩ => ⟨S2176x2816, .f32⟩
  | .hbm, ⟨1, _⟩ => ⟨S1x256, .f32⟩
  | .hbm, ⟨2, _⟩ => ⟨S1x128, .f32⟩
  | .hbm, ⟨3, _⟩ => ⟨S2176x256, .bf16⟩
  | .hbm, ⟨4, _⟩ => ⟨S2176x128, .bf16⟩
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S1x256, .f32⟩
  | .local _ .vmem, ⟨5, _⟩ => ⟨S1x128, .f32⟩
  | .local _ .vmem, ⟨6, _⟩ => ⟨S544x256, .bf16⟩
  | .local _ .vmem, ⟨7, _⟩ => ⟨S544x256, .bf16⟩
  | .local _ .vmem, ⟨8, _⟩ => ⟨S544x128, .bf16⟩
  | .local _ .vmem, ⟨9, _⟩ => ⟨S544x128, .bf16⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaNormIdeal.lean ====
abbrev S2176x2816 : Shape := ⟨2, ![2176, 2816]⟩
abbrev S1x256 : Shape := ⟨2, ![1, 256]⟩
abbrev S1x128 : Shape := ⟨2, ![1, 128]⟩
abbrev S2176x256 : Shape := ⟨2, ![2176, 256]⟩
abbrev S2176x128 : Shape := ⟨2, ![2176, 128]⟩
abbrev S544x256 : Shape := ⟨2, ![544, 256]⟩
abbrev S544x128 : Shape := ⟨2, ![544, 128]⟩
abbrev S544 : Shape := ⟨1, ![544]⟩
abbrev S544x1 : Shape := ⟨2, ![544, 1]⟩

abbrev nBuf : Space → Nat
  | .hbm => 5
  | .vmem => 10
  | .smem => 0
  | _ => 0

abbrev bufTy : (tb : Table) → Fin (tcTables nBuf tb) → BufTy
  | .hbm, ⟨0, _⟩ => ⟨S2176x2816, .f32⟩
  | .hbm, ⟨1, _⟩ => ⟨S1x256, .f32⟩
  | .hbm, ⟨2, _⟩ => ⟨S1x128, .f32⟩
  | .hbm, ⟨3, _⟩ => ⟨S2176x256, .bf16⟩
  | .hbm, ⟨4, _⟩ => ⟨S2176x128, .bf16⟩
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S1x256, .f32⟩
  | .local _ .vmem, ⟨5, _⟩ => ⟨S1x128, .f32⟩
  | .local _ .vmem, ⟨6, _⟩ => ⟨S544x256, .bf16⟩
  | .local _ .vmem, ⟨7, _⟩ => ⟨S544x256, .bf16⟩
  | .local _ .vmem, ⟨8, _⟩ => ⟨S544x128, .bf16⟩
  | .local _ .vmem, ⟨9, _⟩ => ⟨S544x128, .bf16⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaNormRefIdeal.lean ====
abbrev S2176x2816 : Shape := ⟨2, ![2176, 2816]⟩
abbrev S1x256 : Shape := ⟨2, ![1, 256]⟩
abbrev S1x128 : Shape := ⟨2, ![1, 128]⟩
abbrev S2176x256 : Shape := ⟨2, ![2176, 256]⟩
abbrev S_ : Shape := ⟨0, ![]⟩
abbrev S2176 : Shape := ⟨1, ![2176]⟩
abbrev S2176x1 : Shape := ⟨2, ![2176, 1]⟩
abbrev S2176x128 : Shape := ⟨2, ![2176, 128]⟩

abbrev nBuf : Space → Nat
  | .hbm => 37
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S1x256, .f32⟩
  | .hbm, ⟨2, _⟩ => ⟨S1x128, .f32⟩
  | .hbm, ⟨3, _⟩ => ⟨S2176x256, .f32⟩
  | .hbm, ⟨4, _⟩ => ⟨S2176x256, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x256, .f32⟩
  | .hbm, ⟨16, _⟩ => ⟨S2176x256, .f32⟩
  | .hbm, ⟨17, _⟩ => ⟨S2176x256, .f32⟩
  | .hbm, ⟨18, _⟩ => ⟨S2176x256, .f32⟩
  | .hbm, ⟨19, _⟩ => ⟨S2176x256, .bf16⟩
  | .hbm, ⟨20, _⟩ => ⟨S2176x128, .f32⟩
  | .hbm, ⟨21, _⟩ => ⟨S2176x128, .f32⟩
  | .hbm, ⟨22, _⟩ => ⟨S_, .f32⟩
  | .hbm, ⟨23, _⟩ => ⟨S2176, .f32⟩
  | .hbm, ⟨24, _⟩ => ⟨S2176x1, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1, .f32⟩
  | .hbm, ⟨32, _⟩ => ⟨S2176x128, .f32⟩
  | .hbm, ⟨33, _⟩ => ⟨S2176x128, .f32⟩
  | .hbm, ⟨34, _⟩ => ⟨S2176x128, .f32⟩
  | .hbm, ⟨35, _⟩ => ⟨S2176x128, .f32⟩
  | .hbm, ⟨36, _⟩ => ⟨S2176x128, .bf16⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== SsdPost.lean ====
abbrev S2176x512 : Shape := ⟨2, ![2176, 512]⟩
abbrev S2176x768 : Shape := ⟨2, ![2176, 768]⟩
abbrev S2176x2816 : Shape := ⟨2, ![2176, 2816]⟩
abbrev S1x512 : Shape := ⟨2, ![1, 512]⟩
abbrev S544x256 : Shape := ⟨2, ![544, 256]⟩
abbrev S1x256 : Shape := ⟨2, ![1, 256]⟩
abbrev S544 : Shape := ⟨1, ![544]⟩
abbrev S544x1 : Shape := ⟨2, ![544, 1]⟩

abbrev nBuf : Space → Nat
  | .hbm => 6
  | .vmem => 12
  | .smem => 0
  | _ => 0

abbrev bufTy : (tb : Table) → Fin (tcTables nBuf tb) → BufTy
  | .hbm, ⟨0, _⟩ => ⟨S2176x512, .f32⟩
  | .hbm, ⟨1, _⟩ => ⟨S2176x768, .f32⟩
  | .hbm, ⟨2, _⟩ => ⟨S2176x2816, .f32⟩
  | .hbm, ⟨3, _⟩ => ⟨S1x512, .f32⟩
  | .hbm, ⟨4, _⟩ => ⟨S1x512, .f32⟩
  | .hbm, ⟨5, _⟩ => ⟨S2176x512, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S544x256, .f32⟩
  | .local _ .vmem, ⟨11, _⟩ => ⟨S544x256, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdPostIdeal.lean ====
abbrev S2176x512 : Shape := ⟨2, ![2176, 512]⟩
abbrev S2176x768 : Shape := ⟨2, ![2176, 768]⟩
abbrev S2176x2816 : Shape := ⟨2, ![2176, 2816]⟩
abbrev S1x512 : Shape := ⟨2, ![1, 512]⟩
abbrev S544x256 : Shape := ⟨2, ![544, 256]⟩
abbrev S1x256 : Shape := ⟨2, ![1, 256]⟩
abbrev S544 : Shape := ⟨1, ![544]⟩
abbrev S544x1 : Shape := ⟨2, ![544, 1]⟩

abbrev nBuf : Space → Nat
  | .hbm => 6
  | .vmem => 12
  | .smem => 0
  | _ => 0

abbrev bufTy : (tb : Table) → Fin (tcTables nBuf tb) → BufTy
  | .hbm, ⟨0, _⟩ => ⟨S2176x512, .f32⟩
  | .hbm, ⟨1, _⟩ => ⟨S2176x768, .f32⟩
  | .hbm, ⟨2, _⟩ => ⟨S2176x2816, .f32⟩
  | .hbm, ⟨3, _⟩ => ⟨S1x512, .f32⟩
  | .hbm, ⟨4, _⟩ => ⟨S1x512, .f32⟩
  | .hbm, ⟨5, _⟩ => ⟨S2176x512, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S544x256, .f32⟩
  | .local _ .vmem, ⟨11, _⟩ => ⟨S544x256, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdPostRefIdeal.lean ====
abbrev S2176x512 : Shape := ⟨2, ![2176, 512]⟩
abbrev S2176x768 : Shape := ⟨2, ![2176, 768]⟩
abbrev S2176x2816 : Shape := ⟨2, ![2176, 2816]⟩
abbrev S1x512 : Shape := ⟨2, ![1, 512]⟩
abbrev S_ : Shape := ⟨0, ![]⟩
abbrev S2176x2x256 : Shape := ⟨3, ![2176, 2, 256]⟩
abbrev S2176x2 : Shape := ⟨2, ![2176, 2]⟩
abbrev S2176x2x1 : Shape := ⟨3, ![2176, 2, 1]⟩

abbrev nBuf : Space → Nat
  | .hbm => 40
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x768, .f32⟩
  | .hbm, ⟨2, _⟩ => ⟨S2176x2816, .f32⟩
  | .hbm, ⟨3, _⟩ => ⟨S1x512, .f32⟩
  | .hbm, ⟨4, _⟩ => ⟨S1x512, .f32⟩
  | .hbm, ⟨5, _⟩ => ⟨S2176x512, .f32⟩
  | .hbm, ⟨6, _⟩ => ⟨S2176x512, .f32⟩
  | .hbm, ⟨7, _⟩ => ⟨S2176x512, .f32⟩
  | .hbm, ⟨8, _⟩ => ⟨S2176x512, .f32⟩
  | .hbm, ⟨9, _⟩ => ⟨S2176x512, .f32⟩
  | .hbm, ⟨10, _⟩ => ⟨S2176x512, .f32⟩
  | .hbm, ⟨11, _⟩ => ⟨S2176x512, .f32⟩
  | .hbm, ⟨12, _⟩ => ⟨S_, .f32⟩
  | .hbm, ⟨13, _⟩ => ⟨S2176x512, .f32⟩
  | .hbm, ⟨14, _⟩ => ⟨S2176x512, .f32⟩
  | .hbm, ⟨15, _⟩ => ⟨S_, .f32⟩
  | .hbm, ⟨16, _⟩ => ⟨S2176x512, .f32⟩
  | .hbm, ⟨17, _⟩ => ⟨S2176x512, .f32⟩
  | .hbm, ⟨18, _⟩ => ⟨S2176x512, .f32⟩
  | .hbm, ⟨19, _⟩ => ⟨S2176x512, .f32⟩
  | .hbm, ⟨20, _⟩ => ⟨S2176x2x256, .f32⟩
  | .hbm, ⟨21, _⟩ => ⟨S2176x2x256, .f32⟩
  | .hbm, ⟨22, _⟩ => ⟨S_, .f32⟩
  | .hbm, ⟨23, _⟩ => ⟨S2176x2, .f32⟩
  | .hbm, ⟨24, _⟩ => ⟨S2176x2x1, .f32⟩
  | .hbm, ⟨25, _⟩ => ⟨S_, .f32⟩
  | .hbm, ⟨26, _⟩ => ⟨S2176x2x1, .f32⟩
  | .hbm, ⟨27, _⟩ => ⟨S2176x2x1, .f32⟩
  | .hbm, ⟨28, _⟩ => ⟨S_, .f32⟩
  | .hbm, ⟨29, _⟩ => ⟨S2176x2x1, .f32⟩
  | .hbm, ⟨30, _⟩ => ⟨S2176x2x1, .f32⟩
  | .hbm, ⟨31, _⟩ => ⟨S2176x2x1, .f32⟩
  | .hbm, ⟨32, _⟩ => ⟨S2176x2x256, .f32⟩
  | .hbm, ⟨33, _⟩ => ⟨S2176x2x256, .f32⟩
  | .hbm, ⟨34, _⟩ => ⟨S_, .f32⟩
  | .hbm, ⟨35, _⟩ => ⟨S2176x2x256, .f32⟩
  | .hbm, ⟨36, _⟩ => ⟨S2176x2x256, .f32⟩
  | .hbm, ⟨37, _⟩ => ⟨S2176x512, .f32⟩
  | .hbm, ⟨38, _⟩ => ⟨S2176x512, .f32⟩
  | .hbm, ⟨39, _⟩ => ⟨S2176x512, .f32⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Rope.lean ====
abbrev S2176x384 : Shape := ⟨2, ![2176, 384]⟩
abbrev S2176x2816 : Shape := ⟨2, ![2176, 2816]⟩
abbrev S2176x16 : Shape := ⟨2, ![2176, 16]⟩
abbrev S1x2176x1x16 : Shape := ⟨4, ![1, 2176, 1, 16]⟩
abbrev S1x2176x4x16 : Shape := ⟨4, ![1, 2176, 4, 16]⟩
abbrev S2176x64 : Shape := ⟨2, ![2176, 64]⟩
abbrev S2176x128 : Shape := ⟨2, ![2176, 128]⟩
abbrev S544x128 : Shape := ⟨2, ![544, 128]⟩

abbrev nBuf : Space → Nat
  | .hbm => 15
  | .vmem => 12
  | .smem => 0
  | _ => 0

abbrev bufTy : (tb : Table) → Fin (tcTables nBuf tb) → BufTy
  | .hbm, ⟨0, _⟩ => ⟨S2176x384, .f32⟩
  | .hbm, ⟨1, _⟩ => ⟨S2176x2816, .f32⟩
  | .hbm, ⟨2, _⟩ => ⟨S2176x16, .f32⟩
  | .hbm, ⟨3, _⟩ => ⟨S2176x16, .f32⟩
  | .hbm, ⟨4, _⟩ => ⟨S1x2176x1x16, .f32⟩
  | .hbm, ⟨5, _⟩ => ⟨S1x2176x4x16, .f32⟩
  | .hbm, ⟨6, _⟩ => ⟨S2176x64, .f32⟩
  | .hbm, ⟨7, _⟩ => ⟨S1x2176x1x16, .f32⟩
  | .hbm, ⟨8, _⟩ => ⟨S1x2176x4x16, .f32⟩
  | .hbm, ⟨9, _⟩ => ⟨S2176x64, .f32⟩
  | .hbm, ⟨10, _⟩ => ⟨S2176x128, .f32⟩
  | .hbm, ⟨11, _⟩ => ⟨S2176x64, .f32⟩
  | .hbm, ⟨12, _⟩ => ⟨S2176x128, .f32⟩
  | .hbm, ⟨13, _⟩ => ⟨S2176x128, .f32⟩
  | .hbm, ⟨14, _⟩ => ⟨S2176x128, .f32⟩
  | .local _ .vmem, ⟨0, _⟩ => ⟨S544x128, .f32⟩
  | .local _ .vmem, ⟨1, _⟩ => ⟨S544x128, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S544x128, .f32⟩
  | .local _ .vmem, ⟨11, _⟩ => ⟨S544x128, .f32⟩
  | _, _ => ⟨S2176x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S2176x384 : Shape := ⟨2, ![2176, 384]⟩
abbrev S2176x2816 : Shape := ⟨2, ![2176, 2816]⟩
abbrev S2176x16 : Shape := ⟨2, ![2176, 16]⟩
abbrev S1x2176x1x16 : Shape := ⟨4, ![1, 2176, 1, 16]⟩
abbrev S1x2176x4x16 : Shape := ⟨4, ![1, 2176, 4, 16]⟩
abbrev S2176x64 : Shape := ⟨2, ![2176, 64]⟩
abbrev S2176x128 : Shape := ⟨2, ![2176, 128]⟩

abbrev nBuf : Space → Nat
  | .hbm => 30
  | .vmem => 0
  | .smem => 0
  | _ => 0

abbrev bufTy : (tb : Table) → Fin (tcTables nBuf tb) → BufTy
  | .hbm, ⟨0, _⟩ => ⟨S2176x384, .f32⟩
  | .hbm, ⟨1, _⟩ => ⟨S2176x2816, .f32⟩
  | .hbm, ⟨2, _⟩ => ⟨S2176x16, .f32⟩
  | .hbm, ⟨3, _⟩ => ⟨S2176x16, .f32⟩
  | .hbm, ⟨4, _⟩ => ⟨S1x2176x1x16, .f32⟩
  | .hbm, ⟨5, _⟩ => ⟨S1x2176x4x16, .f32⟩
  | .hbm, ⟨6, _⟩ => ⟨S2176x64, .f32⟩
  | .hbm, ⟨7, _⟩ => ⟨S1x2176x1x16, .f32⟩
  | .hbm, ⟨8, _⟩ => ⟨S1x2176x4x16, .f32⟩
  | .hbm, ⟨9, _⟩ => ⟨S2176x64, .f32⟩
  | .hbm, ⟨10, _⟩ => ⟨S2176x128, .f32⟩
  | .hbm, ⟨11, _⟩ => ⟨S2176x64, .f32⟩
  | .hbm, ⟨12, _⟩ => ⟨S2176x64, .f32⟩
  | .hbm, ⟨13, _⟩ => ⟨S2176x64, .f32⟩
  | .hbm, ⟨14, _⟩ => ⟨S2176x64, .f32⟩
  | .hbm, ⟨15, _⟩ => ⟨S2176x64, .f32⟩
  | .hbm, ⟨16, _⟩ => ⟨S2176x64, .f32⟩
  | .hbm, ⟨17, _⟩ => ⟨S2176x64, .f32⟩
  | .hbm, ⟨18, _⟩ => ⟨S2176x64, .f32⟩
  | .hbm, ⟨19, _⟩ => ⟨S2176x128, .f32⟩
  | .hbm, ⟨20, _⟩ => ⟨S2176x128, .f32⟩
  | .hbm, ⟨21, _⟩ => ⟨S2176x64, .f32⟩
  | .hbm, ⟨22, _⟩ => ⟨S2176x64, .f32⟩
  | .hbm, ⟨23, _⟩ => ⟨S2176x64, .f32⟩
  | .hbm, ⟨24, _⟩ => ⟨S2176x64, .f32⟩
  | .hbm, ⟨25, _⟩ => ⟨S2176x64, .f32⟩
  | .hbm, ⟨26, _⟩ => ⟨S2176x64, .f32⟩
  | .hbm, ⟨27, _⟩ => ⟨S2176x64, .f32⟩
  | .hbm, ⟨28, _⟩ => ⟨S2176x64, .f32⟩
  | .hbm, ⟨29, _⟩ => ⟨S2176x128, .f32⟩
  | _, _ => ⟨S2176x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== RopeT.lean ====
abbrev S2176x128 : Shape := ⟨2, ![2176, 128]⟩
abbrev S2176x16 : Shape := ⟨2, ![2176, 16]⟩
abbrev S1x2176x1x16 : Shape := ⟨4, ![1, 2176, 1, 16]⟩
abbrev S1x2176x4x16 : Shape := ⟨4, ![1, 2176, 4, 16]⟩
abbrev S2176x64 : Shape := ⟨2, ![2176, 64]⟩
abbrev S544x128 : Shape := ⟨2, ![544, 128]⟩

abbrev nBuf : Space → Nat
  | .hbm => 15
  | .vmem => 12
  | .smem => 0
  | _ => 0

abbrev bufTy : (tb : Table) → Fin (tcTables nBuf tb) → BufTy
  | .hbm, ⟨0, _⟩ => ⟨S2176x128, .f32⟩
  | .hbm, ⟨1, _⟩ => ⟨S2176x128, .f32⟩
  | .hbm, ⟨2, _⟩ => ⟨S2176x16, .f32⟩
  | .hbm, ⟨3, _⟩ => ⟨S2176x16, .f32⟩
  | .hbm, ⟨4, _⟩ => ⟨S1x2176x1x16, .f32⟩
  | .hbm, ⟨5, _⟩ => ⟨S1x2176x4x16, .f32⟩
  | .hbm, ⟨6, _⟩ => ⟨S2176x64, .f32⟩
  | .hbm, ⟨7, _⟩ => ⟨S1x2176x1x16, .f32⟩
  | .hbm, ⟨8, _⟩ => ⟨S1x2176x4x16, .f32⟩
  | .hbm, ⟨9, _⟩ => ⟨S2176x64, .f32⟩
  | .hbm, ⟨10, _⟩ => ⟨S2176x128, .f32⟩
  | .hbm, ⟨11, _⟩ => ⟨S2176x64, .f32⟩
  | .hbm, ⟨12, _⟩ => ⟨S2176x128, .f32⟩
  | .hbm, ⟨13, _⟩ => ⟨S2176x128, .f32⟩
  | .hbm, ⟨14, _⟩ => ⟨S2176x128, .f32⟩
  | .local _ .vmem, ⟨0, _⟩ => ⟨S544x128, .f32⟩
  | .local _ .vmem, ⟨1, _⟩ => ⟨S544x128, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S544x128, .f32⟩
  | .local _ .vmem, ⟨11, _⟩ => ⟨S544x128, .f32⟩
  | _, _ => ⟨S2176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeTRefIdeal.lean ====
abbrev S2176x128 : Shape := ⟨2, ![2176, 128]⟩
abbrev S2176x16 : Shape := ⟨2, ![2176, 16]⟩
abbrev S1x2176x1x16 : Shape := ⟨4, ![1, 2176, 1, 16]⟩
abbrev S1x2176x4x16 : Shape := ⟨4, ![1, 2176, 4, 16]⟩
abbrev S2176x64 : Shape := ⟨2, ![2176, 64]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2176x128, .f32⟩
  | .hbm, ⟨1, _⟩ => ⟨S2176x128, .f32⟩
  | .hbm, ⟨2, _⟩ => ⟨S2176x16, .f32⟩
  | .hbm, ⟨3, _⟩ => ⟨S2176x16, .f32⟩
  | .hbm, ⟨4, _⟩ => ⟨S1x2176x1x16, .f32⟩
  | .hbm, ⟨5, _⟩ => ⟨S1x2176x4x16, .f32⟩
  | .hbm, ⟨6, _⟩ => ⟨S2176x64, .f32⟩
  | .hbm, ⟨7, _⟩ => ⟨S1x2176x1x16, .f32⟩
  | .hbm, ⟨8, _⟩ => ⟨S1x2176x4x16, .f32⟩
  | .hbm, ⟨9, _⟩ => ⟨S2176x64, .f32⟩
  | .hbm, ⟨10, _⟩ => ⟨S_, .f32⟩
  | .hbm, ⟨11, _⟩ => ⟨S2176x128, .f32⟩
  | .hbm, ⟨12, _⟩ => ⟨S2176x64, .f32⟩
  | .hbm, ⟨13, _⟩ => ⟨S2176x64, .f32⟩
  | .hbm, ⟨14, _⟩ => ⟨S2176x64, .f32⟩
  | .hbm, ⟨15, _⟩ => ⟨S2176x64, .f32⟩
  | .hbm, ⟨16, _⟩ => ⟨S2176x64, .f32⟩
  | .hbm, ⟨17, _⟩ => ⟨S2176x64, .f32⟩
  | .hbm, ⟨18, _⟩ => ⟨S2176x64, .f32⟩
  | .hbm, ⟨19, _⟩ => ⟨S2176x64, .f32⟩
  | .hbm, ⟨20, _⟩ => ⟨S2176x128, .f32⟩
  | .hbm, ⟨21, _⟩ => ⟨S2176x64, .f32⟩
  | .hbm, ⟨22, _⟩ => ⟨S2176x64, .f32⟩
  | .hbm, ⟨23, _⟩ => ⟨S2176x64, .f32⟩
  | .hbm, ⟨24, _⟩ => ⟨S2176x64, .f32⟩
  | .hbm, ⟨25, _⟩ => ⟨S2176x64, .f32⟩
  | .hbm, ⟨26, _⟩ => ⟨S2176x64, .f32⟩
  | .hbm, ⟨27, _⟩ => ⟨S2176x64, .f32⟩
  | .hbm, ⟨28, _⟩ => ⟨S2176x64, .f32⟩
  | .hbm, ⟨29, _⟩ => ⟨S2176x128, .f32⟩
  | .hbm, ⟨30, _⟩ => ⟨S2176x64, .f32⟩
  | .hbm, ⟨31, _⟩ => ⟨S2176x64, .f32⟩
  | .hbm, ⟨32, _⟩ => ⟨S2176x64, .f32⟩
  | .hbm, ⟨33, _⟩ => ⟨S2176x64, .f32⟩
  | .hbm, ⟨34, _⟩ => ⟨S2176x64, .f32⟩
  | .hbm, ⟨35, _⟩ => ⟨S2176x64, .f32⟩
  | .hbm, ⟨36, _⟩ => ⟨S2176x64, .f32⟩
  | .hbm, ⟨37, _⟩ => ⟨S2176x64, .f32⟩
  | .hbm, ⟨38, _⟩ => ⟨S2176x64, .f32⟩
  | .hbm, ⟨39, _⟩ => ⟨S2176x128, .f32⟩
  | .hbm, ⟨40, _⟩ => ⟨S2176x64, .f32⟩
  | .hbm, ⟨41, _⟩ => ⟨S2176x64, .f32⟩
  | .hbm, ⟨42, _⟩ => ⟨S2176x64, .f32⟩
  | .hbm, ⟨43, _⟩ => ⟨S2176x64, .f32⟩
  | .hbm, ⟨44, _⟩ => ⟨S2176x64, .f32⟩
  | .hbm, ⟨45, _⟩ => ⟨S2176x64, .f32⟩
  | .hbm, ⟨46, _⟩ => ⟨S2176x64, .f32⟩
  | .hbm, ⟨47, _⟩ => ⟨S2176x64, .f32⟩
  | .hbm, ⟨48, _⟩ => ⟨S2176x64, .f32⟩
  | .hbm, ⟨49, _⟩ => ⟨S2176x128, .f32⟩
  | _, _ => ⟨S2176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== Adam.lean ====
abbrev S2x256x384 : Shape := ⟨3, ![2, 256, 384]⟩
abbrev S256x384 : Shape := ⟨2, ![256, 384]⟩
abbrev S1x256x384 : Shape := ⟨3, ![1, 256, 384]⟩

abbrev nBuf : Space → Nat
  | .hbm => 9
  | .vmem => 18
  | .smem => 0
  | _ => 0

abbrev bufTy : (tb : Table) → Fin (tcTables nBuf tb) → BufTy
  | .hbm, ⟨0, _⟩ => ⟨S2x256x384, .f32⟩
  | .hbm, ⟨1, _⟩ => ⟨S256x384, .f32⟩
  | .hbm, ⟨2, _⟩ => ⟨S256x384, .f32⟩
  | .hbm, ⟨3, _⟩ => ⟨S2x256x384, .f32⟩
  | .hbm, ⟨4, _⟩ => ⟨S2x256x384, .f32⟩
  | .hbm, ⟨5, _⟩ => ⟨S2x256x384, .f32⟩
  | .hbm, ⟨6, _⟩ => ⟨S2x256x384, .f32⟩
  | .hbm, ⟨7, _⟩ => ⟨S2x256x384, .f32⟩
  | .hbm, ⟨8, _⟩ => ⟨S2x256x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S2x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamIdeal.lean ====
abbrev S2x256x384 : Shape := ⟨3, ![2, 256, 384]⟩
abbrev S256x384 : Shape := ⟨2, ![256, 384]⟩
abbrev S1x256x384 : Shape := ⟨3, ![1, 256, 384]⟩

abbrev nBuf : Space → Nat
  | .hbm => 9
  | .vmem => 18
  | .smem => 0
  | _ => 0

abbrev bufTy : (tb : Table) → Fin (tcTables nBuf tb) → BufTy
  | .hbm, ⟨0, _⟩ => ⟨S2x256x384, .f32⟩
  | .hbm, ⟨1, _⟩ => ⟨S256x384, .f32⟩
  | .hbm, ⟨2, _⟩ => ⟨S256x384, .f32⟩
  | .hbm, ⟨3, _⟩ => ⟨S2x256x384, .f32⟩
  | .hbm, ⟨4, _⟩ => ⟨S2x256x384, .f32⟩
  | .hbm, ⟨5, _⟩ => ⟨S2x256x384, .f32⟩
  | .hbm, ⟨6, _⟩ => ⟨S2x256x384, .f32⟩
  | .hbm, ⟨7, _⟩ => ⟨S2x256x384, .f32⟩
  | .hbm, ⟨8, _⟩ => ⟨S2x256x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S2x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRefIdeal.lean ====
abbrev S2x256x384 : Shape := ⟨3, ![2, 256, 384]⟩
abbrev S256x384 : Shape := ⟨2, ![256, 384]⟩
abbrev S1x256x384 : Shape := ⟨3, ![1, 256, 384]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x384, .f32⟩
  | .hbm, ⟨1, _⟩ => ⟨S256x384, .f32⟩
  | .hbm, ⟨2, _⟩ => ⟨S256x384, .f32⟩
  | .hbm, ⟨3, _⟩ => ⟨S2x256x384, .f32⟩
  | .hbm, ⟨4, _⟩ => ⟨S2x256x384, .f32⟩
  | .hbm, ⟨5, _⟩ => ⟨S1x256x384, .f32⟩
  | .hbm, ⟨6, _⟩ => ⟨S1x256x384, .f32⟩
  | .hbm, ⟨7, _⟩ => ⟨S2x256x384, .f32⟩
  | .hbm, ⟨8, _⟩ => ⟨S_, .f32⟩
  | .hbm, ⟨9, _⟩ => ⟨S2x256x384, .f32⟩
  | .hbm, ⟨10, _⟩ => ⟨S2x256x384, .f32⟩
  | .hbm, ⟨11, _⟩ => ⟨S_, .f32⟩
  | .hbm, ⟨12, _⟩ => ⟨S2x256x384, .f32⟩
  | .hbm, ⟨13, _⟩ => ⟨S2x256x384, .f32⟩
  | .hbm, ⟨14, _⟩ => ⟨S2x256x384, .f32⟩
  | .hbm, ⟨15, _⟩ => ⟨S_, .f32⟩
  | .hbm, ⟨16, _⟩ => ⟨S2x256x384, .f32⟩
  | .hbm, ⟨17, _⟩ => ⟨S2x256x384, .f32⟩
  | .hbm, ⟨18, _⟩ => ⟨S2x256x384, .f32⟩
  | .hbm, ⟨19, _⟩ => ⟨S_, .f32⟩
  | .hbm, ⟨20, _⟩ => ⟨S2x256x384, .f32⟩
  | .hbm, ⟨21, _⟩ => ⟨S2x256x384, .f32⟩
  | .hbm, ⟨22, _⟩ => ⟨S2x256x384, .f32⟩
  | .hbm, ⟨23, _⟩ => ⟨S_, .f32⟩
  | .hbm, ⟨24, _⟩ => ⟨S2x256x384, .f32⟩
  | .hbm, ⟨25, _⟩ => ⟨S2x256x384, .f32⟩
  | .hbm, ⟨26, _⟩ => ⟨S_, .f32⟩
  | .hbm, ⟨27, _⟩ => ⟨S2x256x384, .f32⟩
  | .hbm, ⟨28, _⟩ => ⟨S2x256x384, .f32⟩
  | .hbm, ⟨29, _⟩ => ⟨S2x256x384, .f32⟩
  | .hbm, ⟨30, _⟩ => ⟨S_, .f32⟩
  | .hbm, ⟨31, _⟩ => ⟨S2x256x384, .f32⟩
  | .hbm, ⟨32, _⟩ => ⟨S2x256x384, .f32⟩
  | .hbm, ⟨33, _⟩ => ⟨S2x256x384, .f32⟩
  | .hbm, ⟨34, _⟩ => ⟨S_, .f32⟩
  | .hbm, ⟨35, _⟩ => ⟨S2x256x384, .f32⟩
  | .hbm, ⟨36, _⟩ => ⟨S2x256x384, .f32⟩
  | .hbm, ⟨37, _⟩ => ⟨S2x256x384, .f32⟩
  | .hbm, ⟨38, _⟩ => ⟨S_, .f32⟩
  | .hbm, ⟨39, _⟩ => ⟨S2x256x384, .f32⟩
  | .hbm, ⟨40, _⟩ => ⟨S2x256x384, .f32⟩
  | _, _ => ⟨S2x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Loss.lean ====
abbrev S2176x1024 : Shape := ⟨2, ![2176, 1024]⟩
abbrev S1x128 : Shape := ⟨2, ![1, 128]⟩
abbrev S544x1024 : Shape := ⟨2, ![544, 1024]⟩
abbrev S544 : Shape := ⟨1, ![544]⟩
abbrev S544x1 : Shape := ⟨2, ![544, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S1x128, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x128, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_10 : BitVec 32 := 0#32
  let v27 : BitVec 1 := Scalar.cmpi .ne v26 c0_i32_10
  v27

def k0_cond2 (i : grid0.Coords) : BitVec 1 :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossIdeal.lean ====
abbrev S2176x1024 : Shape := ⟨2, ![2176, 1024]⟩
abbrev S1x128 : Shape := ⟨2, ![1, 128]⟩
abbrev S544x1024 : Shape := ⟨2, ![544, 1024]⟩
abbrev S544 : Shape := ⟨1, ![544]⟩
abbrev S544x1 : Shape := ⟨2, ![544, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S1x128, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x128, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_10 : BitVec 32 := 0#32
  let v27 : BitVec 1 := Scalar.cmpi .ne v26 c0_i32_10
  v27

def k0_cond2 (i : grid0.Coords) : BitVec 1 :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2176x1024 : Shape := ⟨2, ![2176, 1024]⟩
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2176x1024, .f32⟩
  | .hbm, ⟨29, _⟩ => ⟨S1x128, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== SsdDt.lean ====
abbrev S2176x2816 : Shape := ⟨2, ![2176, 2816]⟩
abbrev S1x128 : Shape := ⟨2, ![1, 128]⟩
abbrev S2176x128 : Shape := ⟨2, ![2176, 128]⟩
abbrev S128x2176 : Shape := ⟨2, ![128, 2176]⟩

abbrev nBuf : Space → Nat
  | .hbm => 4
  | .vmem => 4
  | .smem => 0
  | _ => 0

abbrev bufTy : (tb : Table) → Fin (tcTables nBuf tb) → BufTy
  | .hbm, ⟨0, _⟩ => ⟨S2176x2816, .f32⟩
  | .hbm, ⟨1, _⟩ => ⟨S1x128, .f32⟩
  | .hbm, ⟨2, _⟩ => ⟨S2176x128, .f32⟩
  | .hbm, ⟨3, _⟩ => ⟨S128x2176, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S128x2176, .f32⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SsdDtRefIdeal.lean ====
abbrev S2176x2816 : Shape := ⟨2, ![2176, 2816]⟩
abbrev S1x128 : Shape := ⟨2, ![1, 128]⟩
abbrev S2064x128 : Shape := ⟨2, ![2064, 128]⟩
abbrev S_ : Shape := ⟨0, ![]⟩
abbrev S2176x128 : Shape := ⟨2, ![2176, 128]⟩
abbrev S128x2176 : Shape := ⟨2, ![128, 2176]⟩

abbrev nBuf : Space → Nat
  | .hbm => 23
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S1x128, .f32⟩
  | .hbm, ⟨2, _⟩ => ⟨S2064x128, .f32⟩
  | .hbm, ⟨3, _⟩ => ⟨S2064x128, .f32⟩
  | .hbm, ⟨4, _⟩ => ⟨S2064x128, .f32⟩
  | .hbm, ⟨5, _⟩ => ⟨S_, .f32⟩
  | .hbm, ⟨6, _⟩ => ⟨S2064x128, .f32⟩
  | .hbm, ⟨7, _⟩ => ⟨S2064x128, .f32⟩
  | .hbm, ⟨8, _⟩ => ⟨S2064x128, .f32⟩
  | .hbm, ⟨9, _⟩ => ⟨S2064x128, .f32⟩
  | .hbm, ⟨10, _⟩ => ⟨S2064x128, .i1⟩
  | .hbm, ⟨11, _⟩ => ⟨S2064x128, .f32⟩
  | .hbm, ⟨12, _⟩ => ⟨S2064x128, .f32⟩
  | .hbm, ⟨13, _⟩ => ⟨S2064x128, .f32⟩
  | .hbm, ⟨14, _⟩ => ⟨S2064x128, .f32⟩
  | .hbm, ⟨15, _⟩ => ⟨S2064x128, .f32⟩
  | .hbm, ⟨16, _⟩ => ⟨S2064x128, .f32⟩
  | .hbm, ⟨17, _⟩ => ⟨S2064x128, .f32⟩
  | .hbm, ⟨18, _⟩ => ⟨S2064x128, .f32⟩
  | .hbm, ⟨19, _⟩ => ⟨S_, .i32⟩
  | .hbm, ⟨20, _⟩ => ⟨S_, .f32⟩
  | .hbm, ⟨21, _⟩ => ⟨S2176x128, .f32⟩
  | .hbm, ⟨22, _⟩ => ⟨S128x2176, .f32⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v3 : Ref sig .tc := ⟨.hbm, 18, rfl⟩
abbrev main_c : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩

abbrev nD : Nat := 1
abbrev τ : Topo := Topo.v7x

variable {F : FTy → Type} [FloatOps F]
-- ==== FfnLnBwd.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S2176x1024, .f32⟩
  | .hbm, ⟨6, _⟩ => ⟨S2176x1024, .bf16⟩
  | .hbm, ⟨7, _⟩ => ⟨S1x1024, .f32⟩
  | .hbm, ⟨8, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S1x1024, .f32⟩
  | .local _ .vmem, ⟨13, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v68 : BitVec 1 := Scalar.cmpi .eq arg1 c0_i32
  let v69 : BitVec 32 := Scalar.extui v68
  let c0_i32_29 : BitVec 32 := 0#32
  let v70 : BitVec 1 := Scalar.cmpi .ne v69 c0_i32_29
  v70

def k0_cond2 (i : grid0.Coords) : BitVec 1 :=
  let arg1 : BitVec 32 := BitVec.ofNat 32 (i 1).val
  let c0_i32_30 : BitVec 32 := 0#32
  let v71 : BitVec 1 := Scalar.cmpi .sgt arg1 c0_i32_30
  let v72 : BitVec 32 := Scalar.extui v71
  let c0_i32_31 : BitVec 32 := 0#32
  let v73 : BitVec 1 := Scalar.cmpi .ne v72 c0_i32_31
  v73

def k0_cond3 (i : grid0.Coords) : BitVec 1 :=
  let arg1 : BitVec 32 := BitVec.ofNat 32 (i 1).val
  let c0_i32_32 : BitVec 32 := 0#32
  let v74 : BitVec 1 := Scalar.cmpi .eq arg1 c0_i32_32
  let v75 : BitVec 32 := Scalar.extui v74
  let c0_i32_33 : BitVec 32 := 0#32
  let v76 : BitVec 1 := Scalar.cmpi .ne v75 c0_i32_33
  v76

def k0_cond4 (i : grid0.Coords) : BitVec 1 :=
  let arg1 : BitVec 32 := BitVec.ofNat 32 (i 1).val
  let c0_i32_34 : BitVec 32 := 0#32
  let v77 : BitVec 1 := Scalar.cmpi .sgt arg1 c0_i32_34
  let v78 : BitVec 32 := Scalar.extui v77
  let c0_i32_35 : BitVec 32 := 0#32
  let v79 : BitVec 1 := Scalar.cmpi .ne v78 c0_i32_35
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== FfnLnBwdRefIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S_, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S2176, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2176x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S_, .f32⟩
  | .hbm, ⟨58, _⟩ => ⟨S2176, .f32⟩
  | .hbm, ⟨59, _⟩ => ⟨S2176x1, .f32⟩
  | .hbm, ⟨60, _⟩ => ⟨S2176x1024, .f32⟩
  | .hbm, ⟨61, _⟩ => ⟨S2176x1024, .f32⟩
  | .hbm, ⟨62, _⟩ => ⟨S2176x1, .f32⟩
  | .hbm, ⟨63, _⟩ => ⟨S2176x1024, .f32⟩
  | .hbm, ⟨64, _⟩ => ⟨S_, .f32⟩
  | .hbm, ⟨65, _⟩ => ⟨S2176, .f32⟩
  | .hbm, ⟨66, _⟩ => ⟨S2176x1, .f32⟩
  | .hbm, ⟨67, _⟩ => ⟨S_, .f32⟩
  | .hbm, ⟨68, _⟩ => ⟨S2176x1, .f32⟩
  | .hbm, ⟨69, _⟩ => ⟨S2176x1, .f32⟩
  | .hbm, ⟨70, _⟩ => ⟨S_, .f32⟩
  | .hbm, ⟨71, _⟩ => ⟨S2176, .f32⟩
  | .hbm, ⟨72, _⟩ => ⟨S2176x1024, .f32⟩
  | .hbm, ⟨73, _⟩ => ⟨S2176x1024, .f32⟩
  | .hbm, ⟨74, _⟩ => ⟨S2176x1024, .f32⟩
  | .hbm, ⟨75, _⟩ => ⟨S_, .f32⟩
  | .hbm, ⟨76, _⟩ => ⟨S2176, .f32⟩
  | .hbm, ⟨77, _⟩ => ⟨S2176x1, .f32⟩
  | .hbm, ⟨78, _⟩ => ⟨S2176x1024, .f32⟩
  | .hbm, ⟨79, _⟩ => ⟨S2176x1, .f32⟩
  | .hbm, ⟨80, _⟩ => ⟨S_, .f32⟩
  | .hbm, ⟨81, _⟩ => ⟨S2176x1, .f32⟩
  | .hbm, ⟨82, _⟩ => ⟨S2176x1, .f32⟩
  | .hbm, ⟨83, _⟩ => ⟨S_, .f32⟩
  | .hbm, ⟨84, _⟩ => ⟨S2176, .f32⟩
  | .hbm, ⟨85, _⟩ => ⟨S2176x1024, .f32⟩
  | .hbm, ⟨86, _⟩ => ⟨S2176x1024, .f32⟩
  | .hbm, ⟨87, _⟩ => ⟨S_, .f32⟩
  | .hbm, ⟨88, _⟩ => ⟨S2176x1024, .f32⟩
  | .hbm, ⟨89, _⟩ => ⟨S2176x1024, .f32⟩
  | .hbm, ⟨90, _⟩ => ⟨S_, .f32⟩
  | .hbm, ⟨91, _⟩ => ⟨S2176x1024, .f32⟩
  | .hbm, ⟨92, _⟩ => ⟨S2176x1024, .f32⟩
  | .hbm, ⟨93, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== MixLnBwd.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S2176x1024, .f32⟩
  | .hbm, ⟨6, _⟩ => ⟨S2176x1024, .bf16⟩
  | .hbm, ⟨7, _⟩ => ⟨S1x1024, .f32⟩
  | .hbm, ⟨8, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S1x1024, .f32⟩
  | .local _ .vmem, ⟨13, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v68 : BitVec 1 := Scalar.cmpi .eq arg1 c0_i32
  let v69 : BitVec 32 := Scalar.extui v68
  let c0_i32_29 : BitVec 32 := 0#32
  let v70 : BitVec 1 := Scalar.cmpi .ne v69 c0_i32_29
  v70

def k0_cond2 (i : grid0.Coords) : BitVec 1 :=
  let arg1 : BitVec 32 := BitVec.ofNat 32 (i 1).val
  let c0_i32_30 : BitVec 32 := 0#32
  let v71 : BitVec 1 := Scalar.cmpi .sgt arg1 c0_i32_30
  let v72 : BitVec 32 := Scalar.extui v71
  let c0_i32_31 : BitVec 32 := 0#32
  let v73 : BitVec 1 := Scalar.cmpi .ne v72 c0_i32_31
  v73

def k0_cond3 (i : grid0.Coords) : BitVec 1 :=
  let arg1 : BitVec 32 := BitVec.ofNat 32 (i 1).val
  let c0_i32_32 : BitVec 32 := 0#32
  let v74 : BitVec 1 := Scalar.cmpi .eq arg1 c0_i32_32
  let v75 : BitVec 32 := Scalar.extui v74
  let c0_i32_33 : BitVec 32 := 0#32
  let v76 : BitVec 1 := Scalar.cmpi .ne v75 c0_i32_33
  v76

def k0_cond4 (i : grid0.Coords) : BitVec 1 :=
  let arg1 : BitVec 32 := BitVec.ofNat 32 (i 1).val
  let c0_i32_34 : BitVec 32 := 0#32
  let v77 : BitVec 1 := Scalar.cmpi .sgt arg1 c0_i32_34
  let v78 : BitVec 32 := Scalar.extui v77
  let c0_i32_35 : BitVec 32 := 0#32
  let v79 : BitVec 1 := Scalar.cmpi .ne v78 c0_i32_35
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== MixLnBwdRefIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S_, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S2176, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2176x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S_, .f32⟩
  | .hbm, ⟨58, _⟩ => ⟨S2176, .f32⟩
  | .hbm, ⟨59, _⟩ => ⟨S2176x1, .f32⟩
  | .hbm, ⟨60, _⟩ => ⟨S2176x1024, .f32⟩
  | .hbm, ⟨61, _⟩ => ⟨S2176x1024, .f32⟩
  | .hbm, ⟨62, _⟩ => ⟨S2176x1, .f32⟩
  | .hbm, ⟨63, _⟩ => ⟨S2176x1024, .f32⟩
  | .hbm, ⟨64, _⟩ => ⟨S_, .f32⟩
  | .hbm, ⟨65, _⟩ => ⟨S2176, .f32⟩
  | .hbm, ⟨66, _⟩ => ⟨S2176x1, .f32⟩
  | .hbm, ⟨67, _⟩ => ⟨S_, .f32⟩
  | .hbm, ⟨68, _⟩ => ⟨S2176x1, .f32⟩
  | .hbm, ⟨69, _⟩ => ⟨S2176x1, .f32⟩
  | .hbm, ⟨70, _⟩ => ⟨S_, .f32⟩
  | .hbm, ⟨71, _⟩ => ⟨S2176, .f32⟩
  | .hbm, ⟨72, _⟩ => ⟨S2176x1024, .f32⟩
  | .hbm, ⟨73, _⟩ => ⟨S2176x1024, .f32⟩
  | .hbm, ⟨74, _⟩ => ⟨S2176x1024, .f32⟩
  | .hbm, ⟨75, _⟩ => ⟨S_, .f32⟩
  | .hbm, ⟨76, _⟩ => ⟨S2176, .f32⟩
  | .hbm, ⟨77, _⟩ => ⟨S2176x1, .f32⟩
  | .hbm, ⟨78, _⟩ => ⟨S2176x1024, .f32⟩
  | .hbm, ⟨79, _⟩ => ⟨S2176x1, .f32⟩
  | .hbm, ⟨80, _⟩ => ⟨S_, .f32⟩
  | .hbm, ⟨81, _⟩ => ⟨S2176x1, .f32⟩
  | .hbm, ⟨82, _⟩ => ⟨S2176x1, .f32⟩
  | .hbm, ⟨83, _⟩ => ⟨S_, .f32⟩
  | .hbm, ⟨84, _⟩ => ⟨S2176, .f32⟩
  | .hbm, ⟨85, _⟩ => ⟨S2176x1024, .f32⟩
  | .hbm, ⟨86, _⟩ => ⟨S2176x1024, .f32⟩
  | .hbm, ⟨87, _⟩ => ⟨S_, .f32⟩
  | .hbm, ⟨88, _⟩ => ⟨S2176x1024, .f32⟩
  | .hbm, ⟨89, _⟩ => ⟨S2176x1024, .f32⟩
  | .hbm, ⟨90, _⟩ => ⟨S_, .f32⟩
  | .hbm, ⟨91, _⟩ => ⟨S2176x1024, .f32⟩
  | .hbm, ⟨92, _⟩ => ⟨S2176x1024, .f32⟩
  | .hbm, ⟨93, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Fox.Base.lean ====
/- The forgetting attention's backward kernel: when each branch of its body is taken, and what a run of the body starts and ends with. -/
module

public import proofs.«01_k».proof.Proof.Gen.KernelIdeal.Frame
public import proofs.«01_k».proof.Proof.Gen.KernelIdeal.Loops

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The branches -/

/-- The accumulators are zeroed at the first block of queries only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- Blocks 0 and 1 see the first 640 keys, -/
theorem keys640_iff : ∀ t : Fin cfg0.N, k0_cond2 (grid0.coords t) = 1#1 ↔ t.val / 2 = 0 :=
  (by decide +kernel : ∀ t : Fin grid0.N, k0_cond2 (grid0.coords t) = 1#1 ↔ t.val / 2 = 0)
/-- blocks 2 and 3 the first 1152, -/
theorem keys1152_iff : ∀ t : Fin cfg0.N, k0_cond3 (grid0.coords t) = 1#1 ↔ t.val / 2 = 1 :=
  (by decide +kernel : ∀ t : Fin grid0.N, k0_cond3 (grid0.coords t) = 1#1 ↔ t.val / 2 = 1)
/-- blocks 4 and 5 the first 1664, -/
theorem keys1664_iff : ∀ t : Fin cfg0.N, k0_cond4 (grid0.coords t) = 1#1 ↔ t.val / 2 = 2 :=
  (by decide +kernel : ∀ t : Fin grid0.N, k0_cond4 (grid0.coords t) = 1#1 ↔ t.val / 2 = 2)
/-- and blocks 6 and 7 all 2176. -/
theorem keys2176_iff : ∀ t : Fin cfg0.N, k0_cond5 (grid0.coords t) = 1#1 ↔ t.val / 2 = 3 :=
  (by decide +kernel : ∀ t : Fin grid0.N, k0_cond5 (grid0.coords t) = 1#1 ↔ t.val / 2 = 3)

/-! ## What a run of the body holds -/

variable (c : Dev nD)
  (arg1 : Memref sig .tc .vmem S272x256 .f32) (harg1 : arg1.IsWhole)
  (arg2 : Memref sig .tc .vmem S2176x256 .f32) (harg2 : arg2.IsWhole)
  (arg3 : Memref sig .tc .vmem S2176x256 .f32) (harg3 : arg3.IsWhole)
  (arg4 : Memref sig .tc .vmem S272x128 .f32) (harg4 : arg4.IsWhole)
  (arg5 : Memref sig .tc .vmem S128x2176 .f32) (harg5 : arg5.IsWhole)
  (arg6 : Memref sig .tc .vmem S272x256 .f32) (harg6 : arg6.IsWhole)
  (arg7 : Memref sig .tc .vmem S272x128 .f32) (harg7 : arg7.IsWhole)
  (arg8 : Memref sig .tc .vmem S272x256 .f32) (harg8 : arg8.IsWhole)
  (arg9 : Memref sig .tc .vmem S272x256 .f32) (harg9 : arg9.IsWhole)
  (arg10 : Memref sig .tc .vmem S2176x256 .f32) (harg10 : arg10.IsWhole)
  (arg11 : Memref sig .tc .vmem S2176x256 .f32) (harg11 : arg11.IsWhole)
  (arg12 : Memref sig .tc .vmem S272x128 .f32) (harg12 : arg12.IsWhole)
  (arg13 : Memref sig .tc .vmem S128x2176 .f32) (harg13 : arg13.IsWhole)

/-- The eight inputs' buffers at the blocks `x·`, the five results' at the contents `g·`. -/
abbrev Held (x0 : Vec F S272x256 .f32) (x1 : Vec F S2176x256 .f32) (x2 : Vec F S2176x256 .f32) (x3 : Vec F S272x128 .f32) (x4 : Vec F S128x2176 .f32) (x5 : Vec F S272x256 .f32) (x6 : Vec F S272x128 .f32) (x7 : Vec F S272x256 .f32)
    (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) : sProp 𝕄 :=
  iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13))

end Cert.KernelIdeal.Fox

end
-- ==== Proof.Fox.RunA.lean ====
/- The first block of queries (640 keys, accumulators zeroed) -/
module

public import proofs.«01_k».proof.Proof.Fox.Base

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S272x256 .f32) (harg1 : arg1.IsWhole)
  (arg2 : Memref sig .tc .vmem S2176x256 .f32) (harg2 : arg2.IsWhole)
  (arg3 : Memref sig .tc .vmem S2176x256 .f32) (harg3 : arg3.IsWhole)
  (arg4 : Memref sig .tc .vmem S272x128 .f32) (harg4 : arg4.IsWhole)
  (arg5 : Memref sig .tc .vmem S128x2176 .f32) (harg5 : arg5.IsWhole)
  (arg6 : Memref sig .tc .vmem S272x256 .f32) (harg6 : arg6.IsWhole)
  (arg7 : Memref sig .tc .vmem S272x128 .f32) (harg7 : arg7.IsWhole)
  (arg8 : Memref sig .tc .vmem S272x256 .f32) (harg8 : arg8.IsWhole)
  (arg9 : Memref sig .tc .vmem S272x256 .f32) (harg9 : arg9.IsWhole)
  (arg10 : Memref sig .tc .vmem S2176x256 .f32) (harg10 : arg10.IsWhole)
  (arg11 : Memref sig .tc .vmem S2176x256 .f32) (harg11 : arg11.IsWhole)
  (arg12 : Memref sig .tc .vmem S272x128 .f32) (harg12 : arg12.IsWhole)
  (arg13 : Memref sig .tc .vmem S128x2176 .f32) (harg13 : arg13.IsWhole)

set_option maxHeartbeats 2000000 in
/-- The first block of queries (640 keys, accumulators zeroed): the pieces the body stores into each result, found by running it. -/
noncomputable def runA (h1 : k0_cond1 i = 1#1) (h2 : k0_cond2 i = 1#1) (h3 : ¬k0_cond3 i = 1#1) (h4 : ¬k0_cond4 i = 1#1) (h5 : ¬k0_cond5 i = 1#1)
    (x0 : Vec F S272x256 .f32) (x1 : Vec F S2176x256 .f32) (x2 : Vec F S2176x256 .f32) (x3 : Vec F S272x128 .f32) (x4 : Vec F S128x2176 .f32) (x5 : Vec F S272x256 .f32) (x6 : Vec F S272x128 .f32) (x7 : Vec F S272x256 .f32) :
    Σ' (L9 : List (View.Piece (Elt F) S272x256 .f32)) (L10 : List (View.Piece (Elt F) S2176x256 .f32)) (L11 : List (View.Piece (Elt F) S2176x256 .f32)) (L12 : List (View.Piece (Elt F) S272x128 .f32)),
    { L13 : List (View.Piece (Elt F) S128x2176 .f32) // ∀ (E : Set ℕ) (g9 : BufTy.Contents (Elt F) arg9.view.ty) (g12 : BufTy.Contents (Elt F) arg12.view.ty) (g10 : BufTy.Contents (Elt F) arg10.view.ty) (g11 : BufTy.Contents (Elt F) arg11.view.ty) (g13 : BufTy.Contents (Elt F) arg13.view.ty),
      Held c arg1 harg1 arg2 harg2 arg3 harg3 arg4 harg4 arg5 harg5 arg6 harg6 arg7 harg7 arg8 harg8 arg9 arg10 arg11 arg12 arg13 x0 x1 x2 x3 x4 x5 x6 x7 g9 g10 g11 g12 g13
      ⊢ wp frame (wpE (defs₀ (F := F)) Variants.none c none) E (cc0_fox_attn_bwd i arg1 harg1 arg2 harg2 arg3 harg3 arg4 harg4 arg5 harg5 arg6 harg6 arg7 harg7 arg8 harg8 arg9 harg9 arg10 harg10 arg11 harg11 arg12 harg12 arg13 harg13)
          (fun _ => iprop(∃ f9 f10 f11 f12 f13, Held c arg1 harg1 arg2 harg2 arg3 harg3 arg4 harg4 arg5 harg5 arg6 harg6 arg7 harg7 arg8 harg8 arg9 arg10 arg11 arg12 arg13 x0 x1 x2 x3 x4 x5 x6 x7 (arg9.view.writes (Elt F) f9 L9) (arg10.view.writes (Elt F) f10 L10) (arg11.view.writes (Elt F) f11 L11) (arg12.view.writes (Elt F) f12 L12) (arg13.view.writes (Elt F) f13 L13))) } := by
  refine ⟨?_, ?_, ?_, ?_, ?_, fun E g9 g12 g10 g11 g13 => ?run⟩
  case run =>
    simp only [cc0_fox_attn_bwd_eq_skeleton]; unfold cc0_fox_attn_bwd_skel
    simp only [k0_part17_eq_skeleton, k0_part18_eq_skeleton, k0_part3_eq_skeleton, k0_part4_eq_skeleton]
    unfold Held
    iintro ⟨H0, H1, H2, H3, H4, H5, H6, H7, H8, H9, H10, H11, H12⟩
    sl_exec (disch := first | sl_exact h1 | sl_exact h2 | sl_exact h3 | sl_exact h4 | sl_exact h5)
    sl_step
    iexists _, _, _, _, _
    sl_close

end Cert.KernelIdeal.Fox

end
-- ==== Proof.Fox.RunB.lean ====
/- The second block of queries (640 keys) -/
module

public import proofs.«01_k».proof.Proof.Fox.Base

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S272x256 .f32) (harg1 : arg1.IsWhole)
  (arg2 : Memref sig .tc .vmem S2176x256 .f32) (harg2 : arg2.IsWhole)
  (arg3 : Memref sig .tc .vmem S2176x256 .f32) (harg3 : arg3.IsWhole)
  (arg4 : Memref sig .tc .vmem S272x128 .f32) (harg4 : arg4.IsWhole)
  (arg5 : Memref sig .tc .vmem S128x2176 .f32) (harg5 : arg5.IsWhole)
  (arg6 : Memref sig .tc .vmem S272x256 .f32) (harg6 : arg6.IsWhole)
  (arg7 : Memref sig .tc .vmem S272x128 .f32) (harg7 : arg7.IsWhole)
  (arg8 : Memref sig .tc .vmem S272x256 .f32) (harg8 : arg8.IsWhole)
  (arg9 : Memref sig .tc .vmem S272x256 .f32) (harg9 : arg9.IsWhole)
  (arg10 : Memref sig .tc .vmem S2176x256 .f32) (harg10 : arg10.IsWhole)
  (arg11 : Memref sig .tc .vmem S2176x256 .f32) (harg11 : arg11.IsWhole)
  (arg12 : Memref sig .tc .vmem S272x128 .f32) (harg12 : arg12.IsWhole)
  (arg13 : Memref sig .tc .vmem S128x2176 .f32) (harg13 : arg13.IsWhole)

set_option maxHeartbeats 2000000 in
/-- The second block of queries (640 keys): the pieces the body stores into each result, found by running it. -/
noncomputable def runB (h1 : ¬k0_cond1 i = 1#1) (h2 : k0_cond2 i = 1#1) (h3 : ¬k0_cond3 i = 1#1) (h4 : ¬k0_cond4 i = 1#1) (h5 : ¬k0_cond5 i = 1#1)
    (x0 : Vec F S272x256 .f32) (x1 : Vec F S2176x256 .f32) (x2 : Vec F S2176x256 .f32) (x3 : Vec F S272x128 .f32) (x4 : Vec F S128x2176 .f32) (x5 : Vec F S272x256 .f32) (x6 : Vec F S272x128 .f32) (x7 : Vec F S272x256 .f32)
    (g10 : BufTy.Contents (Elt F) arg10.view.ty) (g11 : BufTy.Contents (Elt F) arg11.view.ty) (g13 : BufTy.Contents (Elt F) arg13.view.ty) :
    Σ' (L9 : List (View.Piece (Elt F) S272x256 .f32)) (L10 : List (View.Piece (Elt F) S2176x256 .f32)) (L11 : List (View.Piece (Elt F) S2176x256 .f32)) (L12 : List (View.Piece (Elt F) S272x128 .f32)),
    { L13 : List (View.Piece (Elt F) S128x2176 .f32) // ∀ (E : Set ℕ) (g9 : BufTy.Contents (Elt F) arg9.view.ty) (g12 : BufTy.Contents (Elt F) arg12.view.ty),
      Held c arg1 harg1 arg2 harg2 arg3 harg3 arg4 harg4 arg5 harg5 arg6 harg6 arg7 harg7 arg8 harg8 arg9 arg10 arg11 arg12 arg13 x0 x1 x2 x3 x4 x5 x6 x7 g9 g10 g11 g12 g13
      ⊢ wp frame (wpE (defs₀ (F := F)) Variants.none c none) E (cc0_fox_attn_bwd i arg1 harg1 arg2 harg2 arg3 harg3 arg4 harg4 arg5 harg5 arg6 harg6 arg7 harg7 arg8 harg8 arg9 harg9 arg10 harg10 arg11 harg11 arg12 harg12 arg13 harg13)
          (fun _ => Held c arg1 harg1 arg2 harg2 arg3 harg3 arg4 harg4 arg5 harg5 arg6 harg6 arg7 harg7 arg8 harg8 arg9 arg10 arg11 arg12 arg13 x0 x1 x2 x3 x4 x5 x6 x7 (arg9.view.writes (Elt F) g9 L9) (arg10.view.writes (Elt F) g10 L10) (arg11.view.writes (Elt F) g11 L11) (arg12.view.writes (Elt F) g12 L12) (arg13.view.writes (Elt F) g13 L13)) } := by
  refine ⟨?_, ?_, ?_, ?_, ?_, fun E g9 g12 => ?run⟩
  case run =>
    simp only [cc0_fox_attn_bwd_eq_skeleton]; unfold cc0_fox_attn_bwd_skel
    simp only [k0_part17_eq_skeleton, k0_part18_eq_skeleton, k0_part3_eq_skeleton, k0_part4_eq_skeleton]
    unfold Held
    iintro ⟨H0, H1, H2, H3, H4, H5, H6, H7, H8, H9, H10, H11, H12⟩
    sl_exec (disch := first | sl_exact h1 | sl_exact h2 | sl_exact h3 | sl_exact h4 | sl_exact h5)
    sl_step

    sl_close

end Cert.KernelIdeal.Fox

end
-- ==== Proof.Fox.RunC.lean ====
/- The third and fourth blocks of queries (1152 keys) -/
module

public import proofs.«01_k».proof.Proof.Fox.Base

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S272x256 .f32) (harg1 : arg1.IsWhole)
  (arg2 : Memref sig .tc .vmem S2176x256 .f32) (harg2 : arg2.IsWhole)
  (arg3 : Memref sig .tc .vmem S2176x256 .f32) (harg3 : arg3.IsWhole)
  (arg4 : Memref sig .tc .vmem S272x128 .f32) (harg4 : arg4.IsWhole)
  (arg5 : Memref sig .tc .vmem S128x2176 .f32) (harg5 : arg5.IsWhole)
  (arg6 : Memref sig .tc .vmem S272x256 .f32) (harg6 : arg6.IsWhole)
  (arg7 : Memref sig .tc .vmem S272x128 .f32) (harg7 : arg7.IsWhole)
  (arg8 : Memref sig .tc .vmem S272x256 .f32) (harg8 : arg8.IsWhole)
  (arg9 : Memref sig .tc .vmem S272x256 .f32) (harg9 : arg9.IsWhole)
  (arg10 : Memref sig .tc .vmem S2176x256 .f32) (harg10 : arg10.IsWhole)
  (arg11 : Memref sig .tc .vmem S2176x256 .f32) (harg11 : arg11.IsWhole)
  (arg12 : Memref sig .tc .vmem S272x128 .f32) (harg12 : arg12.IsWhole)
  (arg13 : Memref sig .tc .vmem S128x2176 .f32) (harg13 : arg13.IsWhole)

set_option maxHeartbeats 2000000 in
/-- The third and fourth blocks of queries (1152 keys): the pieces the body stores into each result, found by running it. -/
noncomputable def runC (h1 : ¬k0_cond1 i = 1#1) (h2 : ¬k0_cond2 i = 1#1) (h3 : k0_cond3 i = 1#1) (h4 : ¬k0_cond4 i = 1#1) (h5 : ¬k0_cond5 i = 1#1)
    (x0 : Vec F S272x256 .f32) (x1 : Vec F S2176x256 .f32) (x2 : Vec F S2176x256 .f32) (x3 : Vec F S272x128 .f32) (x4 : Vec F S128x2176 .f32) (x5 : Vec F S272x256 .f32) (x6 : Vec F S272x128 .f32) (x7 : Vec F S272x256 .f32)
    (g10 : BufTy.Contents (Elt F) arg10.view.ty) (g11 : BufTy.Contents (Elt F) arg11.view.ty) (g13 : BufTy.Contents (Elt F) arg13.view.ty) :
    Σ' (L9 : List (View.Piece (Elt F) S272x256 .f32)) (L10 : List (View.Piece (Elt F) S2176x256 .f32)) (L11 : List (View.Piece (Elt F) S2176x256 .f32)) (L12 : List (View.Piece (Elt F) S272x128 .f32)),
    { L13 : List (View.Piece (Elt F) S128x2176 .f32) // ∀ (E : Set ℕ) (g9 : BufTy.Contents (Elt F) arg9.view.ty) (g12 : BufTy.Contents (Elt F) arg12.view.ty),
      Held c arg1 harg1 arg2 harg2 arg3 harg3 arg4 harg4 arg5 harg5 arg6 harg6 arg7 harg7 arg8 harg8 arg9 arg10 arg11 arg12 arg13 x0 x1 x2 x3 x4 x5 x6 x7 g9 g10 g11 g12 g13
      ⊢ wp frame (wpE (defs₀ (F := F)) Variants.none c none) E (cc0_fox_attn_bwd i arg1 harg1 arg2 harg2 arg3 harg3 arg4 harg4 arg5 harg5 arg6 harg6 arg7 harg7 arg8 harg8 arg9 harg9 arg10 harg10 arg11 harg11 arg12 harg12 arg13 harg13)
          (fun _ => Held c arg1 harg1 arg2 harg2 arg3 harg3 arg4 harg4 arg5 harg5 arg6 harg6 arg7 harg7 arg8 harg8 arg9 arg10 arg11 arg12 arg13 x0 x1 x2 x3 x4 x5 x6 x7 (arg9.view.writes (Elt F) g9 L9) (arg10.view.writes (Elt F) g10 L10) (arg11.view.writes (Elt F) g11 L11) (arg12.view.writes (Elt F) g12 L12) (arg13.view.writes (Elt F) g13 L13)) } := by
  refine ⟨?_, ?_, ?_, ?_, ?_, fun E g9 g12 => ?run⟩
  case run =>
    simp only [cc0_fox_attn_bwd_eq_skeleton]; unfold cc0_fox_attn_bwd_skel
    simp only [k0_part17_eq_skeleton, k0_part18_eq_skeleton, k0_part7_eq_skeleton, k0_part8_eq_skeleton]
    unfold Held
    iintro ⟨H0, H1, H2, H3, H4, H5, H6, H7, H8, H9, H10, H11, H12⟩
    sl_exec (disch := first | sl_exact h1 | sl_exact h2 | sl_exact h3 | sl_exact h4 | sl_exact h5)
    sl_step

    sl_close

end Cert.KernelIdeal.Fox

end
-- ==== Proof.Fox.RunD.lean ====
/- The fifth and sixth blocks of queries (1664 keys) -/
module

public import proofs.«01_k».proof.Proof.Fox.Base

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S272x256 .f32) (harg1 : arg1.IsWhole)
  (arg2 : Memref sig .tc .vmem S2176x256 .f32) (harg2 : arg2.IsWhole)
  (arg3 : Memref sig .tc .vmem S2176x256 .f32) (harg3 : arg3.IsWhole)
  (arg4 : Memref sig .tc .vmem S272x128 .f32) (harg4 : arg4.IsWhole)
  (arg5 : Memref sig .tc .vmem S128x2176 .f32) (harg5 : arg5.IsWhole)
  (arg6 : Memref sig .tc .vmem S272x256 .f32) (harg6 : arg6.IsWhole)
  (arg7 : Memref sig .tc .vmem S272x128 .f32) (harg7 : arg7.IsWhole)
  (arg8 : Memref sig .tc .vmem S272x256 .f32) (harg8 : arg8.IsWhole)
  (arg9 : Memref sig .tc .vmem S272x256 .f32) (harg9 : arg9.IsWhole)
  (arg10 : Memref sig .tc .vmem S2176x256 .f32) (harg10 : arg10.IsWhole)
  (arg11 : Memref sig .tc .vmem S2176x256 .f32) (harg11 : arg11.IsWhole)
  (arg12 : Memref sig .tc .vmem S272x128 .f32) (harg12 : arg12.IsWhole)
  (arg13 : Memref sig .tc .vmem S128x2176 .f32) (harg13 : arg13.IsWhole)

set_option maxHeartbeats 2000000 in
/-- The fifth and sixth blocks of queries (1664 keys): the pieces the body stores into each result, found by running it. -/
noncomputable def runD (h1 : ¬k0_cond1 i = 1#1) (h2 : ¬k0_cond2 i = 1#1) (h3 : ¬k0_cond3 i = 1#1) (h4 : k0_cond4 i = 1#1) (h5 : ¬k0_cond5 i = 1#1)
    (x0 : Vec F S272x256 .f32) (x1 : Vec F S2176x256 .f32) (x2 : Vec F S2176x256 .f32) (x3 : Vec F S272x128 .f32) (x4 : Vec F S128x2176 .f32) (x5 : Vec F S272x256 .f32) (x6 : Vec F S272x128 .f32) (x7 : Vec F S272x256 .f32)
    (g10 : BufTy.Contents (Elt F) arg10.view.ty) (g11 : BufTy.Contents (Elt F) arg11.view.ty) (g13 : BufTy.Contents (Elt F) arg13.view.ty) :
    Σ' (L9 : List (View.Piece (Elt F) S272x256 .f32)) (L10 : List (View.Piece (Elt F) S2176x256 .f32)) (L11 : List (View.Piece (Elt F) S2176x256 .f32)) (L12 : List (View.Piece (Elt F) S272x128 .f32)),
    { L13 : List (View.Piece (Elt F) S128x2176 .f32) // ∀ (E : Set ℕ) (g9 : BufTy.Contents (Elt F) arg9.view.ty) (g12 : BufTy.Contents (Elt F) arg12.view.ty),
      Held c arg1 harg1 arg2 harg2 arg3 harg3 arg4 harg4 arg5 harg5 arg6 harg6 arg7 harg7 arg8 harg8 arg9 arg10 arg11 arg12 arg13 x0 x1 x2 x3 x4 x5 x6 x7 g9 g10 g11 g12 g13
      ⊢ wp frame (wpE (defs₀ (F := F)) Variants.none c none) E (cc0_fox_attn_bwd i arg1 harg1 arg2 harg2 arg3 harg3 arg4 harg4 arg5 harg5 arg6 harg6 arg7 harg7 arg8 harg8 arg9 harg9 arg10 harg10 arg11 harg11 arg12 harg12 arg13 harg13)
          (fun _ => Held c arg1 harg1 arg2 harg2 arg3 harg3 arg4 harg4 arg5 harg5 arg6 harg6 arg7 harg7 arg8 harg8 arg9 arg10 arg11 arg12 arg13 x0 x1 x2 x3 x4 x5 x6 x7 (arg9.view.writes (Elt F) g9 L9) (arg10.view.writes (Elt F) g10 L10) (arg11.view.writes (Elt F) g11 L11) (arg12.view.writes (Elt F) g12 L12) (arg13.view.writes (Elt F) g13 L13)) } := by
  refine ⟨?_, ?_, ?_, ?_, ?_, fun E g9 g12 => ?run⟩
  case run =>
    simp only [cc0_fox_attn_bwd_eq_skeleton]; unfold cc0_fox_attn_bwd_skel
    simp only [k0_part17_eq_skeleton, k0_part18_eq_skeleton, k0_part11_eq_skeleton, k0_part12_eq_skeleton]
    unfold Held
    iintro ⟨H0, H1, H2, H3, H4, H5, H6, H7, H8, H9, H10, H11, H12⟩
    sl_exec (disch := first | sl_exact h1 | sl_exact h2 | sl_exact h3 | sl_exact h4 | sl_exact h5)
    sl_step

    sl_close

end Cert.KernelIdeal.Fox

end
-- ==== Proof.Fox.RunE.lean ====
/- The last two blocks of queries (2176 keys) -/
module

public import proofs.«01_k».proof.Proof.Fox.Base

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S272x256 .f32) (harg1 : arg1.IsWhole)
  (arg2 : Memref sig .tc .vmem S2176x256 .f32) (harg2 : arg2.IsWhole)
  (arg3 : Memref sig .tc .vmem S2176x256 .f32) (harg3 : arg3.IsWhole)
  (arg4 : Memref sig .tc .vmem S272x128 .f32) (harg4 : arg4.IsWhole)
  (arg5 : Memref sig .tc .vmem S128x2176 .f32) (harg5 : arg5.IsWhole)
  (arg6 : Memref sig .tc .vmem S272x256 .f32) (harg6 : arg6.IsWhole)
  (arg7 : Memref sig .tc .vmem S272x128 .f32) (harg7 : arg7.IsWhole)
  (arg8 : Memref sig .tc .vmem S272x256 .f32) (harg8 : arg8.IsWhole)
  (arg9 : Memref sig .tc .vmem S272x256 .f32) (harg9 : arg9.IsWhole)
  (arg10 : Memref sig .tc .vmem S2176x256 .f32) (harg10 : arg10.IsWhole)
  (arg11 : Memref sig .tc .vmem S2176x256 .f32) (harg11 : arg11.IsWhole)
  (arg12 : Memref sig .tc .vmem S272x128 .f32) (harg12 : arg12.IsWhole)
  (arg13 : Memref sig .tc .vmem S128x2176 .f32) (harg13 : arg13.IsWhole)

set_option maxHeartbeats 2000000 in
/-- The last two blocks of queries (2176 keys): the pieces the body stores into each result, found by running it. -/
noncomputable def runE (h1 : ¬k0_cond1 i = 1#1) (h2 : ¬k0_cond2 i = 1#1) (h3 : ¬k0_cond3 i = 1#1) (h4 : ¬k0_cond4 i = 1#1) (h5 : k0_cond5 i = 1#1)
    (x0 : Vec F S272x256 .f32) (x1 : Vec F S2176x256 .f32) (x2 : Vec F S2176x256 .f32) (x3 : Vec F S272x128 .f32) (x4 : Vec F S128x2176 .f32) (x5 : Vec F S272x256 .f32) (x6 : Vec F S272x128 .f32) (x7 : Vec F S272x256 .f32)
    (g10 : BufTy.Contents (Elt F) arg10.view.ty) (g11 : BufTy.Contents (Elt F) arg11.view.ty) (g13 : BufTy.Contents (Elt F) arg13.view.ty) :
    Σ' (L9 : List (View.Piece (Elt F) S272x256 .f32)) (L10 : List (View.Piece (Elt F) S2176x256 .f32)) (L11 : List (View.Piece (Elt F) S2176x256 .f32)) (L12 : List (View.Piece (Elt F) S272x128 .f32)),
    { L13 : List (View.Piece (Elt F) S128x2176 .f32) // ∀ (E : Set ℕ) (g9 : BufTy.Contents (Elt F) arg9.view.ty) (g12 : BufTy.Contents (Elt F) arg12.view.ty),
      Held c arg1 harg1 arg2 harg2 arg3 harg3 arg4 harg4 arg5 harg5 arg6 harg6 arg7 harg7 arg8 harg8 arg9 arg10 arg11 arg12 arg13 x0 x1 x2 x3 x4 x5 x6 x7 g9 g10 g11 g12 g13
      ⊢ wp frame (wpE (defs₀ (F := F)) Variants.none c none) E (cc0_fox_attn_bwd i arg1 harg1 arg2 harg2 arg3 harg3 arg4 harg4 arg5 harg5 arg6 harg6 arg7 harg7 arg8 harg8 arg9 harg9 arg10 harg10 arg11 harg11 arg12 harg12 arg13 harg13)
          (fun _ => Held c arg1 harg1 arg2 harg2 arg3 harg3 arg4 harg4 arg5 harg5 arg6 harg6 arg7 harg7 arg8 harg8 arg9 arg10 arg11 arg12 arg13 x0 x1 x2 x3 x4 x5 x6 x7 (arg9.view.writes (Elt F) g9 L9) (arg10.view.writes (Elt F) g10 L10) (arg11.view.writes (Elt F) g11 L11) (arg12.view.writes (Elt F) g12 L12) (arg13.view.writes (Elt F) g13 L13)) } := by
  refine ⟨?_, ?_, ?_, ?_, ?_, fun E g9 g12 => ?run⟩
  case run =>
    simp only [cc0_fox_attn_bwd_eq_skeleton]; unfold cc0_fox_attn_bwd_skel
    simp only [k0_part17_eq_skeleton, k0_part18_eq_skeleton, k0_part15_eq_skeleton, k0_part16_eq_skeleton]
    unfold Held
    iintro ⟨H0, H1, H2, H3, H4, H5, H6, H7, H8, H9, H10, H11, H12⟩
    sl_exec (disch := first | sl_exact h1 | sl_exact h2 | sl_exact h3 | sl_exact h4 | sl_exact h5)
    sl_step

    sl_close

end Cert.KernelIdeal.Fox

end
-- ==== Proof.Fox.Dats.lean ====
/- The forgetting attention's backward kernel: what its results hold after each block of queries, and the run of the program. -/
module

public import proofs.«01_k».proof.Proof.Fox.RunA
public import proofs.«01_k».proof.Proof.Fox.RunB
public import proofs.«01_k».proof.Proof.Fox.RunC
public import proofs.«01_k».proof.Proof.Fox.RunD
public import proofs.«01_k».proof.Proof.Fox.RunE
public import Idealize.ShloMosaic.Lib.Pipeline.TableIdle
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the five results' buffers hold between two blocks of queries. -/
structure Outs (F : FTy → Type) [FloatOps F] [Named F] where
  dq : Vec F S272x256 .f32
  dk : Vec F S2176x256 .f32
  dv : Vec F S2176x256 .f32
  dc : Vec F S272x128 .f32
  dct : Vec F S128x2176 .f32

abbrev ms0 (t : Fin cfg0.N) : Memref sig .tc .vmem S272x256 .f32 := st0_0 t
abbrev hs0 (t : Fin cfg0.N) : (ms0 t).IsWhole := hstage0_0 ((cfg0.slots t 0).cast nbuf0_0)
abbrev ms1 (t : Fin cfg0.N) : Memref sig .tc .vmem S2176x256 .f32 := st0_1 t
abbrev hs1 (t : Fin cfg0.N) : (ms1 t).IsWhole := hstage0_1 ((cfg0.slots t 1).cast nbuf0_1)
abbrev ms2 (t : Fin cfg0.N) : Memref sig .tc .vmem S2176x256 .f32 := st0_2 t
abbrev hs2 (t : Fin cfg0.N) : (ms2 t).IsWhole := hstage0_2 ((cfg0.slots t 2).cast nbuf0_2)
abbrev ms3 (t : Fin cfg0.N) : Memref sig .tc .vmem S272x128 .f32 := st0_3 t
abbrev hs3 (t : Fin cfg0.N) : (ms3 t).IsWhole := hstage0_3 ((cfg0.slots t 3).cast nbuf0_3)
abbrev ms4 (t : Fin cfg0.N) : Memref sig .tc .vmem S128x2176 .f32 := st0_4 t
abbrev hs4 (t : Fin cfg0.N) : (ms4 t).IsWhole := hstage0_4 ((cfg0.slots t 4).cast nbuf0_4)
abbrev ms5 (t : Fin cfg0.N) : Memref sig .tc .vmem S272x256 .f32 := st0_5 t
abbrev hs5 (t : Fin cfg0.N) : (ms5 t).IsWhole := hstage0_5 ((cfg0.slots t 5).cast nbuf0_5)
abbrev ms6 (t : Fin cfg0.N) : Memref sig .tc .vmem S272x128 .f32 := st0_6 t
abbrev hs6 (t : Fin cfg0.N) : (ms6 t).IsWhole := hstage0_6 ((cfg0.slots t 6).cast nbuf0_6)
abbrev ms7 (t : Fin cfg0.N) : Memref sig .tc .vmem S272x256 .f32 := st0_7 t
abbrev hs7 (t : Fin cfg0.N) : (ms7 t).IsWhole := hstage0_7 ((cfg0.slots t 7).cast nbuf0_7)
abbrev ms8 (t : Fin cfg0.N) : Memref sig .tc .vmem S272x256 .f32 := st0_8 t
abbrev hs8 (t : Fin cfg0.N) : (ms8 t).IsWhole := hstage0_8 ((cfg0.slots t 8).cast nbuf0_8)
abbrev ms9 (t : Fin cfg0.N) : Memref sig .tc .vmem S2176x256 .f32 := st0_9 t
abbrev hs9 (t : Fin cfg0.N) : (ms9 t).IsWhole := hstage0_9 ((cfg0.slots t 9).cast nbuf0_9)
abbrev ms10 (t : Fin cfg0.N) : Memref sig .tc .vmem S2176x256 .f32 := st0_10 t
abbrev hs10 (t : Fin cfg0.N) : (ms10 t).IsWhole := hstage0_10 ((cfg0.slots t 10).cast nbuf0_10)
abbrev ms11 (t : Fin cfg0.N) : Memref sig .tc .vmem S272x128 .f32 := st0_11 t
abbrev hs11 (t : Fin cfg0.N) : (ms11 t).IsWhole := hstage0_11 ((cfg0.slots t 11).cast nbuf0_11)
abbrev ms12 (t : Fin cfg0.N) : Memref sig .tc .vmem S128x2176 .f32 := st0_12 t
abbrev hs12 (t : Fin cfg0.N) : (ms12 t).IsWhole := hstage0_12 ((cfg0.slots t 12).cast nbuf0_12)

/-- At point `t`: the inputs' buffers at their blocks, the results' at the contents `g·`. -/
abbrev HeldAt (c : Dev nD) (t : Fin cfg0.N) (g8 : BufTy.Contents (Elt F) (ms8 t).view.ty) (g9 : BufTy.Contents (Elt F) (ms9 t).view.ty) (g10 : BufTy.Contents (Elt F) (ms10 t).view.ty) (g11 : BufTy.Contents (Elt F) (ms11 t).view.ty) (g12 : BufTy.Contents (Elt F) (ms12 t).view.ty) : sProp 𝕄 :=
  Held c (ms0 t) (hs0 t) (ms1 t) (hs1 t) (ms2 t) (hs2 t) (ms3 t) (hs3 t) (ms4 t) (hs4 t) (ms5 t) (hs5 t) (ms6 t) (hs6 t) (ms7 t) (hs7 t) (ms8 t) (ms9 t) (ms10 t) (ms11 t) (ms12 t) (iblk m c 0 t) (iblk m c 1 t) (iblk m c 2 t) (iblk m c 3 t) (iblk m c 4 t) (iblk m c 5 t) (iblk m c 6 t) (iblk m c 7 t) g8 g9 g10 g11 g12

/-- The results' buffers hold exactly `o`. -/
abbrev HeldOuts (c : Dev nD) (t : Fin cfg0.N) (o : Outs F) : sProp 𝕄 :=
  HeldAt m c t ((hs8 t).unread o.dq) ((hs9 t).unread o.dk) ((hs10 t).unread o.dv) ((hs11 t).unread o.dc) ((hs12 t).unread o.dct)

/-- The body at point `t` takes the results from `o` to `o'`, whatever the two blocks it overwrites held. -/
def Step (c : Dev nD) (t : Fin cfg0.N) (o o' : Outs F) : Prop := ∀ g8 g11,
  HeldAt m c t g8 ((hs9 t).unread o.dk) ((hs10 t).unread o.dv) g11 ((hs12 t).unread o.dct)
    ⊢ wp frame (wpE (defs₀ (F := F)) Variants.none c none) Set.univ (bodyAt0 t) (fun _ => HeldOuts m c t o')

/-- Contents that read as `o` are `o`'s. -/
theorem heldOuts_of_read (c : Dev nD) (t : Fin cfg0.N) (o : Outs F) {g8 g9 g10 g11 g12}
    (h8 : (ms8 t).view.read (Elt F) g8 = o.dq) (h9 : (ms9 t).view.read (Elt F) g9 = o.dk) (h10 : (ms10 t).view.read (Elt F) g10 = o.dv)
    (h11 : (ms11 t).view.read (Elt F) g11 = o.dc) (h12 : (ms12 t).view.read (Elt F) g12 = o.dct) :
    HeldAt m c t g8 g9 g10 g11 g12 ⊢ HeldOuts m c t o := by
  rw [(hs8 t).eq_unread h8, (hs9 t).eq_unread h9, (hs10 t).eq_unread h10, (hs11 t).eq_unread h11, (hs12 t).eq_unread h12]

/-- One store of a whole block covers it, -/
theorem cover_dq (w) : ∀ y : S272x256.Idx, ∃ p ∈ ([⟨Rect.unit ![0, 0] ![272, 256] inb_S272x256_S272x256_0_0, w⟩] : List (View.Piece (Elt F) S272x256 .f32)), y ∈ p.1.set :=
  View.cover_of_tiledL _ ![272, 256] (by sl_kernel_rfl)
theorem cover_dc (w) : ∀ y : S272x128.Idx, ∃ p ∈ ([⟨Rect.unit ![0, 0] ![272, 128] inb_S272x128_S272x128_0_0, w⟩] : List (View.Piece (Elt F) S272x128 .f32)), y ∈ p.1.set :=
  View.cover_of_tiledL _ ![272, 128] (by sl_kernel_rfl)
theorem cover_dk (w) : ∀ y : S2176x256.Idx, ∃ p ∈ ([⟨Rect.unit ![0, 0] ![2176, 256] inb_S2176x256_S2176x256_0_0, w⟩] : List (View.Piece (Elt F) S2176x256 .f32)), y ∈ p.1.set :=
  View.cover_of_tiledL _ ![2176, 256] (by sl_kernel_rfl)
theorem cover_dct (w) : ∀ y : S128x2176.Idx, ∃ p ∈ ([⟨Rect.unit ![0, 0] ![128, 2176] inb_S128x2176_S128x2176_0_0, w⟩] : List (View.Piece (Elt F) S128x2176 .f32)), y ∈ p.1.set :=
  View.cover_of_tiledL _ ![128, 2176] (by sl_kernel_rfl)
/-- and so do more stores after it. -/
theorem cover_append {S : Shape} {L L' : List (View.Piece (Elt F) S .f32)} (h : ∀ y : S.Idx, ∃ p ∈ L', y ∈ p.1.set) :
    ∀ y : S.Idx, ∃ p ∈ L ++ L', y ∈ p.1.set := fun y =>
  let ⟨p, hp, hy⟩ := h y
  ⟨p, List.mem_append_right _ hp, hy⟩

/-- The results after a point whose stores are `L·`, the accumulators' over what `o` says they held. -/
def Outs.put (o : Outs F) (t : Fin cfg0.N) (L8 : List (View.Piece (Elt F) S272x256 .f32)) (L9 L10 : List (View.Piece (Elt F) S2176x256 .f32))
    (L11 : List (View.Piece (Elt F) S272x128 .f32)) (L12 : List (View.Piece (Elt F) S128x2176 .f32)) : Outs F where
  dq := View.canon L8
  dk := (ms9 t).view.read (Elt F) ((ms9 t).view.writes (Elt F) ((hs9 t).unread o.dk) L9)
  dv := (ms10 t).view.read (Elt F) ((ms10 t).view.writes (Elt F) ((hs10 t).unread o.dv) L10)
  dc := View.canon L11
  dct := (ms12 t).view.read (Elt F) ((ms12 t).view.writes (Elt F) ((hs12 t).unread o.dct) L12)

/-- The results after the first point, all of whose blocks are covered by the stores `L·`. -/
def Outs.first (L8 : List (View.Piece (Elt F) S272x256 .f32)) (L9 L10 : List (View.Piece (Elt F) S2176x256 .f32))
    (L11 : List (View.Piece (Elt F) S272x128 .f32)) (L12 : List (View.Piece (Elt F) S128x2176 .f32)) : Outs F :=
  ⟨View.canon L8, View.canon L9, View.canon L10, View.canon L11, View.canon L12⟩

/-- The contents after stores `L·` that cover the two overwritten blocks. -/
theorem heldOuts_put (c : Dev nD) (t : Fin cfg0.N) (o : Outs F) (g8 g11) {L8 L9 L10 L11 L12}
    (h8 : ∀ y : S272x256.Idx, ∃ p ∈ (L8 : List (View.Piece (Elt F) S272x256 .f32)), y ∈ p.1.set)
    (h11 : ∀ y : S272x128.Idx, ∃ p ∈ (L11 : List (View.Piece (Elt F) S272x128 .f32)), y ∈ p.1.set) :
    HeldAt m c t ((ms8 t).view.writes (Elt F) g8 L8) ((ms9 t).view.writes (Elt F) ((hs9 t).unread o.dk) L9) ((ms10 t).view.writes (Elt F) ((hs10 t).unread o.dv) L10)
      ((ms11 t).view.writes (Elt F) g11 L11) ((ms12 t).view.writes (Elt F) ((hs12 t).unread o.dct) L12) ⊢ HeldOuts m c t (o.put t L8 L9 L10 L11 L12) :=
  heldOuts_of_read m c t _ (View.read_writes_eq_canon _ _ _ h8) rfl rfl (View.read_writes_eq_canon _ _ _ h11) rfl

/-- The run of the body at a point of the first pair of blocks. -/
abbrev runAtB (c : Dev nD) (t : Fin cfg0.N) (hz : ¬t.val = 0) (hq : t.val / 2 = 0) (o : Outs F) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => hz ((first_iff t).mp h)) ((keys640_iff t).mpr hq) (fun h => absurd ((keys1152_iff t).mp h) (by omega)) (fun h => absurd ((keys1664_iff t).mp h) (by omega)) (fun h => absurd ((keys2176_iff t).mp h) (by omega)) (iblk m c 0 t) (iblk m c 1 t) (iblk m c 2 t) (iblk m c 3 t) (iblk m c 4 t) (iblk m c 5 t) (iblk m c 6 t) (iblk m c 7 t) ((hs9 t).unread o.dk) ((hs10 t).unread o.dv) ((hs12 t).unread o.dct)
/-- The run of the body at a point of the second pair of blocks. -/
abbrev runAtC (c : Dev nD) (t : Fin cfg0.N) (hz : ¬t.val = 0) (hq : t.val / 2 = 1) (o : Outs F) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => hz ((first_iff t).mp h)) (fun h => absurd ((keys640_iff t).mp h) (by omega)) ((keys1152_iff t).mpr hq) (fun h => absurd ((keys1664_iff t).mp h) (by omega)) (fun h => absurd ((keys2176_iff t).mp h) (by omega)) (iblk m c 0 t) (iblk m c 1 t) (iblk m c 2 t) (iblk m c 3 t) (iblk m c 4 t) (iblk m c 5 t) (iblk m c 6 t) (iblk m c 7 t) ((hs9 t).unread o.dk) ((hs10 t).unread o.dv) ((hs12 t).unread o.dct)
/-- The run of the body at a point of the third pair of blocks. -/
abbrev runAtD (c : Dev nD) (t : Fin cfg0.N) (hz : ¬t.val = 0) (hq : t.val / 2 = 2) (o : Outs F) :=
  runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => hz ((first_iff t).mp h)) (fun h => absurd ((keys640_iff t).mp h) (by omega)) (fun h => absurd ((keys1152_iff t).mp h) (by omega)) ((keys1664_iff t).mpr hq) (fun h => absurd ((keys2176_iff t).mp h) (by omega)) (iblk m c 0 t) (iblk m c 1 t) (iblk m c 2 t) (iblk m c 3 t) (iblk m c 4 t) (iblk m c 5 t) (iblk m c 6 t) (iblk m c 7 t) ((hs9 t).unread o.dk) ((hs10 t).unread o.dv) ((hs12 t).unread o.dct)
/-- The run of the body at a point of the fourth pair of blocks. -/
abbrev runAtE (c : Dev nD) (t : Fin cfg0.N) (hz : ¬t.val = 0) (hq : t.val / 2 = 3) (o : Outs F) :=
  runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => hz ((first_iff t).mp h)) (fun h => absurd ((keys640_iff t).mp h) (by omega)) (fun h => absurd ((keys1152_iff t).mp h) (by omega)) (fun h => absurd ((keys1664_iff t).mp h) (by omega)) ((keys2176_iff t).mpr hq) (iblk m c 0 t) (iblk m c 1 t) (iblk m c 2 t) (iblk m c 3 t) (iblk m c 4 t) (iblk m c 5 t) (iblk m c 6 t) (iblk m c 7 t) ((hs9 t).unread o.dk) ((hs10 t).unread o.dv) ((hs12 t).unread o.dct)
/-- The run of the body at the first point. -/
abbrev runAtA (c : Dev nD) (t : Fin cfg0.N) (hz : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((first_iff t).mpr hz) ((keys640_iff t).mpr (by omega)) (fun h => absurd ((keys1152_iff t).mp h) (by omega)) (fun h => absurd ((keys1664_iff t).mp h) (by omega)) (fun h => absurd ((keys2176_iff t).mp h) (by omega)) (iblk m c 0 t) (iblk m c 1 t) (iblk m c 2 t) (iblk m c 3 t) (iblk m c 4 t) (iblk m c 5 t) (iblk m c 6 t) (iblk m c 7 t)

/-- The results after the first point. -/
def firstOuts (c : Dev nD) (t : Fin cfg0.N) (hz : t.val = 0) : Outs F :=
  let R := runAtA m c t hz
  Outs.first R.1 R.2.1 R.2.2.1 R.2.2.2.1 R.2.2.2.2.1

/-- The results after a later point `t`, from those before it. -/
def next (c : Dev nD) (t : Fin cfg0.N) (o : Outs F) : Outs F :=
  if hz : t.val = 0 then firstOuts m c t hz
  else if hq : t.val / 2 = 0 then
    let R := runAtB m c t hz hq o
    o.put t R.1 R.2.1 R.2.2.1 R.2.2.2.1 R.2.2.2.2.1
  else if hq : t.val / 2 = 1 then
    let R := runAtC m c t hz hq o
    o.put t R.1 R.2.1 R.2.2.1 R.2.2.2.1 R.2.2.2.2.1
  else if hq : t.val / 2 = 2 then
    let R := runAtD m c t hz hq o
    o.put t R.1 R.2.1 R.2.2.1 R.2.2.2.1 R.2.2.2.2.1
  else if hq : t.val / 2 = 3 then
    let R := runAtE m c t hz hq o
    o.put t R.1 R.2.1 R.2.2.1 R.2.2.2.1 R.2.2.2.2.1
  else o

theorem next_B (c : Dev nD) (t : Fin cfg0.N) (hz : ¬t.val = 0) (hq : t.val / 2 = 0) (o : Outs F) : next m c t o =
    o.put t (runAtB m c t hz hq o).1 (runAtB m c t hz hq o).2.1 (runAtB m c t hz hq o).2.2.1 (runAtB m c t hz hq o).2.2.2.1 (runAtB m c t hz hq o).2.2.2.2.1 := by
  unfold next; rw [dif_neg hz, dif_pos hq]
theorem next_C (c : Dev nD) (t : Fin cfg0.N) (hz : ¬t.val = 0) (hq : t.val / 2 = 1) (o : Outs F) : next m c t o =
    o.put t (runAtC m c t hz hq o).1 (runAtC m c t hz hq o).2.1 (runAtC m c t hz hq o).2.2.1 (runAtC m c t hz hq o).2.2.2.1 (runAtC m c t hz hq o).2.2.2.2.1 := by
  unfold next; rw [dif_neg hz, dif_neg (show ¬t.val / 2 = 0 by omega), dif_pos hq]
theorem next_D (c : Dev nD) (t : Fin cfg0.N) (hz : ¬t.val = 0) (hq : t.val / 2 = 2) (o : Outs F) : next m c t o =
    o.put t (runAtD m c t hz hq o).1 (runAtD m c t hz hq o).2.1 (runAtD m c t hz hq o).2.2.1 (runAtD m c t hz hq o).2.2.2.1 (runAtD m c t hz hq o).2.2.2.2.1 := by
  unfold next; rw [dif_neg hz, dif_neg (show ¬t.val / 2 = 0 by omega), dif_neg (show ¬t.val / 2 = 1 by omega), dif_pos hq]
theorem next_E (c : Dev nD) (t : Fin cfg0.N) (hz : ¬t.val = 0) (hq : t.val / 2 = 3) (o : Outs F) : next m c t o =
    o.put t (runAtE m c t hz hq o).1 (runAtE m c t hz hq o).2.1 (runAtE m c t hz hq o).2.2.1 (runAtE m c t hz hq o).2.2.2.1 (runAtE m c t hz hq o).2.2.2.2.1 := by
  unfold next; rw [dif_neg hz, dif_neg (show ¬t.val / 2 = 0 by omega), dif_neg (show ¬t.val / 2 = 1 by omega), dif_neg (show ¬t.val / 2 = 2 by omega), dif_pos hq]

/-- The first point: every block is covered, so nothing of what was held before is left. -/
theorem step_first (c : Dev nD) (t : Fin cfg0.N) (hz : t.val = 0) (o : Outs F) : Step m c t o (firstOuts m c t hz) := fun g8 g11 => by
  refine ((runAtA m c t hz).2.2.2.2.2 Set.univ g8 g11 _ _ _).trans (wp_mono _ _ _ fun _ => ?_)
  iintro ⟨%f8, %f9, %f10, %f11, %f12, H⟩
  iapply (heldOuts_of_read m c t _ (View.read_writes_eq_canon _ _ _ (cover_dq _)) (View.read_writes_eq_canon _ _ _ (cover_append (cover_dk _)))
    (View.read_writes_eq_canon _ _ _ (cover_append (cover_dk _))) (View.read_writes_eq_canon _ _ _ (cover_dc _)) (View.read_writes_eq_canon _ _ _ (cover_append (cover_dct _))))
  iexact H

/-- A later point. -/
theorem step_later (c : Dev nD) (t : Fin cfg0.N) (hz : ¬t.val = 0) (o : Outs F) : Step m c t o (next m c t o) := fun g8 g11 => by
  have hN : t.val < 8 := lt_of_lt_of_eq t.isLt (show cfg0.N = 8 from N_0)
  obtain hq | hq | hq | hq : t.val / 2 = 0 ∨ t.val / 2 = 1 ∨ t.val / 2 = 2 ∨ t.val / 2 = 3 := by omega
  · rw [next_B m c t hz hq]
    exact ((runAtB m c t hz hq o).2.2.2.2.2 Set.univ g8 g11).trans (wp_mono _ _ _ fun _ => heldOuts_put m c t o g8 g11 (cover_dq _) (cover_dc _))
  · rw [next_C m c t hz hq]
    exact ((runAtC m c t hz hq o).2.2.2.2.2 Set.univ g8 g11).trans (wp_mono _ _ _ fun _ => heldOuts_put m c t o g8 g11 (cover_dq _) (cover_dc _))
  · rw [next_D m c t hz hq]
    exact ((runAtD m c t hz hq o).2.2.2.2.2 Set.univ g8 g11).trans (wp_mono _ _ _ fun _ => heldOuts_put m c t o g8 g11 (cover_dq _) (cover_dc _))
  · rw [next_E m c t hz hq]
    exact ((runAtE m c t hz hq o).2.2.2.2.2 Set.univ g8 g11).trans (wp_mono _ _ _ fun _ => heldOuts_put m c t o g8 g11 (cover_dq _) (cover_dc _))

/-- The results after the point at position `n`. -/
def outsAt (c : Dev nD) : (n : ℕ) → n < cfg0.N → Outs F
  | 0, h => firstOuts m c ⟨0, h⟩ rfl
  | n + 1, h => next m c ⟨n + 1, h⟩ (outsAt c n (by omega))

/-- The proof data of the one pipeline on core `c`: after the body at point `t` each input's buffer at its block and the
    results' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).dq
    | ⟨9, _⟩ => (outsAt m c t.val t.isLt).dk
    | ⟨10, _⟩ => (outsAt m c t.val t.isLt).dv
    | ⟨11, _⟩ => (outsAt m c t.val t.isLt).dc
    | ⟨12, _⟩ => (outsAt m c t.val t.isLt).dct
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).dq := by dsimp only [dats]
theorem after9 (c : Dev nD) (t : Fin cfg0.N) : (dats m 0 c).after 9 t = (outsAt m c t.val t.isLt).dk := by dsimp only [dats]
theorem after10 (c : Dev nD) (t : Fin cfg0.N) : (dats m 0 c).after 10 t = (outsAt m c t.val t.isLt).dv := by dsimp only [dats]
theorem after11 (c : Dev nD) (t : Fin cfg0.N) : (dats m 0 c).after 11 t = (outsAt m c t.val t.isLt).dc := by dsimp only [dats]
theorem after12 (c : Dev nD) (t : Fin cfg0.N) : (dats m 0 c).after 12 t = (outsAt m c t.val t.isLt).dct := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d

/-- No result is ever left alone, -/
theorem live : ∀ (w : Fin cfg0.W) (t : Fin cfg0.N), cfg0.idle w (grid0.coords t) = false :=
  (by decide +kernel : ∀ (w : Fin cfg0.W) (t : Fin grid0.N), cfg0.idle w (grid0.coords t) = false)
/-- and the accumulators are written back at the end only. -/
theorem stale9 : ∀ t : Fin cfg0.N, t.val ≠ 0 → cfg0.fresh 9 t.val = false := by decide +kernel
theorem stale10 : ∀ t : Fin cfg0.N, t.val ≠ 0 → cfg0.fresh 10 t.val = false := by decide +kernel
theorem stale12 : ∀ t : Fin cfg0.N, t.val ≠ 0 → cfg0.fresh 12 t.val = false := by decide +kernel

/-- After the first point an accumulator's buffer holds what the point before left in it. -/
theorem before_acc (c : Dev nD) (w : Fin cfg0.W) (hw : (cfg0.win w).isOut = true) (hclip : ∀ (i : cfg0.grid.Coords) a, (cfg0.win w).clip i a = none)
    (t : Fin cfg0.N) (hz : t.val ≠ 0) (hf : cfg0.fresh w t.val = false) (d) :
    (dats m 0 c).before w t d = (dats m 0 c).after w ⟨t.val - 1, by omega⟩ := by
  rw [Dat.before_out_traj _ w hw hclip (fun t _ hi _ => absurd ((live w t).symm.trans hi) Bool.false_ne_true) t.val t rfl d, if_neg (by rw [hf]; exact Bool.false_ne_true)]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- Every buffer at a point is owned at some contents: those of `Held`. -/
theorem owns_unread {sh : Shape} (c : Dev nD) (M : Memref sig .tc .vmem sh .f32) (h : M.IsWhole) (X : Vec F sh .f32) :
    (owns (c : Thread nD τ) M fullShare X : sProp 𝕄) ⊣⊢ iprop(M.view.loc (c : Thread nD τ) ↦[M.view.set]{fullShare} h.unread X) := by
  constructor
  · unfold owns
    iintro ⟨%f, %hf, H⟩
    rw [h.eq_unread hf]
    iexact H
  · unfold owns
    iintro H
    iexists _
    isplitr
    swap; · iexact H
    ipureintro; exact h.read_unread X

/-- The step at point `t`, from what the pipeline's data say is there. -/
theorem step_at (c : Dev nD) (t : Fin cfg0.N) (d9 d10 d12) : Step m c t
    ⟨(outsAt m c t.val t.isLt).dq, (dats m 0 c).before 9 t d9, (dats m 0 c).before 10 t d10, (outsAt m c t.val t.isLt).dc, (dats m 0 c).before 12 t d12⟩
    (outsAt m c t.val t.isLt) := by
  obtain ⟨n, hn⟩ := t
  cases n with
  | zero => exact step_first m c ⟨0, hn⟩ rfl _
  | succ n =>
    have h := step_later m c ⟨n + 1, hn⟩ (Nat.succ_ne_zero n) (outsAt m c n (by omega))
    rw [before_acc m c 9 rfl (fun _ _ => rfl) ⟨n + 1, hn⟩ (Nat.succ_ne_zero n) (stale9 _ (Nat.succ_ne_zero n)), after9,
      before_acc m c 10 rfl (fun _ _ => rfl) ⟨n + 1, hn⟩ (Nat.succ_ne_zero n) (stale10 _ (Nat.succ_ne_zero n)), after10,
      before_acc m c 12 rfl (fun _ _ => rfl) ⟨n + 1, hn⟩ (Nat.succ_ne_zero n) (stale12 _ (Nat.succ_ne_zero n)), after12]
    exact h

set_option maxHeartbeats 2000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hl : ∀ w, (dats m 0 c).leavesExact w t = owns (c : Thread nD τ) ((cfg0.win w).stage (cfg0.slots t w)) fullShare ((dats m 0 c).after w t) := fun w => by
    unfold Dat.leavesExact; rw [live w t]
  unfold bodyPre bodyPost
  simp only [hl]
  simp only [before0, before1, before2, before3, before4, before5, before6, before7, after0, after1, after2, after3, after4, after5, after6, after7, after8, after9, after10, after11, after12]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H0 := (owns_unread c (ms0 t) (hs0 t) _).1 $$ H0
  ihave H1 := (owns_unread c (ms1 t) (hs1 t) _).1 $$ H1
  ihave H2 := (owns_unread c (ms2 t) (hs2 t) _).1 $$ H2
  ihave H3 := (owns_unread c (ms3 t) (hs3 t) _).1 $$ H3
  ihave H4 := (owns_unread c (ms4 t) (hs4 t) _).1 $$ H4
  ihave H5 := (owns_unread c (ms5 t) (hs5 t) _).1 $$ H5
  ihave H6 := (owns_unread c (ms6 t) (hs6 t) _).1 $$ H6
  ihave H7 := (owns_unread c (ms7 t) (hs7 t) _).1 $$ H7
  ihave H8 := (owns_unread c (ms8 t) (hs8 t) _).1 $$ H8
  ihave H9 := (owns_unread c (ms9 t) (hs9 t) _).1 $$ H9
  ihave H10 := (owns_unread c (ms10 t) (hs10 t) _).1 $$ H10
  ihave H11 := (owns_unread c (ms11 t) (hs11 t) _).1 $$ H11
  ihave H12 := (owns_unread c (ms12 t) (hs12 t) _).1 $$ H12
  ihave Hw := (step_at m c t d9 d10 d12 _ _) $$ [H0 H1 H2 H3 H4 H5 H6 H7 H8 H9 H10 H11 H12]
  · unfold HeldAt Held
    sl_close
  iapply (wp_wand _ _ _) $$ Hw
  iintro %_ H
  simp only [HeldOuts, HeldAt, Held]
  icases H with ⟨H0, H1, H2, H3, H4, H5, H6, H7, H8, H9, H10, H11, H12⟩
  iframe HΦ Ho
  isplitl [H0]; · iapply (owns_unread c (ms0 t) (hs0 t) _).2 $$ H0
  isplitl [H1]; · iapply (owns_unread c (ms1 t) (hs1 t) _).2 $$ H1
  isplitl [H2]; · iapply (owns_unread c (ms2 t) (hs2 t) _).2 $$ H2
  isplitl [H3]; · iapply (owns_unread c (ms3 t) (hs3 t) _).2 $$ H3
  isplitl [H4]; · iapply (owns_unread c (ms4 t) (hs4 t) _).2 $$ H4
  isplitl [H5]; · iapply (owns_unread c (ms5 t) (hs5 t) _).2 $$ H5
  isplitl [H6]; · iapply (owns_unread c (ms6 t) (hs6 t) _).2 $$ H6
  isplitl [H7]; · iapply (owns_unread c (ms7 t) (hs7 t) _).2 $$ H7
  isplitl [H8]; · iapply (owns_unread c (ms8 t) (hs8 t) _).2 $$ H8
  isplitl [H9]; · iapply (owns_unread c (ms9 t) (hs9 t) _).2 $$ H9
  isplitl [H10]; · iapply (owns_unread c (ms10 t) (hs10 t) _).2 $$ H10
  isplitl [H11]; · iapply (owns_unread c (ms11 t) (hs11 t) _).2 $$ H11
  iapply (owns_unread c (ms12 t) (hs12 t) _).2 $$ H12

/-- The body table's row at a point's slots is the body there. -/
theorem defs_row (t : Fin cfg0.N) :
    defs₀ (F := F) .tc cfg0.body (cfg0.bodyArgs t (cfg0.slots t)) = bodyAt0 t := by
  unfold defs₀; rw [Defs.onTc_tc]

/-- The pipeline's obligation for the body, at every point. -/
theorem obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

set_option backward.isDefEq.respectTransparency.types false in
/-- Every fair run ends, with the arrays at what the pipeline's data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

/-- The frame: the argument arrays end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Fox

end
-- ==== Proof.Ffn.Dots.lean ====
/- Products of two matrices at the exact values, read at an index. -/
module

public import Idealize.ShloMosaic.Lib.ValueIdx
public import Idealize.ShloMosaic.Lib.Pipeline.Value
public import Idealize.ShloMosaic.PureOps.Ideal.Laws

@[expose] public section

noncomputable section

namespace Cert.Dots

open Idealize.ShloMosaic Idealize.ShloMosaic.ValueIdx

variable {m k n : Nat}

/-- Rows by columns: over the left operand's second axis and the right one's first, -/
theorem sum_nn (D : DotDims ⟨2, ![m, k]⟩ ⟨2, ![k, n]⟩ ⟨2, ![m, n]⟩) (hc : D.lhsContracting = [1]) (hc' : D.rhsContracting = [0])
    (hn : D.lhsNonContracting = [0]) (hn' : D.rhsNonContracting = [1]) (hb : D.lhsBatch = []) (hb' : D.rhsBatch = [])
    (l : (⟨2, ![m, k]⟩ : Shape).Idx → EReal) (r : (⟨2, ![k, n]⟩ : Shape).Idx → EReal) (i : (⟨2, ![m, n]⟩ : Shape).Idx) :
    ∑ q : D.contr.Idx, l (D.lhsIdx i q) * r (D.rhsIdx i q) = ∑ q : Fin k, l (ix2 (i 0) q) * r (ix2 q (i 1)) := by
  obtain ⟨_, _, _, _, _, _, wf⟩ := D
  subst hc hc' hn hn' hb hb'
  rw [← Equiv.sum_comp (contrEquiv1 _ k rfl rfl).symm]
  refine Finset.sum_congr rfl fun q _ => ?_
  congr 2 <;> funext a <;> refine Fin.ext ?_ <;> match a with
    | ⟨0, _⟩ => first | rfl | exact contrEquiv1_symm_val _ k rfl rfl q
    | ⟨1, _⟩ => first | rfl | exact contrEquiv1_symm_val _ k rfl rfl q

/-- over the second axis of both, -/
theorem sum_nt (D : DotDims ⟨2, ![m, k]⟩ ⟨2, ![n, k]⟩ ⟨2, ![m, n]⟩) (hc : D.lhsContracting = [1]) (hc' : D.rhsContracting = [1])
    (hn : D.lhsNonContracting = [0]) (hn' : D.rhsNonContracting = [0]) (hb : D.lhsBatch = []) (hb' : D.rhsBatch = [])
    (l : (⟨2, ![m, k]⟩ : Shape).Idx → EReal) (r : (⟨2, ![n, k]⟩ : Shape).Idx → EReal) (i : (⟨2, ![m, n]⟩ : Shape).Idx) :
    ∑ q : D.contr.Idx, l (D.lhsIdx i q) * r (D.rhsIdx i q) = ∑ q : Fin k, l (ix2 (i 0) q) * r (ix2 (i 1) q) := by
  obtain ⟨_, _, _, _, _, _, wf⟩ := D
  subst hc hc' hn hn' hb hb'
  rw [← Equiv.sum_comp (contrEquiv1 _ k rfl rfl).symm]
  refine Finset.sum_congr rfl fun q _ => ?_
  congr 2 <;> funext a <;> refine Fin.ext ?_ <;> match a with
    | ⟨0, _⟩ => first | rfl | exact contrEquiv1_symm_val _ k rfl rfl q
    | ⟨1, _⟩ => first | rfl | exact contrEquiv1_symm_val _ k rfl rfl q

/-- and over the first axis of both. -/
theorem sum_tn (D : DotDims ⟨2, ![k, m]⟩ ⟨2, ![k, n]⟩ ⟨2, ![m, n]⟩) (hc : D.lhsContracting = [0]) (hc' : D.rhsContracting = [0])
    (hn : D.lhsNonContracting = [1]) (hn' : D.rhsNonContracting = [1]) (hb : D.lhsBatch = []) (hb' : D.rhsBatch = [])
    (l : (⟨2, ![k, m]⟩ : Shape).Idx → EReal) (r : (⟨2, ![k, n]⟩ : Shape).Idx → EReal) (i : (⟨2, ![m, n]⟩ : Shape).Idx) :
    ∑ q : D.contr.Idx, l (D.lhsIdx i q) * r (D.rhsIdx i q) = ∑ q : Fin k, l (ix2 q (i 0)) * r (ix2 q (i 1)) := by
  obtain ⟨_, _, _, _, _, _, wf⟩ := D
  subst hc hc' hn hn' hb hb'
  rw [← Equiv.sum_comp (contrEquiv1 _ k rfl rfl).symm]
  refine Finset.sum_congr rfl fun q _ => ?_
  congr 2 <;> funext a <;> refine Fin.ext ?_ <;> match a with
    | ⟨0, _⟩ => first | rfl | exact contrEquiv1_symm_val _ k rfl rfl q
    | ⟨1, _⟩ => first | rfl | exact contrEquiv1_symm_val _ k rfl rfl q

/-! ## The three as the operations the programs print -/

theorem matmul_nn {φ₁ φ₂ : FTy} (D : DotDims ⟨2, ![m, k]⟩ ⟨2, ![k, n]⟩ ⟨2, ![m, n]⟩) (hc : D.lhsContracting = [1]) (hc' : D.rhsContracting = [0])
    (hn : D.lhsNonContracting = [0]) (hn' : D.rhsNonContracting = [1]) (hb : D.lhsBatch = []) (hb' : D.rhsBatch = [])
    (l : FVec Ideal ⟨2, ![m, k]⟩ φ₁) (r : FVec Ideal ⟨2, ![k, n]⟩ φ₂) (i : Fin m) (j : Fin n) :
    matmul D none l r (constant ⟨2, ![m, n]⟩ .f32 0x00000000#32) (ix2 i j) = ∑ q : Fin k, l (ix2 i q) * r (ix2 q j) :=
  (Ideal.matmul_constant_zero_apply D none l r _).trans (sum_nn D hc hc' hn hn' hb hb' l r _)
theorem matmul_nt {φ₁ φ₂ : FTy} (D : DotDims ⟨2, ![m, k]⟩ ⟨2, ![n, k]⟩ ⟨2, ![m, n]⟩) (hc : D.lhsContracting = [1]) (hc' : D.rhsContracting = [1])
    (hn : D.lhsNonContracting = [0]) (hn' : D.rhsNonContracting = [0]) (hb : D.lhsBatch = []) (hb' : D.rhsBatch = [])
    (l : FVec Ideal ⟨2, ![m, k]⟩ φ₁) (r : FVec Ideal ⟨2, ![n, k]⟩ φ₂) (i : Fin m) (j : Fin n) :
    matmul D none l r (constant ⟨2, ![m, n]⟩ .f32 0x00000000#32) (ix2 i j) = ∑ q : Fin k, l (ix2 i q) * r (ix2 j q) :=
  (Ideal.matmul_constant_zero_apply D none l r _).trans (sum_nt D hc hc' hn hn' hb hb' l r _)
theorem matmul_tn {φ₁ φ₂ : FTy} (D : DotDims ⟨2, ![k, m]⟩ ⟨2, ![k, n]⟩ ⟨2, ![m, n]⟩) (hc : D.lhsContracting = [0]) (hc' : D.rhsContracting = [0])
    (hn : D.lhsNonContracting = [1]) (hn' : D.rhsNonContracting = [1]) (hb : D.lhsBatch = []) (hb' : D.rhsBatch = [])
    (l : FVec Ideal ⟨2, ![k, m]⟩ φ₁) (r : FVec Ideal ⟨2, ![k, n]⟩ φ₂) (i : Fin m) (j : Fin n) :
    matmul D none l r (constant ⟨2, ![m, n]⟩ .f32 0x00000000#32) (ix2 i j) = ∑ q : Fin k, l (ix2 q i) * r (ix2 q j) :=
  (Ideal.matmul_constant_zero_apply D none l r _).trans (sum_tn D hc hc' hn hn' hb hb' l r _)

/-- A slab of one: a leading axis of extent one added, -/
theorem addUnit {α : Type} (v : (⟨2, ![m, n]⟩ : Shape).Idx → α) (h : (⟨2, ![m, n]⟩ : Shape).ShapeCasts ⟨3, ![1, m, n]⟩) (z : Fin 1) (i : Fin m) (j : Fin n) :
    shapeCast ⟨3, ![1, m, n]⟩ v h (ix3 z i j) = v (ix2 i j) :=
  (shapeCast_addUnit_apply ![m, n] v h (ix3 z i j)).trans (congrArg v (funext fun a => match a with
    | ⟨0, _⟩ => rfl
    | ⟨1, _⟩ => rfl))

/-- or dropped. -/
theorem dropUnit {α : Type} (v : (⟨3, ![1, m, n]⟩ : Shape).Idx → α) (h : (⟨3, ![1, m, n]⟩ : Shape).ShapeCasts ⟨2, ![m, n]⟩) (i : Fin m) (j : Fin n) :
    shapeCast ⟨2, ![m, n]⟩ v h (ix2 i j) = v (ix3 0 i j) :=
  (shapeCast_dropUnit_apply ![m, n] v h (ix2 i j)).trans (congrArg v (funext fun a => match a with
    | ⟨0, _⟩ => rfl
    | ⟨1, _⟩ => rfl
    | ⟨2, _⟩ => rfl))

/-- A weight's gradient in four slabs of 768 rows: the products of columns `768 k + j` of `a` with `h`, summed over the rows. -/
def dwSum (a : (⟨2, ![2176, 3072]⟩ : Shape).Idx → EReal) (h : (⟨2, ![2176, 1024]⟩ : Shape).Idx → EReal) (k : Fin 4) (j : Fin 768) (d : Fin 1024) : EReal :=
  ∑ n : Fin 2176, a (ix2 n ⟨768 * k.val + j.val, by omega⟩) * h (ix2 n d)

/-- A product with a weight of four slabs of 768 rows: row `n` of `x` with row `j` of slab `k`. -/
def ffSum (x : (⟨2, ![2176, 1024]⟩ : Shape).Idx → EReal) (w : (⟨3, ![4, 768, 1024]⟩ : Shape).Idx → EReal) (n : Fin 2176) (k : Fin 4) (j : Fin 768) : EReal :=
  ∑ d : Fin 1024, x (ix2 n d) * w (ix3 k j d)

/-- An index of a hidden array: a row of one of two blocks of 1088 rows, a column of one of four slabs of 768. -/
abbrev hid (a : Fin 2) (r : Fin 1088) (k : Fin 4) (j : Fin 768) : (⟨2, ![2176, 3072]⟩ : Shape).Idx :=
  ix2 ⟨1088 * a.val + r.val, by omega⟩ ⟨768 * k.val + j.val, by omega⟩

theorem hid_split (i : (⟨2, ![2176, 3072]⟩ : Shape).Idx) : ∃ a r k j, i = hid a r k j := by
  have h0 : (i 0).val < 2176 := (i 0).isLt
  have h1 : (i 1).val < 3072 := (i 1).isLt
  refine ⟨⟨(i 0).val / 1088, by omega⟩, ⟨(i 0).val % 1088, by omega⟩, ⟨(i 1).val / 768, by omega⟩, ⟨(i 1).val % 768, by omega⟩, ?_⟩
  funext b
  refine Fin.ext ?_
  match b with
  | ⟨0, _⟩ => show (i 0).val = 1088 * ((i 0).val / 1088) + (i 0).val % 1088; omega
  | ⟨1, _⟩ => show (i 1).val = 768 * ((i 1).val / 768) + (i 1).val % 768; omega

/-- A sum over the 3072 hidden columns, slab by slab. -/
theorem sum_slabs (f : Fin 3072 → EReal) : ∑ q, f q = ∑ k : Fin 4, ∑ j : Fin 768, f ⟨768 * k.val + j.val, by omega⟩ := by
  rw [← Fintype.sum_prod_type' (f := fun (k : Fin 4) (j : Fin 768) => f ⟨768 * k.val + j.val, by omega⟩)]
  refine (Equiv.sum_comp (finProdFinEquiv (m := 4) (n := 768)) f).symm.trans (Finset.sum_congr rfl fun p _ => congrArg f (Fin.ext ?_))
  show p.2.val + 768 * p.1.val = 768 * p.1.val + p.2.val
  omega

/-- The product of slab `k` of a hidden array's columns with the weight's slab `k`. -/
def slabSum (x : (⟨2, ![2176, 3072]⟩ : Shape).Idx → EReal) (w : (⟨3, ![4, 768, 1024]⟩ : Shape).Idx → EReal) (n : Fin 2176) (d : Fin 1024) (k : Fin 4) : EReal :=
  ∑ j : Fin 768, x (ix2 n ⟨768 * k.val + j.val, by omega⟩) * w (ix3 k j d)

/-- An index of a model-wide array, by its block of 1088 rows. -/
abbrev wide (a : Fin 2) (r : Fin 1088) (d : Fin 1024) : (⟨2, ![2176, 1024]⟩ : Shape).Idx := ix2 ⟨1088 * a.val + r.val, by omega⟩ d

theorem wide_split (i : (⟨2, ![2176, 1024]⟩ : Shape).Idx) : ∃ a r d, i = wide a r d := by
  have h0 : (i 0).val < 2176 := (i 0).isLt
  refine ⟨⟨(i 0).val / 1088, by omega⟩, ⟨(i 0).val % 1088, by omega⟩, i 1, ?_⟩
  funext b
  refine Fin.ext ?_
  match b with
  | ⟨0, _⟩ => show (i 0).val = 1088 * ((i 0).val / 1088) + (i 0).val % 1088; omega
  | ⟨1, _⟩ => rfl

/-- The logistic function as both programs compute it. -/
def sgm (x : EReal) : EReal := Ideal.div (Ideal.ofBits .f32 0x3F800000#32) (Ideal.ofBits .f32 0x3F800000#32 + Ideal.exp (-x))

end Cert.Dots

end
-- ==== Proof.Ffn.Gate.lean ====
/- The gated unit's gradient: the kernel's one product of factors is the reference's sum of the two products of the chain rule where the arguments are real numbers. -/
module

public import proofs.«01_k».proof.Defs
public import proofs.«01_k».proof.Proof.Ffn.Dots
public import proofs.«01_k».proof.Proof.Gen.GateIdeal.Value
public import proofs.«01_k».proof.Proof.Gen.GateRefIdeal.Read
public import proofs.«01_k».proof.Proof.Gen.Pre_finite_ffn
public import Idealize.ShloMosaic.Lib.ReduceAll
public import Idealize.ShloMosaic.Lib.IdealHost

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Dots

/-- The kernel's factor of the gradient by the gate, -/
def kerFac (g : EReal) : EReal := sgm g * (Ideal.ofBits .f32 0x3F800000#32 + g * (Ideal.ofBits .f32 0x3F800000#32 - sgm g))

/-- and the chain rule's sum of two products. -/
def refGrad (x g : EReal) : EReal := x * sgm g + g * x * (sgm g * (Ideal.ofBits .f32 0x3F800000#32 - sgm g))

theorem sgm_eq (x : EReal) : sgm x = Ideal.logistic x := by
  unfold sgm Ideal.logistic
  rw [Ideal.ofBits_one_f32]

/-- The two agree where the incoming gradient is a real number, whatever the gate. -/
theorem grad_eq (x : ℝ) (g : EReal) : (x : EReal) * kerFac g = refGrad x g := by
  unfold kerFac refGrad
  rw [sgm_eq, Ideal.ofBits_one_f32]
  have h1 : (1 : EReal) - 1 = 0 := by rw [← EReal.coe_one, ← EReal.coe_sub, sub_self, EReal.coe_zero]
  induction g using EReal.rec with
  | bot => rw [Ideal.logistic_bot]; simp
  | top => rw [Ideal.logistic_top, h1]; simp
  | coe g =>
    rw [Ideal.logistic_coe]
    generalize (1 + Real.exp (-g))⁻¹ = s
    norm_cast
    ring

/-- A sum of products of real numbers is a real number. -/
theorem real_sum {n : Nat} (f h : Fin n → EReal) (hf : ∀ d, ∃ r : ℝ, f d = r) (hh : ∀ d, ∃ r : ℝ, h d = r) : ∃ r : ℝ, ∑ d, f d * h d = r := by
  choose a ha using hf
  choose b hb using hh
  refine ⟨∑ d, a d * b d, ?_⟩
  refine (Finset.sum_congr rfl fun d _ => by rw [ha, hb, ← EReal.coe_mul]; rfl).trans (map_sum (AddMonoidHom.mk ⟨((↑) : ℝ → EReal), EReal.coe_zero⟩ EReal.coe_add) (fun d => a d * b d) Finset.univ).symm

/-- A value whose magnitude is below the infinity is a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

end Cert.Dots

namespace Cert.GateIdeal.Ffn

open Cert.GateIdeal Cert.GateIdeal.Gen Cert.GateIdeal.Value Cert.Dots

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Where the windows stand at point `t`: row block `t / 4`, slab `t % 4`. -/
theorem in_eq : ∀ t : Fin cfg0.N, (win0_0.index t 0 = t.val / 4 ∧ win0_0.index t 1 = 0) ∧ (win0_1.index t 0 = t.val % 4 ∧ win0_1.index t 1 = 0 ∧ win0_1.index t 2 = 0)
    ∧ (win0_2.index t 0 = t.val / 4 ∧ win0_2.index t 1 = t.val % 4) ∧ (win0_3.index t 0 = t.val / 4 ∧ win0_3.index t 1 = t.val % 4) :=
  (by decide +kernel : ∀ t : Fin grid0.N, (win0_0.index t 0 = t.val / 4 ∧ win0_0.index t 1 = 0) ∧ (win0_1.index t 0 = t.val % 4 ∧ win0_1.index t 1 = 0 ∧ win0_1.index t 2 = 0)
    ∧ (win0_2.index t 0 = t.val / 4 ∧ win0_2.index t 1 = t.val % 4) ∧ (win0_3.index t 0 = t.val / 4 ∧ win0_3.index t 1 = t.val % 4))
theorem out_eq : ∀ t : Fin cfg0.N, (win0_4.index t 0 = t.val / 4 ∧ win0_4.index t 1 = t.val % 4) ∧ (win0_5.index t 0 = t.val / 4 ∧ win0_5.index t 1 = t.val % 4) :=
  (by decide +kernel : ∀ t : Fin grid0.N, (win0_4.index t 0 = t.val / 4 ∧ win0_4.index t 1 = t.val % 4) ∧ (win0_5.index t 0 = t.val / 4 ∧ win0_5.index t 1 = t.val % 4))

/-- The point of row block `a` and slab `k`. -/
def pt (a : Fin 2) (k : Fin 4) : Fin cfg0.N := ⟨4 * a.val + k.val, by have h : cfg0.N = 8 := N_0; omega⟩
theorem pt_div (a : Fin 2) (k : Fin 4) : (pt a k).val / 4 = a.val := by show (4 * a.val + k.val) / 4 = _; omega
theorem pt_mod (a : Fin 2) (k : Fin 4) : (pt a k).val % 4 = k.val := by show (4 * a.val + k.val) % 4 = _; omega

theorem iblk0 (c : Dev nD) (a : Fin 2) (k : Fin 4) (r : Fin 1088) (d : Fin 1024) :
    (iblk m c 0 (pt a k) : Vec Ideal S1088x1024 .bf16) (ix2 r d) = m ((c : Thread nD τ).loc main_arg0) (wide a r d) := by
  unfold iblk
  rw [View.read_apply]
  show m ((c : Thread nD τ).loc main_arg0) _ = _
  congr 1
  funext b
  refine Fin.ext ?_
  match b with
  | ⟨0, _⟩ => show win0_0.index (pt a k) 0 * 1088 + 1 * r.val = 1088 * a.val + r.val; rw [(in_eq _).1.1, pt_div]; omega
  | ⟨1, _⟩ => show win0_0.index (pt a k) 1 * 1024 + 1 * d.val = d.val; rw [(in_eq _).1.2]; omega

theorem iblk1 (c : Dev nD) (a : Fin 2) (k : Fin 4) (j : Fin 768) (d : Fin 1024) :
    (iblk m c 1 (pt a k) : Vec Ideal S1x768x1024 .bf16) (ix3 0 j d) = m ((c : Thread nD τ).loc main_arg1) (ix3 k j d) := by
  unfold iblk
  rw [View.read_apply]
  show m ((c : Thread nD τ).loc main_arg1) _ = _
  congr 1
  funext b
  refine Fin.ext ?_
  match b with
  | ⟨0, _⟩ => show win0_1.index (pt a k) 0 * 1 + 1 * 0 = k.val; rw [(in_eq _).2.1.1, pt_mod]; omega
  | ⟨1, _⟩ => show win0_1.index (pt a k) 1 * 768 + 1 * j.val = j.val; rw [(in_eq _).2.1.2.1]; omega
  | ⟨2, _⟩ => show win0_1.index (pt a k) 2 * 1024 + 1 * d.val = d.val; rw [(in_eq _).2.1.2.2]; omega

theorem iblk2 (c : Dev nD) (a : Fin 2) (k : Fin 4) (r : Fin 1088) (j : Fin 768) :
    (iblk m c 2 (pt a k) : Vec Ideal S1088x768 .f32) (ix2 r j) = m ((c : Thread nD τ).loc main_arg2) (hid a r k j) := by
  unfold iblk
  rw [View.read_apply]
  show m ((c : Thread nD τ).loc main_arg2) _ = _
  congr 1
  funext b
  refine Fin.ext ?_
  match b with
  | ⟨0, _⟩ => show win0_2.index (pt a k) 0 * 1088 + 1 * r.val = 1088 * a.val + r.val; rw [(in_eq _).2.2.1.1, pt_div]; omega
  | ⟨1, _⟩ => show win0_2.index (pt a k) 1 * 768 + 1 * j.val = 768 * k.val + j.val; rw [(in_eq _).2.2.1.2, pt_mod]; omega

theorem iblk3 (c : Dev nD) (a : Fin 2) (k : Fin 4) (r : Fin 1088) (j : Fin 768) :
    (iblk m c 3 (pt a k) : Vec Ideal S1088x768 .f32) (ix2 r j) = m ((c : Thread nD τ).loc main_arg3) (hid a r k j) := by
  unfold iblk
  rw [View.read_apply]
  show m ((c : Thread nD τ).loc main_arg3) _ = _
  congr 1
  funext b
  refine Fin.ext ?_
  match b with
  | ⟨0, _⟩ => show win0_3.index (pt a k) 0 * 1088 + 1 * r.val = 1088 * a.val + r.val; rw [(in_eq _).2.2.2.1, pt_div]; omega
  | ⟨1, _⟩ => show win0_3.index (pt a k) 1 * 768 + 1 * j.val = 768 * k.val + j.val; rw [(in_eq _).2.2.2.2, pt_mod]; omega

/-- A product of blocks at an index. -/
theorem pay1_apply (v0 : Vec Ideal S1088x1024 .bf16) (v1 : Vec Ideal S1x768x1024 .bf16) (r : Fin 1088) (j : Fin 768) :
    k0_pay1 v0 v1 (ix2 r j) = ∑ d : Fin 1024, v0 (ix2 r d) * v1 (ix3 0 j d) := by
  unfold k0_pay1
  exact (matmul_nt _ rfl rfl rfl rfl rfl rfl v0 _ r j).trans (Finset.sum_congr rfl fun d _ => congrArg (v0 (ix2 r d) * ·) (dropUnit v1 _ j d))

theorem pay2_apply (v4 : Vec Ideal S1088x768 .f32) (i : S1088x768.Idx) : k0_pay2 v4 i = sgm (v4 i) := by
  have h : ∀ x : EReal, Ideal.ofBits .f32 0x00000000#32 - x = -x := fun x => by rw [Ideal.ofBits_zero_f32, zero_sub]
  unfold sgm
  rw [← h]
  rfl

/-- The two gradients of a block at an index. -/
theorem pay3_apply (v0 : Vec Ideal S1088x1024 .bf16) (v1 : Vec Ideal S1x768x1024 .bf16) (v4 v12 : Vec Ideal S1088x768 .f32) (i : S1088x768.Idx) :
    k0_pay3 v0 v1 v4 v12 i = k0_pay1 v0 v1 i * v12 i * kerFac (v4 i) := by
  unfold kerFac
  rw [← pay2_apply]
  rfl
theorem pay4_apply (v0 : Vec Ideal S1088x1024 .bf16) (v1 : Vec Ideal S1x768x1024 .bf16) (v4 : Vec Ideal S1088x768 .f32) (i : S1088x768.Idx) :
    k0_pay4 v0 v1 v4 i = k0_pay1 v0 v1 i * (v4 i * sgm (v4 i)) := by
  rw [← pay2_apply]
  rfl

/-- The product of the blocks at a point is the arrays' product. -/
theorem act_sum (c : Dev nD) (a : Fin 2) (k : Fin 4) (r : Fin 1088) (j : Fin 768) : k0_pay1 (iblk m c 0 (pt a k)) (iblk m c 1 (pt a k)) (ix2 r j)
    = ffSum (m ((c : Thread nD τ).loc main_arg0)) (m ((c : Thread nD τ).loc main_arg1)) ⟨1088 * a.val + r.val, by omega⟩ k j := by
  rw [pay1_apply]
  unfold ffSum
  refine Finset.sum_congr rfl fun d _ => ?_
  rw [iblk0 m c a k r d, iblk1 m c a k j d]

theorem emb4 (a : Fin 2) (k : Fin 4) (r : Fin 1088) (j : Fin 768) : ((cfg0.win 4).blk (pt a k)).view.emb (ix2 r j) = (hid a r k j : S2176x3072.Idx) := by
  funext b
  refine Fin.ext ?_
  match b with
  | ⟨0, _⟩ => show win0_4.index (pt a k) 0 * 1088 + 1 * r.val = 1088 * a.val + r.val; rw [(out_eq _).1.1, pt_div]; omega
  | ⟨1, _⟩ => show win0_4.index (pt a k) 1 * 768 + 1 * j.val = 768 * k.val + j.val; rw [(out_eq _).1.2, pt_mod]; omega

theorem emb5 (a : Fin 2) (k : Fin 4) (r : Fin 1088) (j : Fin 768) : ((cfg0.win 5).blk (pt a k)).view.emb (ix2 r j) = (hid a r k j : S2176x3072.Idx) := by
  funext b
  refine Fin.ext ?_
  match b with
  | ⟨0, _⟩ => show win0_5.index (pt a k) 0 * 1088 + 1 * r.val = 1088 * a.val + r.val; rw [(out_eq _).2.1, pt_div]; omega
  | ⟨1, _⟩ => show win0_5.index (pt a k) 1 * 768 + 1 * j.val = 768 * k.val + j.val; rw [(out_eq _).2.2, pt_mod]; omega

/-- The gradient by the gate after the run, -/
theorem final4 (c : Dev nD) (a : Fin 2) (r : Fin 1088) (k : Fin 4) (j : Fin 768) : (dats m 0 c).arrAt 4 cfg0.N (hid a r k j : S2176x3072.Idx)
    = (fun g u x : EReal => x * u * kerFac g) (m ((c : Thread nD τ).loc main_arg2) (hid a r k j)) (m ((c : Thread nD τ).loc main_arg3) (hid a r k j))
      (ffSum (m ((c : Thread nD τ).loc main_arg0)) (m ((c : Thread nD τ).loc main_arg1)) ⟨1088 * a.val + r.val, by omega⟩ k j) := by
  have h := (dats m 0 c).arrAt_emb_eq_flushed 4 disjoint4 (pt a k) (flush0_4 _) (ix2 r j)
  refine (congrArg ((dats m 0 c).arrAt 4 cfg0.N) (emb4 a k r j)).symm.trans (h.trans ?_)
  refine (cast_eq _ _).trans ((congrFun (flushed4 m c _) _).trans ?_)
  show out0_4 (iblk m c 0 (pt a k)) (iblk m c 1 (pt a k)) (iblk m c 2 (pt a k)) (iblk m c 3 (pt a k)) (ix2 r j) = _
  unfold out0_4
  rw [View.canon_unit_zero hz2, View.ld_unit_zero hz2, View.ld_unit_zero hz3, View.ld_unit_zero hz2, View.ld_unit_zero hz2, pay3_apply, act_sum, iblk2, iblk3]

/-- and the gradient by the up product. -/
theorem final5 (c : Dev nD) (a : Fin 2) (r : Fin 1088) (k : Fin 4) (j : Fin 768) : (dats m 0 c).arrAt 5 cfg0.N (hid a r k j : S2176x3072.Idx)
    = (fun g u x : EReal => x * (g * sgm g)) (m ((c : Thread nD τ).loc main_arg2) (hid a r k j)) (m ((c : Thread nD τ).loc main_arg3) (hid a r k j))
      (ffSum (m ((c : Thread nD τ).loc main_arg0)) (m ((c : Thread nD τ).loc main_arg1)) ⟨1088 * a.val + r.val, by omega⟩ k j) := by
  have h := (dats m 0 c).arrAt_emb_eq_flushed 5 disjoint5 (pt a k) (flush0_5 _) (ix2 r j)
  refine (congrArg ((dats m 0 c).arrAt 5 cfg0.N) (emb5 a k r j)).symm.trans (h.trans ?_)
  refine (cast_eq _ _).trans ((congrFun (flushed5 m c _) _).trans ?_)
  show out0_5 (iblk m c 0 (pt a k)) (iblk m c 1 (pt a k)) (iblk m c 2 (pt a k)) (iblk m c 3 (pt a k)) (ix2 r j) = _
  unfold out0_5
  rw [View.canon_unit_zero hz2, View.ld_unit_zero hz2, View.ld_unit_zero hz3, View.ld_unit_zero hz2, pay4_apply, act_sum, iblk2]

end Cert.GateIdeal.Ffn

namespace Cert.GateRefIdeal.Ffn

open Cert.GateRefIdeal Cert.GateRefIdeal.Gen Cert.GateRefIdeal.Read Cert.Dots

/-- The reference's product at an index, -/
theorem act_apply (x0 : (⟨S2176x1024, .bf16⟩ : BufTy).Contents (Elt Ideal)) (x1 : (⟨S4x768x1024, .bf16⟩ : BufTy).Contents (Elt Ideal)) (a : Fin 2) (r : Fin 1088) (k : Fin 4)
    (j : Fin 768) : val_main_v6 (F := Ideal) x0 x1 (hid a r k j) = ffSum x0 x1 ⟨1088 * a.val + r.val, by omega⟩ k j := by
  rw [val_main_v6_apply]
  refine Finset.sum_congr rfl fun d _ => ?_
  rw [val_main_v5_apply, val_main_v3_apply, val_main_v2_apply]
  refine congrArg₂ (· * ·) (congrArg x0 ?_) (congrArg x1 ?_) <;> funext b <;> refine Fin.ext ?_
  · match b with
    | ⟨0, _⟩ => rfl
    | ⟨1, _⟩ => rfl
  · match b with
    | ⟨0, _⟩ => show ((768 * k.val + j.val) * 1024 + d.val) / 786432 = k.val; omega
    | ⟨1, _⟩ => show ((768 * k.val + j.val) * 1024 + d.val) / 1024 % 768 = j.val; omega
    | ⟨2, _⟩ => show ((768 * k.val + j.val) * 1024 + d.val) % 1024 = d.val; omega

theorem sgm_apply (x2 : (⟨S2176x3072, .f32⟩ : BufTy).Contents (Elt Ideal)) (i : S2176x3072.Idx) : val_main_v0_2 (F := Ideal) x2 i = sgm (x2 i) := by
  rw [val_main_v0_2_apply, val_main_call0_v4_apply, val_main_call0_cst_0_apply, val_main_call0_v3_apply, val_main_call0_v2_apply, val_main_call0_cst_apply, val_main_call0_v1_apply,
    val_main_call0_v0_apply]
  rfl

/-- its gradient by the gate -/
theorem gate_apply (x0 : (⟨S2176x1024, .bf16⟩ : BufTy).Contents (Elt Ideal)) (x1 : (⟨S4x768x1024, .bf16⟩ : BufTy).Contents (Elt Ideal)) (x2 x3 : (⟨S2176x3072, .f32⟩ : BufTy).Contents (Elt Ideal))
    (i : S2176x3072.Idx) : val_main_v10 (F := Ideal) x0 x1 x2 x3 i = refGrad (val_main_v6 (F := Ideal) x0 x1 i * x3 i) (x2 i) := by
  rw [val_main_v10_apply, val_main_v9_apply, val_main_call1_v1_apply, val_main_call1_v2_apply, val_main_call1_v0_apply, val_main_v0_1_apply, val_main_call0_v7_apply, val_main_call0_v6_apply,
    val_main_call0_cst_1_apply, val_main_v8_apply, sgm_apply]
  rfl

/-- and by the up product. -/
theorem up_apply (x0 : (⟨S2176x1024, .bf16⟩ : BufTy).Contents (Elt Ideal)) (x1 : (⟨S4x768x1024, .bf16⟩ : BufTy).Contents (Elt Ideal)) (x2 : (⟨S2176x3072, .f32⟩ : BufTy).Contents (Elt Ideal))
    (i : S2176x3072.Idx) : val_main_v11 (F := Ideal) x0 x1 x2 i = x2 i * sgm (x2 i) * val_main_v6 (F := Ideal) x0 x1 i := by
  rw [val_main_v11_apply, val_main_v7_apply, val_main_v0_0_apply, sgm_apply]
  rfl

end Cert.GateRefIdeal.Ffn

namespace Cert.Ffn

open Cert.Dots

/-- What the precondition says: the incoming gradient, the weight and the up product are real numbers. -/
theorem finite_args (x0 : FVec Ideal Cert.Pre_finite_ffn.S2176x1024 .bf16) (x1 : FVec Ideal Cert.Pre_finite_ffn.S4x768x1024 .bf16) (x2 x3 : FVec Ideal Cert.Pre_finite_ffn.S2176x3072 .f32)
    (h : Cert.Pre_finite_ffn.fn (F := Ideal) x0 x1 x2 x3 = fun _ => 1#1) : (∀ i, ∃ r : ℝ, x0 i = (r : EReal)) ∧ (∀ i, ∃ r : ℝ, x1 i = (r : EReal)) ∧ ∀ i, ∃ r : ℝ, x3 i = (r : EReal) := by
  have hj := congrFun h (fun a => a.elim0)
  unfold Cert.Pre_finite_ffn.fn at hj
  dsimp only at hj
  obtain ⟨hab, hc⟩ := IntOp.andi_eq_one.mp hj
  obtain ⟨ha, hb⟩ := IntOp.andi_eq_one.mp hab
  haveI : Subsingleton Cert.Pre_finite_ffn.S_.Idx := ⟨fun _ _ => funext fun a => a.elim0⟩
  exact ⟨fun i => real_of_lt _ (Host.reduce_andi_all _ _ _ _ _ ha i), fun i => real_of_lt _ (Host.reduce_andi_all _ _ _ _ _ hb i),
    fun i => real_of_lt _ (Host.reduce_andi_all _ _ _ _ _ hc i)⟩

/-- The kernel's two gradients are the reference's. -/
theorem gate : @Cert.algebraic_GateIdeal_GateRefIdeal_pre_finite_ffn Cert.GateIdeal.Gen.facts Cert.GateRefIdeal.Gen.facts Cert.Pre_finite_ffn.Gen.facts := fun m g m' g' hpre hin =>
  ⟨fun c => (Cert.GateIdeal.Gen.dats m 0 c).arrAt 4 Cert.GateIdeal.cfg0.N, fun c => (Cert.GateIdeal.Gen.dats m 0 c).arrAt 5 Cert.GateIdeal.cfg0.N,
    Cert.GateIdeal.Value.run_blocks m g,
    (θ_run _ _ _).mono (fun r h c => ⟨(h c).1.trans (by
        rw [Cert.GateRefIdeal.Read.val_main_v10_eq, (hin c).1, (hin c).2.1, (hin c).2.2.1, (hin c).2.2.2]
        funext i
        obtain ⟨a, r, k, j, rfl⟩ := hid_split i
        refine (Cert.GateRefIdeal.Ffn.gate_apply _ _ _ _ _).trans (Eq.trans ?_ (Cert.GateIdeal.Ffn.final4 m c a r k j).symm)
        obtain ⟨h0, h1, h3⟩ := finite_args _ _ _ _ (hpre c)
        obtain ⟨x, hx⟩ := real_sum (fun d => m ((c.tc : Thread Cert.GateIdeal.nD Cert.GateIdeal.τ).loc Cert.GateIdeal.main_arg0) (wide a r d))
          (fun d => m ((c.tc : Thread Cert.GateIdeal.nD Cert.GateIdeal.τ).loc Cert.GateIdeal.main_arg1) (ix3 k j d)) (fun d => h0 _) (fun d => h1 _)
        obtain ⟨u, hu⟩ := h3 (hid a r k j)
        rw [Cert.GateRefIdeal.Ffn.act_apply]
        unfold ffSum
        rw [hx, hu, ← EReal.coe_mul]
        exact (grad_eq _ _).symm),
      (h c).2.1.trans (by
        rw [Cert.GateRefIdeal.Read.val_main_v11_eq, (hin c).1, (hin c).2.1, (hin c).2.2.1]
        funext i
        obtain ⟨a, r, k, j, rfl⟩ := hid_split i
        refine (Cert.GateRefIdeal.Ffn.up_apply _ _ _ _).trans (Eq.trans ?_ (Cert.GateIdeal.Ffn.final5 m c a r k j).symm)
        rw [Cert.GateRefIdeal.Ffn.act_apply]
        exact mul_comm _ _), (h c).2.2⟩)
      (Cert.GateRefIdeal.Value.run (F := Ideal) m' g')⟩

end Cert.Ffn

end
-- ==== Proof.Ffn.DownW.lean ====
/- The down product's weight gradient: the kernel's one accumulating step leaves the product, which is the reference's. -/
module

public import proofs.«01_k».proof.Defs
public import proofs.«01_k».proof.Proof.Ffn.Dots
public import proofs.«01_k».proof.Proof.Gen.DownWIdeal.Value
public import proofs.«01_k».proof.Proof.Gen.DownWRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.DownWIdeal.Ffn

open Cert.DownWIdeal Cert.DownWIdeal.Gen Cert.DownWIdeal.Value Cert.Dots

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Where the windows stand at point `t`: the unit's columns and the result's slab `t`, the gradient whole. -/
theorem index_eq : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0 ∧ win0_2.index t 2 = 0) :=
  (by decide +kernel : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0 ∧ win0_2.index t 2 = 0))

theorem iblk0 (c : Dev nD) (t : Fin cfg0.N) (n : Fin 2176) (j : Fin 768) :
    (iblk m c 0 t : Vec Ideal S2176x768 .bf16) (ix2 n j) = m ((c : Thread nD τ).loc main_arg0) (ix2 n ⟨768 * t.val + j.val, by have := t.isLt; have h : cfg0.N = 4 := N_0; omega⟩) := by
  unfold iblk
  rw [View.read_apply]
  show m ((c : Thread nD τ).loc main_arg0) _ = _
  congr 1
  funext a
  refine Fin.ext ?_
  match a with
  | ⟨0, _⟩ => show win0_0.index t 0 * 2176 + 1 * n.val = n.val; rw [(index_eq t).1.1]; omega
  | ⟨1, _⟩ => show win0_0.index t 1 * 768 + 1 * j.val = 768 * t.val + j.val; rw [(index_eq t).1.2]; omega

theorem iblk1 (c : Dev nD) (t : Fin cfg0.N) : (iblk m c 1 t : Vec Ideal S2176x1024 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 2176 + 1 * (y 0).val = (y 0).val; rw [(index_eq t).2.1.1]; omega
  | ⟨1, _⟩ => show win0_1.index t 1 * 1024 + 1 * (y 1).val = (y 1).val; rw [(index_eq t).2.1.2]; omega

/-- What the body leaves in the result's buffer: the sum it started at zero, the one product added. -/
theorem out_A (c : Dev nD) (i : grid0.Coords) (a3 : Memref sig .tc .vmem S2176x768 .bf16) (h3 : a3.IsWhole) (a4 : Memref sig .tc .vmem S2176x1024 .bf16) (h4 : a4.IsWhole)
    (a5 : Memref sig .tc .vmem S1x768x1024 .f32) (h5 : a5.IsWhole) (a6 : Memref sig .tc .vmem S768x1024 .f32) (h6 : a6.IsWhole) (hc0 : cond0_0 i) (hc1 : cond0_1 i)
    (x0 : Vec Ideal S2176x768 .bf16) (x1 : Vec Ideal S2176x1024 .bf16) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz3]
  simp only [View.readAt_eq_ld, h3.read_unread, h4.read_unread, View.ld_unit_zero (S := S2176x768) hz2, View.ld_unit_zero (S := S2176x1024) hz2,
    View.readCov_unit_zero (S := S768x1024) _ hz2]
  exact congrArg k0_pay3 (View.readCov_full (s := S768x1024) _ _ _ _ _)

/-- That at an index. -/
theorem pay_apply (x0 : Vec Ideal S2176x768 .bf16) (x1 : Vec Ideal S2176x1024 .bf16) (z : Fin 1) (j : Fin 768) (d : Fin 1024) :
    k0_pay3 (F := Ideal) (k0_pay2 k0_pay1 x0 x1) (ix3 z j d) = ∑ n : Fin 2176, x0 (ix2 n j) * x1 (ix2 n d) := by
  unfold k0_pay3
  refine (addUnit _ _ z j d).trans ?_
  unfold k0_pay2 k0_pay1
  dsimp only
  rw [shapeCast_self, shapeCast_self]
  show Ideal.ofBits .f32 0x00000000#32 + _ = _
  rw [Ideal.ofBits_zero_f32, zero_add]
  exact matmul_tn _ rfl rfl rfl rfl rfl rfl x0 x1 j d

theorem emb2 (t : Fin cfg0.N) (h : t.val < 4) (z : Fin 1) (j : Fin 768) (d : Fin 1024) :
    ((cfg0.win 2).blk t).view.emb (ix3 z j d) = (ix3 ⟨t.val, h⟩ j d : S4x768x1024.Idx) := by
  funext a
  refine Fin.ext ?_
  match a with
  | ⟨0, _⟩ => show win0_2.index t 0 * 1 + 1 * z.val = t.val; rw [(index_eq t).2.2.1]; omega
  | ⟨1, _⟩ => show win0_2.index t 1 * 768 + 1 * j.val = j.val; rw [(index_eq t).2.2.2.1]; omega
  | ⟨2, _⟩ => show win0_2.index t 2 * 1024 + 1 * d.val = d.val; rw [(index_eq t).2.2.2.2]; omega

/-- The weight gradient after the run. -/
theorem final2 (c : Dev nD) (k : Fin 4) (j : Fin 768) (d : Fin 1024) : (dats m 0 c).arrAt 2 cfg0.N (ix3 k j d : S4x768x1024.Idx)
    = dwSum (m ((c : Thread nD τ).loc main_arg0)) (m ((c : Thread nD τ).loc main_arg1)) k j d := by
  have hN : cfg0.N = 4 := N_0
  have h := (dats m 0 c).arrAt_emb_eq_flushed 2 disjoint2 ⟨k.val, by omega⟩ (flush0_2 _) (ix3 0 j d)
  refine (congrArg ((dats m 0 c).arrAt 2 cfg0.N) (emb2 ⟨k.val, by omega⟩ k.isLt 0 j d)).symm.trans (h.trans ?_)
  refine (cast_eq _ _).trans ((congrFun (flushed2 m c _) _).trans ?_)
  show outsAt0 m c ⟨k.val, by omega⟩ (ix3 0 j d) = _
  unfold outsAt0
  rw [out_A, pay_apply, iblk1]
  unfold dwSum
  refine Finset.sum_congr rfl fun n _ => ?_
  rw [iblk0 m c _ n j]

end Cert.DownWIdeal.Ffn

namespace Cert.DownWRefIdeal.Ffn

open Cert.DownWRefIdeal Cert.DownWRefIdeal.Gen Cert.DownWRefIdeal.Read Cert.Dots

/-- The reference's gradient at an index. -/
theorem res_apply (x0 : (⟨S2176x3072, .bf16⟩ : BufTy).Contents (Elt Ideal)) (x1 : (⟨S2176x1024, .bf16⟩ : BufTy).Contents (Elt Ideal)) (k : Fin 4) (j : Fin 768) (d : Fin 1024) :
    val_main_v7 (F := Ideal) x0 x1 (ix3 k j d) = dwSum x0 x1 k j d := by
  rw [val_main_v7_apply, val_main_v6_apply, val_main_v5_apply]
  refine Finset.sum_congr rfl fun n _ => (mul_comm _ _).trans (congrArg₂ (· * ·) (congrArg x0 ?_) (congrArg x1 ?_)) <;> funext a <;> refine Fin.ext ?_
  · match a with
    | ⟨0, _⟩ => rfl
    | ⟨1, _⟩ => show ((k.val * 768 + j.val) * 1024 + d.val) / 1024 = 768 * k.val + j.val; omega
  · match a with
    | ⟨0, _⟩ => rfl
    | ⟨1, _⟩ => show ((k.val * 768 + j.val) * 1024 + d.val) % 1024 = d.val; omega

end Cert.DownWRefIdeal.Ffn

namespace Cert.Ffn

open Cert.Dots

/-- The kernel's weight gradient is the reference's. -/
theorem downW : @Cert.algebraic_DownWIdeal_DownWRefIdeal Cert.DownWIdeal.Gen.facts Cert.DownWRefIdeal.Gen.facts := fun m g m' g' _ hin =>
  ⟨fun c => (Cert.DownWIdeal.Gen.dats m 0 c).arrAt 2 Cert.DownWIdeal.cfg0.N,
    Cert.DownWIdeal.Value.run_blocks m g,
    (θ_run _ _ _).mono (fun r h c => ⟨(h c).1.trans (by
        rw [Cert.DownWRefIdeal.Read.val_main_v7_eq, (hin c).1, (hin c).2]
        funext i
        rw [eq_ix3 i]
        exact (Cert.DownWRefIdeal.Ffn.res_apply _ _ _ _ _).trans (Cert.DownWIdeal.Ffn.final2 m c _ _ _).symm), (h c).2⟩)
      (Cert.DownWRefIdeal.Value.run (F := Ideal) m' g')⟩

end Cert.Ffn

end
-- ==== Proof.Ffn.GateW.lean ====
/- The weight gradients of the feed-forward's gate and up products: the kernel's blocks and the reference's products are
   the same sums. -/
module

public import proofs.«01_k».proof.Defs
public import proofs.«01_k».proof.Proof.Ffn.Dots
public import proofs.«01_k».proof.Proof.Gen.GateWIdeal.Value
public import proofs.«01_k».proof.Proof.Gen.GateWRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.GateWIdeal.Ffn

open Cert.GateWIdeal Cert.GateWIdeal.Gen Cert.GateWIdeal.Value Cert.Dots

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Where the windows stand at point `t`: the gradients' columns and the results' slab `t`, the input whole. -/
theorem index_eq : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = t.val ∧ win0_3.index t 1 = 0 ∧ win0_3.index t 2 = 0)
    ∧ (win0_4.index t 0 = t.val ∧ win0_4.index t 1 = 0 ∧ win0_4.index t 2 = 0) :=
  (by decide +kernel : ∀ t : Fin grid0.N, (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = t.val ∧ win0_3.index t 1 = 0 ∧ win0_3.index t 2 = 0)
    ∧ (win0_4.index t 0 = t.val ∧ win0_4.index t 1 = 0 ∧ win0_4.index t 2 = 0))

/-- Point `t`'s block of the gate's gradient: its columns from `768 t`. -/
theorem iblk0 (c : Dev nD) (t : Fin cfg0.N) (n : Fin 2176) (j : Fin 768) :
    (iblk m c 0 t : Vec Ideal S2176x768 .bf16) (ix2 n j) = m ((c : Thread nD τ).loc main_arg0) (ix2 n ⟨768 * t.val + j.val, by have := t.isLt; have h : cfg0.N = 4 := N_0; omega⟩) := by
  unfold iblk
  rw [View.read_apply]
  show m ((c : Thread nD τ).loc main_arg0) _ = _
  congr 1
  funext a
  refine Fin.ext ?_
  match a with
  | ⟨0, _⟩ => show win0_0.index t 0 * 2176 + 1 * n.val = n.val; rw [(index_eq t).1.1]; omega
  | ⟨1, _⟩ => show win0_0.index t 1 * 768 + 1 * j.val = 768 * t.val + j.val; rw [(index_eq t).1.2]; omega

/-- The up product's gradient likewise. -/
theorem iblk1 (c : Dev nD) (t : Fin cfg0.N) (n : Fin 2176) (j : Fin 768) :
    (iblk m c 1 t : Vec Ideal S2176x768 .bf16) (ix2 n j) = m ((c : Thread nD τ).loc main_arg1) (ix2 n ⟨768 * t.val + j.val, by have := t.isLt; have h : cfg0.N = 4 := N_0; omega⟩) := by
  unfold iblk
  rw [View.read_apply]
  show m ((c : Thread nD τ).loc main_arg1) _ = _
  congr 1
  funext a
  refine Fin.ext ?_
  match a with
  | ⟨0, _⟩ => show win0_1.index t 0 * 2176 + 1 * n.val = n.val; rw [(index_eq t).2.1.1]; omega
  | ⟨1, _⟩ => show win0_1.index t 1 * 768 + 1 * j.val = 768 * t.val + j.val; rw [(index_eq t).2.1.2]; omega

theorem iblk2 (c : Dev nD) (t : Fin cfg0.N) : (iblk m c 2 t : Vec Ideal S2176x1024 .bf16) = m ((c : Thread nD τ).loc main_arg2) := by
  funext y
  unfold iblk
  rw [View.read_apply]
  show m ((c : Thread nD τ).loc main_arg2) _ = _
  congr 1
  funext a
  refine Fin.ext ?_
  match a with
  | ⟨0, _⟩ => show win0_2.index t 0 * 2176 + 1 * (y 0).val = (y 0).val; rw [(index_eq t).2.2.1.1]; omega
  | ⟨1, _⟩ => show win0_2.index t 1 * 1024 + 1 * (y 1).val = (y 1).val; rw [(index_eq t).2.2.1.2]; omega

/-- A store's payload at an index: the product of the two blocks over the rows. -/
theorem pay1_apply (v0 : Vec Ideal S2176x1024 .bf16) (v1 : Vec Ideal S2176x768 .bf16) (z : Fin 1) (j : Fin 768) (d : Fin 1024) :
    k0_pay1 v0 v1 (ix3 z j d) = ∑ n : Fin 2176, v1 (ix2 n j) * v0 (ix2 n d) := by
  unfold k0_pay1
  exact (addUnit _ _ z j d).trans (matmul_tn _ rfl rfl rfl rfl rfl rfl v1 v0 j d)

/-- Element `(j, d)` of point `t`'s block of either result. -/
theorem emb3 (t : Fin cfg0.N) (h : t.val < 4) (z : Fin 1) (j : Fin 768) (d : Fin 1024) :
    ((cfg0.win 3).blk t).view.emb (ix3 z j d) = (ix3 ⟨t.val, h⟩ j d : S4x768x1024.Idx) := by
  funext a
  refine Fin.ext ?_
  match a with
  | ⟨0, _⟩ => show win0_3.index t 0 * 1 + 1 * z.val = t.val; rw [(index_eq t).2.2.2.1.1]; omega
  | ⟨1, _⟩ => show win0_3.index t 1 * 768 + 1 * j.val = j.val; rw [(index_eq t).2.2.2.1.2.1]; omega
  | ⟨2, _⟩ => show win0_3.index t 2 * 1024 + 1 * d.val = d.val; rw [(index_eq t).2.2.2.1.2.2]; omega
theorem emb4 (t : Fin cfg0.N) (h : t.val < 4) (z : Fin 1) (j : Fin 768) (d : Fin 1024) :
    ((cfg0.win 4).blk t).view.emb (ix3 z j d) = (ix3 ⟨t.val, h⟩ j d : S4x768x1024.Idx) := by
  funext a
  refine Fin.ext ?_
  match a with
  | ⟨0, _⟩ => show win0_4.index t 0 * 1 + 1 * z.val = t.val; rw [(index_eq t).2.2.2.2.1]; omega
  | ⟨1, _⟩ => show win0_4.index t 1 * 768 + 1 * j.val = j.val; rw [(index_eq t).2.2.2.2.2.1]; omega
  | ⟨2, _⟩ => show win0_4.index t 2 * 1024 + 1 * d.val = d.val; rw [(index_eq t).2.2.2.2.2.2]; omega

/-- The gate's weight gradient after the run. -/
theorem final3 (c : Dev nD) (k : Fin 4) (j : Fin 768) (d : Fin 1024) : (dats m 0 c).arrAt 3 cfg0.N (ix3 k j d : S4x768x1024.Idx)
    = dwSum (m ((c : Thread nD τ).loc main_arg0)) (m ((c : Thread nD τ).loc main_arg2)) k j d := by
  have hN : cfg0.N = 4 := N_0
  have h := (dats m 0 c).arrAt_emb_eq_flushed 3 disjoint3 ⟨k.val, by omega⟩ (flush0_3 _) (ix3 0 j d)
  refine (congrArg ((dats m 0 c).arrAt 3 cfg0.N) (emb3 ⟨k.val, by omega⟩ k.isLt 0 j d)).symm.trans (h.trans ?_)
  refine (cast_eq _ _).trans ((congrFun (flushed3 m c _) _).trans ?_)
  show out0_3 (iblk m c 0 ⟨k.val, by omega⟩) (iblk m c 1 ⟨k.val, by omega⟩) (iblk m c 2 ⟨k.val, by omega⟩) (ix3 0 j d) = _
  unfold out0_3
  rw [View.canon_unit_zero hz3, View.ld_unit_zero hz2, View.ld_unit_zero hz2, pay1_apply, iblk2]
  unfold dwSum
  refine Finset.sum_congr rfl fun n _ => ?_
  rw [iblk0 m c _ n j]

/-- The up product's weight gradient after the run. -/
theorem final4 (c : Dev nD) (k : Fin 4) (j : Fin 768) (d : Fin 1024) : (dats m 0 c).arrAt 4 cfg0.N (ix3 k j d : S4x768x1024.Idx)
    = dwSum (m ((c : Thread nD τ).loc main_arg1)) (m ((c : Thread nD τ).loc main_arg2)) k j d := by
  have hN : cfg0.N = 4 := N_0
  have h := (dats m 0 c).arrAt_emb_eq_flushed 4 disjoint4 ⟨k.val, by omega⟩ (flush0_4 _) (ix3 0 j d)
  refine (congrArg ((dats m 0 c).arrAt 4 cfg0.N) (emb4 ⟨k.val, by omega⟩ k.isLt 0 j d)).symm.trans (h.trans ?_)
  refine (cast_eq _ _).trans ((congrFun (flushed4 m c _) _).trans ?_)
  show out0_4 (iblk m c 0 ⟨k.val, by omega⟩) (iblk m c 1 ⟨k.val, by omega⟩) (iblk m c 2 ⟨k.val, by omega⟩) (ix3 0 j d) = _
  unfold out0_4
  rw [View.canon_unit_zero hz3, View.ld_unit_zero hz2, View.ld_unit_zero hz2, show k0_pay2 (F := Ideal) = k0_pay1 from rfl, pay1_apply, iblk2]
  unfold dwSum
  refine Finset.sum_congr rfl fun n _ => ?_
  rw [iblk1 m c _ n j]

end Cert.GateWIdeal.Ffn

namespace Cert.GateWRefIdeal.Ffn

open Cert.GateWRefIdeal Cert.GateWRefIdeal.Gen Cert.GateWRefIdeal.Read Cert.Dots

/-- The reference's gradients at an index, -/
theorem gate_apply (x0 : (⟨S2176x3072, .bf16⟩ : BufTy).Contents (Elt Ideal)) (x2 : (⟨S2176x1024, .bf16⟩ : BufTy).Contents (Elt Ideal)) (k : Fin 4) (j : Fin 768) (d : Fin 1024) :
    val_main_v17 (F := Ideal) x0 x2 (ix3 k j d) = dwSum x0 x2 k j d := by
  rw [val_main_v17_apply, val_main_v16_apply, val_main_v15_apply, val_main_v14_apply]
  refine Finset.sum_congr rfl fun n _ => congrArg₂ (· * ·) (congrArg x0 ?_) (congrArg x2 ?_) <;> funext a <;> refine Fin.ext ?_
  · match a with
    | ⟨0, _⟩ => rfl
    | ⟨1, _⟩ => show ((k.val * 768 + j.val) * 1024 + d.val) / 1024 = 768 * k.val + j.val; omega
  · match a with
    | ⟨0, _⟩ => rfl
    | ⟨1, _⟩ => show ((k.val * 768 + j.val) * 1024 + d.val) % 1024 = d.val; omega

/-- the two being one function of their arguments. -/
theorem up_apply (x1 : (⟨S2176x3072, .bf16⟩ : BufTy).Contents (Elt Ideal)) (x2 : (⟨S2176x1024, .bf16⟩ : BufTy).Contents (Elt Ideal)) (k : Fin 4) (j : Fin 768) (d : Fin 1024) :
    val_main_v13 (F := Ideal) x1 x2 (ix3 k j d) = dwSum x1 x2 k j d := gate_apply x1 x2 k j d

end Cert.GateWRefIdeal.Ffn

namespace Cert.Ffn

open Cert.Dots

/-- The kernel's weight gradients are the reference's. -/
theorem gateW : @Cert.algebraic_GateWIdeal_GateWRefIdeal Cert.GateWIdeal.Gen.facts Cert.GateWRefIdeal.Gen.facts := fun m g m' g' _ hin =>
  ⟨fun c => (Cert.GateWIdeal.Gen.dats m 0 c).arrAt 3 Cert.GateWIdeal.cfg0.N, fun c => (Cert.GateWIdeal.Gen.dats m 0 c).arrAt 4 Cert.GateWIdeal.cfg0.N,
    Cert.GateWIdeal.Value.run_blocks m g,
    (θ_run _ _ _).mono (fun r h c => ⟨(h c).1.trans (by
        rw [Cert.GateWRefIdeal.Read.val_main_v17_eq, (hin c).1, (hin c).2.2]
        funext i
        rw [eq_ix3 i]
        exact (Cert.GateWRefIdeal.Ffn.gate_apply _ _ _ _ _).trans (Cert.GateWIdeal.Ffn.final3 m c _ _ _).symm),
      (h c).2.1.trans (by
        rw [Cert.GateWRefIdeal.Read.val_main_v13_eq, (hin c).2.1, (hin c).2.2]
        funext i
        rw [eq_ix3 i]
        exact (Cert.GateWRefIdeal.Ffn.up_apply _ _ _ _ _).trans (Cert.GateWIdeal.Ffn.final4 m c _ _ _).symm), (h c).2.2⟩)
      (Cert.GateWRefIdeal.Value.run (F := Ideal) m' g')⟩

end Cert.Ffn

end
-- ==== Proof.Ffn.GateX.lean ====
/- The input gradient of the feed-forward's gate and up products: the kernel's four accumulating steps leave the sum the reference takes at once. -/
module

public import proofs.«01_k».proof.Defs
public import proofs.«01_k».proof.Proof.Ffn.Dots
public import proofs.«01_k».proof.Proof.Gen.GateXIdeal.Value
public import proofs.«01_k».proof.Proof.Gen.GateXRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.GateXIdeal.Ffn

open Cert.GateXIdeal Cert.GateXIdeal.Gen Cert.GateXIdeal.Value Cert.Dots

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the first step of a row block, -/
theorem sout_A (c : Dev nD) (i : grid0.Coords) (a2 : Memref sig .tc .vmem S1088x768 .bf16) (h2 : a2.IsWhole) (a3 : Memref sig .tc .vmem S1088x768 .bf16) (h3 : a3.IsWhole) (a4 : Memref sig .tc .vmem S1x768x1024 .bf16) (h4 : a4.IsWhole)
    (a5 : Memref sig .tc .vmem S1x768x1024 .bf16) (h5 : a5.IsWhole) (a6 : Memref sig .tc .vmem S1088x1024 .f32) (h6 : a6.IsWhole) (a7 : Memref sig .tc .vmem S1088x1024 .f32) (h7 : a7.IsWhole)
    (a8 : Memref sig .tc .vmem S1088x1024 .f32) (h8 : a8.IsWhole) (hc0 : cond0_0 i) (hc1 : ¬cond0_1 i) (x0 x1 : Vec Ideal S1088x768 .bf16) (x2 x3 : Vec Ideal S1x768x1024 .bf16) (x4 : Vec Ideal S1088x1024 .f32) :
    sout0_A_0 c i a2 h2 a3 h3 a4 h4 a5 h5 a6 h6 a7 h7 a8 h8 hc0 hc1 x0 x1 x2 x3 x4 = k0_pay2 k0_pay1 x0 x2 x1 x3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1088x1024) hz2]
  simp only [View.readAt_eq_ld, h2.read_unread, h3.read_unread, h4.read_unread, h5.read_unread, h6.read_unread, h8.read_unread, View.ld_unit_zero (S := S1088x768) hz2, View.ld_unit_zero (S := S1088x1024) hz2,
    View.ld_unit_zero (S := S1x768x1024) hz3, View.readCov_unit_zero (S := S1088x1024) _ hz2]

/-- after a middle step -/
theorem sout_B (c : Dev nD) (i : grid0.Coords) (a2 : Memref sig .tc .vmem S1088x768 .bf16) (h2 : a2.IsWhole) (a3 : Memref sig .tc .vmem S1088x768 .bf16) (h3 : a3.IsWhole) (a4 : Memref sig .tc .vmem S1x768x1024 .bf16) (h4 : a4.IsWhole)
    (a5 : Memref sig .tc .vmem S1x768x1024 .bf16) (h5 : a5.IsWhole) (a6 : Memref sig .tc .vmem S1088x1024 .f32) (h6 : a6.IsWhole) (a7 : Memref sig .tc .vmem S1088x1024 .f32) (h7 : a7.IsWhole)
    (a8 : Memref sig .tc .vmem S1088x1024 .f32) (h8 : a8.IsWhole) (hc0 : ¬cond0_0 i) (hc1 : ¬cond0_1 i) (x0 x1 : Vec Ideal S1088x768 .bf16) (x2 x3 : Vec Ideal S1x768x1024 .bf16) (x4 : Vec Ideal S1088x1024 .f32) (xs0 : Vec Ideal S1088x1024 .f32) :
    sout0_B_0 c i a2 h2 a3 h3 a4 h4 a5 h5 a6 h6 a7 h7 a8 h8 hc0 hc1 x0 x1 x2 x3 x4 xs0 = k0_pay2 xs0 x0 x2 x1 x3 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero (S := S1088x1024) hz2]
  simp only [View.readAt_eq_ld, h2.read_unread, h3.read_unread, h4.read_unread, h5.read_unread, h6.read_unread, h8.read_unread, View.ld_unit_zero (S := S1088x768) hz2, View.ld_unit_zero (S := S1088x1024) hz2,
    View.ld_unit_zero (S := S1x768x1024) hz3, View.readCov_unit_zero (S := S1088x1024) _ hz2]

/-- and the result's buffer after the last. -/
theorem out_C (c : Dev nD) (i : grid0.Coords) (a2 : Memref sig .tc .vmem S1088x768 .bf16) (h2 : a2.IsWhole) (a3 : Memref sig .tc .vmem S1088x768 .bf16) (h3 : a3.IsWhole) (a4 : Memref sig .tc .vmem S1x768x1024 .bf16) (h4 : a4.IsWhole)
    (a5 : Memref sig .tc .vmem S1x768x1024 .bf16) (h5 : a5.IsWhole) (a6 : Memref sig .tc .vmem S1088x1024 .f32) (h6 : a6.IsWhole) (a7 : Memref sig .tc .vmem S1088x1024 .f32) (h7 : a7.IsWhole)
    (a8 : Memref sig .tc .vmem S1088x1024 .f32) (h8 : a8.IsWhole) (hc0 : ¬cond0_0 i) (hc1 : cond0_1 i) (x0 x1 : Vec Ideal S1088x768 .bf16) (x2 x3 : Vec Ideal S1x768x1024 .bf16) (x4 : Vec Ideal S1088x1024 .f32) (xs0 : Vec Ideal S1088x1024 .f32) :
    out0_C_5 c i a2 h2 a3 h3 a4 h4 a5 h5 a6 h6 a7 h7 a8 h8 hc0 hc1 x0 x1 x2 x3 x4 xs0 = k0_pay3 (k0_pay2 xs0 x0 x2 x1 x3) x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h8.read_unread, View.ld_unit_zero (S := S1088x768) hz2, View.ld_unit_zero (S := S1088x1024) hz2,
    View.ld_unit_zero (S := S1x768x1024) hz3, View.readCov_unit_zero (S := S1088x1024) _ hz2]

/-- A step at an index: the two products of the blocks added. -/
theorem pay2_apply (v3 : Vec Ideal S1088x1024 .f32) (v4 v8 : Vec Ideal S1088x768 .bf16) (v5 v9 : Vec Ideal S1x768x1024 .bf16) (r : Fin 1088) (d : Fin 1024) :
    k0_pay2 v3 v4 v5 v8 v9 (ix2 r d) = v3 (ix2 r d) + (∑ j : Fin 768, v4 (ix2 r j) * v5 (ix3 0 j d) + ∑ j : Fin 768, v8 (ix2 r j) * v9 (ix3 0 j d)) := by
  have h : ∀ (x : Vec Ideal S1088x768 .bf16) (w : Vec Ideal S1x768x1024 .bf16),
      matmul dot_S1088x768_S768x1024_S1088x1024_1_0_0_1_n_n none x (shapeCast S768x1024 w shapeCasts_S1x768x1024_S768x1024 : FVec Ideal S768x1024 .bf16) (constant S1088x1024 .f32 0x00000000#32) (ix2 r d)
        = ∑ j : Fin 768, x (ix2 r j) * w (ix3 0 j d) := fun x w =>
    (matmul_nn _ rfl rfl rfl rfl rfl rfl x _ r d).trans (Finset.sum_congr rfl fun j _ => congrArg (x (ix2 r j) * ·) (dropUnit w _ j d))
  unfold k0_pay2
  rw [shapeCast_self]
  exact congrArg (v3 (ix2 r d) + ·) (congrArg₂ (· + ·) (h v4 v5) (h v8 v9))

/-- The accumulator's start at an index. -/
theorem pay1_apply (i : S1088x1024.Idx) : (k0_pay1 (F := Ideal)) i = 0 := by
  unfold k0_pay1
  rw [shapeCast_self]
  exact Ideal.ofBits_zero_f32

/-- Where the windows stand at point `t`: row block `t / 4`, slab `t % 4`. -/
theorem in_eq : ∀ t : Fin cfg0.N, (win0_0.index t 0 = t.val / 4 ∧ win0_0.index t 1 = t.val % 4) ∧ (win0_1.index t 0 = t.val / 4 ∧ win0_1.index t 1 = t.val % 4)
    ∧ (win0_2.index t 0 = t.val % 4 ∧ win0_2.index t 1 = 0 ∧ win0_2.index t 2 = 0) ∧ (win0_3.index t 0 = t.val % 4 ∧ win0_3.index t 1 = 0 ∧ win0_3.index t 2 = 0) :=
  (by decide +kernel : ∀ t : Fin grid0.N, (win0_0.index t 0 = t.val / 4 ∧ win0_0.index t 1 = t.val % 4) ∧ (win0_1.index t 0 = t.val / 4 ∧ win0_1.index t 1 = t.val % 4)
    ∧ (win0_2.index t 0 = t.val % 4 ∧ win0_2.index t 1 = 0 ∧ win0_2.index t 2 = 0) ∧ (win0_3.index t 0 = t.val % 4 ∧ win0_3.index t 1 = 0 ∧ win0_3.index t 2 = 0))
theorem row_eq : ∀ t : Fin cfg0.N, (win0_4.index t 0 = t.val / 4 ∧ win0_4.index t 1 = 0) ∧ (win0_5.index t 0 = t.val / 4 ∧ win0_5.index t 1 = 0) :=
  (by decide +kernel : ∀ t : Fin grid0.N, (win0_4.index t 0 = t.val / 4 ∧ win0_4.index t 1 = 0) ∧ (win0_5.index t 0 = t.val / 4 ∧ win0_5.index t 1 = 0))

/-- The point of row block `a` and slab `k`. -/
def pt (a : Fin 2) (k : Fin 4) : Fin cfg0.N := ⟨4 * a.val + k.val, by have h : cfg0.N = 8 := N_0; omega⟩
theorem pt_div (a : Fin 2) (k : Fin 4) : (pt a k).val / 4 = a.val := by show (4 * a.val + k.val) / 4 = _; omega
theorem pt_mod (a : Fin 2) (k : Fin 4) : (pt a k).val % 4 = k.val := by show (4 * a.val + k.val) % 4 = _; omega

theorem iblk0 (c : Dev nD) (a : Fin 2) (k : Fin 4) (r : Fin 1088) (j : Fin 768) :
    (iblk m c 0 (pt a k) : Vec Ideal S1088x768 .bf16) (ix2 r j) = m ((c : Thread nD τ).loc main_arg0) (hid a r k j) := by
  unfold iblk
  rw [View.read_apply]
  show m ((c : Thread nD τ).loc main_arg0) _ = _
  congr 1
  funext b
  refine Fin.ext ?_
  match b with
  | ⟨0, _⟩ => show win0_0.index (pt a k) 0 * 1088 + 1 * r.val = 1088 * a.val + r.val; rw [(in_eq _).1.1, pt_div]; omega
  | ⟨1, _⟩ => show win0_0.index (pt a k) 1 * 768 + 1 * j.val = 768 * k.val + j.val; rw [(in_eq _).1.2, pt_mod]; omega

theorem iblk1 (c : Dev nD) (a : Fin 2) (k : Fin 4) (r : Fin 1088) (j : Fin 768) :
    (iblk m c 1 (pt a k) : Vec Ideal S1088x768 .bf16) (ix2 r j) = m ((c : Thread nD τ).loc main_arg1) (hid a r k j) := by
  unfold iblk
  rw [View.read_apply]
  show m ((c : Thread nD τ).loc main_arg1) _ = _
  congr 1
  funext b
  refine Fin.ext ?_
  match b with
  | ⟨0, _⟩ => show win0_1.index (pt a k) 0 * 1088 + 1 * r.val = 1088 * a.val + r.val; rw [(in_eq _).2.1.1, pt_div]; omega
  | ⟨1, _⟩ => show win0_1.index (pt a k) 1 * 768 + 1 * j.val = 768 * k.val + j.val; rw [(in_eq _).2.1.2, pt_mod]; omega

theorem iblk2 (c : Dev nD) (a : Fin 2) (k : Fin 4) (j : Fin 768) (d : Fin 1024) :
    (iblk m c 2 (pt a k) : Vec Ideal S1x768x1024 .bf16) (ix3 0 j d) = m ((c : Thread nD τ).loc main_arg2) (ix3 k j d) := by
  unfold iblk
  rw [View.read_apply]
  show m ((c : Thread nD τ).loc main_arg2) _ = _
  congr 1
  funext b
  refine Fin.ext ?_
  match b with
  | ⟨0, _⟩ => show win0_2.index (pt a k) 0 * 1 + 1 * 0 = k.val; rw [(in_eq _).2.2.1.1, pt_mod]; omega
  | ⟨1, _⟩ => show win0_2.index (pt a k) 1 * 768 + 1 * j.val = j.val; rw [(in_eq _).2.2.1.2.1]; omega
  | ⟨2, _⟩ => show win0_2.index (pt a k) 2 * 1024 + 1 * d.val = d.val; rw [(in_eq _).2.2.1.2.2]; omega

theorem iblk3 (c : Dev nD) (a : Fin 2) (k : Fin 4) (j : Fin 768) (d : Fin 1024) :
    (iblk m c 3 (pt a k) : Vec Ideal S1x768x1024 .bf16) (ix3 0 j d) = m ((c : Thread nD τ).loc main_arg3) (ix3 k j d) := by
  unfold iblk
  rw [View.read_apply]
  show m ((c : Thread nD τ).loc main_arg3) _ = _
  congr 1
  funext b
  refine Fin.ext ?_
  match b with
  | ⟨0, _⟩ => show win0_3.index (pt a k) 0 * 1 + 1 * 0 = k.val; rw [(in_eq _).2.2.2.1, pt_mod]; omega
  | ⟨1, _⟩ => show win0_3.index (pt a k) 1 * 768 + 1 * j.val = j.val; rw [(in_eq _).2.2.2.2.1]; omega
  | ⟨2, _⟩ => show win0_3.index (pt a k) 2 * 1024 + 1 * d.val = d.val; rw [(in_eq _).2.2.2.2.2]; omega

theorem iblk4 (c : Dev nD) (a : Fin 2) (k : Fin 4) (r : Fin 1088) (d : Fin 1024) :
    (iblk m c 4 (pt a k) : Vec Ideal S1088x1024 .f32) (ix2 r d) = m ((c : Thread nD τ).loc main_arg4) (wide a r d) := by
  unfold iblk
  rw [View.read_apply]
  show m ((c : Thread nD τ).loc main_arg4) _ = _
  congr 1
  funext b
  refine Fin.ext ?_
  match b with
  | ⟨0, _⟩ => show win0_4.index (pt a k) 0 * 1088 + 1 * r.val = 1088 * a.val + r.val; rw [(row_eq _).1.1, pt_div]; omega
  | ⟨1, _⟩ => show win0_4.index (pt a k) 1 * 1024 + 1 * d.val = d.val; rw [(row_eq _).1.2]; omega

/-- What the step at row block `a` and slab `k` adds. -/
def term (c : Dev nD) (a : Fin 2) (r : Fin 1088) (d : Fin 1024) (k : Fin 4) : EReal :=
  slabSum (m ((c : Thread nD τ).loc main_arg0)) (m ((c : Thread nD τ).loc main_arg2)) ⟨1088 * a.val + r.val, by omega⟩ d k
    + slabSum (m ((c : Thread nD τ).loc main_arg1)) (m ((c : Thread nD τ).loc main_arg3)) ⟨1088 * a.val + r.val, by omega⟩ d k

theorem step_apply (c : Dev nD) (a : Fin 2) (k : Fin 4) (v : Vec Ideal S1088x1024 .f32) (r : Fin 1088) (d : Fin 1024) :
    k0_pay2 v (iblk m c 0 (pt a k)) (iblk m c 2 (pt a k)) (iblk m c 1 (pt a k)) (iblk m c 3 (pt a k)) (ix2 r d) = v (ix2 r d) + term m c a r d k := by
  rw [pay2_apply]
  unfold term slabSum
  refine congrArg (v (ix2 r d) + ·) (congrArg₂ (· + ·) (Finset.sum_congr rfl fun j _ => ?_) (Finset.sum_congr rfl fun j _ => ?_))
  · rw [iblk0 m c a k r j, iblk2 m c a k j d]
  · rw [iblk1 m c a k r j, iblk3 m c a k j d]

/-- The accumulator after the first three steps. -/
theorem acc0 (c : Dev nD) (a : Fin 2) (r : Fin 1088) (d : Fin 1024) : (outsAt0 m c (pt a 0).val (pt a 0).isLt).2 (ix2 r d) = term m c a r d 0 := by
  rw [outsAt0_A m c (pt a 0) (by rw [pt_mod]; rfl) (by rw [pt_mod]; decide), sout_A]
  exact (step_apply m c a 0 _ r d).trans (by rw [pay1_apply, zero_add])
theorem acc1 (c : Dev nD) (a : Fin 2) (r : Fin 1088) (d : Fin 1024) : (outsAt0 m c (pt a 1).val (pt a 1).isLt).2 (ix2 r d) = term m c a r d 0 + term m c a r d 1 := by
  rw [outsAt0_B m c (pt a 1) (by rw [pt_mod]; decide) (by rw [pt_mod]; decide), sout_B]
  exact (step_apply m c a 1 _ r d).trans (congrArg (· + _) (acc0 m c a r d))
theorem acc2 (c : Dev nD) (a : Fin 2) (r : Fin 1088) (d : Fin 1024) :
    (outsAt0 m c (pt a 2).val (pt a 2).isLt).2 (ix2 r d) = term m c a r d 0 + term m c a r d 1 + term m c a r d 2 := by
  rw [outsAt0_B m c (pt a 2) (by rw [pt_mod]; decide) (by rw [pt_mod]; decide), sout_B]
  exact (step_apply m c a 2 _ r d).trans (congrArg (· + _) (acc1 m c a r d))

/-- The result's block after the last. -/
theorem res3 (c : Dev nD) (a : Fin 2) (r : Fin 1088) (d : Fin 1024) : (outsAt0 m c (pt a 3).val (pt a 3).isLt).1 (ix2 r d)
    = term m c a r d 0 + term m c a r d 1 + term m c a r d 2 + term m c a r d 3 + m ((c : Thread nD τ).loc main_arg4) (wide a r d) := by
  rw [outsAt0_C m c (pt a 3) (by rw [pt_mod]; decide) (by rw [pt_mod]; rfl), out_C]
  refine (congrArg₂ (· + ·) (step_apply m c a 3 _ r d) (iblk4 m c a 3 r d) : k0_pay3 _ _ (ix2 r d) = _).trans ?_
  exact congrArg (· + _ + _) (acc2 m c a r d)

theorem flush_inj : ∀ t t' : Fin cfg0.N, (cfg0.win 5).flush t = true → (cfg0.win 5).flush t' = true → win0_5.index t = win0_5.index t' → t = t' :=
  (by decide +kernel : ∀ t t' : Fin grid0.N, win0_5.flush t = true → win0_5.flush t' = true → win0_5.index t = win0_5.index t' → t = t')
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => (cfg0.win 5).disjoint_blk fun e => hne (flush_inj t t' h h' e)

theorem emb5 (a : Fin 2) (k : Fin 4) (r : Fin 1088) (d : Fin 1024) : ((cfg0.win 5).blk (pt a k)).view.emb (ix2 r d) = (wide a r d : S2176x1024.Idx) := by
  funext b
  refine Fin.ext ?_
  match b with
  | ⟨0, _⟩ => show win0_5.index (pt a k) 0 * 1088 + 1 * r.val = 1088 * a.val + r.val; rw [(row_eq _).2.1, pt_div]; omega
  | ⟨1, _⟩ => show win0_5.index (pt a k) 1 * 1024 + 1 * d.val = d.val; rw [(row_eq _).2.2]; omega

/-- The gradient after the run. -/
theorem final (c : Dev nD) (a : Fin 2) (r : Fin 1088) (d : Fin 1024) : (dats m 0 c).arrAt 5 cfg0.N (wide a r d : S2176x1024.Idx)
    = term m c a r d 0 + term m c a r d 1 + term m c a r d 2 + term m c a r d 3 + m ((c : Thread nD τ).loc main_arg4) (wide a r d) := by
  have h := (dats m 0 c).arrAt_emb_eq_flushed 5 disjoint5 (pt a 3) ((flush0_5 _).mpr (by rw [pt_mod]; rfl)) (ix2 r d)
  refine (congrArg ((dats m 0 c).arrAt 5 cfg0.N) (emb5 a 3 r d)).symm.trans (h.trans ?_)
  refine (cast_eq _ _).trans ((congrFun (flushed5 m c _) _).trans ?_)
  show (outsAt0 m c (pt a 3).val (pt a 3).isLt).1 (ix2 r d) = _
  exact res3 m c a r d

end Cert.GateXIdeal.Ffn

namespace Cert.GateXRefIdeal.Ffn

open Cert.GateXRefIdeal Cert.GateXRefIdeal.Gen Cert.GateXRefIdeal.Read Cert.Dots

/-- A gradient's product with a weight, slab by slab. -/
theorem gate_apply (x0 : (⟨S2176x3072, .bf16⟩ : BufTy).Contents (Elt Ideal)) (x2 : (⟨S4x768x1024, .bf16⟩ : BufTy).Contents (Elt Ideal)) (a : Fin 2) (r : Fin 1088) (d : Fin 1024) :
    val_main_v13 (F := Ideal) x0 x2 (wide a r d) = ∑ k : Fin 4, slabSum x0 x2 ⟨1088 * a.val + r.val, by omega⟩ d k := by
  rw [val_main_v13_apply, sum_slabs]
  refine Finset.sum_congr rfl fun k _ => Finset.sum_congr rfl fun j _ => ?_
  rw [val_main_v3_apply, val_main_v2_apply, val_main_v1_apply]
  refine congrArg₂ (· * ·) (congrArg x0 ?_) (congrArg x2 ?_) <;> funext b <;> refine Fin.ext ?_
  · match b with
    | ⟨0, _⟩ => rfl
    | ⟨1, _⟩ => rfl
  · match b with
    | ⟨0, _⟩ => show ((768 * k.val + j.val) * 1024 + d.val) / 786432 = k.val; omega
    | ⟨1, _⟩ => show ((768 * k.val + j.val) * 1024 + d.val) / 1024 % 768 = j.val; omega
    | ⟨2, _⟩ => show ((768 * k.val + j.val) * 1024 + d.val) % 1024 = d.val; omega
theorem up_apply (x1 : (⟨S2176x3072, .bf16⟩ : BufTy).Contents (Elt Ideal)) (x3 : (⟨S4x768x1024, .bf16⟩ : BufTy).Contents (Elt Ideal)) (a : Fin 2) (r : Fin 1088) (d : Fin 1024) :
    val_main_v11 (F := Ideal) x1 x3 (wide a r d) = ∑ k : Fin 4, slabSum x1 x3 ⟨1088 * a.val + r.val, by omega⟩ d k := gate_apply x1 x3 a r d

/-- The reference's gradient at an index. -/
theorem res_apply (x0 x1 : (⟨S2176x3072, .bf16⟩ : BufTy).Contents (Elt Ideal)) (x2 x3 : (⟨S4x768x1024, .bf16⟩ : BufTy).Contents (Elt Ideal)) (x4 : (⟨S2176x1024, .f32⟩ : BufTy).Contents (Elt Ideal))
    (a : Fin 2) (r : Fin 1088) (d : Fin 1024) : val_main_v14 (F := Ideal) x0 x1 x2 x3 x4 (wide a r d)
      = x4 (wide a r d) + ∑ k : Fin 4, slabSum x1 x3 ⟨1088 * a.val + r.val, by omega⟩ d k + ∑ k : Fin 4, slabSum x0 x2 ⟨1088 * a.val + r.val, by omega⟩ d k := by
  rw [val_main_v14_apply, val_main_v12_apply, gate_apply, up_apply]
  rfl

end Cert.GateXRefIdeal.Ffn

namespace Cert.Ffn

open Cert.Dots

/-- The kernel's input gradient is the reference's. -/
theorem gateX : @Cert.algebraic_GateXIdeal_GateXRefIdeal Cert.GateXIdeal.Gen.facts Cert.GateXRefIdeal.Gen.facts := fun m g m' g' _ hin =>
  ⟨fun c => (Cert.GateXIdeal.Gen.dats m 0 c).arrAt 5 Cert.GateXIdeal.cfg0.N,
    Cert.GateXIdeal.Value.run_blocks m g,
    (θ_run _ _ _).mono (fun r h c => ⟨(h c).1.trans (by
        rw [Cert.GateXRefIdeal.Read.val_main_v14_eq, (hin c).1, (hin c).2.1, (hin c).2.2.1, (hin c).2.2.2.1, (hin c).2.2.2.2]
        funext i
        obtain ⟨a, r, d, rfl⟩ := wide_split i
        refine (Cert.GateXRefIdeal.Ffn.res_apply _ _ _ _ _ a r d).trans (Eq.trans ?_ (Cert.GateXIdeal.Ffn.final m c a r d).symm)
        unfold Cert.GateXIdeal.Ffn.term
        rw [Fin.sum_univ_four, Fin.sum_univ_four]
        abel), (h c).2⟩)
      (Cert.GateXRefIdeal.Value.run (F := Ideal) m' g')⟩

end Cert.Ffn

end
-- ==== Proof.Ffn.Up.lean ====
/- The feed-forward's gate and up products with the gated unit: the kernel's blocks are the reference's arrays. -/
module

public import proofs.«01_k».proof.Defs
public import proofs.«01_k».proof.Proof.Ffn.Dots
public import proofs.«01_k».proof.Proof.Gen.UpIdeal.Value
public import proofs.«01_k».proof.Proof.Gen.UpRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.UpIdeal.Ffn

open Cert.UpIdeal Cert.UpIdeal.Gen Cert.UpIdeal.Value Cert.Dots

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Where the input windows stand at point `t`: row block `t / 4`, slab `t % 4`. -/
theorem in_eq : ∀ t : Fin cfg0.N, (win0_0.index t 0 = t.val / 4 ∧ win0_0.index t 1 = 0)
    ∧ (win0_1.index t 0 = t.val % 4 ∧ win0_1.index t 1 = 0 ∧ win0_1.index t 2 = 0) ∧ (win0_2.index t 0 = t.val % 4 ∧ win0_2.index t 1 = 0 ∧ win0_2.index t 2 = 0) :=
  (by decide +kernel : ∀ t : Fin grid0.N, (win0_0.index t 0 = t.val / 4 ∧ win0_0.index t 1 = 0)
    ∧ (win0_1.index t 0 = t.val % 4 ∧ win0_1.index t 1 = 0 ∧ win0_1.index t 2 = 0) ∧ (win0_2.index t 0 = t.val % 4 ∧ win0_2.index t 1 = 0 ∧ win0_2.index t 2 = 0))

/-- The result windows likewise. -/
theorem out_eq : ∀ t : Fin cfg0.N, (win0_3.index t 0 = t.val / 4 ∧ win0_3.index t 1 = t.val % 4) ∧ (win0_4.index t 0 = t.val / 4 ∧ win0_4.index t 1 = t.val % 4)
    ∧ (win0_5.index t 0 = t.val / 4 ∧ win0_5.index t 1 = t.val % 4) :=
  (by decide +kernel : ∀ t : Fin grid0.N, (win0_3.index t 0 = t.val / 4 ∧ win0_3.index t 1 = t.val % 4) ∧ (win0_4.index t 0 = t.val / 4 ∧ win0_4.index t 1 = t.val % 4)
    ∧ (win0_5.index t 0 = t.val / 4 ∧ win0_5.index t 1 = t.val % 4))

/-- The point of row block `a` and slab `k`. -/
def pt (a : Fin 2) (k : Fin 4) : Fin cfg0.N := ⟨4 * a.val + k.val, by have h : cfg0.N = 8 := N_0; omega⟩
theorem pt_div (a : Fin 2) (k : Fin 4) : (pt a k).val / 4 = a.val := by show (4 * a.val + k.val) / 4 = _; omega
theorem pt_mod (a : Fin 2) (k : Fin 4) : (pt a k).val % 4 = k.val := by show (4 * a.val + k.val) % 4 = _; omega

theorem iblk0 (c : Dev nD) (a : Fin 2) (k : Fin 4) (r : Fin 1088) (d : Fin 1024) :
    (iblk m c 0 (pt a k) : Vec Ideal S1088x1024 .bf16) (ix2 r d) = m ((c : Thread nD τ).loc main_arg0) (ix2 ⟨1088 * a.val + r.val, by omega⟩ d) := by
  unfold iblk
  rw [View.read_apply]
  show m ((c : Thread nD τ).loc main_arg0) _ = _
  congr 1
  funext b
  refine Fin.ext ?_
  match b with
  | ⟨0, _⟩ => show win0_0.index (pt a k) 0 * 1088 + 1 * r.val = 1088 * a.val + r.val; rw [(in_eq _).1.1, pt_div]; omega
  | ⟨1, _⟩ => show win0_0.index (pt a k) 1 * 1024 + 1 * d.val = d.val; rw [(in_eq _).1.2]; omega

theorem iblk1 (c : Dev nD) (a : Fin 2) (k : Fin 4) (j : Fin 768) (d : Fin 1024) :
    (iblk m c 1 (pt a k) : Vec Ideal S1x768x1024 .bf16) (ix3 0 j d) = m ((c : Thread nD τ).loc main_arg1) (ix3 k j d) := by
  unfold iblk
  rw [View.read_apply]
  show m ((c : Thread nD τ).loc main_arg1) _ = _
  congr 1
  funext b
  refine Fin.ext ?_
  match b with
  | ⟨0, _⟩ => show win0_1.index (pt a k) 0 * 1 + 1 * 0 = k.val; rw [(in_eq _).2.1.1, pt_mod]; omega
  | ⟨1, _⟩ => show win0_1.index (pt a k) 1 * 768 + 1 * j.val = j.val; rw [(in_eq _).2.1.2.1]; omega
  | ⟨2, _⟩ => show win0_1.index (pt a k) 2 * 1024 + 1 * d.val = d.val; rw [(in_eq _).2.1.2.2]; omega

theorem iblk2 (c : Dev nD) (a : Fin 2) (k : Fin 4) (j : Fin 768) (d : Fin 1024) :
    (iblk m c 2 (pt a k) : Vec Ideal S1x768x1024 .bf16) (ix3 0 j d) = m ((c : Thread nD τ).loc main_arg2) (ix3 k j d) := by
  unfold iblk
  rw [View.read_apply]
  show m ((c : Thread nD τ).loc main_arg2) _ = _
  congr 1
  funext b
  refine Fin.ext ?_
  match b with
  | ⟨0, _⟩ => show win0_2.index (pt a k) 0 * 1 + 1 * 0 = k.val; rw [(in_eq _).2.2.1, pt_mod]; omega
  | ⟨1, _⟩ => show win0_2.index (pt a k) 1 * 768 + 1 * j.val = j.val; rw [(in_eq _).2.2.2.1]; omega
  | ⟨2, _⟩ => show win0_2.index (pt a k) 2 * 1024 + 1 * d.val = d.val; rw [(in_eq _).2.2.2.2]; omega

/-- A product of blocks at an index. -/
theorem pay1_apply (v0 : Vec Ideal S1088x1024 .bf16) (v1 : Vec Ideal S1x768x1024 .bf16) (r : Fin 1088) (j : Fin 768) :
    k0_pay1 v0 v1 (ix2 r j) = ∑ d : Fin 1024, v0 (ix2 r d) * v1 (ix3 0 j d) := by
  unfold k0_pay1
  exact (matmul_nt _ rfl rfl rfl rfl rfl rfl v0 _ r j).trans (Finset.sum_congr rfl fun d _ => congrArg (v0 (ix2 r d) * ·) (dropUnit v1 _ j d))

/-- The gated unit of two such products. -/
theorem pay3_apply (v0 : Vec Ideal S1088x1024 .bf16) (v1 v4 : Vec Ideal S1x768x1024 .bf16) (i : S1088x768.Idx) :
    k0_pay3 v0 v1 v4 i = k0_pay1 v0 v1 i * sgm (k0_pay1 v0 v1 i) * k0_pay1 v0 v4 i := by
  have h : ∀ x : EReal, Ideal.ofBits .f32 0x00000000#32 - x = -x := fun x => by rw [Ideal.ofBits_zero_f32, zero_sub]
  unfold sgm
  rw [← h]
  rfl

/-- The products of the blocks at a point are the arrays' products. -/
theorem gate_sum (c : Dev nD) (a : Fin 2) (k : Fin 4) (r : Fin 1088) (j : Fin 768) : k0_pay1 (iblk m c 0 (pt a k)) (iblk m c 1 (pt a k)) (ix2 r j)
    = ffSum (m ((c : Thread nD τ).loc main_arg0)) (m ((c : Thread nD τ).loc main_arg1)) ⟨1088 * a.val + r.val, by omega⟩ k j := by
  rw [pay1_apply]
  unfold ffSum
  refine Finset.sum_congr rfl fun d _ => ?_
  rw [iblk0 m c a k r d, iblk1 m c a k j d]
theorem up_sum (c : Dev nD) (a : Fin 2) (k : Fin 4) (r : Fin 1088) (j : Fin 768) : k0_pay1 (iblk m c 0 (pt a k)) (iblk m c 2 (pt a k)) (ix2 r j)
    = ffSum (m ((c : Thread nD τ).loc main_arg0)) (m ((c : Thread nD τ).loc main_arg2)) ⟨1088 * a.val + r.val, by omega⟩ k j := by
  rw [pay1_apply]
  unfold ffSum
  refine Finset.sum_congr rfl fun d _ => ?_
  rw [iblk0 m c a k r d, iblk2 m c a k j d]

/-- An element of a result's block at a point, as an element of the array. -/
theorem emb3 (a : Fin 2) (k : Fin 4) (r : Fin 1088) (j : Fin 768) : ((cfg0.win 3).blk (pt a k)).view.emb (ix2 r j) = (hid a r k j : S2176x3072.Idx) := by
  funext b
  refine Fin.ext ?_
  match b with
  | ⟨0, _⟩ => show win0_3.index (pt a k) 0 * 1088 + 1 * r.val = 1088 * a.val + r.val; rw [(out_eq _).1.1, pt_div]; omega
  | ⟨1, _⟩ => show win0_3.index (pt a k) 1 * 768 + 1 * j.val = 768 * k.val + j.val; rw [(out_eq _).1.2, pt_mod]; omega
theorem emb4 (a : Fin 2) (k : Fin 4) (r : Fin 1088) (j : Fin 768) : ((cfg0.win 4).blk (pt a k)).view.emb (ix2 r j) = (hid a r k j : S2176x3072.Idx) := by
  funext b
  refine Fin.ext ?_
  match b with
  | ⟨0, _⟩ => show win0_4.index (pt a k) 0 * 1088 + 1 * r.val = 1088 * a.val + r.val; rw [(out_eq _).2.1.1, pt_div]; omega
  | ⟨1, _⟩ => show win0_4.index (pt a k) 1 * 768 + 1 * j.val = 768 * k.val + j.val; rw [(out_eq _).2.1.2, pt_mod]; omega
theorem emb5 (a : Fin 2) (k : Fin 4) (r : Fin 1088) (j : Fin 768) : ((cfg0.win 5).blk (pt a k)).view.emb (ix2 r j) = (hid a r k j : S2176x3072.Idx) := by
  funext b
  refine Fin.ext ?_
  match b with
  | ⟨0, _⟩ => show win0_5.index (pt a k) 0 * 1088 + 1 * r.val = 1088 * a.val + r.val; rw [(out_eq _).2.2.1, pt_div]; omega
  | ⟨1, _⟩ => show win0_5.index (pt a k) 1 * 768 + 1 * j.val = 768 * k.val + j.val; rw [(out_eq _).2.2.2, pt_mod]; omega

/-- The gate's product after the run, -/
theorem final3 (c : Dev nD) (a : Fin 2) (r : Fin 1088) (k : Fin 4) (j : Fin 768) : (dats m 0 c).arrAt 3 cfg0.N (hid a r k j : S2176x3072.Idx)
    = ffSum (m ((c : Thread nD τ).loc main_arg0)) (m ((c : Thread nD τ).loc main_arg1)) ⟨1088 * a.val + r.val, by omega⟩ k j := by
  have h := (dats m 0 c).arrAt_emb_eq_flushed 3 disjoint3 (pt a k) (flush0_3 _) (ix2 r j)
  refine (congrArg ((dats m 0 c).arrAt 3 cfg0.N) (emb3 a k r j)).symm.trans (h.trans ?_)
  refine (cast_eq _ _).trans ((congrFun (flushed3 m c _) _).trans ?_)
  show out0_3 (iblk m c 0 (pt a k)) (iblk m c 1 (pt a k)) (iblk m c 2 (pt a k)) (ix2 r j) = _
  unfold out0_3
  rw [View.canon_unit_zero hz2, View.ld_unit_zero hz2, View.ld_unit_zero hz3, gate_sum]

/-- the up product -/
theorem final4 (c : Dev nD) (a : Fin 2) (r : Fin 1088) (k : Fin 4) (j : Fin 768) : (dats m 0 c).arrAt 4 cfg0.N (hid a r k j : S2176x3072.Idx)
    = ffSum (m ((c : Thread nD τ).loc main_arg0)) (m ((c : Thread nD τ).loc main_arg2)) ⟨1088 * a.val + r.val, by omega⟩ k j := by
  have h := (dats m 0 c).arrAt_emb_eq_flushed 4 disjoint4 (pt a k) (flush0_4 _) (ix2 r j)
  refine (congrArg ((dats m 0 c).arrAt 4 cfg0.N) (emb4 a k r j)).symm.trans (h.trans ?_)
  refine (cast_eq _ _).trans ((congrFun (flushed4 m c _) _).trans ?_)
  show out0_4 (iblk m c 0 (pt a k)) (iblk m c 1 (pt a k)) (iblk m c 2 (pt a k)) (ix2 r j) = _
  unfold out0_4
  rw [View.canon_unit_zero hz2, View.ld_unit_zero hz2, View.ld_unit_zero hz3, show k0_pay2 (F := Ideal) = k0_pay1 from rfl, up_sum]

/-- and the gated unit of the two. -/
theorem final5 (c : Dev nD) (a : Fin 2) (r : Fin 1088) (k : Fin 4) (j : Fin 768) : (dats m 0 c).arrAt 5 cfg0.N (hid a r k j : S2176x3072.Idx)
    = (fun g u : EReal => g * sgm g * u) (ffSum (m ((c : Thread nD τ).loc main_arg0)) (m ((c : Thread nD τ).loc main_arg1)) ⟨1088 * a.val + r.val, by omega⟩ k j)
      (ffSum (m ((c : Thread nD τ).loc main_arg0)) (m ((c : Thread nD τ).loc main_arg2)) ⟨1088 * a.val + r.val, by omega⟩ k j) := by
  have h := (dats m 0 c).arrAt_emb_eq_flushed 5 disjoint5 (pt a k) (flush0_5 _) (ix2 r j)
  refine (congrArg ((dats m 0 c).arrAt 5 cfg0.N) (emb5 a k r j)).symm.trans (h.trans ?_)
  refine (cast_eq _ _).trans ((congrFun (flushed5 m c _) _).trans ?_)
  show out0_5 (iblk m c 0 (pt a k)) (iblk m c 1 (pt a k)) (iblk m c 2 (pt a k)) (ix2 r j) = _
  unfold out0_5
  rw [View.canon_unit_zero hz2, View.ld_unit_zero hz2, View.ld_unit_zero hz3, View.ld_unit_zero hz3, pay3_apply, gate_sum, up_sum]

end Cert.UpIdeal.Ffn

namespace Cert.UpRefIdeal.Ffn

open Cert.UpRefIdeal Cert.UpRefIdeal.Gen Cert.UpRefIdeal.Read Cert.Dots

/-- The reference's products at an index, -/
theorem gate_apply (x0 : (⟨S2176x1024, .bf16⟩ : BufTy).Contents (Elt Ideal)) (x1 : (⟨S4x768x1024, .bf16⟩ : BufTy).Contents (Elt Ideal)) (a : Fin 2) (r : Fin 1088) (k : Fin 4)
    (j : Fin 768) : val_main_v4 (F := Ideal) x0 x1 (hid a r k j) = ffSum x0 x1 ⟨1088 * a.val + r.val, by omega⟩ k j := by
  rw [val_main_v4_apply]
  refine Finset.sum_congr rfl fun d _ => ?_
  rw [val_main_v3_apply, val_main_v2_apply, val_main_v1_apply]
  refine congrArg₂ (· * ·) (congrArg x0 ?_) (congrArg x1 ?_) <;> funext b <;> refine Fin.ext ?_
  · match b with
    | ⟨0, _⟩ => rfl
    | ⟨1, _⟩ => rfl
  · match b with
    | ⟨0, _⟩ => show ((768 * k.val + j.val) * 1024 + d.val) / 786432 = k.val; omega
    | ⟨1, _⟩ => show ((768 * k.val + j.val) * 1024 + d.val) / 1024 % 768 = j.val; omega
    | ⟨2, _⟩ => show ((768 * k.val + j.val) * 1024 + d.val) % 1024 = d.val; omega

/-- the two being one function of their arguments, -/
theorem up_apply (x0 : (⟨S2176x1024, .bf16⟩ : BufTy).Contents (Elt Ideal)) (x2 : (⟨S4x768x1024, .bf16⟩ : BufTy).Contents (Elt Ideal)) (a : Fin 2) (r : Fin 1088) (k : Fin 4)
    (j : Fin 768) : val_main_v8 (F := Ideal) x0 x2 (hid a r k j) = ffSum x0 x2 ⟨1088 * a.val + r.val, by omega⟩ k j := gate_apply x0 x2 a r k j

/-- and its gated unit. -/
theorem act_apply (x0 : (⟨S2176x1024, .bf16⟩ : BufTy).Contents (Elt Ideal)) (x1 x2 : (⟨S4x768x1024, .bf16⟩ : BufTy).Contents (Elt Ideal)) (a : Fin 2) (r : Fin 1088) (k : Fin 4)
    (j : Fin 768) : val_main_v11 (F := Ideal) x0 x1 x2 (hid a r k j)
      = (fun g u : EReal => g * sgm g * u) (ffSum x0 x1 ⟨1088 * a.val + r.val, by omega⟩ k j) (ffSum x0 x2 ⟨1088 * a.val + r.val, by omega⟩ k j) := by
  rw [← gate_apply, ← up_apply]
  rw [val_main_v11_apply, val_main_v10_apply, val_main_v9_apply, val_main_call0_v5_apply, val_main_call0_v4_apply, val_main_call0_cst_0_apply, val_main_call0_v3_apply,
    val_main_call0_v2_apply, val_main_call0_cst_apply, val_main_call0_v1_apply, val_main_call0_v0_apply]
  rfl

end Cert.UpRefIdeal.Ffn

namespace Cert.Ffn

open Cert.Dots

/-- The kernel's two products and their gated unit are the reference's. -/
theorem up : @Cert.algebraic_UpIdeal_UpRefIdeal Cert.UpIdeal.Gen.facts Cert.UpRefIdeal.Gen.facts := fun m g m' g' _ hin =>
  ⟨fun c => (Cert.UpIdeal.Gen.dats m 0 c).arrAt 3 Cert.UpIdeal.cfg0.N, fun c => (Cert.UpIdeal.Gen.dats m 0 c).arrAt 4 Cert.UpIdeal.cfg0.N,
    fun c => (Cert.UpIdeal.Gen.dats m 0 c).arrAt 5 Cert.UpIdeal.cfg0.N,
    Cert.UpIdeal.Value.run_blocks m g,
    (θ_run _ _ _).mono (fun r h c => ⟨(h c).1.trans (by
        rw [Cert.UpRefIdeal.Read.val_main_v4_eq, (hin c).1, (hin c).2.1]
        funext i
        obtain ⟨a, r, k, j, rfl⟩ := hid_split i
        exact (Cert.UpRefIdeal.Ffn.gate_apply _ _ _ _ _ _).trans (Cert.UpIdeal.Ffn.final3 m c _ _ _ _).symm),
      (h c).2.1.trans (by
        rw [Cert.UpRefIdeal.Read.val_main_v8_eq, (hin c).1, (hin c).2.2]
        funext i
        obtain ⟨a, r, k, j, rfl⟩ := hid_split i
        exact (Cert.UpRefIdeal.Ffn.up_apply _ _ _ _ _ _).trans (Cert.UpIdeal.Ffn.final4 m c _ _ _ _).symm),
      (h c).2.2.1.trans (by
        rw [Cert.UpRefIdeal.Read.val_main_v11_eq, (hin c).1, (hin c).2.1, (hin c).2.2]
        funext i
        obtain ⟨a, r, k, j, rfl⟩ := hid_split i
        exact (Cert.UpRefIdeal.Ffn.act_apply _ _ _ _ _ _ _).trans (Cert.UpIdeal.Ffn.final5 m c _ _ _ _).symm), (h c).2.2.2⟩)
      (Cert.UpRefIdeal.Value.run (F := Ideal) m' g')⟩

end Cert.Ffn

end
-- ==== Proof.Ffn.DownLn.lean ====
/- The feed-forward's product back to model width with the residual normalisation: the kernel's four accumulating steps and its last step's mean and variance are the reference's. -/
module

public import proofs.«01_k».proof.Defs
public import proofs.«01_k».proof.Proof.Ffn.Dots
public import proofs.«01_k».proof.Proof.Gen.DownLnIdeal.Value
public import proofs.«01_k».proof.Proof.Gen.DownLnRefIdeal.Read
public import Idealize.ShloMosaic.Lib.VecWindow
public import Idealize.ShloMosaic.Lib.IdealHost

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Dots

/-- A row's mean, -/
def rowMean (z : Fin 1024 → EReal) : EReal := Ideal.div (∑ e, z e) (Ideal.ofBits .f32 0x44800000#32)

/-- the residual normalisation of a row at column `d`, -/
def lnRow (z : Fin 1024 → EReal) (g b : EReal) (d : Fin 1024) : EReal :=
  (z d - rowMean z) * Ideal.rsqrt (Ideal.div (∑ e, (z e - rowMean z) * (z e - rowMean z)) (Ideal.ofBits .f32 0x44800000#32) + Ideal.ofBits .f32 0x3727C5AC#32) * g + b

/-- and the row it is taken of: the residual and the product, each scaled. -/
def resid (h o : EReal) : EReal := Ideal.ofBits .f32 0x3FB504F3#32 * h + Ideal.ofBits .f32 0x3F000000#32 * o

end Cert.Dots

namespace Cert.DownLnIdeal.Ffn

open Cert.DownLnIdeal Cert.DownLnIdeal.Gen Cert.DownLnIdeal.Value Cert.Dots

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the first step of a row block, -/
theorem sout_A (c : Dev nD) (i : grid0.Coords) (a2 : Memref sig .tc .vmem S1088x768 .bf16) (h2 : a2.IsWhole) (a3 : Memref sig .tc .vmem S1x768x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : cond0_0 i) (hc1 : ¬cond0_1 i) (x0 : Vec Ideal S1088x768 .bf16) (x1 : Vec Ideal S1x768x1024 .bf16) (x2 : Vec Ideal S1088x1024 .f32) (x3 x4 : Vec Ideal S1x1024 .f32) :
    sout0_A_0 c i a2 h2 a3 h3 a4 h4 a5 h5 a6 h6 a7 h7 a8 h8 a9 h9 a10 h10 hc0 hc1 x0 x1 x2 x3 x4 = k0_pay2 k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1088x1024) hz2]
  simp only [View.readAt_eq_ld, h2.read_unread, h3.read_unread, h4.read_unread, h5.read_unread, h6.read_unread, h10.read_unread, View.ld_unit_zero (S := S1088x768) hz2, View.ld_unit_zero (S := S1088x1024) hz2,
    View.ld_unit_zero (S := S1x1024) hz2, View.ld_unit_zero (S := S1x768x1024) hz3, View.readCov_unit_zero (S := S1088x1024) _ hz2]

/-- after a middle step, -/
theorem sout_B (c : Dev nD) (i : grid0.Coords) (a2 : Memref sig .tc .vmem S1088x768 .bf16) (h2 : a2.IsWhole) (a3 : Memref sig .tc .vmem S1x768x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : ¬cond0_1 i) (x0 : Vec Ideal S1088x768 .bf16) (x1 : Vec Ideal S1x768x1024 .bf16) (x2 : Vec Ideal S1088x1024 .f32) (x3 x4 : Vec Ideal S1x1024 .f32) (xs0 : Vec Ideal S1088x1024 .f32) :
    sout0_B_0 c i a2 h2 a3 h3 a4 h4 a5 h5 a6 h6 a7 h7 a8 h8 a9 h9 a10 h10 hc0 hc1 x0 x1 x2 x3 x4 xs0 = k0_pay2 xs0 x0 x1 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0)]
  unfold kernelRun0_B
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x768) hz2, View.ld_unit_zero (S := S1088x1024) hz2,
    View.ld_unit_zero (S := S1x1024) hz2, View.ld_unit_zero (S := S1x768x1024) hz3, View.readCov_unit_zero (S := S1088x1024) _ hz2]

/-- and the results' buffers after the last: the product, -/
theorem out_C5 (c : Dev nD) (i : grid0.Coords) (a2 : Memref sig .tc .vmem S1088x768 .bf16) (h2 : a2.IsWhole) (a3 : Memref sig .tc .vmem S1x768x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : cond0_1 i) (x0 : Vec Ideal S1088x768 .bf16) (x1 : Vec Ideal S1x768x1024 .bf16) (x2 : Vec Ideal S1088x1024 .f32) (x3 x4 : Vec Ideal S1x1024 .f32) (xs0 : Vec Ideal S1088x1024 .f32) :
    out0_C_5 c i a2 h2 a3 h3 a4 h4 a5 h5 a6 h6 a7 h7 a8 h8 a9 h9 a10 h10 hc0 hc1 x0 x1 x2 x3 x4 xs0 = k0_pay2 xs0 x0 x1 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x768) hz2, View.ld_unit_zero (S := S1088x1024) hz2,
    View.ld_unit_zero (S := S1x1024) hz2, View.ld_unit_zero (S := S1x768x1024) hz3, View.readCov_unit_zero (S := S1088x1024) _ hz2]

/-- the normalised row -/
theorem out_C6 (c : Dev nD) (i : grid0.Coords) (a2 : Memref sig .tc .vmem S1088x768 .bf16) (h2 : a2.IsWhole) (a3 : Memref sig .tc .vmem S1x768x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : cond0_1 i) (x0 : Vec Ideal S1088x768 .bf16) (x1 : Vec Ideal S1x768x1024 .bf16) (x2 : Vec Ideal S1088x1024 .f32) (x3 x4 : Vec Ideal S1x1024 .f32) (xs0 : Vec Ideal S1088x1024 .f32) :
    out0_C_6 c i a2 h2 a3 h3 a4 h4 a5 h5 a6 h6 a7 h7 a8 h8 a9 h9 a10 h10 hc0 hc1 x0 x1 x2 x3 x4 xs0 = k0_pay3 (k0_pay2 xs0 x0 x1) x2 x3 x4 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x768) hz2, View.ld_unit_zero (S := S1088x1024) hz2,
    View.ld_unit_zero (S := S1x1024) hz2, View.ld_unit_zero (S := S1x768x1024) hz3, View.readCov_unit_zero (S := S1088x1024) _ hz2]

/-- and its rounding. -/
theorem out_C7 (c : Dev nD) (i : grid0.Coords) (a2 : Memref sig .tc .vmem S1088x768 .bf16) (h2 : a2.IsWhole) (a3 : Memref sig .tc .vmem S1x768x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : cond0_1 i) (x0 : Vec Ideal S1088x768 .bf16) (x1 : Vec Ideal S1x768x1024 .bf16) (x2 : Vec Ideal S1088x1024 .f32) (x3 x4 : Vec Ideal S1x1024 .f32) (xs0 : Vec Ideal S1088x1024 .f32) :
    out0_C_7 c i a2 h2 a3 h3 a4 h4 a5 h5 a6 h6 a7 h7 a8 h8 a9 h9 a10 h10 hc0 hc1 x0 x1 x2 x3 x4 xs0 = k0_pay4 (k0_pay2 xs0 x0 x1) x2 x3 x4 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x768) hz2, View.ld_unit_zero (S := S1088x1024) hz2,
    View.ld_unit_zero (S := S1x1024) hz2, View.ld_unit_zero (S := S1x768x1024) hz3, View.readCov_unit_zero (S := S1088x1024) _ hz2]

/-- A step at an index: the blocks' product added. -/
theorem pay2_apply (v3 : Vec Ideal S1088x1024 .f32) (v4 : Vec Ideal S1088x768 .bf16) (v5 : Vec Ideal S1x768x1024 .bf16) (r : Fin 1088) (d : Fin 1024) :
    k0_pay2 v3 v4 v5 (ix2 r d) = v3 (ix2 r d) + ∑ j : Fin 768, v4 (ix2 r j) * v5 (ix3 0 j d) := by
  unfold k0_pay2
  rw [shapeCast_self]
  exact congrArg (v3 (ix2 r d) + ·) ((matmul_nn _ rfl rfl rfl rfl rfl rfl v4 _ r d).trans (Finset.sum_congr rfl fun j _ => congrArg (v4 (ix2 r j) * ·) (dropUnit v5 _ j d)))

/-- The accumulator's start at an index. -/
theorem pay1_apply (i : S1088x1024.Idx) : (k0_pay1 (F := Ideal)) i = 0 := by
  unfold k0_pay1
  rw [shapeCast_self]
  exact Ideal.ofBits_zero_f32

/-- A row's sum as a column, -/
theorem rowSum_apply (v : FVec Ideal S1088x1024 .f32) (r : Fin 1088) :
    shapeCast S1088x1 (multiReduction .add [1] S1088 v 0x00000000#32 reduces_S1088x1024_S1088 (.inl rfl) rfl) shapeCasts_S1088_S1088x1 (ix2 r 0) = ∑ e : Fin 1024, v (ix2 r e) := by
  refine (shapeCast_apply _ shapeCasts_S1088_S1088x1 (ix2 r 0) (ix1 r) ?_).trans ?_
  · rw [Shape.rowMajor_val_one, Shape.rowMajor_val_two]
    show r.val = r.val * 1 + 0
    omega
  · refine (Ideal.multiReduction_add_single v _ _ _ _ _).trans (Finset.sum_congr rfl fun e _ => congrArg v (funext fun b => Fin.ext ?_))
    match b with
    | ⟨0, _⟩ => rfl
    | ⟨1, _⟩ => rfl

/-- a column spread over the row, -/
theorem spread_apply (v : FVec Ideal S1088x1 .f32) (r : Fin 1088) (d : Fin 1024) : broadcastTo S1088x1024 v broadcasts_S1088x1_S1088x1024 (ix2 r d) = v (ix2 r 0) :=
  broadcastTo_apply v _ _ _ fun a => match a with
    | ⟨0, _⟩ => rfl
    | ⟨1, _⟩ => rfl

/-- and a row spread over the block. -/
theorem under_apply (v : Vec Ideal S1x1024 .f32) (r : Fin 1088) (d : Fin 1024) : broadcastTo S1088x1024 v broadcasts_S1x1024_S1088x1024 (ix2 r d) = v (ix2 0 d) :=
  broadcastTo_apply v _ _ _ fun a => match a with
    | ⟨0, _⟩ => rfl
    | ⟨1, _⟩ => rfl

/-- The last step's normalisation at an index. -/
theorem pay3_apply (o h : Vec Ideal S1088x1024 .f32) (g b : Vec Ideal S1x1024 .f32) (r : Fin 1088) (d : Fin 1024) :
    k0_pay3 o h g b (ix2 r d) = lnRow (fun e => resid (h (ix2 r e)) (o (ix2 r e))) (g (ix2 0 d)) (b (ix2 0 d)) d := by
  unfold k0_pay3
  dsimp only
  refine congrArg₂ (· + ·) (congrArg₂ (· * ·) (congrArg₂ (· * ·) (congrArg₂ (· - ·) rfl ?mean) ?inv) (under_apply g r d)) (under_apply b r d)
  case mean => exact (spread_apply _ r d).trans (congrArg (Ideal.div · _) (rowSum_apply _ r))
  case inv =>
    refine (spread_apply _ r d).trans (congrArg Ideal.rsqrt (congrArg (· + _) (congrArg (Ideal.div · _) ((rowSum_apply _ r).trans (Finset.sum_congr rfl fun e _ => ?_)))))
    have hm := congrArg (resid (h (ix2 r e)) (o (ix2 r e)) - ·) ((spread_apply _ r e).trans (congrArg (Ideal.div · (Ideal.ofBits .f32 0x44800000#32))
      (rowSum_apply (fun i => resid (h i) (o i)) r)) : broadcastTo S1088x1024 (divf (shapeCast S1088x1 (multiReduction .add [1] S1088 (fun i => resid (h i) (o i) : FVec Ideal S1088x1024 .f32)
        0x00000000#32 reduces_S1088x1024_S1088 (.inl rfl) rfl) shapeCasts_S1088_S1088x1) (broadcast S1088x1 (Scalar.ofBits .f32 0x44800000#32))) broadcasts_S1088x1_S1088x1024 (ix2 r e) = _)
    exact congrArg₂ (· * ·) hm hm

/-- Where the windows stand at point `t`: row block `t / 4`, slab `t % 4`. -/
theorem in_eq : ∀ t : Fin cfg0.N, (win0_0.index t 0 = t.val / 4 ∧ win0_0.index t 1 = t.val % 4) ∧ (win0_1.index t 0 = t.val % 4 ∧ win0_1.index t 1 = 0 ∧ win0_1.index t 2 = 0)
    ∧ (win0_3.index t 0 = 0 ∧ win0_3.index t 1 = 0) ∧ (win0_4.index t 0 = 0 ∧ win0_4.index t 1 = 0) :=
  (by decide +kernel : ∀ t : Fin grid0.N, (win0_0.index t 0 = t.val / 4 ∧ win0_0.index t 1 = t.val % 4) ∧ (win0_1.index t 0 = t.val % 4 ∧ win0_1.index t 1 = 0 ∧ win0_1.index t 2 = 0)
    ∧ (win0_3.index t 0 = 0 ∧ win0_3.index t 1 = 0) ∧ (win0_4.index t 0 = 0 ∧ win0_4.index t 1 = 0))
theorem row_eq : ∀ t : Fin cfg0.N, (win0_2.index t 0 = t.val / 4 ∧ win0_2.index t 1 = 0) ∧ (win0_5.index t 0 = t.val / 4 ∧ win0_5.index t 1 = 0)
    ∧ (win0_6.index t 0 = t.val / 4 ∧ win0_6.index t 1 = 0) ∧ (win0_7.index t 0 = t.val / 4 ∧ win0_7.index t 1 = 0) :=
  (by decide +kernel : ∀ t : Fin grid0.N, (win0_2.index t 0 = t.val / 4 ∧ win0_2.index t 1 = 0) ∧ (win0_5.index t 0 = t.val / 4 ∧ win0_5.index t 1 = 0)
    ∧ (win0_6.index t 0 = t.val / 4 ∧ win0_6.index t 1 = 0) ∧ (win0_7.index t 0 = t.val / 4 ∧ win0_7.index t 1 = 0))

/-- The point of row block `a` and slab `k`. -/
def pt (a : Fin 2) (k : Fin 4) : Fin cfg0.N := ⟨4 * a.val + k.val, by have h : cfg0.N = 8 := N_0; omega⟩
theorem pt_div (a : Fin 2) (k : Fin 4) : (pt a k).val / 4 = a.val := by show (4 * a.val + k.val) / 4 = _; omega
theorem pt_mod (a : Fin 2) (k : Fin 4) : (pt a k).val % 4 = k.val := by show (4 * a.val + k.val) % 4 = _; omega

theorem iblk0 (c : Dev nD) (a : Fin 2) (k : Fin 4) (r : Fin 1088) (j : Fin 768) :
    (iblk m c 0 (pt a k) : Vec Ideal S1088x768 .bf16) (ix2 r j) = m ((c : Thread nD τ).loc main_arg0) (hid a r k j) := by
  unfold iblk
  rw [View.read_apply]
  show m ((c : Thread nD τ).loc main_arg0) _ = _
  congr 1
  funext b
  refine Fin.ext ?_
  match b with
  | ⟨0, _⟩ => show win0_0.index (pt a k) 0 * 1088 + 1 * r.val = 1088 * a.val + r.val; rw [(in_eq _).1.1, pt_div]; omega
  | ⟨1, _⟩ => show win0_0.index (pt a k) 1 * 768 + 1 * j.val = 768 * k.val + j.val; rw [(in_eq _).1.2, pt_mod]; omega

theorem iblk1 (c : Dev nD) (a : Fin 2) (k : Fin 4) (j : Fin 768) (d : Fin 1024) :
    (iblk m c 1 (pt a k) : Vec Ideal S1x768x1024 .bf16) (ix3 0 j d) = m ((c : Thread nD τ).loc main_arg1) (ix3 k j d) := by
  unfold iblk
  rw [View.read_apply]
  show m ((c : Thread nD τ).loc main_arg1) _ = _
  congr 1
  funext b
  refine Fin.ext ?_
  match b with
  | ⟨0, _⟩ => show win0_1.index (pt a k) 0 * 1 + 1 * 0 = k.val; rw [(in_eq _).2.1.1, pt_mod]; omega
  | ⟨1, _⟩ => show win0_1.index (pt a k) 1 * 768 + 1 * j.val = j.val; rw [(in_eq _).2.1.2.1]; omega
  | ⟨2, _⟩ => show win0_1.index (pt a k) 2 * 1024 + 1 * d.val = d.val; rw [(in_eq _).2.1.2.2]; omega

theorem iblk2 (c : Dev nD) (a : Fin 2) (k : Fin 4) (r : Fin 1088) (d : Fin 1024) :
    (iblk m c 2 (pt a k) : Vec Ideal S1088x1024 .f32) (ix2 r d) = m ((c : Thread nD τ).loc main_arg2) (wide a r d) := by
  unfold iblk
  rw [View.read_apply]
  show m ((c : Thread nD τ).loc main_arg2) _ = _
  congr 1
  funext b
  refine Fin.ext ?_
  match b with
  | ⟨0, _⟩ => show win0_2.index (pt a k) 0 * 1088 + 1 * r.val = 1088 * a.val + r.val; rw [(row_eq _).1.1, pt_div]; omega
  | ⟨1, _⟩ => show win0_2.index (pt a k) 1 * 1024 + 1 * d.val = d.val; rw [(row_eq _).1.2]; omega

theorem iblk3 (c : Dev nD) (a : Fin 2) (k : Fin 4) (d : Fin 1024) :
    (iblk m c 3 (pt a k) : Vec Ideal S1x1024 .f32) (ix2 0 d) = m ((c : Thread nD τ).loc main_arg3) (ix2 0 d) := by
  unfold iblk
  rw [View.read_apply]
  show m ((c : Thread nD τ).loc main_arg3) _ = _
  congr 1
  funext b
  refine Fin.ext ?_
  match b with
  | ⟨0, _⟩ => show win0_3.index (pt a k) 0 * 1 + 1 * 0 = 0; rw [(in_eq _).2.2.1.1]
  | ⟨1, _⟩ => show win0_3.index (pt a k) 1 * 1024 + 1 * d.val = d.val; rw [(in_eq _).2.2.1.2]; omega

theorem iblk4 (c : Dev nD) (a : Fin 2) (k : Fin 4) (d : Fin 1024) :
    (iblk m c 4 (pt a k) : Vec Ideal S1x1024 .f32) (ix2 0 d) = m ((c : Thread nD τ).loc main_arg4) (ix2 0 d) := by
  unfold iblk
  rw [View.read_apply]
  show m ((c : Thread nD τ).loc main_arg4) _ = _
  congr 1
  funext b
  refine Fin.ext ?_
  match b with
  | ⟨0, _⟩ => show win0_4.index (pt a k) 0 * 1 + 1 * 0 = 0; rw [(in_eq _).2.2.2.1]
  | ⟨1, _⟩ => show win0_4.index (pt a k) 1 * 1024 + 1 * d.val = d.val; rw [(in_eq _).2.2.2.2]; omega

/-- What the step at row block `a` and slab `k` adds. -/
def term (c : Dev nD) (a : Fin 2) (r : Fin 1088) (d : Fin 1024) (k : Fin 4) : EReal :=
  slabSum (m ((c : Thread nD τ).loc main_arg0)) (m ((c : Thread nD τ).loc main_arg1)) ⟨1088 * a.val + r.val, by omega⟩ d k

theorem step_apply (c : Dev nD) (a : Fin 2) (k : Fin 4) (v : Vec Ideal S1088x1024 .f32) (r : Fin 1088) (d : Fin 1024) :
    k0_pay2 v (iblk m c 0 (pt a k)) (iblk m c 1 (pt a k)) (ix2 r d) = v (ix2 r d) + term m c a r d k := by
  rw [pay2_apply]
  unfold term slabSum
  refine congrArg (v (ix2 r d) + ·) (Finset.sum_congr rfl fun j _ => ?_)
  rw [iblk0 m c a k r j, iblk1 m c a k j d]

/-- The accumulator after the first three steps, -/
theorem acc0 (c : Dev nD) (a : Fin 2) (r : Fin 1088) (d : Fin 1024) : (outsAt0 m c (pt a 0).val (pt a 0).isLt).2.2.2 (ix2 r d) = term m c a r d 0 := by
  rw [outsAt0_A m c (pt a 0) (by rw [pt_mod]; rfl) (by rw [pt_mod]; decide), sout_A]
  exact (step_apply m c a 0 _ r d).trans (by rw [pay1_apply, zero_add])
theorem acc1 (c : Dev nD) (a : Fin 2) (r : Fin 1088) (d : Fin 1024) : (outsAt0 m c (pt a 1).val (pt a 1).isLt).2.2.2 (ix2 r d) = term m c a r d 0 + term m c a r d 1 := by
  rw [outsAt0_B m c (pt a 1) (by rw [pt_mod]; decide) (by rw [pt_mod]; decide), sout_B]
  exact (step_apply m c a 1 _ r d).trans (congrArg (· + _) (acc0 m c a r d))
theorem acc2 (c : Dev nD) (a : Fin 2) (r : Fin 1088) (d : Fin 1024) :
    (outsAt0 m c (pt a 2).val (pt a 2).isLt).2.2.2 (ix2 r d) = term m c a r d 0 + term m c a r d 1 + term m c a r d 2 := by
  rw [outsAt0_B m c (pt a 2) (by rw [pt_mod]; decide) (by rw [pt_mod]; decide), sout_B]
  exact (step_apply m c a 2 _ r d).trans (congrArg (· + _) (acc1 m c a r d))

/-- and the whole product. -/
def prod (c : Dev nD) (a : Fin 2) (r : Fin 1088) (d : Fin 1024) : EReal := term m c a r d 0 + term m c a r d 1 + term m c a r d 2 + term m c a r d 3

theorem last_apply (c : Dev nD) (a : Fin 2) (r : Fin 1088) (d : Fin 1024) :
    k0_pay2 (outsAt0 m c (pt a 2).val (pt a 2).isLt).2.2.2 (iblk m c 0 (pt a 3)) (iblk m c 1 (pt a 3)) (ix2 r d) = prod m c a r d :=
  (step_apply m c a 3 _ r d).trans (congrArg (· + _) (acc2 m c a r d))

/-- The normalised row of the kernel. -/
def norm (c : Dev nD) (a : Fin 2) (r : Fin 1088) (d : Fin 1024) : EReal :=
  lnRow (fun e => resid (m ((c : Thread nD τ).loc main_arg2) (wide a r e)) (prod m c a r e)) (m ((c : Thread nD τ).loc main_arg3) (ix2 0 d)) (m ((c : Thread nD τ).loc main_arg4) (ix2 0 d)) d

theorem norm_apply (c : Dev nD) (a : Fin 2) (r : Fin 1088) (d : Fin 1024) :
    k0_pay3 (k0_pay2 (outsAt0 m c (pt a 2).val (pt a 2).isLt).2.2.2 (iblk m c 0 (pt a 3)) (iblk m c 1 (pt a 3))) (iblk m c 2 (pt a 3)) (iblk m c 3 (pt a 3)) (iblk m c 4 (pt a 3)) (ix2 r d)
      = norm m c a r d := by
  rw [pay3_apply, iblk3 m c a 3 d, iblk4 m c a 3 d]
  exact congrArg (lnRow · _ _ d) (funext fun e => congrArg₂ resid (iblk2 m c a 3 r e) (last_apply m c a r e))

/-- The results' blocks after the last step. -/
theorem res5 (c : Dev nD) (a : Fin 2) (r : Fin 1088) (d : Fin 1024) : (outsAt0 m c (pt a 3).val (pt a 3).isLt).1 (ix2 r d) = prod m c a r d := by
  rw [outsAt0_C m c (pt a 3) (by rw [pt_mod]; decide) (by rw [pt_mod]; rfl), out_C5]
  exact last_apply m c a r d
theorem res6 (c : Dev nD) (a : Fin 2) (r : Fin 1088) (d : Fin 1024) : (outsAt0 m c (pt a 3).val (pt a 3).isLt).2.1 (ix2 r d) = norm m c a r d := by
  rw [outsAt0_C m c (pt a 3) (by rw [pt_mod]; decide) (by rw [pt_mod]; rfl), out_C6]
  exact norm_apply m c a r d
theorem res7 (c : Dev nD) (a : Fin 2) (r : Fin 1088) (d : Fin 1024) : (outsAt0 m c (pt a 3).val (pt a 3).isLt).2.2.1 (ix2 r d) = norm m c a r d := by
  rw [outsAt0_C m c (pt a 3) (by rw [pt_mod]; decide) (by rw [pt_mod]; rfl), out_C7]
  exact norm_apply m c a r d

theorem flush_inj5 : ∀ t t' : Fin cfg0.N, (cfg0.win 5).flush t = true → (cfg0.win 5).flush t' = true → win0_5.index t = win0_5.index t' → t = t' :=
  (by decide +kernel : ∀ t t' : Fin grid0.N, win0_5.flush t = true → win0_5.flush t' = true → win0_5.index t = win0_5.index t' → t = t')
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => (cfg0.win 5).disjoint_blk fun e => hne (flush_inj5 t t' h h' e)
theorem emb5 (a : Fin 2) (k : Fin 4) (r : Fin 1088) (d : Fin 1024) : ((cfg0.win 5).blk (pt a k)).view.emb (ix2 r d) = (wide a r d : S2176x1024.Idx) := by
  funext b
  refine Fin.ext ?_
  match b with
  | ⟨0, _⟩ => show win0_5.index (pt a k) 0 * 1088 + 1 * r.val = 1088 * a.val + r.val; rw [(row_eq _).2.1.1, pt_div]; omega
  | ⟨1, _⟩ => show win0_5.index (pt a k) 1 * 1024 + 1 * d.val = d.val; rw [(row_eq _).2.1.2]; omega
/-- Result 0 after the run. -/
theorem last5 (c : Dev nD) (a : Fin 2) (r : Fin 1088) (d : Fin 1024) : (dats m 0 c).arrAt 5 cfg0.N (wide a r d : S2176x1024.Idx) = prod m c a r d := by
  have h := (dats m 0 c).arrAt_emb_eq_flushed 5 disjoint5 (pt a 3) ((flush0_5 _).mpr (by rw [pt_mod]; rfl)) (ix2 r d)
  refine (congrArg ((dats m 0 c).arrAt 5 cfg0.N) (emb5 a 3 r d)).symm.trans (h.trans ?_)
  refine (cast_eq _ _).trans ((congrFun (flushed5 m c _) _).trans ?_)
  show (outsAt0 m c (pt a 3).val (pt a 3).isLt).1 (ix2 r d) = _
  exact res5 m c a r d

theorem flush_inj6 : ∀ t t' : Fin cfg0.N, (cfg0.win 6).flush t = true → (cfg0.win 6).flush t' = true → win0_6.index t = win0_6.index t' → t = t' :=
  (by decide +kernel : ∀ t t' : Fin grid0.N, win0_6.flush t = true → win0_6.flush t' = true → win0_6.index t = win0_6.index t' → t = t')
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => (cfg0.win 6).disjoint_blk fun e => hne (flush_inj6 t t' h h' e)
theorem emb6 (a : Fin 2) (k : Fin 4) (r : Fin 1088) (d : Fin 1024) : ((cfg0.win 6).blk (pt a k)).view.emb (ix2 r d) = (wide a r d : S2176x1024.Idx) := by
  funext b
  refine Fin.ext ?_
  match b with
  | ⟨0, _⟩ => show win0_6.index (pt a k) 0 * 1088 + 1 * r.val = 1088 * a.val + r.val; rw [(row_eq _).2.2.1.1, pt_div]; omega
  | ⟨1, _⟩ => show win0_6.index (pt a k) 1 * 1024 + 1 * d.val = d.val; rw [(row_eq _).2.2.1.2]; omega
/-- Result 1 after the run. -/
theorem last6 (c : Dev nD) (a : Fin 2) (r : Fin 1088) (d : Fin 1024) : (dats m 0 c).arrAt 6 cfg0.N (wide a r d : S2176x1024.Idx) = norm m c a r d := by
  have h := (dats m 0 c).arrAt_emb_eq_flushed 6 disjoint6 (pt a 3) ((flush0_6 _).mpr (by rw [pt_mod]; rfl)) (ix2 r d)
  refine (congrArg ((dats m 0 c).arrAt 6 cfg0.N) (emb6 a 3 r d)).symm.trans (h.trans ?_)
  refine (cast_eq _ _).trans ((congrFun (flushed6 m c _) _).trans ?_)
  show (outsAt0 m c (pt a 3).val (pt a 3).isLt).2.1 (ix2 r d) = _
  exact res6 m c a r d

theorem flush_inj7 : ∀ t t' : Fin cfg0.N, (cfg0.win 7).flush t = true → (cfg0.win 7).flush t' = true → win0_7.index t = win0_7.index t' → t = t' :=
  (by decide +kernel : ∀ t t' : Fin grid0.N, win0_7.flush t = true → win0_7.flush t' = true → win0_7.index t = win0_7.index t' → t = t')
theorem disjoint7 : ∀ t t' : Fin cfg0.N, (cfg0.win 7).flush t = true → (cfg0.win 7).flush t' = true → t ≠ t' →
    Disjoint ((cfg0.win 7).blk t).view.set ((cfg0.win 7).blk t').view.set := fun t t' h h' hne => (cfg0.win 7).disjoint_blk fun e => hne (flush_inj7 t t' h h' e)
theorem emb7 (a : Fin 2) (k : Fin 4) (r : Fin 1088) (d : Fin 1024) : ((cfg0.win 7).blk (pt a k)).view.emb (ix2 r d) = (wide a r d : S2176x1024.Idx) := by
  funext b
  refine Fin.ext ?_
  match b with
  | ⟨0, _⟩ => show win0_7.index (pt a k) 0 * 1088 + 1 * r.val = 1088 * a.val + r.val; rw [(row_eq _).2.2.2.1, pt_div]; omega
  | ⟨1, _⟩ => show win0_7.index (pt a k) 1 * 1024 + 1 * d.val = d.val; rw [(row_eq _).2.2.2.2]; omega
/-- Result 2 after the run. -/
theorem last7 (c : Dev nD) (a : Fin 2) (r : Fin 1088) (d : Fin 1024) : (dats m 0 c).arrAt 7 cfg0.N (wide a r d : S2176x1024.Idx) = norm m c a r d := by
  have h := (dats m 0 c).arrAt_emb_eq_flushed 7 disjoint7 (pt a 3) ((flush0_7 _).mpr (by rw [pt_mod]; rfl)) (ix2 r d)
  refine (congrArg ((dats m 0 c).arrAt 7 cfg0.N) (emb7 a 3 r d)).symm.trans (h.trans ?_)
  refine (cast_eq _ _).trans ((congrFun (flushed7 m c _) _).trans ?_)
  show (outsAt0 m c (pt a 3).val (pt a 3).isLt).2.2.1 (ix2 r d) = _
  exact res7 m c a r d

end Cert.DownLnIdeal.Ffn

namespace Cert.DownLnRefIdeal.Ffn

open Cert.DownLnRefIdeal Cert.DownLnRefIdeal.Gen Cert.DownLnRefIdeal.Read Cert.Dots

/-- The reference's product, slab by slab, -/
theorem prod_apply (x0 : (⟨S2176x3072, .bf16⟩ : BufTy).Contents (Elt Ideal)) (x1 : (⟨S4x768x1024, .bf16⟩ : BufTy).Contents (Elt Ideal)) (a : Fin 2) (r : Fin 1088) (d : Fin 1024) :
    val_main_v3 (F := Ideal) x0 x1 (wide a r d) = ∑ k : Fin 4, slabSum x0 x1 ⟨1088 * a.val + r.val, by omega⟩ d k := by
  rw [val_main_v3_apply, sum_slabs]
  refine Finset.sum_congr rfl fun k _ => Finset.sum_congr rfl fun j _ => ?_
  rw [val_main_v0_apply, val_main_v2_apply, val_main_v1_apply]
  refine congrArg₂ (· * ·) (congrArg x0 ?_) (congrArg x1 ?_) <;> funext b <;> refine Fin.ext ?_
  · match b with
    | ⟨0, _⟩ => rfl
    | ⟨1, _⟩ => rfl
  · match b with
    | ⟨0, _⟩ => show ((768 * k.val + j.val) * 1024 + d.val) / 786432 = k.val; omega
    | ⟨1, _⟩ => show ((768 * k.val + j.val) * 1024 + d.val) / 1024 % 768 = j.val; omega
    | ⟨2, _⟩ => show ((768 * k.val + j.val) * 1024 + d.val) % 1024 = d.val; omega

/-- the row it normalises, -/
def row (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (n : Fin 2176) (e : Fin 1024) : EReal := resid (x2 (ix2 n e)) (val_main_v3 (F := Ideal) x0 x1 (ix2 n e))

theorem row_apply (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (n : Fin 2176) (e : Fin 1024) :
    val_main_v8 (F := Ideal) x0 x1 x2 (ix2 n e) = row x0 x1 x2 n e := by
  rw [val_main_v8_apply, val_main_v5_apply, val_main_v7_apply, val_main_v4_apply, val_main_v6_apply, val_main_cst_apply, val_main_cst_0_apply]
  rfl

/-- the row's mean, -/
theorem mean_apply (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (n : Fin 2176) :
    val_main_v12 (F := Ideal) x0 x1 x2 (ix2 n 0) = rowMean (row x0 x1 x2 n) := by
  rw [val_main_v12_apply, val_main_v10_apply, val_main_v9_apply, val_main_v11_apply, val_main_cst_1_apply, val_main_cst_2_apply]
  refine congrArg (Ideal.div · _) ((congrArg (· + _) Ideal.ofBits_zero_f32).trans ((zero_add _).trans (Finset.sum_congr rfl fun e _ => ?_)))
  refine (congrArg (val_main_v8 (F := Ideal) x0 x1 x2) (eq_ix2 _ : _ = ix2 n e)).trans (row_apply x0 x1 x2 n e)

/-- its entries less the mean, -/
theorem diff_apply (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (n : Fin 2176) (e : Fin 1024) :
    val_main_v14 (F := Ideal) x0 x1 x2 (ix2 n e) = row x0 x1 x2 n e - rowMean (row x0 x1 x2 n) := by
  rw [val_main_v14_apply, row_apply, val_main_v13_apply, ← mean_apply]
  exact congrArg (row x0 x1 x2 n e - ·) (congrArg (val_main_v12 (F := Ideal) x0 x1 x2) (eq_ix2 _))
theorem diff_apply' (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (n : Fin 2176) (e : Fin 1024) :
    val_main_v21 (F := Ideal) x0 x1 x2 (ix2 n e) = row x0 x1 x2 n e - rowMean (row x0 x1 x2 n) := diff_apply x0 x1 x2 n e

/-- the variance's inverse root, -/
theorem inv_apply (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (n : Fin 2176) :
    val_main_v24 (F := Ideal) x0 x1 x2 (ix2 n 0) = Ideal.rsqrt (Ideal.div (∑ e, (row x0 x1 x2 n e - rowMean (row x0 x1 x2 n)) * (row x0 x1 x2 n e - rowMean (row x0 x1 x2 n)))
      (Ideal.ofBits .f32 0x44800000#32) + Ideal.ofBits .f32 0x3727C5AC#32) := by
  rw [val_main_v24_apply, val_main_v23_apply, val_main_v19_apply, val_main_v17_apply, val_main_v16_apply, val_main_v18_apply, val_main_v22_apply, val_main_cst_3_apply, val_main_cst_4_apply, val_main_cst_5_apply]
  refine congrArg Ideal.rsqrt (congrArg (· + _) (congrArg (Ideal.div · _) ((congrArg (· + _) Ideal.ofBits_zero_f32).trans ((zero_add _).trans (Finset.sum_congr rfl fun e _ => ?_)))))
  have h := (congrArg (val_main_v14 (F := Ideal) x0 x1 x2) (eq_ix2 _ : idx_main_v16 (idx_main_v17 (ix2 n 0)) e = ix2 n e)).trans (diff_apply x0 x1 x2 n e)
  rw [val_main_v15_apply]
  exact congrArg₂ (· * ·) h h

/-- and the normalised row. -/
theorem norm_apply (x0 : (⟨S2176x3072, .bf16⟩ : BufTy).Contents (Elt Ideal)) (x1 : (⟨S4x768x1024, .bf16⟩ : BufTy).Contents (Elt Ideal)) (x2 : (⟨S2176x1024, .f32⟩ : BufTy).Contents (Elt Ideal)) (x3 x4 : (⟨S1x1024, .f32⟩ : BufTy).Contents (Elt Ideal)) (n : Fin 2176) (d : Fin 1024) :
    val_main_v30 (F := Ideal) x0 x1 x2 x3 x4 (ix2 n d) = lnRow (row x0 x1 x2 n) (x3 (ix2 0 d)) (x4 (ix2 0 d)) d := by
  rw [val_main_v30_apply, val_main_v28_apply, val_main_v26_apply, val_main_v25_apply, val_main_v27_apply, val_main_v29_apply, diff_apply']
  refine congrArg₂ (· + ·) (congrArg₂ (· * ·) (congrArg (fun y : EReal => (row x0 x1 x2 n d - rowMean (row x0 x1 x2 n)) * y) ?_) (congrArg x3 (eq_ix2 _))) (congrArg x4 (eq_ix2 _))
  exact (congrArg (val_main_v24 (F := Ideal) x0 x1 x2) (eq_ix2 _ : _ = ix2 n 0)).trans (inv_apply x0 x1 x2 n)

end Cert.DownLnRefIdeal.Ffn

namespace Cert.Ffn

open Cert.Dots

/-- The normalisation depends on the row alone. -/
theorem lnRow_congr {z z' : Fin 1024 → EReal} (h : ∀ e, z e = z' e) (g b : EReal) (d : Fin 1024) : lnRow z g b d = lnRow z' g b d := by rw [funext h]

/-- The kernel's product and normalisation are the reference's. -/
theorem downLn : @Cert.algebraic_DownLnIdeal_DownLnRefIdeal Cert.DownLnIdeal.Gen.facts Cert.DownLnRefIdeal.Gen.facts := fun m g m' g' _ hin => by
  have hp : ∀ (c : Dev Cert.DownLnIdeal.nD) (a : Fin 2) (r : Fin 1088) (d : Fin 1024), Cert.DownLnRefIdeal.Read.val_main_v3 (F := Ideal)
      (m ((c.tc : Thread Cert.DownLnIdeal.nD Cert.DownLnIdeal.τ).loc Cert.DownLnIdeal.main_arg0)) (m ((c.tc : Thread Cert.DownLnIdeal.nD Cert.DownLnIdeal.τ).loc Cert.DownLnIdeal.main_arg1)) (wide a r d)
        = Cert.DownLnIdeal.Ffn.prod m c a r d := fun c a r d => (Cert.DownLnRefIdeal.Ffn.prod_apply _ _ a r d).trans (Fin.sum_univ_four _)
  have hn : ∀ (c : Dev Cert.DownLnIdeal.nD) (i : Cert.DownLnRefIdeal.S2176x1024.Idx), Cert.DownLnRefIdeal.Read.val_main_v30 (F := Ideal)
      (m ((c.tc : Thread Cert.DownLnIdeal.nD Cert.DownLnIdeal.τ).loc Cert.DownLnIdeal.main_arg0)) (m ((c.tc : Thread Cert.DownLnIdeal.nD Cert.DownLnIdeal.τ).loc Cert.DownLnIdeal.main_arg1))
      (m ((c.tc : Thread Cert.DownLnIdeal.nD Cert.DownLnIdeal.τ).loc Cert.DownLnIdeal.main_arg2)) (m ((c.tc : Thread Cert.DownLnIdeal.nD Cert.DownLnIdeal.τ).loc Cert.DownLnIdeal.main_arg3))
      (m ((c.tc : Thread Cert.DownLnIdeal.nD Cert.DownLnIdeal.τ).loc Cert.DownLnIdeal.main_arg4)) i = (Cert.DownLnIdeal.Gen.dats m 0 c).arrAt 6 Cert.DownLnIdeal.cfg0.N i := fun c i => by
    obtain ⟨a, r, d, rfl⟩ := wide_split i
    refine (Cert.DownLnRefIdeal.Ffn.norm_apply _ _ _ _ _ _ d).trans (Eq.trans ?_ (Cert.DownLnIdeal.Ffn.last6 m c a r d).symm)
    exact lnRow_congr (fun e => congrArg (resid _) (hp c a r e)) _ _ d
  refine ⟨fun c => (Cert.DownLnIdeal.Gen.dats m 0 c).arrAt 5 Cert.DownLnIdeal.cfg0.N, fun c => (Cert.DownLnIdeal.Gen.dats m 0 c).arrAt 6 Cert.DownLnIdeal.cfg0.N,
    fun c => (Cert.DownLnIdeal.Gen.dats m 0 c).arrAt 7 Cert.DownLnIdeal.cfg0.N,
    Cert.DownLnIdeal.Value.run_blocks m g,
    (θ_run _ _ _).mono (fun r h c => ⟨(h c).1.trans ?_, (h c).2.1.trans ?_, (h c).2.2.1.trans ?_, (h c).2.2.2⟩) (Cert.DownLnRefIdeal.Value.run (F := Ideal) m' g')⟩
  · rw [Cert.DownLnRefIdeal.Read.val_main_v3_eq, (hin c).1, (hin c).2.1]
    funext i
    obtain ⟨a, r, d, rfl⟩ := wide_split i
    exact (hp c a r d).trans (Cert.DownLnIdeal.Ffn.last5 m c a r d).symm
  · rw [Cert.DownLnRefIdeal.Read.val_main_v30_eq, (hin c).1, (hin c).2.1, (hin c).2.2.1, (hin c).2.2.2.1, (hin c).2.2.2.2]
    exact funext fun i => hn c i
  · rw [Cert.DownLnRefIdeal.Read.val_main_v31_eq, (hin c).1, (hin c).2.1, (hin c).2.2.1, (hin c).2.2.2.1, (hin c).2.2.2.2]
    funext i
    refine (hn c i).trans ?_
    obtain ⟨a, r, d, rfl⟩ := wide_split i
    exact (Cert.DownLnIdeal.Ffn.last6 m c a r d).trans (Cert.DownLnIdeal.Ffn.last7 m c a r d).symm

end Cert.Ffn

end
-- ==== Proof.Proj.Sums.lean ====
/- The products of the projections as sums over a shared axis, and rows of a matrix in blocks. -/
module

public import proofs.«01_k».proof.Proof.Ffn.Dots

@[expose] public section

noncomputable section

open Idealize.ShloMosaic Idealize.ShloMosaic.ValueIdx

namespace Cert.Proj

theorem hz2 : (![0, 0] : Fin 2 → Nat) = fun _ => 0 := funext fun a => by fin_cases a <;> rfl
theorem hz3 : (![0, 0, 0] : Fin 3 → Nat) = fun _ => 0 := funext fun a => by fin_cases a <;> rfl

variable {m k n : Nat}

/-- Entry `(i, j)` of `x w`. -/
def nn (x : (⟨2, ![m, k]⟩ : Shape).Idx → EReal) (w : (⟨2, ![k, n]⟩ : Shape).Idx → EReal) (i : Fin m) (j : Fin n) : EReal := ∑ q : Fin k, x (ix2 i q) * w (ix2 q j)

/-- Entry `(i, j)` of `x wᵀ`. -/
def nt (x : (⟨2, ![m, k]⟩ : Shape).Idx → EReal) (w : (⟨2, ![n, k]⟩ : Shape).Idx → EReal) (i : Fin m) (j : Fin n) : EReal := ∑ q : Fin k, x (ix2 i q) * w (ix2 j q)

/-- Entry `(i, j)` of `xᵀ y`. -/
def tn (x : (⟨2, ![k, m]⟩ : Shape).Idx → EReal) (y : (⟨2, ![k, n]⟩ : Shape).Idx → EReal) (i : Fin m) (j : Fin n) : EReal := ∑ q : Fin k, x (ix2 q i) * y (ix2 q j)

/-- Row `r` of block `t` of 2176 rows in four blocks. -/
abbrev row (t : Fin 4) (r : Fin 544) : Fin 2176 := ⟨544 * t.val + r.val, by omega⟩

theorem row_split (n : Fin 2176) : ∃ t r, n = row t r := ⟨⟨n.val / 544, by omega⟩, ⟨n.val % 544, by omega⟩, Fin.ext (by show n.val = 544 * (n.val / 544) + n.val % 544; omega)⟩

/-- Column `j` of slab `k` of 1024 columns in four slabs. -/
abbrev slab (k : Fin 4) (j : Fin 256) : Fin 1024 := ⟨256 * k.val + j.val, by omega⟩

theorem slab_split (n : Fin 1024) : ∃ k j, n = slab k j := ⟨⟨n.val / 256, by omega⟩, ⟨n.val % 256, by omega⟩, Fin.ext (by show n.val = 256 * (n.val / 256) + n.val % 256; omega)⟩

end Cert.Proj

end
-- ==== Proof.Proj.InProj.lean ====
/- The input projection: each block of rows times the whole weight is the reference's product. -/
module

public import proofs.«01_k».proof.Defs
public import proofs.«01_k».proof.Proof.Proj.Sums
public import proofs.«01_k».proof.Proof.Gen.InProjIdeal.Value
public import proofs.«01_k».proof.Proof.Gen.InProjRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.InProjIdeal.Proj

open Cert.InProjIdeal Cert.InProjIdeal.Gen Cert.InProjIdeal.Value Cert.Dots Cert.Proj

variable (m : (ℓ : Loc nD τ sig) → Buf (Elt Ideal) ℓ) (ρ : Dev nD → PrngReg)

/-- Where the windows stand at point `t`: row block `t` of the input and of the result, the weight whole. -/
theorem index_eq : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

/-- The point of row block `t`. -/
abbrev pt (t : Fin 4) : Fin cfg0.N := ⟨t.val, by have h : cfg0.N = 4 := N_0; omega⟩

theorem iblk0 (c : Dev nD) (t : Fin 4) (r : Fin 544) (d : Fin 1024) :
    (iblk m c 0 (pt t) : Vec Ideal S544x1024 .bf16) (ix2 r d) = m ((c : Thread nD τ).loc main_arg0) (ix2 (row t r) d) := by
  unfold iblk
  rw [View.read_apply]
  show m ((c : Thread nD τ).loc main_arg0) _ = _
  congr 1
  funext a
  refine Fin.ext ?_
  match a with
  | ⟨0, _⟩ => show win0_0.index (pt t) 0 * 544 + 1 * r.val = 544 * t.val + r.val; rw [(index_eq _).1.1]; show t.val * 544 + _ = _; omega
  | ⟨1, _⟩ => show win0_0.index (pt t) 1 * 1024 + 1 * d.val = d.val; rw [(index_eq _).1.2]; omega

theorem iblk1 (c : Dev nD) (t : Fin cfg0.N) : (iblk m c 1 t : Vec Ideal S1024x2816 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 1024 + 1 * (y 0).val = (y 0).val; rw [(index_eq t).2.1.1]; omega
  | ⟨1, _⟩ => show win0_1.index t 1 * 2816 + 1 * (y 1).val = (y 1).val; rw [(index_eq t).2.1.2]; omega

/-- What the body leaves in the result's buffer: the sum it started at zero, the one product added. -/
theorem out_A (c : Dev nD) (i : grid0.Coords) (a3 : Memref sig .tc .vmem S544x1024 .bf16) (h3 : a3.IsWhole) (a4 : Memref sig .tc .vmem S1024x2816 .bf16) (h4 : a4.IsWhole)
    (a5 : Memref sig .tc .vmem S544x2816 .f32) (h5 : a5.IsWhole) (a6 : Memref sig .tc .vmem S544x2816 .f32) (h6 : a6.IsWhole) (hc0 : cond0_0 i) (hc1 : cond0_1 i)
    (x0 : Vec Ideal S544x1024 .bf16) (x1 : Vec Ideal S1024x2816 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S544x1024) hz2, View.ld_unit_zero (S := S1024x2816) hz2,
    View.readCov_unit_zero (S := S544x2816) _ hz2]
  exact View.readCov_full (s := S544x2816) _ _ _ _ _

/-- That at an index. -/
theorem pay_apply (x0 : Vec Ideal S544x1024 .bf16) (x1 : Vec Ideal S1024x2816 .bf16) (r : Fin 544) (j : Fin 2816) :
    k0_pay2 (F := Ideal) (k0_pay1 (F := Ideal)) x0 x1 (ix2 r j) = nn x0 x1 r j := by
  unfold k0_pay2 k0_pay1
  dsimp only
  rw [shapeCast_self, shapeCast_self]
  show Ideal.ofBits .f32 0x00000000#32 + _ = _
  rw [Ideal.ofBits_zero_f32, zero_add]
  exact matmul_nn _ rfl rfl rfl rfl rfl rfl x0 x1 r j

theorem emb2 (t : Fin 4) (r : Fin 544) (j : Fin 2816) : ((cfg0.win 2).blk (pt t)).view.emb (ix2 r j) = (ix2 (row t r) j : S2176x2816.Idx) := by
  funext a
  refine Fin.ext ?_
  match a with
  | ⟨0, _⟩ => show win0_2.index (pt t) 0 * 544 + 1 * r.val = 544 * t.val + r.val; rw [(index_eq _).2.2.1]; show t.val * 544 + _ = _; omega
  | ⟨1, _⟩ => show win0_2.index (pt t) 1 * 2816 + 1 * j.val = j.val; rw [(index_eq _).2.2.2]; omega

/-- The projection after the run. -/
theorem final2 (c : Dev nD) (t : Fin 4) (r : Fin 544) (j : Fin 2816) : (dats m 0 c).arrAt 2 cfg0.N (ix2 (row t r) j : S2176x2816.Idx)
    = nn (m ((c : Thread nD τ).loc main_arg0)) (m ((c : Thread nD τ).loc main_arg1)) (row t r) j := by
  have h := (dats m 0 c).arrAt_emb_eq_flushed 2 disjoint2 (pt t) (flush0_2 _) (ix2 r j)
  refine (congrArg ((dats m 0 c).arrAt 2 cfg0.N) (emb2 t r j)).symm.trans (h.trans ?_)
  refine (cast_eq _ _).trans ((congrFun (flushed2 m c _) _).trans ?_)
  show outsAt0 m c (pt t) (ix2 r j) = _
  unfold outsAt0
  rw [out_A, pay_apply, iblk1]
  unfold nn
  exact Finset.sum_congr rfl fun d _ => by rw [iblk0 m c t r d]

end Cert.InProjIdeal.Proj

namespace Cert.InProjRefIdeal.Proj

open Cert.InProjRefIdeal Cert.InProjRefIdeal.Gen Cert.InProjRefIdeal.Read Cert.Proj

/-- The reference's product at an index. -/
theorem res_apply (x0 : (⟨S2176x1024, .bf16⟩ : BufTy).Contents (Elt Ideal)) (x1 : (⟨S1024x2816, .bf16⟩ : BufTy).Contents (Elt Ideal)) (n : Fin 2176) (j : Fin 2816) :
    val_main_v2 (F := Ideal) x0 x1 (ix2 n j) = nn x0 x1 n j := by
  rw [val_main_v2_apply]
  refine Finset.sum_congr rfl fun d _ => congrArg₂ (· * ·) (congrArg x0 ?_) (congrArg x1 ?_) <;> exact funext fun a => by match a with
    | ⟨0, _⟩ => rfl
    | ⟨1, _⟩ => rfl

end Cert.InProjRefIdeal.Proj

namespace Cert.Proj

/-- The kernel's projection is the reference's. -/
theorem inProj : @Cert.algebraic_InProjIdeal_InProjRefIdeal Cert.InProjIdeal.Gen.facts Cert.InProjRefIdeal.Gen.facts := fun m g m' g' _ hin =>
  ⟨fun c => (Cert.InProjIdeal.Gen.dats m 0 c).arrAt 2 Cert.InProjIdeal.cfg0.N,
    Cert.InProjIdeal.Value.run_blocks m g,
    (θ_run _ _ _).mono (fun r h c => ⟨(h c).1.trans (by
        rw [Cert.InProjRefIdeal.Read.val_main_v2_eq, (hin c).1, (hin c).2]
        funext i
        obtain ⟨t, s, e⟩ := Cert.Proj.row_split (i 0)
        rw [eq_ix2 i, e]
        exact (Cert.InProjRefIdeal.Proj.res_apply _ _ _ _).trans (Cert.InProjIdeal.Proj.final2 m c _ _ _).symm), (h c).2⟩)
      (Cert.InProjRefIdeal.Value.run (F := Ideal) m' g')⟩

end Cert.Proj

end
-- ==== Proof.Proj.InX.lean ====
/- The input projection's input gradient: each block of rows of the gradient times the transposed weight, the residual's gradient added, is the reference's. -/
module

public import proofs.«01_k».proof.Defs
public import proofs.«01_k».proof.Proof.Proj.Sums
public import proofs.«01_k».proof.Proof.Gen.InXIdeal.Value
public import proofs.«01_k».proof.Proof.Gen.InXRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.InXIdeal.Proj

open Cert.InXIdeal Cert.InXIdeal.Gen Cert.InXIdeal.Value Cert.Dots Cert.Proj

variable (m : (ℓ : Loc nD τ sig) → Buf (Elt Ideal) ℓ) (ρ : Dev nD → PrngReg)

/-- Where the windows stand at point `t`: row block `t` of the gradient, the added array and the result, the weight whole. -/
theorem index_eq : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0))

/-- The point of row block `t`. -/
abbrev pt (t : Fin 4) : Fin cfg0.N := ⟨t.val, by have h : cfg0.N = 4 := N_0; omega⟩

theorem iblk0 (c : Dev nD) (t : Fin 4) (r : Fin 544) (d : Fin 2816) :
    (iblk m c 0 (pt t) : Vec Ideal S544x2816 .bf16) (ix2 r d) = m ((c : Thread nD τ).loc main_arg0) (ix2 (row t r) d) := by
  unfold iblk
  rw [View.read_apply]
  show m ((c : Thread nD τ).loc main_arg0) _ = _
  congr 1
  funext a
  refine Fin.ext ?_
  match a with
  | ⟨0, _⟩ => show win0_0.index (pt t) 0 * 544 + 1 * r.val = 544 * t.val + r.val; rw [(index_eq _).1.1]; show t.val * 544 + _ = _; omega
  | ⟨1, _⟩ => show win0_0.index (pt t) 1 * 2816 + 1 * d.val = d.val; rw [(index_eq _).1.2]; omega

theorem iblk1 (c : Dev nD) (t : Fin cfg0.N) : (iblk m c 1 t : Vec Ideal S1024x2816 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 1024 + 1 * (y 0).val = (y 0).val; rw [(index_eq t).2.1.1]; omega
  | ⟨1, _⟩ => show win0_1.index t 1 * 2816 + 1 * (y 1).val = (y 1).val; rw [(index_eq t).2.1.2]; omega

theorem iblk2 (c : Dev nD) (t : Fin 4) (r : Fin 544) (j : Fin 1024) :
    (iblk m c 2 (pt t) : Vec Ideal S544x1024 .f32) (ix2 r j) = m ((c : Thread nD τ).loc main_arg2) (ix2 (row t r) j) := by
  unfold iblk
  rw [View.read_apply]
  show m ((c : Thread nD τ).loc main_arg2) _ = _
  congr 1
  funext a
  refine Fin.ext ?_
  match a with
  | ⟨0, _⟩ => show win0_2.index (pt t) 0 * 544 + 1 * r.val = 544 * t.val + r.val; rw [(index_eq _).2.2.1.1]; show t.val * 544 + _ = _; omega
  | ⟨1, _⟩ => show win0_2.index (pt t) 1 * 1024 + 1 * j.val = j.val; rw [(index_eq _).2.2.1.2]; omega

/-- What the body leaves in the result's buffer: the sum it started at zero, the one product and then the array added. -/
theorem out_A (c : Dev nD) (i : grid0.Coords) (a3 : Memref sig .tc .vmem S544x2816 .bf16) (h3 : a3.IsWhole) (a4 : Memref sig .tc .vmem S1024x2816 .bf16) (h4 : a4.IsWhole)
    (a5 : Memref sig .tc .vmem S544x1024 .f32) (h5 : a5.IsWhole) (a6 : Memref sig .tc .vmem S544x1024 .f32) (h6 : a6.IsWhole) (a7 : Memref sig .tc .vmem S544x1024 .f32) (h7 : a7.IsWhole)
    (hc0 : cond0_0 i) (hc1 : cond0_1 i) (x0 : Vec Ideal S544x2816 .bf16) (x1 : Vec Ideal S1024x2816 .bf16) (x2 : Vec Ideal S544x1024 .f32) :
    out0_A_3 c i a3 h3 a4 h4 a5 h5 a6 h6 a7 h7 hc0 hc1 x0 x1 x2 = k0_pay3 (F := Ideal) (k0_pay2 (F := Ideal) (k0_pay1 (F := Ideal)) x0 x1) x2 := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero hz2]
  simp only [View.readAt_eq_ld, h3.read_unread, h4.read_unread, h5.read_unread, View.ld_unit_zero (S := S544x2816) hz2, View.ld_unit_zero (S := S1024x2816) hz2,
    View.ld_unit_zero (S := S544x1024) hz2, View.readCov_unit_zero (S := S544x1024) _ hz2]
  exact congrArg (fun v => k0_pay3 (F := Ideal) v x2) (View.readCov_full (s := S544x1024) _ _ _ _ _)

/-- That at an index. -/
theorem pay_apply (x0 : Vec Ideal S544x2816 .bf16) (x1 : Vec Ideal S1024x2816 .bf16) (x2 : Vec Ideal S544x1024 .f32) (r : Fin 544) (j : Fin 1024) :
    k0_pay3 (F := Ideal) (k0_pay2 (F := Ideal) (k0_pay1 (F := Ideal)) x0 x1) x2 (ix2 r j) = (nt x0 x1 r j + x2 (ix2 r j) : EReal) := by
  unfold k0_pay3 k0_pay2 k0_pay1
  dsimp only
  rw [shapeCast_self, shapeCast_self]
  refine congrArg (· + (x2 (ix2 r j) : EReal)) ?_
  show Ideal.ofBits .f32 0x00000000#32 + _ = _
  rw [Ideal.ofBits_zero_f32, zero_add]
  exact matmul_nt _ rfl rfl rfl rfl rfl rfl x0 x1 r j

theorem emb3 (t : Fin 4) (r : Fin 544) (j : Fin 1024) : ((cfg0.win 3).blk (pt t)).view.emb (ix2 r j) = (ix2 (row t r) j : S2176x1024.Idx) := by
  funext a
  refine Fin.ext ?_
  match a with
  | ⟨0, _⟩ => show win0_3.index (pt t) 0 * 544 + 1 * r.val = 544 * t.val + r.val; rw [(index_eq _).2.2.2.1]; show t.val * 544 + _ = _; omega
  | ⟨1, _⟩ => show win0_3.index (pt t) 1 * 1024 + 1 * j.val = j.val; rw [(index_eq _).2.2.2.2]; omega

/-- An entry of the gradient. -/
def grad (g : S2176x2816.Idx → EReal) (w : S1024x2816.Idx → EReal) (a : S2176x1024.Idx → EReal) (n : Fin 2176) (j : Fin 1024) : EReal := nt g w n j + a (ix2 n j)

/-- The gradient after the run. -/
theorem final3 (c : Dev nD) (t : Fin 4) (r : Fin 544) (j : Fin 1024) : (dats m 0 c).arrAt 3 cfg0.N (ix2 (row t r) j : S2176x1024.Idx)
    = grad (m ((c : Thread nD τ).loc main_arg0)) (m ((c : Thread nD τ).loc main_arg1)) (m ((c : Thread nD τ).loc main_arg2)) (row t r) j := by
  have h := (dats m 0 c).arrAt_emb_eq_flushed 3 disjoint3 (pt t) (flush0_3 _) (ix2 r j)
  refine (congrArg ((dats m 0 c).arrAt 3 cfg0.N) (emb3 t r j)).symm.trans (h.trans ?_)
  refine (cast_eq _ _).trans ((congrFun (flushed3 m c _) _).trans ?_)
  show outsAt0 m c (pt t) (ix2 r j) = _
  unfold outsAt0
  rw [out_A, pay_apply, iblk1, iblk2]
  unfold grad nt
  exact congrArg₂ (· + ·) (Finset.sum_congr rfl fun d _ => by rw [iblk0 m c t r d]) rfl

end Cert.InXIdeal.Proj

namespace Cert.InXRefIdeal.Proj

open Cert.InXRefIdeal Cert.InXRefIdeal.Gen Cert.InXRefIdeal.Read Cert.Proj

/-- The reference's gradient at an index: the same two terms in the other order. -/
theorem res_apply (x0 : (⟨S2176x2816, .bf16⟩ : BufTy).Contents (Elt Ideal)) (x1 : (⟨S1024x2816, .bf16⟩ : BufTy).Contents (Elt Ideal)) (x2 : (⟨S2176x1024, .f32⟩ : BufTy).Contents (Elt Ideal))
    (n : Fin 2176) (j : Fin 1024) : val_main_v5 (F := Ideal) x0 x1 x2 (ix2 n j) = Cert.InXIdeal.Proj.grad x0 x1 x2 n j := by
  rw [val_main_v5_apply, val_main_v4_apply]
  refine (add_comm (G := EReal) _ _).trans (congrArg (· + (x2 (ix2 n j) : EReal)) ?_)
  refine Finset.sum_congr rfl fun d _ => congrArg₂ (· * ·) (congrArg x0 ?_) (congrArg x1 ?_) <;> exact funext fun a => by match a with
    | ⟨0, _⟩ => rfl
    | ⟨1, _⟩ => rfl

end Cert.InXRefIdeal.Proj

namespace Cert.Proj

/-- The kernel's gradient is the reference's. -/
theorem inX : @Cert.algebraic_InXIdeal_InXRefIdeal Cert.InXIdeal.Gen.facts Cert.InXRefIdeal.Gen.facts := fun m g m' g' _ hin =>
  ⟨fun c => (Cert.InXIdeal.Gen.dats m 0 c).arrAt 3 Cert.InXIdeal.cfg0.N,
    Cert.InXIdeal.Value.run_blocks m g,
    (θ_run _ _ _).mono (fun r h c => ⟨(h c).1.trans (by
        rw [Cert.InXRefIdeal.Read.val_main_v5_eq, (hin c).1, (hin c).2.1, (hin c).2.2]
        funext i
        obtain ⟨t, s, e⟩ := Cert.Proj.row_split (i 0)
        rw [eq_ix2 i, e]
        exact (Cert.InXRefIdeal.Proj.res_apply _ _ _ _ _).trans (Cert.InXIdeal.Proj.final3 m c _ _ _).symm), (h c).2⟩)
      (Cert.InXRefIdeal.Value.run (F := Ideal) m' g')⟩

end Cert.Proj

end
-- ==== Proof.Proj.InW.lean ====
/- The input projection's weight gradient: the transposed input times a block of the gradient's columns is the reference's. -/
module

public import proofs.«01_k».proof.Defs
public import proofs.«01_k».proof.Proof.Proj.Sums
public import proofs.«01_k».proof.Proof.Gen.InWIdeal.Value
public import proofs.«01_k».proof.Proof.Gen.InWRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.InWIdeal.Proj

open Cert.InWIdeal Cert.InWIdeal.Gen Cert.InWIdeal.Value Cert.Dots Cert.Proj

variable (m : (ℓ : Loc nD τ sig) → Buf (Elt Ideal) ℓ) (ρ : Dev nD → PrngReg)

/-- Where the windows stand at point `t`: the input whole, column block `t` of the gradient and of the result. -/
theorem index_eq : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) :=
  (by decide +kernel : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val))

/-- The point of column block `t`. -/
abbrev pt (t : Fin 2) : Fin cfg0.N := ⟨t.val, by have h : cfg0.N = 2 := N_0; omega⟩

/-- Column `j` of block `t`. -/
abbrev col (t : Fin 2) (j : Fin 1408) : Fin 2816 := ⟨1408 * t.val + j.val, by omega⟩

theorem col_split (n : Fin 2816) : ∃ t j, n = col t j := ⟨⟨n.val / 1408, by omega⟩, ⟨n.val % 1408, by omega⟩, Fin.ext (by show n.val = 1408 * (n.val / 1408) + n.val % 1408; omega)⟩

theorem iblk0 (c : Dev nD) (t : Fin cfg0.N) : (iblk m c 0 t : Vec Ideal S2176x1024 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 1024 + 1 * (y 1).val = (y 1).val; rw [(index_eq t).1.2]; omega

theorem iblk1 (c : Dev nD) (t : Fin 2) (n : Fin 2176) (j : Fin 1408) :
    (iblk m c 1 (pt t) : Vec Ideal S2176x1408 .bf16) (ix2 n j) = m ((c : Thread nD τ).loc main_arg1) (ix2 n (col t j)) := by
  unfold iblk
  rw [View.read_apply]
  show m ((c : Thread nD τ).loc main_arg1) _ = _
  congr 1
  funext a
  refine Fin.ext ?_
  match a with
  | ⟨0, _⟩ => show win0_1.index (pt t) 0 * 2176 + 1 * n.val = n.val; rw [(index_eq _).2.1.1]; omega
  | ⟨1, _⟩ => show win0_1.index (pt t) 1 * 1408 + 1 * j.val = 1408 * t.val + j.val; rw [(index_eq _).2.1.2]; show t.val * 1408 + _ = _; omega

/-- What the body leaves in the result's buffer: the sum it started at zero, the one product added. -/
theorem out_A (c : Dev nD) (i : grid0.Coords) (a3 : Memref sig .tc .vmem S2176x1024 .bf16) (h3 : a3.IsWhole) (a4 : Memref sig .tc .vmem S2176x1408 .bf16) (h4 : a4.IsWhole)
    (a5 : Memref sig .tc .vmem S1024x1408 .f32) (h5 : a5.IsWhole) (a6 : Memref sig .tc .vmem S1024x1408 .f32) (h6 : a6.IsWhole) (hc0 : cond0_0 i) (hc1 : cond0_1 i)
    (x0 : Vec Ideal S2176x1024 .bf16) (x1 : Vec Ideal S2176x1408 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x1024) hz2, View.ld_unit_zero (S := S2176x1408) hz2,
    View.readCov_unit_zero (S := S1024x1408) _ hz2]
  exact View.readCov_full (s := S1024x1408) _ _ _ _ _

/-- That at an index. -/
theorem pay_apply (x0 : Vec Ideal S2176x1024 .bf16) (x1 : Vec Ideal S2176x1408 .bf16) (d : Fin 1024) (j : Fin 1408) :
    k0_pay2 (F := Ideal) (k0_pay1 (F := Ideal)) x0 x1 (ix2 d j) = tn x0 x1 d j := by
  unfold k0_pay2 k0_pay1
  dsimp only
  rw [shapeCast_self, shapeCast_self]
  show Ideal.ofBits .f32 0x00000000#32 + _ = _
  rw [Ideal.ofBits_zero_f32, zero_add]
  exact matmul_tn _ rfl rfl rfl rfl rfl rfl x0 x1 d j

theorem emb2 (t : Fin 2) (d : Fin 1024) (j : Fin 1408) : ((cfg0.win 2).blk (pt t)).view.emb (ix2 d j) = (ix2 d (col t j) : S1024x2816.Idx) := by
  funext a
  refine Fin.ext ?_
  match a with
  | ⟨0, _⟩ => show win0_2.index (pt t) 0 * 1024 + 1 * d.val = d.val; rw [(index_eq _).2.2.1]; omega
  | ⟨1, _⟩ => show win0_2.index (pt t) 1 * 1408 + 1 * j.val = 1408 * t.val + j.val; rw [(index_eq _).2.2.2]; show t.val * 1408 + _ = _; omega

/-- The gradient after the run. -/
theorem final2 (c : Dev nD) (d : Fin 1024) (t : Fin 2) (j : Fin 1408) : (dats m 0 c).arrAt 2 cfg0.N (ix2 d (col t j) : S1024x2816.Idx)
    = tn (m ((c : Thread nD τ).loc main_arg0)) (m ((c : Thread nD τ).loc main_arg1)) d (col t j) := by
  have h := (dats m 0 c).arrAt_emb_eq_flushed 2 disjoint2 (pt t) (flush0_2 _) (ix2 d j)
  refine (congrArg ((dats m 0 c).arrAt 2 cfg0.N) (emb2 t d j)).symm.trans (h.trans ?_)
  refine (cast_eq _ _).trans ((congrFun (flushed2 m c _) _).trans ?_)
  show outsAt0 m c (pt t) (ix2 d j) = _
  unfold outsAt0
  rw [out_A, pay_apply, iblk0]
  unfold tn
  exact Finset.sum_congr rfl fun n _ => by rw [iblk1 m c t n j]

end Cert.InWIdeal.Proj

namespace Cert.InWRefIdeal.Proj

open Cert.InWRefIdeal Cert.InWRefIdeal.Gen Cert.InWRefIdeal.Read Cert.Proj

/-- The reference's gradient at an index: the factors are in the other order. -/
theorem res_apply (x0 : (⟨S2176x1024, .bf16⟩ : BufTy).Contents (Elt Ideal)) (x1 : (⟨S2176x2816, .bf16⟩ : BufTy).Contents (Elt Ideal)) (d : Fin 1024) (j : Fin 2816) :
    val_main_v5 (F := Ideal) x0 x1 (ix2 d j) = tn x0 x1 d j := by
  rw [val_main_v5_apply, val_main_v4_apply]
  refine Finset.sum_congr rfl fun n _ => (mul_comm _ _).trans (congrArg₂ (· * ·) (congrArg x0 ?_) (congrArg x1 ?_)) <;> exact funext fun a => by match a with
    | ⟨0, _⟩ => rfl
    | ⟨1, _⟩ => rfl

end Cert.InWRefIdeal.Proj

namespace Cert.Proj

/-- The kernel's gradient is the reference's. -/
theorem inW : @Cert.algebraic_InWIdeal_InWRefIdeal Cert.InWIdeal.Gen.facts Cert.InWRefIdeal.Gen.facts := fun m g m' g' _ hin =>
  ⟨fun c => (Cert.InWIdeal.Gen.dats m 0 c).arrAt 2 Cert.InWIdeal.cfg0.N,
    Cert.InWIdeal.Value.run_blocks m g,
    (θ_run _ _ _).mono (fun r h c => ⟨(h c).1.trans (by
        rw [Cert.InWRefIdeal.Read.val_main_v5_eq, (hin c).1, (hin c).2]
        funext i
        obtain ⟨t, s, e⟩ := Cert.InWIdeal.Proj.col_split (i 1)
        rw [eq_ix2 i, e]
        exact (Cert.InWRefIdeal.Proj.res_apply _ _ _ _).trans (Cert.InWIdeal.Proj.final2 m c _ _ _).symm), (h c).2⟩)
      (Cert.InWRefIdeal.Value.run (F := Ideal) m' g')⟩

end Cert.Proj

end
-- ==== Proof.Proj.OutX.lean ====
/- The output projection's input gradient: a block of rows times a slab of the transposed weight is the reference's. -/
module

public import proofs.«01_k».proof.Defs
public import proofs.«01_k».proof.Proof.Proj.Sums
public import proofs.«01_k».proof.Proof.Gen.OutXIdeal.Value
public import proofs.«01_k».proof.Proof.Gen.OutXRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.OutXIdeal.Proj

open Cert.OutXIdeal Cert.OutXIdeal.Gen Cert.OutXIdeal.Value Cert.Dots Cert.Proj

variable (m : (ℓ : Loc nD τ sig) → Buf (Elt Ideal) ℓ) (ρ : Dev nD → PrngReg)

/-- Where the windows stand at point `t`: row block `t / 4`, slab `t % 4`. -/
theorem index_eq : ∀ t : Fin cfg0.N, (win0_0.index t 0 = t.val / 4 ∧ win0_0.index t 1 = 0) ∧ (win0_1.index t 0 = t.val % 4 ∧ win0_1.index t 1 = 0 ∧ win0_1.index t 2 = 0)
    ∧ (win0_2.index t 0 = t.val / 4 ∧ win0_2.index t 1 = t.val % 4) :=
  (by decide +kernel : ∀ t : Fin grid0.N, (win0_0.index t 0 = t.val / 4 ∧ win0_0.index t 1 = 0) ∧ (win0_1.index t 0 = t.val % 4 ∧ win0_1.index t 1 = 0 ∧ win0_1.index t 2 = 0)
    ∧ (win0_2.index t 0 = t.val / 4 ∧ win0_2.index t 1 = t.val % 4))

/-- The point of row block `a` and slab `k`. -/
def pt (a : Fin 2) (k : Fin 4) : Fin cfg0.N := ⟨4 * a.val + k.val, by have h : cfg0.N = 8 := N_0; omega⟩
theorem pt_div (a : Fin 2) (k : Fin 4) : (pt a k).val / 4 = a.val := by show (4 * a.val + k.val) / 4 = _; omega
theorem pt_mod (a : Fin 2) (k : Fin 4) : (pt a k).val % 4 = k.val := by show (4 * a.val + k.val) % 4 = _; omega

theorem iblk0 (c : Dev nD) (a : Fin 2) (k : Fin 4) (r : Fin 1088) (d : Fin 1024) :
    (iblk m c 0 (pt a k) : Vec Ideal S1088x1024 .bf16) (ix2 r d) = m ((c : Thread nD τ).loc main_arg0) (wide a r d) := by
  unfold iblk
  rw [View.read_apply]
  show m ((c : Thread nD τ).loc main_arg0) _ = _
  congr 1
  funext b
  refine Fin.ext ?_
  match b with
  | ⟨0, _⟩ => show win0_0.index (pt a k) 0 * 1088 + 1 * r.val = 1088 * a.val + r.val; rw [(index_eq _).1.1, pt_div]; omega
  | ⟨1, _⟩ => show win0_0.index (pt a k) 1 * 1024 + 1 * d.val = d.val; rw [(index_eq _).1.2]; omega

theorem iblk1 (c : Dev nD) (a : Fin 2) (k : Fin 4) (j : Fin 256) (d : Fin 1024) :
    (iblk m c 1 (pt a k) : Vec Ideal S1x256x1024 .bf16) (ix3 0 j d) = m ((c : Thread nD τ).loc main_arg1) (ix3 k j d) := by
  unfold iblk
  rw [View.read_apply]
  show m ((c : Thread nD τ).loc main_arg1) _ = _
  congr 1
  funext b
  refine Fin.ext ?_
  match b with
  | ⟨0, _⟩ => show win0_1.index (pt a k) 0 * 1 + 1 * 0 = k.val; rw [(index_eq _).2.1.1, pt_mod]; omega
  | ⟨1, _⟩ => show win0_1.index (pt a k) 1 * 256 + 1 * j.val = j.val; rw [(index_eq _).2.1.2.1]; omega
  | ⟨2, _⟩ => show win0_1.index (pt a k) 2 * 1024 + 1 * d.val = d.val; rw [(index_eq _).2.1.2.2]; omega

/-- What the body leaves in the result's buffer: the sum it started at zero, the one product added. -/
theorem out_A (c : Dev nD) (i : grid0.Coords) (a3 : Memref sig .tc .vmem S1088x1024 .bf16) (h3 : a3.IsWhole) (a4 : Memref sig .tc .vmem S1x256x1024 .bf16) (h4 : a4.IsWhole)
    (a5 : Memref sig .tc .vmem S1088x256 .f32) (h5 : a5.IsWhole) (a6 : Memref sig .tc .vmem S1088x256 .f32) (h6 : a6.IsWhole) (hc0 : cond0_0 i) (hc1 : cond0_1 i)
    (x0 : Vec Ideal S1088x1024 .bf16) (x1 : Vec Ideal S1x256x1024 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S1088x1024) hz2, View.ld_unit_zero (S := S1x256x1024) hz3,
    View.readCov_unit_zero (S := S1088x256) _ hz2]
  exact View.readCov_full (s := S1088x256) _ _ _ _ _

/-- An entry of the gradient: row `n` with row `j` of slab `k`. -/
def grad (g : S2176x1024.Idx → EReal) (w : S4x256x1024.Idx → EReal) (n : Fin 2176) (k : Fin 4) (j : Fin 256) : EReal := ∑ d : Fin 1024, g (ix2 n d) * w (ix3 k j d)

/-- The body's value at an index. -/
theorem pay_apply (x0 : Vec Ideal S1088x1024 .bf16) (x1 : Vec Ideal S1x256x1024 .bf16) (r : Fin 1088) (j : Fin 256) :
    k0_pay2 (F := Ideal) (k0_pay1 (F := Ideal)) x0 x1 (ix2 r j) = ∑ d : Fin 1024, x0 (ix2 r d) * x1 (ix3 0 j d) := by
  unfold k0_pay2 k0_pay1
  dsimp only
  rw [shapeCast_self, shapeCast_self]
  show Ideal.ofBits .f32 0x00000000#32 + _ = _
  rw [Ideal.ofBits_zero_f32, zero_add]
  exact (matmul_nt _ rfl rfl rfl rfl rfl rfl x0 _ r j).trans (Finset.sum_congr rfl fun d _ => congrArg (x0 (ix2 r d) * ·) (dropUnit x1 _ j d))

theorem emb2 (a : Fin 2) (k : Fin 4) (r : Fin 1088) (j : Fin 256) : ((cfg0.win 2).blk (pt a k)).view.emb (ix2 r j) = (wide a r (slab k j) : S2176x1024.Idx) := by
  funext b
  refine Fin.ext ?_
  match b with
  | ⟨0, _⟩ => show win0_2.index (pt a k) 0 * 1088 + 1 * r.val = 1088 * a.val + r.val; rw [(index_eq _).2.2.1, pt_div]; omega
  | ⟨1, _⟩ => show win0_2.index (pt a k) 1 * 256 + 1 * j.val = 256 * k.val + j.val; rw [(index_eq _).2.2.2, pt_mod]; omega

/-- The gradient after the run. -/
theorem final2 (c : Dev nD) (a : Fin 2) (k : Fin 4) (r : Fin 1088) (j : Fin 256) : (dats m 0 c).arrAt 2 cfg0.N (wide a r (slab k j) : S2176x1024.Idx)
    = grad (m ((c : Thread nD τ).loc main_arg0)) (m ((c : Thread nD τ).loc main_arg1)) ⟨1088 * a.val + r.val, by omega⟩ k j := by
  have h := (dats m 0 c).arrAt_emb_eq_flushed 2 disjoint2 (pt a k) (flush0_2 _) (ix2 r j)
  refine (congrArg ((dats m 0 c).arrAt 2 cfg0.N) (emb2 a k r j)).symm.trans (h.trans ?_)
  refine (cast_eq _ _).trans ((congrFun (flushed2 m c _) _).trans ?_)
  show outsAt0 m c (pt a k) (ix2 r j) = _
  unfold outsAt0
  rw [out_A, pay_apply]
  unfold grad
  exact Finset.sum_congr rfl fun d _ => by rw [iblk0 m c a k r d, iblk1 m c a k j d]

end Cert.OutXIdeal.Proj

namespace Cert.OutXRefIdeal.Proj

open Cert.OutXRefIdeal Cert.OutXRefIdeal.Gen Cert.OutXRefIdeal.Read Cert.Proj

/-- The reference's gradient at an index. -/
theorem res_apply (x0 : (⟨S2176x1024, .bf16⟩ : BufTy).Contents (Elt Ideal)) (x1 : (⟨S4x256x1024, .bf16⟩ : BufTy).Contents (Elt Ideal)) (n : Fin 2176) (k : Fin 4) (j : Fin 256) :
    val_main_v5 (F := Ideal) x0 x1 (ix2 n (slab k j)) = Cert.OutXIdeal.Proj.grad x0 x1 n k j := by
  rw [val_main_v5_apply]
  refine Finset.sum_congr rfl fun d _ => congrArg₂ (· * ·) (congrArg x0 ?_) ?_
  · exact funext fun a => by match a with
      | ⟨0, _⟩ => rfl
      | ⟨1, _⟩ => rfl
  · refine (val_main_v2_apply x1 _).trans ((val_main_v1_apply x1 _).trans (congrArg x1 (funext fun a => Fin.ext ?_)))
    match a with
    | ⟨0, _⟩ => show ((256 * k.val + j.val) * 1024 + d.val) / 262144 = k.val; omega
    | ⟨1, _⟩ => show ((256 * k.val + j.val) * 1024 + d.val) / 1024 % 256 = j.val; omega
    | ⟨2, _⟩ => show ((256 * k.val + j.val) * 1024 + d.val) % 1024 = d.val; omega

end Cert.OutXRefIdeal.Proj

namespace Cert.Proj

/-- The kernel's gradient is the reference's. -/
theorem outX : @Cert.algebraic_OutXIdeal_OutXRefIdeal Cert.OutXIdeal.Gen.facts Cert.OutXRefIdeal.Gen.facts := fun m g m' g' _ hin =>
  ⟨fun c => (Cert.OutXIdeal.Gen.dats m 0 c).arrAt 2 Cert.OutXIdeal.cfg0.N,
    Cert.OutXIdeal.Value.run_blocks m g,
    (θ_run _ _ _).mono (fun r h c => ⟨(h c).1.trans (by
        rw [Cert.OutXRefIdeal.Read.val_main_v5_eq, (hin c).1, (hin c).2]
        funext i
        obtain ⟨a, s, n, e⟩ := Cert.Dots.wide_split i
        obtain ⟨k, j, e'⟩ := Cert.Proj.slab_split n
        rw [e, e']
        exact (Cert.OutXRefIdeal.Proj.res_apply _ _ _ _ _).trans (Cert.OutXIdeal.Proj.final2 m c _ _ _ _).symm), (h c).2⟩)
      (Cert.OutXRefIdeal.Value.run (F := Ideal) m' g')⟩

end Cert.Proj

end
-- ==== Proof.Proj.OutW.lean ====
/- The output projection's weight gradient: a slab of the transposed input times the gradient is the reference's. -/
module

public import proofs.«01_k».proof.Defs
public import proofs.«01_k».proof.Proof.Proj.Sums
public import proofs.«01_k».proof.Proof.Gen.OutWIdeal.Value
public import proofs.«01_k».proof.Proof.Gen.OutWRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.OutWIdeal.Proj

open Cert.OutWIdeal Cert.OutWIdeal.Gen Cert.OutWIdeal.Value Cert.Dots Cert.Proj

variable (m : (ℓ : Loc nD τ sig) → Buf (Elt Ideal) ℓ) (ρ : Dev nD → PrngReg)

/-- Where the windows stand at point `t`: the input's columns and the result's slab `t`, the gradient whole. -/
theorem index_eq : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0 ∧ win0_2.index t 2 = 0) :=
  (by decide +kernel : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0 ∧ win0_2.index t 2 = 0))

theorem iblk0 (c : Dev nD) (t : Fin cfg0.N) (n : Fin 2176) (j : Fin 256) :
    (iblk m c 0 t : Vec Ideal S2176x256 .bf16) (ix2 n j) = m ((c : Thread nD τ).loc main_arg0) (ix2 n ⟨256 * t.val + j.val, by have := t.isLt; have h : cfg0.N = 4 := N_0; omega⟩) := by
  unfold iblk
  rw [View.read_apply]
  show m ((c : Thread nD τ).loc main_arg0) _ = _
  congr 1
  funext a
  refine Fin.ext ?_
  match a with
  | ⟨0, _⟩ => show win0_0.index t 0 * 2176 + 1 * n.val = n.val; rw [(index_eq t).1.1]; omega
  | ⟨1, _⟩ => show win0_0.index t 1 * 256 + 1 * j.val = 256 * t.val + j.val; rw [(index_eq t).1.2]; omega

theorem iblk1 (c : Dev nD) (t : Fin cfg0.N) : (iblk m c 1 t : Vec Ideal S2176x1024 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 2176 + 1 * (y 0).val = (y 0).val; rw [(index_eq t).2.1.1]; omega
  | ⟨1, _⟩ => show win0_1.index t 1 * 1024 + 1 * (y 1).val = (y 1).val; rw [(index_eq t).2.1.2]; omega

/-- What the body leaves in the result's buffer: the sum it started at zero, the one product added. -/
theorem out_A (c : Dev nD) (i : grid0.Coords) (a3 : Memref sig .tc .vmem S2176x256 .bf16) (h3 : a3.IsWhole) (a4 : Memref sig .tc .vmem S2176x1024 .bf16) (h4 : a4.IsWhole)
    (a5 : Memref sig .tc .vmem S1x256x1024 .f32) (h5 : a5.IsWhole) (a6 : Memref sig .tc .vmem S256x1024 .f32) (h6 : a6.IsWhole) (hc0 : cond0_0 i) (hc1 : cond0_1 i)
    (x0 : Vec Ideal S2176x256 .bf16) (x1 : Vec Ideal S2176x1024 .bf16) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz3]
  simp only [View.readAt_eq_ld, h3.read_unread, h4.read_unread, View.ld_unit_zero (S := S2176x256) hz2, View.ld_unit_zero (S := S2176x1024) hz2,
    View.readCov_unit_zero (S := S256x1024) _ hz2]
  exact congrArg k0_pay3 (View.readCov_full (s := S256x1024) _ _ _ _ _)

/-- That at an index. -/
theorem pay_apply (x0 : Vec Ideal S2176x256 .bf16) (x1 : Vec Ideal S2176x1024 .bf16) (z : Fin 1) (j : Fin 256) (d : Fin 1024) :
    k0_pay3 (F := Ideal) (k0_pay2 k0_pay1 x0 x1) (ix3 z j d) = ∑ n : Fin 2176, x0 (ix2 n j) * x1 (ix2 n d) := by
  unfold k0_pay3
  refine (addUnit _ _ z j d).trans ?_
  unfold k0_pay2 k0_pay1
  dsimp only
  rw [shapeCast_self, shapeCast_self]
  show Ideal.ofBits .f32 0x00000000#32 + _ = _
  rw [Ideal.ofBits_zero_f32, zero_add]
  exact matmul_tn _ rfl rfl rfl rfl rfl rfl x0 x1 j d

theorem emb2 (t : Fin cfg0.N) (h : t.val < 4) (z : Fin 1) (j : Fin 256) (d : Fin 1024) :
    ((cfg0.win 2).blk t).view.emb (ix3 z j d) = (ix3 ⟨t.val, h⟩ j d : S4x256x1024.Idx) := by
  funext a
  refine Fin.ext ?_
  match a with
  | ⟨0, _⟩ => show win0_2.index t 0 * 1 + 1 * z.val = t.val; rw [(index_eq t).2.2.1]; omega
  | ⟨1, _⟩ => show win0_2.index t 1 * 256 + 1 * j.val = j.val; rw [(index_eq t).2.2.2.1]; omega
  | ⟨2, _⟩ => show win0_2.index t 2 * 1024 + 1 * d.val = d.val; rw [(index_eq t).2.2.2.2]; omega

/-- The weight gradient after the run. -/
theorem final2 (c : Dev nD) (k : Fin 4) (j : Fin 256) (d : Fin 1024) : (dats m 0 c).arrAt 2 cfg0.N (ix3 k j d : S4x256x1024.Idx)
    = tn (m ((c : Thread nD τ).loc main_arg0)) (m ((c : Thread nD τ).loc main_arg1)) (slab k j) d := by
  have hN : cfg0.N = 4 := N_0
  have h := (dats m 0 c).arrAt_emb_eq_flushed 2 disjoint2 ⟨k.val, by omega⟩ (flush0_2 _) (ix3 0 j d)
  refine (congrArg ((dats m 0 c).arrAt 2 cfg0.N) (emb2 ⟨k.val, by omega⟩ k.isLt 0 j d)).symm.trans (h.trans ?_)
  refine (cast_eq _ _).trans ((congrFun (flushed2 m c _) _).trans ?_)
  show outsAt0 m c ⟨k.val, by omega⟩ (ix3 0 j d) = _
  unfold outsAt0
  rw [out_A, pay_apply, iblk1]
  unfold tn
  refine Finset.sum_congr rfl fun n _ => ?_
  rw [iblk0 m c _ n j]

end Cert.OutWIdeal.Proj

namespace Cert.OutWRefIdeal.Proj

open Cert.OutWRefIdeal Cert.OutWRefIdeal.Gen Cert.OutWRefIdeal.Read Cert.Proj

/-- The reference's gradient at an index. -/
theorem res_apply (x0 : (⟨S2176x1024, .bf16⟩ : BufTy).Contents (Elt Ideal)) (x1 : (⟨S2176x1024, .bf16⟩ : BufTy).Contents (Elt Ideal)) (k : Fin 4) (j : Fin 256) (d : Fin 1024) :
    val_main_v7 (F := Ideal) x0 x1 (ix3 k j d) = tn x0 x1 (slab k j) d := by
  rw [val_main_v7_apply, val_main_v6_apply, val_main_v5_apply]
  refine Finset.sum_congr rfl fun n _ => (mul_comm _ _).trans (congrArg₂ (· * ·) (congrArg x0 ?_) (congrArg x1 ?_)) <;> funext a <;> refine Fin.ext ?_
  · match a with
    | ⟨0, _⟩ => rfl
    | ⟨1, _⟩ => show ((k.val * 256 + j.val) * 1024 + d.val) / 1024 = 256 * k.val + j.val; omega
  · match a with
    | ⟨0, _⟩ => rfl
    | ⟨1, _⟩ => show ((k.val * 256 + j.val) * 1024 + d.val) % 1024 = d.val; omega

end Cert.OutWRefIdeal.Proj

namespace Cert.Proj

/-- The kernel's weight gradient is the reference's. -/
theorem outW : @Cert.algebraic_OutWIdeal_OutWRefIdeal Cert.OutWIdeal.Gen.facts Cert.OutWRefIdeal.Gen.facts := fun m g m' g' _ hin =>
  ⟨fun c => (Cert.OutWIdeal.Gen.dats m 0 c).arrAt 2 Cert.OutWIdeal.cfg0.N,
    Cert.OutWIdeal.Value.run_blocks m g,
    (θ_run _ _ _).mono (fun r h c => ⟨(h c).1.trans (by
        rw [Cert.OutWRefIdeal.Read.val_main_v7_eq, (hin c).1, (hin c).2]
        funext i
        rw [eq_ix3 i]
        exact (Cert.OutWRefIdeal.Proj.res_apply _ _ _ _ _).trans (Cert.OutWIdeal.Proj.final2 m c _ _ _).symm), (h c).2⟩)
      (Cert.OutWRefIdeal.Value.run (F := Ideal) m' g')⟩

end Cert.Proj

end
-- ==== Proof.Proj.OutLn.lean ====
/- The output projection with the residual normalisation: the kernel's four accumulating steps and its last step's mean and variance are the reference's. -/
module

public import proofs.«01_k».proof.Defs
public import proofs.«01_k».proof.Proof.Proj.Sums
public import proofs.«01_k».proof.Proof.Ffn.DownLn
public import proofs.«01_k».proof.Proof.Gen.OutLnIdeal.Value
public import proofs.«01_k».proof.Proof.Gen.OutLnRefIdeal.Read
public import Idealize.ShloMosaic.Lib.VecWindow
public import Idealize.ShloMosaic.Lib.IdealHost

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Proj.Ln

/-- An index of the output projection's input: a row of one of two blocks of 1088 rows, a column of one of four slabs of 256. -/
abbrev hid (a : Fin 2) (r : Fin 1088) (k : Fin 4) (j : Fin 256) : (⟨2, ![2176, 1024]⟩ : Shape).Idx :=
  ix2 ⟨1088 * a.val + r.val, by omega⟩ ⟨256 * k.val + j.val, by omega⟩

/-- A sum over the 1024 columns, slab by slab. -/
theorem sum_slabs (f : Fin 1024 → EReal) : ∑ q, f q = ∑ k : Fin 4, ∑ j : Fin 256, f ⟨256 * k.val + j.val, by omega⟩ := by
  rw [← Fintype.sum_prod_type' (f := fun (k : Fin 4) (j : Fin 256) => f ⟨256 * k.val + j.val, by omega⟩)]
  refine (Equiv.sum_comp (finProdFinEquiv (m := 4) (n := 256)) f).symm.trans (Finset.sum_congr rfl fun p _ => congrArg f (Fin.ext ?_))
  show p.2.val + 256 * p.1.val = 256 * p.1.val + p.2.val
  omega

/-- The product of slab `k` of the columns with the weight's slab `k`. -/
def slabSum (x : (⟨2, ![2176, 1024]⟩ : Shape).Idx → EReal) (w : (⟨3, ![4, 256, 1024]⟩ : Shape).Idx → EReal) (n : Fin 2176) (d : Fin 1024) (k : Fin 4) : EReal :=
  ∑ j : Fin 256, x (ix2 n ⟨256 * k.val + j.val, by omega⟩) * w (ix3 k j d)

/-- The row that is normalised: the residual scaled and the product, scaled by one. -/
def resid (h o : EReal) : EReal := Ideal.ofBits .f32 0x3FB504F3#32 * h + Ideal.ofBits .f32 0x3F800000#32 * o

theorem resid_eq (h o : EReal) : resid h o = Ideal.ofBits .f32 0x3FB504F3#32 * h + o := by rw [resid, Ideal.ofBits_one_f32, one_mul]

end Cert.Proj.Ln

namespace Cert.OutLnIdeal.Proj

open Cert.OutLnIdeal Cert.OutLnIdeal.Gen Cert.OutLnIdeal.Value Cert.Proj.Ln
open Cert.Dots hiding hid sum_slabs slabSum resid

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the first step of a row block, -/
theorem sout_A (c : Dev nD) (i : grid0.Coords) (a2 : Memref sig .tc .vmem S1088x256 .bf16) (h2 : a2.IsWhole) (a3 : Memref sig .tc .vmem S1x256x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : cond0_0 i) (hc1 : ¬cond0_1 i) (x0 : Vec Ideal S1088x256 .bf16) (x1 : Vec Ideal S1x256x1024 .bf16) (x2 : Vec Ideal S1088x1024 .f32) (x3 x4 : Vec Ideal S1x1024 .f32) :
    sout0_A_0 c i a2 h2 a3 h3 a4 h4 a5 h5 a6 h6 a7 h7 a8 h8 a9 h9 a10 h10 hc0 hc1 x0 x1 x2 x3 x4 = k0_pay2 k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1088x1024) hz2]
  simp only [View.readAt_eq_ld, h2.read_unread, h3.read_unread, h4.read_unread, h5.read_unread, h6.read_unread, h10.read_unread, View.ld_unit_zero (S := S1088x256) hz2, View.ld_unit_zero (S := S1088x1024) hz2,
    View.ld_unit_zero (S := S1x1024) hz2, View.ld_unit_zero (S := S1x256x1024) hz3, View.readCov_unit_zero (S := S1088x1024) _ hz2]

/-- after a middle step, -/
theorem sout_B (c : Dev nD) (i : grid0.Coords) (a2 : Memref sig .tc .vmem S1088x256 .bf16) (h2 : a2.IsWhole) (a3 : Memref sig .tc .vmem S1x256x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : ¬cond0_1 i) (x0 : Vec Ideal S1088x256 .bf16) (x1 : Vec Ideal S1x256x1024 .bf16) (x2 : Vec Ideal S1088x1024 .f32) (x3 x4 : Vec Ideal S1x1024 .f32) (xs0 : Vec Ideal S1088x1024 .f32) :
    sout0_B_0 c i a2 h2 a3 h3 a4 h4 a5 h5 a6 h6 a7 h7 a8 h8 a9 h9 a10 h10 hc0 hc1 x0 x1 x2 x3 x4 xs0 = k0_pay2 xs0 x0 x1 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0)]
  unfold kernelRun0_B
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x256) hz2, View.ld_unit_zero (S := S1088x1024) hz2,
    View.ld_unit_zero (S := S1x1024) hz2, View.ld_unit_zero (S := S1x256x1024) hz3, View.readCov_unit_zero (S := S1088x1024) _ hz2]

/-- and the results' buffers after the last: the product, -/
theorem out_C5 (c : Dev nD) (i : grid0.Coords) (a2 : Memref sig .tc .vmem S1088x256 .bf16) (h2 : a2.IsWhole) (a3 : Memref sig .tc .vmem S1x256x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : cond0_1 i) (x0 : Vec Ideal S1088x256 .bf16) (x1 : Vec Ideal S1x256x1024 .bf16) (x2 : Vec Ideal S1088x1024 .f32) (x3 x4 : Vec Ideal S1x1024 .f32) (xs0 : Vec Ideal S1088x1024 .f32) :
    out0_C_5 c i a2 h2 a3 h3 a4 h4 a5 h5 a6 h6 a7 h7 a8 h8 a9 h9 a10 h10 hc0 hc1 x0 x1 x2 x3 x4 xs0 = k0_pay2 xs0 x0 x1 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x256) hz2, View.ld_unit_zero (S := S1088x1024) hz2,
    View.ld_unit_zero (S := S1x1024) hz2, View.ld_unit_zero (S := S1x256x1024) hz3, View.readCov_unit_zero (S := S1088x1024) _ hz2]

/-- the normalised row -/
theorem out_C6 (c : Dev nD) (i : grid0.Coords) (a2 : Memref sig .tc .vmem S1088x256 .bf16) (h2 : a2.IsWhole) (a3 : Memref sig .tc .vmem S1x256x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : cond0_1 i) (x0 : Vec Ideal S1088x256 .bf16) (x1 : Vec Ideal S1x256x1024 .bf16) (x2 : Vec Ideal S1088x1024 .f32) (x3 x4 : Vec Ideal S1x1024 .f32) (xs0 : Vec Ideal S1088x1024 .f32) :
    out0_C_6 c i a2 h2 a3 h3 a4 h4 a5 h5 a6 h6 a7 h7 a8 h8 a9 h9 a10 h10 hc0 hc1 x0 x1 x2 x3 x4 xs0 = k0_pay3 (k0_pay2 xs0 x0 x1) x2 x3 x4 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x256) hz2, View.ld_unit_zero (S := S1088x1024) hz2,
    View.ld_unit_zero (S := S1x1024) hz2, View.ld_unit_zero (S := S1x256x1024) hz3, View.readCov_unit_zero (S := S1088x1024) _ hz2]

/-- and its rounding. -/
theorem out_C7 (c : Dev nD) (i : grid0.Coords) (a2 : Memref sig .tc .vmem S1088x256 .bf16) (h2 : a2.IsWhole) (a3 : Memref sig .tc .vmem S1x256x1024 .bf16) (h3 : a3.IsWhole) (a4 : Memref sig .tc .vmem S1088x1024 .f32) (h4 : a4.IsWhole)
    (a5 a6 : Memref sig .tc .vmem S1x1024 .f32) (h5 : a5.IsWhole) (h6 : a6.IsWhole) (a7 a8 : Memref sig .tc .vmem S1088x1024 .f32) (h7 : a7.IsWhole) (h8 : a8.IsWhole) (a9 : Memref sig .tc .vmem S1088x1024 .bf16) (h9 : a9.IsWhole)
    (a10 : Memref sig .tc .vmem S1088x1024 .f32) (h10 : a10.IsWhole) (hc0 : ¬cond0_0 i) (hc1 : cond0_1 i) (x0 : Vec Ideal S1088x256 .bf16) (x1 : Vec Ideal S1x256x1024 .bf16) (x2 : Vec Ideal S1088x1024 .f32) (x3 x4 : Vec Ideal S1x1024 .f32) (xs0 : Vec Ideal S1088x1024 .f32) :
    out0_C_7 c i a2 h2 a3 h3 a4 h4 a5 h5 a6 h6 a7 h7 a8 h8 a9 h9 a10 h10 hc0 hc1 x0 x1 x2 x3 x4 xs0 = k0_pay4 (k0_pay2 xs0 x0 x1) x2 x3 x4 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 xs0)]
  unfold kernelRun0_C
  dsimp only
  sl_unfold_words
  rw [View.canon_unit_zero (S := S1088x1024) hz2]
  simp only [View.readAt_eq_ld, h2.read_unread, h3.read_unread, h4.read_unread, h5.read_unread, h6.read_unread, h10.read_unread, View.ld_unit_zero (S := S1088x256) hz2, View.ld_unit_zero (S := S1088x1024) hz2,
    View.ld_unit_zero (S := S1x1024) hz2, View.ld_unit_zero (S := S1x256x1024) hz3, View.readCov_unit_zero (S := S1088x1024) _ hz2]

/-- A step at an index: the blocks' product added. -/
theorem pay2_apply (v3 : Vec Ideal S1088x1024 .f32) (v4 : Vec Ideal S1088x256 .bf16) (v5 : Vec Ideal S1x256x1024 .bf16) (r : Fin 1088) (d : Fin 1024) :
    k0_pay2 v3 v4 v5 (ix2 r d) = v3 (ix2 r d) + ∑ j : Fin 256, v4 (ix2 r j) * v5 (ix3 0 j d) := by
  unfold k0_pay2
  rw [shapeCast_self]
  exact congrArg (v3 (ix2 r d) + ·) ((matmul_nn _ rfl rfl rfl rfl rfl rfl v4 _ r d).trans (Finset.sum_congr rfl fun j _ => congrArg (v4 (ix2 r j) * ·) (dropUnit v5 _ j d)))

/-- The accumulator's start at an index. -/
theorem pay1_apply (i : S1088x1024.Idx) : (k0_pay1 (F := Ideal)) i = 0 := by
  unfold k0_pay1
  rw [shapeCast_self]
  exact Ideal.ofBits_zero_f32

/-- A row's sum as a column, -/
theorem rowSum_apply (v : FVec Ideal S1088x1024 .f32) (r : Fin 1088) :
    shapeCast S1088x1 (multiReduction .add [1] S1088 v 0x00000000#32 reduces_S1088x1024_S1088 (.inl rfl) rfl) shapeCasts_S1088_S1088x1 (ix2 r 0) = ∑ e : Fin 1024, v (ix2 r e) := by
  refine (shapeCast_apply _ shapeCasts_S1088_S1088x1 (ix2 r 0) (ix1 r) ?_).trans ?_
  · rw [Shape.rowMajor_val_one, Shape.rowMajor_val_two]
    show r.val = r.val * 1 + 0
    omega
  · refine (Ideal.multiReduction_add_single v _ _ _ _ _).trans (Finset.sum_congr rfl fun e _ => congrArg v (funext fun b => Fin.ext ?_))
    match b with
    | ⟨0, _⟩ => rfl
    | ⟨1, _⟩ => rfl

/-- a column spread over the row, -/
theorem spread_apply (v : FVec Ideal S1088x1 .f32) (r : Fin 1088) (d : Fin 1024) : broadcastTo S1088x1024 v broadcasts_S1088x1_S1088x1024 (ix2 r d) = v (ix2 r 0) :=
  broadcastTo_apply v _ _ _ fun a => match a with
    | ⟨0, _⟩ => rfl
    | ⟨1, _⟩ => rfl

/-- and a row spread over the block. -/
theorem under_apply (v : Vec Ideal S1x1024 .f32) (r : Fin 1088) (d : Fin 1024) : broadcastTo S1088x1024 v broadcasts_S1x1024_S1088x1024 (ix2 r d) = v (ix2 0 d) :=
  broadcastTo_apply v _ _ _ fun a => match a with
    | ⟨0, _⟩ => rfl
    | ⟨1, _⟩ => rfl

/-- The last step's normalisation at an index. -/
theorem pay3_apply (o h : Vec Ideal S1088x1024 .f32) (g b : Vec Ideal S1x1024 .f32) (r : Fin 1088) (d : Fin 1024) :
    k0_pay3 o h g b (ix2 r d) = lnRow (fun e => resid (h (ix2 r e)) (o (ix2 r e))) (g (ix2 0 d)) (b (ix2 0 d)) d := by
  unfold k0_pay3
  dsimp only
  refine congrArg₂ (· + ·) (congrArg₂ (· * ·) (congrArg₂ (· * ·) (congrArg₂ (· - ·) rfl ?mean) ?inv) (under_apply g r d)) (under_apply b r d)
  case mean => exact (spread_apply _ r d).trans (congrArg (Ideal.div · _) (rowSum_apply _ r))
  case inv =>
    refine (spread_apply _ r d).trans (congrArg Ideal.rsqrt (congrArg (· + _) (congrArg (Ideal.div · _) ((rowSum_apply _ r).trans (Finset.sum_congr rfl fun e _ => ?_)))))
    have hm := congrArg (resid (h (ix2 r e)) (o (ix2 r e)) - ·) ((spread_apply _ r e).trans (congrArg (Ideal.div · (Ideal.ofBits .f32 0x44800000#32))
      (rowSum_apply (fun i => resid (h i) (o i)) r)) : broadcastTo S1088x1024 (divf (shapeCast S1088x1 (multiReduction .add [1] S1088 (fun i => resid (h i) (o i) : FVec Ideal S1088x1024 .f32)
        0x00000000#32 reduces_S1088x1024_S1088 (.inl rfl) rfl) shapeCasts_S1088_S1088x1) (broadcast S1088x1 (Scalar.ofBits .f32 0x44800000#32))) broadcasts_S1088x1_S1088x1024 (ix2 r e) = _)
    exact congrArg₂ (· * ·) hm hm

/-- Where the windows stand at point `t`: row block `t / 4`, slab `t % 4`. -/
theorem in_eq : ∀ t : Fin cfg0.N, (win0_0.index t 0 = t.val / 4 ∧ win0_0.index t 1 = t.val % 4) ∧ (win0_1.index t 0 = t.val % 4 ∧ win0_1.index t 1 = 0 ∧ win0_1.index t 2 = 0)
    ∧ (win0_3.index t 0 = 0 ∧ win0_3.index t 1 = 0) ∧ (win0_4.index t 0 = 0 ∧ win0_4.index t 1 = 0) :=
  (by decide +kernel : ∀ t : Fin grid0.N, (win0_0.index t 0 = t.val / 4 ∧ win0_0.index t 1 = t.val % 4) ∧ (win0_1.index t 0 = t.val % 4 ∧ win0_1.index t 1 = 0 ∧ win0_1.index t 2 = 0)
    ∧ (win0_3.index t 0 = 0 ∧ win0_3.index t 1 = 0) ∧ (win0_4.index t 0 = 0 ∧ win0_4.index t 1 = 0))
theorem row_eq : ∀ t : Fin cfg0.N, (win0_2.index t 0 = t.val / 4 ∧ win0_2.index t 1 = 0) ∧ (win0_5.index t 0 = t.val / 4 ∧ win0_5.index t 1 = 0)
    ∧ (win0_6.index t 0 = t.val / 4 ∧ win0_6.index t 1 = 0) ∧ (win0_7.index t 0 = t.val / 4 ∧ win0_7.index t 1 = 0) :=
  (by decide +kernel : ∀ t : Fin grid0.N, (win0_2.index t 0 = t.val / 4 ∧ win0_2.index t 1 = 0) ∧ (win0_5.index t 0 = t.val / 4 ∧ win0_5.index t 1 = 0)
    ∧ (win0_6.index t 0 = t.val / 4 ∧ win0_6.index t 1 = 0) ∧ (win0_7.index t 0 = t.val / 4 ∧ win0_7.index t 1 = 0))

/-- The point of row block `a` and slab `k`. -/
def pt (a : Fin 2) (k : Fin 4) : Fin cfg0.N := ⟨4 * a.val + k.val, by have h : cfg0.N = 8 := N_0; omega⟩
theorem pt_div (a : Fin 2) (k : Fin 4) : (pt a k).val / 4 = a.val := by show (4 * a.val + k.val) / 4 = _; omega
theorem pt_mod (a : Fin 2) (k : Fin 4) : (pt a k).val % 4 = k.val := by show (4 * a.val + k.val) % 4 = _; omega

theorem iblk0 (c : Dev nD) (a : Fin 2) (k : Fin 4) (r : Fin 1088) (j : Fin 256) :
    (iblk m c 0 (pt a k) : Vec Ideal S1088x256 .bf16) (ix2 r j) = m ((c : Thread nD τ).loc main_arg0) (hid a r k j) := by
  unfold iblk
  rw [View.read_apply]
  show m ((c : Thread nD τ).loc main_arg0) _ = _
  congr 1
  funext b
  refine Fin.ext ?_
  match b with
  | ⟨0, _⟩ => show win0_0.index (pt a k) 0 * 1088 + 1 * r.val = 1088 * a.val + r.val; rw [(in_eq _).1.1, pt_div]; omega
  | ⟨1, _⟩ => show win0_0.index (pt a k) 1 * 256 + 1 * j.val = 256 * k.val + j.val; rw [(in_eq _).1.2, pt_mod]; omega

theorem iblk1 (c : Dev nD) (a : Fin 2) (k : Fin 4) (j : Fin 256) (d : Fin 1024) :
    (iblk m c 1 (pt a k) : Vec Ideal S1x256x1024 .bf16) (ix3 0 j d) = m ((c : Thread nD τ).loc main_arg1) (ix3 k j d) := by
  unfold iblk
  rw [View.read_apply]
  show m ((c : Thread nD τ).loc main_arg1) _ = _
  congr 1
  funext b
  refine Fin.ext ?_
  match b with
  | ⟨0, _⟩ => show win0_1.index (pt a k) 0 * 1 + 1 * 0 = k.val; rw [(in_eq _).2.1.1, pt_mod]; omega
  | ⟨1, _⟩ => show win0_1.index (pt a k) 1 * 256 + 1 * j.val = j.val; rw [(in_eq _).2.1.2.1]; omega
  | ⟨2, _⟩ => show win0_1.index (pt a k) 2 * 1024 + 1 * d.val = d.val; rw [(in_eq _).2.1.2.2]; omega

theorem iblk2 (c : Dev nD) (a : Fin 2) (k : Fin 4) (r : Fin 1088) (d : Fin 1024) :
    (iblk m c 2 (pt a k) : Vec Ideal S1088x1024 .f32) (ix2 r d) = m ((c : Thread nD τ).loc main_arg2) (wide a r d) := by
  unfold iblk
  rw [View.read_apply]
  show m ((c : Thread nD τ).loc main_arg2) _ = _
  congr 1
  funext b
  refine Fin.ext ?_
  match b with
  | ⟨0, _⟩ => show win0_2.index (pt a k) 0 * 1088 + 1 * r.val = 1088 * a.val + r.val; rw [(row_eq _).1.1, pt_div]; omega
  | ⟨1, _⟩ => show win0_2.index (pt a k) 1 * 1024 + 1 * d.val = d.val; rw [(row_eq _).1.2]; omega

theorem iblk3 (c : Dev nD) (a : Fin 2) (k : Fin 4) (d : Fin 1024) :
    (iblk m c 3 (pt a k) : Vec Ideal S1x1024 .f32) (ix2 0 d) = m ((c : Thread nD τ).loc main_arg3) (ix2 0 d) := by
  unfold iblk
  rw [View.read_apply]
  show m ((c : Thread nD τ).loc main_arg3) _ = _
  congr 1
  funext b
  refine Fin.ext ?_
  match b with
  | ⟨0, _⟩ => show win0_3.index (pt a k) 0 * 1 + 1 * 0 = 0; rw [(in_eq _).2.2.1.1]
  | ⟨1, _⟩ => show win0_3.index (pt a k) 1 * 1024 + 1 * d.val = d.val; rw [(in_eq _).2.2.1.2]; omega

theorem iblk4 (c : Dev nD) (a : Fin 2) (k : Fin 4) (d : Fin 1024) :
    (iblk m c 4 (pt a k) : Vec Ideal S1x1024 .f32) (ix2 0 d) = m ((c : Thread nD τ).loc main_arg4) (ix2 0 d) := by
  unfold iblk
  rw [View.read_apply]
  show m ((c : Thread nD τ).loc main_arg4) _ = _
  congr 1
  funext b
  refine Fin.ext ?_
  match b with
  | ⟨0, _⟩ => show win0_4.index (pt a k) 0 * 1 + 1 * 0 = 0; rw [(in_eq _).2.2.2.1]
  | ⟨1, _⟩ => show win0_4.index (pt a k) 1 * 1024 + 1 * d.val = d.val; rw [(in_eq _).2.2.2.2]; omega

/-- What the step at row block `a` and slab `k` adds. -/
def term (c : Dev nD) (a : Fin 2) (r : Fin 1088) (d : Fin 1024) (k : Fin 4) : EReal :=
  slabSum (m ((c : Thread nD τ).loc main_arg0)) (m ((c : Thread nD τ).loc main_arg1)) ⟨1088 * a.val + r.val, by omega⟩ d k

theorem step_apply (c : Dev nD) (a : Fin 2) (k : Fin 4) (v : Vec Ideal S1088x1024 .f32) (r : Fin 1088) (d : Fin 1024) :
    k0_pay2 v (iblk m c 0 (pt a k)) (iblk m c 1 (pt a k)) (ix2 r d) = v (ix2 r d) + term m c a r d k := by
  rw [pay2_apply]
  unfold term slabSum
  refine congrArg (v (ix2 r d) + ·) (Finset.sum_congr rfl fun j _ => ?_)
  rw [iblk0 m c a k r j, iblk1 m c a k j d]

/-- The accumulator after the first three steps, -/
theorem acc0 (c : Dev nD) (a : Fin 2) (r : Fin 1088) (d : Fin 1024) : (outsAt0 m c (pt a 0).val (pt a 0).isLt).2.2.2 (ix2 r d) = term m c a r d 0 := by
  rw [outsAt0_A m c (pt a 0) (by rw [pt_mod]; rfl) (by rw [pt_mod]; decide), sout_A]
  exact (step_apply m c a 0 _ r d).trans (by rw [pay1_apply, zero_add])
theorem acc1 (c : Dev nD) (a : Fin 2) (r : Fin 1088) (d : Fin 1024) : (outsAt0 m c (pt a 1).val (pt a 1).isLt).2.2.2 (ix2 r d) = term m c a r d 0 + term m c a r d 1 := by
  rw [outsAt0_B m c (pt a 1) (by rw [pt_mod]; decide) (by rw [pt_mod]; decide), sout_B]
  exact (step_apply m c a 1 _ r d).trans (congrArg (· + _) (acc0 m c a r d))
theorem acc2 (c : Dev nD) (a : Fin 2) (r : Fin 1088) (d : Fin 1024) :
    (outsAt0 m c (pt a 2).val (pt a 2).isLt).2.2.2 (ix2 r d) = term m c a r d 0 + term m c a r d 1 + term m c a r d 2 := by
  rw [outsAt0_B m c (pt a 2) (by rw [pt_mod]; decide) (by rw [pt_mod]; decide), sout_B]
  exact (step_apply m c a 2 _ r d).trans (congrArg (· + _) (acc1 m c a r d))

/-- and the whole product. -/
def prod (c : Dev nD) (a : Fin 2) (r : Fin 1088) (d : Fin 1024) : EReal := term m c a r d 0 + term m c a r d 1 + term m c a r d 2 + term m c a r d 3

theorem last_apply (c : Dev nD) (a : Fin 2) (r : Fin 1088) (d : Fin 1024) :
    k0_pay2 (outsAt0 m c (pt a 2).val (pt a 2).isLt).2.2.2 (iblk m c 0 (pt a 3)) (iblk m c 1 (pt a 3)) (ix2 r d) = prod m c a r d :=
  (step_apply m c a 3 _ r d).trans (congrArg (· + _) (acc2 m c a r d))

/-- The normalised row of the kernel. -/
def norm (c : Dev nD) (a : Fin 2) (r : Fin 1088) (d : Fin 1024) : EReal :=
  lnRow (fun e => resid (m ((c : Thread nD τ).loc main_arg2) (wide a r e)) (prod m c a r e)) (m ((c : Thread nD τ).loc main_arg3) (ix2 0 d)) (m ((c : Thread nD τ).loc main_arg4) (ix2 0 d)) d

theorem norm_apply (c : Dev nD) (a : Fin 2) (r : Fin 1088) (d : Fin 1024) :
    k0_pay3 (k0_pay2 (outsAt0 m c (pt a 2).val (pt a 2).isLt).2.2.2 (iblk m c 0 (pt a 3)) (iblk m c 1 (pt a 3))) (iblk m c 2 (pt a 3)) (iblk m c 3 (pt a 3)) (iblk m c 4 (pt a 3)) (ix2 r d)
      = norm m c a r d := by
  rw [pay3_apply, iblk3 m c a 3 d, iblk4 m c a 3 d]
  exact congrArg (lnRow · _ _ d) (funext fun e => congrArg₂ resid (iblk2 m c a 3 r e) (last_apply m c a r e))

/-- The results' blocks after the last step. -/
theorem res5 (c : Dev nD) (a : Fin 2) (r : Fin 1088) (d : Fin 1024) : (outsAt0 m c (pt a 3).val (pt a 3).isLt).1 (ix2 r d) = prod m c a r d := by
  rw [outsAt0_C m c (pt a 3) (by rw [pt_mod]; decide) (by rw [pt_mod]; rfl), out_C5]
  exact last_apply m c a r d
theorem res6 (c : Dev nD) (a : Fin 2) (r : Fin 1088) (d : Fin 1024) : (outsAt0 m c (pt a 3).val (pt a 3).isLt).2.1 (ix2 r d) = norm m c a r d := by
  rw [outsAt0_C m c (pt a 3) (by rw [pt_mod]; decide) (by rw [pt_mod]; rfl), out_C6]
  exact norm_apply m c a r d
theorem res7 (c : Dev nD) (a : Fin 2) (r : Fin 1088) (d : Fin 1024) : (outsAt0 m c (pt a 3).val (pt a 3).isLt).2.2.1 (ix2 r d) = norm m c a r d := by
  rw [outsAt0_C m c (pt a 3) (by rw [pt_mod]; decide) (by rw [pt_mod]; rfl), out_C7]
  exact norm_apply m c a r d

theorem flush_inj5 : ∀ t t' : Fin cfg0.N, (cfg0.win 5).flush t = true → (cfg0.win 5).flush t' = true → win0_5.index t = win0_5.index t' → t = t' :=
  (by decide +kernel : ∀ t t' : Fin grid0.N, win0_5.flush t = true → win0_5.flush t' = true → win0_5.index t = win0_5.index t' → t = t')
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => (cfg0.win 5).disjoint_blk fun e => hne (flush_inj5 t t' h h' e)
theorem emb5 (a : Fin 2) (k : Fin 4) (r : Fin 1088) (d : Fin 1024) : ((cfg0.win 5).blk (pt a k)).view.emb (ix2 r d) = (wide a r d : S2176x1024.Idx) := by
  funext b
  refine Fin.ext ?_
  match b with
  | ⟨0, _⟩ => show win0_5.index (pt a k) 0 * 1088 + 1 * r.val = 1088 * a.val + r.val; rw [(row_eq _).2.1.1, pt_div]; omega
  | ⟨1, _⟩ => show win0_5.index (pt a k) 1 * 1024 + 1 * d.val = d.val; rw [(row_eq _).2.1.2]; omega
/-- Result 0 after the run. -/
theorem last5 (c : Dev nD) (a : Fin 2) (r : Fin 1088) (d : Fin 1024) : (dats m 0 c).arrAt 5 cfg0.N (wide a r d : S2176x1024.Idx) = prod m c a r d := by
  have h := (dats m 0 c).arrAt_emb_eq_flushed 5 disjoint5 (pt a 3) ((flush0_5 _).mpr (by rw [pt_mod]; rfl)) (ix2 r d)
  refine (congrArg ((dats m 0 c).arrAt 5 cfg0.N) (emb5 a 3 r d)).symm.trans (h.trans ?_)
  refine (cast_eq _ _).trans ((congrFun (flushed5 m c _) _).trans ?_)
  show (outsAt0 m c (pt a 3).val (pt a 3).isLt).1 (ix2 r d) = _
  exact res5 m c a r d

theorem flush_inj6 : ∀ t t' : Fin cfg0.N, (cfg0.win 6).flush t = true → (cfg0.win 6).flush t' = true → win0_6.index t = win0_6.index t' → t = t' :=
  (by decide +kernel : ∀ t t' : Fin grid0.N, win0_6.flush t = true → win0_6.flush t' = true → win0_6.index t = win0_6.index t' → t = t')
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => (cfg0.win 6).disjoint_blk fun e => hne (flush_inj6 t t' h h' e)
theorem emb6 (a : Fin 2) (k : Fin 4) (r : Fin 1088) (d : Fin 1024) : ((cfg0.win 6).blk (pt a k)).view.emb (ix2 r d) = (wide a r d : S2176x1024.Idx) := by
  funext b
  refine Fin.ext ?_
  match b with
  | ⟨0, _⟩ => show win0_6.index (pt a k) 0 * 1088 + 1 * r.val = 1088 * a.val + r.val; rw [(row_eq _).2.2.1.1, pt_div]; omega
  | ⟨1, _⟩ => show win0_6.index (pt a k) 1 * 1024 + 1 * d.val = d.val; rw [(row_eq _).2.2.1.2]; omega
/-- Result 1 after the run. -/
theorem last6 (c : Dev nD) (a : Fin 2) (r : Fin 1088) (d : Fin 1024) : (dats m 0 c).arrAt 6 cfg0.N (wide a r d : S2176x1024.Idx) = norm m c a r d := by
  have h := (dats m 0 c).arrAt_emb_eq_flushed 6 disjoint6 (pt a 3) ((flush0_6 _).mpr (by rw [pt_mod]; rfl)) (ix2 r d)
  refine (congrArg ((dats m 0 c).arrAt 6 cfg0.N) (emb6 a 3 r d)).symm.trans (h.trans ?_)
  refine (cast_eq _ _).trans ((congrFun (flushed6 m c _) _).trans ?_)
  show (outsAt0 m c (pt a 3).val (pt a 3).isLt).2.1 (ix2 r d) = _
  exact res6 m c a r d

theorem flush_inj7 : ∀ t t' : Fin cfg0.N, (cfg0.win 7).flush t = true → (cfg0.win 7).flush t' = true → win0_7.index t = win0_7.index t' → t = t' :=
  (by decide +kernel : ∀ t t' : Fin grid0.N, win0_7.flush t = true → win0_7.flush t' = true → win0_7.index t = win0_7.index t' → t = t')
theorem disjoint7 : ∀ t t' : Fin cfg0.N, (cfg0.win 7).flush t = true → (cfg0.win 7).flush t' = true → t ≠ t' →
    Disjoint ((cfg0.win 7).blk t).view.set ((cfg0.win 7).blk t').view.set := fun t t' h h' hne => (cfg0.win 7).disjoint_blk fun e => hne (flush_inj7 t t' h h' e)
theorem emb7 (a : Fin 2) (k : Fin 4) (r : Fin 1088) (d : Fin 1024) : ((cfg0.win 7).blk (pt a k)).view.emb (ix2 r d) = (wide a r d : S2176x1024.Idx) := by
  funext b
  refine Fin.ext ?_
  match b with
  | ⟨0, _⟩ => show win0_7.index (pt a k) 0 * 1088 + 1 * r.val = 1088 * a.val + r.val; rw [(row_eq _).2.2.2.1, pt_div]; omega
  | ⟨1, _⟩ => show win0_7.index (pt a k) 1 * 1024 + 1 * d.val = d.val; rw [(row_eq _).2.2.2.2]; omega
/-- Result 2 after the run. -/
theorem last7 (c : Dev nD) (a : Fin 2) (r : Fin 1088) (d : Fin 1024) : (dats m 0 c).arrAt 7 cfg0.N (wide a r d : S2176x1024.Idx) = norm m c a r d := by
  have h := (dats m 0 c).arrAt_emb_eq_flushed 7 disjoint7 (pt a 3) ((flush0_7 _).mpr (by rw [pt_mod]; rfl)) (ix2 r d)
  refine (congrArg ((dats m 0 c).arrAt 7 cfg0.N) (emb7 a 3 r d)).symm.trans (h.trans ?_)
  refine (cast_eq _ _).trans ((congrFun (flushed7 m c _) _).trans ?_)
  show (outsAt0 m c (pt a 3).val (pt a 3).isLt).2.2.1 (ix2 r d) = _
  exact res7 m c a r d

end Cert.OutLnIdeal.Proj

namespace Cert.OutLnRefIdeal.Proj

open Cert.OutLnRefIdeal Cert.OutLnRefIdeal.Gen Cert.OutLnRefIdeal.Read Cert.Proj.Ln
open Cert.Dots hiding hid sum_slabs slabSum resid

/-- The reference's product, slab by slab, -/
theorem prod_apply (x0 : (⟨S2176x1024, .bf16⟩ : BufTy).Contents (Elt Ideal)) (x1 : (⟨S4x256x1024, .bf16⟩ : BufTy).Contents (Elt Ideal)) (a : Fin 2) (r : Fin 1088) (d : Fin 1024) :
    val_main_v3 (F := Ideal) x0 x1 (wide a r d) = ∑ k : Fin 4, slabSum x0 x1 ⟨1088 * a.val + r.val, by omega⟩ d k := by
  rw [val_main_v3_apply, sum_slabs]
  refine Finset.sum_congr rfl fun k _ => Finset.sum_congr rfl fun j _ => ?_
  rw [val_main_v1_apply, val_main_v2_apply, val_main_v0_apply]
  refine congrArg₂ (· * ·) (congrArg x0 ?_) (congrArg x1 ?_) <;> funext b <;> refine Fin.ext ?_
  · match b with
    | ⟨0, _⟩ => rfl
    | ⟨1, _⟩ => rfl
  · match b with
    | ⟨0, _⟩ => show ((256 * k.val + j.val) * 1024 + d.val) / 262144 = k.val; omega
    | ⟨1, _⟩ => show ((256 * k.val + j.val) * 1024 + d.val) / 1024 % 256 = j.val; omega
    | ⟨2, _⟩ => show ((256 * k.val + j.val) * 1024 + d.val) % 1024 = d.val; omega

/-- the row it normalises, -/
def row (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (n : Fin 2176) (e : Fin 1024) : EReal := resid (x2 (ix2 n e)) (val_main_v3 (F := Ideal) x0 x1 (ix2 n e))

theorem row_apply (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (n : Fin 2176) (e : Fin 1024) :
    val_main_v6 (F := Ideal) x0 x1 x2 (ix2 n e) = row x0 x1 x2 n e := by
  rw [val_main_v6_apply, val_main_v5_apply, val_main_v4_apply, val_main_cst_apply]
  exact (resid_eq _ _).symm

/-- the row's mean, -/
theorem mean_apply (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (n : Fin 2176) :
    val_main_v10 (F := Ideal) x0 x1 x2 (ix2 n 0) = rowMean (row x0 x1 x2 n) := by
  rw [val_main_v10_apply, val_main_v8_apply, val_main_v7_apply, val_main_v9_apply, val_main_cst_0_apply, val_main_cst_1_apply]
  refine congrArg (Ideal.div · _) ((congrArg (· + _) Ideal.ofBits_zero_f32).trans ((zero_add _).trans (Finset.sum_congr rfl fun e _ => ?_)))
  refine (congrArg (val_main_v6 (F := Ideal) x0 x1 x2) (eq_ix2 _ : _ = ix2 n e)).trans (row_apply x0 x1 x2 n e)

/-- its entries less the mean, -/
theorem diff_apply (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (n : Fin 2176) (e : Fin 1024) :
    val_main_v12 (F := Ideal) x0 x1 x2 (ix2 n e) = row x0 x1 x2 n e - rowMean (row x0 x1 x2 n) := by
  rw [val_main_v12_apply, row_apply, val_main_v11_apply, ← mean_apply]
  exact congrArg (row x0 x1 x2 n e - ·) (congrArg (val_main_v10 (F := Ideal) x0 x1 x2) (eq_ix2 _))
theorem diff_apply' (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (n : Fin 2176) (e : Fin 1024) :
    val_main_v19 (F := Ideal) x0 x1 x2 (ix2 n e) = row x0 x1 x2 n e - rowMean (row x0 x1 x2 n) := diff_apply x0 x1 x2 n e

/-- the variance's inverse root, -/
theorem inv_apply (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (n : Fin 2176) :
    val_main_v22 (F := Ideal) x0 x1 x2 (ix2 n 0) = Ideal.rsqrt (Ideal.div (∑ e, (row x0 x1 x2 n e - rowMean (row x0 x1 x2 n)) * (row x0 x1 x2 n e - rowMean (row x0 x1 x2 n)))
      (Ideal.ofBits .f32 0x44800000#32) + Ideal.ofBits .f32 0x3727C5AC#32) := by
  rw [val_main_v22_apply, val_main_v21_apply, val_main_v17_apply, val_main_v15_apply, val_main_v14_apply, val_main_v16_apply, val_main_v20_apply, val_main_cst_2_apply, val_main_cst_3_apply, val_main_cst_4_apply]
  refine congrArg Ideal.rsqrt (congrArg (· + _) (congrArg (Ideal.div · _) ((congrArg (· + _) Ideal.ofBits_zero_f32).trans ((zero_add _).trans (Finset.sum_congr rfl fun e _ => ?_)))))
  have h := (congrArg (val_main_v12 (F := Ideal) x0 x1 x2) (eq_ix2 _ : idx_main_v14 (idx_main_v15 (ix2 n 0)) e = ix2 n e)).trans (diff_apply x0 x1 x2 n e)
  rw [val_main_v13_apply]
  exact congrArg₂ (· * ·) h h

/-- and the normalised row. -/
theorem norm_apply (x0 : (⟨S2176x1024, .bf16⟩ : BufTy).Contents (Elt Ideal)) (x1 : (⟨S4x256x1024, .bf16⟩ : BufTy).Contents (Elt Ideal)) (x2 : (⟨S2176x1024, .f32⟩ : BufTy).Contents (Elt Ideal)) (x3 x4 : (⟨S1x1024, .f32⟩ : BufTy).Contents (Elt Ideal)) (n : Fin 2176) (d : Fin 1024) :
    val_main_v28 (F := Ideal) x0 x1 x2 x3 x4 (ix2 n d) = lnRow (row x0 x1 x2 n) (x3 (ix2 0 d)) (x4 (ix2 0 d)) d := by
  rw [val_main_v28_apply, val_main_v26_apply, val_main_v24_apply, val_main_v23_apply, val_main_v25_apply, val_main_v27_apply, diff_apply']
  refine congrArg₂ (· + ·) (congrArg₂ (· * ·) (congrArg (fun y : EReal => (row x0 x1 x2 n d - rowMean (row x0 x1 x2 n)) * y) ?_) (congrArg x3 (eq_ix2 _))) (congrArg x4 (eq_ix2 _))
  exact (congrArg (val_main_v22 (F := Ideal) x0 x1 x2) (eq_ix2 _ : _ = ix2 n 0)).trans (inv_apply x0 x1 x2 n)

end Cert.OutLnRefIdeal.Proj

namespace Cert.Proj

open Cert.Proj.Ln
open Cert.Dots hiding hid sum_slabs slabSum resid

/-- The kernel's product and normalisation are the reference's. -/
theorem outLn : @Cert.algebraic_OutLnIdeal_OutLnRefIdeal Cert.OutLnIdeal.Gen.facts Cert.OutLnRefIdeal.Gen.facts := fun m g m' g' _ hin => by
  have hp : ∀ (c : Dev Cert.OutLnIdeal.nD) (a : Fin 2) (r : Fin 1088) (d : Fin 1024), Cert.OutLnRefIdeal.Read.val_main_v3 (F := Ideal)
      (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (wide a r d)
        = Cert.OutLnIdeal.Proj.prod m c a r d := fun c a r d => (Cert.OutLnRefIdeal.Proj.prod_apply _ _ a r d).trans (Fin.sum_univ_four _)
  have hn : ∀ (c : Dev Cert.OutLnIdeal.nD) (i : Cert.OutLnRefIdeal.S2176x1024.Idx), Cert.OutLnRefIdeal.Read.val_main_v28 (F := Ideal)
      (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1))
      (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3))
      (m ((c.tc : Thread Cert.OutLnIdeal.nD Cert.OutLnIdeal.τ).loc Cert.OutLnIdeal.main_arg4)) i = (Cert.OutLnIdeal.Gen.dats m 0 c).arrAt 6 Cert.OutLnIdeal.cfg0.N i := fun c i => by
    obtain ⟨a, r, d, rfl⟩ := wide_split i
    refine (Cert.OutLnRefIdeal.Proj.norm_apply _ _ _ _ _ _ d).trans (Eq.trans ?_ (Cert.OutLnIdeal.Proj.last6 m c a r d).symm)
    exact Cert.Ffn.lnRow_congr (fun e => congrArg (resid _) (hp c a r e)) _ _ d
  refine ⟨fun c => (Cert.OutLnIdeal.Gen.dats m 0 c).arrAt 5 Cert.OutLnIdeal.cfg0.N, fun c => (Cert.OutLnIdeal.Gen.dats m 0 c).arrAt 6 Cert.OutLnIdeal.cfg0.N,
    fun c => (Cert.OutLnIdeal.Gen.dats m 0 c).arrAt 7 Cert.OutLnIdeal.cfg0.N,
    Cert.OutLnIdeal.Value.run_blocks m g,
    (θ_run _ _ _).mono (fun r h c => ⟨(h c).1.trans ?_, (h c).2.1.trans ?_, (h c).2.2.1.trans ?_, (h c).2.2.2⟩) (Cert.OutLnRefIdeal.Value.run (F := Ideal) m' g')⟩
  · rw [Cert.OutLnRefIdeal.Read.val_main_v3_eq, (hin c).1, (hin c).2.1]
    funext i
    obtain ⟨a, r, d, rfl⟩ := wide_split i
    exact (hp c a r d).trans (Cert.OutLnIdeal.Proj.last5 m c a r d).symm
  · rw [Cert.OutLnRefIdeal.Read.val_main_v28_eq, (hin c).1, (hin c).2.1, (hin c).2.2.1, (hin c).2.2.2.1, (hin c).2.2.2.2]
    exact funext fun i => hn c i
  · rw [Cert.OutLnRefIdeal.Read.val_main_v29_eq, (hin c).1, (hin c).2.1, (hin c).2.2.1, (hin c).2.2.2.1, (hin c).2.2.2.2]
    funext i
    refine (hn c i).trans ?_
    obtain ⟨a, r, d, rfl⟩ := wide_split i
    exact (Cert.OutLnIdeal.Proj.last6 m c a r d).trans (Cert.OutLnIdeal.Proj.last7 m c a r d).symm

end Cert.Proj

end
-- ==== Proof.Proj.MlaQ.lean ====
/- The queries' up projection: the latents times the weight, as the reference's. -/
module

public import proofs.«01_k».proof.Defs
public import proofs.«01_k».proof.Proof.Proj.Sums
public import proofs.«01_k».proof.Proof.Gen.MlaQIdeal.Value
public import proofs.«01_k».proof.Proof.Gen.MlaQRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaQIdeal.Proj

open Cert.MlaQIdeal Cert.MlaQIdeal.Gen Cert.MlaQIdeal.Value Cert.Dots Cert.Proj

variable (m : (ℓ : Loc nD τ sig) → Buf (Elt Ideal) ℓ) (ρ : Dev nD → PrngReg)

/-- The one point's windows are the whole arrays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) : (iblk m c 0 t : Vec Ideal S2176x256 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 256 + 1 * (y 1).val = (y 1).val; rw [(index_eq t).1.2]; omega

theorem iblk1 (c : Dev nD) (t : Fin cfg0.N) : (iblk m c 1 t : Vec Ideal S256x384 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 256 + 1 * (y 0).val = (y 0).val; rw [(index_eq t).2.1.1]; omega
  | ⟨1, _⟩ => show win0_1.index t 1 * 384 + 1 * (y 1).val = (y 1).val; rw [(index_eq t).2.1.2]; omega

/-- What the body leaves in the result's buffer: the sum it started at zero, the one product added. -/
theorem out_A (c : Dev nD) (i : grid0.Coords) (a3 : Memref sig .tc .vmem S2176x256 .bf16) (h3 : a3.IsWhole) (a4 : Memref sig .tc .vmem S256x384 .bf16) (h4 : a4.IsWhole)
    (a5 : Memref sig .tc .vmem S2176x384 .f32) (h5 : a5.IsWhole) (a6 : Memref sig .tc .vmem S2176x384 .f32) (h6 : a6.IsWhole) (hc0 : cond0_0 i) (hc1 : cond0_1 i)
    (x0 : Vec Ideal S2176x256 .bf16) (x1 : Vec Ideal S256x384 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x256) hz2, View.ld_unit_zero (S := S256x384) hz2,
    View.readCov_unit_zero (S := S2176x384) _ hz2]
  exact View.readCov_full (s := S2176x384) _ _ _ _ _

/-- That at an index. -/
theorem pay_apply (x0 : Vec Ideal S2176x256 .bf16) (x1 : Vec Ideal S256x384 .bf16) (r : Fin 2176) (j : Fin 384) :
    k0_pay2 (F := Ideal) (k0_pay1 (F := Ideal)) x0 x1 (ix2 r j) = nn x0 x1 r j := by
  unfold k0_pay2 k0_pay1
  dsimp only
  rw [shapeCast_self, shapeCast_self]
  show Ideal.ofBits .f32 0x00000000#32 + _ = _
  rw [Ideal.ofBits_zero_f32, zero_add]
  exact matmul_nn _ rfl rfl rfl rfl rfl rfl x0 x1 r j

/-- The one point. -/
abbrev pt : Fin cfg0.N := ⟨0, by have h : cfg0.N = 1 := N_0; omega⟩

theorem emb2 (r : Fin 2176) (j : Fin 384) : ((cfg0.win 2).blk pt).view.emb (ix2 r j) = (ix2 r j : S2176x384.Idx) := by
  funext a
  refine Fin.ext ?_
  match a with
  | ⟨0, _⟩ => show win0_2.index pt 0 * 2176 + 1 * r.val = r.val; rw [(index_eq _).2.2.1]; omega
  | ⟨1, _⟩ => show win0_2.index pt 1 * 384 + 1 * j.val = j.val; rw [(index_eq _).2.2.2]; omega

/-- The result after the run. -/
theorem final2 (c : Dev nD) (r : Fin 2176) (j : Fin 384) : (dats m 0 c).arrAt 2 cfg0.N (ix2 r j : S2176x384.Idx)
    = nn (m ((c : Thread nD τ).loc main_arg0)) (m ((c : Thread nD τ).loc main_arg1)) r j := by
  have h := (dats m 0 c).arrAt_emb_eq_flushed 2 disjoint2 pt (flush0_2 _) (ix2 r j)
  refine (congrArg ((dats m 0 c).arrAt 2 cfg0.N) (emb2 r j)).symm.trans (h.trans ?_)
  refine (cast_eq _ _).trans ((congrFun (flushed2 m c _) _).trans ?_)
  show outsAt0 m c pt (ix2 r j) = _
  unfold outsAt0
  rw [out_A, pay_apply, iblk0, iblk1]

end Cert.MlaQIdeal.Proj

namespace Cert.MlaQRefIdeal.Proj

open Cert.MlaQRefIdeal Cert.MlaQRefIdeal.Gen Cert.MlaQRefIdeal.Read Cert.Proj

/-- The reference's result at an index. -/
theorem res_apply (x0 : (⟨S2176x256, .bf16⟩ : BufTy).Contents (Elt Ideal)) (x1 : (⟨S256x384, .bf16⟩ : BufTy).Contents (Elt Ideal)) (r : Fin 2176) (j : Fin 384) :
    val_main_v2 (F := Ideal) x0 x1 (ix2 r j) = nn x0 x1 r j := by
  rw [val_main_v2_apply]
  refine Finset.sum_congr rfl fun d _ => (congrArg₂ (· * ·) (congrArg x0 ?_) (congrArg x1 ?_)) <;> exact funext fun a => by match a with
    | ⟨0, _⟩ => rfl
    | ⟨1, _⟩ => rfl

end Cert.MlaQRefIdeal.Proj

namespace Cert.Proj

/-- The kernel's result is the reference's. -/
theorem mlaQ : @Cert.algebraic_MlaQIdeal_MlaQRefIdeal Cert.MlaQIdeal.Gen.facts Cert.MlaQRefIdeal.Gen.facts := fun m g m' g' _ hin =>
  ⟨fun c => (Cert.MlaQIdeal.Gen.dats m 0 c).arrAt 2 Cert.MlaQIdeal.cfg0.N,
    Cert.MlaQIdeal.Value.run_blocks m g,
    (θ_run _ _ _).mono (fun r h c => ⟨(h c).1.trans (by
        rw [Cert.MlaQRefIdeal.Read.val_main_v2_eq, (hin c).1, (hin c).2]
        funext i
        rw [eq_ix2 i]
        exact (Cert.MlaQRefIdeal.Proj.res_apply _ _ _ _).trans (Cert.MlaQIdeal.Proj.final2 m c _ _).symm), (h c).2⟩)
      (Cert.MlaQRefIdeal.Value.run (F := Ideal) m' g')⟩

end Cert.Proj

end
-- ==== Proof.Proj.MlaQX.lean ====
/- The queries' up projection's input gradient: the gradient times the transposed weight, as the reference's. -/
module

public import proofs.«01_k».proof.Defs
public import proofs.«01_k».proof.Proof.Proj.Sums
public import proofs.«01_k».proof.Proof.Gen.MlaQXIdeal.Value
public import proofs.«01_k».proof.Proof.Gen.MlaQXRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaQXIdeal.Proj

open Cert.MlaQXIdeal Cert.MlaQXIdeal.Gen Cert.MlaQXIdeal.Value Cert.Dots Cert.Proj

variable (m : (ℓ : Loc nD τ sig) → Buf (Elt Ideal) ℓ) (ρ : Dev nD → PrngReg)

/-- The one point's windows are the whole arrays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) : (iblk m c 0 t : Vec Ideal S2176x384 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 384 + 1 * (y 1).val = (y 1).val; rw [(index_eq t).1.2]; omega

theorem iblk1 (c : Dev nD) (t : Fin cfg0.N) : (iblk m c 1 t : Vec Ideal S256x384 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 256 + 1 * (y 0).val = (y 0).val; rw [(index_eq t).2.1.1]; omega
  | ⟨1, _⟩ => show win0_1.index t 1 * 384 + 1 * (y 1).val = (y 1).val; rw [(index_eq t).2.1.2]; omega

/-- What the body leaves in the result's buffer: the sum it started at zero, the one product added. -/
theorem out_A (c : Dev nD) (i : grid0.Coords) (a3 : Memref sig .tc .vmem S2176x384 .bf16) (h3 : a3.IsWhole) (a4 : Memref sig .tc .vmem S256x384 .bf16) (h4 : a4.IsWhole)
    (a5 : Memref sig .tc .vmem S2176x256 .f32) (h5 : a5.IsWhole) (a6 : Memref sig .tc .vmem S2176x256 .f32) (h6 : a6.IsWhole) (hc0 : cond0_0 i) (hc1 : cond0_1 i)
    (x0 : Vec Ideal S2176x384 .bf16) (x1 : Vec Ideal S256x384 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x384) hz2, View.ld_unit_zero (S := S256x384) hz2,
    View.readCov_unit_zero (S := S2176x256) _ hz2]
  exact View.readCov_full (s := S2176x256) _ _ _ _ _

/-- That at an index. -/
theorem pay_apply (x0 : Vec Ideal S2176x384 .bf16) (x1 : Vec Ideal S256x384 .bf16) (r : Fin 2176) (j : Fin 256) :
    k0_pay2 (F := Ideal) (k0_pay1 (F := Ideal)) x0 x1 (ix2 r j) = nt x0 x1 r j := by
  unfold k0_pay2 k0_pay1
  dsimp only
  rw [shapeCast_self, shapeCast_self]
  show Ideal.ofBits .f32 0x00000000#32 + _ = _
  rw [Ideal.ofBits_zero_f32, zero_add]
  exact matmul_nt _ rfl rfl rfl rfl rfl rfl x0 x1 r j

/-- The one point. -/
abbrev pt : Fin cfg0.N := ⟨0, by have h : cfg0.N = 1 := N_0; omega⟩

theorem emb2 (r : Fin 2176) (j : Fin 256) : ((cfg0.win 2).blk pt).view.emb (ix2 r j) = (ix2 r j : S2176x256.Idx) := by
  funext a
  refine Fin.ext ?_
  match a with
  | ⟨0, _⟩ => show win0_2.index pt 0 * 2176 + 1 * r.val = r.val; rw [(index_eq _).2.2.1]; omega
  | ⟨1, _⟩ => show win0_2.index pt 1 * 256 + 1 * j.val = j.val; rw [(index_eq _).2.2.2]; omega

/-- The result after the run. -/
theorem final2 (c : Dev nD) (r : Fin 2176) (j : Fin 256) : (dats m 0 c).arrAt 2 cfg0.N (ix2 r j : S2176x256.Idx)
    = nt (m ((c : Thread nD τ).loc main_arg0)) (m ((c : Thread nD τ).loc main_arg1)) r j := by
  have h := (dats m 0 c).arrAt_emb_eq_flushed 2 disjoint2 pt (flush0_2 _) (ix2 r j)
  refine (congrArg ((dats m 0 c).arrAt 2 cfg0.N) (emb2 r j)).symm.trans (h.trans ?_)
  refine (cast_eq _ _).trans ((congrFun (flushed2 m c _) _).trans ?_)
  show outsAt0 m c pt (ix2 r j) = _
  unfold outsAt0
  rw [out_A, pay_apply, iblk0, iblk1]

end Cert.MlaQXIdeal.Proj

namespace Cert.MlaQXRefIdeal.Proj

open Cert.MlaQXRefIdeal Cert.MlaQXRefIdeal.Gen Cert.MlaQXRefIdeal.Read Cert.Proj

/-- The reference's result at an index. -/
theorem res_apply (x0 : (⟨S2176x384, .bf16⟩ : BufTy).Contents (Elt Ideal)) (x1 : (⟨S256x384, .bf16⟩ : BufTy).Contents (Elt Ideal)) (r : Fin 2176) (j : Fin 256) :
    val_main_v4 (F := Ideal) x0 x1 (ix2 r j) = nt x0 x1 r j := by
  rw [val_main_v4_apply]
  refine Finset.sum_congr rfl fun d _ => (congrArg₂ (· * ·) (congrArg x0 ?_) (congrArg x1 ?_)) <;> exact funext fun a => by match a with
    | ⟨0, _⟩ => rfl
    | ⟨1, _⟩ => rfl

end Cert.MlaQXRefIdeal.Proj

namespace Cert.Proj

/-- The kernel's result is the reference's. -/
theorem mlaQX : @Cert.algebraic_MlaQXIdeal_MlaQXRefIdeal Cert.MlaQXIdeal.Gen.facts Cert.MlaQXRefIdeal.Gen.facts := fun m g m' g' _ hin =>
  ⟨fun c => (Cert.MlaQXIdeal.Gen.dats m 0 c).arrAt 2 Cert.MlaQXIdeal.cfg0.N,
    Cert.MlaQXIdeal.Value.run_blocks m g,
    (θ_run _ _ _).mono (fun r h c => ⟨(h c).1.trans (by
        rw [Cert.MlaQXRefIdeal.Read.val_main_v4_eq, (hin c).1, (hin c).2]
        funext i
        rw [eq_ix2 i]
        exact (Cert.MlaQXRefIdeal.Proj.res_apply _ _ _ _).trans (Cert.MlaQXIdeal.Proj.final2 m c _ _).symm), (h c).2⟩)
      (Cert.MlaQXRefIdeal.Value.run (F := Ideal) m' g')⟩

end Cert.Proj

end
-- ==== Proof.Proj.MlaQW.lean ====
/- The queries' up projection's weight gradient: the transposed latents times the gradient, as the reference's. -/
module

public import proofs.«01_k».proof.Defs
public import proofs.«01_k».proof.Proof.Proj.Sums
public import proofs.«01_k».proof.Proof.Gen.MlaQWIdeal.Value
public import proofs.«01_k».proof.Proof.Gen.MlaQWRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaQWIdeal.Proj

open Cert.MlaQWIdeal Cert.MlaQWIdeal.Gen Cert.MlaQWIdeal.Value Cert.Dots Cert.Proj

variable (m : (ℓ : Loc nD τ sig) → Buf (Elt Ideal) ℓ) (ρ : Dev nD → PrngReg)

/-- The one point's windows are the whole arrays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) : (iblk m c 0 t : Vec Ideal S2176x256 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 256 + 1 * (y 1).val = (y 1).val; rw [(index_eq t).1.2]; omega

theorem iblk1 (c : Dev nD) (t : Fin cfg0.N) : (iblk m c 1 t : Vec Ideal S2176x384 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 2176 + 1 * (y 0).val = (y 0).val; rw [(index_eq t).2.1.1]; omega
  | ⟨1, _⟩ => show win0_1.index t 1 * 384 + 1 * (y 1).val = (y 1).val; rw [(index_eq t).2.1.2]; omega

/-- What the body leaves in the result's buffer: the sum it started at zero, the one product added. -/
theorem out_A (c : Dev nD) (i : grid0.Coords) (a3 : Memref sig .tc .vmem S2176x256 .bf16) (h3 : a3.IsWhole) (a4 : Memref sig .tc .vmem S2176x384 .bf16) (h4 : a4.IsWhole)
    (a5 : Memref sig .tc .vmem S256x384 .f32) (h5 : a5.IsWhole) (a6 : Memref sig .tc .vmem S256x384 .f32) (h6 : a6.IsWhole) (hc0 : cond0_0 i) (hc1 : cond0_1 i)
    (x0 : Vec Ideal S2176x256 .bf16) (x1 : Vec Ideal S2176x384 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x256) hz2, View.ld_unit_zero (S := S2176x384) hz2,
    View.readCov_unit_zero (S := S256x384) _ hz2]
  exact View.readCov_full (s := S256x384) _ _ _ _ _

/-- That at an index. -/
theorem pay_apply (x0 : Vec Ideal S2176x256 .bf16) (x1 : Vec Ideal S2176x384 .bf16) (r : Fin 256) (j : Fin 384) :
    k0_pay2 (F := Ideal) (k0_pay1 (F := Ideal)) x0 x1 (ix2 r j) = tn x0 x1 r j := by
  unfold k0_pay2 k0_pay1
  dsimp only
  rw [shapeCast_self, shapeCast_self]
  show Ideal.ofBits .f32 0x00000000#32 + _ = _
  rw [Ideal.ofBits_zero_f32, zero_add]
  exact matmul_tn _ rfl rfl rfl rfl rfl rfl x0 x1 r j

/-- The one point. -/
abbrev pt : Fin cfg0.N := ⟨0, by have h : cfg0.N = 1 := N_0; omega⟩

theorem emb2 (r : Fin 256) (j : Fin 384) : ((cfg0.win 2).blk pt).view.emb (ix2 r j) = (ix2 r j : S256x384.Idx) := by
  funext a
  refine Fin.ext ?_
  match a with
  | ⟨0, _⟩ => show win0_2.index pt 0 * 256 + 1 * r.val = r.val; rw [(index_eq _).2.2.1]; omega
  | ⟨1, _⟩ => show win0_2.index pt 1 * 384 + 1 * j.val = j.val; rw [(index_eq _).2.2.2]; omega

/-- The result after the run. -/
theorem final2 (c : Dev nD) (r : Fin 256) (j : Fin 384) : (dats m 0 c).arrAt 2 cfg0.N (ix2 r j : S256x384.Idx)
    = tn (m ((c : Thread nD τ).loc main_arg0)) (m ((c : Thread nD τ).loc main_arg1)) r j := by
  have h := (dats m 0 c).arrAt_emb_eq_flushed 2 disjoint2 pt (flush0_2 _) (ix2 r j)
  refine (congrArg ((dats m 0 c).arrAt 2 cfg0.N) (emb2 r j)).symm.trans (h.trans ?_)
  refine (cast_eq _ _).trans ((congrFun (flushed2 m c _) _).trans ?_)
  show outsAt0 m c pt (ix2 r j) = _
  unfold outsAt0
  rw [out_A, pay_apply, iblk0, iblk1]

end Cert.MlaQWIdeal.Proj

namespace Cert.MlaQWRefIdeal.Proj

open Cert.MlaQWRefIdeal Cert.MlaQWRefIdeal.Gen Cert.MlaQWRefIdeal.Read Cert.Proj

/-- The reference's result at an index. -/
theorem res_apply (x0 : (⟨S2176x256, .bf16⟩ : BufTy).Contents (Elt Ideal)) (x1 : (⟨S2176x384, .bf16⟩ : BufTy).Contents (Elt Ideal)) (r : Fin 256) (j : Fin 384) :
    val_main_v5 (F := Ideal) x0 x1 (ix2 r j) = tn x0 x1 r j := by
  rw [val_main_v5_apply, val_main_v4_apply]
  refine Finset.sum_congr rfl fun d _ => (mul_comm _ _).trans (congrArg₂ (· * ·) (congrArg x0 ?_) (congrArg x1 ?_)) <;> exact funext fun a => by match a with
    | ⟨0, _⟩ => rfl
    | ⟨1, _⟩ => rfl

end Cert.MlaQWRefIdeal.Proj

namespace Cert.Proj

/-- The kernel's result is the reference's. -/
theorem mlaQW : @Cert.algebraic_MlaQWIdeal_MlaQWRefIdeal Cert.MlaQWIdeal.Gen.facts Cert.MlaQWRefIdeal.Gen.facts := fun m g m' g' _ hin =>
  ⟨fun c => (Cert.MlaQWIdeal.Gen.dats m 0 c).arrAt 2 Cert.MlaQWIdeal.cfg0.N,
    Cert.MlaQWIdeal.Value.run_blocks m g,
    (θ_run _ _ _).mono (fun r h c => ⟨(h c).1.trans (by
        rw [Cert.MlaQWRefIdeal.Read.val_main_v5_eq, (hin c).1, (hin c).2]
        funext i
        rw [eq_ix2 i]
        exact (Cert.MlaQWRefIdeal.Proj.res_apply _ _ _ _).trans (Cert.MlaQWIdeal.Proj.final2 m c _ _).symm), (h c).2⟩)
      (Cert.MlaQWRefIdeal.Value.run (F := Ideal) m' g')⟩

end Cert.Proj

end
-- ==== Proof.Proj.MlaKv.lean ====
/- The keys' and values' up projection: the latents times the weight, as the reference's. -/
module

public import proofs.«01_k».proof.Defs
public import proofs.«01_k».proof.Proof.Proj.Sums
public import proofs.«01_k».proof.Proof.Gen.MlaKvIdeal.Value
public import proofs.«01_k».proof.Proof.Gen.MlaKvRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaKvIdeal.Proj

open Cert.MlaKvIdeal Cert.MlaKvIdeal.Gen Cert.MlaKvIdeal.Value Cert.Dots Cert.Proj

variable (m : (ℓ : Loc nD τ sig) → Buf (Elt Ideal) ℓ) (ρ : Dev nD → PrngReg)

/-- The one point's windows are the whole arrays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) : (iblk m c 0 t : Vec Ideal S2176x128 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 128 + 1 * (y 1).val = (y 1).val; rw [(index_eq t).1.2]; omega

theorem iblk1 (c : Dev nD) (t : Fin cfg0.N) : (iblk m c 1 t : Vec Ideal S128x512 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 128 + 1 * (y 0).val = (y 0).val; rw [(index_eq t).2.1.1]; omega
  | ⟨1, _⟩ => show win0_1.index t 1 * 512 + 1 * (y 1).val = (y 1).val; rw [(index_eq t).2.1.2]; omega

/-- What the body leaves in the result's buffer: the sum it started at zero, the one product added. -/
theorem out_A (c : Dev nD) (i : grid0.Coords) (a3 : Memref sig .tc .vmem S2176x128 .bf16) (h3 : a3.IsWhole) (a4 : Memref sig .tc .vmem S128x512 .bf16) (h4 : a4.IsWhole)
    (a5 : Memref sig .tc .vmem S2176x512 .f32) (h5 : a5.IsWhole) (a6 : Memref sig .tc .vmem S2176x512 .f32) (h6 : a6.IsWhole) (hc0 : cond0_0 i) (hc1 : cond0_1 i)
    (x0 : Vec Ideal S2176x128 .bf16) (x1 : Vec Ideal S128x512 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x128) hz2, View.ld_unit_zero (S := S128x512) hz2,
    View.readCov_unit_zero (S := S2176x512) _ hz2]
  exact View.readCov_full (s := S2176x512) _ _ _ _ _

/-- That at an index. -/
theorem pay_apply (x0 : Vec Ideal S2176x128 .bf16) (x1 : Vec Ideal S128x512 .bf16) (r : Fin 2176) (j : Fin 512) :
    k0_pay2 (F := Ideal) (k0_pay1 (F := Ideal)) x0 x1 (ix2 r j) = nn x0 x1 r j := by
  unfold k0_pay2 k0_pay1
  dsimp only
  rw [shapeCast_self, shapeCast_self]
  show Ideal.ofBits .f32 0x00000000#32 + _ = _
  rw [Ideal.ofBits_zero_f32, zero_add]
  exact matmul_nn _ rfl rfl rfl rfl rfl rfl x0 x1 r j

/-- The one point. -/
abbrev pt : Fin cfg0.N := ⟨0, by have h : cfg0.N = 1 := N_0; omega⟩

theorem emb2 (r : Fin 2176) (j : Fin 512) : ((cfg0.win 2).blk pt).view.emb (ix2 r j) = (ix2 r j : S2176x512.Idx) := by
  funext a
  refine Fin.ext ?_
  match a with
  | ⟨0, _⟩ => show win0_2.index pt 0 * 2176 + 1 * r.val = r.val; rw [(index_eq _).2.2.1]; omega
  | ⟨1, _⟩ => show win0_2.index pt 1 * 512 + 1 * j.val = j.val; rw [(index_eq _).2.2.2]; omega

/-- The result after the run. -/
theorem final2 (c : Dev nD) (r : Fin 2176) (j : Fin 512) : (dats m 0 c).arrAt 2 cfg0.N (ix2 r j : S2176x512.Idx)
    = nn (m ((c : Thread nD τ).loc main_arg0)) (m ((c : Thread nD τ).loc main_arg1)) r j := by
  have h := (dats m 0 c).arrAt_emb_eq_flushed 2 disjoint2 pt (flush0_2 _) (ix2 r j)
  refine (congrArg ((dats m 0 c).arrAt 2 cfg0.N) (emb2 r j)).symm.trans (h.trans ?_)
  refine (cast_eq _ _).trans ((congrFun (flushed2 m c _) _).trans ?_)
  show outsAt0 m c pt (ix2 r j) = _
  unfold outsAt0
  rw [out_A, pay_apply, iblk0, iblk1]

end Cert.MlaKvIdeal.Proj

namespace Cert.MlaKvRefIdeal.Proj

open Cert.MlaKvRefIdeal Cert.MlaKvRefIdeal.Gen Cert.MlaKvRefIdeal.Read Cert.Proj

/-- The reference's result at an index. -/
theorem res_apply (x0 : (⟨S2176x128, .bf16⟩ : BufTy).Contents (Elt Ideal)) (x1 : (⟨S128x512, .bf16⟩ : BufTy).Contents (Elt Ideal)) (r : Fin 2176) (j : Fin 512) :
    val_main_v2 (F := Ideal) x0 x1 (ix2 r j) = nn x0 x1 r j := by
  rw [val_main_v2_apply]
  refine Finset.sum_congr rfl fun d _ => (congrArg₂ (· * ·) (congrArg x0 ?_) (congrArg x1 ?_)) <;> exact funext fun a => by match a with
    | ⟨0, _⟩ => rfl
    | ⟨1, _⟩ => rfl

end Cert.MlaKvRefIdeal.Proj

namespace Cert.Proj

/-- The kernel's result is the reference's. -/
theorem mlaKv : @Cert.algebraic_MlaKvIdeal_MlaKvRefIdeal Cert.MlaKvIdeal.Gen.facts Cert.MlaKvRefIdeal.Gen.facts := fun m g m' g' _ hin =>
  ⟨fun c => (Cert.MlaKvIdeal.Gen.dats m 0 c).arrAt 2 Cert.MlaKvIdeal.cfg0.N,
    Cert.MlaKvIdeal.Value.run_blocks m g,
    (θ_run _ _ _).mono (fun r h c => ⟨(h c).1.trans (by
        rw [Cert.MlaKvRefIdeal.Read.val_main_v2_eq, (hin c).1, (hin c).2]
        funext i
        rw [eq_ix2 i]
        exact (Cert.MlaKvRefIdeal.Proj.res_apply _ _ _ _).trans (Cert.MlaKvIdeal.Proj.final2 m c _ _).symm), (h c).2⟩)
      (Cert.MlaKvRefIdeal.Value.run (F := Ideal) m' g')⟩

end Cert.Proj

end
-- ==== Proof.Proj.MlaKvX.lean ====
/- The keys' and values' up projection's input gradient: the gradient times the transposed weight, as the reference's. -/
module

public import proofs.«01_k».proof.Defs
public import proofs.«01_k».proof.Proof.Proj.Sums
public import proofs.«01_k».proof.Proof.Gen.MlaKvXIdeal.Value
public import proofs.«01_k».proof.Proof.Gen.MlaKvXRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaKvXIdeal.Proj

open Cert.MlaKvXIdeal Cert.MlaKvXIdeal.Gen Cert.MlaKvXIdeal.Value Cert.Dots Cert.Proj

variable (m : (ℓ : Loc nD τ sig) → Buf (Elt Ideal) ℓ) (ρ : Dev nD → PrngReg)

/-- The one point's windows are the whole arrays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) : (iblk m c 0 t : Vec Ideal S2176x512 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 512 + 1 * (y 1).val = (y 1).val; rw [(index_eq t).1.2]; omega

theorem iblk1 (c : Dev nD) (t : Fin cfg0.N) : (iblk m c 1 t : Vec Ideal S128x512 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 128 + 1 * (y 0).val = (y 0).val; rw [(index_eq t).2.1.1]; omega
  | ⟨1, _⟩ => show win0_1.index t 1 * 512 + 1 * (y 1).val = (y 1).val; rw [(index_eq t).2.1.2]; omega

/-- What the body leaves in the result's buffer: the sum it started at zero, the one product added. -/
theorem out_A (c : Dev nD) (i : grid0.Coords) (a3 : Memref sig .tc .vmem S2176x512 .bf16) (h3 : a3.IsWhole) (a4 : Memref sig .tc .vmem S128x512 .bf16) (h4 : a4.IsWhole)
    (a5 : Memref sig .tc .vmem S2176x128 .f32) (h5 : a5.IsWhole) (a6 : Memref sig .tc .vmem S2176x128 .f32) (h6 : a6.IsWhole) (hc0 : cond0_0 i) (hc1 : cond0_1 i)
    (x0 : Vec Ideal S2176x512 .bf16) (x1 : Vec Ideal S128x512 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x512) hz2, View.ld_unit_zero (S := S128x512) hz2,
    View.readCov_unit_zero (S := S2176x128) _ hz2]
  exact View.readCov_full (s := S2176x128) _ _ _ _ _

/-- That at an index. -/
theorem pay_apply (x0 : Vec Ideal S2176x512 .bf16) (x1 : Vec Ideal S128x512 .bf16) (r : Fin 2176) (j : Fin 128) :
    k0_pay2 (F := Ideal) (k0_pay1 (F := Ideal)) x0 x1 (ix2 r j) = nt x0 x1 r j := by
  unfold k0_pay2 k0_pay1
  dsimp only
  rw [shapeCast_self, shapeCast_self]
  show Ideal.ofBits .f32 0x00000000#32 + _ = _
  rw [Ideal.ofBits_zero_f32, zero_add]
  exact matmul_nt _ rfl rfl rfl rfl rfl rfl x0 x1 r j

/-- The one point. -/
abbrev pt : Fin cfg0.N := ⟨0, by have h : cfg0.N = 1 := N_0; omega⟩

theorem emb2 (r : Fin 2176) (j : Fin 128) : ((cfg0.win 2).blk pt).view.emb (ix2 r j) = (ix2 r j : S2176x128.Idx) := by
  funext a
  refine Fin.ext ?_
  match a with
  | ⟨0, _⟩ => show win0_2.index pt 0 * 2176 + 1 * r.val = r.val; rw [(index_eq _).2.2.1]; omega
  | ⟨1, _⟩ => show win0_2.index pt 1 * 128 + 1 * j.val = j.val; rw [(index_eq _).2.2.2]; omega

/-- The result after the run. -/
theorem final2 (c : Dev nD) (r : Fin 2176) (j : Fin 128) : (dats m 0 c).arrAt 2 cfg0.N (ix2 r j : S2176x128.Idx)
    = nt (m ((c : Thread nD τ).loc main_arg0)) (m ((c : Thread nD τ).loc main_arg1)) r j := by
  have h := (dats m 0 c).arrAt_emb_eq_flushed 2 disjoint2 pt (flush0_2 _) (ix2 r j)
  refine (congrArg ((dats m 0 c).arrAt 2 cfg0.N) (emb2 r j)).symm.trans (h.trans ?_)
  refine (cast_eq _ _).trans ((congrFun (flushed2 m c _) _).trans ?_)
  show outsAt0 m c pt (ix2 r j) = _
  unfold outsAt0
  rw [out_A, pay_apply, iblk0, iblk1]

end Cert.MlaKvXIdeal.Proj

namespace Cert.MlaKvXRefIdeal.Proj

open Cert.MlaKvXRefIdeal Cert.MlaKvXRefIdeal.Gen Cert.MlaKvXRefIdeal.Read Cert.Proj

/-- The reference's result at an index. -/
theorem res_apply (x0 : (⟨S2176x512, .bf16⟩ : BufTy).Contents (Elt Ideal)) (x1 : (⟨S128x512, .bf16⟩ : BufTy).Contents (Elt Ideal)) (r : Fin 2176) (j : Fin 128) :
    val_main_v4 (F := Ideal) x0 x1 (ix2 r j) = nt x0 x1 r j := by
  rw [val_main_v4_apply]
  refine Finset.sum_congr rfl fun d _ => (congrArg₂ (· * ·) (congrArg x0 ?_) (congrArg x1 ?_)) <;> exact funext fun a => by match a with
    | ⟨0, _⟩ => rfl
    | ⟨1, _⟩ => rfl

end Cert.MlaKvXRefIdeal.Proj

namespace Cert.Proj

/-- The kernel's result is the reference's. -/
theorem mlaKvX : @Cert.algebraic_MlaKvXIdeal_MlaKvXRefIdeal Cert.MlaKvXIdeal.Gen.facts Cert.MlaKvXRefIdeal.Gen.facts := fun m g m' g' _ hin =>
  ⟨fun c => (Cert.MlaKvXIdeal.Gen.dats m 0 c).arrAt 2 Cert.MlaKvXIdeal.cfg0.N,
    Cert.MlaKvXIdeal.Value.run_blocks m g,
    (θ_run _ _ _).mono (fun r h c => ⟨(h c).1.trans (by
        rw [Cert.MlaKvXRefIdeal.Read.val_main_v4_eq, (hin c).1, (hin c).2]
        funext i
        rw [eq_ix2 i]
        exact (Cert.MlaKvXRefIdeal.Proj.res_apply _ _ _ _).trans (Cert.MlaKvXIdeal.Proj.final2 m c _ _).symm), (h c).2⟩)
      (Cert.MlaKvXRefIdeal.Value.run (F := Ideal) m' g')⟩

end Cert.Proj

end
-- ==== Proof.Proj.MlaKvW.lean ====
/- The keys' and values' up projection's weight gradient: the transposed latents times the gradient, as the reference's. -/
module

public import proofs.«01_k».proof.Defs
public import proofs.«01_k».proof.Proof.Proj.Sums
public import proofs.«01_k».proof.Proof.Gen.MlaKvWIdeal.Value
public import proofs.«01_k».proof.Proof.Gen.MlaKvWRefIdeal.Read
public import Idealize.ShloMosaic.Lib.VecWindow

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaKvWIdeal.Proj

open Cert.MlaKvWIdeal Cert.MlaKvWIdeal.Gen Cert.MlaKvWIdeal.Value Cert.Dots Cert.Proj

variable (m : (ℓ : Loc nD τ sig) → Buf (Elt Ideal) ℓ) (ρ : Dev nD → PrngReg)

/-- The one point's windows are the whole arrays. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) : (iblk m c 0 t : Vec Ideal S2176x128 .bf16) = m ((c : Thread nD τ).loc main_arg0) := by
  funext y
  unfold iblk
  rw [View.read_apply]
  show m ((c : Thread nD τ).loc main_arg0) _ = _
  congr 1
  funext a
  refine Fin.ext ?_
  match a with
  | ⟨0, _⟩ => show win0_0.index t 0 * 2176 + 1 * (y 0).val = (y 0).val; rw [(index_eq t).1.1]; omega
  | ⟨1, _⟩ => show win0_0.index t 1 * 128 + 1 * (y 1).val = (y 1).val; rw [(index_eq t).1.2]; omega

theorem iblk1 (c : Dev nD) (t : Fin cfg0.N) : (iblk m c 1 t : Vec Ideal S2176x512 .bf16) = m ((c : Thread nD τ).loc main_arg1) := by
  funext y
  unfold iblk
  rw [View.read_apply]
  show m ((c : Thread nD τ).loc main_arg1) _ = _
  congr 1
  funext a
  refine Fin.ext ?_
  match a with
  | ⟨0, _⟩ => show win0_1.index t 0 * 2176 + 1 * (y 0).val = (y 0).val; rw [(index_eq t).2.1.1]; omega
  | ⟨1, _⟩ => show win0_1.index t 1 * 512 + 1 * (y 1).val = (y 1).val; rw [(index_eq t).2.1.2]; omega

/-- What the body leaves in the result's buffer: the sum it started at zero, the one product added. -/
theorem out_A (c : Dev nD) (i : grid0.Coords) (a3 : Memref sig .tc .vmem S2176x128 .bf16) (h3 : a3.IsWhole) (a4 : Memref sig .tc .vmem S2176x512 .bf16) (h4 : a4.IsWhole)
    (a5 : Memref sig .tc .vmem S128x512 .f32) (h5 : a5.IsWhole) (a6 : Memref sig .tc .vmem S128x512 .f32) (h6 : a6.IsWhole) (hc0 : cond0_0 i) (hc1 : cond0_1 i)
    (x0 : Vec Ideal S2176x128 .bf16) (x1 : Vec Ideal S2176x512 .bf16) :
    out0_A_2 c i a3 h3 a4 h4 a5 h5 a6 h6 hc0 hc1 x0 x1 = k0_pay2 (F := Ideal) (k0_pay1 (F := Ideal)) x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz2]
  simp only [View.readAt_eq_ld, h3.read_unread, h4.read_unread, View.ld_unit_zero (S := S2176x128) hz2, View.ld_unit_zero (S := S2176x512) hz2,
    View.readCov_unit_zero (S := S128x512) _ hz2]
  exact View.readCov_full (s := S128x512) _ _ _ _ _

/-- That at an index. -/
theorem pay_apply (x0 : Vec Ideal S2176x128 .bf16) (x1 : Vec Ideal S2176x512 .bf16) (r : Fin 128) (j : Fin 512) :
    k0_pay2 (F := Ideal) (k0_pay1 (F := Ideal)) x0 x1 (ix2 r j) = tn x0 x1 r j := by
  unfold k0_pay2 k0_pay1
  dsimp only
  rw [shapeCast_self, shapeCast_self]
  show Ideal.ofBits .f32 0x00000000#32 + _ = _
  rw [Ideal.ofBits_zero_f32, zero_add]
  exact matmul_tn _ rfl rfl rfl rfl rfl rfl x0 x1 r j

/-- The one point. -/
abbrev pt : Fin cfg0.N := ⟨0, by have h : cfg0.N = 1 := N_0; omega⟩

theorem emb2 (r : Fin 128) (j : Fin 512) : ((cfg0.win 2).blk pt).view.emb (ix2 r j) = (ix2 r j : S128x512.Idx) := by
  funext a
  refine Fin.ext ?_
  match a with
  | ⟨0, _⟩ => show win0_2.index pt 0 * 128 + 1 * r.val = r.val; rw [(index_eq _).2.2.1]; omega
  | ⟨1, _⟩ => show win0_2.index pt 1 * 512 + 1 * j.val = j.val; rw [(index_eq _).2.2.2]; omega

/-- The result after the run. -/
theorem final2 (c : Dev nD) (r : Fin 128) (j : Fin 512) : (dats m 0 c).arrAt 2 cfg0.N (ix2 r j : S128x512.Idx)
    = tn (m ((c : Thread nD τ).loc main_arg0)) (m ((c : Thread nD τ).loc main_arg1)) r j := by
  have h := (dats m 0 c).arrAt_emb_eq_flushed 2 disjoint2 pt (flush0_2 _) (ix2 r j)
  refine (congrArg ((dats m 0 c).arrAt 2 cfg0.N) (emb2 r j)).symm.trans (h.trans ?_)
  refine (cast_eq _ _).trans ((congrFun (flushed2 m c _) _).trans ?_)
  show outsAt0 m c pt (ix2 r j) = _
  unfold outsAt0
  rw [out_A, pay_apply, iblk0, iblk1]

end Cert.MlaKvWIdeal.Proj

namespace Cert.MlaKvWRefIdeal.Proj

open Cert.MlaKvWRefIdeal Cert.MlaKvWRefIdeal.Gen Cert.MlaKvWRefIdeal.Read Cert.Proj

/-- The reference's result at an index. -/
theorem res_apply (x0 : (⟨S2176x128, .bf16⟩ : BufTy).Contents (Elt Ideal)) (x1 : (⟨S2176x512, .bf16⟩ : BufTy).Contents (Elt Ideal)) (r : Fin 128) (j : Fin 512) :
    val_main_v5 (F := Ideal) x0 x1 (ix2 r j) = tn x0 x1 r j := by
  rw [val_main_v5_apply, val_main_v4_apply]
  refine Finset.sum_congr rfl fun d _ => (mul_comm _ _).trans (congrArg₂ (· * ·) (congrArg x0 ?_) (congrArg x1 ?_)) <;> exact funext fun a => by match a with
    | ⟨0, _⟩ => rfl
    | ⟨1, _⟩ => rfl

end Cert.MlaKvWRefIdeal.Proj

namespace Cert.Proj

/-- The kernel's result is the reference's. -/
theorem mlaKvW : @Cert.algebraic_MlaKvWIdeal_MlaKvWRefIdeal Cert.MlaKvWIdeal.Gen.facts Cert.MlaKvWRefIdeal.Gen.facts := fun m g m' g' _ hin =>
  ⟨fun c => (Cert.MlaKvWIdeal.Gen.dats m 0 c).arrAt 2 Cert.MlaKvWIdeal.cfg0.N,
    Cert.MlaKvWIdeal.Value.run_blocks m g,
    (θ_run _ _ _).mono (fun r h c => ⟨(h c).1.trans (by
        rw [Cert.MlaKvWRefIdeal.Read.val_main_v5_eq, (hin c).1, (hin c).2]
        funext i
        rw [eq_ix2 i]
        exact (Cert.MlaKvWRefIdeal.Proj.res_apply _ _ _ _).trans (Cert.MlaKvWIdeal.Proj.final2 m c _ _).symm), (h c).2⟩)
      (Cert.MlaKvWRefIdeal.Value.run (F := Ideal) m' g')⟩

end Cert.Proj

end
-- ==== Proof.Row.Basics.lean ====
/- Rows of a block: their sums, columns and rows spread over a block, and a row divided by its root mean square. -/
module

public import proofs.«01_k».proof.Proof.Proj.Sums

@[expose] public section

noncomputable section

open Idealize.ShloMosaic Idealize.ShloMosaic.ValueIdx

namespace Cert.Row

variable {M N : Nat}

/-- A row's sum as a column, -/
theorem rowSum (v : FVec Ideal ⟨2, ![M, N]⟩ .f32) (hr : (⟨2, ![M, N]⟩ : Shape).Reduces [1] ⟨1, ![M]⟩) (hf : FKind.Formats .f32) (hn : (0x00000000#32 : BitVec 32) = FKind.add.neutral .f32 hf)
    (hc : (⟨1, ![M]⟩ : Shape).ShapeCasts ⟨2, ![M, 1]⟩) (r : Fin M) :
    shapeCast ⟨2, ![M, 1]⟩ (multiReduction .add [1] ⟨1, ![M]⟩ v 0x00000000#32 hr hf hn) hc (ix2 r 0) = ∑ e : Fin N, v (ix2 r e) := by
  refine (shapeCast_apply _ hc (ix2 r 0) (ix1 r) ?_).trans ?_
  · rw [Shape.rowMajor_val_one, Shape.rowMajor_val_two]
    show r.val = r.val * 1 + 0
    omega
  · refine (Ideal.multiReduction_add_single v _ _ _ _ _).trans (Finset.sum_congr rfl fun e _ => congrArg v (funext fun b => Fin.ext ?_))
    match b with
    | ⟨0, _⟩ => rfl
    | ⟨1, _⟩ => rfl

/-- a column's sum as a row, -/
theorem colSum (v : FVec Ideal ⟨2, ![M, N]⟩ .f32) (hr : (⟨2, ![M, N]⟩ : Shape).Reduces [0] ⟨1, ![N]⟩) (hf : FKind.Formats .f32) (hn : (0x00000000#32 : BitVec 32) = FKind.add.neutral .f32 hf)
    (hc : (⟨1, ![N]⟩ : Shape).ShapeCasts ⟨2, ![1, N]⟩) (d : Fin N) :
    shapeCast ⟨2, ![1, N]⟩ (multiReduction .add [0] ⟨1, ![N]⟩ v 0x00000000#32 hr hf hn) hc (ix2 0 d) = ∑ e : Fin M, v (ix2 e d) := by
  refine (shapeCast_apply _ hc (ix2 0 d) (ix1 d) ?_).trans ?_
  · rw [Shape.rowMajor_val_one, Shape.rowMajor_val_two]
    show d.val = 0 * N + d.val
    omega
  · refine (Ideal.multiReduction_add_single v _ _ _ _ _).trans (Finset.sum_congr rfl fun e _ => congrArg v (funext fun b => Fin.ext ?_))
    match b with
    | ⟨0, _⟩ => rfl
    | ⟨1, _⟩ => rfl

/-- a column spread over the rows -/
theorem spread (v : FVec Ideal ⟨2, ![M, 1]⟩ .f32) (h : (⟨2, ![M, 1]⟩ : Shape).Broadcasts ⟨2, ![M, N]⟩) (r : Fin M) (d : Fin N) : broadcastTo ⟨2, ![M, N]⟩ v h (ix2 r d) = v (ix2 r 0) :=
  broadcastTo_apply v _ _ _ fun a => match a with
    | ⟨0, _⟩ => by show r.val = if M = 1 then 0 else r.val; split <;> omega
    | ⟨1, _⟩ => rfl

/-- and a row spread over the columns. -/
theorem under (v : FVec Ideal ⟨2, ![1, N]⟩ .f32) (h : (⟨2, ![1, N]⟩ : Shape).Broadcasts ⟨2, ![M, N]⟩) (r : Fin M) (d : Fin N) : broadcastTo ⟨2, ![M, N]⟩ v h (ix2 r d) = v (ix2 0 d) :=
  broadcastTo_apply v _ _ _ fun a => match a with
    | ⟨0, _⟩ => rfl
    | ⟨1, _⟩ => by show d.val = if N = 1 then 0 else d.val; split <;> omega

/-- A row divided by its root mean square, at column `d`, times that column's gain. -/
def rms (x : Fin N → EReal) (len g : EReal) (d : Fin N) : EReal :=
  x d * Ideal.rsqrt (Ideal.div (∑ e, x e * x e) len + Ideal.ofBits .f32 0x3727C5AC#32) * g

theorem rms_congr {x x' : Fin N → EReal} (h : ∀ e, x e = x' e) (len : EReal) {g g' : EReal} (hg : g = g') (d : Fin N) : rms x len g d = rms x' len g' d := by rw [funext h, hg]

/-- A host sum starts from a zero. -/
theorem zero_start (s : EReal) : Ideal.ofBits .f32 0x00000000#32 + s = s := by rw [Ideal.ofBits_zero_f32, zero_add]

end Cert.Row

end
-- ==== Proof.Row.MlaNorm.lean ====
/- The two row norms of the latent attention: the kernel's row blocks are the reference's rows. -/
module

public import proofs.«01_k».proof.Defs
public import proofs.«01_k».proof.Proof.Row.Basics
public import proofs.«01_k».proof.Proof.Gen.MlaNormIdeal.Value
public import proofs.«01_k».proof.Proof.Gen.MlaNormRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MlaNormIdeal.Row

open Cert.MlaNormIdeal Cert.MlaNormIdeal.Gen Cert.MlaNormIdeal.Value Cert.Row Cert.Proj

variable (m : (ℓ : Loc nD τ sig) → Buf (Elt Ideal) ℓ) (ρ : Dev nD → PrngReg)

/-- Where the windows stand at point `t`. -/
theorem in_eq : ∀ t : Fin cfg0.N, (win0_0.index t 0 = t.val ∧ win0_0.index t 1 = 8) ∧ (win0_1.index t 0 = t.val ∧ win0_1.index t 1 = 18)
    ∧ (win0_2.index t 0 = 0 ∧ win0_2.index t 1 = 0) ∧ (win0_3.index t 0 = 0 ∧ win0_3.index t 1 = 0) :=
  (by decide +kernel : ∀ t : Fin grid0.N, (win0_0.index t 0 = t.val ∧ win0_0.index t 1 = 8) ∧ (win0_1.index t 0 = t.val ∧ win0_1.index t 1 = 18)
    ∧ (win0_2.index t 0 = 0 ∧ win0_2.index t 1 = 0) ∧ (win0_3.index t 0 = 0 ∧ win0_3.index t 1 = 0))
theorem out_eq : ∀ t : Fin cfg0.N, (win0_4.index t 0 = t.val ∧ win0_4.index t 1 = 0) ∧ (win0_5.index t 0 = t.val ∧ win0_5.index t 1 = 0) :=
  (by decide +kernel : ∀ t : Fin grid0.N, (win0_4.index t 0 = t.val ∧ win0_4.index t 1 = 0) ∧ (win0_5.index t 0 = t.val ∧ win0_5.index t 1 = 0))

/-- The point of row block `a`. -/
def pt (a : Fin 4) : Fin cfg0.N := ⟨a.val, by have h : cfg0.N = 4 := N_0; omega⟩

theorem iblk0 (c : Dev nD) (a : Fin 4) (r : Fin 544) (d : Fin 256) :
    (iblk m c 0 (pt a) : Vec Ideal S544x256 .f32) (ix2 r d) = m ((c : Thread nD τ).loc main_arg0) (ix2 (row a r) ⟨2048 + d.val, by omega⟩) := by
  unfold iblk
  rw [View.read_apply]
  show m ((c : Thread nD τ).loc main_arg0) _ = _
  congr 1
  funext b
  refine Fin.ext ?_
  match b with
  | ⟨0, _⟩ => show win0_0.index (pt a) 0 * 544 + 1 * r.val = 544 * a.val + r.val; rw [(in_eq _).1.1]; show a.val * 544 + _ = _; omega
  | ⟨1, _⟩ => show win0_0.index (pt a) 1 * 256 + 1 * d.val = 2048 + d.val; rw [(in_eq _).1.2]; omega

theorem iblk1 (c : Dev nD) (a : Fin 4) (r : Fin 544) (d : Fin 128) :
    (iblk m c 1 (pt a) : Vec Ideal S544x128 .f32) (ix2 r d) = m ((c : Thread nD τ).loc main_arg0) (ix2 (row a r) ⟨2304 + d.val, by omega⟩) := by
  unfold iblk
  rw [View.read_apply]
  show m ((c : Thread nD τ).loc main_arg0) _ = _
  congr 1
  funext b
  refine Fin.ext ?_
  match b with
  | ⟨0, _⟩ => show win0_1.index (pt a) 0 * 544 + 1 * r.val = 544 * a.val + r.val; rw [(in_eq _).2.1.1]; show a.val * 544 + _ = _; omega
  | ⟨1, _⟩ => show win0_1.index (pt a) 1 * 128 + 1 * d.val = 2304 + d.val; rw [(in_eq _).2.1.2]; omega

theorem iblk2 (c : Dev nD) (a : Fin 4) (d : Fin 256) : (iblk m c 2 (pt a) : Vec Ideal S1x256 .f32) (ix2 0 d) = m ((c : Thread nD τ).loc main_arg1) (ix2 0 d) := by
  unfold iblk
  rw [View.read_apply]
  show m ((c : Thread nD τ).loc main_arg1) _ = _
  congr 1
  funext b
  refine Fin.ext ?_
  match b with
  | ⟨0, _⟩ => show win0_2.index (pt a) 0 * 1 + 1 * 0 = 0; rw [(in_eq _).2.2.1.1]
  | ⟨1, _⟩ => show win0_2.index (pt a) 1 * 256 + 1 * d.val = d.val; rw [(in_eq _).2.2.1.2]; omega

theorem iblk3 (c : Dev nD) (a : Fin 4) (d : Fin 128) : (iblk m c 3 (pt a) : Vec Ideal S1x128 .f32) (ix2 0 d) = m ((c : Thread nD τ).loc main_arg2) (ix2 0 d) := by
  unfold iblk
  rw [View.read_apply]
  show m ((c : Thread nD τ).loc main_arg2) _ = _
  congr 1
  funext b
  refine Fin.ext ?_
  match b with
  | ⟨0, _⟩ => show win0_3.index (pt a) 0 * 1 + 1 * 0 = 0; rw [(in_eq _).2.2.2.1]
  | ⟨1, _⟩ => show win0_3.index (pt a) 1 * 128 + 1 * d.val = d.val; rw [(in_eq _).2.2.2.2]; omega

theorem emb4 (a : Fin 4) (r : Fin 544) (d : Fin 256) : ((cfg0.win 4).blk (pt a)).view.emb (ix2 r d) = (ix2 (row a r) d : S2176x256.Idx) := by
  funext b
  refine Fin.ext ?_
  match b with
  | ⟨0, _⟩ => show win0_4.index (pt a) 0 * 544 + 1 * r.val = 544 * a.val + r.val; rw [(out_eq _).1.1]; show a.val * 544 + _ = _; omega
  | ⟨1, _⟩ => show win0_4.index (pt a) 1 * 256 + 1 * d.val = d.val; rw [(out_eq _).1.2]; omega
theorem emb5 (a : Fin 4) (r : Fin 544) (d : Fin 128) : ((cfg0.win 5).blk (pt a)).view.emb (ix2 r d) = (ix2 (row a r) d : S2176x128.Idx) := by
  funext b
  refine Fin.ext ?_
  match b with
  | ⟨0, _⟩ => show win0_5.index (pt a) 0 * 544 + 1 * r.val = 544 * a.val + r.val; rw [(out_eq _).2.1]; show a.val * 544 + _ = _; omega
  | ⟨1, _⟩ => show win0_5.index (pt a) 1 * 128 + 1 * d.val = d.val; rw [(out_eq _).2.2]; omega

/-- What the kernel stores at a row and column: the row's norm. -/
theorem pay1_apply (x : Vec Ideal S544x256 .f32) (g : Vec Ideal S1x256 .f32) (r : Fin 544) (d : Fin 256) :
    k0_pay1 x g (ix2 r d) = rms (fun e => x (ix2 r e)) (Ideal.ofBits .f32 0x43800000#32) (g (ix2 0 d)) d := by
  unfold k0_pay1 rms
  refine congrArg₂ (· * ·) (congrArg (x (ix2 r d) * ·) ((spread _ _ r d).trans ?_)) (under g _ r d)
  exact congrArg (fun s => Ideal.rsqrt (Ideal.div s (Ideal.ofBits .f32 0x43800000#32) + Ideal.ofBits .f32 0x3727C5AC#32)) (rowSum _ _ _ _ _ r)
theorem pay2_apply (x : Vec Ideal S544x128 .f32) (g : Vec Ideal S1x128 .f32) (r : Fin 544) (d : Fin 128) :
    k0_pay2 x g (ix2 r d) = rms (fun e => x (ix2 r e)) (Ideal.ofBits .f32 0x43000000#32) (g (ix2 0 d)) d := by
  unfold k0_pay2 rms
  refine congrArg₂ (· * ·) (congrArg (x (ix2 r d) * ·) ((spread _ _ r d).trans ?_)) (under g _ r d)
  exact congrArg (fun s => Ideal.rsqrt (Ideal.div s (Ideal.ofBits .f32 0x43000000#32) + Ideal.ofBits .f32 0x3727C5AC#32)) (rowSum _ _ _ _ _ r)

/-- The queries' norm after the run -/
theorem final4 (c : Dev nD) (a : Fin 4) (r : Fin 544) (d : Fin 256) : (dats m 0 c).arrAt 4 cfg0.N (ix2 (row a r) d : S2176x256.Idx)
    = rms (fun e : Fin 256 => m ((c : Thread nD τ).loc main_arg0) (ix2 (row a r) ⟨2048 + e.val, by omega⟩)) (Ideal.ofBits .f32 0x43800000#32) (m ((c : Thread nD τ).loc main_arg1) (ix2 0 d)) d := by
  have h := (dats m 0 c).arrAt_emb_eq_flushed 4 disjoint4 (pt a) (flush0_4 _) (ix2 r d)
  refine (congrArg ((dats m 0 c).arrAt 4 cfg0.N) (emb4 a r d)).symm.trans (h.trans ?_)
  refine (cast_eq _ _).trans ((congrFun (flushed4 m c _) _).trans ?_)
  show out0_4 (iblk m c 0 (pt a)) (iblk m c 1 (pt a)) (iblk m c 2 (pt a)) (iblk m c 3 (pt a)) (ix2 r d) = _
  unfold out0_4
  rw [View.canon_unit_zero hz2, View.ld_unit_zero hz2, View.ld_unit_zero hz2, pay1_apply]
  exact rms_congr (fun e => iblk0 m c a r e) _ (iblk2 m c a d) d

/-- and the keys' and values'. -/
theorem final5 (c : Dev nD) (a : Fin 4) (r : Fin 544) (d : Fin 128) : (dats m 0 c).arrAt 5 cfg0.N (ix2 (row a r) d : S2176x128.Idx)
    = rms (fun e : Fin 128 => m ((c : Thread nD τ).loc main_arg0) (ix2 (row a r) ⟨2304 + e.val, by omega⟩)) (Ideal.ofBits .f32 0x43000000#32) (m ((c : Thread nD τ).loc main_arg2) (ix2 0 d)) d := by
  have h := (dats m 0 c).arrAt_emb_eq_flushed 5 disjoint5 (pt a) (flush0_5 _) (ix2 r d)
  refine (congrArg ((dats m 0 c).arrAt 5 cfg0.N) (emb5 a r d)).symm.trans (h.trans ?_)
  refine (cast_eq _ _).trans ((congrFun (flushed5 m c _) _).trans ?_)
  show out0_5 (iblk m c 0 (pt a)) (iblk m c 1 (pt a)) (iblk m c 2 (pt a)) (iblk m c 3 (pt a)) (ix2 r d) = _
  unfold out0_5
  rw [View.canon_unit_zero hz2, View.ld_unit_zero hz2, View.ld_unit_zero hz2, pay2_apply]
  exact rms_congr (fun e => iblk1 m c a r e) _ (iblk3 m c a d) d

end Cert.MlaNormIdeal.Row

namespace Cert.MlaNormRefIdeal.Row

open Cert.MlaNormRefIdeal Cert.MlaNormRefIdeal.Gen Cert.MlaNormRefIdeal.Read Cert.Row

/-- The reference's rows: the queries' norm -/
theorem ref4 (x0 : (⟨S2176x2816, .f32⟩ : BufTy).Contents (Elt Ideal)) (x1 : (⟨S1x256, .f32⟩ : BufTy).Contents (Elt Ideal)) (n : Fin 2176) (d : Fin 256) :
    val_main_v13 (F := Ideal) x0 x1 (ix2 n d) = rms (fun e : Fin 256 => x0 (ix2 n ⟨2048 + e.val, by omega⟩)) (Ideal.ofBits .f32 0x43800000#32) (x1 (ix2 0 d)) d := by
  have hv : ∀ e : Fin 256, val_main_v0 (F := Ideal) x0 (ix2 n e) = x0 (ix2 n ⟨2048 + e.val, by omega⟩) := fun e => (val_main_v0_apply x0 _).trans (congrArg x0 (eq_ix2 _))
  rw [val_main_v13_apply, val_main_v12_apply, val_main_v10_apply, hv, val_main_v9_apply, val_main_v8_apply, val_main_v7_apply, val_main_v5_apply, val_main_v3_apply, val_main_v2_apply, val_main_v11_apply]
  unfold rms
  refine congrArg₂ (· * ·) (congrArg (x0 _ * ·) (congrArg (fun s => Ideal.rsqrt (Ideal.div s (Ideal.ofBits .f32 0x43800000#32) + Ideal.ofBits .f32 0x3727C5AC#32)) ?_)) (congrArg x1 (eq_ix2 _))
  refine (zero_start _).trans (Finset.sum_congr rfl fun e _ => ?_)
  show _ = x0 (ix2 n ⟨2048 + e.val, _⟩) * x0 (ix2 n ⟨2048 + e.val, _⟩)
  rw [← hv e]
  exact (val_main_v1_apply x0 _).trans (congrArg (fun i => val_main_v0 (F := Ideal) x0 i * val_main_v0 (F := Ideal) x0 i) (eq_ix2 _))

/-- and the keys' and values'. -/
theorem ref5 (x0 : (⟨S2176x2816, .f32⟩ : BufTy).Contents (Elt Ideal)) (x2 : (⟨S1x128, .f32⟩ : BufTy).Contents (Elt Ideal)) (n : Fin 2176) (d : Fin 128) :
    val_main_v27 (F := Ideal) x0 x2 (ix2 n d) = rms (fun e : Fin 128 => x0 (ix2 n ⟨2304 + e.val, by omega⟩)) (Ideal.ofBits .f32 0x43000000#32) (x2 (ix2 0 d)) d := by
  have hv : ∀ e : Fin 128, val_main_v14 (F := Ideal) x0 (ix2 n e) = x0 (ix2 n ⟨2304 + e.val, by omega⟩) := fun e => (val_main_v14_apply x0 _).trans (congrArg x0 (eq_ix2 _))
  rw [val_main_v27_apply, val_main_v26_apply, val_main_v24_apply, hv, val_main_v23_apply, val_main_v22_apply, val_main_v21_apply, val_main_v19_apply, val_main_v17_apply, val_main_v16_apply, val_main_v25_apply]
  unfold rms
  refine congrArg₂ (· * ·) (congrArg (x0 _ * ·) (congrArg (fun s => Ideal.rsqrt (Ideal.div s (Ideal.ofBits .f32 0x43000000#32) + Ideal.ofBits .f32 0x3727C5AC#32)) ?_)) (congrArg x2 (eq_ix2 _))
  refine (zero_start _).trans (Finset.sum_congr rfl fun e _ => ?_)
  show _ = x0 (ix2 n ⟨2304 + e.val, _⟩) * x0 (ix2 n ⟨2304 + e.val, _⟩)
  rw [← hv e]
  exact (val_main_v15_apply x0 _).trans (congrArg (fun i => val_main_v14 (F := Ideal) x0 i * val_main_v14 (F := Ideal) x0 i) (eq_ix2 _))

end Cert.MlaNormRefIdeal.Row

namespace Cert.Row

open Cert.Proj

/-- The kernel's two norms are the reference's. -/
theorem mlaNorm : @Cert.algebraic_MlaNormIdeal_MlaNormRefIdeal Cert.MlaNormIdeal.Gen.facts Cert.MlaNormRefIdeal.Gen.facts := fun m g m' g' _ hin =>
  ⟨fun c => (Cert.MlaNormIdeal.Gen.dats m 0 c).arrAt 4 Cert.MlaNormIdeal.cfg0.N, fun c => (Cert.MlaNormIdeal.Gen.dats m 0 c).arrAt 5 Cert.MlaNormIdeal.cfg0.N,
    Cert.MlaNormIdeal.Value.run_blocks m g,
    (θ_run _ _ _).mono (fun r h c => ⟨(h c).1.trans (by
        rw [Cert.MlaNormRefIdeal.Read.val_main_v13_eq, (hin c).1, (hin c).2.1]
        funext i
        rw [eq_ix2 i]
        obtain ⟨t, q, hq⟩ := row_split (i 0)
        rw [hq]
        exact (Cert.MlaNormRefIdeal.Row.ref4 _ _ _ _).trans (Cert.MlaNormIdeal.Row.final4 m c _ _ _).symm),
      (h c).2.1.trans (by
        rw [Cert.MlaNormRefIdeal.Read.val_main_v27_eq, (hin c).1, (hin c).2.2]
        funext i
        rw [eq_ix2 i]
        obtain ⟨t, q, hq⟩ := row_split (i 0)
        rw [hq]
        exact (Cert.MlaNormRefIdeal.Row.ref5 _ _ _ _).trans (Cert.MlaNormIdeal.Row.final5 m c _ _ _).symm), (h c).2.2⟩)
      (Cert.MlaNormRefIdeal.Value.run (F := Ideal) m' g')⟩

end Cert.Row

end
-- ==== Proof.Row.SsdPost.lean ====
/- The state-space layer's skip, gate and row norm: the kernel's blocks, one group of channels each, are the reference's. -/
module

public import proofs.«01_k».proof.Defs
public import proofs.«01_k».proof.Proof.Row.Basics
public import Idealize.ShloMosaic.Lib.IdealHost
public import proofs.«01_k».proof.Proof.Gen.SsdPostIdeal.Value
public import proofs.«01_k».proof.Proof.Gen.SsdPostRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Row

/-- Column `e` of group `k`. -/
abbrev grp (k : Fin 2) (e : Fin 256) : Fin 512 := ⟨256 * k.val + e.val, by omega⟩

theorem grp_split (n : Fin 512) : ∃ k e, n = grp k e := ⟨⟨n.val / 256, by omega⟩, ⟨n.val % 256, by omega⟩, Fin.ext (by show n.val = 256 * (n.val / 256) + n.val % 256; omega)⟩

/-- The skip and the gate on one entry. -/
def gated (y x z s : EReal) : EReal := (y + s * x) * (z * Cert.Dots.sgm z)

end Cert.Row

namespace Cert.SsdPostIdeal.Row

open Cert.SsdPostIdeal Cert.SsdPostIdeal.Gen Cert.SsdPostIdeal.Value Cert.Row Cert.Proj Cert.Dots

variable (m : (ℓ : Loc nD τ sig) → Buf (Elt Ideal) ℓ) (ρ : Dev nD → PrngReg)

/-- Where the windows stand at point `t`: group `t / 4`, row block `t % 4`. -/
theorem in_eq : ∀ t : Fin cfg0.N, (win0_0.index t 0 = t.val % 4 ∧ win0_0.index t 1 = t.val / 4) ∧ (win0_1.index t 0 = t.val % 4 ∧ win0_1.index t 1 = t.val / 4)
    ∧ (win0_2.index t 0 = t.val % 4 ∧ win0_2.index t 1 = t.val / 4) ∧ (win0_3.index t 0 = 0 ∧ win0_3.index t 1 = t.val / 4) ∧ (win0_4.index t 0 = 0 ∧ win0_4.index t 1 = t.val / 4)
    ∧ (win0_5.index t 0 = t.val % 4 ∧ win0_5.index t 1 = t.val / 4) :=
  (by decide +kernel : ∀ t : Fin grid0.N, (win0_0.index t 0 = t.val % 4 ∧ win0_0.index t 1 = t.val / 4) ∧ (win0_1.index t 0 = t.val % 4 ∧ win0_1.index t 1 = t.val / 4)
    ∧ (win0_2.index t 0 = t.val % 4 ∧ win0_2.index t 1 = t.val / 4) ∧ (win0_3.index t 0 = 0 ∧ win0_3.index t 1 = t.val / 4) ∧ (win0_4.index t 0 = 0 ∧ win0_4.index t 1 = t.val / 4)
    ∧ (win0_5.index t 0 = t.val % 4 ∧ win0_5.index t 1 = t.val / 4))

/-- The point of group `k` and row block `a`. -/
def pt (k : Fin 2) (a : Fin 4) : Fin cfg0.N := ⟨4 * k.val + a.val, by have h : cfg0.N = 8 := N_0; omega⟩
theorem pt_div (k : Fin 2) (a : Fin 4) : (pt k a).val / 4 = k.val := by show (4 * k.val + a.val) / 4 = _; omega
theorem pt_mod (k : Fin 2) (a : Fin 4) : (pt k a).val % 4 = a.val := by show (4 * k.val + a.val) % 4 = _; omega

variable (c : Dev nD) (k : Fin 2) (a : Fin 4) (r : Fin 544) (d : Fin 256)

theorem iblk0 : (iblk m c 0 (pt k a) : Vec Ideal S544x256 .f32) (ix2 r d) = m ((c : Thread nD τ).loc main_arg0) (ix2 (row a r) (grp k d)) := by
  unfold iblk
  rw [View.read_apply]
  show m ((c : Thread nD τ).loc main_arg0) _ = _
  congr 1
  funext b
  refine Fin.ext ?_
  match b with
  | ⟨0, _⟩ => show win0_0.index (pt k a) 0 * 544 + 1 * r.val = 544 * a.val + r.val; rw [(in_eq _).1.1, pt_mod]; omega
  | ⟨1, _⟩ => show win0_0.index (pt k a) 1 * 256 + 1 * d.val = 256 * k.val + d.val; rw [(in_eq _).1.2, pt_div]; omega
theorem iblk1 : (iblk m c 1 (pt k a) : Vec Ideal S544x256 .f32) (ix2 r d) = m ((c : Thread nD τ).loc main_arg1) (ix2 (row a r) ⟨(grp k d).val, by omega⟩) := by
  unfold iblk
  rw [View.read_apply]
  show m ((c : Thread nD τ).loc main_arg1) _ = _
  congr 1
  funext b
  refine Fin.ext ?_
  match b with
  | ⟨0, _⟩ => show win0_1.index (pt k a) 0 * 544 + 1 * r.val = 544 * a.val + r.val; rw [(in_eq _).2.1.1, pt_mod]; omega
  | ⟨1, _⟩ => show win0_1.index (pt k a) 1 * 256 + 1 * d.val = 256 * k.val + d.val; rw [(in_eq _).2.1.2, pt_div]; omega
theorem iblk2 : (iblk m c 2 (pt k a) : Vec Ideal S544x256 .f32) (ix2 r d) = m ((c : Thread nD τ).loc main_arg2) (ix2 (row a r) ⟨(grp k d).val, by omega⟩) := by
  unfold iblk
  rw [View.read_apply]
  show m ((c : Thread nD τ).loc main_arg2) _ = _
  congr 1
  funext b
  refine Fin.ext ?_
  match b with
  | ⟨0, _⟩ => show win0_2.index (pt k a) 0 * 544 + 1 * r.val = 544 * a.val + r.val; rw [(in_eq _).2.2.1.1, pt_mod]; omega
  | ⟨1, _⟩ => show win0_2.index (pt k a) 1 * 256 + 1 * d.val = 256 * k.val + d.val; rw [(in_eq _).2.2.1.2, pt_div]; omega
theorem iblk3 : (iblk m c 3 (pt k a) : Vec Ideal S1x256 .f32) (ix2 0 d) = m ((c : Thread nD τ).loc main_arg3) (ix2 0 (grp k d)) := by
  unfold iblk
  rw [View.read_apply]
  show m ((c : Thread nD τ).loc main_arg3) _ = _
  congr 1
  funext b
  refine Fin.ext ?_
  match b with
  | ⟨0, _⟩ => show win0_3.index (pt k a) 0 * 1 + 1 * 0 = 0; rw [(in_eq _).2.2.2.1.1]
  | ⟨1, _⟩ => show win0_3.index (pt k a) 1 * 256 + 1 * d.val = 256 * k.val + d.val; rw [(in_eq _).2.2.2.1.2, pt_div]; omega
theorem iblk4 : (iblk m c 4 (pt k a) : Vec Ideal S1x256 .f32) (ix2 0 d) = m ((c : Thread nD τ).loc main_arg4) (ix2 0 (grp k d)) := by
  unfold iblk
  rw [View.read_apply]
  show m ((c : Thread nD τ).loc main_arg4) _ = _
  congr 1
  funext b
  refine Fin.ext ?_
  match b with
  | ⟨0, _⟩ => show win0_4.index (pt k a) 0 * 1 + 1 * 0 = 0; rw [(in_eq _).2.2.2.2.1.1]
  | ⟨1, _⟩ => show win0_4.index (pt k a) 1 * 256 + 1 * d.val = 256 * k.val + d.val; rw [(in_eq _).2.2.2.2.1.2, pt_div]; omega

theorem emb5 : ((cfg0.win 5).blk (pt k a)).view.emb (ix2 r d) = (ix2 (row a r) (grp k d) : S2176x512.Idx) := by
  funext b
  refine Fin.ext ?_
  match b with
  | ⟨0, _⟩ => show win0_5.index (pt k a) 0 * 544 + 1 * r.val = 544 * a.val + r.val; rw [(in_eq _).2.2.2.2.2.1, pt_mod]; omega
  | ⟨1, _⟩ => show win0_5.index (pt k a) 1 * 256 + 1 * d.val = 256 * k.val + d.val; rw [(in_eq _).2.2.2.2.2.2, pt_div]; omega

/-- What the kernel stores at a row and column: the gated row's norm. -/
theorem pay1_apply (y x z : Vec Ideal S544x256 .f32) (s g : Vec Ideal S1x256 .f32) :
    k0_pay1 y x z s g (ix2 r d) = rms (fun e => gated (y (ix2 r e)) (x (ix2 r e)) (z (ix2 r e)) (s (ix2 0 e))) (Ideal.ofBits .f32 0x43800000#32) (g (ix2 0 d)) d := by
  have h0 : ∀ x : EReal, Ideal.ofBits .f32 0x00000000#32 - x = -x := fun x => by rw [Ideal.ofBits_zero_f32, zero_sub]
  have hu : ∀ e : Fin 256, (y (ix2 r e) + broadcastTo S544x256 s broadcasts_S1x256_S544x256 (ix2 r e) * x (ix2 r e))
      * (z (ix2 r e) * Ideal.div (Ideal.ofBits .f32 0x3F800000#32) (Ideal.ofBits .f32 0x3F800000#32 + Ideal.exp (Ideal.ofBits .f32 0x00000000#32 - z (ix2 r e))))
      = gated (y (ix2 r e)) (x (ix2 r e)) (z (ix2 r e)) (s (ix2 0 e)) := fun e => by
    rw [h0, show broadcastTo S544x256 s broadcasts_S1x256_S544x256 (ix2 r e) = s (ix2 0 e) from under s _ r e]
    rfl
  unfold k0_pay1 rms
  refine congrArg₂ (· * ·) (congrArg₂ (· * ·) (hu d) ((spread _ _ r d).trans ?_)) (under g _ r d)
  refine congrArg (fun s => Ideal.rsqrt (Ideal.div s (Ideal.ofBits .f32 0x43800000#32) + Ideal.ofBits .f32 0x3727C5AC#32)) ((rowSum _ _ _ _ _ r).trans (Finset.sum_congr rfl fun e _ => ?_))
  exact congrArg (fun v : EReal => v * v) (hu e)

/-- The arrays' gated entry. -/
abbrev ent (n : Fin 2176) (e : Fin 256) : EReal := gated (m ((c : Thread nD τ).loc main_arg0) (ix2 n (grp k e))) (m ((c : Thread nD τ).loc main_arg1) (ix2 n ⟨(grp k e).val, by omega⟩))
  (m ((c : Thread nD τ).loc main_arg2) (ix2 n ⟨(grp k e).val, by omega⟩)) (m ((c : Thread nD τ).loc main_arg3) (ix2 0 (grp k e)))

/-- The result after the run. -/
theorem final5 : (dats m 0 c).arrAt 5 cfg0.N (ix2 (row a r) (grp k d) : S2176x512.Idx)
    = rms (ent m c k (row a r)) (Ideal.ofBits .f32 0x43800000#32) (m ((c : Thread nD τ).loc main_arg4) (ix2 0 (grp k d))) d := by
  have h := (dats m 0 c).arrAt_emb_eq_flushed 5 disjoint5 (pt k a) (flush0_5 _) (ix2 r d)
  refine (congrArg ((dats m 0 c).arrAt 5 cfg0.N) (emb5 k a r d)).symm.trans (h.trans ?_)
  refine (cast_eq _ _).trans ((congrFun (flushed5 m c _) _).trans ?_)
  show out0_5 (iblk m c 0 (pt k a)) (iblk m c 1 (pt k a)) (iblk m c 2 (pt k a)) (iblk m c 3 (pt k a)) (iblk m c 4 (pt k a)) (ix2 r d) = _
  unfold out0_5
  rw [View.canon_unit_zero hz2]
  iterate 5 rw [View.ld_unit_zero hz2]
  rw [pay1_apply]
  refine rms_congr (fun e => ?_) _ (iblk4 m c k a d) d
  rw [iblk0, iblk1, iblk2, iblk3]

end Cert.SsdPostIdeal.Row

namespace Cert.SsdPostRefIdeal.Row

open Cert.SsdPostRefIdeal Cert.SsdPostRefIdeal.Gen Cert.SsdPostRefIdeal.Read Cert.Row

variable (x0 : (⟨S2176x512, .f32⟩ : BufTy).Contents (Elt Ideal)) (x1 : (⟨S2176x768, .f32⟩ : BufTy).Contents (Elt Ideal)) (x2 : (⟨S2176x2816, .f32⟩ : BufTy).Contents (Elt Ideal))
  (x3 x4 : (⟨S1x512, .f32⟩ : BufTy).Contents (Elt Ideal)) (n : Fin 2176) (k : Fin 2) (d : Fin 256)

/-- The reference's gated entry, -/
theorem ent_apply : val_main_v6 (F := Ideal) x0 x1 x2 x3 (ix2 n (grp k d)) = gated (x0 (ix2 n (grp k d))) (x1 (ix2 n ⟨(grp k d).val, by omega⟩)) (x2 (ix2 n ⟨(grp k d).val, by omega⟩)) (x3 (ix2 0 (grp k d))) := by
  rw [val_main_v6_apply, val_main_v5_apply, val_main_v3_apply, val_main_v2_apply, val_main_v1_apply, val_main_v0_apply, val_main_call0_v5_apply, val_main_call0_v4_apply, val_main_call0_v3_apply, val_main_call0_v2_apply,
    val_main_call0_v1_apply, val_main_call0_v0_apply, val_main_v4_apply]
  unfold gated
  refine congrArg₂ (· * ·) (congrArg (x0 _ + ·) (congrArg₂ (· * ·) (congrArg x3 (eq_ix2 _)) (congrArg x1 (eq_ix2 _)))) ?_
  exact congrArg (fun v : EReal => v * Cert.Dots.sgm v) (congrArg x2 (eq_ix2 _))

/-- by group, -/
theorem ent3_apply : val_main_v7 (F := Ideal) x0 x1 x2 x3 (ix3 n k d) = gated (x0 (ix2 n (grp k d))) (x1 (ix2 n ⟨(grp k d).val, by omega⟩)) (x2 (ix2 n ⟨(grp k d).val, by omega⟩)) (x3 (ix2 0 (grp k d))) := by
  rw [← ent_apply, val_main_v7_apply]
  refine congrArg _ (funext fun b => Fin.ext ?_)
  match b with
  | ⟨0, _⟩ => show ((n.val * 2 + k.val) * 256 + d.val) / 512 = n.val; omega
  | ⟨1, _⟩ => show ((n.val * 2 + k.val) * 256 + d.val) % 512 = 256 * k.val + d.val; omega

/-- and its row norm. -/
theorem ref5 : val_main_v22 (F := Ideal) x0 x1 x2 x3 x4 (ix2 n (grp k d)) = rms (fun e => gated (x0 (ix2 n (grp k e))) (x1 (ix2 n ⟨(grp k e).val, by omega⟩)) (x2 (ix2 n ⟨(grp k e).val, by omega⟩))
    (x3 (ix2 0 (grp k e)))) (Ideal.ofBits .f32 0x43800000#32) (x4 (ix2 0 (grp k d))) d := by
  have hi : idx_main_v20 (ix2 n (grp k d)) = (ix3 n k d : S2176x2x256.Idx) := funext fun b => Fin.ext (match b with
    | ⟨0, _⟩ => by show (n.val * 512 + (256 * k.val + d.val)) / 512 = n.val; omega
    | ⟨1, _⟩ => by show (n.val * 512 + (256 * k.val + d.val)) / 256 % 2 = k.val; omega
    | ⟨2, _⟩ => by show (n.val * 512 + (256 * k.val + d.val)) % 256 = d.val; omega)
  rw [val_main_v22_apply, val_main_v21_apply, val_main_v20_apply, hi, val_main_v19_apply, val_main_v18_apply, val_main_cst_2_apply, val_main_v17_apply, ent3_apply, val_main_v16_apply, val_main_v15_apply,
    val_main_v14_apply, val_main_v12_apply, val_main_v10_apply, val_main_v9_apply]
  unfold rms
  refine congrArg₂ (· * ·) ((congrArg (_ * ·) Ideal.ofBits_one_f32).trans ((mul_one _).trans ?_)) (congrArg x4 (eq_ix2 _))
  refine congrArg (_ * ·) (congrArg (fun s => Ideal.rsqrt (Ideal.div s (Ideal.ofBits .f32 0x43800000#32) + Ideal.ofBits .f32 0x3727C5AC#32)) ((zero_start _).trans (Finset.sum_congr rfl fun e _ => ?_)))
  exact (val_main_v8_apply x0 x1 x2 x3 _).trans (congrArg (fun v : EReal => v * v) ((congrArg (val_main_v7 (F := Ideal) x0 x1 x2 x3) (eq_ix3 _)).trans (ent3_apply x0 x1 x2 x3 n k e)))

end Cert.SsdPostRefIdeal.Row

namespace Cert.Row

open Cert.Proj

/-- The kernel's gated and normalised rows are the reference's. -/
theorem ssdPost : @Cert.algebraic_SsdPostIdeal_SsdPostRefIdeal Cert.SsdPostIdeal.Gen.facts Cert.SsdPostRefIdeal.Gen.facts := fun m g m' g' _ hin =>
  ⟨fun c => (Cert.SsdPostIdeal.Gen.dats m 0 c).arrAt 5 Cert.SsdPostIdeal.cfg0.N,
    Cert.SsdPostIdeal.Value.run_blocks m g,
    (θ_run _ _ _).mono (fun r h c => ⟨(h c).1.trans (by
        rw [Cert.SsdPostRefIdeal.Read.val_main_v22_eq, (hin c).1, (hin c).2.1, (hin c).2.2.1, (hin c).2.2.2.1, (hin c).2.2.2.2]
        funext i
        rw [eq_ix2 i]
        obtain ⟨t, q, hq⟩ := row_split (i 0)
        obtain ⟨k, e, he⟩ := grp_split (i 1)
        rw [hq, he]
        exact (Cert.SsdPostRefIdeal.Row.ref5 _ _ _ _ _ _ _ _).trans (Cert.SsdPostIdeal.Row.final5 m c _ _ _ _).symm), (h c).2⟩)
      (Cert.SsdPostRefIdeal.Value.run (F := Ideal) m' g')⟩

end Cert.Row

end
-- ==== Proof.Row.Turn.lean ====
/- The halves of a rotary block: a rotation by half of it, two halves side by side, and a table repeated for every head. -/
module

public import proofs.«01_k».proof.Proof.Row.Basics
public import Idealize.ShloMosaic.Lib.Pipeline.Value
public import Idealize.ShloMosaic.Lib.KernelVsHost

@[expose] public section

noncomputable section

open Idealize.ShloMosaic Idealize.ShloMosaic.ValueIdx

namespace Cert.Row

/-- Column `e` of the first half, -/
abbrev lo (e : Fin 64) : Fin 128 := ⟨e.val, by omega⟩

/-- of the second, -/
abbrev hi (e : Fin 64) : Fin 128 := ⟨64 + e.val, by omega⟩

theorem half_split (n : Fin 128) : (∃ e, n = lo e) ∨ ∃ e, n = hi e := by
  by_cases h : n.val < 64
  · exact .inl ⟨⟨n.val, h⟩, rfl⟩
  · exact .inr ⟨⟨n.val - 64, by omega⟩, Fin.ext (by show n.val = 64 + (n.val - 64); omega)⟩

/-- and the table's column for either. -/
abbrev col (e : Fin 64) : Fin 16 := ⟨e.val % 16, by omega⟩

/-- A pair of coordinates turned by an angle: the first, -/
def turnLo (x y cs sn : EReal) : EReal := x * cs - y * sn
/-- the second; -/
def turnHi (x y cs sn : EReal) : EReal := y * cs + x * sn
/-- and turned back. -/
def backLo (x y cs sn : EReal) : EReal := x * cs + y * sn
def backHi (x y cs sn : EReal) : EReal := y * cs - x * sn

theorem backHi_eq (x y cs sn : EReal) : y * cs + -x * sn = backHi x y cs sn := by rw [neg_mul, ← sub_eq_add_neg]; rfl

variable {M : Nat}

/-- A rotation by half the columns exchanges the halves. -/
theorem rot_lo {α : Type} (x : (⟨2, ![M, 128]⟩ : Shape).Idx → α) (h : (⟨2, ![M, 128]⟩ : Shape).Rotates 1 none) (r : Fin M) (e : Fin 64) : dynamicRotate 1 64#32 none x h (ix2 r (lo e)) = x (ix2 r (hi e)) :=
  dynamicRotate_apply 1 64#32 x h _ _ fun b => match b with
    | ⟨0, _⟩ => rfl
    | ⟨1, _⟩ => by show 64 + e.val = (e.val + 128 - 64 % 128) % 128; omega
theorem rot_hi {α : Type} (x : (⟨2, ![M, 128]⟩ : Shape).Idx → α) (h : (⟨2, ![M, 128]⟩ : Shape).Rotates 1 none) (r : Fin M) (e : Fin 64) : dynamicRotate 1 64#32 none x h (ix2 r (hi e)) = x (ix2 r (lo e)) :=
  dynamicRotate_apply 1 64#32 x h _ _ fun b => match b with
    | ⟨0, _⟩ => rfl
    | ⟨1, _⟩ => by show e.val = (64 + e.val + 128 - 64 % 128) % 128; omega

/-- Two halves side by side. -/
theorem cat_lo {α : Type} (x y : (⟨2, ![M, 64]⟩ : Shape).Idx → α) (h : Shape.Concatenates [(⟨2, ![M, 64]⟩ : Shape), ⟨2, ![M, 64]⟩] ⟨2, ![M, 128]⟩ 1) (r : Fin M) (e : Fin 64) :
    concatenate ⟨2, ![M, 128]⟩ 1 [⟨⟨2, ![M, 64]⟩, x⟩, ⟨⟨2, ![M, 64]⟩, y⟩] h (ix2 r (lo e)) = x (ix2 r e) :=
  concatenate_pair_apply_left _ _ _ h _ rfl (ix2 r e) fun b => match b with
    | ⟨0, _⟩ => rfl
    | ⟨1, _⟩ => rfl
theorem cat_hi {α : Type} (x y : (⟨2, ![M, 64]⟩ : Shape).Idx → α) (h : Shape.Concatenates [(⟨2, ![M, 64]⟩ : Shape), ⟨2, ![M, 64]⟩] ⟨2, ![M, 128]⟩ 1) (r : Fin M) (e : Fin 64) :
    concatenate ⟨2, ![M, 128]⟩ 1 [⟨⟨2, ![M, 64]⟩, x⟩, ⟨⟨2, ![M, 64]⟩, y⟩] h (ix2 r (hi e)) = y (ix2 r e) :=
  concatenate_pair_apply_right _ _ _ h _ rfl rfl (ix2 r e) (fun b hb => match b with
    | ⟨0, _⟩ => rfl
    | ⟨1, _⟩ => absurd rfl hb) (by show e.val + 64 = 64 + e.val; omega)

/-- A table repeated for every head. -/
theorem tile_apply {α : Type} (x : (⟨2, ![2176, 16]⟩ : Shape).Idx → α) (h1 : (⟨2, ![2176, 16]⟩ : Shape).ShapeCasts ⟨4, ![1, 2176, 1, 16]⟩)
    (h2 : (⟨4, ![1, 2176, 1, 16]⟩ : Shape).BroadcastsInDim ⟨4, ![1, 2176, 4, 16]⟩ (![0, 1, 2, 3] : Fin 4 → Fin 4)) (h3 : (⟨4, ![1, 2176, 4, 16]⟩ : Shape).ShapeCasts ⟨2, ![2176, 64]⟩) (n : Fin 2176) (e : Fin 64) :
    shapeCast ⟨2, ![2176, 64]⟩ (broadcastInDim ⟨4, ![1, 2176, 4, 16]⟩ ![0, 1, 2, 3] h2 (shapeCast ⟨4, ![1, 2176, 1, 16]⟩ x h1)) h3 (ix2 n e) = x (ix2 n (col e)) := by
  refine (shapeCast_apply _ h3 _ (ix4 0 n ⟨e.val / 16, by omega⟩ (col e)) ?_).trans ((broadcastInDim_apply _ h2 _ _ (ix4 0 n 0 (col e)) fun b => ?_).trans (shapeCast_apply x h1 _ (ix2 n (col e)) ?_))
  · rw [Shape.rowMajor_val_four, Shape.rowMajor_val_two]
    show ((0 * 2176 + n.val) * 4 + e.val / 16) * 16 + e.val % 16 = n.val * 64 + e.val
    omega
  · match b with
    | ⟨0, _⟩ => rfl
    | ⟨1, _⟩ => rfl
    | ⟨2, _⟩ => rfl
    | ⟨3, _⟩ => rfl
  · rw [Shape.rowMajor_val_four, Shape.rowMajor_val_two]
    show n.val * 16 + e.val % 16 = ((0 * 2176 + n.val) * 1 + 0) * 16 + e.val % 16
    omega

end Cert.Row

end
-- ==== Proof.Row.Rope.lean ====
/- The rotary turn of the latent attention's queries and shared key: the kernel's row blocks are the reference's rows. -/
module

public import proofs.«01_k».proof.Defs
public import proofs.«01_k».proof.Proof.Row.Turn
public import proofs.«01_k».proof.Proof.Gen.RopeIdeal.Value
public import proofs.«01_k».proof.Proof.Gen.RopeRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.RopeIdeal.Row

open Cert.RopeIdeal Cert.RopeIdeal.Gen Cert.RopeIdeal.Value Cert.Row Cert.Proj

variable (m : (ℓ : Loc nD τ sig) → Buf (Elt Ideal) ℓ) (ρ : Dev nD → PrngReg)

/-- Where the windows stand at point `t`. -/
theorem in_eq : ∀ t : Fin cfg0.N, (win0_0.index t 0 = t.val ∧ win0_0.index t 1 = 2) ∧ (win0_1.index t 0 = t.val ∧ win0_1.index t 1 = 21)
    ∧ (win0_2.index t 0 = t.val ∧ win0_2.index t 1 = 0) ∧ (win0_3.index t 0 = t.val ∧ win0_3.index t 1 = 0) :=
  (by decide +kernel : ∀ t : Fin grid0.N, (win0_0.index t 0 = t.val ∧ win0_0.index t 1 = 2) ∧ (win0_1.index t 0 = t.val ∧ win0_1.index t 1 = 21)
    ∧ (win0_2.index t 0 = t.val ∧ win0_2.index t 1 = 0) ∧ (win0_3.index t 0 = t.val ∧ win0_3.index t 1 = 0))
theorem out_eq : ∀ t : Fin cfg0.N, (win0_4.index t 0 = t.val ∧ win0_4.index t 1 = 0) ∧ (win0_5.index t 0 = t.val ∧ win0_5.index t 1 = 0) :=
  (by decide +kernel : ∀ t : Fin grid0.N, (win0_4.index t 0 = t.val ∧ win0_4.index t 1 = 0) ∧ (win0_5.index t 0 = t.val ∧ win0_5.index t 1 = 0))

/-- The point of row block `a`. -/
def pt (a : Fin 4) : Fin cfg0.N := ⟨a.val, by have h : cfg0.N = 4 := N_0; omega⟩

/-- The tables the host lays out for the call: the cosines in both halves, -/
theorem cos_eq (c : Dev nD) : (V m c main_v6 : Vec Ideal S2176x128 .f32) = concatenate S2176x128 1
    [⟨S2176x64, shapeCast S2176x64 (broadcastInDim S1x2176x4x16 ![0, 1, 2, 3] bcast_S1x2176x1x16_S1x2176x4x16_0_1_2_3 (shapeCast S1x2176x1x16 (m ((c : Thread nD τ).loc main_arg2) : Vec Ideal S2176x16 .f32) shapeCasts_S2176x16_S1x2176x1x16)) shapeCasts_S1x2176x4x16_S2176x64⟩,
     ⟨S2176x64, shapeCast S2176x64 (broadcastInDim S1x2176x4x16 ![0, 1, 2, 3] bcast_S1x2176x1x16_S1x2176x4x16_0_1_2_3 (shapeCast S1x2176x1x16 (m ((c : Thread nD τ).loc main_arg2) : Vec Ideal S2176x16 .f32) shapeCasts_S2176x16_S1x2176x1x16)) shapeCasts_S1x2176x4x16_S2176x64⟩]
    concatenates_S2176x64_S2176x64_S2176x128_d1 := by
  unfold_abbrev_sides
  after_results_simp <;> rfl

/-- the sines in the second, negated in the first. -/
theorem sin_eq (c : Dev nD) : (V m c main_v8 : Vec Ideal S2176x128 .f32) = concatenate S2176x128 1
    [⟨S2176x64, Host.negf (F := Ideal) (φ := .f32) (shapeCast S2176x64 (broadcastInDim S1x2176x4x16 ![0, 1, 2, 3] bcast_S1x2176x1x16_S1x2176x4x16_0_1_2_3 (shapeCast S1x2176x1x16 (m ((c : Thread nD τ).loc main_arg3) : Vec Ideal S2176x16 .f32) shapeCasts_S2176x16_S1x2176x1x16)) shapeCasts_S1x2176x4x16_S2176x64)⟩,
     ⟨S2176x64, shapeCast S2176x64 (broadcastInDim S1x2176x4x16 ![0, 1, 2, 3] bcast_S1x2176x1x16_S1x2176x4x16_0_1_2_3 (shapeCast S1x2176x1x16 (m ((c : Thread nD τ).loc main_arg3) : Vec Ideal S2176x16 .f32) shapeCasts_S2176x16_S1x2176x1x16)) shapeCasts_S1x2176x4x16_S2176x64⟩]
    concatenates_S2176x64_S2176x64_S2176x128_d1 := by
  unfold_abbrev_sides
  after_results_simp <;> rfl

theorem cos_lo (c : Dev nD) (n : Fin 2176) (e : Fin 64) : (V m c main_v6 : Vec Ideal S2176x128 .f32) (ix2 n (lo e)) = m ((c : Thread nD τ).loc main_arg2) (ix2 n (col e)) :=
  (congrFun (cos_eq m c) _).trans ((cat_lo _ _ _ n e).trans (tile_apply _ _ _ _ n e))
theorem cos_hi (c : Dev nD) (n : Fin 2176) (e : Fin 64) : (V m c main_v6 : Vec Ideal S2176x128 .f32) (ix2 n (hi e)) = m ((c : Thread nD τ).loc main_arg2) (ix2 n (col e)) :=
  (congrFun (cos_eq m c) _).trans ((cat_hi _ _ _ n e).trans (tile_apply _ _ _ _ n e))
theorem sin_lo (c : Dev nD) (n : Fin 2176) (e : Fin 64) : (V m c main_v8 : Vec Ideal S2176x128 .f32) (ix2 n (lo e)) = Neg.neg (α := EReal) (m ((c : Thread nD τ).loc main_arg3) (ix2 n (col e))) :=
  (congrFun (sin_eq m c) _).trans ((cat_lo _ _ _ n e).trans (congrArg (fun v : EReal => -v) (tile_apply _ _ _ _ n e)))
theorem sin_hi (c : Dev nD) (n : Fin 2176) (e : Fin 64) : (V m c main_v8 : Vec Ideal S2176x128 .f32) (ix2 n (hi e)) = m ((c : Thread nD τ).loc main_arg3) (ix2 n (col e)) :=
  (congrFun (sin_eq m c) _).trans ((cat_hi _ _ _ n e).trans (tile_apply _ _ _ _ n e))

theorem iblk0 (c : Dev nD) (a : Fin 4) (r : Fin 544) (d : Fin 128) :
    (iblk m c 0 (pt a) : Vec Ideal S544x128 .f32) (ix2 r d) = m ((c : Thread nD τ).loc main_arg0) (ix2 (row a r) ⟨256 + d.val, by omega⟩) := by
  unfold iblk
  rw [View.read_apply]
  refine (congrFun (V_main_arg0 m c) _).trans ?_
  congr 1
  funext b
  refine Fin.ext ?_
  match b with
  | ⟨0, _⟩ => show win0_0.index (pt a) 0 * 544 + 1 * r.val = 544 * a.val + r.val; rw [(in_eq _).1.1]; show a.val * 544 + _ = _; omega
  | ⟨1, _⟩ => show win0_0.index (pt a) 1 * 128 + 1 * d.val = 256 + d.val; rw [(in_eq _).1.2]; omega

theorem iblk1 (c : Dev nD) (a : Fin 4) (r : Fin 544) (d : Fin 128) :
    (iblk m c 1 (pt a) : Vec Ideal S544x128 .f32) (ix2 r d) = m ((c : Thread nD τ).loc main_arg1) (ix2 (row a r) ⟨2688 + d.val, by omega⟩) := by
  unfold iblk
  rw [View.read_apply]
  refine (congrFun (V_main_arg1 m c) _).trans ?_
  congr 1
  funext b
  refine Fin.ext ?_
  match b with
  | ⟨0, _⟩ => show win0_1.index (pt a) 0 * 544 + 1 * r.val = 544 * a.val + r.val; rw [(in_eq _).2.1.1]; show a.val * 544 + _ = _; omega
  | ⟨1, _⟩ => show win0_1.index (pt a) 1 * 128 + 1 * d.val = 2688 + d.val; rw [(in_eq _).2.1.2]; omega

theorem iblk2 (c : Dev nD) (a : Fin 4) (r : Fin 544) (d : Fin 128) :
    (iblk m c 2 (pt a) : Vec Ideal S544x128 .f32) (ix2 r d) = (V m c main_v6 : Vec Ideal S2176x128 .f32) (ix2 (row a r) d) := by
  unfold iblk
  rw [View.read_apply]
  show V m c main_v6 _ = _
  congr 1
  funext b
  refine Fin.ext ?_
  match b with
  | ⟨0, _⟩ => show win0_2.index (pt a) 0 * 544 + 1 * r.val = 544 * a.val + r.val; rw [(in_eq _).2.2.1.1]; show a.val * 544 + _ = _; omega
  | ⟨1, _⟩ => show win0_2.index (pt a) 1 * 128 + 1 * d.val = d.val; rw [(in_eq _).2.2.1.2]; omega

theorem iblk3 (c : Dev nD) (a : Fin 4) (r : Fin 544) (d : Fin 128) :
    (iblk m c 3 (pt a) : Vec Ideal S544x128 .f32) (ix2 r d) = (V m c main_v8 : Vec Ideal S2176x128 .f32) (ix2 (row a r) d) := by
  unfold iblk
  rw [View.read_apply]
  show V m c main_v8 _ = _
  congr 1
  funext b
  refine Fin.ext ?_
  match b with
  | ⟨0, _⟩ => show win0_3.index (pt a) 0 * 544 + 1 * r.val = 544 * a.val + r.val; rw [(in_eq _).2.2.2.1]; show a.val * 544 + _ = _; omega
  | ⟨1, _⟩ => show win0_3.index (pt a) 1 * 128 + 1 * d.val = d.val; rw [(in_eq _).2.2.2.2]; omega

theorem emb4 (a : Fin 4) (r : Fin 544) (d : Fin 128) : ((cfg0.win 4).blk (pt a)).view.emb (ix2 r d) = (ix2 (row a r) d : S2176x128.Idx) := by
  funext b
  refine Fin.ext ?_
  match b with
  | ⟨0, _⟩ => show win0_4.index (pt a) 0 * 544 + 1 * r.val = 544 * a.val + r.val; rw [(out_eq _).1.1]; show a.val * 544 + _ = _; omega
  | ⟨1, _⟩ => show win0_4.index (pt a) 1 * 128 + 1 * d.val = d.val; rw [(out_eq _).1.2]; omega
theorem emb5 (a : Fin 4) (r : Fin 544) (d : Fin 128) : ((cfg0.win 5).blk (pt a)).view.emb (ix2 r d) = (ix2 (row a r) d : S2176x128.Idx) := by
  funext b
  refine Fin.ext ?_
  match b with
  | ⟨0, _⟩ => show win0_5.index (pt a) 0 * 544 + 1 * r.val = 544 * a.val + r.val; rw [(out_eq _).2.1]; show a.val * 544 + _ = _; omega
  | ⟨1, _⟩ => show win0_5.index (pt a) 1 * 128 + 1 * d.val = d.val; rw [(out_eq _).2.2]; omega

/-- What the kernel stores, over either half; both stores are of one form. -/
theorem pay_eq (x cs sn : Vec Ideal S544x128 .f32) : k0_pay4 x cs sn = k0_pay3 x cs sn := rfl
theorem pay_lo (x cs sn : Vec Ideal S544x128 .f32) (r : Fin 544) (e : Fin 64) :
    k0_pay3 x cs sn (ix2 r (lo e)) = (x (ix2 r (lo e)) * cs (ix2 r (lo e)) + x (ix2 r (hi e)) * sn (ix2 r (lo e)) : EReal) := by
  unfold k0_pay3 k0_pay1 k0_pay2
  rw [shapeCast_self, shapeCast_self]
  exact congrArg (fun v : EReal => x (ix2 r (lo e)) * cs (ix2 r (lo e)) + v * sn (ix2 r (lo e))) (rot_lo x _ r e)
theorem pay_hi (x cs sn : Vec Ideal S544x128 .f32) (r : Fin 544) (e : Fin 64) :
    k0_pay3 x cs sn (ix2 r (hi e)) = (x (ix2 r (hi e)) * cs (ix2 r (hi e)) + x (ix2 r (lo e)) * sn (ix2 r (hi e)) : EReal) := by
  unfold k0_pay3 k0_pay1 k0_pay2
  rw [shapeCast_self, shapeCast_self]
  exact congrArg (fun v : EReal => x (ix2 r (hi e)) * cs (ix2 r (hi e)) + v * sn (ix2 r (hi e))) (rot_hi x _ r e)

/-- A turned row from the row, the cosines and the sines. -/
theorem turned (x : Vec Ideal S544x128 .f32) (c : Dev nD) (a : Fin 4) (r : Fin 544) (e : Fin 64) :
    k0_pay3 x (iblk m c 2 (pt a)) (iblk m c 3 (pt a)) (ix2 r (lo e))
        = turnLo (x (ix2 r (lo e))) (x (ix2 r (hi e))) (m ((c : Thread nD τ).loc main_arg2) (ix2 (row a r) (col e))) (m ((c : Thread nD τ).loc main_arg3) (ix2 (row a r) (col e)))
    ∧ k0_pay3 x (iblk m c 2 (pt a)) (iblk m c 3 (pt a)) (ix2 r (hi e))
        = turnHi (x (ix2 r (lo e))) (x (ix2 r (hi e))) (m ((c : Thread nD τ).loc main_arg2) (ix2 (row a r) (col e))) (m ((c : Thread nD τ).loc main_arg3) (ix2 (row a r) (col e))) := by
  constructor
  · rw [pay_lo, iblk2, iblk3, cos_lo, sin_lo, mul_neg, ← sub_eq_add_neg]; rfl
  · rw [pay_hi, iblk2, iblk3, cos_hi, sin_hi]; rfl

/-- The turned queries after the run -/
theorem final4 (c : Dev nD) (a : Fin 4) (r : Fin 544) (d : Fin 128) : (dats m 0 c).arrAt 4 cfg0.N (ix2 (row a r) d : S2176x128.Idx)
    = k0_pay3 (iblk m c 0 (pt a)) (iblk m c 2 (pt a)) (iblk m c 3 (pt a)) (ix2 r d) := by
  have h := (dats m 0 c).arrAt_emb_eq_flushed 4 disjoint4 (pt a) (flush0_4 _) (ix2 r d)
  refine (congrArg ((dats m 0 c).arrAt 4 cfg0.N) (emb4 a r d)).symm.trans (h.trans ?_)
  refine (cast_eq _ _).trans ((congrFun (flushed4 m c _) _).trans ?_)
  show out0_4 (iblk m c 0 (pt a)) (iblk m c 1 (pt a)) (iblk m c 2 (pt a)) (iblk m c 3 (pt a)) (ix2 r d) = _
  unfold out0_4
  rw [View.canon_unit_zero hz2, View.ld_unit_zero hz2, View.ld_unit_zero hz2, View.ld_unit_zero hz2]

/-- and the turned key. -/
theorem final5 (c : Dev nD) (a : Fin 4) (r : Fin 544) (d : Fin 128) : (dats m 0 c).arrAt 5 cfg0.N (ix2 (row a r) d : S2176x128.Idx)
    = k0_pay3 (iblk m c 1 (pt a)) (iblk m c 2 (pt a)) (iblk m c 3 (pt a)) (ix2 r d) := by
  have h := (dats m 0 c).arrAt_emb_eq_flushed 5 disjoint5 (pt a) (flush0_5 _) (ix2 r d)
  refine (congrArg ((dats m 0 c).arrAt 5 cfg0.N) (emb5 a r d)).symm.trans (h.trans ?_)
  refine (cast_eq _ _).trans ((congrFun (flushed5 m c _) _).trans ?_)
  show out0_5 (iblk m c 0 (pt a)) (iblk m c 1 (pt a)) (iblk m c 2 (pt a)) (iblk m c 3 (pt a)) (ix2 r d) = _
  unfold out0_5
  rw [View.canon_unit_zero hz2, View.ld_unit_zero hz2, View.ld_unit_zero hz2, View.ld_unit_zero hz2, pay_eq]

end Cert.RopeIdeal.Row

namespace Cert.RopeRefIdeal.Row

open Cert.RopeRefIdeal Cert.RopeRefIdeal.Gen Cert.RopeRefIdeal.Read Cert.Row

theorem cosR (x2 : (⟨S2176x16, .f32⟩ : BufTy).Contents (Elt Ideal)) (n : Fin 2176) (e : Fin 64) : val_main_v2 (F := Ideal) x2 (ix2 n e) = x2 (ix2 n (col e)) := by
  unfold val_main_v2 val_main_v1 val_main_v0
  exact tile_apply _ _ _ _ n e
theorem sinR (x3 : (⟨S2176x16, .f32⟩ : BufTy).Contents (Elt Ideal)) (n : Fin 2176) (e : Fin 64) : val_main_v5 (F := Ideal) x3 (ix2 n e) = x3 (ix2 n (col e)) := by
  unfold val_main_v5 val_main_v4 val_main_v3
  exact tile_apply _ _ _ _ n e

/-- The reference's rows: the turned queries -/
theorem ref4 (x0 : (⟨S2176x384, .f32⟩ : BufTy).Contents (Elt Ideal)) (x2 x3 : (⟨S2176x16, .f32⟩ : BufTy).Contents (Elt Ideal)) (n : Fin 2176) (e : Fin 64) :
    val_main_v15 (F := Ideal) x0 x2 x3 (ix2 n (lo e)) = turnLo (x0 (ix2 n ⟨256 + (lo e).val, by omega⟩)) (x0 (ix2 n ⟨256 + (hi e).val, by omega⟩)) (x2 (ix2 n (col e))) (x3 (ix2 n (col e)))
    ∧ val_main_v15 (F := Ideal) x0 x2 x3 (ix2 n (hi e)) = turnHi (x0 (ix2 n ⟨256 + (lo e).val, by omega⟩)) (x0 (ix2 n ⟨256 + (hi e).val, by omega⟩)) (x2 (ix2 n (col e))) (x3 (ix2 n (col e))) := by
  have hl : val_main_v7 (F := Ideal) x0 (ix2 n e) = x0 (ix2 n ⟨256 + (lo e).val, by omega⟩) :=
    (val_main_v7_apply x0 _).trans ((val_main_v6_apply x0 _).trans (congrArg x0 (eq_ix2 _)))
  have hh : val_main_v8 (F := Ideal) x0 (ix2 n e) = x0 (ix2 n ⟨256 + (hi e).val, by omega⟩) :=
    (val_main_v8_apply x0 _).trans ((val_main_v6_apply x0 _).trans (congrArg x0 (eq_ix2 _)))
  unfold val_main_v15
  constructor
  · refine (cat_lo _ _ _ n e).trans ?_
    rw [val_main_v11_apply, val_main_v9_apply, val_main_v10_apply, hl, hh, cosR, sinR]; rfl
  · refine (cat_hi _ _ _ n e).trans ?_
    rw [val_main_v14_apply, val_main_v12_apply, val_main_v13_apply, hl, hh, cosR, sinR]; rfl

/-- and the turned key. -/
theorem ref5 (x1 : (⟨S2176x2816, .f32⟩ : BufTy).Contents (Elt Ideal)) (x2 x3 : (⟨S2176x16, .f32⟩ : BufTy).Contents (Elt Ideal)) (n : Fin 2176) (e : Fin 64) :
    val_main_v25 (F := Ideal) x1 x2 x3 (ix2 n (lo e)) = turnLo (x1 (ix2 n ⟨2688 + (lo e).val, by omega⟩)) (x1 (ix2 n ⟨2688 + (hi e).val, by omega⟩)) (x2 (ix2 n (col e))) (x3 (ix2 n (col e)))
    ∧ val_main_v25 (F := Ideal) x1 x2 x3 (ix2 n (hi e)) = turnHi (x1 (ix2 n ⟨2688 + (lo e).val, by omega⟩)) (x1 (ix2 n ⟨2688 + (hi e).val, by omega⟩)) (x2 (ix2 n (col e))) (x3 (ix2 n (col e))) := by
  have hl : val_main_v17 (F := Ideal) x1 (ix2 n e) = x1 (ix2 n ⟨2688 + (lo e).val, by omega⟩) :=
    (val_main_v17_apply x1 _).trans ((val_main_v16_apply x1 _).trans (congrArg x1 (eq_ix2 _)))
  have hh : val_main_v18 (F := Ideal) x1 (ix2 n e) = x1 (ix2 n ⟨2688 + (hi e).val, by omega⟩) :=
    (val_main_v18_apply x1 _).trans ((val_main_v16_apply x1 _).trans (congrArg x1 (eq_ix2 _)))
  unfold val_main_v25
  constructor
  · refine (cat_lo _ _ _ n e).trans ?_
    rw [val_main_v21_apply, val_main_v19_apply, val_main_v20_apply, hl, hh, cosR, sinR]; rfl
  · refine (cat_hi _ _ _ n e).trans ?_
    rw [val_main_v24_apply, val_main_v22_apply, val_main_v23_apply, hl, hh, cosR, sinR]; rfl

end Cert.RopeRefIdeal.Row

namespace Cert.Row

open Cert.Proj

variable (m : (ℓ : Loc Cert.RopeIdeal.nD Cert.RopeIdeal.τ Cert.RopeIdeal.sig) → Buf (Elt Ideal) ℓ)

theorem rope4 (c : Dev Cert.RopeIdeal.nD) : Cert.RopeRefIdeal.Read.val_main_v15 (F := Ideal) (m ((c : Thread Cert.RopeIdeal.nD Cert.RopeIdeal.τ).loc Cert.RopeIdeal.main_arg0))
      (m ((c : Thread Cert.RopeIdeal.nD Cert.RopeIdeal.τ).loc Cert.RopeIdeal.main_arg2)) (m ((c : Thread Cert.RopeIdeal.nD Cert.RopeIdeal.τ).loc Cert.RopeIdeal.main_arg3))
    = (Cert.RopeIdeal.Gen.dats m 0 c).arrAt 4 Cert.RopeIdeal.cfg0.N := by
  funext i
  rw [eq_ix2 i]
  obtain ⟨t, q, hq⟩ := row_split (i 0)
  rw [hq]
  refine Eq.trans ?_ (Cert.RopeIdeal.Row.final4 m c t q (i 1)).symm
  obtain ⟨e, he⟩ | ⟨e, he⟩ := half_split (i 1) <;> rw [he]
  · refine (Cert.RopeRefIdeal.Row.ref4 _ _ _ _ e).1.trans (Eq.trans ?_ (Cert.RopeIdeal.Row.turned m _ c t q e).1.symm)
    exact congrArg₂ (fun x y => turnLo x y _ _) (Cert.RopeIdeal.Row.iblk0 m c t q (lo e)).symm (Cert.RopeIdeal.Row.iblk0 m c t q (hi e)).symm
  · refine (Cert.RopeRefIdeal.Row.ref4 _ _ _ _ e).2.trans (Eq.trans ?_ (Cert.RopeIdeal.Row.turned m _ c t q e).2.symm)
    exact congrArg₂ (fun x y => turnHi x y _ _) (Cert.RopeIdeal.Row.iblk0 m c t q (lo e)).symm (Cert.RopeIdeal.Row.iblk0 m c t q (hi e)).symm

theorem rope5 (c : Dev Cert.RopeIdeal.nD) : Cert.RopeRefIdeal.Read.val_main_v25 (F := Ideal) (m ((c : Thread Cert.RopeIdeal.nD Cert.RopeIdeal.τ).loc Cert.RopeIdeal.main_arg1))
      (m ((c : Thread Cert.RopeIdeal.nD Cert.RopeIdeal.τ).loc Cert.RopeIdeal.main_arg2)) (m ((c : Thread Cert.RopeIdeal.nD Cert.RopeIdeal.τ).loc Cert.RopeIdeal.main_arg3))
    = (Cert.RopeIdeal.Gen.dats m 0 c).arrAt 5 Cert.RopeIdeal.cfg0.N := by
  funext i
  rw [eq_ix2 i]
  obtain ⟨t, q, hq⟩ := row_split (i 0)
  rw [hq]
  refine Eq.trans ?_ (Cert.RopeIdeal.Row.final5 m c t q (i 1)).symm
  obtain ⟨e, he⟩ | ⟨e, he⟩ := half_split (i 1) <;> rw [he]
  · refine (Cert.RopeRefIdeal.Row.ref5 _ _ _ _ e).1.trans (Eq.trans ?_ (Cert.RopeIdeal.Row.turned m _ c t q e).1.symm)
    exact congrArg₂ (fun x y => turnLo x y _ _) (Cert.RopeIdeal.Row.iblk1 m c t q (lo e)).symm (Cert.RopeIdeal.Row.iblk1 m c t q (hi e)).symm
  · refine (Cert.RopeRefIdeal.Row.ref5 _ _ _ _ e).2.trans (Eq.trans ?_ (Cert.RopeIdeal.Row.turned m _ c t q e).2.symm)
    exact congrArg₂ (fun x y => turnHi x y _ _) (Cert.RopeIdeal.Row.iblk1 m c t q (lo e)).symm (Cert.RopeIdeal.Row.iblk1 m c t q (hi e)).symm

/-- The kernel's two turned blocks are the reference's. -/
theorem rope : @Cert.algebraic_RopeIdeal_RopeRefIdeal Cert.RopeIdeal.Gen.facts Cert.RopeRefIdeal.Gen.facts := fun m g m' g' _ hin =>
  ⟨fun c => (Cert.RopeIdeal.Gen.dats m 0 c).arrAt 4 Cert.RopeIdeal.cfg0.N, fun c => (Cert.RopeIdeal.Gen.dats m 0 c).arrAt 5 Cert.RopeIdeal.cfg0.N,
    Cert.RopeIdeal.Value.run_blocks m g,
    (θ_run _ _ _).mono (fun r h c => ⟨(h c).1.trans ((Cert.RopeRefIdeal.Read.val_main_v15_eq _ _ _).trans (by
        rw [(hin c).1, (hin c).2.2.1, (hin c).2.2.2]
        exact rope4 m c)),
      (h c).2.1.trans ((Cert.RopeRefIdeal.Read.val_main_v25_eq _ _ _).trans (by
        rw [(hin c).2.1, (hin c).2.2.1, (hin c).2.2.2]
        exact rope5 m c)), (h c).2.2⟩)
      (Cert.RopeRefIdeal.Value.run (F := Ideal) m' g')⟩

end Cert.Row

end
-- ==== Proof.Row.RopeT.lean ====
/- The rotary turn taken back, for the gradients of the queries and the shared key: the kernel's row blocks are the reference's rows. -/
module

public import proofs.«01_k».proof.Defs
public import proofs.«01_k».proof.Proof.Row.Turn
public import proofs.«01_k».proof.Proof.Gen.RopeTIdeal.Value
public import proofs.«01_k».proof.Proof.Gen.RopeTRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.RopeTIdeal.Row

open Cert.RopeTIdeal Cert.RopeTIdeal.Gen Cert.RopeTIdeal.Value Cert.Row Cert.Proj

variable (m : (ℓ : Loc nD τ sig) → Buf (Elt Ideal) ℓ) (ρ : Dev nD → PrngReg)

/-- Where the windows stand at point `t`. -/
theorem in_eq : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))
theorem out_eq : ∀ t : Fin cfg0.N, (win0_4.index t 0 = t.val ∧ win0_4.index t 1 = 0) ∧ (win0_5.index t 0 = t.val ∧ win0_5.index t 1 = 0) :=
  (by decide +kernel : ∀ t : Fin grid0.N, (win0_4.index t 0 = t.val ∧ win0_4.index t 1 = 0) ∧ (win0_5.index t 0 = t.val ∧ win0_5.index t 1 = 0))

/-- The point of row block `a`. -/
def pt (a : Fin 4) : Fin cfg0.N := ⟨a.val, by have h : cfg0.N = 4 := N_0; omega⟩

/-- The tables the host lays out for the call: the cosines in both halves, -/
theorem cos_eq (c : Dev nD) : (V m c main_v6 : Vec Ideal S2176x128 .f32) = concatenate S2176x128 1
    [⟨S2176x64, shapeCast S2176x64 (broadcastInDim S1x2176x4x16 ![0, 1, 2, 3] bcast_S1x2176x1x16_S1x2176x4x16_0_1_2_3 (shapeCast S1x2176x1x16 (m ((c : Thread nD τ).loc main_arg2) : Vec Ideal S2176x16 .f32) shapeCasts_S2176x16_S1x2176x1x16)) shapeCasts_S1x2176x4x16_S2176x64⟩,
     ⟨S2176x64, shapeCast S2176x64 (broadcastInDim S1x2176x4x16 ![0, 1, 2, 3] bcast_S1x2176x1x16_S1x2176x4x16_0_1_2_3 (shapeCast S1x2176x1x16 (m ((c : Thread nD τ).loc main_arg2) : Vec Ideal S2176x16 .f32) shapeCasts_S2176x16_S1x2176x1x16)) shapeCasts_S1x2176x4x16_S2176x64⟩]
    concatenates_S2176x64_S2176x64_S2176x128_d1 := by
  unfold_abbrev_sides
  after_results_simp <;> rfl

/-- the sines in the second, negated in the first. -/
theorem sin_eq (c : Dev nD) : (V m c main_v8 : Vec Ideal S2176x128 .f32) = concatenate S2176x128 1
    [⟨S2176x64, Host.negf (F := Ideal) (φ := .f32) (shapeCast S2176x64 (broadcastInDim S1x2176x4x16 ![0, 1, 2, 3] bcast_S1x2176x1x16_S1x2176x4x16_0_1_2_3 (shapeCast S1x2176x1x16 (m ((c : Thread nD τ).loc main_arg3) : Vec Ideal S2176x16 .f32) shapeCasts_S2176x16_S1x2176x1x16)) shapeCasts_S1x2176x4x16_S2176x64)⟩,
     ⟨S2176x64, shapeCast S2176x64 (broadcastInDim S1x2176x4x16 ![0, 1, 2, 3] bcast_S1x2176x1x16_S1x2176x4x16_0_1_2_3 (shapeCast S1x2176x1x16 (m ((c : Thread nD τ).loc main_arg3) : Vec Ideal S2176x16 .f32) shapeCasts_S2176x16_S1x2176x1x16)) shapeCasts_S1x2176x4x16_S2176x64⟩]
    concatenates_S2176x64_S2176x64_S2176x128_d1 := by
  unfold_abbrev_sides
  after_results_simp <;> rfl

theorem cos_lo (c : Dev nD) (n : Fin 2176) (e : Fin 64) : (V m c main_v6 : Vec Ideal S2176x128 .f32) (ix2 n (lo e)) = m ((c : Thread nD τ).loc main_arg2) (ix2 n (col e)) :=
  (congrFun (cos_eq m c) _).trans ((cat_lo _ _ _ n e).trans (tile_apply _ _ _ _ n e))
theorem cos_hi (c : Dev nD) (n : Fin 2176) (e : Fin 64) : (V m c main_v6 : Vec Ideal S2176x128 .f32) (ix2 n (hi e)) = m ((c : Thread nD τ).loc main_arg2) (ix2 n (col e)) :=
  (congrFun (cos_eq m c) _).trans ((cat_hi _ _ _ n e).trans (tile_apply _ _ _ _ n e))
theorem sin_lo (c : Dev nD) (n : Fin 2176) (e : Fin 64) : (V m c main_v8 : Vec Ideal S2176x128 .f32) (ix2 n (lo e)) = Neg.neg (α := EReal) (m ((c : Thread nD τ).loc main_arg3) (ix2 n (col e))) :=
  (congrFun (sin_eq m c) _).trans ((cat_lo _ _ _ n e).trans (congrArg (fun v : EReal => -v) (tile_apply _ _ _ _ n e)))
theorem sin_hi (c : Dev nD) (n : Fin 2176) (e : Fin 64) : (V m c main_v8 : Vec Ideal S2176x128 .f32) (ix2 n (hi e)) = m ((c : Thread nD τ).loc main_arg3) (ix2 n (col e)) :=
  (congrFun (sin_eq m c) _).trans ((cat_hi _ _ _ n e).trans (tile_apply _ _ _ _ n e))

theorem iblk0 (c : Dev nD) (a : Fin 4) (r : Fin 544) (d : Fin 128) :
    (iblk m c 0 (pt a) : Vec Ideal S544x128 .f32) (ix2 r d) = m ((c : Thread nD τ).loc main_arg0) (ix2 (row a r) d) := by
  unfold iblk
  rw [View.read_apply]
  refine (congrFun (V_main_arg0 m c) _).trans ?_
  congr 1
  funext b
  refine Fin.ext ?_
  match b with
  | ⟨0, _⟩ => show win0_0.index (pt a) 0 * 544 + 1 * r.val = 544 * a.val + r.val; rw [(in_eq _).1.1]; show a.val * 544 + _ = _; omega
  | ⟨1, _⟩ => show win0_0.index (pt a) 1 * 128 + 1 * d.val = d.val; rw [(in_eq _).1.2]; omega

theorem iblk1 (c : Dev nD) (a : Fin 4) (r : Fin 544) (d : Fin 128) :
    (iblk m c 1 (pt a) : Vec Ideal S544x128 .f32) (ix2 r d) = m ((c : Thread nD τ).loc main_arg1) (ix2 (row a r) d) := by
  unfold iblk
  rw [View.read_apply]
  refine (congrFun (V_main_arg1 m c) _).trans ?_
  congr 1
  funext b
  refine Fin.ext ?_
  match b with
  | ⟨0, _⟩ => show win0_1.index (pt a) 0 * 544 + 1 * r.val = 544 * a.val + r.val; rw [(in_eq _).2.1.1]; show a.val * 544 + _ = _; omega
  | ⟨1, _⟩ => show win0_1.index (pt a) 1 * 128 + 1 * d.val = d.val; rw [(in_eq _).2.1.2]; omega

theorem iblk2 (c : Dev nD) (a : Fin 4) (r : Fin 544) (d : Fin 128) :
    (iblk m c 2 (pt a) : Vec Ideal S544x128 .f32) (ix2 r d) = (V m c main_v6 : Vec Ideal S2176x128 .f32) (ix2 (row a r) d) := by
  unfold iblk
  rw [View.read_apply]
  show V m c main_v6 _ = _
  congr 1
  funext b
  refine Fin.ext ?_
  match b with
  | ⟨0, _⟩ => show win0_2.index (pt a) 0 * 544 + 1 * r.val = 544 * a.val + r.val; rw [(in_eq _).2.2.1.1]; show a.val * 544 + _ = _; omega
  | ⟨1, _⟩ => show win0_2.index (pt a) 1 * 128 + 1 * d.val = d.val; rw [(in_eq _).2.2.1.2]; omega

theorem iblk3 (c : Dev nD) (a : Fin 4) (r : Fin 544) (d : Fin 128) :
    (iblk m c 3 (pt a) : Vec Ideal S544x128 .f32) (ix2 r d) = (V m c main_v8 : Vec Ideal S2176x128 .f32) (ix2 (row a r) d) := by
  unfold iblk
  rw [View.read_apply]
  show V m c main_v8 _ = _
  congr 1
  funext b
  refine Fin.ext ?_
  match b with
  | ⟨0, _⟩ => show win0_3.index (pt a) 0 * 544 + 1 * r.val = 544 * a.val + r.val; rw [(in_eq _).2.2.2.1]; show a.val * 544 + _ = _; omega
  | ⟨1, _⟩ => show win0_3.index (pt a) 1 * 128 + 1 * d.val = d.val; rw [(in_eq _).2.2.2.2]; omega

theorem emb4 (a : Fin 4) (r : Fin 544) (d : Fin 128) : ((cfg0.win 4).blk (pt a)).view.emb (ix2 r d) = (ix2 (row a r) d : S2176x128.Idx) := by
  funext b
  refine Fin.ext ?_
  match b with
  | ⟨0, _⟩ => show win0_4.index (pt a) 0 * 544 + 1 * r.val = 544 * a.val + r.val; rw [(out_eq _).1.1]; show a.val * 544 + _ = _; omega
  | ⟨1, _⟩ => show win0_4.index (pt a) 1 * 128 + 1 * d.val = d.val; rw [(out_eq _).1.2]; omega
theorem emb5 (a : Fin 4) (r : Fin 544) (d : Fin 128) : ((cfg0.win 5).blk (pt a)).view.emb (ix2 r d) = (ix2 (row a r) d : S2176x128.Idx) := by
  funext b
  refine Fin.ext ?_
  match b with
  | ⟨0, _⟩ => show win0_5.index (pt a) 0 * 544 + 1 * r.val = 544 * a.val + r.val; rw [(out_eq _).2.1]; show a.val * 544 + _ = _; omega
  | ⟨1, _⟩ => show win0_5.index (pt a) 1 * 128 + 1 * d.val = d.val; rw [(out_eq _).2.2]; omega

/-- What the kernel stores, over either half; both stores are of one form. -/
theorem pay_eq (x cs sn : Vec Ideal S544x128 .f32) : k0_pay4 x cs sn = k0_pay3 x cs sn := rfl
theorem pay_lo (x cs sn : Vec Ideal S544x128 .f32) (r : Fin 544) (e : Fin 64) :
    k0_pay3 x cs sn (ix2 r (lo e)) = (x (ix2 r (lo e)) * cs (ix2 r (lo e)) + x (ix2 r (hi e)) * sn (ix2 r (hi e)) : EReal) := by
  unfold k0_pay3 k0_pay1 k0_pay2
  rw [shapeCast_self, shapeCast_self]
  exact congrArg (fun v : EReal => x (ix2 r (lo e)) * cs (ix2 r (lo e)) + v) (rot_lo _ _ r e)
theorem pay_hi (x cs sn : Vec Ideal S544x128 .f32) (r : Fin 544) (e : Fin 64) :
    k0_pay3 x cs sn (ix2 r (hi e)) = (x (ix2 r (hi e)) * cs (ix2 r (hi e)) + x (ix2 r (lo e)) * sn (ix2 r (lo e)) : EReal) := by
  unfold k0_pay3 k0_pay1 k0_pay2
  rw [shapeCast_self, shapeCast_self]
  exact congrArg (fun v : EReal => x (ix2 r (hi e)) * cs (ix2 r (hi e)) + v) (rot_hi _ _ r e)

/-- A row turned back, from the row, the cosines and the sines. -/
theorem turned (x : Vec Ideal S544x128 .f32) (c : Dev nD) (a : Fin 4) (r : Fin 544) (e : Fin 64) :
    k0_pay3 x (iblk m c 2 (pt a)) (iblk m c 3 (pt a)) (ix2 r (lo e))
        = backLo (x (ix2 r (lo e))) (x (ix2 r (hi e))) (m ((c : Thread nD τ).loc main_arg2) (ix2 (row a r) (col e))) (m ((c : Thread nD τ).loc main_arg3) (ix2 (row a r) (col e)))
    ∧ k0_pay3 x (iblk m c 2 (pt a)) (iblk m c 3 (pt a)) (ix2 r (hi e))
        = backHi (x (ix2 r (lo e))) (x (ix2 r (hi e))) (m ((c : Thread nD τ).loc main_arg2) (ix2 (row a r) (col e))) (m ((c : Thread nD τ).loc main_arg3) (ix2 (row a r) (col e))) := by
  constructor
  · rw [pay_lo, iblk2, iblk3, cos_lo, sin_hi]; rfl
  · rw [pay_hi, iblk2, iblk3, cos_hi, sin_lo, mul_neg, ← sub_eq_add_neg]; rfl

/-- The queries' gradient after the run -/
theorem final4 (c : Dev nD) (a : Fin 4) (r : Fin 544) (d : Fin 128) : (dats m 0 c).arrAt 4 cfg0.N (ix2 (row a r) d : S2176x128.Idx)
    = k0_pay3 (iblk m c 0 (pt a)) (iblk m c 2 (pt a)) (iblk m c 3 (pt a)) (ix2 r d) := by
  have h := (dats m 0 c).arrAt_emb_eq_flushed 4 disjoint4 (pt a) (flush0_4 _) (ix2 r d)
  refine (congrArg ((dats m 0 c).arrAt 4 cfg0.N) (emb4 a r d)).symm.trans (h.trans ?_)
  refine (cast_eq _ _).trans ((congrFun (flushed4 m c _) _).trans ?_)
  show out0_4 (iblk m c 0 (pt a)) (iblk m c 1 (pt a)) (iblk m c 2 (pt a)) (iblk m c 3 (pt a)) (ix2 r d) = _
  unfold out0_4
  rw [View.canon_unit_zero hz2, View.ld_unit_zero hz2, View.ld_unit_zero hz2, View.ld_unit_zero hz2]

/-- and the key's. -/
theorem final5 (c : Dev nD) (a : Fin 4) (r : Fin 544) (d : Fin 128) : (dats m 0 c).arrAt 5 cfg0.N (ix2 (row a r) d : S2176x128.Idx)
    = k0_pay3 (iblk m c 1 (pt a)) (iblk m c 2 (pt a)) (iblk m c 3 (pt a)) (ix2 r d) := by
  have h := (dats m 0 c).arrAt_emb_eq_flushed 5 disjoint5 (pt a) (flush0_5 _) (ix2 r d)
  refine (congrArg ((dats m 0 c).arrAt 5 cfg0.N) (emb5 a r d)).symm.trans (h.trans ?_)
  refine (cast_eq _ _).trans ((congrFun (flushed5 m c _) _).trans ?_)
  show out0_5 (iblk m c 0 (pt a)) (iblk m c 1 (pt a)) (iblk m c 2 (pt a)) (iblk m c 3 (pt a)) (ix2 r d) = _
  unfold out0_5
  rw [View.canon_unit_zero hz2, View.ld_unit_zero hz2, View.ld_unit_zero hz2, View.ld_unit_zero hz2, pay_eq]

end Cert.RopeTIdeal.Row

namespace Cert.RopeTRefIdeal.Row

open Cert.RopeTRefIdeal Cert.RopeTRefIdeal.Gen Cert.RopeTRefIdeal.Read Cert.Row

theorem cosR (x2 : (⟨S2176x16, .f32⟩ : BufTy).Contents (Elt Ideal)) (n : Fin 2176) (e : Fin 64) : val_main_v2 (F := Ideal) x2 (ix2 n e) = x2 (ix2 n (col e)) := by
  unfold val_main_v2 val_main_v1 val_main_v0
  exact tile_apply _ _ _ _ n e
theorem sinR (x3 : (⟨S2176x16, .f32⟩ : BufTy).Contents (Elt Ideal)) (n : Fin 2176) (e : Fin 64) : val_main_v5 (F := Ideal) x3 (ix2 n e) = x3 (ix2 n (col e)) := by
  unfold val_main_v5 val_main_v4 val_main_v3
  exact tile_apply _ _ _ _ n e

/-- The reference's rows: the queries' gradient -/
theorem ref4 (x0 : (⟨S2176x128, .f32⟩ : BufTy).Contents (Elt Ideal)) (x2 x3 : (⟨S2176x16, .f32⟩ : BufTy).Contents (Elt Ideal)) (n : Fin 2176) (e : Fin 64) :
    val_main_v44 (F := Ideal) x0 x2 x3 (ix2 n (lo e)) = backLo (x0 (ix2 n (lo e))) (x0 (ix2 n (hi e))) (x2 (ix2 n (col e))) (x3 (ix2 n (col e)))
    ∧ val_main_v44 (F := Ideal) x0 x2 x3 (ix2 n (hi e)) = backHi (x0 (ix2 n (lo e))) (x0 (ix2 n (hi e))) (x2 (ix2 n (col e))) (x3 (ix2 n (col e))) := by
  have hl : val_main_v35 (F := Ideal) x0 (ix2 n e) = x0 (ix2 n (lo e)) := (val_main_v35_apply x0 _).trans (congrArg x0 (eq_ix2 _))
  have hh : val_main_v36 (F := Ideal) x0 (ix2 n e) = x0 (ix2 n (hi e)) := (val_main_v36_apply x0 _).trans (congrArg x0 (eq_ix2 _))
  unfold val_main_v44
  constructor
  · refine (cat_lo _ _ _ n e).trans ?_
    rw [val_main_v43_apply, val_main_v37_apply, val_main_v42_apply, hl, hh, cosR, sinR]
    exact add_comm (G := EReal) _ _
  · refine (cat_hi _ _ _ n e).trans ?_
    rw [val_main_v41_apply, val_main_v38_apply, val_main_v40_apply, val_main_v39_apply, hl, hh, cosR, sinR]
    exact backHi_eq _ _ _ _

/-- and the key's. -/
theorem ref5 (x1 : (⟨S2176x128, .f32⟩ : BufTy).Contents (Elt Ideal)) (x2 x3 : (⟨S2176x16, .f32⟩ : BufTy).Contents (Elt Ideal)) (n : Fin 2176) (e : Fin 64) :
    val_main_v34 (F := Ideal) x1 x2 x3 (ix2 n (lo e)) = backLo (x1 (ix2 n (lo e))) (x1 (ix2 n (hi e))) (x2 (ix2 n (col e))) (x3 (ix2 n (col e)))
    ∧ val_main_v34 (F := Ideal) x1 x2 x3 (ix2 n (hi e)) = backHi (x1 (ix2 n (lo e))) (x1 (ix2 n (hi e))) (x2 (ix2 n (col e))) (x3 (ix2 n (col e))) := by
  have hl : val_main_v25 (F := Ideal) x1 (ix2 n e) = x1 (ix2 n (lo e)) := (val_main_v25_apply x1 _).trans (congrArg x1 (eq_ix2 _))
  have hh : val_main_v26 (F := Ideal) x1 (ix2 n e) = x1 (ix2 n (hi e)) := (val_main_v26_apply x1 _).trans (congrArg x1 (eq_ix2 _))
  unfold val_main_v34
  constructor
  · refine (cat_lo _ _ _ n e).trans ?_
    rw [val_main_v33_apply, val_main_v27_apply, val_main_v32_apply, hl, hh, cosR, sinR]
    exact add_comm (G := EReal) _ _
  · refine (cat_hi _ _ _ n e).trans ?_
    rw [val_main_v31_apply, val_main_v28_apply, val_main_v30_apply, val_main_v29_apply, hl, hh, cosR, sinR]
    exact backHi_eq _ _ _ _

end Cert.RopeTRefIdeal.Row

namespace Cert.Row

open Cert.Proj

variable (m : (ℓ : Loc Cert.RopeTIdeal.nD Cert.RopeTIdeal.τ Cert.RopeTIdeal.sig) → Buf (Elt Ideal) ℓ)

theorem ropeT4 (c : Dev Cert.RopeTIdeal.nD) : Cert.RopeTRefIdeal.Read.val_main_v44 (F := Ideal) (m ((c : Thread Cert.RopeTIdeal.nD Cert.RopeTIdeal.τ).loc Cert.RopeTIdeal.main_arg0))
      (m ((c : Thread Cert.RopeTIdeal.nD Cert.RopeTIdeal.τ).loc Cert.RopeTIdeal.main_arg2)) (m ((c : Thread Cert.RopeTIdeal.nD Cert.RopeTIdeal.τ).loc Cert.RopeTIdeal.main_arg3))
    = (Cert.RopeTIdeal.Gen.dats m 0 c).arrAt 4 Cert.RopeTIdeal.cfg0.N := by
  funext i
  rw [eq_ix2 i]
  obtain ⟨t, q, hq⟩ := row_split (i 0)
  rw [hq]
  refine Eq.trans ?_ (Cert.RopeTIdeal.Row.final4 m c t q (i 1)).symm
  obtain ⟨e, he⟩ | ⟨e, he⟩ := half_split (i 1) <;> rw [he]
  · refine (Cert.RopeTRefIdeal.Row.ref4 _ _ _ _ e).1.trans (Eq.trans ?_ (Cert.RopeTIdeal.Row.turned m _ c t q e).1.symm)
    exact congrArg₂ (fun x y => backLo x y _ _) (Cert.RopeTIdeal.Row.iblk0 m c t q (lo e)).symm (Cert.RopeTIdeal.Row.iblk0 m c t q (hi e)).symm
  · refine (Cert.RopeTRefIdeal.Row.ref4 _ _ _ _ e).2.trans (Eq.trans ?_ (Cert.RopeTIdeal.Row.turned m _ c t q e).2.symm)
    exact congrArg₂ (fun x y => backHi x y _ _) (Cert.RopeTIdeal.Row.iblk0 m c t q (lo e)).symm (Cert.RopeTIdeal.Row.iblk0 m c t q (hi e)).symm

theorem ropeT5 (c : Dev Cert.RopeTIdeal.nD) : Cert.RopeTRefIdeal.Read.val_main_v34 (F := Ideal) (m ((c : Thread Cert.RopeTIdeal.nD Cert.RopeTIdeal.τ).loc Cert.RopeTIdeal.main_arg1))
      (m ((c : Thread Cert.RopeTIdeal.nD Cert.RopeTIdeal.τ).loc Cert.RopeTIdeal.main_arg2)) (m ((c : Thread Cert.RopeTIdeal.nD Cert.RopeTIdeal.τ).loc Cert.RopeTIdeal.main_arg3))
    = (Cert.RopeTIdeal.Gen.dats m 0 c).arrAt 5 Cert.RopeTIdeal.cfg0.N := by
  funext i
  rw [eq_ix2 i]
  obtain ⟨t, q, hq⟩ := row_split (i 0)
  rw [hq]
  refine Eq.trans ?_ (Cert.RopeTIdeal.Row.final5 m c t q (i 1)).symm
  obtain ⟨e, he⟩ | ⟨e, he⟩ := half_split (i 1) <;> rw [he]
  · refine (Cert.RopeTRefIdeal.Row.ref5 _ _ _ _ e).1.trans (Eq.trans ?_ (Cert.RopeTIdeal.Row.turned m _ c t q e).1.symm)
    exact congrArg₂ (fun x y => backLo x y _ _) (Cert.RopeTIdeal.Row.iblk1 m c t q (lo e)).symm (Cert.RopeTIdeal.Row.iblk1 m c t q (hi e)).symm
  · refine (Cert.RopeTRefIdeal.Row.ref5 _ _ _ _ e).2.trans (Eq.trans ?_ (Cert.RopeTIdeal.Row.turned m _ c t q e).2.symm)
    exact congrArg₂ (fun x y => backHi x y _ _) (Cert.RopeTIdeal.Row.iblk1 m c t q (lo e)).symm (Cert.RopeTIdeal.Row.iblk1 m c t q (hi e)).symm

/-- The kernel's two gradients are the reference's. -/
theorem ropeT : @Cert.algebraic_RopeTIdeal_RopeTRefIdeal Cert.RopeTIdeal.Gen.facts Cert.RopeTRefIdeal.Gen.facts := fun m g m' g' _ hin =>
  ⟨fun c => (Cert.RopeTIdeal.Gen.dats m 0 c).arrAt 4 Cert.RopeTIdeal.cfg0.N, fun c => (Cert.RopeTIdeal.Gen.dats m 0 c).arrAt 5 Cert.RopeTIdeal.cfg0.N,
    Cert.RopeTIdeal.Value.run_blocks m g,
    (θ_run _ _ _).mono (fun r h c => ⟨(h c).1.trans ((Cert.RopeTRefIdeal.Read.val_main_v44_eq _ _ _).trans (by
        rw [(hin c).1, (hin c).2.2.1, (hin c).2.2.2]
        exact ropeT4 m c)),
      (h c).2.1.trans ((Cert.RopeTRefIdeal.Read.val_main_v34_eq _ _ _).trans (by
        rw [(hin c).2.1, (hin c).2.2.1, (hin c).2.2.2]
        exact ropeT5 m c)), (h c).2.2⟩)
      (Cert.RopeTRefIdeal.Value.run (F := Ideal) m' g')⟩

end Cert.Row

end
-- ==== Proof.Row.Adam.lean ====
/- The optimiser's step on two layers: the kernel's blocks, one layer each, are the reference's layers. -/
module

public import proofs.«01_k».proof.Defs
public import proofs.«01_k».proof.Proof.Row.Basics
public import proofs.«01_k».proof.Proof.Gen.AdamIdeal.Value
public import proofs.«01_k».proof.Proof.Gen.AdamRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Row

/-- The layer's gradient, -/
def pick (a : Fin 2) (x y : EReal) : EReal := if a = 1 then y else x

/-- the first moment, -/
def mom (g m : EReal) : EReal := Ideal.ofBits .f32 0x3F666666#32 * m + Ideal.ofBits .f32 0x3DCCCCCD#32 * g

/-- the second -/
def sqr (g v : EReal) : EReal := Ideal.ofBits .f32 0x3F7FBE77#32 * v + Ideal.ofBits .f32 0x3A83126F#32 * (g * g)

/-- and the step. -/
def move (w g m v : EReal) : EReal := Ideal.ofBits .f32 0xBA83126F#32 *
  (Ideal.div (Ideal.div (mom g m) (Ideal.ofBits .f32 0x3F26BD02#32)) (Ideal.sqrt (Ideal.div (sqr g v) (Ideal.ofBits .f32 0x3C231ACC#32)) + Ideal.ofBits .f32 0x322BCC77#32)
    + Ideal.ofBits .f32 0x3C23D70A#32 * w)

end Cert.Row

namespace Cert.AdamIdeal.Row

open Cert.AdamIdeal Cert.AdamIdeal.Gen Cert.AdamIdeal.Value Cert.Row Cert.Proj Cert.Dots

variable (m : (ℓ : Loc nD τ sig) → Buf (Elt Ideal) ℓ) (ρ : Dev nD → PrngReg)

/-- Where the windows stand at point `t`. -/
theorem in_eq : ∀ t : Fin cfg0.N, (win0_0.index t 0 = t.val ∧ win0_0.index t 1 = 0 ∧ win0_0.index t 2 = 0) ∧ (win0_1.index t 0 = 0 ∧ win0_1.index t 1 = 0) ∧ (win0_2.index t 0 = 0 ∧ win0_2.index t 1 = 0)
    ∧ (win0_3.index t 0 = t.val ∧ win0_3.index t 1 = 0 ∧ win0_3.index t 2 = 0) ∧ (win0_4.index t 0 = t.val ∧ win0_4.index t 1 = 0 ∧ win0_4.index t 2 = 0) :=
  (by decide +kernel : ∀ t : Fin grid0.N, (win0_0.index t 0 = t.val ∧ win0_0.index t 1 = 0 ∧ win0_0.index t 2 = 0) ∧ (win0_1.index t 0 = 0 ∧ win0_1.index t 1 = 0) ∧ (win0_2.index t 0 = 0 ∧ win0_2.index t 1 = 0)
    ∧ (win0_3.index t 0 = t.val ∧ win0_3.index t 1 = 0 ∧ win0_3.index t 2 = 0) ∧ (win0_4.index t 0 = t.val ∧ win0_4.index t 1 = 0 ∧ win0_4.index t 2 = 0))
theorem out_eq : ∀ t : Fin cfg0.N, (win0_5.index t 0 = t.val ∧ win0_5.index t 1 = 0 ∧ win0_5.index t 2 = 0) ∧ (win0_6.index t 0 = t.val ∧ win0_6.index t 1 = 0 ∧ win0_6.index t 2 = 0)
    ∧ (win0_7.index t 0 = t.val ∧ win0_7.index t 1 = 0 ∧ win0_7.index t 2 = 0) ∧ (win0_8.index t 0 = t.val ∧ win0_8.index t 1 = 0 ∧ win0_8.index t 2 = 0) :=
  (by decide +kernel : ∀ t : Fin grid0.N, (win0_5.index t 0 = t.val ∧ win0_5.index t 1 = 0 ∧ win0_5.index t 2 = 0) ∧ (win0_6.index t 0 = t.val ∧ win0_6.index t 1 = 0 ∧ win0_6.index t 2 = 0)
    ∧ (win0_7.index t 0 = t.val ∧ win0_7.index t 1 = 0 ∧ win0_7.index t 2 = 0) ∧ (win0_8.index t 0 = t.val ∧ win0_8.index t 1 = 0 ∧ win0_8.index t 2 = 0))

/-- The point of layer `a`. -/
def pt (a : Fin 2) : Fin cfg0.N := ⟨a.val, by have h : cfg0.N = 2 := N_0; omega⟩
theorem coord_eq : ∀ t : Fin cfg0.N, (grid0.coords t 0).val = t.val := (by decide +kernel : ∀ t : Fin grid0.N, (grid0.coords t 0).val = t.val)

variable (c : Dev nD) (a : Fin 2) (r : Fin 256) (d : Fin 384)

theorem iblk0 : (iblk m c 0 (pt a) : Vec Ideal S1x256x384 .f32) (ix3 0 r d) = m ((c : Thread nD τ).loc main_arg0) (ix3 a r d) := by
  unfold iblk
  rw [View.read_apply]
  show m ((c : Thread nD τ).loc main_arg0) _ = _
  congr 1
  funext b
  refine Fin.ext ?_
  match b with
  | ⟨0, _⟩ => show win0_0.index (pt a) 0 * 1 + 1 * 0 = a.val; rw [(in_eq _).1.1]; show a.val * 1 + _ = _; omega
  | ⟨1, _⟩ => show win0_0.index (pt a) 1 * 256 + 1 * r.val = r.val; rw [(in_eq _).1.2.1]; omega
  | ⟨2, _⟩ => show win0_0.index (pt a) 2 * 384 + 1 * d.val = d.val; rw [(in_eq _).1.2.2]; omega
theorem iblk1 : (iblk m c 1 (pt a) : Vec Ideal S256x384 .f32) (ix2 r d) = m ((c : Thread nD τ).loc main_arg1) (ix2 r d) := by
  unfold iblk
  rw [View.read_apply]
  show m ((c : Thread nD τ).loc main_arg1) _ = _
  congr 1
  funext b
  refine Fin.ext ?_
  match b with
  | ⟨0, _⟩ => show win0_1.index (pt a) 0 * 256 + 1 * r.val = r.val; rw [(in_eq _).2.1.1]; omega
  | ⟨1, _⟩ => show win0_1.index (pt a) 1 * 384 + 1 * d.val = d.val; rw [(in_eq _).2.1.2]; omega
theorem iblk2 : (iblk m c 2 (pt a) : Vec Ideal S256x384 .f32) (ix2 r d) = m ((c : Thread nD τ).loc main_arg2) (ix2 r d) := by
  unfold iblk
  rw [View.read_apply]
  show m ((c : Thread nD τ).loc main_arg2) _ = _
  congr 1
  funext b
  refine Fin.ext ?_
  match b with
  | ⟨0, _⟩ => show win0_2.index (pt a) 0 * 256 + 1 * r.val = r.val; rw [(in_eq _).2.2.1.1]; omega
  | ⟨1, _⟩ => show win0_2.index (pt a) 1 * 384 + 1 * d.val = d.val; rw [(in_eq _).2.2.1.2]; omega
theorem iblk3 : (iblk m c 3 (pt a) : Vec Ideal S1x256x384 .f32) (ix3 0 r d) = m ((c : Thread nD τ).loc main_arg3) (ix3 a r d) := by
  unfold iblk
  rw [View.read_apply]
  show m ((c : Thread nD τ).loc main_arg3) _ = _
  congr 1
  funext b
  refine Fin.ext ?_
  match b with
  | ⟨0, _⟩ => show win0_3.index (pt a) 0 * 1 + 1 * 0 = a.val; rw [(in_eq _).2.2.2.1.1]; show a.val * 1 + _ = _; omega
  | ⟨1, _⟩ => show win0_3.index (pt a) 1 * 256 + 1 * r.val = r.val; rw [(in_eq _).2.2.2.1.2.1]; omega
  | ⟨2, _⟩ => show win0_3.index (pt a) 2 * 384 + 1 * d.val = d.val; rw [(in_eq _).2.2.2.1.2.2]; omega
theorem iblk4 : (iblk m c 4 (pt a) : Vec Ideal S1x256x384 .f32) (ix3 0 r d) = m ((c : Thread nD τ).loc main_arg4) (ix3 a r d) := by
  unfold iblk
  rw [View.read_apply]
  show m ((c : Thread nD τ).loc main_arg4) _ = _
  congr 1
  funext b
  refine Fin.ext ?_
  match b with
  | ⟨0, _⟩ => show win0_4.index (pt a) 0 * 1 + 1 * 0 = a.val; rw [(in_eq _).2.2.2.2.1]; show a.val * 1 + _ = _; omega
  | ⟨1, _⟩ => show win0_4.index (pt a) 1 * 256 + 1 * r.val = r.val; rw [(in_eq _).2.2.2.2.2.1]; omega
  | ⟨2, _⟩ => show win0_4.index (pt a) 2 * 384 + 1 * d.val = d.val; rw [(in_eq _).2.2.2.2.2.2]; omega

theorem emb5 : ((cfg0.win 5).blk (pt a)).view.emb (ix3 0 r d) = (ix3 a r d : S2x256x384.Idx) := by
  funext b
  refine Fin.ext ?_
  match b with
  | ⟨0, _⟩ => show win0_5.index (pt a) 0 * 1 + 1 * 0 = a.val; rw [(out_eq _).1.1]; show a.val * 1 + _ = _; omega
  | ⟨1, _⟩ => show win0_5.index (pt a) 1 * 256 + 1 * r.val = r.val; rw [(out_eq _).1.2.1]; omega
  | ⟨2, _⟩ => show win0_5.index (pt a) 2 * 384 + 1 * d.val = d.val; rw [(out_eq _).1.2.2]; omega
theorem emb6 : ((cfg0.win 6).blk (pt a)).view.emb (ix3 0 r d) = (ix3 a r d : S2x256x384.Idx) := by
  funext b
  refine Fin.ext ?_
  match b with
  | ⟨0, _⟩ => show win0_6.index (pt a) 0 * 1 + 1 * 0 = a.val; rw [(out_eq _).2.1.1]; show a.val * 1 + _ = _; omega
  | ⟨1, _⟩ => show win0_6.index (pt a) 1 * 256 + 1 * r.val = r.val; rw [(out_eq _).2.1.2.1]; omega
  | ⟨2, _⟩ => show win0_6.index (pt a) 2 * 384 + 1 * d.val = d.val; rw [(out_eq _).2.1.2.2]; omega
theorem emb7 : ((cfg0.win 7).blk (pt a)).view.emb (ix3 0 r d) = (ix3 a r d : S2x256x384.Idx) := by
  funext b
  refine Fin.ext ?_
  match b with
  | ⟨0, _⟩ => show win0_7.index (pt a) 0 * 1 + 1 * 0 = a.val; rw [(out_eq _).2.2.1.1]; show a.val * 1 + _ = _; omega
  | ⟨1, _⟩ => show win0_7.index (pt a) 1 * 256 + 1 * r.val = r.val; rw [(out_eq _).2.2.1.2.1]; omega
  | ⟨2, _⟩ => show win0_7.index (pt a) 2 * 384 + 1 * d.val = d.val; rw [(out_eq _).2.2.1.2.2]; omega
theorem emb8 : ((cfg0.win 8).blk (pt a)).view.emb (ix3 0 r d) = (ix3 a r d : S2x256x384.Idx) := by
  funext b
  refine Fin.ext ?_
  match b with
  | ⟨0, _⟩ => show win0_8.index (pt a) 0 * 1 + 1 * 0 = a.val; rw [(out_eq _).2.2.2.1]; show a.val * 1 + _ = _; omega
  | ⟨1, _⟩ => show win0_8.index (pt a) 1 * 256 + 1 * r.val = r.val; rw [(out_eq _).2.2.2.2.1]; omega
  | ⟨2, _⟩ => show win0_8.index (pt a) 2 * 384 + 1 * d.val = d.val; rw [(out_eq _).2.2.2.2.2]; omega

/-- The gradient the kernel takes at layer `a`, -/
theorem pay4_apply (x y : Vec Ideal S256x384 .f32) : k0_pay4 (grid0.coords (pt a)) x y (ix2 r d) = pick a (x (ix2 r d)) (y (ix2 r d)) := by
  unfold k0_pay4
  dsimp only
  rw [coord_eq]
  show Scalar.select (Scalar.cmpi .eq (BitVec.ofNat 32 a.val) 1#32) y x (ix2 r d) = _
  fin_cases a <;> rfl

/-- and what it stores of the moments, -/
theorem pay5_apply (x y : Vec Ideal S256x384 .f32) (z : Vec Ideal S1x256x384 .f32) :
    k0_pay5 (grid0.coords (pt a)) x y z (ix2 r d) = mom (pick a (x (ix2 r d)) (y (ix2 r d))) (z (ix3 0 r d)) := by
  rw [← pay4_apply]
  unfold k0_pay5 mom
  exact congrArg (fun s => Ideal.ofBits .f32 0x3F666666#32 * s + _) (dropUnit z _ r d)
theorem pay6_apply (x y : Vec Ideal S256x384 .f32) (z : Vec Ideal S1x256x384 .f32) :
    k0_pay6 (grid0.coords (pt a)) x y z (ix2 r d) = sqr (pick a (x (ix2 r d)) (y (ix2 r d))) (z (ix3 0 r d)) := by
  rw [← pay4_apply]
  unfold k0_pay6 sqr
  exact congrArg (fun s => Ideal.ofBits .f32 0x3F7FBE77#32 * s + _) (dropUnit z _ r d)

/-- and of the step. -/
theorem pay1_apply (w : Vec Ideal S1x256x384 .f32) (x y : Vec Ideal S256x384 .f32) (z u : Vec Ideal S1x256x384 .f32) :
    k0_pay1 (k0_pay8 (grid0.coords (pt a)) x y z u) (k0_pay9 w) (Scalar.ofBits .f32 0x3C23D70A#32) (ix3 0 r d) = move (w (ix3 0 r d)) (pick a (x (ix2 r d)) (y (ix2 r d))) (z (ix3 0 r d)) (u (ix3 0 r d)) := by
  unfold k0_pay1 move
  refine (addUnit _ _ 0 r d).trans ?_
  rw [← pay5_apply, ← pay6_apply]
  unfold k0_pay8 k0_pay9
  exact congrArg (fun s => Ideal.ofBits .f32 0xBA83126F#32 * (_ + Ideal.ofBits .f32 0x3C23D70A#32 * s)) (dropUnit w _ r d)

/-- The gradient in the arrays. -/
abbrev grad : EReal := pick a (m ((c : Thread nD τ).loc main_arg1) (ix2 r d)) (m ((c : Thread nD τ).loc main_arg2) (ix2 r d))

/-- The gradient after the run, -/
theorem final5 : (dats m 0 c).arrAt 5 cfg0.N (ix3 a r d : S2x256x384.Idx) = grad m c a r d := by
  have h := (dats m 0 c).arrAt_emb_eq_flushed 5 disjoint5 (pt a) (flush0_5 _) (ix3 0 r d)
  refine (congrArg ((dats m 0 c).arrAt 5 cfg0.N) (emb5 a r d)).symm.trans (h.trans ?_)
  refine (cast_eq _ _).trans ((congrFun (flushed5 m c _) _).trans ?_)
  show out0_5 (grid0.coords (pt a)) (iblk m c 0 (pt a)) (iblk m c 1 (pt a)) (iblk m c 2 (pt a)) (iblk m c 3 (pt a)) (iblk m c 4 (pt a)) (ix3 0 r d) = _
  unfold out0_5
  rw [View.canon_unit_zero hz3, View.ld_unit_zero hz2, View.ld_unit_zero hz2]
  exact (addUnit _ _ 0 r d).trans ((pay4_apply a r d _ _).trans (congrArg₂ (pick a) (iblk1 m c a r d) (iblk2 m c a r d)))

/-- the step, -/
theorem final6 : (dats m 0 c).arrAt 6 cfg0.N (ix3 a r d : S2x256x384.Idx)
    = move (m ((c : Thread nD τ).loc main_arg0) (ix3 a r d)) (grad m c a r d) (m ((c : Thread nD τ).loc main_arg3) (ix3 a r d)) (m ((c : Thread nD τ).loc main_arg4) (ix3 a r d)) := by
  have h := (dats m 0 c).arrAt_emb_eq_flushed 6 disjoint6 (pt a) (flush0_6 _) (ix3 0 r d)
  refine (congrArg ((dats m 0 c).arrAt 6 cfg0.N) (emb6 a r d)).symm.trans (h.trans ?_)
  refine (cast_eq _ _).trans ((congrFun (flushed6 m c _) _).trans ?_)
  show out0_6 (grid0.coords (pt a)) (iblk m c 0 (pt a)) (iblk m c 1 (pt a)) (iblk m c 2 (pt a)) (iblk m c 3 (pt a)) (iblk m c 4 (pt a)) (ix3 0 r d) = _
  unfold out0_6
  rw [View.canon_unit_zero hz3, View.ld_unit_zero hz2, View.ld_unit_zero hz2, View.ld_unit_zero hz3, View.ld_unit_zero hz3, View.ld_unit_zero hz3, pay1_apply, iblk0, iblk1, iblk2, iblk3, iblk4]

/-- and the moments. -/
theorem final7 : (dats m 0 c).arrAt 7 cfg0.N (ix3 a r d : S2x256x384.Idx) = mom (grad m c a r d) (m ((c : Thread nD τ).loc main_arg3) (ix3 a r d)) := by
  have h := (dats m 0 c).arrAt_emb_eq_flushed 7 disjoint7 (pt a) (flush0_7 _) (ix3 0 r d)
  refine (congrArg ((dats m 0 c).arrAt 7 cfg0.N) (emb7 a r d)).symm.trans (h.trans ?_)
  refine (cast_eq _ _).trans ((congrFun (flushed7 m c _) _).trans ?_)
  show out0_7 (grid0.coords (pt a)) (iblk m c 0 (pt a)) (iblk m c 1 (pt a)) (iblk m c 2 (pt a)) (iblk m c 3 (pt a)) (iblk m c 4 (pt a)) (ix3 0 r d) = _
  unfold out0_7
  rw [View.canon_unit_zero hz3, View.ld_unit_zero hz2, View.ld_unit_zero hz2, View.ld_unit_zero hz3]
  unfold k0_pay2
  refine (addUnit _ _ 0 r d).trans ?_
  rw [pay5_apply, iblk1, iblk2, iblk3]
theorem final8 : (dats m 0 c).arrAt 8 cfg0.N (ix3 a r d : S2x256x384.Idx) = sqr (grad m c a r d) (m ((c : Thread nD τ).loc main_arg4) (ix3 a r d)) := by
  have h := (dats m 0 c).arrAt_emb_eq_flushed 8 disjoint8 (pt a) (flush0_8 _) (ix3 0 r d)
  refine (congrArg ((dats m 0 c).arrAt 8 cfg0.N) (emb8 a r d)).symm.trans (h.trans ?_)
  refine (cast_eq _ _).trans ((congrFun (flushed8 m c _) _).trans ?_)
  show out0_8 (grid0.coords (pt a)) (iblk m c 0 (pt a)) (iblk m c 1 (pt a)) (iblk m c 2 (pt a)) (iblk m c 3 (pt a)) (iblk m c 4 (pt a)) (ix3 0 r d) = _
  unfold out0_8
  rw [View.canon_unit_zero hz3, View.ld_unit_zero hz2, View.ld_unit_zero hz2, View.ld_unit_zero hz3]
  unfold k0_pay3
  refine (addUnit _ _ 0 r d).trans ?_
  rw [pay6_apply, iblk1, iblk2, iblk4]

end Cert.AdamIdeal.Row

namespace Cert.AdamRefIdeal.Row

open Cert.AdamRefIdeal Cert.AdamRefIdeal.Gen Cert.AdamRefIdeal.Read Cert.Row

variable (x0 x3 x4 : (⟨S2x256x384, .f32⟩ : BufTy).Contents (Elt Ideal)) (x1 x2 : (⟨S256x384, .f32⟩ : BufTy).Contents (Elt Ideal)) (a : Fin 2) (r : Fin 256) (d : Fin 384)

/-- The reference's stacked gradients, -/
theorem ref5 : val_main_v2 (F := Ideal) x1 x2 (ix3 a r d) = pick a (x1 (ix2 r d)) (x2 (ix2 r d)) := by
  unfold val_main_v2
  fin_cases a
  · refine (concatenate_pair_apply_left _ _ _ concatenates_S1x256x384_S1x256x384_S2x256x384_d0 _ rfl (ix3 0 r d) fun b => ?_).trans ((val_main_v0_apply x1 _).trans (congrArg x1 (eq_ix2 _)))
    match b with
    | ⟨0, _⟩ => rfl
    | ⟨1, _⟩ => rfl
    | ⟨2, _⟩ => rfl
  · refine (concatenate_pair_apply_right _ _ _ concatenates_S1x256x384_S1x256x384_S2x256x384_d0 _ rfl rfl (ix3 0 r d) (fun b hb => ?_) rfl).trans ((val_main_v1_apply x2 _).trans (congrArg x2 (eq_ix2 _)))
    match b with
    | ⟨0, _⟩ => exact absurd rfl hb
    | ⟨1, _⟩ => rfl
    | ⟨2, _⟩ => rfl

/-- its moments -/
theorem ref7 : val_main_v7 (F := Ideal) x1 x2 x3 (ix3 a r d) = mom (pick a (x1 (ix2 r d)) (x2 (ix2 r d))) (x3 (ix3 a r d)) := by
  rw [← ref5, val_main_v7_apply, val_main_v6_apply, val_main_v5_apply, val_main_v4_apply, val_main_v3_apply]
  rfl
theorem ref8 : val_main_v13 (F := Ideal) x1 x2 x4 (ix3 a r d) = sqr (pick a (x1 (ix2 r d)) (x2 (ix2 r d))) (x4 (ix3 a r d)) := by
  rw [← ref5, val_main_v13_apply, val_main_v12_apply, val_main_v11_apply, val_main_v10_apply, val_main_v9_apply, val_main_v8_apply]
  rfl

/-- and its step. -/
theorem ref6 : val_main_v26 (F := Ideal) x0 x1 x2 x3 x4 (ix3 a r d) = move (x0 (ix3 a r d)) (pick a (x1 (ix2 r d)) (x2 (ix2 r d))) (x3 (ix3 a r d)) (x4 (ix3 a r d)) := by
  unfold move
  rw [← ref7, ← ref8, val_main_v26_apply, val_main_v25_apply, val_main_v24_apply, val_main_v23_apply, val_main_v22_apply, val_main_v21_apply, val_main_v20_apply, val_main_v19_apply, val_main_v18_apply,
    val_main_v17_apply, val_main_v16_apply, val_main_v15_apply, val_main_v14_apply]
  rfl

end Cert.AdamRefIdeal.Row

namespace Cert.Row

/-- The kernel's gradients, step and moments are the reference's. -/
theorem adam : @Cert.algebraic_AdamIdeal_AdamRefIdeal Cert.AdamIdeal.Gen.facts Cert.AdamRefIdeal.Gen.facts := fun m g m' g' _ hin =>
  ⟨fun c => (Cert.AdamIdeal.Gen.dats m 0 c).arrAt 5 Cert.AdamIdeal.cfg0.N, fun c => (Cert.AdamIdeal.Gen.dats m 0 c).arrAt 6 Cert.AdamIdeal.cfg0.N,
    fun c => (Cert.AdamIdeal.Gen.dats m 0 c).arrAt 7 Cert.AdamIdeal.cfg0.N, fun c => (Cert.AdamIdeal.Gen.dats m 0 c).arrAt 8 Cert.AdamIdeal.cfg0.N,
    Cert.AdamIdeal.Value.run_blocks m g,
    (θ_run _ _ _).mono (fun r h c => ⟨(h c).1.trans (by
        rw [Cert.AdamRefIdeal.Read.val_main_v2_eq, (hin c).2.1, (hin c).2.2.1]
        funext i
        rw [eq_ix3 i]
        exact (Cert.AdamRefIdeal.Row.ref5 _ _ _ _ _).trans (Cert.AdamIdeal.Row.final5 m c _ _ _).symm),
      (h c).2.1.trans (by
        rw [Cert.AdamRefIdeal.Read.val_main_v26_eq, (hin c).1, (hin c).2.1, (hin c).2.2.1, (hin c).2.2.2.1, (hin c).2.2.2.2]
        funext i
        rw [eq_ix3 i]
        exact (Cert.AdamRefIdeal.Row.ref6 _ _ _ _ _ _ _ _).trans (Cert.AdamIdeal.Row.final6 m c _ _ _).symm),
      (h c).2.2.1.trans (by
        rw [Cert.AdamRefIdeal.Read.val_main_v7_eq, (hin c).2.1, (hin c).2.2.1, (hin c).2.2.2.1]
        funext i
        rw [eq_ix3 i]
        exact (Cert.AdamRefIdeal.Row.ref7 _ _ _ _ _ _).trans (Cert.AdamIdeal.Row.final7 m c _ _ _).symm),
      (h c).2.2.2.1.trans (by
        rw [Cert.AdamRefIdeal.Read.val_main_v13_eq, (hin c).2.1, (hin c).2.2.1, (hin c).2.2.2.2]
        funext i
        rw [eq_ix3 i]
        exact (Cert.AdamRefIdeal.Row.ref8 _ _ _ _ _ _).trans (Cert.AdamIdeal.Row.final8 m c _ _ _).symm), (h c).2.2.2.2⟩)
      (Cert.AdamRefIdeal.Value.run (F := Ideal) m' g')⟩

end Cert.Row

end
-- ==== Proof.Row.Blocks.lean ====
/- Sums over the rows taken block by block, and the constants of the loss and of the layer norms as real numbers. -/
module

public import proofs.«01_k».proof.Proof.Row.Basics
public import Idealize.ShloMosaic.Lib.IdealHost

@[expose] public section

noncomputable section

open Idealize.ShloMosaic Idealize.ShloMosaic.ValueIdx

namespace Cert.Row

open Cert.Proj

/-- A sum over the rows, block by block. -/
theorem sum_rows (f : Fin 2176 → EReal) : ∑ n, f n = ∑ t : Fin 4, ∑ r : Fin 544, f (row t r) := by
  rw [← Fintype.sum_prod_type' (f := fun (t : Fin 4) (r : Fin 544) => f (row t r))]
  refine (Equiv.sum_comp (finProdFinEquiv (m := 4) (n := 544)) f).symm.trans (Finset.sum_congr rfl fun p _ => congrArg f (Fin.ext ?_))
  show p.2.val + 544 * p.1.val = 544 * p.1.val + p.2.val
  omega

theorem half_real : Ideal.ofBits .f32 0x3F000000#32 = ((1 / 2 : ℝ) : EReal) := by
  simp [Ideal.ofBits, Ideal.ieee, -EReal.coe_mul]; norm_num
theorem two_real : Ideal.ofBits .f32 0x40000000#32 = ((2 : ℝ) : EReal) := by
  simp [Ideal.ofBits, Ideal.ieee, -EReal.coe_mul]; norm_num
theorem len_real : Ideal.ofBits .f32 0x44800000#32 = ((1024 : ℝ) : EReal) := by
  simp [Ideal.ofBits, Ideal.ieee, -EReal.coe_mul]; norm_num
theorem frac_real : Ideal.ofBits .f32 0x3A800000#32 = ((1024 : ℝ)⁻¹ : EReal) := by
  rw [show ((1024 : ℝ)⁻¹ : EReal) = (((1024 : ℝ)⁻¹ : ℝ) : EReal) from (EReal.coe_inv _).symm]
  simp [Ideal.ofBits, Ideal.ieee, -EReal.coe_mul]; norm_num

/-- A division by 1024 is a product with its inverse. -/
theorem div_len (x : EReal) : Ideal.div x (Ideal.ofBits .f32 0x44800000#32) = x * Ideal.ofBits .f32 0x3A800000#32 := by
  rw [len_real, frac_real]
  unfold Ideal.div
  rw [if_neg (by exact_mod_cast (by norm_num : (1024 : ℝ) ≠ 0))]

/-- A value added to itself is twice the value. -/
theorem twice (x : EReal) : x + x = Ideal.ofBits .f32 0x40000000#32 * x := by
  rw [two_real, show ((2 : ℝ) : EReal) = ((1 : ℝ) : EReal) + ((1 : ℝ) : EReal) by norm_cast,
    EReal.right_distrib_of_nonneg (by norm_num) (by norm_num)]
  simp

end Cert.Row

end
-- ==== Proof.Row.Loss.lean ====
/- The loss and its gradient: the kernel's blocks of rows, the rows that do not count masked, are the reference's sum and its backward pass. -/
module

public import proofs.«01_k».proof.Defs
public import proofs.«01_k».proof.Proof.Row.Blocks
public import Idealize.ShloMosaic.Lib.WordCmp
public import Idealize.ShloMosaic.Lib.KernelVsHost
public import proofs.«01_k».proof.Proof.Gen.LossIdeal.Value
public import proofs.«01_k».proof.Proof.Gen.LossRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Row

open Cert.Proj

/-- The difference of an output and its target, in the rows that count, -/
def gap (n : Nat) (a b : EReal) : EReal := if 128 ≤ n then a - b else 0
/-- a row's mean square, -/
def meanSq (x y : (⟨2, ![2176, 1024]⟩ : Shape).Idx → EReal) (n : Fin 2176) : EReal :=
  (∑ e : Fin 1024, gap n.val (x (ix2 n e)) (y (ix2 n e)) * gap n.val (x (ix2 n e)) (y (ix2 n e))) * Ideal.ofBits .f32 0x3A800000#32
/-- and what a block of rows adds to the loss. -/
def part (x y : (⟨2, ![2176, 1024]⟩ : Shape).Idx → EReal) (t : Fin 4) : EReal := Ideal.ofBits .f32 0x3F000000#32 * ∑ r : Fin 544, meanSq x y (row t r)

/-- Half of a sum is the sum of the halves. -/
theorem half_add (a b : EReal) : Ideal.ofBits .f32 0x3F000000#32 * (a + b) = Ideal.ofBits .f32 0x3F000000#32 * a + Ideal.ofBits .f32 0x3F000000#32 * b := by
  rw [half_real]
  exact EReal.left_distrib_of_nonneg_of_ne_top (EReal.coe_nonneg.mpr (by norm_num)) (EReal.coe_ne_top _) a b

/-- The blocks' parts add up to half the sum over the rows that count. -/
theorem parts_eq (x y : (⟨2, ![2176, 1024]⟩ : Shape).Idx → EReal) : part x y 0 + part x y 1 + part x y 2 + part x y 3
    = Ideal.ofBits .f32 0x3F000000#32 * ∑ n : Fin 2048, (∑ e : Fin 1024, (x (ix2 ⟨128 + n.val, by omega⟩ e) - y (ix2 ⟨128 + n.val, by omega⟩ e)) * (x (ix2 ⟨128 + n.val, by omega⟩ e) - y (ix2 ⟨128 + n.val, by omega⟩ e)))
      * Ideal.ofBits .f32 0x3A800000#32 := by
  unfold part
  rw [← half_add, ← half_add, ← half_add]
  refine congrArg (Ideal.ofBits .f32 0x3F000000#32 * ·) ?_
  rw [← Fin.sum_univ_four (fun t : Fin 4 => ∑ r : Fin 544, meanSq x y (row t r)), ← sum_rows (meanSq x y)]
  refine (Fin.sum_univ_add (a := 128) (b := 2048) (meanSq x y)).trans ?_
  rw [Finset.sum_eq_zero, zero_add]
  · refine Finset.sum_congr rfl fun n _ => congrArg (· * _) (Finset.sum_congr rfl fun e _ => ?_)
    have h : gap (Fin.natAdd 128 n : Fin 2176).val (x (ix2 (Fin.natAdd 128 n : Fin 2176) e)) (y (ix2 (Fin.natAdd 128 n : Fin 2176) e))
        = x (ix2 ⟨128 + n.val, by omega⟩ e) - y (ix2 ⟨128 + n.val, by omega⟩ e) := if_pos (by show 128 ≤ 128 + n.val; omega)
    exact congrArg₂ (· * ·) h h
  · intro n _
    have h : ∀ e, gap (Fin.castAdd 2048 n : Fin 2176).val (x (ix2 (Fin.castAdd 2048 n : Fin 2176) e)) (y (ix2 (Fin.castAdd 2048 n : Fin 2176) e)) = 0 :=
      fun e => if_neg (by show ¬128 ≤ n.val; omega)
    unfold meanSq
    rw [Finset.sum_eq_zero, zero_mul]
    intro e _
    rw [h e, zero_mul]

end Cert.Row

namespace Cert.LossIdeal.Row

open Cert.LossIdeal Cert.LossIdeal.Gen Cert.LossIdeal.Value Cert.Row Cert.Proj

variable (m : (ℓ : Loc nD τ sig) → Buf (Elt Ideal) ℓ) (ρ : Dev nD → PrngReg)

/-- What a point leaves: the first, in the gradient's block -/
theorem out_A2 (c : Dev nD) (i : grid0.Coords) (a1 : Memref sig .tc .vmem S544x1024 .f32) (h1 : a1.IsWhole) (a2 : Memref sig .tc .vmem S544x1024 .f32) (h2 : a2.IsWhole) (a3 : Memref sig .tc .vmem S544x1024 .f32) (h3 : a3.IsWhole)
    (a4 : Memref sig .tc .vmem S1x128 .f32) (h4 : a4.IsWhole) (hc0 : cond0_0 i) (hc1 : ¬cond0_1 i) (x0 x1 : Vec Ideal S544x1024 .f32) :
    out0_A_2 c i a1 h1 a2 h2 a3 h3 a4 h4 hc0 hc1 x0 x1 = k0_pay2 i x0 x1 := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_unit_zero (S := S544x1024) hz2]
  simp only [View.readAt_eq_ld, h1.read_unread, h2.read_unread, View.ld_unit_zero (S := S544x1024) hz2]

/-- and in the loss, -/
theorem out_A3 (c : Dev nD) (i : grid0.Coords) (a1 : Memref sig .tc .vmem S544x1024 .f32) (h1 : a1.IsWhole) (a2 : Memref sig .tc .vmem S544x1024 .f32) (h2 : a2.IsWhole) (a3 : Memref sig .tc .vmem S544x1024 .f32) (h3 : a3.IsWhole)
    (a4 : Memref sig .tc .vmem S1x128 .f32) (h4 : a4.IsWhole) (hc0 : cond0_0 i) (hc1 : ¬cond0_1 i) (x0 x1 : Vec Ideal S544x1024 .f32) :
    out0_A_3 c i a1 h1 a2 h2 a3 h3 a4 h4 hc0 hc1 x0 x1 = k0_pay3 i x0 x1 := by
  unfold out0_A_3
  rw [View.read_writes_eq_canon _ _ _ (cover0_A_3 c i a1 h1 a2 h2 a3 h3 a4 h4 hc0 hc1 x0 x1)]
  unfold kernelRun0_A
  dsimp only
  sl_unfold_words
  rw [View.canon_unit_zero (S := S1x128) hz2]
  simp only [View.readAt_eq_ld, h1.read_unread, h2.read_unread, View.ld_unit_zero (S := S544x1024) hz2]

/-- and the others. -/
theorem out_B2 (c : Dev nD) (i : grid0.Coords) (a1 : Memref sig .tc .vmem S544x1024 .f32) (h1 : a1.IsWhole) (a2 : Memref sig .tc .vmem S544x1024 .f32) (h2 : a2.IsWhole) (a3 : Memref sig .tc .vmem S544x1024 .f32) (h3 : a3.IsWhole)
    (a4 : Memref sig .tc .vmem S1x128 .f32) (h4 : a4.IsWhole) (hc0 : ¬cond0_0 i) (hc1 : cond0_1 i) (x0 x1 : Vec Ideal S544x1024 .f32) (xo : Vec Ideal S1x128 .f32) :
    out0_B_2 c i a1 h1 a2 h2 a3 h3 a4 h4 hc0 hc1 x0 x1 xo = k0_pay2 i x0 x1 := by
  unfold out0_B_2
  rw [View.read_writes_eq_canon _ _ _ (cover0_B_2 c i a1 h1 a2 h2 a3 h3 a4 h4 hc0 hc1 x0 x1 xo)]
  unfold kernelRun0_B
  dsimp only
  sl_unfold_words
  rw [View.canon_unit_zero (S := S544x1024) hz2]
  simp only [View.readAt_eq_ld, h1.read_unread, h2.read_unread, View.ld_unit_zero (S := S544x1024) hz2]

theorem out_B3 (c : Dev nD) (i : grid0.Coords) (a1 : Memref sig .tc .vmem S544x1024 .f32) (h1 : a1.IsWhole) (a2 : Memref sig .tc .vmem S544x1024 .f32) (h2 : a2.IsWhole) (a3 : Memref sig .tc .vmem S544x1024 .f32) (h3 : a3.IsWhole)
    (a4 : Memref sig .tc .vmem S1x128 .f32) (h4 : a4.IsWhole) (hc0 : ¬cond0_0 i) (hc1 : cond0_1 i) (x0 x1 : Vec Ideal S544x1024 .f32) (xo : Vec Ideal S1x128 .f32) :
    out0_B_3 c i a1 h1 a2 h2 a3 h3 a4 h4 hc0 hc1 x0 x1 xo = k0_pay4 i x0 x1 xo := by
  unfold out0_B_3
  rw [View.read_writes_eq_canon _ _ _ (cover0_B_3 c i a1 h1 a2 h2 a3 h3 a4 h4 hc0 hc1 x0 x1 xo)]
  unfold kernelRun0_B
  dsimp only
  sl_unfold_words
  rw [View.canon_unit_zero (S := S1x128) hz2]
  simp only [View.readAt_eq_ld, h1.read_unread, h2.read_unread, h4.read_unread, View.ld_unit_zero (S := S544x1024) hz2, View.ld_unit_zero (S := S1x128) hz2]

/-- The masked difference in a block. -/
theorem pay1_apply (i : grid0.Coords) (t : Fin 4) (ht : (i 0).val = t.val) (x y : Vec Ideal S544x1024 .f32) (r : Fin 544) (d : Fin 1024) :
    k0_pay1 i x y (ix2 r d) = gap (row t r).val (x (ix2 r d)) (y (ix2 r d)) := by
  have hi : iota .tc S544x1024 32 [0] iota_S544x1024_d0_w32 (ix2 r d) = BitVec.ofNat 32 r.val := iota_single_apply _ _ _ _ _ _
  have hr := r.isLt
  have h4 := t.isLt
  unfold k0_pay1 gap
  show Scalar.select (IntOp.cmpi .sge (IntOp.addi (IntOp.muli (BitVec.ofNat 32 (i 0).val) (BitVec.ofNat 32 544)) (iota .tc S544x1024 32 [0] iota_S544x1024_d0_w32 (ix2 r d))) (BitVec.ofNat 32 128))
    (x (ix2 r d) - y (ix2 r d) : EReal) (Ideal.ofBits .f32 0x00000000#32) = if 128 ≤ 544 * t.val + r.val then (x (ix2 r d) - y (ix2 r d) : EReal) else 0
  rw [hi, ht, WordCmp.muli_ofNat, WordCmp.addi_ofNat, Nat.mul_comm, Ideal.ofBits_zero_f32]
  by_cases h : 128 ≤ 544 * t.val + r.val
  · rw [if_pos h]
    exact WordCmp.select_of_eq_one ((WordCmp.cmpi_sge_ofNat_eq_one_iff (by omega) (by omega)).mpr h) _ _
  · rw [if_neg h]
    exact WordCmp.select_of_eq_zero ((WordCmp.cmpi_sge_ofNat_eq_zero_iff (by omega) (by omega)).mpr (by omega)) _ _

/-- The gradient in a block, -/
theorem pay2_apply (i : grid0.Coords) (t : Fin 4) (ht : (i 0).val = t.val) (x y : Vec Ideal S544x1024 .f32) (r : Fin 544) (d : Fin 1024) :
    k0_pay2 i x y (ix2 r d) = gap (row t r).val (x (ix2 r d)) (y (ix2 r d)) * Ideal.ofBits .f32 0x3A800000#32 :=
  congrArg (· * Ideal.ofBits .f32 0x3A800000#32) (pay1_apply i t ht x y r d)

/-- what a block adds to the loss. -/
theorem pay3_apply (i : grid0.Coords) (t : Fin 4) (ht : (i 0).val = t.val) (x y : Vec Ideal S544x1024 .f32) (l : Fin 128) :
    k0_pay3 i x y (ix2 0 l) = Ideal.ofBits .f32 0x3F000000#32 * ∑ r : Fin 544, (∑ e : Fin 1024, gap (row t r).val (x (ix2 r e)) (y (ix2 r e)) * gap (row t r).val (x (ix2 r e)) (y (ix2 r e)))
      * Ideal.ofBits .f32 0x3A800000#32 := by
  unfold k0_pay3
  dsimp only
  rw [shapeCast_self]
  refine (spread _ _ 0 l).trans (congrArg (Ideal.ofBits .f32 0x3F000000#32 * ·) ((colSum _ _ _ _ _ 0).trans (Finset.sum_congr rfl fun r _ => ?_)))
  refine congrArg (· * Ideal.ofBits .f32 0x3A800000#32) ((rowSum _ _ _ _ _ r).trans (Finset.sum_congr rfl fun e _ => ?_))
  exact congrArg₂ (· * ·) (pay1_apply i t ht x y r e) (pay1_apply i t ht x y r e)

/-- Where the windows stand at point `t`. -/
theorem in_eq : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (grid0.coords t 0).val = t.val :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (grid0.coords t 0).val = t.val)

/-- The point of block `t`. -/
def pt (t : Fin 4) : Fin cfg0.N := ⟨t.val, by have h : cfg0.N = 4 := N_0; omega⟩

theorem iblk0 (c : Dev nD) (t : Fin 4) (r : Fin 544) (d : Fin 1024) : (iblk m c 0 (pt t) : Vec Ideal S544x1024 .f32) (ix2 r d) = m ((c : Thread nD τ).loc main_arg0) (ix2 (row t r) d) := by
  unfold iblk
  rw [View.read_apply]
  show m ((c : Thread nD τ).loc main_arg0) _ = _
  congr 1
  funext b
  refine Fin.ext ?_
  match b with
  | ⟨0, _⟩ => show win0_0.index (pt t) 0 * 544 + 1 * r.val = 544 * t.val + r.val; rw [(in_eq _).1.1]; show t.val * 544 + 1 * r.val = _; omega
  | ⟨1, _⟩ => show win0_0.index (pt t) 1 * 1024 + 1 * d.val = d.val; rw [(in_eq _).1.2]; omega
theorem iblk1 (c : Dev nD) (t : Fin 4) (r : Fin 544) (d : Fin 1024) : (iblk m c 1 (pt t) : Vec Ideal S544x1024 .f32) (ix2 r d) = m ((c : Thread nD τ).loc main_arg1) (ix2 (row t r) d) := by
  unfold iblk
  rw [View.read_apply]
  show m ((c : Thread nD τ).loc main_arg1) _ = _
  congr 1
  funext b
  refine Fin.ext ?_
  match b with
  | ⟨0, _⟩ => show win0_1.index (pt t) 0 * 544 + 1 * r.val = 544 * t.val + r.val; rw [(in_eq _).2.1.1]; show t.val * 544 + 1 * r.val = _; omega
  | ⟨1, _⟩ => show win0_1.index (pt t) 1 * 1024 + 1 * d.val = d.val; rw [(in_eq _).2.1.2]; omega
theorem emb2 (t : Fin 4) (r : Fin 544) (d : Fin 1024) : ((cfg0.win 2).blk (pt t)).view.emb (ix2 r d) = (ix2 (row t r) d : S2176x1024.Idx) := by
  funext b
  refine Fin.ext ?_
  match b with
  | ⟨0, _⟩ => show win0_2.index (pt t) 0 * 544 + 1 * r.val = 544 * t.val + r.val; rw [(in_eq _).2.2.1.1]; show t.val * 544 + 1 * r.val = _; omega
  | ⟨1, _⟩ => show win0_2.index (pt t) 1 * 1024 + 1 * d.val = d.val; rw [(in_eq _).2.2.1.2]; omega
theorem emb3 (t : Fin 4) (l : Fin 128) : ((cfg0.win 3).blk (pt t)).view.emb (ix2 0 l) = (ix2 0 l : S1x128.Idx) := by
  funext b
  refine Fin.ext ?_
  match b with
  | ⟨0, _⟩ => show win0_3.index (pt t) 0 * 1 + 1 * 0 = 0; rw [(in_eq _).2.2.2.1.1]
  | ⟨1, _⟩ => show win0_3.index (pt t) 1 * 128 + 1 * l.val = l.val; rw [(in_eq _).2.2.2.1.2]; omega

/-- What the point of block `t` adds to the loss. -/
theorem part_apply (c : Dev nD) (t : Fin 4) (l : Fin 128) : k0_pay3 (grid0.coords (pt t)) (iblk m c 0 (pt t)) (iblk m c 1 (pt t)) (ix2 0 l)
    = part (m ((c : Thread nD τ).loc main_arg0)) (m ((c : Thread nD τ).loc main_arg1)) t := by
  rw [pay3_apply _ t (in_eq (pt t)).2.2.2.2]
  refine congrArg (Ideal.ofBits .f32 0x3F000000#32 * ·) (Finset.sum_congr rfl fun r _ => congrArg (· * Ideal.ofBits .f32 0x3A800000#32) (Finset.sum_congr rfl fun e _ => ?_))
  rw [iblk0 m c t r e, iblk1 m c t r e]

/-- A later point adds its block's part. -/
theorem pay4_apply (c : Dev nD) (t : Fin 4) (v : Vec Ideal S1x128 .f32) (l : Fin 128) : k0_pay4 (grid0.coords (pt t)) (iblk m c 0 (pt t)) (iblk m c 1 (pt t)) v (ix2 0 l)
    = v (ix2 0 l) + part (m ((c : Thread nD τ).loc main_arg0)) (m ((c : Thread nD τ).loc main_arg1)) t := by
  unfold k0_pay4
  rw [shapeCast_self]
  exact congrArg (v (ix2 0 l) + ·) (part_apply m c t l)

/-- The loss after each point. -/
theorem acc0 (c : Dev nD) (l : Fin 128) : (outsAt0 m c (pt 0).val (pt 0).isLt).2 (ix2 0 l) = part (m ((c : Thread nD τ).loc main_arg0)) (m ((c : Thread nD τ).loc main_arg1)) 0 := by
  rw [outsAt0_A m c (pt 0) rfl (by decide), out_A3]
  exact part_apply m c 0 l
theorem acc1 (c : Dev nD) (l : Fin 128) : (outsAt0 m c (pt 1).val (pt 1).isLt).2 (ix2 0 l)
    = part (m ((c : Thread nD τ).loc main_arg0)) (m ((c : Thread nD τ).loc main_arg1)) 0 + part (m ((c : Thread nD τ).loc main_arg0)) (m ((c : Thread nD τ).loc main_arg1)) 1 := by
  rw [outsAt0_B m c (pt 1) (by decide) (by decide), out_B3]
  exact (pay4_apply m c 1 _ l).trans (congrArg (· + _) (acc0 m c l))
theorem acc2 (c : Dev nD) (l : Fin 128) : (outsAt0 m c (pt 2).val (pt 2).isLt).2 (ix2 0 l)
    = part (m ((c : Thread nD τ).loc main_arg0)) (m ((c : Thread nD τ).loc main_arg1)) 0 + part (m ((c : Thread nD τ).loc main_arg0)) (m ((c : Thread nD τ).loc main_arg1)) 1
      + part (m ((c : Thread nD τ).loc main_arg0)) (m ((c : Thread nD τ).loc main_arg1)) 2 := by
  rw [outsAt0_B m c (pt 2) (by decide) (by decide), out_B3]
  exact (pay4_apply m c 2 _ l).trans (congrArg (· + _) (acc1 m c l))
theorem acc3 (c : Dev nD) (l : Fin 128) : (outsAt0 m c (pt 3).val (pt 3).isLt).2 (ix2 0 l)
    = part (m ((c : Thread nD τ).loc main_arg0)) (m ((c : Thread nD τ).loc main_arg1)) 0 + part (m ((c : Thread nD τ).loc main_arg0)) (m ((c : Thread nD τ).loc main_arg1)) 1
      + part (m ((c : Thread nD τ).loc main_arg0)) (m ((c : Thread nD τ).loc main_arg1)) 2 + part (m ((c : Thread nD τ).loc main_arg0)) (m ((c : Thread nD τ).loc main_arg1)) 3 := by
  rw [outsAt0_B m c (pt 3) (by decide) (by decide), out_B3]
  exact (pay4_apply m c 3 _ l).trans (congrArg (· + _) (acc2 m c l))

/-- The gradient's block after its point. -/
theorem grad_apply (c : Dev nD) (t : Fin 4) (r : Fin 544) (d : Fin 1024) : (outsAt0 m c (pt t).val (pt t).isLt).1 (ix2 r d)
    = gap (row t r).val (m ((c : Thread nD τ).loc main_arg0) (ix2 (row t r) d)) (m ((c : Thread nD τ).loc main_arg1) (ix2 (row t r) d)) * Ideal.ofBits .f32 0x3A800000#32 := by
  have hp : k0_pay2 (grid0.coords (pt t)) (iblk m c 0 (pt t)) (iblk m c 1 (pt t)) (ix2 r d)
      = gap (row t r).val (m ((c : Thread nD τ).loc main_arg0) (ix2 (row t r) d)) (m ((c : Thread nD τ).loc main_arg1) (ix2 (row t r) d)) * Ideal.ofBits .f32 0x3A800000#32 := by
    rw [pay2_apply _ t (in_eq (pt t)).2.2.2.2, iblk0 m c t r d, iblk1 m c t r d]
  by_cases h : t.val = 0
  · rw [outsAt0_A m c (pt t) (by show t.val % 4 = 0; omega) (by show ¬1 ≤ t.val; omega), out_A2]
    exact hp
  · rw [outsAt0_B m c (pt t) (by show ¬t.val % 4 = 0; omega) (by show 1 ≤ t.val; omega), out_B2]
    exact hp

/-- The gradient after the run -/
theorem final2 (c : Dev nD) (t : Fin 4) (r : Fin 544) (d : Fin 1024) : (dats m 0 c).arrAt 2 cfg0.N (ix2 (row t r) d : S2176x1024.Idx)
    = gap (row t r).val (m ((c : Thread nD τ).loc main_arg0) (ix2 (row t r) d)) (m ((c : Thread nD τ).loc main_arg1) (ix2 (row t r) d)) * Ideal.ofBits .f32 0x3A800000#32 := by
  have h := (dats m 0 c).arrAt_emb_eq_flushed 2 disjoint2 (pt t) (flush0_2 _) (ix2 r d)
  refine (congrArg ((dats m 0 c).arrAt 2 cfg0.N) (emb2 t r d)).symm.trans (h.trans ?_)
  refine (cast_eq _ _).trans ((congrFun (flushed2 m c _) _).trans ?_)
  exact grad_apply m c t r d

theorem disjoint3 : ∀ t t' : Fin cfg0.N, (cfg0.win 3).flush t = true → (cfg0.win 3).flush t' = true → t ≠ t' →
    Disjoint ((cfg0.win 3).blk t).view.set ((cfg0.win 3).blk t').view.set := fun t t' h h' hne =>
  absurd (Fin.ext (by have hN : cfg0.N = 4 := N_0; have h1 := (flush0_3 t).mp h; have h2 := (flush0_3 t').mp h'; omega)) hne

/-- and the loss. -/
theorem final3 (c : Dev nD) (l : Fin 128) : (dats m 0 c).arrAt 3 cfg0.N (ix2 0 l : S1x128.Idx)
    = part (m ((c : Thread nD τ).loc main_arg0)) (m ((c : Thread nD τ).loc main_arg1)) 0 + part (m ((c : Thread nD τ).loc main_arg0)) (m ((c : Thread nD τ).loc main_arg1)) 1
      + part (m ((c : Thread nD τ).loc main_arg0)) (m ((c : Thread nD τ).loc main_arg1)) 2 + part (m ((c : Thread nD τ).loc main_arg0)) (m ((c : Thread nD τ).loc main_arg1)) 3 := by
  have h := (dats m 0 c).arrAt_emb_eq_flushed 3 disjoint3 (pt 3) ((flush0_3 _).mpr rfl) (ix2 0 l)
  refine (congrArg ((dats m 0 c).arrAt 3 cfg0.N) (emb3 3 l)).symm.trans (h.trans ?_)
  refine (cast_eq _ _).trans ((congrFun (flushed3 m c _) _).trans ?_)
  exact acc3 m c l

end Cert.LossIdeal.Row

namespace Cert.LossRefIdeal.Row

open Cert.LossRefIdeal Cert.LossRefIdeal.Gen Cert.LossRefIdeal.Read Cert.Row

/-- The reference's difference in the rows that count, -/
theorem gap_apply (x0 x1 : (⟨S2176x1024, .f32⟩ : BufTy).Contents (Elt Ideal)) (n : Fin 2048) (d : Fin 1024) :
    val_main_v2 (F := Ideal) x0 x1 (ix2 n d) = (x0 (ix2 ⟨128 + n.val, by omega⟩ d) - x1 (ix2 ⟨128 + n.val, by omega⟩ d) : EReal) :=
  congrArg₂ (fun a b : EReal => a - b) ((val_main_v0_apply x0 _).trans (congrArg x0 (eq_ix2 _))) ((val_main_v1_apply x1 _).trans (congrArg x1 (eq_ix2 _)))

/-- its gradient there, -/
theorem grad_in (x0 x1 : (⟨S2176x1024, .f32⟩ : BufTy).Contents (Elt Ideal)) (n : Fin 2048) (d : Fin 1024) :
    val_main_v16 (F := Ideal) x0 x1 (ix2 n d) = (x0 (ix2 ⟨128 + n.val, by omega⟩ d) - x1 (ix2 ⟨128 + n.val, by omega⟩ d) : EReal) * Ideal.ofBits .f32 0x3A800000#32 := by
  rw [val_main_v16_apply, val_main_v5_apply, gap_apply, val_main_v15_apply, val_main_v14_apply, val_main_v12_apply, val_main_v11_apply, val_main_v13_apply, val_main_v4_apply,
    val_main_cst_apply, val_main_cst_4_apply, val_main_cst_5_apply, val_main_cst_6_apply]
  generalize (x0 (ix2 ⟨128 + n.val, _⟩ d) - x1 (ix2 ⟨128 + n.val, _⟩ d) : EReal) = z
  show Ideal.div (Ideal.ofBits .f32 0x3F000000#32 * Ideal.ofBits .f32 0x3F800000#32) (Ideal.ofBits .f32 0x44800000#32) * (Ideal.ofBits .f32 0x40000000#32 * z) = z * Ideal.ofBits .f32 0x3A800000#32
  rw [div_len, Ideal.ofBits_one_f32, mul_one, mul_mul_mul_comm, half_real, two_real, ← EReal.coe_mul, show (1 / 2 * 2 : ℝ) = 1 by norm_num, EReal.coe_one, one_mul, mul_comm]

/-- its gradient -/
theorem ref2 (x0 x1 : (⟨S2176x1024, .f32⟩ : BufTy).Contents (Elt Ideal)) (n : Fin 2176) (d : Fin 1024) :
    val_main_v17 (F := Ideal) x0 x1 (ix2 n d) = gap n.val (x0 (ix2 n d)) (x1 (ix2 n d)) * Ideal.ofBits .f32 0x3A800000#32 := by
  unfold val_main_v17 gap
  by_cases h : 128 ≤ n.val
  · rw [if_pos h]
    have hn : n = ⟨128 + (⟨n.val - 128, by omega⟩ : Fin 2048).val, by show 128 + (n.val - 128) < 2176; omega⟩ := Fin.ext (by show n.val = 128 + (n.val - 128); omega)
    refine (pad_apply_of_inside _ _ _ _ _ _ _ _ (ix2 ⟨n.val - 128, by omega⟩ d) fun a => ?_).trans ((grad_in x0 x1 ⟨n.val - 128, by omega⟩ d).trans ?_)
    · match a with
      | ⟨0, _⟩ => show n.val = 128 + (n.val - 128) * (0 + 1); omega
      | ⟨1, _⟩ => show d.val = 0 + d.val * (0 + 1); omega
    · exact congrArg (fun k : Fin 2176 => (x0 (ix2 k d) - x1 (ix2 k d) : EReal) * Ideal.ofBits .f32 0x3A800000#32) hn.symm
  · rw [if_neg h, zero_mul]
    refine (pad_apply_of_not_inside _ _ _ _ _ _ _ _ (0 : Fin 2) fun hh => h hh.1).trans ?_
    exact Ideal.ofBits_zero_f32

/-- and its loss. -/
theorem ref3 (x0 x1 : (⟨S2176x1024, .f32⟩ : BufTy).Contents (Elt Ideal)) (l : Fin 128) :
    val_main_v18 (F := Ideal) x0 x1 (ix2 0 l) = part x0 x1 0 + part x0 x1 1 + part x0 x1 2 + part x0 x1 3 := by
  rw [parts_eq, val_main_v18_apply, val_main_v10_apply, val_main_v9_apply, val_main_cst_2_apply]
  show Ideal.ofBits .f32 0x3F000000#32 * (Ideal.ofBits .f32 0x00000000#32 + _) = _
  rw [zero_start, show (∑ j : S2048.Idx, val_main_v8 (F := Ideal) x0 x1 j) = ∑ n : Fin 2048, val_main_v8 (F := Ideal) x0 x1 (ix1 n) from
    (Fintype.sum_equiv ⟨fun n => ix1 n, fun i => i 0, fun _ => rfl, fun i => (eq_ix1 i).symm⟩ (fun n : Fin 2048 => val_main_v8 (F := Ideal) x0 x1 (ix1 n)) _ fun _ => rfl).symm]
  refine congrArg (Ideal.ofBits .f32 0x3F000000#32 * ·) (Finset.sum_congr rfl fun n _ => ?_)
  rw [val_main_v8_apply, val_main_v7_apply, val_main_cst_1_apply, val_main_v6_apply]
  show Ideal.div (Ideal.ofBits .f32 0x00000000#32 + _) (Ideal.ofBits .f32 0x44800000#32) = _
  rw [zero_start, div_len]
  refine congrArg (· * Ideal.ofBits .f32 0x3A800000#32) (Finset.sum_congr rfl fun e _ => ?_)
  have hg : val_main_v2 (F := Ideal) x0 x1 (idx_main_v6 (ix1 n) e) = (x0 (ix2 ⟨128 + n.val, by omega⟩ e) - x1 (ix2 ⟨128 + n.val, by omega⟩ e) : EReal) :=
    (congrArg (val_main_v2 (F := Ideal) x0 x1) (eq_ix2 _)).trans (gap_apply x0 x1 n e)
  exact congrArg₂ (fun a b : EReal => a * b) hg hg

end Cert.LossRefIdeal.Row

namespace Cert.Row

open Cert.Proj

/-- The kernel's loss and gradient are the reference's. -/
theorem loss : @Cert.algebraic_LossIdeal_LossRefIdeal Cert.LossIdeal.Gen.facts Cert.LossRefIdeal.Gen.facts := fun m g m' g' _ hin =>
  ⟨fun c => (Cert.LossIdeal.Gen.dats m 0 c).arrAt 2 Cert.LossIdeal.cfg0.N, fun c => (Cert.LossIdeal.Gen.dats m 0 c).arrAt 3 Cert.LossIdeal.cfg0.N,
    Cert.LossIdeal.Value.run_blocks m g,
    (θ_run _ _ _).mono (fun r h c => ⟨(h c).1.trans ((Cert.LossRefIdeal.Read.val_main_v17_eq _ _).trans (by
        rw [(hin c).1, (hin c).2]
        funext i
        obtain ⟨t, s, e⟩ := row_split (i 0)
        rw [eq_ix2 i, e]
        exact (Cert.LossRefIdeal.Row.ref2 _ _ _ _).trans (Cert.LossIdeal.Row.final2 m c t s _).symm)),
      (h c).2.1.trans ((Cert.LossRefIdeal.Read.val_main_v18_eq _ _).trans (by
        rw [(hin c).1, (hin c).2]
        funext i
        have hi : i = ix2 0 (i 1) := (eq_ix2 i).trans (congrArg (ix2 · (i 1)) (Subsingleton.elim (α := Fin 1) _ _))
        rw [hi]
        exact (Cert.LossRefIdeal.Row.ref3 _ _ _).trans (Cert.LossIdeal.Row.final3 m c _).symm)), (h c).2.2⟩)
      (Cert.LossRefIdeal.Value.run (F := Ideal) m' g')⟩

end Cert.Row

end
-- ==== Proof.Row.SsdDt.lean ====
/- The state-space layer's time steps: the kernel's masked softplus, and its transpose, are the reference's. -/
module

public import proofs.«01_k».proof.Defs
public import proofs.«01_k».proof.Proof.Row.Basics
public import Idealize.ShloMosaic.Lib.IdealHost
public import Idealize.ShloMosaic.Lib.WordCmp
public import Idealize.ShloMosaic.Lib.KernelVsHost
public import proofs.«01_k».proof.Proof.Gen.SsdDtIdeal.Value
public import proofs.«01_k».proof.Proof.Gen.SsdDtRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.Row

/-- The softplus, -/
def soft (v : EReal) : EReal := max v 0 + Ideal.log (1 + Ideal.exp (-max v (-v)))
/-- and the time step of a row: none in the rows of padding. -/
def step (n : Nat) (v : EReal) : EReal := if 112 ≤ n then soft v else 0

end Cert.Row

namespace Cert.SsdDtIdeal.Row

open Cert.SsdDtIdeal Cert.SsdDtIdeal.Gen Cert.SsdDtIdeal.Value Cert.Row Cert.Proj

variable (m : (ℓ : Loc nD τ sig) → Buf (Elt Ideal) ℓ) (ρ : Dev nD → PrngReg)

/-- Where the windows stand at the one point. -/
theorem in_eq : ∀ t : Fin cfg0.N, (win0_0.index t 0 = 0 ∧ win0_0.index t 1 = 19) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, (win0_0.index t 0 = 0 ∧ win0_0.index t 1 = 19) ∧ (win0_1.index t 0 = 0 ∧ win0_1.index t 1 = 0)
    ∧ (win0_2.index t 0 = 0 ∧ win0_2.index t 1 = 0) ∧ (win0_3.index t 0 = 0 ∧ win0_3.index t 1 = 0))

/-- The one point. -/
def pt : Fin cfg0.N := ⟨0, by have h : cfg0.N = 1 := N_0; omega⟩

theorem iblk0 (c : Dev nD) (n : Fin 2176) (d : Fin 128) :
    (iblk m c 0 pt : Vec Ideal S2176x128 .f32) (ix2 n d) = m ((c : Thread nD τ).loc main_arg0) (ix2 n ⟨2432 + d.val, by omega⟩) := by
  unfold iblk
  rw [View.read_apply]
  show m ((c : Thread nD τ).loc main_arg0) _ = _
  congr 1
  funext b
  refine Fin.ext ?_
  match b with
  | ⟨0, _⟩ => show win0_0.index pt 0 * 2176 + 1 * n.val = n.val; rw [(in_eq _).1.1]; omega
  | ⟨1, _⟩ => show win0_0.index pt 1 * 128 + 1 * d.val = 2432 + d.val; rw [(in_eq _).1.2]; omega

theorem iblk1 (c : Dev nD) (d : Fin 128) : (iblk m c 1 pt : Vec Ideal S1x128 .f32) (ix2 0 d) = m ((c : Thread nD τ).loc main_arg1) (ix2 0 d) := by
  unfold iblk
  rw [View.read_apply]
  show m ((c : Thread nD τ).loc main_arg1) _ = _
  congr 1
  funext b
  refine Fin.ext ?_
  match b with
  | ⟨0, _⟩ => show win0_1.index pt 0 * 1 + 1 * 0 = 0; rw [(in_eq _).2.1.1]
  | ⟨1, _⟩ => show win0_1.index pt 1 * 128 + 1 * d.val = d.val; rw [(in_eq _).2.1.2]; omega

theorem emb2 (n : Fin 2176) (d : Fin 128) : ((cfg0.win 2).blk pt).view.emb (ix2 n d) = (ix2 n d : S2176x128.Idx) := by
  funext b
  refine Fin.ext ?_
  match b with
  | ⟨0, _⟩ => show win0_2.index pt 0 * 2176 + 1 * n.val = n.val; rw [(in_eq _).2.2.1.1]; omega
  | ⟨1, _⟩ => show win0_2.index pt 1 * 128 + 1 * d.val = d.val; rw [(in_eq _).2.2.1.2]; omega
theorem emb3 (d : Fin 128) (n : Fin 2176) : ((cfg0.win 3).blk pt).view.emb (ix2 d n) = (ix2 d n : S128x2176.Idx) := by
  funext b
  refine Fin.ext ?_
  match b with
  | ⟨0, _⟩ => show win0_3.index pt 0 * 128 + 1 * d.val = d.val; rw [(in_eq _).2.2.2.1]; omega
  | ⟨1, _⟩ => show win0_3.index pt 1 * 2176 + 1 * n.val = n.val; rw [(in_eq _).2.2.2.2]; omega

/-- The kernel's spelling of the softplus. -/
theorem soft_eq (v : EReal) : max v (Ideal.ofBits .f32 0x00000000#32) + Ideal.log (Ideal.ofBits .f32 0x3F800000#32 + Ideal.exp (Ideal.ofBits .f32 0x00000000#32 - max v (-v))) = soft v := by
  rw [Ideal.ofBits_zero_f32, Ideal.ofBits_one_f32, zero_sub]; rfl

/-- What the kernel stores at a row and channel. -/
theorem pay1_apply (x : Vec Ideal S2176x128 .f32) (b : Vec Ideal S1x128 .f32) (n : Fin 2176) (d : Fin 128) :
    k0_pay1 x b (ix2 n d) = step n.val (x (ix2 n d) + b (ix2 0 d)) := by
  have hi : iota .tc S2176x128 32 [0] iota_S2176x128_d0_w32 (ix2 n d) = BitVec.ofNat 32 n.val := iota_single_apply _ _ _ _ _ _
  have hb : broadcastTo S2176x128 b broadcasts_S1x128_S2176x128 (ix2 n d) = b (ix2 0 d) := under _ _ n d
  unfold k0_pay1
  show Scalar.select (IntOp.cmpi .sge (iota .tc S2176x128 32 [0] iota_S2176x128_d0_w32 (ix2 n d)) (BitVec.ofNat 32 112))
    (max (x (ix2 n d) + broadcastTo S2176x128 b broadcasts_S1x128_S2176x128 (ix2 n d)) (Ideal.ofBits .f32 0x00000000#32)
      + Ideal.log (Ideal.ofBits .f32 0x3F800000#32 + Ideal.exp (Ideal.ofBits .f32 0x00000000#32 - max (x (ix2 n d) + broadcastTo S2176x128 b broadcasts_S1x128_S2176x128 (ix2 n d)) (-(x (ix2 n d) + broadcastTo S2176x128 b broadcasts_S1x128_S2176x128 (ix2 n d))))))
    (Ideal.ofBits .f32 0x00000000#32) = _
  rw [hi, hb, soft_eq, Ideal.ofBits_zero_f32]
  unfold step
  have hn := n.isLt
  by_cases h : 112 ≤ n.val
  · rw [if_pos h]
    exact WordCmp.select_of_eq_one ((WordCmp.cmpi_sge_ofNat_eq_one_iff (by omega) (by omega)).mpr h) _ _
  · rw [if_neg h]
    exact WordCmp.select_of_eq_zero ((WordCmp.cmpi_sge_ofNat_eq_zero_iff (by omega) (by omega)).mpr (by omega)) _ _

/-- The time steps after the run -/
theorem final2 (c : Dev nD) (n : Fin 2176) (d : Fin 128) : (dats m 0 c).arrAt 2 cfg0.N (ix2 n d : S2176x128.Idx)
    = step n.val (HAdd.hAdd (α := EReal) (β := EReal) (γ := EReal) (m ((c : Thread nD τ).loc main_arg0) (ix2 n ⟨2432 + d.val, by omega⟩)) (m ((c : Thread nD τ).loc main_arg1) (ix2 0 d))) := by
  have h := (dats m 0 c).arrAt_emb_eq_flushed 2 disjoint2 pt (flush0_2 _) (ix2 n d)
  refine (congrArg ((dats m 0 c).arrAt 2 cfg0.N) (emb2 n d)).symm.trans (h.trans ?_)
  refine (cast_eq _ _).trans ((congrFun (flushed2 m c _) _).trans ?_)
  show out0_2 (iblk m c 0 pt) (iblk m c 1 pt) (ix2 n d) = _
  unfold out0_2
  rw [View.canon_unit_zero hz2, View.ld_unit_zero hz2, View.ld_unit_zero hz2, pay1_apply]
  exact congrArg (step n.val) (congrArg₂ (fun a b : EReal => a + b) (iblk0 m c n d) (iblk1 m c d))

/-- and their transpose. -/
theorem final3 (c : Dev nD) (d : Fin 128) (n : Fin 2176) : (dats m 0 c).arrAt 3 cfg0.N (ix2 d n : S128x2176.Idx)
    = step n.val (HAdd.hAdd (α := EReal) (β := EReal) (γ := EReal) (m ((c : Thread nD τ).loc main_arg0) (ix2 n ⟨2432 + d.val, by omega⟩)) (m ((c : Thread nD τ).loc main_arg1) (ix2 0 d))) := by
  have h := (dats m 0 c).arrAt_emb_eq_flushed 3 disjoint3 pt (flush0_3 _) (ix2 d n)
  refine (congrArg ((dats m 0 c).arrAt 3 cfg0.N) (emb3 d n)).symm.trans (h.trans ?_)
  refine (cast_eq _ _).trans ((congrFun (flushed3 m c _) _).trans ?_)
  show out0_3 (iblk m c 0 pt) (iblk m c 1 pt) (ix2 d n) = _
  unfold out0_3
  rw [View.canon_unit_zero hz2, View.ld_unit_zero hz2, View.ld_unit_zero hz2]
  unfold k0_pay2
  refine (transpose_apply [1, 0] _ _ (ix2 d n) (ix2 n d) ?_).trans ?_
  · intro b
    match b with
    | ⟨0, _⟩ => rfl
    | ⟨1, _⟩ => rfl
  · rw [pay1_apply]
    exact congrArg (step n.val) (congrArg₂ (fun a b : EReal => a + b) (iblk0 m c n d) (iblk1 m c d))

end Cert.SsdDtIdeal.Row

namespace Cert.SsdDtRefIdeal.Row

open Cert.SsdDtRefIdeal Cert.SsdDtRefIdeal.Gen Cert.SsdDtRefIdeal.Read Cert.Row

/-- The reference's softplus on the rows that are not padding. -/
theorem ref_soft (x0 : (⟨S2176x2816, .f32⟩ : BufTy).Contents (Elt Ideal)) (x1 : (⟨S1x128, .f32⟩ : BufTy).Contents (Elt Ideal)) (n : Fin 2064) (d : Fin 128) :
    val_main_v3 (F := Ideal) x0 x1 (ix2 n d) = soft (x0 (ix2 ⟨112 + n.val, by omega⟩ ⟨2432 + d.val, by omega⟩) + x1 (ix2 0 d) : EReal) := by
  have hv : val_main_v2 (F := Ideal) x0 x1 (ix2 n d) = (x0 (ix2 ⟨112 + n.val, by omega⟩ ⟨2432 + d.val, by omega⟩) + x1 (ix2 0 d) : EReal) :=
    congrArg₂ (fun a b : EReal => a + b) ((val_main_v0_apply x0 _).trans (congrArg x0 (eq_ix2 _))) ((val_main_v1_apply x1 _).trans (congrArg x1 (eq_ix2 _)))
  have h4 : val_main_call0_v4 (F := Ideal) x0 x1 (ix2 n d) = 0#1 := by
    rw [val_main_call0_v4_apply]
    show BitVec.ofBool (decide (_ ≠ _)) = 0#1
    rw [decide_eq_false (by simp)]; rfl
  rw [val_main_v3_apply, WordCmp.select_of_eq_zero h4, val_main_call0_v11_apply, val_main_call0_v1_apply, val_main_call0_v10_apply, val_main_call0_v9_apply, val_main_call0_v8_apply,
    val_main_call0_v7_apply, val_main_call0_v3_apply, val_main_call0_v2_apply, val_main_call0_v0_apply, val_main_call0_cst_apply, hv]
  generalize (x0 (ix2 ⟨112 + n.val, _⟩ ⟨2432 + d.val, _⟩) + x1 (ix2 0 d) : EReal) = v
  show max v (Ideal.ofBits .f32 0x00000000#32) + Ideal.log (1 + Ideal.exp (-max (v - Ideal.ofBits .f32 0x00000000#32) (-(v - Ideal.ofBits .f32 0x00000000#32)))) = _
  rw [Ideal.ofBits_zero_f32, sub_zero]; rfl

/-- The reference's rows: the time steps -/
theorem ref2 (x0 : (⟨S2176x2816, .f32⟩ : BufTy).Contents (Elt Ideal)) (x1 : (⟨S1x128, .f32⟩ : BufTy).Contents (Elt Ideal)) (n : Fin 2176) (d : Fin 128) :
    val_main_v4 (F := Ideal) x0 x1 (ix2 n d) = step n.val (x0 (ix2 n ⟨2432 + d.val, by omega⟩) + x1 (ix2 0 d) : EReal) := by
  unfold val_main_v4 step
  by_cases h : 112 ≤ n.val
  · rw [if_pos h]
    have hn : n = ⟨112 + (⟨n.val - 112, by omega⟩ : Fin 2064).val, by show 112 + (n.val - 112) < 2176; omega⟩ := Fin.ext (by show n.val = 112 + (n.val - 112); omega)
    refine (pad_apply_of_inside _ _ _ _ _ _ _ _ (ix2 ⟨n.val - 112, by omega⟩ d) fun a => ?_).trans ((ref_soft x0 x1 ⟨n.val - 112, by omega⟩ d).trans ?_)
    · match a with
      | ⟨0, _⟩ => show n.val = 112 + (n.val - 112) * (0 + 1); omega
      | ⟨1, _⟩ => show d.val = 0 + d.val * (0 + 1); omega
    · exact congrArg (fun k : Fin 2176 => soft (x0 (ix2 k ⟨2432 + d.val, by omega⟩) + x1 (ix2 0 d) : EReal)) hn.symm
  · rw [if_neg h]
    refine (pad_apply_of_not_inside _ _ _ _ _ _ _ _ (0 : Fin 2) fun hh => h hh.1).trans ?_
    rw [val_main_call1_v0_apply, val_main_c_apply]
    show (((0#32 : BitVec 32).toInt : ℝ) : EReal) = 0
    norm_num

/-- and their transpose. -/
theorem ref3 (x0 : (⟨S2176x2816, .f32⟩ : BufTy).Contents (Elt Ideal)) (x1 : (⟨S1x128, .f32⟩ : BufTy).Contents (Elt Ideal)) (d : Fin 128) (n : Fin 2176) :
    val_main_v5 (F := Ideal) x0 x1 (ix2 d n) = step n.val (x0 (ix2 n ⟨2432 + d.val, by omega⟩) + x1 (ix2 0 d) : EReal) := by
  unfold val_main_v5
  refine (transpose_apply [1, 0] _ _ (ix2 d n) (ix2 n d) ?_).trans (ref2 x0 x1 n d)
  intro b
  match b with
  | ⟨0, _⟩ => rfl
  | ⟨1, _⟩ => rfl

end Cert.SsdDtRefIdeal.Row

namespace Cert.Row

/-- The kernel's time steps are the reference's. -/
theorem ssdDt : @Cert.algebraic_SsdDtIdeal_SsdDtRefIdeal Cert.SsdDtIdeal.Gen.facts Cert.SsdDtRefIdeal.Gen.facts := fun m g m' g' _ hin =>
  ⟨fun c => (Cert.SsdDtIdeal.Gen.dats m 0 c).arrAt 2 Cert.SsdDtIdeal.cfg0.N, fun c => (Cert.SsdDtIdeal.Gen.dats m 0 c).arrAt 3 Cert.SsdDtIdeal.cfg0.N,
    Cert.SsdDtIdeal.Value.run_blocks m g,
    (θ_run _ _ _).mono (fun r h c => ⟨(h c).1.trans ((Cert.SsdDtRefIdeal.Read.val_main_v4_eq _ _).trans (by
        rw [(hin c).1, (hin c).2]
        funext i
        rw [eq_ix2 i]
        exact (Cert.SsdDtRefIdeal.Row.ref2 _ _ _ _).trans (Cert.SsdDtIdeal.Row.final2 m c _ _).symm)),
      (h c).2.1.trans ((Cert.SsdDtRefIdeal.Read.val_main_v5_eq _ _).trans (by
        rw [(hin c).1, (hin c).2]
        funext i
        rw [eq_ix2 i]
        exact (Cert.SsdDtRefIdeal.Row.ref3 _ _ _ _).trans (Cert.SsdDtIdeal.Row.final3 m c _ _).symm)), (h c).2.2⟩)
      (Cert.SsdDtRefIdeal.Value.run (F := Ideal) m' g')⟩

end Cert.Row

end
-- ==== Proof.Row.LnBwd.lean ====
/- The backward pass of a row's layer norm: the kernel's grouping of its terms and the reference's agree where the gradient and the scale are real numbers. -/
module

public import proofs.«01_k».proof.Defs
public import proofs.«01_k».proof.Proof.Row.Blocks
public import proofs.«01_k».proof.Proof.Ffn.Gate
public import proofs.«01_k».proof.Proof.Gen.Pre_finite_ln

@[expose] public section

noncomputable section

open Idealize.ShloMosaic Idealize.ShloMosaic.ValueIdx

namespace Cert.Row

/-- The row a layer norm is taken of: the residual and what is added to it, each scaled. -/
def mixed (s : EReal) (h o : Fin 1024 → EReal) (d : Fin 1024) : EReal := Ideal.ofBits .f32 0x3FB504F3#32 * h d + s * o d
/-- A row less its mean, -/
def cen (z : Fin 1024 → EReal) (d : Fin 1024) : EReal := z d - Ideal.div (∑ e, z e) (Ideal.ofBits .f32 0x44800000#32)
/-- its variance and the small constant, -/
def spr (z : Fin 1024 → EReal) : EReal := Ideal.div (∑ e, cen z e * cen z e) (Ideal.ofBits .f32 0x44800000#32) + Ideal.ofBits .f32 0x3727C5AC#32
/-- the inverse of the deviation, -/
def inv (z : Fin 1024 → EReal) : EReal := Ideal.rsqrt (spr z)
/-- and that inverse's derivative by the variance. -/
def slope (z : Fin 1024 → EReal) : EReal := Ideal.ofBits .f32 0xBF000000#32 * Ideal.div (inv z) (spr z)
/-- The gradient of the variance, over the length. -/
def lean (z p : Fin 1024 → EReal) : EReal := Ideal.div ((∑ e, cen z e * p e) * slope z) (Ideal.ofBits .f32 0x44800000#32)
/-- The gradient of the row less its mean, as the kernel groups it, -/
def tot (z p : Fin 1024 → EReal) (d : Fin 1024) : EReal := (p d * inv z + cen z d * lean z p) + lean z p * cen z d
/-- and the gradient of the row. -/
def back (z p : Fin 1024 → EReal) (d : Fin 1024) : EReal := tot z p d + Ideal.div (∑ e, (Ideal.ofBits .f32 0x00000000#32 - tot z p e)) (Ideal.ofBits .f32 0x44800000#32)
/-- The same gradient as the reference groups it. -/
def back' (z p : Fin 1024 → EReal) (d : Fin 1024) : EReal := (p d * inv z + lean z p * (Ideal.ofBits .f32 0x40000000#32 * cen z d))
  + Ideal.div ((∑ e, -(p e * inv z)) + ∑ e, -(lean z p * (Ideal.ofBits .f32 0x40000000#32 * cen z e))) (Ideal.ofBits .f32 0x44800000#32)

theorem sq_nonneg' (x : EReal) : 0 ≤ x * x := EReal.mul_nonneg_iff.mpr ((le_total 0 x).imp (fun h => ⟨h, h⟩) fun h => ⟨h, h⟩)

theorem eps_pos : 0 < Ideal.ofBits .f32 0x3727C5AC#32 := by
  simp [Ideal.ofBits, Ideal.ieee, -EReal.coe_mul]

/-- The variance and the constant are positive, -/
theorem spr_pos (z : Fin 1024 → EReal) : 0 < spr z := by
  have h : (0 : EReal) ≤ Ideal.ofBits .f32 0x3A800000#32 := by
    rw [frac_real, ← EReal.coe_inv]
    exact EReal.coe_nonneg.mpr (by norm_num)
  unfold spr
  rw [div_len, add_comm]
  exact EReal.add_pos_of_pos_of_nonneg eps_pos (EReal.mul_nonneg (Finset.sum_nonneg fun e _ => sq_nonneg' _) h)

/-- so that the inverse of the deviation is a real number. -/
theorem inv_real (z : Fin 1024 → EReal) : ∃ r : ℝ, inv z = (r : EReal) := by
  have h := spr_pos z
  unfold inv
  generalize spr z = x at h
  induction x using EReal.rec with
  | bot => exact absurd h (by simp)
  | top => exact ⟨0, rfl⟩
  | coe r =>
    have hr : 0 < r := EReal.coe_pos.mp h
    exact ⟨(Real.sqrt r)⁻¹, by show (if r < 0 then (⊥ : EReal) else if r = 0 then ⊤ else (((Real.sqrt r)⁻¹ : ℝ) : EReal)) = _; rw [if_neg (not_lt.mpr hr.le), if_neg hr.ne']⟩

/-- The two groupings agree. -/
theorem back_eq (z p : Fin 1024 → EReal) (hp : ∀ e, ∃ r : ℝ, p e = (r : EReal)) (d : Fin 1024) : back z p d = back' z p d := by
  have ht : ∀ e, tot z p e = p e * inv z + lean z p * (Ideal.ofBits .f32 0x40000000#32 * cen z e) := fun e => by
    unfold tot
    rw [mul_comm (cen z e), add_assoc, twice, mul_left_comm]
  unfold back back'
  rw [ht d, ← Finset.sum_add_distrib]
  refine congrArg (fun s => _ + Ideal.div s _) (Finset.sum_congr rfl fun e _ => ?_)
  obtain ⟨a, ha⟩ := hp e
  obtain ⟨b, hb⟩ := inv_real z
  rw [ht e, Ideal.ofBits_zero_f32, zero_sub, ha, hb, ← EReal.coe_mul, EReal.neg_add (.inl (EReal.coe_ne_bot _)) (.inl (EReal.coe_ne_top _)), sub_eq_add_neg]

/-- A product of real numbers is one. -/
theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- Row `n` of a layer norm's input, -/
def zrow (s : EReal) (x0 x1 : (⟨2, ![2176, 1024]⟩ : Shape).Idx → EReal) (n : Fin 2176) : Fin 1024 → EReal := mixed s (fun e => x0 (ix2 n e)) fun e => x1 (ix2 n e)
/-- of its gradient times the scale, -/
def prow (x2 : (⟨2, ![1, 1024]⟩ : Shape).Idx → EReal) (x4 : (⟨2, ![2176, 1024]⟩ : Shape).Idx → EReal) (n : Fin 2176) (e : Fin 1024) : EReal := x4 (ix2 n e) * x2 (ix2 0 e)
/-- what a row adds to the scale's gradient, -/
def gamRow (s : EReal) (x0 x1 x4 : (⟨2, ![2176, 1024]⟩ : Shape).Idx → EReal) (d : Fin 1024) (n : Fin 2176) : EReal := cen (zrow s x0 x1 n) d * inv (zrow s x0 x1 n) * x4 (ix2 n d)
/-- and the sum of a block of rows. -/
def blockSum (f : Fin 2176 → EReal) (t : Fin 4) : EReal := ∑ r : Fin 544, f (Cert.Proj.row t r)

/-- The blocks' sums add up to the sum of all rows. -/
theorem blockSum_add (f : Fin 2176 → EReal) : blockSum f 0 + blockSum f 1 + blockSum f 2 + blockSum f 3 = ∑ n, f n :=
  ((sum_rows f).trans (Fin.sum_univ_four (blockSum f))).symm

/-- A sum along a single column is its entry. -/
theorem oneSum {M : Nat} (v : FVec Ideal ⟨2, ![M, 1]⟩ .f32) (hr : (⟨2, ![M, 1]⟩ : Shape).Reduces [1] ⟨1, ![M]⟩) (hf : FKind.Formats .f32) (hn : (0x00000000#32 : BitVec 32) = FKind.add.neutral .f32 hf)
    (hc : (⟨1, ![M]⟩ : Shape).ShapeCasts ⟨2, ![M, 1]⟩) (r : Fin M) :
    shapeCast ⟨2, ![M, 1]⟩ (multiReduction .add [1] ⟨1, ![M]⟩ v 0x00000000#32 hr hf hn) hc (ix2 r 0) = v (ix2 r 0) :=
  (rowSum v hr hf hn hc r).trans (Fin.sum_univ_one _)

/-- What the precondition says: the scale and the gradient are real numbers. -/
theorem finite_ln (x0 x1 x4 : FVec Ideal Cert.Pre_finite_ln.S2176x1024 .f32) (x2 x3 : FVec Ideal Cert.Pre_finite_ln.S1x1024 .f32)
    (h : Cert.Pre_finite_ln.fn (F := Ideal) x0 x1 x2 x3 x4 = fun _ => 1#1) : (∀ i, ∃ r : ℝ, x2 i = (r : EReal)) ∧ ∀ i, ∃ r : ℝ, x4 i = (r : EReal) := by
  have hj := congrFun h (fun a => a.elim0)
  unfold Cert.Pre_finite_ln.fn at hj
  dsimp only at hj
  obtain ⟨ha, hb⟩ := IntOp.andi_eq_one.mp hj
  haveI : Subsingleton Cert.Pre_finite_ln.S_.Idx := ⟨fun _ _ => funext fun a => a.elim0⟩
  exact ⟨fun i => Cert.Dots.real_of_lt _ (Host.reduce_andi_all _ _ _ _ _ ha i), fun i => Cert.Dots.real_of_lt _ (Host.reduce_andi_all _ _ _ _ _ hb i)⟩

end Cert.Row

end
-- ==== Proof.Row.FfnLnBwd.lean ====
/- The backward pass of the feed-forward layer's residual layer norm: the kernel's four gradients are the reference's, where the scale and the incoming gradient are real numbers. -/
module

public import proofs.«01_k».proof.Proof.Row.LnBwd
public import Idealize.ShloMosaic.Lib.KernelVsHost
public import proofs.«01_k».proof.Proof.Gen.FfnLnBwdIdeal.Value
public import proofs.«01_k».proof.Proof.Gen.FfnLnBwdRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.FfnLnBwdIdeal.Row

open Cert.FfnLnBwdIdeal Cert.FfnLnBwdIdeal.Gen Cert.FfnLnBwdIdeal.Value Cert.Row Cert.Proj

/-- What the layer's output is scaled by. -/
abbrev sc : EReal := Ideal.ofBits .f32 0x3F000000#32

variable (m : (ℓ : Loc nD τ sig) → Buf (Elt Ideal) ℓ) (ρ : Dev nD → PrngReg)

section

variable (c : Dev nD) (i : grid0.Coords) (a2 : Memref sig .tc .vmem S544x1024 .f32) (h2 : a2.IsWhole) (a3 : Memref sig .tc .vmem S544x1024 .f32) (h3 : a3.IsWhole) (a4 : Memref sig .tc .vmem S1x1024 .f32) (h4 : a4.IsWhole) (a5 : Memref sig .tc .vmem S1x1024 .f32) (h5 : a5.IsWhole) (a6 : Memref sig .tc .vmem S544x1024 .f32) (h6 : a6.IsWhole)
  (a7 : Memref sig .tc .vmem S544x1024 .f32) (h7 : a7.IsWhole) (a8 : Memref sig .tc .vmem S544x1024 .bf16) (h8 : a8.IsWhole) (a9 : Memref sig .tc .vmem S1x1024 .f32) (h9 : a9.IsWhole) (a10 : Memref sig .tc .vmem S1x1024 .f32) (h10 : a10.IsWhole)
  (x0 x1 : Vec Ideal S544x1024 .f32) (x2 x3 : Vec Ideal S1x1024 .f32) (x4 : Vec Ideal S544x1024 .f32)

/-- What the first point leaves: the gradient's block, -/
theorem out_A5 (hc0 : cond0_0 i) (hc1 : ¬cond0_1 i) (hc2 : cond0_2 i) (hc3 : ¬cond0_3 i) :
    out0_A_5 c i a2 h2 a3 h3 a4 h4 a5 h5 a6 h6 a7 h7 a8 h8 a9 h9 a10 h10 hc0 hc1 hc2 hc3 x0 x1 x2 x3 x4 = k0_pay12 (k0_pay2 x0 x1) (k0_pay4 x0 x1) (k0_pay5 x0 x1) (k0_pay9 x2 x4) (k0_pay10 x0 x1 x2 x4) := by
  unfold out0_A_5
  rw [View.read_writes_eq_canon _ _ _ (cover0_A_5 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- its rounded copy, -/
theorem out_A6 (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 hc0 hc1 hc2 hc3 x0 x1 x2 x3 x4 = k0_pay13 (k0_pay2 x0 x1) (k0_pay4 x0 x1) (k0_pay5 x0 x1) (k0_pay9 x2 x4) (k0_pay10 x0 x1 x2 x4) := by
  unfold out0_A_6
  rw [View.read_writes_eq_canon _ _ _ (cover0_A_6 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- the scale's gradient -/
theorem out_A7 (hc0 : cond0_0 i) (hc1 : ¬cond0_1 i) (hc2 : cond0_2 i) (hc3 : ¬cond0_3 i) :
    out0_A_7 c i a2 h2 a3 h3 a4 h4 a5 h5 a6 h6 a7 h7 a8 h8 a9 h9 a10 h10 hc0 hc1 hc2 hc3 x0 x1 x2 x3 x4 = k0_pay8 x0 x1 x4 := by
  unfold out0_A_7
  rw [View.read_writes_eq_canon _ _ _ (cover0_A_7 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

/-- and the shift's, -/
theorem out_A8 (hc0 : cond0_0 i) (hc1 : ¬cond0_1 i) (hc2 : cond0_2 i) (hc3 : ¬cond0_3 i) :
    out0_A_8 c i a2 h2 a3 h3 a4 h4 a5 h5 a6 h6 a7 h7 a8 h8 a9 h9 a10 h10 hc0 hc1 hc2 hc3 x0 x1 x2 x3 x4 = k0_pay7 x4 := by
  unfold out0_A_8
  rw [View.read_writes_eq_canon _ _ _ (cover0_A_8 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

/-- and what a later point leaves: the gradient's block, -/
theorem out_B5 (hc0 : ¬cond0_0 i) (hc1 : cond0_1 i) (hc2 : ¬cond0_2 i) (hc3 : cond0_3 i) (y7 y8 : Vec Ideal S1x1024 .f32) :
    out0_B_5 c i a2 h2 a3 h3 a4 h4 a5 h5 a6 h6 a7 h7 a8 h8 a9 h9 a10 h10 hc0 hc1 hc2 hc3 x0 x1 x2 x3 x4 y7 y8 = k0_pay12 (k0_pay2 x0 x1) (k0_pay4 x0 x1) (k0_pay5 x0 x1) (k0_pay9 x2 x4) (k0_pay10 x0 x1 x2 x4) := by
  unfold out0_B_5
  rw [View.read_writes_eq_canon _ _ _ (cover0_B_5 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- its rounded copy, -/
theorem out_B6 (hc0 : ¬cond0_0 i) (hc1 : cond0_1 i) (hc2 : ¬cond0_2 i) (hc3 : cond0_3 i) (y7 y8 : Vec Ideal S1x1024 .f32) :
    out0_B_6 c i a2 h2 a3 h3 a4 h4 a5 h5 a6 h6 a7 h7 a8 h8 a9 h9 a10 h10 hc0 hc1 hc2 hc3 x0 x1 x2 x3 x4 y7 y8 = k0_pay13 (k0_pay2 x0 x1) (k0_pay4 x0 x1) (k0_pay5 x0 x1) (k0_pay9 x2 x4) (k0_pay10 x0 x1 x2 x4) := by
  unfold out0_B_6
  rw [View.read_writes_eq_canon _ _ _ (cover0_B_6 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- the scale's gradient -/
theorem out_B7 (hc0 : ¬cond0_0 i) (hc1 : cond0_1 i) (hc2 : ¬cond0_2 i) (hc3 : cond0_3 i) (y7 y8 : Vec Ideal S1x1024 .f32) :
    out0_B_7 c i a2 h2 a3 h3 a4 h4 a5 h5 a6 h6 a7 h7 a8 h8 a9 h9 a10 h10 hc0 hc1 hc2 hc3 x0 x1 x2 x3 x4 y7 y8 = k0_pay14 (k0_pay8 x0 x1 x4) y7 := by
  unfold out0_B_7
  rw [View.read_writes_eq_canon _ _ _ (cover0_B_7 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

/-- and the shift's. -/
theorem out_B8 (hc0 : ¬cond0_0 i) (hc1 : cond0_1 i) (hc2 : ¬cond0_2 i) (hc3 : cond0_3 i) (y7 y8 : Vec Ideal S1x1024 .f32) :
    out0_B_8 c i a2 h2 a3 h3 a4 h4 a5 h5 a6 h6 a7 h7 a8 h8 a9 h9 a10 h10 hc0 hc1 hc2 hc3 x0 x1 x2 x3 x4 y7 y8 = k0_pay1 (k0_pay7 x4) y8 := by
  unfold out0_B_8
  rw [View.read_writes_eq_canon _ _ _ (cover0_B_8 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

end

/-- The row's input in a block, -/
abbrev zb (x0 x1 : Vec Ideal S544x1024 .f32) (r : Fin 544) : Fin 1024 → EReal := mixed sc (fun e => x0 (ix2 r e)) fun e => x1 (ix2 r e)

/-- less its mean, -/
theorem pay2_apply (x0 x1 : Vec Ideal S544x1024 .f32) (r : Fin 544) (d : Fin 1024) : k0_pay2 x0 x1 (ix2 r d) = cen (zb x0 x1 r) d := by
  unfold k0_pay2 cen
  dsimp only
  exact congrArg (fun s : EReal => mixed sc (fun e => x0 (ix2 r e)) (fun e => x1 (ix2 r e)) d - s)
    ((spread _ _ r d).trans (congrArg (fun s => Ideal.div s (Ideal.ofBits .f32 0x44800000#32)) (rowSum _ _ _ _ _ r)))
/-- its variance, -/
theorem pay3_apply (x0 x1 : Vec Ideal S544x1024 .f32) (r : Fin 544) : k0_pay3 x0 x1 (ix2 r 0) = spr (zb x0 x1 r) := by
  unfold k0_pay3 spr
  dsimp only
  exact congrArg (fun s : EReal => Ideal.div s (Ideal.ofBits .f32 0x44800000#32) + Ideal.ofBits .f32 0x3727C5AC#32)
    ((rowSum _ _ _ _ _ r).trans (Finset.sum_congr rfl fun e _ => congrArg₂ (fun a b : EReal => a * b) (pay2_apply x0 x1 r e) (pay2_apply x0 x1 r e)))
/-- the inverse of its deviation -/
theorem pay4_apply (x0 x1 : Vec Ideal S544x1024 .f32) (r : Fin 544) : k0_pay4 x0 x1 (ix2 r 0) = inv (zb x0 x1 r) := congrArg Ideal.rsqrt (pay3_apply x0 x1 r)
/-- and that inverse's derivative. -/
theorem pay5_apply (x0 x1 : Vec Ideal S544x1024 .f32) (r : Fin 544) : k0_pay5 x0 x1 (ix2 r 0) = slope (zb x0 x1 r) :=
  congrArg₂ (fun a b : EReal => Ideal.ofBits .f32 0xBF000000#32 * Ideal.div a b) (pay4_apply x0 x1 r) (pay3_apply x0 x1 r)
/-- The gradient times the scale, -/
theorem pay9_apply (x2 : Vec Ideal S1x1024 .f32) (x4 : Vec Ideal S544x1024 .f32) (r : Fin 544) (d : Fin 1024) : k0_pay9 x2 x4 (ix2 r d) = (x4 (ix2 r d) * x2 (ix2 0 d) : EReal) := by
  unfold k0_pay9 k0_pay6
  dsimp only
  rw [shapeCast_self]
  exact congrArg (fun s : EReal => x4 (ix2 r d) * s) (under _ _ r d)
/-- and its sum against the row less its mean. -/
theorem pay10_apply (x0 x1 : Vec Ideal S544x1024 .f32) (x2 : Vec Ideal S1x1024 .f32) (x4 : Vec Ideal S544x1024 .f32) (r : Fin 544) :
    k0_pay10 x0 x1 x2 x4 (ix2 r 0) = ∑ e : Fin 1024, cen (zb x0 x1 r) e * (x4 (ix2 r e) * x2 (ix2 0 e)) := by
  unfold k0_pay10
  dsimp only
  exact (rowSum _ _ _ _ _ r).trans (Finset.sum_congr rfl fun e _ => congrArg₂ (fun a b : EReal => a * b) (pay2_apply x0 x1 r e) (pay9_apply x2 x4 r e))

/-- The row's gradient from these. -/
theorem pay11_apply (v13 v35 : FVec Ideal S544x1024 .f32) (v21 v24 v38 : FVec Ideal S544x1 .f32) (r : Fin 544) (z p : Fin 1024 → EReal) (h13 : ∀ e, v13 (ix2 r e) = cen z e)
    (h21 : v21 (ix2 r 0) = inv z) (h24 : v24 (ix2 r 0) = slope z) (h35 : ∀ e, v35 (ix2 r e) = p e) (h38 : v38 (ix2 r 0) = ∑ e, cen z e * p e) (d : Fin 1024) :
    k0_pay11 v13 v21 v24 v35 v38 (ix2 r d) = back z p d := by
  unfold k0_pay11
  dsimp only
  have hk : ∀ e, broadcastTo S544x1024 (shapeCast S544x1 (multiReduction .add [1] S544 (divf (mulf v38 v24) (broadcast S544x1 (Scalar.ofBits .f32 0x44800000#32 : Ideal .f32))) 0x00000000#32
      reduces_S544x1_S544 (.inl rfl) rfl) shapeCasts_S544_S544x1) broadcasts_S544x1_S544x1024 (ix2 r e) = lean z p := fun e =>
    (spread _ _ r e).trans ((oneSum _ _ _ _ _ r).trans (congrArg₂ (fun a b : EReal => Ideal.div (a * b) (Ideal.ofBits .f32 0x44800000#32)) h38 h24))
  generalize broadcastTo S544x1024 (shapeCast S544x1 (multiReduction .add [1] S544 (divf (mulf v38 v24) (broadcast S544x1 (Scalar.ofBits .f32 0x44800000#32 : Ideal .f32))) 0x00000000#32
      reduces_S544x1_S544 (.inl rfl) rfl) shapeCasts_S544_S544x1) broadcasts_S544x1_S544x1024 = w at hk ⊢
  have ht : ∀ e, addf (addf (mulf v35 (broadcastTo S544x1024 v21 broadcasts_S544x1_S544x1024)) (mulf v13 w)) (mulf w v13) (ix2 r e) = tot z p e := fun e =>
    congrArg₂ (fun a b : EReal => a + b) (congrArg₂ (fun a b : EReal => a + b) (congrArg₂ (fun a b : EReal => a * b) (h35 e) ((spread _ _ r e).trans h21))
      (congrArg₂ (fun a b : EReal => a * b) (h13 e) (hk e))) (congrArg₂ (fun a b : EReal => a * b) (hk e) (h13 e))
  generalize addf (addf (mulf v35 (broadcastTo S544x1024 v21 broadcasts_S544x1_S544x1024)) (mulf v13 w)) (mulf w v13) = u at ht ⊢
  exact congrArg₂ (fun a b : EReal => a + b) (ht d) ((spread _ _ r d).trans ((oneSum _ _ _ _ _ r).trans (congrArg (fun s => Ideal.div s (Ideal.ofBits .f32 0x44800000#32))
    ((rowSum _ _ _ _ _ r).trans (Finset.sum_congr rfl fun e _ => congrArg (fun s : EReal => Ideal.ofBits .f32 0x00000000#32 - s) (ht e))))))

/-- A block's gradient, -/
theorem grad_apply (x0 x1 : Vec Ideal S544x1024 .f32) (x2 : Vec Ideal S1x1024 .f32) (x4 : Vec Ideal S544x1024 .f32) (r : Fin 544) (d : Fin 1024) :
    k0_pay11 (k0_pay2 x0 x1) (k0_pay4 x0 x1) (k0_pay5 x0 x1) (k0_pay9 x2 x4) (k0_pay10 x0 x1 x2 x4) (ix2 r d) = back (zb x0 x1 r) (fun e => x4 (ix2 r e) * x2 (ix2 0 e)) d :=
  pay11_apply _ _ _ _ _ r _ _ (pay2_apply x0 x1 r) (pay4_apply x0 x1 r) (pay5_apply x0 x1 r) (pay9_apply x2 x4 r) (pay10_apply x0 x1 x2 x4 r) d

/-- what it adds to the scale's gradient -/
theorem pay8_apply (x0 x1 x4 : Vec Ideal S544x1024 .f32) (d : Fin 1024) : k0_pay8 x0 x1 x4 (ix2 0 d) = ∑ r : Fin 544, cen (zb x0 x1 r) d * inv (zb x0 x1 r) * x4 (ix2 r d) := by
  unfold k0_pay8 k0_pay6
  dsimp only
  rw [shapeCast_self (v := x4)]
  exact (colSum _ _ _ _ _ d).trans (Finset.sum_congr rfl fun r _ => congrArg (fun s : EReal => s * x4 (ix2 r d))
    (congrArg₂ (fun a b : EReal => a * b) (pay2_apply x0 x1 r d) ((spread _ _ r d).trans (pay4_apply x0 x1 r))))
/-- and to the shift's. -/
theorem pay7_apply (x4 : Vec Ideal S544x1024 .f32) (d : Fin 1024) : k0_pay7 x4 (ix2 0 d) = ∑ r : Fin 544, x4 (ix2 r d) := colSum _ _ _ _ _ d
theorem pay14_apply (v y : FVec Ideal S1x1024 .f32) (d : Fin 1024) : k0_pay14 v y (ix2 0 d) = (y (ix2 0 d) + v (ix2 0 d) : EReal) := by
  unfold k0_pay14
  rw [shapeCast_self]
  rfl
theorem pay1_apply (v y : FVec Ideal S1x1024 .f32) (d : Fin 1024) : k0_pay1 v y (ix2 0 d) = (y (ix2 0 d) + v (ix2 0 d) : EReal) := by
  unfold k0_pay1
  rw [shapeCast_self]
  rfl

/-- The point of block `t`. -/
def pt (t : Fin 4) : Fin cfg0.N := ⟨t.val, by have h : cfg0.N = 4 := N_0; omega⟩

/-- Where the windows stand there. -/
theorem in_eq : ∀ t : Fin 4, (win0_0.index (pt t) 0 = t.val ∧ win0_0.index (pt t) 1 = 0)
    ∧ (win0_1.index (pt t) 0 = t.val ∧ win0_1.index (pt t) 1 = 0)
    ∧ (win0_2.index (pt t) 0 = 0 ∧ win0_2.index (pt t) 1 = 0)
    ∧ (win0_4.index (pt t) 0 = t.val ∧ win0_4.index (pt t) 1 = 0)
    ∧ (win0_5.index (pt t) 0 = t.val ∧ win0_5.index (pt t) 1 = 0)
    ∧ (win0_6.index (pt t) 0 = t.val ∧ win0_6.index (pt t) 1 = 0)
    ∧ (win0_7.index (pt t) 0 = 0 ∧ win0_7.index (pt t) 1 = 0)
    ∧ (win0_8.index (pt t) 0 = 0 ∧ win0_8.index (pt t) 1 = 0) :=
  (by decide +kernel)

theorem iblk0 (c : Dev nD) (t : Fin 4) (r : Fin 544) (d : Fin 1024) : (iblk m c 0 (pt t) : Vec Ideal S544x1024 .f32) (ix2 r d) = m ((c : Thread nD τ).loc main_arg0) (ix2 (row t r) d) := by
  unfold iblk
  rw [View.read_apply]
  show m ((c : Thread nD τ).loc main_arg0) _ = _
  congr 1
  funext b
  refine Fin.ext ?_
  match b with
  | ⟨0, _⟩ => show win0_0.index (pt t) 0 * 544 + 1 * r.val = 544 * t.val + r.val; rw [(in_eq t).1.1]; show t.val * 544 + 1 * r.val = _; omega
  | ⟨1, _⟩ => show win0_0.index (pt t) 1 * 1024 + 1 * d.val = d.val; rw [(in_eq t).1.2]; omega
theorem iblk1 (c : Dev nD) (t : Fin 4) (r : Fin 544) (d : Fin 1024) : (iblk m c 1 (pt t) : Vec Ideal S544x1024 .f32) (ix2 r d) = m ((c : Thread nD τ).loc main_arg1) (ix2 (row t r) d) := by
  unfold iblk
  rw [View.read_apply]
  show m ((c : Thread nD τ).loc main_arg1) _ = _
  congr 1
  funext b
  refine Fin.ext ?_
  match b with
  | ⟨0, _⟩ => show win0_1.index (pt t) 0 * 544 + 1 * r.val = 544 * t.val + r.val; rw [(in_eq t).2.1.1]; show t.val * 544 + 1 * r.val = _; omega
  | ⟨1, _⟩ => show win0_1.index (pt t) 1 * 1024 + 1 * d.val = d.val; rw [(in_eq t).2.1.2]; omega
theorem iblk2 (c : Dev nD) (t : Fin 4) (d : Fin 1024) : (iblk m c 2 (pt t) : Vec Ideal S1x1024 .f32) (ix2 0 d) = m ((c : Thread nD τ).loc main_arg2) (ix2 0 d) := by
  unfold iblk
  rw [View.read_apply]
  show m ((c : Thread nD τ).loc main_arg2) _ = _
  congr 1
  funext b
  refine Fin.ext ?_
  match b with
  | ⟨0, _⟩ => show win0_2.index (pt t) 0 * 1 + 1 * 0 = 0; rw [(in_eq t).2.2.1.1]
  | ⟨1, _⟩ => show win0_2.index (pt t) 1 * 1024 + 1 * d.val = d.val; rw [(in_eq t).2.2.1.2]; omega
theorem iblk4 (c : Dev nD) (t : Fin 4) (r : Fin 544) (d : Fin 1024) : (iblk m c 4 (pt t) : Vec Ideal S544x1024 .f32) (ix2 r d) = m ((c : Thread nD τ).loc main_arg4) (ix2 (row t r) d) := by
  unfold iblk
  rw [View.read_apply]
  show m ((c : Thread nD τ).loc main_arg4) _ = _
  congr 1
  funext b
  refine Fin.ext ?_
  match b with
  | ⟨0, _⟩ => show win0_4.index (pt t) 0 * 544 + 1 * r.val = 544 * t.val + r.val; rw [(in_eq t).2.2.2.1.1]; show t.val * 544 + 1 * r.val = _; omega
  | ⟨1, _⟩ => show win0_4.index (pt t) 1 * 1024 + 1 * d.val = d.val; rw [(in_eq t).2.2.2.1.2]; omega
theorem emb5 (t : Fin 4) (r : Fin 544) (d : Fin 1024) : ((cfg0.win 5).blk (pt t)).view.emb (ix2 r d) = (ix2 (row t r) d : S2176x1024.Idx) := by
  funext b
  refine Fin.ext ?_
  match b with
  | ⟨0, _⟩ => show win0_5.index (pt t) 0 * 544 + 1 * r.val = 544 * t.val + r.val; rw [(in_eq t).2.2.2.2.1.1]; show t.val * 544 + 1 * r.val = _; omega
  | ⟨1, _⟩ => show win0_5.index (pt t) 1 * 1024 + 1 * d.val = d.val; rw [(in_eq t).2.2.2.2.1.2]; omega
theorem emb6 (t : Fin 4) (r : Fin 544) (d : Fin 1024) : ((cfg0.win 6).blk (pt t)).view.emb (ix2 r d) = (ix2 (row t r) d : S2176x1024.Idx) := by
  funext b
  refine Fin.ext ?_
  match b with
  | ⟨0, _⟩ => show win0_6.index (pt t) 0 * 544 + 1 * r.val = 544 * t.val + r.val; rw [(in_eq t).2.2.2.2.2.1.1]; show t.val * 544 + 1 * r.val = _; omega
  | ⟨1, _⟩ => show win0_6.index (pt t) 1 * 1024 + 1 * d.val = d.val; rw [(in_eq t).2.2.2.2.2.1.2]; omega
theorem emb7 (t : Fin 4) (d : Fin 1024) : ((cfg0.win 7).blk (pt t)).view.emb (ix2 0 d) = (ix2 0 d : S1x1024.Idx) := by
  funext b
  refine Fin.ext ?_
  match b with
  | ⟨0, _⟩ => show win0_7.index (pt t) 0 * 1 + 1 * 0 = 0; rw [(in_eq t).2.2.2.2.2.2.1.1]
  | ⟨1, _⟩ => show win0_7.index (pt t) 1 * 1024 + 1 * d.val = d.val; rw [(in_eq t).2.2.2.2.2.2.1.2]; omega
theorem emb8 (t : Fin 4) (d : Fin 1024) : ((cfg0.win 8).blk (pt t)).view.emb (ix2 0 d) = (ix2 0 d : S1x1024.Idx) := by
  funext b
  refine Fin.ext ?_
  match b with
  | ⟨0, _⟩ => show win0_8.index (pt t) 0 * 1 + 1 * 0 = 0; rw [(in_eq t).2.2.2.2.2.2.2.1]
  | ⟨1, _⟩ => show win0_8.index (pt t) 1 * 1024 + 1 * d.val = d.val; rw [(in_eq t).2.2.2.2.2.2.2.2]; omega

/-- A block's gradient from the arguments, -/
theorem grad_eq (c : Dev nD) (t : Fin 4) (r : Fin 544) (d : Fin 1024) :
    k0_pay11 (k0_pay2 (iblk m c 0 (pt t)) (iblk m c 1 (pt t))) (k0_pay4 (iblk m c 0 (pt t)) (iblk m c 1 (pt t))) (k0_pay5 (iblk m c 0 (pt t)) (iblk m c 1 (pt t)))
      (k0_pay9 (iblk m c 2 (pt t)) (iblk m c 4 (pt t))) (k0_pay10 (iblk m c 0 (pt t)) (iblk m c 1 (pt t)) (iblk m c 2 (pt t)) (iblk m c 4 (pt t))) (ix2 r d)
    = back (zrow sc (m ((c : Thread nD τ).loc main_arg0)) (m ((c : Thread nD τ).loc main_arg1)) (row t r)) (prow (m ((c : Thread nD τ).loc main_arg2)) (m ((c : Thread nD τ).loc main_arg4)) (row t r)) d := by
  rw [grad_apply]
  unfold zb zrow prow
  simp only [iblk0, iblk1, iblk2, iblk4]

/-- what it adds to the scale's gradient -/
theorem gam_eq (c : Dev nD) (t : Fin 4) (d : Fin 1024) : k0_pay8 (iblk m c 0 (pt t)) (iblk m c 1 (pt t)) (iblk m c 4 (pt t)) (ix2 0 d)
    = blockSum (gamRow sc (m ((c : Thread nD τ).loc main_arg0)) (m ((c : Thread nD τ).loc main_arg1)) (m ((c : Thread nD τ).loc main_arg4)) d) t := by
  rw [pay8_apply]
  unfold blockSum gamRow zb zrow
  simp only [iblk0, iblk1, iblk4]
/-- and to the shift's. -/
theorem bet_eq (c : Dev nD) (t : Fin 4) (d : Fin 1024) : k0_pay7 (iblk m c 4 (pt t)) (ix2 0 d) = blockSum (fun n => m ((c : Thread nD τ).loc main_arg4) (ix2 n d)) t := by
  rw [pay7_apply]
  unfold blockSum
  simp only [iblk4]

/-- The blocks of the gradient and of its rounded copy after their point. -/
theorem point5 (c : Dev nD) (t : Fin 4) (r : Fin 544) (d : Fin 1024) : (outsAt0 m c (pt t).val (pt t).isLt).1 (ix2 r d)
    = Ideal.ofBits .f32 0x3FB504F3#32 * back (zrow sc (m ((c : Thread nD τ).loc main_arg0)) (m ((c : Thread nD τ).loc main_arg1)) (row t r)) (prow (m ((c : Thread nD τ).loc main_arg2)) (m ((c : Thread nD τ).loc main_arg4)) (row t r)) d := by
  by_cases h : t.val = 0
  · rw [outsAt0_A m c (pt t) (by show t.val % 4 = 0; omega) (by show ¬1 ≤ t.val; omega) (by show t.val % 4 = 0; omega) (by show ¬1 ≤ t.val; omega), out_A5]
    exact congrArg (fun s : EReal => Ideal.ofBits .f32 0x3FB504F3#32 * s) (grad_eq m c t r d)
  · rw [outsAt0_B m c (pt t) (by show ¬t.val % 4 = 0; omega) (by show 1 ≤ t.val; omega) (by show ¬t.val % 4 = 0; omega) (by show 1 ≤ t.val; omega), out_B5]
    exact congrArg (fun s : EReal => Ideal.ofBits .f32 0x3FB504F3#32 * s) (grad_eq m c t r d)
theorem point6 (c : Dev nD) (t : Fin 4) (r : Fin 544) (d : Fin 1024) : (outsAt0 m c (pt t).val (pt t).isLt).2.1 (ix2 r d)
    = sc * back (zrow sc (m ((c : Thread nD τ).loc main_arg0)) (m ((c : Thread nD τ).loc main_arg1)) (row t r)) (prow (m ((c : Thread nD τ).loc main_arg2)) (m ((c : Thread nD τ).loc main_arg4)) (row t r)) d := by
  by_cases h : t.val = 0
  · rw [outsAt0_A m c (pt t) (by show t.val % 4 = 0; omega) (by show ¬1 ≤ t.val; omega) (by show t.val % 4 = 0; omega) (by show ¬1 ≤ t.val; omega), out_A6]
    exact congrArg (fun s : EReal => sc * s) (grad_eq m c t r d)
  · rw [outsAt0_B m c (pt t) (by show ¬t.val % 4 = 0; omega) (by show 1 ≤ t.val; omega) (by show ¬t.val % 4 = 0; omega) (by show 1 ≤ t.val; omega), out_B6]
    exact congrArg (fun s : EReal => sc * s) (grad_eq m c t r d)

/-- The scale's gradient after each point, -/
theorem gam0 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 0).val (pt 0).isLt).2.2.1 (ix2 0 d) = f 0 := by
  rw [outsAt0_A m c (pt 0) rfl (by decide) rfl (by decide), out_A7, hf]
  exact gam_eq m c 0 d
theorem gam1 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 1).val (pt 1).isLt).2.2.1 (ix2 0 d) = f 0 + f 1 := by
  rw [outsAt0_B m c (pt 1) (by decide) (by decide) (by decide) (by decide), out_B7]
  exact (pay14_apply _ _ d).trans (congrArg₂ (fun a b : EReal => a + b) (gam0 m c d f hf) ((gam_eq m c 1 d).trans (congrFun hf 1).symm))
theorem gam2 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 2).val (pt 2).isLt).2.2.1 (ix2 0 d) = f 0 + f 1 + f 2 := by
  rw [outsAt0_B m c (pt 2) (by decide) (by decide) (by decide) (by decide), out_B7]
  exact (pay14_apply _ _ d).trans (congrArg₂ (fun a b : EReal => a + b) (gam1 m c d f hf) ((gam_eq m c 2 d).trans (congrFun hf 2).symm))
theorem gam3 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 3).val (pt 3).isLt).2.2.1 (ix2 0 d) = f 0 + f 1 + f 2 + f 3 := by
  rw [outsAt0_B m c (pt 3) (by decide) (by decide) (by decide) (by decide), out_B7]
  exact (pay14_apply _ _ d).trans (congrArg₂ (fun a b : EReal => a + b) (gam2 m c d f hf) ((gam_eq m c 3 d).trans (congrFun hf 3).symm))

/-- and the shift's. -/
theorem bet0 (c : Dev nD) (d : Fin 1024) (f : Fin 4 → EReal) (hf : f = blockSum (fun n => m ((c : Thread nD τ).loc main_arg4) (ix2 n d))) : (outsAt0 m c (pt 0).val (pt 0).isLt).2.2.2 (ix2 0 d) = f 0 := by
  rw [outsAt0_A m c (pt 0) rfl (by decide) rfl (by decide), out_A8, hf]
  exact bet_eq m c 0 d
theorem bet1 (c : Dev nD) (d : Fin 1024) (f : Fin 4 → EReal) (hf : f = blockSum (fun n => m ((c : Thread nD τ).loc main_arg4) (ix2 n d))) : (outsAt0 m c (pt 1).val (pt 1).isLt).2.2.2 (ix2 0 d) = f 0 + f 1 := by
  rw [outsAt0_B m c (pt 1) (by decide) (by decide) (by decide) (by decide), out_B8]
  exact (pay1_apply _ _ d).trans (congrArg₂ (fun a b : EReal => a + b) (bet0 m c d f hf) ((bet_eq m c 1 d).trans (congrFun hf 1).symm))
theorem bet2 (c : Dev nD) (d : Fin 1024) (f : Fin 4 → EReal) (hf : f = blockSum (fun n => m ((c : Thread nD τ).loc main_arg4) (ix2 n d))) : (outsAt0 m c (pt 2).val (pt 2).isLt).2.2.2 (ix2 0 d) = f 0 + f 1 + f 2 := by
  rw [outsAt0_B m c (pt 2) (by decide) (by decide) (by decide) (by decide), out_B8]
  exact (pay1_apply _ _ d).trans (congrArg₂ (fun a b : EReal => a + b) (bet1 m c d f hf) ((bet_eq m c 2 d).trans (congrFun hf 2).symm))
theorem bet3 (c : Dev nD) (d : Fin 1024) (f : Fin 4 → EReal) (hf : f = blockSum (fun n => m ((c : Thread nD τ).loc main_arg4) (ix2 n d))) : (outsAt0 m c (pt 3).val (pt 3).isLt).2.2.2 (ix2 0 d) = f 0 + f 1 + f 2 + f 3 := by
  rw [outsAt0_B m c (pt 3) (by decide) (by decide) (by decide) (by decide), out_B8]
  exact (pay1_apply _ _ d).trans (congrArg₂ (fun a b : EReal => a + b) (bet2 m c d f hf) ((bet_eq m c 3 d).trans (congrFun hf 3).symm))

/-- The results after the run. -/
theorem final5 (c : Dev nD) (t : Fin 4) (r : Fin 544) (d : Fin 1024) : (dats m 0 c).arrAt 5 cfg0.N (ix2 (row t r) d : S2176x1024.Idx)
    = Ideal.ofBits .f32 0x3FB504F3#32 * back (zrow sc (m ((c : Thread nD τ).loc main_arg0)) (m ((c : Thread nD τ).loc main_arg1)) (row t r)) (prow (m ((c : Thread nD τ).loc main_arg2)) (m ((c : Thread nD τ).loc main_arg4)) (row t r)) d := by
  have h := (dats m 0 c).arrAt_emb_eq_flushed 5 disjoint5 (pt t) (flush0_5 _) (ix2 r d)
  refine (congrArg ((dats m 0 c).arrAt 5 cfg0.N) (emb5 t r d)).symm.trans (h.trans ?_)
  refine (cast_eq _ _).trans ((congrFun (flushed5 m c _) _).trans ?_)
  exact point5 m c t r d
theorem final6 (c : Dev nD) (t : Fin 4) (r : Fin 544) (d : Fin 1024) : (dats m 0 c).arrAt 6 cfg0.N (ix2 (row t r) d : S2176x1024.Idx)
    = sc * back (zrow sc (m ((c : Thread nD τ).loc main_arg0)) (m ((c : Thread nD τ).loc main_arg1)) (row t r)) (prow (m ((c : Thread nD τ).loc main_arg2)) (m ((c : Thread nD τ).loc main_arg4)) (row t r)) d := by
  have h := (dats m 0 c).arrAt_emb_eq_flushed 6 disjoint6 (pt t) (flush0_6 _) (ix2 r d)
  refine (congrArg ((dats m 0 c).arrAt 6 cfg0.N) (emb6 t r d)).symm.trans (h.trans ?_)
  refine (cast_eq _ _).trans ((congrFun (flushed6 m c _) _).trans ?_)
  exact point6 m c t r d

theorem disjoint7 : ∀ t t' : Fin cfg0.N, (cfg0.win 7).flush t = true → (cfg0.win 7).flush t' = true → t ≠ t' →
    Disjoint ((cfg0.win 7).blk t).view.set ((cfg0.win 7).blk t').view.set := fun t t' h h' hne =>
  absurd (Fin.ext (by have hN : cfg0.N = 4 := N_0; have h1 := (flush0_7 t).mp h; have h2 := (flush0_7 t').mp h'; omega)) hne
theorem disjoint8 : ∀ t t' : Fin cfg0.N, (cfg0.win 8).flush t = true → (cfg0.win 8).flush t' = true → t ≠ t' →
    Disjoint ((cfg0.win 8).blk t).view.set ((cfg0.win 8).blk t').view.set := fun t t' h h' hne =>
  absurd (Fin.ext (by have hN : cfg0.N = 4 := N_0; have h1 := (flush0_8 t).mp h; have h2 := (flush0_8 t').mp h'; omega)) hne

theorem final7 (c : Dev nD) (d : Fin 1024) : (dats m 0 c).arrAt 7 cfg0.N (ix2 0 d : S1x1024.Idx)
    = ∑ n, gamRow sc (m ((c : Thread nD τ).loc main_arg0)) (m ((c : Thread nD τ).loc main_arg1)) (m ((c : Thread nD τ).loc main_arg4)) d n := by
  have h := (dats m 0 c).arrAt_emb_eq_flushed 7 disjoint7 (pt 3) ((flush0_7 _).mpr rfl) (ix2 0 d)
  refine (congrArg ((dats m 0 c).arrAt 7 cfg0.N) (emb7 3 d)).symm.trans (h.trans ?_)
  refine (cast_eq _ _).trans ((congrFun (flushed7 m c _) _).trans ?_)
  exact (gam3 m c d _ rfl).trans (blockSum_add _)
theorem final8 (c : Dev nD) (d : Fin 1024) : (dats m 0 c).arrAt 8 cfg0.N (ix2 0 d : S1x1024.Idx) = Finset.sum (M := EReal) Finset.univ (fun n : Fin 2176 => m ((c : Thread nD τ).loc main_arg4) (ix2 n d)) := by
  have h := (dats m 0 c).arrAt_emb_eq_flushed 8 disjoint8 (pt 3) ((flush0_8 _).mpr rfl) (ix2 0 d)
  refine (congrArg ((dats m 0 c).arrAt 8 cfg0.N) (emb8 3 d)).symm.trans (h.trans ?_)
  refine (cast_eq _ _).trans ((congrFun (flushed8 m c _) _).trans ?_)
  exact (bet3 m c d _ rfl).trans (blockSum_add _)

end Cert.FfnLnBwdIdeal.Row

namespace Cert.FfnLnBwdRefIdeal.Row

open Cert.FfnLnBwdRefIdeal Cert.FfnLnBwdRefIdeal.Gen Cert.FfnLnBwdRefIdeal.Read Cert.Row

/-- What the layer's output is scaled by. -/
abbrev sc : EReal := Ideal.ofBits .f32 0x3F000000#32
/-- The reference's matrices and rows. -/
abbrev Mat : Type := (⟨S2176x1024, .f32⟩ : BufTy).Contents (Elt Ideal)
abbrev Vct : Type := (⟨S1x1024, .f32⟩ : BufTy).Contents (Elt Ideal)

/-- Where the sums along a row and along a column read. -/
theorem at_row (i : S2176x1.Idx) (e : Fin 1024) : idx_main_v41 (idx_main_v42 i) e = (ix2 (i 0) e : S2176x1024.Idx) := by
  have h : (i 1).val < 1 := (i 1).isLt
  funext a
  refine Fin.ext ?_
  match a with
  | ⟨0, _⟩ => show (i 0).val * 1 + (i 1).val = (i 0).val; omega
  | ⟨1, _⟩ => rfl
theorem at_col (d : Fin 1024) (n : Fin 2176) : idx_main_v33 (idx_main_v34 (ix2 0 d)) n = (ix2 n d : S2176x1024.Idx) := by
  funext a
  refine Fin.ext ?_
  match a with
  | ⟨0, _⟩ => rfl
  | ⟨1, _⟩ => show 0 * 1024 + d.val = d.val; omega

/-- The reference's row, -/
theorem mix_apply (x0 x1 : Mat) (n : Fin 2176) (d : Fin 1024) : val_main_v4 (F := Ideal) x0 x1 (ix2 n d) = zrow sc x0 x1 n d := by
  rw [val_main_v4_apply, val_main_v1_apply, val_main_v3_apply, val_main_v0_apply, val_main_v2_apply]
  rfl
/-- its mean, -/
theorem mean_apply (x0 x1 : Mat) (n : Fin 2176) (i : S2176x1.Idx) (hi : i 0 = n) : val_main_v8 (F := Ideal) x0 x1 i = Ideal.div (∑ e, zrow sc x0 x1 n e) (Ideal.ofBits .f32 0x44800000#32) := by
  subst hi
  rw [val_main_v8_apply, val_main_v6_apply, val_main_v5_apply, val_main_v7_apply]
  exact congrArg (fun s => Ideal.div s (Ideal.ofBits .f32 0x44800000#32)) ((zero_start _).trans (Finset.sum_congr rfl fun e _ =>
    (congrArg (val_main_v4 (F := Ideal) x0 x1) (eq_ix2 _)).trans (mix_apply x0 x1 _ e)))
/-- the row less its mean, -/
theorem cen_apply (x0 x1 : Mat) (n : Fin 2176) (d : Fin 1024) : val_main_v10 (F := Ideal) x0 x1 (ix2 n d) = cen (zrow sc x0 x1 n) d := by
  rw [val_main_v10_apply, val_main_v9_apply]
  exact congrArg₂ (fun a b : EReal => a - b) (mix_apply x0 x1 n d) (mean_apply x0 x1 n _ rfl)
theorem cen_apply' (x0 x1 : Mat) (n : Fin 2176) (d : Fin 1024) : val_main_v19 (F := Ideal) x0 x1 (ix2 n d) = cen (zrow sc x0 x1 n) d := by
  rw [val_main_v19_apply, val_main_v18_apply]
  exact congrArg₂ (fun a b : EReal => a - b) (mix_apply x0 x1 n d) (mean_apply x0 x1 n _ rfl)
/-- its variance, -/
theorem spr_apply (x0 x1 : Mat) (n : Fin 2176) (i : S2176x1.Idx) (hi : i 0 = n) : val_main_v21 (F := Ideal) x0 x1 i = spr (zrow sc x0 x1 n) := by
  subst hi
  rw [val_main_v21_apply, val_main_v17_apply, val_main_v15_apply, val_main_v14_apply, val_main_v16_apply, val_main_v20_apply]
  refine congrArg (fun s : EReal => Ideal.div s (Ideal.ofBits .f32 0x44800000#32) + Ideal.ofBits .f32 0x3727C5AC#32) ((zero_start _).trans (Finset.sum_congr rfl fun e _ => ?_))
  have h := (congrArg (val_main_v10 (F := Ideal) x0 x1) (eq_ix2 (idx_main_v14 (idx_main_v15 i) e))).trans (cen_apply x0 x1 _ e)
  exact congrArg₂ (fun a b : EReal => a * b) h h
/-- the inverse of its deviation -/
theorem inv_apply (x0 x1 : Mat) (n : Fin 2176) (i : S2176x1.Idx) (hi : i 0 = n) : val_main_v22 (F := Ideal) x0 x1 i = inv (zrow sc x0 x1 n) := congrArg Ideal.rsqrt (spr_apply x0 x1 n i hi)
/-- and that inverse's derivative. -/
theorem slope_apply (x0 x1 : Mat) (n : Fin 2176) (i : S2176x1.Idx) (hi : i 0 = n) : val_main_v25 (F := Ideal) x0 x1 i = slope (zrow sc x0 x1 n) := by
  rw [val_main_v25_apply, val_main_v24_apply, val_main_v23_apply]
  exact congrArg₂ (fun a b : EReal => Ideal.ofBits .f32 0xBF000000#32 * Ideal.div a b) (inv_apply x0 x1 n i hi) (spr_apply x0 x1 n i hi)
/-- The gradient as it comes, -/
theorem dy_eq (x4 : Mat) : val_main_v32 (F := Ideal) x4 = x4 := shapeCast_self _ _
/-- and times the scale, -/
theorem p_apply (x2 : Vct) (x4 : Mat) (n : Fin 2176) (d : Fin 1024) : val_main_v39 (F := Ideal) x2 x4 (ix2 n d) = prow x2 x4 n d := by
  rw [val_main_v39_apply, val_main_v38_apply, dy_eq]
  exact congrArg (fun s : EReal => x4 (ix2 n d) * s) (congrArg x2 (eq_ix2 _))
/-- times the inverse of the deviation, -/
theorem a_apply (x0 x1 : Mat) (x2 : Vct) (x4 : Mat) (n : Fin 2176) (d : Fin 1024) : val_main_v44 (F := Ideal) x0 x1 x2 x4 (ix2 n d) = prow x2 x4 n d * inv (zrow sc x0 x1 n) := by
  rw [val_main_v44_apply, val_main_v43_apply]
  exact congrArg₂ (fun a b : EReal => a * b) (p_apply x2 x4 n d) (inv_apply x0 x1 n _ rfl)
/-- the gradient of the variance, -/
theorem lean_apply (x0 x1 : Mat) (x2 : Vct) (x4 : Mat) (n : Fin 2176) (i : S2176x1.Idx) (hi : i 0 = n) : val_main_v50 (F := Ideal) x0 x1 x2 x4 i = lean (zrow sc x0 x1 n) (prow x2 x4 n) := by
  have hs := slope_apply x0 x1 n i hi
  subst hi
  rw [val_main_v50_apply, val_main_v45_apply, val_main_v42_apply, val_main_v41_apply, val_main_v49_apply]
  refine congrArg₂ (fun a b : EReal => Ideal.div (a * b) (Ideal.ofBits .f32 0x44800000#32)) ((zero_start _).trans (Finset.sum_congr rfl fun e _ => ?_)) hs
  refine (congrArg (val_main_v40 (F := Ideal) x0 x1 x2 x4) (at_row i e)).trans ((val_main_v40_apply x0 x1 x2 x4 _).trans ?_)
  exact congrArg₂ (fun a b : EReal => a * b) (cen_apply' x0 x1 _ e) (p_apply x2 x4 _ e)
/-- what it gives a row -/
theorem b_apply (x0 x1 : Mat) (x2 : Vct) (x4 : Mat) (n : Fin 2176) (d : Fin 1024) :
    val_main_v53 (F := Ideal) x0 x1 x2 x4 (ix2 n d) = lean (zrow sc x0 x1 n) (prow x2 x4 n) * (Ideal.ofBits .f32 0x40000000#32 * cen (zrow sc x0 x1 n) d) := by
  rw [val_main_v53_apply, val_main_v52_apply, val_main_v51_apply, val_main_v13_apply, val_main_v12_apply]
  exact congrArg₂ (fun a b : EReal => a * b) ((zero_start _).trans ((Fin.sum_univ_one _).trans (lean_apply x0 x1 x2 x4 n _ rfl)))
    (congrArg (fun s : EReal => Ideal.ofBits .f32 0x40000000#32 * s) (cen_apply x0 x1 n d))
/-- and the row's gradient. -/
theorem back_apply (x0 x1 : Mat) (x2 : Vct) (x4 : Mat) (n : Fin 2176) (d : Fin 1024) : val_main_v63 (F := Ideal) x0 x1 x2 x4 (ix2 n d) = back' (zrow sc x0 x1 n) (prow x2 x4 n) d := by
  rw [val_main_v63_apply, val_main_v57_apply, val_main_v62_apply, val_main_v61_apply]
  refine congrArg₂ (fun a b : EReal => a + b) (congrArg₂ (fun a b : EReal => a + b) (a_apply x0 x1 x2 x4 n d) (b_apply x0 x1 x2 x4 n d)) ((zero_start _).trans ((Fin.sum_univ_one _).trans ?_))
  rw [val_main_v60_apply, val_main_v58_apply, val_main_v48_apply, val_main_v56_apply, val_main_v47_apply, val_main_v55_apply, val_main_v59_apply]
  refine congrArg₂ (fun a b : EReal => Ideal.div (a + b) (Ideal.ofBits .f32 0x44800000#32)) ((zero_start _).trans (Finset.sum_congr rfl fun e _ => ?_)) ((zero_start _).trans (Finset.sum_congr rfl fun e _ => ?_))
  · exact (congrArg (val_main_v46 (F := Ideal) x0 x1 x2 x4) (at_row (ix2 n 0) e)).trans (congrArg (fun s : EReal => -s) (a_apply x0 x1 x2 x4 n e))
  · exact (congrArg (val_main_v54 (F := Ideal) x0 x1 x2 x4) (at_row (ix2 n 0) e)).trans (congrArg (fun s : EReal => -s) (b_apply x0 x1 x2 x4 n e))

/-- The reference's results: the gradient, -/
theorem ref5 (x0 x1 : Mat) (x2 : Vct) (x4 : Mat) (n : Fin 2176) (d : Fin 1024) :
    val_main_v67 (F := Ideal) x0 x1 x2 x4 (ix2 n d) = Ideal.ofBits .f32 0x3FB504F3#32 * back' (zrow sc x0 x1 n) (prow x2 x4 n) d := by
  rw [val_main_v67_apply, val_main_v66_apply]
  exact congrArg (fun s : EReal => Ideal.ofBits .f32 0x3FB504F3#32 * s) (back_apply x0 x1 x2 x4 n d)
/-- its rounded copy, -/
theorem ref6 (x0 x1 : Mat) (x2 : Vct) (x4 : Mat) (n : Fin 2176) (d : Fin 1024) :
    val_main_v68 (F := Ideal) x0 x1 x2 x4 (ix2 n d) = sc * back' (zrow sc x0 x1 n) (prow x2 x4 n) d := by
  rw [val_main_v68_apply, val_main_v65_apply, val_main_v64_apply]
  exact congrArg (fun s : EReal => sc * s) (back_apply x0 x1 x2 x4 n d)
/-- the scale's gradient -/
theorem ref7 (x0 x1 x4 : Mat) (d : Fin 1024) : val_main_v37 (F := Ideal) x0 x1 x4 (ix2 0 d) = ∑ n, gamRow sc x0 x1 x4 d n := by
  rw [val_main_v37_apply, val_main_v36_apply]
  refine (zero_start _).trans (Finset.sum_congr rfl fun n _ => (congrArg (val_main_v35 (F := Ideal) x0 x1 x4) (at_col d n)).trans ?_)
  rw [val_main_v35_apply, val_main_v27_apply, val_main_v26_apply, dy_eq]
  exact congrArg (fun s : EReal => s * x4 (ix2 n d)) (congrArg₂ (fun a b : EReal => a * b) (cen_apply' x0 x1 n d) (inv_apply x0 x1 n _ rfl))
/-- and the shift's. -/
theorem ref8 (x4 : Mat) (d : Fin 1024) : val_main_v34 (F := Ideal) x4 (ix2 0 d) = Finset.sum (M := EReal) Finset.univ (fun n : Fin 2176 => x4 (ix2 n d)) := by
  rw [val_main_v34_apply, val_main_v33_apply]
  exact (zero_start _).trans (Finset.sum_congr rfl fun n _ => congrArg x4 (at_col d n))

end Cert.FfnLnBwdRefIdeal.Row

namespace Cert.Row

open Cert.Proj

/-- The kernel's four gradients are the reference's. -/
theorem ffnLnBwd : @Cert.algebraic_FfnLnBwdIdeal_FfnLnBwdRefIdeal_pre_finite_ln Cert.FfnLnBwdIdeal.Gen.facts Cert.FfnLnBwdRefIdeal.Gen.facts Cert.Pre_finite_ln.Gen.facts := fun m g m' g' hpre hin =>
  ⟨fun c => (Cert.FfnLnBwdIdeal.Gen.dats m 0 c).arrAt 5 Cert.FfnLnBwdIdeal.cfg0.N, fun c => (Cert.FfnLnBwdIdeal.Gen.dats m 0 c).arrAt 6 Cert.FfnLnBwdIdeal.cfg0.N,
    fun c => (Cert.FfnLnBwdIdeal.Gen.dats m 0 c).arrAt 7 Cert.FfnLnBwdIdeal.cfg0.N, fun c => (Cert.FfnLnBwdIdeal.Gen.dats m 0 c).arrAt 8 Cert.FfnLnBwdIdeal.cfg0.N,
    Cert.FfnLnBwdIdeal.Value.run_blocks m g,
    (θ_run _ _ _).mono (fun r h c => ⟨(h c).1.trans ((Cert.FfnLnBwdRefIdeal.Read.val_main_v67_eq _ _).trans (by
        rw [(hin c).1, (hin c).2.1, (hin c).2.2.1, (hin c).2.2.2.2]
        funext i
        obtain ⟨t, s, e⟩ := row_split (i 0)
        obtain ⟨h2, h4⟩ := finite_ln _ _ _ _ _ (hpre c)
        rw [eq_ix2 i, e]
        exact (Cert.FfnLnBwdRefIdeal.Row.ref5 _ _ _ _ _ _).trans ((congrArg _ (back_eq _ _ (fun d => real_mul (h4 _) (h2 _)) _).symm).trans (Cert.FfnLnBwdIdeal.Row.final5 m c t s _).symm))),
      (h c).2.1.trans ((Cert.FfnLnBwdRefIdeal.Read.val_main_v68_eq _ _).trans (by
        rw [(hin c).1, (hin c).2.1, (hin c).2.2.1, (hin c).2.2.2.2]
        funext i
        obtain ⟨t, s, e⟩ := row_split (i 0)
        obtain ⟨h2, h4⟩ := finite_ln _ _ _ _ _ (hpre c)
        rw [eq_ix2 i, e]
        exact (Cert.FfnLnBwdRefIdeal.Row.ref6 _ _ _ _ _ _).trans ((congrArg _ (back_eq _ _ (fun d => real_mul (h4 _) (h2 _)) _).symm).trans (Cert.FfnLnBwdIdeal.Row.final6 m c t s _).symm))),
      (h c).2.2.1.trans ((Cert.FfnLnBwdRefIdeal.Read.val_main_v37_eq _ _ _).trans (by
        rw [(hin c).1, (hin c).2.1, (hin c).2.2.2.2]
        funext i
        have hi : i = ix2 0 (i 1) := (eq_ix2 i).trans (congrArg (ix2 · (i 1)) (Subsingleton.elim (α := Fin 1) _ _))
        rw [hi]
        exact (Cert.FfnLnBwdRefIdeal.Row.ref7 _ _ _ _).trans (Cert.FfnLnBwdIdeal.Row.final7 m c _).symm)),
      (h c).2.2.2.1.trans ((Cert.FfnLnBwdRefIdeal.Read.val_main_v34_eq _).trans (by
        rw [(hin c).2.2.2.2]
        funext i
        have hi : i = ix2 0 (i 1) := (eq_ix2 i).trans (congrArg (ix2 · (i 1)) (Subsingleton.elim (α := Fin 1) _ _))
        rw [hi]
        exact (Cert.FfnLnBwdRefIdeal.Row.ref8 _ _).trans (Cert.FfnLnBwdIdeal.Row.final8 m c _).symm)), (h c).2.2.2.2⟩)
      (Cert.FfnLnBwdRefIdeal.Value.run (F := Ideal) m' g')⟩

end Cert.Row

end
-- ==== Proof.Row.MixLnBwd.lean ====
/- The backward pass of the residual layer norm after the mixing layer: the kernel's four gradients are the reference's, where the scale and the incoming gradient are real numbers. -/
module

public import proofs.«01_k».proof.Proof.Row.LnBwd
public import Idealize.ShloMosaic.Lib.KernelVsHost
public import proofs.«01_k».proof.Proof.Gen.MixLnBwdIdeal.Value
public import proofs.«01_k».proof.Proof.Gen.MixLnBwdRefIdeal.Read

@[expose] public section

set_option maxRecDepth 16384

noncomputable section

open Idealize.ShloMosaic Idealize.ShloMosaic.TcCoe Idealize.ShloMosaic.ValueIdx Idealize.SL.Sem
open Idealize.ShloMosaic.Pipeline (Dat)

namespace Cert.MixLnBwdIdeal.Row

open Cert.MixLnBwdIdeal Cert.MixLnBwdIdeal.Gen Cert.MixLnBwdIdeal.Value Cert.Row Cert.Proj

/-- What the layer's output is scaled by. -/
abbrev sc : EReal := Ideal.ofBits .f32 0x3F800000#32

variable (m : (ℓ : Loc nD τ sig) → Buf (Elt Ideal) ℓ) (ρ : Dev nD → PrngReg)

section

variable (c : Dev nD) (i : grid0.Coords) (a2 : Memref sig .tc .vmem S544x1024 .f32) (h2 : a2.IsWhole) (a3 : Memref sig .tc .vmem S544x1024 .f32) (h3 : a3.IsWhole) (a4 : Memref sig .tc .vmem S1x1024 .f32) (h4 : a4.IsWhole) (a5 : Memref sig .tc .vmem S1x1024 .f32) (h5 : a5.IsWhole) (a6 : Memref sig .tc .vmem S544x1024 .f32) (h6 : a6.IsWhole)
  (a7 : Memref sig .tc .vmem S544x1024 .f32) (h7 : a7.IsWhole) (a8 : Memref sig .tc .vmem S544x1024 .bf16) (h8 : a8.IsWhole) (a9 : Memref sig .tc .vmem S1x1024 .f32) (h9 : a9.IsWhole) (a10 : Memref sig .tc .vmem S1x1024 .f32) (h10 : a10.IsWhole)
  (x0 x1 : Vec Ideal S544x1024 .f32) (x2 x3 : Vec Ideal S1x1024 .f32) (x4 : Vec Ideal S544x1024 .f32)

/-- What the first point leaves: the gradient's block, -/
theorem out_A5 (hc0 : cond0_0 i) (hc1 : ¬cond0_1 i) (hc2 : cond0_2 i) (hc3 : ¬cond0_3 i) :
    out0_A_5 c i a2 h2 a3 h3 a4 h4 a5 h5 a6 h6 a7 h7 a8 h8 a9 h9 a10 h10 hc0 hc1 hc2 hc3 x0 x1 x2 x3 x4 = k0_pay12 (k0_pay2 x0 x1) (k0_pay4 x0 x1) (k0_pay5 x0 x1) (k0_pay9 x2 x4) (k0_pay10 x0 x1 x2 x4) := by
  unfold out0_A_5
  rw [View.read_writes_eq_canon _ _ _ (cover0_A_5 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- its rounded copy, -/
theorem out_A6 (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 hc0 hc1 hc2 hc3 x0 x1 x2 x3 x4 = k0_pay13 (k0_pay2 x0 x1) (k0_pay4 x0 x1) (k0_pay5 x0 x1) (k0_pay9 x2 x4) (k0_pay10 x0 x1 x2 x4) := by
  unfold out0_A_6
  rw [View.read_writes_eq_canon _ _ _ (cover0_A_6 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- the scale's gradient -/
theorem out_A7 (hc0 : cond0_0 i) (hc1 : ¬cond0_1 i) (hc2 : cond0_2 i) (hc3 : ¬cond0_3 i) :
    out0_A_7 c i a2 h2 a3 h3 a4 h4 a5 h5 a6 h6 a7 h7 a8 h8 a9 h9 a10 h10 hc0 hc1 hc2 hc3 x0 x1 x2 x3 x4 = k0_pay8 x0 x1 x4 := by
  unfold out0_A_7
  rw [View.read_writes_eq_canon _ _ _ (cover0_A_7 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

/-- and the shift's, -/
theorem out_A8 (hc0 : cond0_0 i) (hc1 : ¬cond0_1 i) (hc2 : cond0_2 i) (hc3 : ¬cond0_3 i) :
    out0_A_8 c i a2 h2 a3 h3 a4 h4 a5 h5 a6 h6 a7 h7 a8 h8 a9 h9 a10 h10 hc0 hc1 hc2 hc3 x0 x1 x2 x3 x4 = k0_pay7 x4 := by
  unfold out0_A_8
  rw [View.read_writes_eq_canon _ _ _ (cover0_A_8 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

/-- and what a later point leaves: the gradient's block, -/
theorem out_B5 (hc0 : ¬cond0_0 i) (hc1 : cond0_1 i) (hc2 : ¬cond0_2 i) (hc3 : cond0_3 i) (y7 y8 : Vec Ideal S1x1024 .f32) :
    out0_B_5 c i a2 h2 a3 h3 a4 h4 a5 h5 a6 h6 a7 h7 a8 h8 a9 h9 a10 h10 hc0 hc1 hc2 hc3 x0 x1 x2 x3 x4 y7 y8 = k0_pay12 (k0_pay2 x0 x1) (k0_pay4 x0 x1) (k0_pay5 x0 x1) (k0_pay9 x2 x4) (k0_pay10 x0 x1 x2 x4) := by
  unfold out0_B_5
  rw [View.read_writes_eq_canon _ _ _ (cover0_B_5 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- its rounded copy, -/
theorem out_B6 (hc0 : ¬cond0_0 i) (hc1 : cond0_1 i) (hc2 : ¬cond0_2 i) (hc3 : cond0_3 i) (y7 y8 : Vec Ideal S1x1024 .f32) :
    out0_B_6 c i a2 h2 a3 h3 a4 h4 a5 h5 a6 h6 a7 h7 a8 h8 a9 h9 a10 h10 hc0 hc1 hc2 hc3 x0 x1 x2 x3 x4 y7 y8 = k0_pay13 (k0_pay2 x0 x1) (k0_pay4 x0 x1) (k0_pay5 x0 x1) (k0_pay9 x2 x4) (k0_pay10 x0 x1 x2 x4) := by
  unfold out0_B_6
  rw [View.read_writes_eq_canon _ _ _ (cover0_B_6 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S544x1024) hz2]
  simp only [View.readAt_eq_ld, h2.read_unread, h3.read_unread, h4.read_unread, h6.read_unread, h9.read_unread, h10.read_unread, View.ld_unit_zero (S := S544x1024) hz2, View.ld_unit_zero (S := S1x1024) hz2]

/-- the scale's gradient -/
theorem out_B7 (hc0 : ¬cond0_0 i) (hc1 : cond0_1 i) (hc2 : ¬cond0_2 i) (hc3 : cond0_3 i) (y7 y8 : Vec Ideal S1x1024 .f32) :
    out0_B_7 c i a2 h2 a3 h3 a4 h4 a5 h5 a6 h6 a7 h7 a8 h8 a9 h9 a10 h10 hc0 hc1 hc2 hc3 x0 x1 x2 x3 x4 y7 y8 = k0_pay14 (k0_pay8 x0 x1 x4) y7 := by
  unfold out0_B_7
  rw [View.read_writes_eq_canon _ _ _ (cover0_B_7 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

/-- and the shift's. -/
theorem out_B8 (hc0 : ¬cond0_0 i) (hc1 : cond0_1 i) (hc2 : ¬cond0_2 i) (hc3 : cond0_3 i) (y7 y8 : Vec Ideal S1x1024 .f32) :
    out0_B_8 c i a2 h2 a3 h3 a4 h4 a5 h5 a6 h6 a7 h7 a8 h8 a9 h9 a10 h10 hc0 hc1 hc2 hc3 x0 x1 x2 x3 x4 y7 y8 = k0_pay1 (k0_pay7 x4) y8 := by
  unfold out0_B_8
  rw [View.read_writes_eq_canon _ _ _ (cover0_B_8 c i a2 h2 a3 h3 a4 h4 a5 h5 a6 h6 a7 h7 a8 h8 a9 h9 a10 h10 hc0 hc1 hc2 hc3 x0 x1 x2 x3 x4 y7 y8)]
  unfold kernelRun0_B
  dsimp only
  sl_unfold_words
  rw [View.canon_unit_zero (S := S1x1024) hz2]
  simp only [View.readAt_eq_ld, h2.read_unread, h3.read_unread, h4.read_unread, h6.read_unread, h9.read_unread, h10.read_unread, View.ld_unit_zero (S := S544x1024) hz2, View.ld_unit_zero (S := S1x1024) hz2]

end

/-- The row's input in a block, -/
abbrev zb (x0 x1 : Vec Ideal S544x1024 .f32) (r : Fin 544) : Fin 1024 → EReal := mixed sc (fun e => x0 (ix2 r e)) fun e => x1 (ix2 r e)

/-- less its mean, -/
theorem pay2_apply (x0 x1 : Vec Ideal S544x1024 .f32) (r : Fin 544) (d : Fin 1024) : k0_pay2 x0 x1 (ix2 r d) = cen (zb x0 x1 r) d := by
  unfold k0_pay2 cen
  dsimp only
  exact congrArg (fun s : EReal => mixed sc (fun e => x0 (ix2 r e)) (fun e => x1 (ix2 r e)) d - s)
    ((spread _ _ r d).trans (congrArg (fun s => Ideal.div s (Ideal.ofBits .f32 0x44800000#32)) (rowSum _ _ _ _ _ r)))
/-- its variance, -/
theorem pay3_apply (x0 x1 : Vec Ideal S544x1024 .f32) (r : Fin 544) : k0_pay3 x0 x1 (ix2 r 0) = spr (zb x0 x1 r) := by
  unfold k0_pay3 spr
  dsimp only
  exact congrArg (fun s : EReal => Ideal.div s (Ideal.ofBits .f32 0x44800000#32) + Ideal.ofBits .f32 0x3727C5AC#32)
    ((rowSum _ _ _ _ _ r).trans (Finset.sum_congr rfl fun e _ => congrArg₂ (fun a b : EReal => a * b) (pay2_apply x0 x1 r e) (pay2_apply x0 x1 r e)))
/-- the inverse of its deviation -/
theorem pay4_apply (x0 x1 : Vec Ideal S544x1024 .f32) (r : Fin 544) : k0_pay4 x0 x1 (ix2 r 0) = inv (zb x0 x1 r) := congrArg Ideal.rsqrt (pay3_apply x0 x1 r)
/-- and that inverse's derivative. -/
theorem pay5_apply (x0 x1 : Vec Ideal S544x1024 .f32) (r : Fin 544) : k0_pay5 x0 x1 (ix2 r 0) = slope (zb x0 x1 r) :=
  congrArg₂ (fun a b : EReal => Ideal.ofBits .f32 0xBF000000#32 * Ideal.div a b) (pay4_apply x0 x1 r) (pay3_apply x0 x1 r)
/-- The gradient times the scale, -/
theorem pay9_apply (x2 : Vec Ideal S1x1024 .f32) (x4 : Vec Ideal S544x1024 .f32) (r : Fin 544) (d : Fin 1024) : k0_pay9 x2 x4 (ix2 r d) = (x4 (ix2 r d) * x2 (ix2 0 d) : EReal) := by
  unfold k0_pay9 k0_pay6
  dsimp only
  rw [shapeCast_self]
  exact congrArg (fun s : EReal => x4 (ix2 r d) * s) (under _ _ r d)
/-- and its sum against the row less its mean. -/
theorem pay10_apply (x0 x1 : Vec Ideal S544x1024 .f32) (x2 : Vec Ideal S1x1024 .f32) (x4 : Vec Ideal S544x1024 .f32) (r : Fin 544) :
    k0_pay10 x0 x1 x2 x4 (ix2 r 0) = ∑ e : Fin 1024, cen (zb x0 x1 r) e * (x4 (ix2 r e) * x2 (ix2 0 e)) := by
  unfold k0_pay10
  dsimp only
  exact (rowSum _ _ _ _ _ r).trans (Finset.sum_congr rfl fun e _ => congrArg₂ (fun a b : EReal => a * b) (pay2_apply x0 x1 r e) (pay9_apply x2 x4 r e))

/-- The row's gradient from these. -/
theorem pay11_apply (v13 v35 : FVec Ideal S544x1024 .f32) (v21 v24 v38 : FVec Ideal S544x1 .f32) (r : Fin 544) (z p : Fin 1024 → EReal) (h13 : ∀ e, v13 (ix2 r e) = cen z e)
    (h21 : v21 (ix2 r 0) = inv z) (h24 : v24 (ix2 r 0) = slope z) (h35 : ∀ e, v35 (ix2 r e) = p e) (h38 : v38 (ix2 r 0) = ∑ e, cen z e * p e) (d : Fin 1024) :
    k0_pay11 v13 v21 v24 v35 v38 (ix2 r d) = back z p d := by
  unfold k0_pay11
  dsimp only
  have hk : ∀ e, broadcastTo S544x1024 (shapeCast S544x1 (multiReduction .add [1] S544 (divf (mulf v38 v24) (broadcast S544x1 (Scalar.ofBits .f32 0x44800000#32 : Ideal .f32))) 0x00000000#32
      reduces_S544x1_S544 (.inl rfl) rfl) shapeCasts_S544_S544x1) broadcasts_S544x1_S544x1024 (ix2 r e) = lean z p := fun e =>
    (spread _ _ r e).trans ((oneSum _ _ _ _ _ r).trans (congrArg₂ (fun a b : EReal => Ideal.div (a * b) (Ideal.ofBits .f32 0x44800000#32)) h38 h24))
  generalize broadcastTo S544x1024 (shapeCast S544x1 (multiReduction .add [1] S544 (divf (mulf v38 v24) (broadcast S544x1 (Scalar.ofBits .f32 0x44800000#32 : Ideal .f32))) 0x00000000#32
      reduces_S544x1_S544 (.inl rfl) rfl) shapeCasts_S544_S544x1) broadcasts_S544x1_S544x1024 = w at hk ⊢
  have ht : ∀ e, addf (addf (mulf v35 (broadcastTo S544x1024 v21 broadcasts_S544x1_S544x1024)) (mulf v13 w)) (mulf w v13) (ix2 r e) = tot z p e := fun e =>
    congrArg₂ (fun a b : EReal => a + b) (congrArg₂ (fun a b : EReal => a + b) (congrArg₂ (fun a b : EReal => a * b) (h35 e) ((spread _ _ r e).trans h21))
      (congrArg₂ (fun a b : EReal => a * b) (h13 e) (hk e))) (congrArg₂ (fun a b : EReal => a * b) (hk e) (h13 e))
  generalize addf (addf (mulf v35 (broadcastTo S544x1024 v21 broadcasts_S544x1_S544x1024)) (mulf v13 w)) (mulf w v13) = u at ht ⊢
  exact congrArg₂ (fun a b : EReal => a + b) (ht d) ((spread _ _ r d).trans ((oneSum _ _ _ _ _ r).trans (congrArg (fun s => Ideal.div s (Ideal.ofBits .f32 0x44800000#32))
    ((rowSum _ _ _ _ _ r).trans (Finset.sum_congr rfl fun e _ => congrArg (fun s : EReal => Ideal.ofBits .f32 0x00000000#32 - s) (ht e))))))

/-- A block's gradient, -/
theorem grad_apply (x0 x1 : Vec Ideal S544x1024 .f32) (x2 : Vec Ideal S1x1024 .f32) (x4 : Vec Ideal S544x1024 .f32) (r : Fin 544) (d : Fin 1024) :
    k0_pay11 (k0_pay2 x0 x1) (k0_pay4 x0 x1) (k0_pay5 x0 x1) (k0_pay9 x2 x4) (k0_pay10 x0 x1 x2 x4) (ix2 r d) = back (zb x0 x1 r) (fun e => x4 (ix2 r e) * x2 (ix2 0 e)) d :=
  pay11_apply _ _ _ _ _ r _ _ (pay2_apply x0 x1 r) (pay4_apply x0 x1 r) (pay5_apply x0 x1 r) (pay9_apply x2 x4 r) (pay10_apply x0 x1 x2 x4 r) d

/-- what it adds to the scale's gradient -/
theorem pay8_apply (x0 x1 x4 : Vec Ideal S544x1024 .f32) (d : Fin 1024) : k0_pay8 x0 x1 x4 (ix2 0 d) = ∑ r : Fin 544, cen (zb x0 x1 r) d * inv (zb x0 x1 r) * x4 (ix2 r d) := by
  unfold k0_pay8 k0_pay6
  dsimp only
  rw [shapeCast_self (v := x4)]
  exact (colSum _ _ _ _ _ d).trans (Finset.sum_congr rfl fun r _ => congrArg (fun s : EReal => s * x4 (ix2 r d))
    (congrArg₂ (fun a b : EReal => a * b) (pay2_apply x0 x1 r d) ((spread _ _ r d).trans (pay4_apply x0 x1 r))))
/-- and to the shift's. -/
theorem pay7_apply (x4 : Vec Ideal S544x1024 .f32) (d : Fin 1024) : k0_pay7 x4 (ix2 0 d) = ∑ r : Fin 544, x4 (ix2 r d) := colSum _ _ _ _ _ d
theorem pay14_apply (v y : FVec Ideal S1x1024 .f32) (d : Fin 1024) : k0_pay14 v y (ix2 0 d) = (y (ix2 0 d) + v (ix2 0 d) : EReal) := by
  unfold k0_pay14
  rw [shapeCast_self]
  rfl
theorem pay1_apply (v y : FVec Ideal S1x1024 .f32) (d : Fin 1024) : k0_pay1 v y (ix2 0 d) = (y (ix2 0 d) + v (ix2 0 d) : EReal) := by
  unfold k0_pay1
  rw [shapeCast_self]
  rfl

/-- The point of block `t`. -/
def pt (t : Fin 4) : Fin cfg0.N := ⟨t.val, by have h : cfg0.N = 4 := N_0; omega⟩

/-- Where the windows stand there. -/
theorem in_eq : ∀ t : Fin 4, (win0_0.index (pt t) 0 = t.val ∧ win0_0.index (pt t) 1 = 0)
    ∧ (win0_1.index (pt t) 0 = t.val ∧ win0_1.index (pt t) 1 = 0)
    ∧ (win0_2.index (pt t) 0 = 0 ∧ win0_2.index (pt t) 1 = 0)
    ∧ (win0_4.index (pt t) 0 = t.val ∧ win0_4.index (pt t) 1 = 0)
    ∧ (win0_5.index (pt t) 0 = t.val ∧ win0_5.index (pt t) 1 = 0)
    ∧ (win0_6.index (pt t) 0 = t.val ∧ win0_6.index (pt t) 1 = 0)
    ∧ (win0_7.index (pt t) 0 = 0 ∧ win0_7.index (pt t) 1 = 0)
    ∧ (win0_8.index (pt t) 0 = 0 ∧ win0_8.index (pt t) 1 = 0) :=
  (by decide +kernel)

theorem iblk0 (c : Dev nD) (t : Fin 4) (r : Fin 544) (d : Fin 1024) : (iblk m c 0 (pt t) : Vec Ideal S544x1024 .f32) (ix2 r d) = m ((c : Thread nD τ).loc main_arg0) (ix2 (row t r) d) := by
  unfold iblk
  rw [View.read_apply]
  show m ((c : Thread nD τ).loc main_arg0) _ = _
  congr 1
  funext b
  refine Fin.ext ?_
  match b with
  | ⟨0, _⟩ => show win0_0.index (pt t) 0 * 544 + 1 * r.val = 544 * t.val + r.val; rw [(in_eq t).1.1]; show t.val * 544 + 1 * r.val = _; omega
  | ⟨1, _⟩ => show win0_0.index (pt t) 1 * 1024 + 1 * d.val = d.val; rw [(in_eq t).1.2]; omega
theorem iblk1 (c : Dev nD) (t : Fin 4) (r : Fin 544) (d : Fin 1024) : (iblk m c 1 (pt t) : Vec Ideal S544x1024 .f32) (ix2 r d) = m ((c : Thread nD τ).loc main_arg1) (ix2 (row t r) d) := by
  unfold iblk
  rw [View.read_apply]
  show m ((c : Thread nD τ).loc main_arg1) _ = _
  congr 1
  funext b
  refine Fin.ext ?_
  match b with
  | ⟨0, _⟩ => show win0_1.index (pt t) 0 * 544 + 1 * r.val = 544 * t.val + r.val; rw [(in_eq t).2.1.1]; show t.val * 544 + 1 * r.val = _; omega
  | ⟨1, _⟩ => show win0_1.index (pt t) 1 * 1024 + 1 * d.val = d.val; rw [(in_eq t).2.1.2]; omega
theorem iblk2 (c : Dev nD) (t : Fin 4) (d : Fin 1024) : (iblk m c 2 (pt t) : Vec Ideal S1x1024 .f32) (ix2 0 d) = m ((c : Thread nD τ).loc main_arg2) (ix2 0 d) := by
  unfold iblk
  rw [View.read_apply]
  show m ((c : Thread nD τ).loc main_arg2) _ = _
  congr 1
  funext b
  refine Fin.ext ?_
  match b with
  | ⟨0, _⟩ => show win0_2.index (pt t) 0 * 1 + 1 * 0 = 0; rw [(in_eq t).2.2.1.1]
  | ⟨1, _⟩ => show win0_2.index (pt t) 1 * 1024 + 1 * d.val = d.val; rw [(in_eq t).2.2.1.2]; omega
theorem iblk4 (c : Dev nD) (t : Fin 4) (r : Fin 544) (d : Fin 1024) : (iblk m c 4 (pt t) : Vec Ideal S544x1024 .f32) (ix2 r d) = m ((c : Thread nD τ).loc main_arg4) (ix2 (row t r) d) := by
  unfold iblk
  rw [View.read_apply]
  show m ((c : Thread nD τ).loc main_arg4) _ = _
  congr 1
  funext b
  refine Fin.ext ?_
  match b with
  | ⟨0, _⟩ => show win0_4.index (pt t) 0 * 544 + 1 * r.val = 544 * t.val + r.val; rw [(in_eq t).2.2.2.1.1]; show t.val * 544 + 1 * r.val = _; omega
  | ⟨1, _⟩ => show win0_4.index (pt t) 1 * 1024 + 1 * d.val = d.val; rw [(in_eq t).2.2.2.1.2]; omega
theorem emb5 (t : Fin 4) (r : Fin 544) (d : Fin 1024) : ((cfg0.win 5).blk (pt t)).view.emb (ix2 r d) = (ix2 (row t r) d : S2176x1024.Idx) := by
  funext b
  refine Fin.ext ?_
  match b with
  | ⟨0, _⟩ => show win0_5.index (pt t) 0 * 544 + 1 * r.val = 544 * t.val + r.val; rw [(in_eq t).2.2.2.2.1.1]; show t.val * 544 + 1 * r.val = _; omega
  | ⟨1, _⟩ => show win0_5.index (pt t) 1 * 1024 + 1 * d.val = d.val; rw [(in_eq t).2.2.2.2.1.2]; omega
theorem emb6 (t : Fin 4) (r : Fin 544) (d : Fin 1024) : ((cfg0.win 6).blk (pt t)).view.emb (ix2 r d) = (ix2 (row t r) d : S2176x1024.Idx) := by
  funext b
  refine Fin.ext ?_
  match b with
  | ⟨0, _⟩ => show win0_6.index (pt t) 0 * 544 + 1 * r.val = 544 * t.val + r.val; rw [(in_eq t).2.2.2.2.2.1.1]; show t.val * 544 + 1 * r.val = _; omega
  | ⟨1, _⟩ => show win0_6.index (pt t) 1 * 1024 + 1 * d.val = d.val; rw [(in_eq t).2.2.2.2.2.1.2]; omega
theorem emb7 (t : Fin 4) (d : Fin 1024) : ((cfg0.win 7).blk (pt t)).view.emb (ix2 0 d) = (ix2 0 d : S1x1024.Idx) := by
  funext b
  refine Fin.ext ?_
  match b with
  | ⟨0, _⟩ => show win0_7.index (pt t) 0 * 1 + 1 * 0 = 0; rw [(in_eq t).2.2.2.2.2.2.1.1]
  | ⟨1, _⟩ => show win0_7.index (pt t) 1 * 1024 + 1 * d.val = d.val; rw [(in_eq t).2.2.2.2.2.2.1.2]; omega
theorem emb8 (t : Fin 4) (d : Fin 1024) : ((cfg0.win 8).blk (pt t)).view.emb (ix2 0 d) = (ix2 0 d : S1x1024.Idx) := by
  funext b
  refine Fin.ext ?_
  match b with
  | ⟨0, _⟩ => show win0_8.index (pt t) 0 * 1 + 1 * 0 = 0; rw [(in_eq t).2.2.2.2.2.2.2.1]
  | ⟨1, _⟩ => show win0_8.index (pt t) 1 * 1024 + 1 * d.val = d.val; rw [(in_eq t).2.2.2.2.2.2.2.2]; omega

/-- A block's gradient from the arguments, -/
theorem grad_eq (c : Dev nD) (t : Fin 4) (r : Fin 544) (d : Fin 1024) :
    k0_pay11 (k0_pay2 (iblk m c 0 (pt t)) (iblk m c 1 (pt t))) (k0_pay4 (iblk m c 0 (pt t)) (iblk m c 1 (pt t))) (k0_pay5 (iblk m c 0 (pt t)) (iblk m c 1 (pt t)))
      (k0_pay9 (iblk m c 2 (pt t)) (iblk m c 4 (pt t))) (k0_pay10 (iblk m c 0 (pt t)) (iblk m c 1 (pt t)) (iblk m c 2 (pt t)) (iblk m c 4 (pt t))) (ix2 r d)
    = back (zrow sc (m ((c : Thread nD τ).loc main_arg0)) (m ((c : Thread nD τ).loc main_arg1)) (row t r)) (prow (m ((c : Thread nD τ).loc main_arg2)) (m ((c : Thread nD τ).loc main_arg4)) (row t r)) d := by
  rw [grad_apply]
  unfold zb zrow prow
  simp only [iblk0, iblk1, iblk2, iblk4]

/-- what it adds to the scale's gradient -/
theorem gam_eq (c : Dev nD) (t : Fin 4) (d : Fin 1024) : k0_pay8 (iblk m c 0 (pt t)) (iblk m c 1 (pt t)) (iblk m c 4 (pt t)) (ix2 0 d)
    = blockSum (gamRow sc (m ((c : Thread nD τ).loc main_arg0)) (m ((c : Thread nD τ).loc main_arg1)) (m ((c : Thread nD τ).loc main_arg4)) d) t := by
  rw [pay8_apply]
  unfold blockSum gamRow zb zrow
  simp only [iblk0, iblk1, iblk4]
/-- and to the shift's. -/
theorem bet_eq (c : Dev nD) (t : Fin 4) (d : Fin 1024) : k0_pay7 (iblk m c 4 (pt t)) (ix2 0 d) = blockSum (fun n => m ((c : Thread nD τ).loc main_arg4) (ix2 n d)) t := by
  rw [pay7_apply]
  unfold blockSum
  simp only [iblk4]

/-- The blocks of the gradient and of its rounded copy after their point. -/
theorem point5 (c : Dev nD) (t : Fin 4) (r : Fin 544) (d : Fin 1024) : (outsAt0 m c (pt t).val (pt t).isLt).1 (ix2 r d)
    = Ideal.ofBits .f32 0x3FB504F3#32 * back (zrow sc (m ((c : Thread nD τ).loc main_arg0)) (m ((c : Thread nD τ).loc main_arg1)) (row t r)) (prow (m ((c : Thread nD τ).loc main_arg2)) (m ((c : Thread nD τ).loc main_arg4)) (row t r)) d := by
  by_cases h : t.val = 0
  · rw [outsAt0_A m c (pt t) (by show t.val % 4 = 0; omega) (by show ¬1 ≤ t.val; omega) (by show t.val % 4 = 0; omega) (by show ¬1 ≤ t.val; omega), out_A5]
    exact congrArg (fun s : EReal => Ideal.ofBits .f32 0x3FB504F3#32 * s) (grad_eq m c t r d)
  · rw [outsAt0_B m c (pt t) (by show ¬t.val % 4 = 0; omega) (by show 1 ≤ t.val; omega) (by show ¬t.val % 4 = 0; omega) (by show 1 ≤ t.val; omega), out_B5]
    exact congrArg (fun s : EReal => Ideal.ofBits .f32 0x3FB504F3#32 * s) (grad_eq m c t r d)
theorem point6 (c : Dev nD) (t : Fin 4) (r : Fin 544) (d : Fin 1024) : (outsAt0 m c (pt t).val (pt t).isLt).2.1 (ix2 r d)
    = sc * back (zrow sc (m ((c : Thread nD τ).loc main_arg0)) (m ((c : Thread nD τ).loc main_arg1)) (row t r)) (prow (m ((c : Thread nD τ).loc main_arg2)) (m ((c : Thread nD τ).loc main_arg4)) (row t r)) d := by
  by_cases h : t.val = 0
  · rw [outsAt0_A m c (pt t) (by show t.val % 4 = 0; omega) (by show ¬1 ≤ t.val; omega) (by show t.val % 4 = 0; omega) (by show ¬1 ≤ t.val; omega), out_A6]
    exact congrArg (fun s : EReal => sc * s) (grad_eq m c t r d)
  · rw [outsAt0_B m c (pt t) (by show ¬t.val % 4 = 0; omega) (by show 1 ≤ t.val; omega) (by show ¬t.val % 4 = 0; omega) (by show 1 ≤ t.val; omega), out_B6]
    exact congrArg (fun s : EReal => sc * s) (grad_eq m c t r d)

/-- The scale's gradient after each point, -/
theorem gam0 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 0).val (pt 0).isLt).2.2.1 (ix2 0 d) = f 0 := by
  rw [outsAt0_A m c (pt 0) rfl (by decide) rfl (by decide), out_A7, hf]
  exact gam_eq m c 0 d
theorem gam1 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 1).val (pt 1).isLt).2.2.1 (ix2 0 d) = f 0 + f 1 := by
  rw [outsAt0_B m c (pt 1) (by decide) (by decide) (by decide) (by decide), out_B7]
  exact (pay14_apply _ _ d).trans (congrArg₂ (fun a b : EReal => a + b) (gam0 m c d f hf) ((gam_eq m c 1 d).trans (congrFun hf 1).symm))
theorem gam2 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 2).val (pt 2).isLt).2.2.1 (ix2 0 d) = f 0 + f 1 + f 2 := by
  rw [outsAt0_B m c (pt 2) (by decide) (by decide) (by decide) (by decide), out_B7]
  exact (pay14_apply _ _ d).trans (congrArg₂ (fun a b : EReal => a + b) (gam1 m c d f hf) ((gam_eq m c 2 d).trans (congrFun hf 2).symm))
theorem gam3 (c : Dev nD) (d : Fin 1024) (f : Fin 4 → EReal) (hf : f = blockSum (gamRow sc (m ((c : Thread nD τ).loc main_arg0)) (m ((c : Thread nD τ).loc main_arg1)) (m ((c : Thread nD τ).loc main_arg4)) d)) :
    (outsAt0 m c (pt 3).val (pt 3).isLt).2.2.1 (ix2 0 d) = f 0 + f 1 + f 2 + f 3 := by
  rw [outsAt0_B m c (pt 3) (by decide) (by decide) (by decide) (by decide), out_B7]
  exact (pay14_apply _ _ d).trans (congrArg₂ (fun a b : EReal => a + b) (gam2 m c d f hf) ((gam_eq m c 3 d).trans (congrFun hf 3).symm))

/-- and the shift's. -/
theorem bet0 (c : Dev nD) (d : Fin 1024) (f : Fin 4 → EReal) (hf : f = blockSum (fun n => m ((c : Thread nD τ).loc main_arg4) (ix2 n d))) : (outsAt0 m c (pt 0).val (pt 0).isLt).2.2.2 (ix2 0 d) = f 0 := by
  rw [outsAt0_A m c (pt 0) rfl (by decide) rfl (by decide), out_A8, hf]
  exact bet_eq m c 0 d
theorem bet1 (c : Dev nD) (d : Fin 1024) (f : Fin 4 → EReal) (hf : f = blockSum (fun n => m ((c : Thread nD τ).loc main_arg4) (ix2 n d))) : (outsAt0 m c (pt 1).val (pt 1).isLt).2.2.2 (ix2 0 d) = f 0 + f 1 := by
  rw [outsAt0_B m c (pt 1) (by decide) (by decide) (by decide) (by decide), out_B8]
  exact (pay1_apply _ _ d).trans (congrArg₂ (fun a b : EReal => a + b) (bet0 m c d f hf) ((bet_eq m c 1 d).trans (congrFun hf 1).symm))
theorem bet2 (c : Dev nD) (d : Fin 1024) (f : Fin 4 → EReal) (hf : f = blockSum (fun n => m ((c : Thread nD τ).loc main_arg4) (ix2 n d))) : (outsAt0 m c (pt 2).val (pt 2).isLt).2.2.2 (ix2 0 d) = f 0 + f 1 + f 2 := by
  rw [outsAt0_B m c (pt 2) (by decide) (by decide) (by decide) (by decide), out_B8]
  exact (pay1_apply _ _ d).trans (congrArg₂ (fun a b : EReal => a + b) (bet1 m c d f hf) ((bet_eq m c 2 d).trans (congrFun hf 2).symm))
theorem bet3 (c : Dev nD) (d : Fin 1024) (f : Fin 4 → EReal) (hf : f = blockSum (fun n => m ((c : Thread nD τ).loc main_arg4) (ix2 n d))) : (outsAt0 m c (pt 3).val (pt 3).isLt).2.2.2 (ix2 0 d) = f 0 + f 1 + f 2 + f 3 := by
  rw [outsAt0_B m c (pt 3) (by decide) (by decide) (by decide) (by decide), out_B8]
  exact (pay1_apply _ _ d).trans (congrArg₂ (fun a b : EReal => a + b) (bet2 m c d f hf) ((bet_eq m c 3 d).trans (congrFun hf 3).symm))

/-- The results after the run. -/
theorem final5 (c : Dev nD) (t : Fin 4) (r : Fin 544) (d : Fin 1024) : (dats m 0 c).arrAt 5 cfg0.N (ix2 (row t r) d : S2176x1024.Idx)
    = Ideal.ofBits .f32 0x3FB504F3#32 * back (zrow sc (m ((c : Thread nD τ).loc main_arg0)) (m ((c : Thread nD τ).loc main_arg1)) (row t r)) (prow (m ((c : Thread nD τ).loc main_arg2)) (m ((c : Thread nD τ).loc main_arg4)) (row t r)) d := by
  have h := (dats m 0 c).arrAt_emb_eq_flushed 5 disjoint5 (pt t) (flush0_5 _) (ix2 r d)
  refine (congrArg ((dats m 0 c).arrAt 5 cfg0.N) (emb5 t r d)).symm.trans (h.trans ?_)
  refine (cast_eq _ _).trans ((congrFun (flushed5 m c _) _).trans ?_)
  exact point5 m c t r d
theorem final6 (c : Dev nD) (t : Fin 4) (r : Fin 544) (d : Fin 1024) : (dats m 0 c).arrAt 6 cfg0.N (ix2 (row t r) d : S2176x1024.Idx)
    = sc * back (zrow sc (m ((c : Thread nD τ).loc main_arg0)) (m ((c : Thread nD τ).loc main_arg1)) (row t r)) (prow (m ((c : Thread nD τ).loc main_arg2)) (m ((c : Thread nD τ).loc main_arg4)) (row t r)) d := by
  have h := (dats m 0 c).arrAt_emb_eq_flushed 6 disjoint6 (pt t) (flush0_6 _) (ix2 r d)
  refine (congrArg ((dats m 0 c).arrAt 6 cfg0.N) (emb6 t r d)).symm.trans (h.trans ?_)
  refine (cast_eq _ _).trans ((congrFun (flushed6 m c _) _).trans ?_)
  exact point6 m c t r d

theorem disjoint7 : ∀ t t' : Fin cfg0.N, (cfg0.win 7).flush t = true → (cfg0.win 7).flush t' = true → t ≠ t' →
    Disjoint ((cfg0.win 7).blk t).view.set ((cfg0.win 7).blk t').view.set := fun t t' h h' hne =>
  absurd (Fin.ext (by have hN : cfg0.N = 4 := N_0; have h1 := (flush0_7 t).mp h; have h2 := (flush0_7 t').mp h'; omega)) hne
theorem disjoint8 : ∀ t t' : Fin cfg0.N, (cfg0.win 8).flush t = true → (cfg0.win 8).flush t' = true → t ≠ t' →
    Disjoint ((cfg0.win 8).blk t).view.set ((cfg0.win 8).blk t').view.set := fun t t' h h' hne =>
  absurd (Fin.ext (by have hN : cfg0.N = 4 := N_0; have h1 := (flush0_8 t).mp h; have h2 := (flush0_8 t').mp h'; omega)) hne

theorem final7 (c : Dev nD) (d : Fin 1024) : (dats m 0 c).arrAt 7 cfg0.N (ix2 0 d : S1x1024.Idx)
    = ∑ n, gamRow sc (m ((c : Thread nD τ).loc main_arg0)) (m ((c : Thread nD τ).loc main_arg1)) (m ((c : Thread nD τ).loc main_arg4)) d n := by
  have h := (dats m 0 c).arrAt_emb_eq_flushed 7 disjoint7 (pt 3) ((flush0_7 _).mpr rfl) (ix2 0 d)
  refine (congrArg ((dats m 0 c).arrAt 7 cfg0.N) (emb7 3 d)).symm.trans (h.trans ?_)
  refine (cast_eq _ _).trans ((congrFun (flushed7 m c _) _).trans ?_)
  exact (gam3 m c d _ rfl).trans (blockSum_add _)
theorem final8 (c : Dev nD) (d : Fin 1024) : (dats m 0 c).arrAt 8 cfg0.N (ix2 0 d : S1x1024.Idx) = Finset.sum (M := EReal) Finset.univ (fun n : Fin 2176 => m ((c : Thread nD τ).loc main_arg4) (ix2 n d)) := by
  have h := (dats m 0 c).arrAt_emb_eq_flushed 8 disjoint8 (pt 3) ((flush0_8 _).mpr rfl) (ix2 0 d)
  refine (congrArg ((dats m 0 c).arrAt 8 cfg0.N) (emb8 3 d)).symm.trans (h.trans ?_)
  refine (cast_eq _ _).trans ((congrFun (flushed8 m c _) _).trans ?_)
  exact (bet3 m c d _ rfl).trans (blockSum_add _)

end Cert.MixLnBwdIdeal.Row

namespace Cert.MixLnBwdRefIdeal.Row

open Cert.MixLnBwdRefIdeal Cert.MixLnBwdRefIdeal.Gen Cert.MixLnBwdRefIdeal.Read Cert.Row

/-- What the layer's output is scaled by. -/
abbrev sc : EReal := Ideal.ofBits .f32 0x3F800000#32
/-- The reference's matrices and rows. -/
abbrev Mat : Type := (⟨S2176x1024, .f32⟩ : BufTy).Contents (Elt Ideal)
abbrev Vct : Type := (⟨S1x1024, .f32⟩ : BufTy).Contents (Elt Ideal)

/-- Where the sums along a row and along a column read. -/
theorem at_row (i : S2176x1.Idx) (e : Fin 1024) : idx_main_v41 (idx_main_v42 i) e = (ix2 (i 0) e : S2176x1024.Idx) := by
  have h : (i 1).val < 1 := (i 1).isLt
  funext a
  refine Fin.ext ?_
  match a with
  | ⟨0, _⟩ => show (i 0).val * 1 + (i 1).val = (i 0).val; omega
  | ⟨1, _⟩ => rfl
theorem at_col (d : Fin 1024) (n : Fin 2176) : idx_main_v33 (idx_main_v34 (ix2 0 d)) n = (ix2 n d : S2176x1024.Idx) := by
  funext a
  refine Fin.ext ?_
  match a with
  | ⟨0, _⟩ => rfl
  | ⟨1, _⟩ => show 0 * 1024 + d.val = d.val; omega

/-- The reference's row, -/
theorem mix_apply (x0 x1 : Mat) (n : Fin 2176) (d : Fin 1024) : val_main_v4 (F := Ideal) x0 x1 (ix2 n d) = zrow sc x0 x1 n d := by
  rw [val_main_v4_apply, val_main_v1_apply, val_main_v3_apply, val_main_v0_apply, val_main_v2_apply]
  rfl
/-- its mean, -/
theorem mean_apply (x0 x1 : Mat) (n : Fin 2176) (i : S2176x1.Idx) (hi : i 0 = n) : val_main_v8 (F := Ideal) x0 x1 i = Ideal.div (∑ e, zrow sc x0 x1 n e) (Ideal.ofBits .f32 0x44800000#32) := by
  subst hi
  rw [val_main_v8_apply, val_main_v6_apply, val_main_v5_apply, val_main_v7_apply]
  exact congrArg (fun s => Ideal.div s (Ideal.ofBits .f32 0x44800000#32)) ((zero_start _).trans (Finset.sum_congr rfl fun e _ =>
    (congrArg (val_main_v4 (F := Ideal) x0 x1) (eq_ix2 _)).trans (mix_apply x0 x1 _ e)))
/-- the row less its mean, -/
theorem cen_apply (x0 x1 : Mat) (n : Fin 2176) (d : Fin 1024) : val_main_v10 (F := Ideal) x0 x1 (ix2 n d) = cen (zrow sc x0 x1 n) d := by
  rw [val_main_v10_apply, val_main_v9_apply]
  exact congrArg₂ (fun a b : EReal => a - b) (mix_apply x0 x1 n d) (mean_apply x0 x1 n _ rfl)
theorem cen_apply' (x0 x1 : Mat) (n : Fin 2176) (d : Fin 1024) : val_main_v19 (F := Ideal) x0 x1 (ix2 n d) = cen (zrow sc x0 x1 n) d := by
  rw [val_main_v19_apply, val_main_v18_apply]
  exact congrArg₂ (fun a b : EReal => a - b) (mix_apply x0 x1 n d) (mean_apply x0 x1 n _ rfl)
/-- its variance, -/
theorem spr_apply (x0 x1 : Mat) (n : Fin 2176) (i : S2176x1.Idx) (hi : i 0 = n) : val_main_v21 (F := Ideal) x0 x1 i = spr (zrow sc x0 x1 n) := by
  subst hi
  rw [val_main_v21_apply, val_main_v17_apply, val_main_v15_apply, val_main_v14_apply, val_main_v16_apply, val_main_v20_apply]
  refine congrArg (fun s : EReal => Ideal.div s (Ideal.ofBits .f32 0x44800000#32) + Ideal.ofBits .f32 0x3727C5AC#32) ((zero_start _).trans (Finset.sum_congr rfl fun e _ => ?_))
  have h := (congrArg (val_main_v10 (F := Ideal) x0 x1) (eq_ix2 (idx_main_v14 (idx_main_v15 i) e))).trans (cen_apply x0 x1 _ e)
  exact congrArg₂ (fun a b : EReal => a * b) h h
/-- the inverse of its deviation -/
theorem inv_apply (x0 x1 : Mat) (n : Fin 2176) (i : S2176x1.Idx) (hi : i 0 = n) : val_main_v22 (F := Ideal) x0 x1 i = inv (zrow sc x0 x1 n) := congrArg Ideal.rsqrt (spr_apply x0 x1 n i hi)
/-- and that inverse's derivative. -/
theorem slope_apply (x0 x1 : Mat) (n : Fin 2176) (i : S2176x1.Idx) (hi : i 0 = n) : val_main_v25 (F := Ideal) x0 x1 i = slope (zrow sc x0 x1 n) := by
  rw [val_main_v25_apply, val_main_v24_apply, val_main_v23_apply]
  exact congrArg₂ (fun a b : EReal => Ideal.ofBits .f32 0xBF000000#32 * Ideal.div a b) (inv_apply x0 x1 n i hi) (spr_apply x0 x1 n i hi)
/-- The gradient as it comes, -/
theorem dy_eq (x4 : Mat) : val_main_v32 (F := Ideal) x4 = x4 := shapeCast_self _ _
/-- and times the scale, -/
theorem p_apply (x2 : Vct) (x4 : Mat) (n : Fin 2176) (d : Fin 1024) : val_main_v39 (F := Ideal) x2 x4 (ix2 n d) = prow x2 x4 n d := by
  rw [val_main_v39_apply, val_main_v38_apply, dy_eq]
  exact congrArg (fun s : EReal => x4 (ix2 n d) * s) (congrArg x2 (eq_ix2 _))
/-- times the inverse of the deviation, -/
theorem a_apply (x0 x1 : Mat) (x2 : Vct) (x4 : Mat) (n : Fin 2176) (d : Fin 1024) : val_main_v44 (F := Ideal) x0 x1 x2 x4 (ix2 n d) = prow x2 x4 n d * inv (zrow sc x0 x1 n) := by
  rw [val_main_v44_apply, val_main_v43_apply]
  exact congrArg₂ (fun a b : EReal => a * b) (p_apply x2 x4 n d) (inv_apply x0 x1 n _ rfl)
/-- the gradient of the variance, -/
theorem lean_apply (x0 x1 : Mat) (x2 : Vct) (x4 : Mat) (n : Fin 2176) (i : S2176x1.Idx) (hi : i 0 = n) : val_main_v50 (F := Ideal) x0 x1 x2 x4 i = lean (zrow sc x0 x1 n) (prow x2 x4 n) := by
  have hs := slope_apply x0 x1 n i hi
  subst hi
  rw [val_main_v50_apply, val_main_v45_apply, val_main_v42_apply, val_main_v41_apply, val_main_v49_apply]
  refine congrArg₂ (fun a b : EReal => Ideal.div (a * b) (Ideal.ofBits .f32 0x44800000#32)) ((zero_start _).trans (Finset.sum_congr rfl fun e _ => ?_)) hs
  refine (congrArg (val_main_v40 (F := Ideal) x0 x1 x2 x4) (at_row i e)).trans ((val_main_v40_apply x0 x1 x2 x4 _).trans ?_)
  exact congrArg₂ (fun a b : EReal => a * b) (cen_apply' x0 x1 _ e) (p_apply x2 x4 _ e)
/-- what it gives a row -/
theorem b_apply (x0 x1 : Mat) (x2 : Vct) (x4 : Mat) (n : Fin 2176) (d : Fin 1024) :
    val_main_v53 (F := Ideal) x0 x1 x2 x4 (ix2 n d) = lean (zrow sc x0 x1 n) (prow x2 x4 n) * (Ideal.ofBits .f32 0x40000000#32 * cen (zrow sc x0 x1 n) d) := by
  rw [val_main_v53_apply, val_main_v52_apply, val_main_v51_apply, val_main_v13_apply, val_main_v12_apply]
  exact congrArg₂ (fun a b : EReal => a * b) ((zero_start _).trans ((Fin.sum_univ_one _).trans (lean_apply x0 x1 x2 x4 n _ rfl)))
    (congrArg (fun s : EReal => Ideal.ofBits .f32 0x40000000#32 * s) (cen_apply x0 x1 n d))
/-- and the row's gradient. -/
theorem back_apply (x0 x1 : Mat) (x2 : Vct) (x4 : Mat) (n : Fin 2176) (d : Fin 1024) : val_main_v63 (F := Ideal) x0 x1 x2 x4 (ix2 n d) = back' (zrow sc x0 x1 n) (prow x2 x4 n) d := by
  rw [val_main_v63_apply, val_main_v57_apply, val_main_v62_apply, val_main_v61_apply]
  refine congrArg₂ (fun a b : EReal => a + b) (congrArg₂ (fun a b : EReal => a + b) (a_apply x0 x1 x2 x4 n d) (b_apply x0 x1 x2 x4 n d)) ((zero_start _).trans ((Fin.sum_univ_one _).trans ?_))
  rw [val_main_v60_apply, val_main_v58_apply, val_main_v48_apply, val_main_v56_apply, val_main_v47_apply, val_main_v55_apply, val_main_v59_apply]
  refine congrArg₂ (fun a b : EReal => Ideal.div (a + b) (Ideal.ofBits .f32 0x44800000#32)) ((zero_start _).trans (Finset.sum_congr rfl fun e _ => ?_)) ((zero_start _).trans (Finset.sum_congr rfl fun e _ => ?_))
  · exact (congrArg (val_main_v46 (F := Ideal) x0 x1 x2 x4) (at_row (ix2 n 0) e)).trans (congrArg (fun s : EReal => -s) (a_apply x0 x1 x2 x4 n e))
  · exact (congrArg (val_main_v54 (F := Ideal) x0 x1 x2 x4) (at_row (ix2 n 0) e)).trans (congrArg (fun s : EReal => -s) (b_apply x0 x1 x2 x4 n e))

/-- The reference's results: the gradient, -/
theorem ref5 (x0 x1 : Mat) (x2 : Vct) (x4 : Mat) (n : Fin 2176) (d : Fin 1024) :
    val_main_v67 (F := Ideal) x0 x1 x2 x4 (ix2 n d) = Ideal.ofBits .f32 0x3FB504F3#32 * back' (zrow sc x0 x1 n) (prow x2 x4 n) d := by
  rw [val_main_v67_apply, val_main_v66_apply]
  exact congrArg (fun s : EReal => Ideal.ofBits .f32 0x3FB504F3#32 * s) (back_apply x0 x1 x2 x4 n d)
/-- its rounded copy, -/
theorem ref6 (x0 x1 : Mat) (x2 : Vct) (x4 : Mat) (n : Fin 2176) (d : Fin 1024) :
    val_main_v68 (F := Ideal) x0 x1 x2 x4 (ix2 n d) = sc * back' (zrow sc x0 x1 n) (prow x2 x4 n) d := by
  rw [val_main_v68_apply, val_main_v65_apply, val_main_v64_apply]
  exact congrArg (fun s : EReal => sc * s) (back_apply x0 x1 x2 x4 n d)
/-- the scale's gradient -/
theorem ref7 (x0 x1 x4 : Mat) (d : Fin 1024) : val_main_v37 (F := Ideal) x0 x1 x4 (ix2 0 d) = ∑ n, gamRow sc x0 x1 x4 d n := by
  rw [val_main_v37_apply, val_main_v36_apply]
  refine (zero_start _).trans (Finset.sum_congr rfl fun n _ => (congrArg (val_main_v35 (F := Ideal) x0 x1 x4) (at_col d n)).trans ?_)
  rw [val_main_v35_apply, val_main_v27_apply, val_main_v26_apply, dy_eq]
  exact congrArg (fun s : EReal => s * x4 (ix2 n d)) (congrArg₂ (fun a b : EReal => a * b) (cen_apply' x0 x1 n d) (inv_apply x0 x1 n _ rfl))
/-- and the shift's. -/
theorem ref8 (x4 : Mat) (d : Fin 1024) : val_main_v34 (F := Ideal) x4 (ix2 0 d) = Finset.sum (M := EReal) Finset.univ (fun n : Fin 2176 => x4 (ix2 n d)) := by
  rw [val_main_v34_apply, val_main_v33_apply]
  exact (zero_start _).trans (Finset.sum_congr rfl fun n _ => congrArg x4 (at_col d n))

end Cert.MixLnBwdRefIdeal.Row

namespace Cert.Row

open Cert.Proj

/-- The kernel's four gradients are the reference's. -/
theorem mixLnBwd : @Cert.algebraic_MixLnBwdIdeal_MixLnBwdRefIdeal_pre_finite_ln Cert.MixLnBwdIdeal.Gen.facts Cert.MixLnBwdRefIdeal.Gen.facts Cert.Pre_finite_ln.Gen.facts := fun m g m' g' hpre hin =>
  ⟨fun c => (Cert.MixLnBwdIdeal.Gen.dats m 0 c).arrAt 5 Cert.MixLnBwdIdeal.cfg0.N, fun c => (Cert.MixLnBwdIdeal.Gen.dats m 0 c).arrAt 6 Cert.MixLnBwdIdeal.cfg0.N,
    fun c => (Cert.MixLnBwdIdeal.Gen.dats m 0 c).arrAt 7 Cert.MixLnBwdIdeal.cfg0.N, fun c => (Cert.MixLnBwdIdeal.Gen.dats m 0 c).arrAt 8 Cert.MixLnBwdIdeal.cfg0.N,
    Cert.MixLnBwdIdeal.Value.run_blocks m g,
    (θ_run _ _ _).mono (fun r h c => ⟨(h c).1.trans ((Cert.MixLnBwdRefIdeal.Read.val_main_v67_eq _ _).trans (by
        rw [(hin c).1, (hin c).2.1, (hin c).2.2.1, (hin c).2.2.2.2]
        funext i
        obtain ⟨t, s, e⟩ := row_split (i 0)
        obtain ⟨h2, h4⟩ := finite_ln _ _ _ _ _ (hpre c)
        rw [eq_ix2 i, e]
        exact (Cert.MixLnBwdRefIdeal.Row.ref5 _ _ _ _ _ _).trans ((congrArg _ (back_eq _ _ (fun d => real_mul (h4 _) (h2 _)) _).symm).trans (Cert.MixLnBwdIdeal.Row.final5 m c t s _).symm))),
      (h c).2.1.trans ((Cert.MixLnBwdRefIdeal.Read.val_main_v68_eq _ _).trans (by
        rw [(hin c).1, (hin c).2.1, (hin c).2.2.1, (hin c).2.2.2.2]
        funext i
        obtain ⟨t, s, e⟩ := row_split (i 0)
        obtain ⟨h2, h4⟩ := finite_ln _ _ _ _ _ (hpre c)
        rw [eq_ix2 i, e]
        exact (Cert.MixLnBwdRefIdeal.Row.ref6 _ _ _ _ _ _).trans ((congrArg _ (back_eq _ _ (fun d => real_mul (h4 _) (h2 _)) _).symm).trans (Cert.MixLnBwdIdeal.Row.final6 m c t s _).symm))),
      (h c).2.2.1.trans ((Cert.MixLnBwdRefIdeal.Read.val_main_v37_eq _ _ _).trans (by
        rw [(hin c).1, (hin c).2.1, (hin c).2.2.2.2]
        funext i
        have hi : i = ix2 0 (i 1) := (eq_ix2 i).trans (congrArg (ix2 · (i 1)) (Subsingleton.elim (α := Fin 1) _ _))
        rw [hi]
        exact (Cert.MixLnBwdRefIdeal.Row.ref7 _ _ _ _).trans (Cert.MixLnBwdIdeal.Row.final7 m c _).symm)),
      (h c).2.2.2.1.trans ((Cert.MixLnBwdRefIdeal.Read.val_main_v34_eq _).trans (by
        rw [(hin c).2.2.2.2]
        funext i
        have hi : i = ix2 0 (i 1) := (eq_ix2 i).trans (congrArg (ix2 · (i 1)) (Subsingleton.elim (α := Fin 1) _ _))
        rw [hi]
        exact (Cert.MixLnBwdRefIdeal.Row.ref8 _ _).trans (Cert.MixLnBwdIdeal.Row.final8 m c _).symm)), (h c).2.2.2.2⟩)
      (Cert.MixLnBwdRefIdeal.Value.run (F := Ideal) m' g')⟩

end Cert.Row

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWRefIdeal
public import proofs.«01_k».proof.Proof.Gen.GateW
public import proofs.«01_k».proof.Proof.Gen.GateW.Skeleton
public import proofs.«01_k».proof.Proof.Gen.GateW.Launch
public import proofs.«01_k».proof.Proof.Gen.GateW.Points
public import proofs.«01_k».proof.Proof.Gen.GateW.Frame
public import proofs.«01_k».proof.Proof.Gen.GateWIdeal
public import proofs.«01_k».proof.Proof.Gen.GateWIdeal.Skeleton
public import proofs.«01_k».proof.Proof.Gen.GateWIdeal.Launch
public import proofs.«01_k».proof.Proof.Gen.GateWIdeal.Points
public import proofs.«01_k».proof.Proof.Gen.GateWIdeal.Frame
public import proofs.«01_k».proof.Proof.Gen.GateWRefIdeal
public import proofs.«01_k».proof.Proof.Gen.GateX
public import proofs.«01_k».proof.Proof.Gen.GateX.Skeleton
public import proofs.«01_k».proof.Proof.Gen.GateX.Launch
public import proofs.«01_k».proof.Proof.Gen.GateX.Points
public import proofs.«01_k».proof.Proof.Gen.GateX.Frame
public import proofs.«01_k».proof.Proof.Gen.GateXIdeal
public import proofs.«01_k».proof.Proof.Gen.GateXIdeal.Skeleton
public import proofs.«01_k».proof.Proof.Gen.GateXIdeal.Launch
public import proofs.«01_k».proof.Proof.Gen.GateXIdeal.Points
public import proofs.«01_k».proof.Proof.Gen.GateXIdeal.Frame
public import proofs.«01_k».proof.Proof.Gen.GateXRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.DownLn
public import proofs.«01_k».proof.Proof.Gen.DownLn.Skeleton
public import proofs.«01_k».proof.Proof.Gen.DownLn.Launch
public import proofs.«01_k».proof.Proof.Gen.DownLn.Points
public import proofs.«01_k».proof.Proof.Gen.DownLn.Frame
public import proofs.«01_k».proof.Proof.Gen.DownLnIdeal
public import proofs.«01_k».proof.Proof.Gen.DownLnIdeal.Skeleton
public import proofs.«01_k».proof.Proof.Gen.DownLnIdeal.Launch
public import proofs.«01_k».proof.Proof.Gen.DownLnIdeal.Points
public import proofs.«01_k».proof.Proof.Gen.DownLnIdeal.Frame
public import proofs.«01_k».proof.Proof.Gen.DownLnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXRefIdeal
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWRefIdeal
public import proofs.«01_k».proof.Proof.Gen.OutX
public import proofs.«01_k».proof.Proof.Gen.OutX.Skeleton
public import proofs.«01_k».proof.Proof.Gen.OutX.Launch
public import proofs.«01_k».proof.Proof.Gen.OutX.Points
public import proofs.«01_k».proof.Proof.Gen.OutX.Frame
public import proofs.«01_k».proof.Proof.Gen.OutXIdeal
public import proofs.«01_k».proof.Proof.Gen.OutXIdeal.Skeleton
public import proofs.«01_k».proof.Proof.Gen.OutXIdeal.Launch
public import proofs.«01_k».proof.Proof.Gen.OutXIdeal.Points
public import proofs.«01_k».proof.Proof.Gen.OutXIdeal.Frame
public import proofs.«01_k».proof.Proof.Gen.OutXRefIdeal
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWRefIdeal
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnRefIdeal
public import proofs.«01_k».proof.Proof.Gen.MlaQ
public import proofs.«01_k».proof.Proof.Gen.MlaQ.Skeleton
public import proofs.«01_k».proof.Proof.Gen.MlaQ.Launch
public import proofs.«01_k».proof.Proof.Gen.MlaQ.Points
public import proofs.«01_k».proof.Proof.Gen.MlaQ.Frame
public import proofs.«01_k».proof.Proof.Gen.MlaQIdeal
public import proofs.«01_k».proof.Proof.Gen.MlaQIdeal.Skeleton
public import proofs.«01_k».proof.Proof.Gen.MlaQIdeal.Launch
public import proofs.«01_k».proof.Proof.Gen.MlaQIdeal.Points
public import proofs.«01_k».proof.Proof.Gen.MlaQIdeal.Frame
public import proofs.«01_k».proof.Proof.Gen.MlaQRefIdeal
public import proofs.«01_k».proof.Proof.Gen.MlaQX
public import proofs.«01_k».proof.Proof.Gen.MlaQX.Skeleton
public import proofs.«01_k».proof.Proof.Gen.MlaQX.Launch
public import proofs.«01_k».proof.Proof.Gen.MlaQX.Points
public import proofs.«01_k».proof.Proof.Gen.MlaQX.Frame
public import proofs.«01_k».proof.Proof.Gen.MlaQXIdeal
public import proofs.«01_k».proof.Proof.Gen.MlaQXIdeal.Skeleton
public import proofs.«01_k».proof.Proof.Gen.MlaQXIdeal.Launch
public import proofs.«01_k».proof.Proof.Gen.MlaQXIdeal.Points
public import proofs.«01_k».proof.Proof.Gen.MlaQXIdeal.Frame
public import proofs.«01_k».proof.Proof.Gen.MlaQXRefIdeal
public import proofs.«01_k».proof.Proof.Gen.MlaQW
public import proofs.«01_k».proof.Proof.Gen.MlaQW.Skeleton
public import proofs.«01_k».proof.Proof.Gen.MlaQW.Launch
public import proofs.«01_k».proof.Proof.Gen.MlaQW.Points
public import proofs.«01_k».proof.Proof.Gen.MlaQW.Frame
public import proofs.«01_k».proof.Proof.Gen.MlaQWIdeal
public import proofs.«01_k».proof.Proof.Gen.MlaQWIdeal.Skeleton
public import proofs.«01_k».proof.Proof.Gen.MlaQWIdeal.Launch
public import proofs.«01_k».proof.Proof.Gen.MlaQWIdeal.Points
public import proofs.«01_k».proof.Proof.Gen.MlaQWIdeal.Frame
public import proofs.«01_k».proof.Proof.Gen.MlaQWRefIdeal
public import proofs.«01_k».proof.Proof.Gen.MlaKv
public import proofs.«01_k».proof.Proof.Gen.MlaKv.Skeleton
public import proofs.«01_k».proof.Proof.Gen.MlaKv.Launch
public import proofs.«01_k».proof.Proof.Gen.MlaKv.Points
public import proofs.«01_k».proof.Proof.Gen.MlaKv.Frame
public import proofs.«01_k».proof.Proof.Gen.MlaKvIdeal
public import proofs.«01_k».proof.Proof.Gen.MlaKvIdeal.Skeleton
public import proofs.«01_k».proof.Proof.Gen.MlaKvIdeal.Launch
public import proofs.«01_k».proof.Proof.Gen.MlaKvIdeal.Points
public import proofs.«01_k».proof.Proof.Gen.MlaKvIdeal.Frame
public import proofs.«01_k».proof.Proof.Gen.MlaKvRefIdeal
public import proofs.«01_k».proof.Proof.Gen.MlaKvX
public import proofs.«01_k».proof.Proof.Gen.MlaKvX.Skeleton
public import proofs.«01_k».proof.Proof.Gen.MlaKvX.Launch
public import proofs.«01_k».proof.Proof.Gen.MlaKvX.Points
public import proofs.«01_k».proof.Proof.Gen.MlaKvX.Frame
public import proofs.«01_k».proof.Proof.Gen.MlaKvXIdeal
public import proofs.«01_k».proof.Proof.Gen.MlaKvXIdeal.Skeleton
public import proofs.«01_k».proof.Proof.Gen.MlaKvXIdeal.Launch
public import proofs.«01_k».proof.Proof.Gen.MlaKvXIdeal.Points
public import proofs.«01_k».proof.Proof.Gen.MlaKvXIdeal.Frame
public import proofs.«01_k».proof.Proof.Gen.MlaKvXRefIdeal
public import proofs.«01_k».proof.Proof.Gen.MlaKvW
public import proofs.«01_k».proof.Proof.Gen.MlaKvW.Skeleton
public import proofs.«01_k».proof.Proof.Gen.MlaKvW.Launch
public import proofs.«01_k».proof.Proof.Gen.MlaKvW.Points
public import proofs.«01_k».proof.Proof.Gen.MlaKvW.Frame
public import proofs.«01_k».proof.Proof.Gen.MlaKvWIdeal
public import proofs.«01_k».proof.Proof.Gen.MlaKvWIdeal.Skeleton
public import proofs.«01_k».proof.Proof.Gen.MlaKvWIdeal.Launch
public import proofs.«01_k».proof.Proof.Gen.MlaKvWIdeal.Points
public import proofs.«01_k».proof.Proof.Gen.MlaKvWIdeal.Frame
public import proofs.«01_k».proof.Proof.Gen.MlaKvWRefIdeal
public import proofs.«01_k».proof.Proof.Gen.MlaNorm
public import proofs.«01_k».proof.Proof.Gen.MlaNorm.Skeleton
public import proofs.«01_k».proof.Proof.Gen.MlaNorm.Launch
public import proofs.«01_k».proof.Proof.Gen.MlaNorm.Points
public import proofs.«01_k».proof.Proof.Gen.MlaNorm.Frame
public import proofs.«01_k».proof.Proof.Gen.MlaNormIdeal
public import proofs.«01_k».proof.Proof.Gen.MlaNormIdeal.Skeleton
public import proofs.«01_k».proof.Proof.Gen.MlaNormIdeal.Launch
public import proofs.«01_k».proof.Proof.Gen.MlaNormIdeal.Points
public import proofs.«01_k».proof.Proof.Gen.MlaNormIdeal.Frame
public import proofs.«01_k».proof.Proof.Gen.MlaNormRefIdeal
public import proofs.«01_k».proof.Proof.Gen.SsdPost
public import proofs.«01_k».proof.Proof.Gen.SsdPost.Skeleton
public import proofs.«01_k».proof.Proof.Gen.SsdPost.Launch
public import proofs.«01_k».proof.Proof.Gen.SsdPost.Points
public import proofs.«01_k».proof.Proof.Gen.SsdPost.Frame
public import proofs.«01_k».proof.Proof.Gen.SsdPostIdeal
public import proofs.«01_k».proof.Proof.Gen.SsdPostIdeal.Skeleton
public import proofs.«01_k».proof.Proof.Gen.SsdPostIdeal.Launch
public import proofs.«01_k».proof.Proof.Gen.SsdPostIdeal.Points
public import proofs.«01_k».proof.Proof.Gen.SsdPostIdeal.Frame
public import proofs.«01_k».proof.Proof.Gen.SsdPostRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeT
public import proofs.«01_k».proof.Proof.Gen.RopeT.Skeleton
public import proofs.«01_k».proof.Proof.Gen.RopeT.Launch
public import proofs.«01_k».proof.Proof.Gen.RopeT.Points
public import proofs.«01_k».proof.Proof.Gen.RopeT.Frame
public import proofs.«01_k».proof.Proof.Gen.RopeTIdeal
public import proofs.«01_k».proof.Proof.Gen.RopeTIdeal.Skeleton
public import proofs.«01_k».proof.Proof.Gen.RopeTIdeal.Launch
public import proofs.«01_k».proof.Proof.Gen.RopeTIdeal.Points
public import proofs.«01_k».proof.Proof.Gen.RopeTIdeal.Frame
public import proofs.«01_k».proof.Proof.Gen.RopeTRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.SsdDt
public import proofs.«01_k».proof.Proof.Gen.SsdDt.Skeleton
public import proofs.«01_k».proof.Proof.Gen.SsdDt.Launch
public import proofs.«01_k».proof.Proof.Gen.SsdDt.Points
public import proofs.«01_k».proof.Proof.Gen.SsdDt.Frame
public import proofs.«01_k».proof.Proof.Gen.SsdDtIdeal
public import proofs.«01_k».proof.Proof.Gen.SsdDtIdeal.Skeleton
public import proofs.«01_k».proof.Proof.Gen.SsdDtIdeal.Launch
public import proofs.«01_k».proof.Proof.Gen.SsdDtIdeal.Points
public import proofs.«01_k».proof.Proof.Gen.SsdDtIdeal.Frame
public import proofs.«01_k».proof.Proof.Gen.SsdDtRefIdeal
public import proofs.«01_k».proof.Proof.Gen.FfnLnBwd
public import proofs.«01_k».proof.Proof.Gen.FfnLnBwd.Skeleton
public import proofs.«01_k».proof.Proof.Gen.FfnLnBwd.Launch
public import proofs.«01_k».proof.Proof.Gen.FfnLnBwd.Points
public import proofs.«01_k».proof.Proof.Gen.FfnLnBwd.Frame
public import proofs.«01_k».proof.Proof.Gen.FfnLnBwdIdeal
public import proofs.«01_k».proof.Proof.Gen.FfnLnBwdIdeal.Skeleton
public import proofs.«01_k».proof.Proof.Gen.FfnLnBwdIdeal.Launch
public import proofs.«01_k».proof.Proof.Gen.FfnLnBwdIdeal.Points
public import proofs.«01_k».proof.Proof.Gen.FfnLnBwdIdeal.Frame
public import proofs.«01_k».proof.Proof.Gen.FfnLnBwdRefIdeal
public import proofs.«01_k».proof.Proof.Gen.MixLnBwd
public import proofs.«01_k».proof.Proof.Gen.MixLnBwd.Skeleton
public import proofs.«01_k».proof.Proof.Gen.MixLnBwd.Launch
public import proofs.«01_k».proof.Proof.Gen.MixLnBwd.Points
public import proofs.«01_k».proof.Proof.Gen.MixLnBwd.Frame
public import proofs.«01_k».proof.Proof.Gen.MixLnBwdIdeal
public import proofs.«01_k».proof.Proof.Gen.MixLnBwdIdeal.Skeleton
public import proofs.«01_k».proof.Proof.Gen.MixLnBwdIdeal.Launch
public import proofs.«01_k».proof.Proof.Gen.MixLnBwdIdeal.Points
public import proofs.«01_k».proof.Proof.Gen.MixLnBwdIdeal.Frame
public import proofs.«01_k».proof.Proof.Gen.MixLnBwdRefIdeal
public import proofs.«01_k».proof.Proof.Gen.Pre_finite_ffn
public import proofs.«01_k».proof.Proof.Gen.Pre_finite_ln
public import proofs.«01_k».proof.Proof.Gen.ReferenceIdeal.Run
public import proofs.«01_k».proof.Proof.Gen.ReferenceIdeal.Read
public import proofs.«01_k».proof.Proof.Gen.GateIdeal.Value
public import proofs.«01_k».proof.Proof.Gen.GateRefIdeal.Read
public import proofs.«01_k».proof.Proof.Gen.GateRefIdeal.Run
public import proofs.«01_k».proof.Proof.Gen.DownWIdeal.Value
public import proofs.«01_k».proof.Proof.Gen.DownWRefIdeal.Read
public import proofs.«01_k».proof.Proof.Gen.DownWRefIdeal.Run
public import proofs.«01_k».proof.Proof.Gen.GateWIdeal.Value
public import proofs.«01_k».proof.Proof.Gen.GateWRefIdeal.Read
public import proofs.«01_k».proof.Proof.Gen.GateWRefIdeal.Run
public import proofs.«01_k».proof.Proof.Gen.GateXIdeal.Value
public import proofs.«01_k».proof.Proof.Gen.GateXRefIdeal.Read
public import proofs.«01_k».proof.Proof.Gen.GateXRefIdeal.Run
public import proofs.«01_k».proof.Proof.Gen.UpIdeal.Value
public import proofs.«01_k».proof.Proof.Gen.UpRefIdeal.Read
public import proofs.«01_k».proof.Proof.Gen.UpRefIdeal.Run
public import proofs.«01_k».proof.Proof.Gen.DownLnIdeal.Value
public import proofs.«01_k».proof.Proof.Gen.DownLnRefIdeal.Read
public import proofs.«01_k».proof.Proof.Gen.DownLnRefIdeal.Run
public import proofs.«01_k».proof.Proof.Gen.InProjIdeal.Value
public import proofs.«01_k».proof.Proof.Gen.InProjRefIdeal.Read
public import proofs.«01_k».proof.Proof.Gen.InProjRefIdeal.Run
public import proofs.«01_k».proof.Proof.Gen.InXIdeal.Value
public import proofs.«01_k».proof.Proof.Gen.InXRefIdeal.Read
public import proofs.«01_k».proof.Proof.Gen.InXRefIdeal.Run
public import proofs.«01_k».proof.Proof.Gen.InWIdeal.Value
public import proofs.«01_k».proof.Proof.Gen.InWRefIdeal.Read
public import proofs.«01_k».proof.Proof.Gen.InWRefIdeal.Run
public import proofs.«01_k».proof.Proof.Gen.OutXIdeal.Value
public import proofs.«01_k».proof.Proof.Gen.OutXRefIdeal.Read
public import proofs.«01_k».proof.Proof.Gen.OutXRefIdeal.Run
public import proofs.«01_k».proof.Proof.Gen.OutWIdeal.Value
public import proofs.«01_k».proof.Proof.Gen.OutWRefIdeal.Read
public import proofs.«01_k».proof.Proof.Gen.OutWRefIdeal.Run
public import proofs.«01_k».proof.Proof.Gen.OutLnIdeal.Value
public import proofs.«01_k».proof.Proof.Gen.OutLnRefIdeal.Read
public import proofs.«01_k».proof.Proof.Gen.OutLnRefIdeal.Run
public import proofs.«01_k».proof.Proof.Gen.MlaQIdeal.Value
public import proofs.«01_k».proof.Proof.Gen.MlaQRefIdeal.Read
public import proofs.«01_k».proof.Proof.Gen.MlaQRefIdeal.Run
public import proofs.«01_k».proof.Proof.Gen.MlaQXIdeal.Value
public import proofs.«01_k».proof.Proof.Gen.MlaQXRefIdeal.Read
public import proofs.«01_k».proof.Proof.Gen.MlaQXRefIdeal.Run
public import proofs.«01_k».proof.Proof.Gen.MlaQWIdeal.Value
public import proofs.«01_k».proof.Proof.Gen.MlaQWRefIdeal.Read
public import proofs.«01_k».proof.Proof.Gen.MlaQWRefIdeal.Run
public import proofs.«01_k».proof.Proof.Gen.MlaKvIdeal.Value
public import proofs.«01_k».proof.Proof.Gen.MlaKvRefIdeal.Read
public import proofs.«01_k».proof.Proof.Gen.MlaKvRefIdeal.Run
public import proofs.«01_k».proof.Proof.Gen.MlaKvXIdeal.Value
public import proofs.«01_k».proof.Proof.Gen.MlaKvXRefIdeal.Read
public import proofs.«01_k».proof.Proof.Gen.MlaKvXRefIdeal.Run
public import proofs.«01_k».proof.Proof.Gen.MlaKvWIdeal.Value
public import proofs.«01_k».proof.Proof.Gen.MlaKvWRefIdeal.Read
public import proofs.«01_k».proof.Proof.Gen.MlaKvWRefIdeal.Run
public import proofs.«01_k».proof.Proof.Gen.MlaNormIdeal.Value
public import proofs.«01_k».proof.Proof.Gen.MlaNormRefIdeal.Read
public import proofs.«01_k».proof.Proof.Gen.MlaNormRefIdeal.Run
public import proofs.«01_k».proof.Proof.Gen.SsdPostIdeal.Value
public import proofs.«01_k».proof.Proof.Gen.SsdPostRefIdeal.Read
public import proofs.«01_k».proof.Proof.Gen.SsdPostRefIdeal.Run
public import proofs.«01_k».proof.Proof.Gen.RopeIdeal.Value
public import proofs.«01_k».proof.Proof.Gen.RopeRefIdeal.Read
public import proofs.«01_k».proof.Proof.Gen.RopeRefIdeal.Run
public import proofs.«01_k».proof.Proof.Gen.RopeTIdeal.Value
public import proofs.«01_k».proof.Proof.Gen.RopeTRefIdeal.Read
public import proofs.«01_k».proof.Proof.Gen.RopeTRefIdeal.Run
public import proofs.«01_k».proof.Proof.Gen.AdamIdeal.Value
public import proofs.«01_k».proof.Proof.Gen.AdamRefIdeal.Read
public import proofs.«01_k».proof.Proof.Gen.AdamRefIdeal.Run
public import proofs.«01_k».proof.Proof.Gen.LossIdeal.Value
public import proofs.«01_k».proof.Proof.Gen.LossRefIdeal.Read
public import proofs.«01_k».proof.Proof.Gen.LossRefIdeal.Run
public import proofs.«01_k».proof.Proof.Gen.SsdDtIdeal.Value
public import proofs.«01_k».proof.Proof.Gen.SsdDtRefIdeal.Read
public import proofs.«01_k».proof.Proof.Gen.SsdDtRefIdeal.Run
public import proofs.«01_k».proof.Proof.Gen.FfnLnBwdIdeal.Value
public import proofs.«01_k».proof.Proof.Gen.FfnLnBwdRefIdeal.Read
public import proofs.«01_k».proof.Proof.Gen.FfnLnBwdRefIdeal.Run
public import proofs.«01_k».proof.Proof.Gen.MixLnBwdIdeal.Value
public import proofs.«01_k».proof.Proof.Gen.MixLnBwdRefIdeal.Read
public import proofs.«01_k».proof.Proof.Gen.MixLnBwdRefIdeal.Run
public import proofs.«01_k».proof.Proof.Fox.Dats
public import proofs.«01_k».proof.Proof.FoxWords.Dats
public import proofs.«01_k».proof.Proof.Ffn.Gate
public import proofs.«01_k».proof.Proof.Ffn.DownW
public import proofs.«01_k».proof.Proof.Ffn.GateW
public import proofs.«01_k».proof.Proof.Ffn.GateX
public import proofs.«01_k».proof.Proof.Ffn.Up
public import proofs.«01_k».proof.Proof.Ffn.DownLn
public import proofs.«01_k».proof.Proof.Proj.InProj
public import proofs.«01_k».proof.Proof.Proj.InX
public import proofs.«01_k».proof.Proof.Proj.InW
public import proofs.«01_k».proof.Proof.Proj.OutX
public import proofs.«01_k».proof.Proof.Proj.OutW
public import proofs.«01_k».proof.Proof.Proj.OutLn
public import proofs.«01_k».proof.Proof.Proj.MlaQ
public import proofs.«01_k».proof.Proof.Proj.MlaQX
public import proofs.«01_k».proof.Proof.Proj.MlaQW
public import proofs.«01_k».proof.Proof.Proj.MlaKv
public import proofs.«01_k».proof.Proof.Proj.MlaKvX
public import proofs.«01_k».proof.Proof.Proj.MlaKvW
public import proofs.«01_k».proof.Proof.Row.MlaNorm
public import proofs.«01_k».proof.Proof.Row.SsdPost
public import proofs.«01_k».proof.Proof.Row.Rope
public import proofs.«01_k».proof.Proof.Row.RopeT
public import proofs.«01_k».proof.Proof.Row.Adam
public import proofs.«01_k».proof.Proof.Row.Loss
public import proofs.«01_k».proof.Proof.Row.SsdDt
public import proofs.«01_k».proof.Proof.Row.FfnLnBwd
public import proofs.«01_k».proof.Proof.Row.MixLnBwd
public import Idealize.ShloMosaic.Adequacy
public import Idealize.ShloMosaic.Init

@[expose] public section

noncomputable section

namespace Cert.Proof

open Idealize.ShloMosaic Idealize.SL.Sem Cert.Kernel

/-- The reference `ReferenceIdeal` runs, and it leaves its arguments as they were. -/
theorem frame_ReferenceIdeal : @Cert.quiescent_ReferenceIdeal Cert.ReferenceIdeal.Gen.facts := fun m ρ _ =>
  (θ_run _ _ _).mono (fun r h => ⟨fun c => (h c).2.2.2.2.2, sem_eq_zero_of_no_sems (by decide) r.2⟩)
    (Cert.ReferenceIdeal.Value.run (F := Ideal) m ρ)

/-- The reference `GateRefIdeal` runs, and it leaves its arguments as they were. -/
theorem frame_GateRefIdeal : @Cert.quiescent_GateRefIdeal Cert.GateRefIdeal.Gen.facts := fun m ρ _ =>
  (θ_run _ _ _).mono (fun r h => ⟨fun c => (h c).2.2, sem_eq_zero_of_no_sems (by decide) r.2⟩)
    (Cert.GateRefIdeal.Value.run (F := Ideal) m ρ)

/-- The reference `DownWRefIdeal` runs, and it leaves its arguments as they were. -/
theorem frame_DownWRefIdeal : @Cert.quiescent_DownWRefIdeal Cert.DownWRefIdeal.Gen.facts := fun m ρ _ =>
  (θ_run _ _ _).mono (fun r h => ⟨fun c => (h c).2, sem_eq_zero_of_no_sems (by decide) r.2⟩)
    (Cert.DownWRefIdeal.Value.run (F := Ideal) m ρ)

/-- The reference `GateWRefIdeal` runs, and it leaves its arguments as they were. -/
theorem frame_GateWRefIdeal : @Cert.quiescent_GateWRefIdeal Cert.GateWRefIdeal.Gen.facts := fun m ρ _ =>
  (θ_run _ _ _).mono (fun r h => ⟨fun c => (h c).2.2, sem_eq_zero_of_no_sems (by decide) r.2⟩)
    (Cert.GateWRefIdeal.Value.run (F := Ideal) m ρ)

/-- The reference `GateXRefIdeal` runs, and it leaves its arguments as they were. -/
theorem frame_GateXRefIdeal : @Cert.quiescent_GateXRefIdeal Cert.GateXRefIdeal.Gen.facts := fun m ρ _ =>
  (θ_run _ _ _).mono (fun r h => ⟨fun c => (h c).2, sem_eq_zero_of_no_sems (by decide) r.2⟩)
    (Cert.GateXRefIdeal.Value.run (F := Ideal) m ρ)

/-- The reference `UpRefIdeal` runs, and it leaves its arguments as they were. -/
theorem frame_UpRefIdeal : @Cert.quiescent_UpRefIdeal Cert.UpRefIdeal.Gen.facts := fun m ρ _ =>
  (θ_run _ _ _).mono (fun r h => ⟨fun c => (h c).2.2.2, sem_eq_zero_of_no_sems (by decide) r.2⟩)
    (Cert.UpRefIdeal.Value.run (F := Ideal) m ρ)

/-- The reference `DownLnRefIdeal` runs, and it leaves its arguments as they were. -/
theorem frame_DownLnRefIdeal : @Cert.quiescent_DownLnRefIdeal Cert.DownLnRefIdeal.Gen.facts := fun m ρ _ =>
  (θ_run _ _ _).mono (fun r h => ⟨fun c => (h c).2.2.2, sem_eq_zero_of_no_sems (by decide) r.2⟩)
    (Cert.DownLnRefIdeal.Value.run (F := Ideal) m ρ)

/-- The reference `InProjRefIdeal` runs, and it leaves its arguments as they were. -/
theorem frame_InProjRefIdeal : @Cert.quiescent_InProjRefIdeal Cert.InProjRefIdeal.Gen.facts := fun m ρ _ =>
  (θ_run _ _ _).mono (fun r h => ⟨fun c => (h c).2, sem_eq_zero_of_no_sems (by decide) r.2⟩)
    (Cert.InProjRefIdeal.Value.run (F := Ideal) m ρ)

/-- The reference `InXRefIdeal` runs, and it leaves its arguments as they were. -/
theorem frame_InXRefIdeal : @Cert.quiescent_InXRefIdeal Cert.InXRefIdeal.Gen.facts := fun m ρ _ =>
  (θ_run _ _ _).mono (fun r h => ⟨fun c => (h c).2, sem_eq_zero_of_no_sems (by decide) r.2⟩)
    (Cert.InXRefIdeal.Value.run (F := Ideal) m ρ)

/-- The reference `InWRefIdeal` runs, and it leaves its arguments as they were. -/
theorem frame_InWRefIdeal : @Cert.quiescent_InWRefIdeal Cert.InWRefIdeal.Gen.facts := fun m ρ _ =>
  (θ_run _ _ _).mono (fun r h => ⟨fun c => (h c).2, sem_eq_zero_of_no_sems (by decide) r.2⟩)
    (Cert.InWRefIdeal.Value.run (F := Ideal) m ρ)

/-- The reference `OutXRefIdeal` runs, and it leaves its arguments as they were. -/
theorem frame_OutXRefIdeal : @Cert.quiescent_OutXRefIdeal Cert.OutXRefIdeal.Gen.facts := fun m ρ _ =>
  (θ_run _ _ _).mono (fun r h => ⟨fun c => (h c).2, sem_eq_zero_of_no_sems (by decide) r.2⟩)
    (Cert.OutXRefIdeal.Value.run (F := Ideal) m ρ)

/-- The reference `OutWRefIdeal` runs, and it leaves its arguments as they were. -/
theorem frame_OutWRefIdeal : @Cert.quiescent_OutWRefIdeal Cert.OutWRefIdeal.Gen.facts := fun m ρ _ =>
  (θ_run _ _ _).mono (fun r h => ⟨fun c => (h c).2, sem_eq_zero_of_no_sems (by decide) r.2⟩)
    (Cert.OutWRefIdeal.Value.run (F := Ideal) m ρ)

/-- The reference `OutLnRefIdeal` runs, and it leaves its arguments as they were. -/
theorem frame_OutLnRefIdeal : @Cert.quiescent_OutLnRefIdeal Cert.OutLnRefIdeal.Gen.facts := fun m ρ _ =>
  (θ_run _ _ _).mono (fun r h => ⟨fun c => (h c).2.2.2, sem_eq_zero_of_no_sems (by decide) r.2⟩)
    (Cert.OutLnRefIdeal.Value.run (F := Ideal) m ρ)

/-- The reference `MlaQRefIdeal` runs, and it leaves its arguments as they were. -/
theorem frame_MlaQRefIdeal : @Cert.quiescent_MlaQRefIdeal Cert.MlaQRefIdeal.Gen.facts := fun m ρ _ =>
  (θ_run _ _ _).mono (fun r h => ⟨fun c => (h c).2, sem_eq_zero_of_no_sems (by decide) r.2⟩)
    (Cert.MlaQRefIdeal.Value.run (F := Ideal) m ρ)

/-- The reference `MlaQXRefIdeal` runs, and it leaves its arguments as they were. -/
theorem frame_MlaQXRefIdeal : @Cert.quiescent_MlaQXRefIdeal Cert.MlaQXRefIdeal.Gen.facts := fun m ρ _ =>
  (θ_run _ _ _).mono (fun r h => ⟨fun c => (h c).2, sem_eq_zero_of_no_sems (by decide) r.2⟩)
    (Cert.MlaQXRefIdeal.Value.run (F := Ideal) m ρ)

/-- The reference `MlaQWRefIdeal` runs, and it leaves its arguments as they were. -/
theorem frame_MlaQWRefIdeal : @Cert.quiescent_MlaQWRefIdeal Cert.MlaQWRefIdeal.Gen.facts := fun m ρ _ =>
  (θ_run _ _ _).mono (fun r h => ⟨fun c => (h c).2, sem_eq_zero_of_no_sems (by decide) r.2⟩)
    (Cert.MlaQWRefIdeal.Value.run (F := Ideal) m ρ)

/-- The reference `MlaKvRefIdeal` runs, and it leaves its arguments as they were. -/
theorem frame_MlaKvRefIdeal : @Cert.quiescent_MlaKvRefIdeal Cert.MlaKvRefIdeal.Gen.facts := fun m ρ _ =>
  (θ_run _ _ _).mono (fun r h => ⟨fun c => (h c).2, sem_eq_zero_of_no_sems (by decide) r.2⟩)
    (Cert.MlaKvRefIdeal.Value.run (F := Ideal) m ρ)

/-- The reference `MlaKvXRefIdeal` runs, and it leaves its arguments as they were. -/
theorem frame_MlaKvXRefIdeal : @Cert.quiescent_MlaKvXRefIdeal Cert.MlaKvXRefIdeal.Gen.facts := fun m ρ _ =>
  (θ_run _ _ _).mono (fun r h => ⟨fun c => (h c).2, sem_eq_zero_of_no_sems (by decide) r.2⟩)
    (Cert.MlaKvXRefIdeal.Value.run (F := Ideal) m ρ)

/-- The reference `MlaKvWRefIdeal` runs, and it leaves its arguments as they were. -/
theorem frame_MlaKvWRefIdeal : @Cert.quiescent_MlaKvWRefIdeal Cert.MlaKvWRefIdeal.Gen.facts := fun m ρ _ =>
  (θ_run _ _ _).mono (fun r h => ⟨fun c => (h c).2, sem_eq_zero_of_no_sems (by decide) r.2⟩)
    (Cert.MlaKvWRefIdeal.Value.run (F := Ideal) m ρ)

/-- The reference `MlaNormRefIdeal` runs, and it leaves its arguments as they were. -/
theorem frame_MlaNormRefIdeal : @Cert.quiescent_MlaNormRefIdeal Cert.MlaNormRefIdeal.Gen.facts := fun m ρ _ =>
  (θ_run _ _ _).mono (fun r h => ⟨fun c => (h c).2.2, sem_eq_zero_of_no_sems (by decide) r.2⟩)
    (Cert.MlaNormRefIdeal.Value.run (F := Ideal) m ρ)

/-- The reference `SsdPostRefIdeal` runs, and it leaves its arguments as they were. -/
theorem frame_SsdPostRefIdeal : @Cert.quiescent_SsdPostRefIdeal Cert.SsdPostRefIdeal.Gen.facts := fun m ρ _ =>
  (θ_run _ _ _).mono (fun r h => ⟨fun c => (h c).2, sem_eq_zero_of_no_sems (by decide) r.2⟩)
    (Cert.SsdPostRefIdeal.Value.run (F := Ideal) m ρ)

/-- The reference `RopeRefIdeal` runs, and it leaves its arguments as they were. -/
theorem frame_RopeRefIdeal : @Cert.quiescent_RopeRefIdeal Cert.RopeRefIdeal.Gen.facts := fun m ρ _ =>
  (θ_run _ _ _).mono (fun r h => ⟨fun c => (h c).2.2, sem_eq_zero_of_no_sems (by decide) r.2⟩)
    (Cert.RopeRefIdeal.Value.run (F := Ideal) m ρ)

/-- The reference `RopeTRefIdeal` runs, and it leaves its arguments as they were. -/
theorem frame_RopeTRefIdeal : @Cert.quiescent_RopeTRefIdeal Cert.RopeTRefIdeal.Gen.facts := fun m ρ _ =>
  (θ_run _ _ _).mono (fun r h => ⟨fun c => (h c).2.2, sem_eq_zero_of_no_sems (by decide) r.2⟩)
    (Cert.RopeTRefIdeal.Value.run (F := Ideal) m ρ)

/-- The reference `AdamRefIdeal` runs, and it leaves its arguments as they were. -/
theorem frame_AdamRefIdeal : @Cert.quiescent_AdamRefIdeal Cert.AdamRefIdeal.Gen.facts := fun m ρ _ =>
  (θ_run _ _ _).mono (fun r h => ⟨fun c => (h c).2.2.2.2, sem_eq_zero_of_no_sems (by decide) r.2⟩)
    (Cert.AdamRefIdeal.Value.run (F := Ideal) m ρ)

/-- The reference `LossRefIdeal` runs, and it leaves its arguments as they were. -/
theorem frame_LossRefIdeal : @Cert.quiescent_LossRefIdeal Cert.LossRefIdeal.Gen.facts := fun m ρ _ =>
  (θ_run _ _ _).mono (fun r h => ⟨fun c => (h c).2.2, sem_eq_zero_of_no_sems (by decide) r.2⟩)
    (Cert.LossRefIdeal.Value.run (F := Ideal) m ρ)

/-- The reference `SsdDtRefIdeal` runs, and it leaves its arguments as they were. -/
theorem frame_SsdDtRefIdeal : @Cert.quiescent_SsdDtRefIdeal Cert.SsdDtRefIdeal.Gen.facts := fun m ρ _ =>
  (θ_run _ _ _).mono (fun r h => ⟨fun c => (h c).2.2, sem_eq_zero_of_no_sems (by decide) r.2⟩)
    (Cert.SsdDtRefIdeal.Value.run (F := Ideal) m ρ)

/-- The reference `FfnLnBwdRefIdeal` runs, and it leaves its arguments as they were. -/
theorem frame_FfnLnBwdRefIdeal : @Cert.quiescent_FfnLnBwdRefIdeal Cert.FfnLnBwdRefIdeal.Gen.facts := fun m ρ _ =>
  (θ_run _ _ _).mono (fun r h => ⟨fun c => (h c).2.2.2.2, sem_eq_zero_of_no_sems (by decide) r.2⟩)
    (Cert.FfnLnBwdRefIdeal.Value.run (F := Ideal) m ρ)

/-- The reference `MixLnBwdRefIdeal` runs, and it leaves its arguments as they were. -/
theorem frame_MixLnBwdRefIdeal : @Cert.quiescent_MixLnBwdRefIdeal Cert.MixLnBwdRefIdeal.Gen.facts := fun m ρ _ =>
  (θ_run _ _ _).mono (fun r h => ⟨fun c => (h c).2.2.2.2, sem_eq_zero_of_no_sems (by decide) r.2⟩)
    (Cert.MixLnBwdRefIdeal.Value.run (F := Ideal) m ρ)

theorem claim : Cert.Claim := ⟨Cert.Kernel.Gen.facts, Cert.KernelIdeal.Gen.facts, Cert.ReferenceIdeal.Gen.facts, Cert.Gate.Gen.facts, Cert.GateIdeal.Gen.facts, Cert.GateRefIdeal.Gen.facts, Cert.DownW.Gen.facts, Cert.DownWIdeal.Gen.facts, Cert.DownWRefIdeal.Gen.facts, Cert.GateW.Gen.facts, Cert.GateWIdeal.Gen.facts, Cert.GateWRefIdeal.Gen.facts, Cert.GateX.Gen.facts, Cert.GateXIdeal.Gen.facts, Cert.GateXRefIdeal.Gen.facts, Cert.Up.Gen.facts, Cert.UpIdeal.Gen.facts, Cert.UpRefIdeal.Gen.facts, Cert.DownLn.Gen.facts, Cert.DownLnIdeal.Gen.facts, Cert.DownLnRefIdeal.Gen.facts, Cert.InProj.Gen.facts, Cert.InProjIdeal.Gen.facts, Cert.InProjRefIdeal.Gen.facts, Cert.InX.Gen.facts, Cert.InXIdeal.Gen.facts, Cert.InXRefIdeal.Gen.facts, Cert.InW.Gen.facts, Cert.InWIdeal.Gen.facts, Cert.InWRefIdeal.Gen.facts, Cert.OutX.Gen.facts, Cert.OutXIdeal.Gen.facts, Cert.OutXRefIdeal.Gen.facts, Cert.OutW.Gen.facts, Cert.OutWIdeal.Gen.facts, Cert.OutWRefIdeal.Gen.facts, Cert.OutLn.Gen.facts, Cert.OutLnIdeal.Gen.facts, Cert.OutLnRefIdeal.Gen.facts, Cert.MlaQ.Gen.facts, Cert.MlaQIdeal.Gen.facts, Cert.MlaQRefIdeal.Gen.facts, Cert.MlaQX.Gen.facts, Cert.MlaQXIdeal.Gen.facts, Cert.MlaQXRefIdeal.Gen.facts, Cert.MlaQW.Gen.facts, Cert.MlaQWIdeal.Gen.facts, Cert.MlaQWRefIdeal.Gen.facts, Cert.MlaKv.Gen.facts, Cert.MlaKvIdeal.Gen.facts, Cert.MlaKvRefIdeal.Gen.facts, Cert.MlaKvX.Gen.facts, Cert.MlaKvXIdeal.Gen.facts, Cert.MlaKvXRefIdeal.Gen.facts, Cert.MlaKvW.Gen.facts, Cert.MlaKvWIdeal.Gen.facts, Cert.MlaKvWRefIdeal.Gen.facts, Cert.MlaNorm.Gen.facts, Cert.MlaNormIdeal.Gen.facts, Cert.MlaNormRefIdeal.Gen.facts, Cert.SsdPost.Gen.facts, Cert.SsdPostIdeal.Gen.facts, Cert.SsdPostRefIdeal.Gen.facts, Cert.Rope.Gen.facts, Cert.RopeIdeal.Gen.facts, Cert.RopeRefIdeal.Gen.facts, Cert.RopeT.Gen.facts, Cert.RopeTIdeal.Gen.facts, Cert.RopeTRefIdeal.Gen.facts, Cert.Adam.Gen.facts, Cert.AdamIdeal.Gen.facts, Cert.AdamRefIdeal.Gen.facts, Cert.Loss.Gen.facts, Cert.LossIdeal.Gen.facts, Cert.LossRefIdeal.Gen.facts, Cert.SsdDt.Gen.facts, Cert.SsdDtIdeal.Gen.facts, Cert.SsdDtRefIdeal.Gen.facts, Cert.FfnLnBwd.Gen.facts, Cert.FfnLnBwdIdeal.Gen.facts, Cert.FfnLnBwdRefIdeal.Gen.facts, Cert.MixLnBwd.Gen.facts, Cert.MixLnBwdIdeal.Gen.facts, Cert.MixLnBwdRefIdeal.Gen.facts, Cert.Pre_finite_ffn.Gen.facts, Cert.Pre_finite_ln.Gen.facts,
  fun m ρ _ => Cert.Kernel.Fox.frame m ρ,
  fun m ρ _ => Cert.KernelIdeal.Fox.frame m ρ,
  frame_ReferenceIdeal,
  fun m ρ _ => Cert.Gate.Gen.frame m ρ,
  fun m ρ _ => Cert.GateIdeal.Gen.frame m ρ,
  fun m ρ _ => Cert.GateIdeal.Gen.frame m ρ,
  frame_GateRefIdeal,
  fun m ρ _ => frame_GateRefIdeal m ρ trivial,
  fun m ρ _ => Cert.DownW.Gen.frame m ρ,
  fun m ρ _ => Cert.DownWIdeal.Gen.frame m ρ,
  frame_DownWRefIdeal,
  fun m ρ _ => Cert.GateW.Gen.frame m ρ,
  fun m ρ _ => Cert.GateWIdeal.Gen.frame m ρ,
  frame_GateWRefIdeal,
  fun m ρ _ => Cert.GateX.Gen.frame m ρ,
  fun m ρ _ => Cert.GateXIdeal.Gen.frame m ρ,
  frame_GateXRefIdeal,
  fun m ρ _ => Cert.Up.Gen.frame m ρ,
  fun m ρ _ => Cert.UpIdeal.Gen.frame m ρ,
  frame_UpRefIdeal,
  fun m ρ _ => Cert.DownLn.Gen.frame m ρ,
  fun m ρ _ => Cert.DownLnIdeal.Gen.frame m ρ,
  frame_DownLnRefIdeal,
  fun m ρ _ => Cert.InProj.Gen.frame m ρ,
  fun m ρ _ => Cert.InProjIdeal.Gen.frame m ρ,
  frame_InProjRefIdeal,
  fun m ρ _ => Cert.InX.Gen.frame m ρ,
  fun m ρ _ => Cert.InXIdeal.Gen.frame m ρ,
  frame_InXRefIdeal,
  fun m ρ _ => Cert.InW.Gen.frame m ρ,
  fun m ρ _ => Cert.InWIdeal.Gen.frame m ρ,
  frame_InWRefIdeal,
  fun m ρ _ => Cert.OutX.Gen.frame m ρ,
  fun m ρ _ => Cert.OutXIdeal.Gen.frame m ρ,
  frame_OutXRefIdeal,
  fun m ρ _ => Cert.OutW.Gen.frame m ρ,
  fun m ρ _ => Cert.OutWIdeal.Gen.frame m ρ,
  frame_OutWRefIdeal,
  fun m ρ _ => Cert.OutLn.Gen.frame m ρ,
  fun m ρ _ => Cert.OutLnIdeal.Gen.frame m ρ,
  frame_OutLnRefIdeal,
  fun m ρ _ => Cert.MlaQ.Gen.frame m ρ,
  fun m ρ _ => Cert.MlaQIdeal.Gen.frame m ρ,
  frame_MlaQRefIdeal,
  fun m ρ _ => Cert.MlaQX.Gen.frame m ρ,
  fun m ρ _ => Cert.MlaQXIdeal.Gen.frame m ρ,
  frame_MlaQXRefIdeal,
  fun m ρ _ => Cert.MlaQW.Gen.frame m ρ,
  fun m ρ _ => Cert.MlaQWIdeal.Gen.frame m ρ,
  frame_MlaQWRefIdeal,
  fun m ρ _ => Cert.MlaKv.Gen.frame m ρ,
  fun m ρ _ => Cert.MlaKvIdeal.Gen.frame m ρ,
  frame_MlaKvRefIdeal,
  fun m ρ _ => Cert.MlaKvX.Gen.frame m ρ,
  fun m ρ _ => Cert.MlaKvXIdeal.Gen.frame m ρ,
  frame_MlaKvXRefIdeal,
  fun m ρ _ => Cert.MlaKvW.Gen.frame m ρ,
  fun m ρ _ => Cert.MlaKvWIdeal.Gen.frame m ρ,
  frame_MlaKvWRefIdeal,
  fun m ρ _ => Cert.MlaNorm.Gen.frame m ρ,
  fun m ρ _ => Cert.MlaNormIdeal.Gen.frame m ρ,
  frame_MlaNormRefIdeal,
  fun m ρ _ => Cert.SsdPost.Gen.frame m ρ,
  fun m ρ _ => Cert.SsdPostIdeal.Gen.frame m ρ,
  frame_SsdPostRefIdeal,
  fun m ρ _ => Cert.Rope.Gen.frame m ρ,
  fun m ρ _ => Cert.RopeIdeal.Gen.frame m ρ,
  frame_RopeRefIdeal,
  fun m ρ _ => Cert.RopeT.Gen.frame m ρ,
  fun m ρ _ => Cert.RopeTIdeal.Gen.frame m ρ,
  frame_RopeTRefIdeal,
  fun m ρ _ => Cert.Adam.Gen.frame m ρ,
  fun m ρ _ => Cert.AdamIdeal.Gen.frame m ρ,
  frame_AdamRefIdeal,
  fun m ρ _ => Cert.Loss.Gen.frame m ρ,
  fun m ρ _ => Cert.LossIdeal.Gen.frame m ρ,
  frame_LossRefIdeal,
  fun m ρ _ => Cert.SsdDt.Gen.frame m ρ,
  fun m ρ _ => Cert.SsdDtIdeal.Gen.frame m ρ,
  frame_SsdDtRefIdeal,
  fun m ρ _ => Cert.FfnLnBwd.Gen.frame m ρ,
  fun m ρ _ => Cert.FfnLnBwdIdeal.Gen.frame m ρ,
  fun m ρ _ => Cert.FfnLnBwdIdeal.Gen.frame m ρ,
  frame_FfnLnBwdRefIdeal,
  fun m ρ _ => frame_FfnLnBwdRefIdeal m ρ trivial,
  fun m ρ _ => Cert.MixLnBwd.Gen.frame m ρ,
  fun m ρ _ => Cert.MixLnBwdIdeal.Gen.frame m ρ,
  fun m ρ _ => Cert.MixLnBwdIdeal.Gen.frame m ρ,
  frame_MixLnBwdRefIdeal,
  fun m ρ _ => frame_MixLnBwdRefIdeal m ρ trivial,
  IdealRules.named_const.statement Cert.KernelIdeal.κ "mask" .f32 0xF149F2CA#32 ⊥ rfl,
  trivial,
  Cert.Ffn.gate,
  trivial,
  Cert.Ffn.downW,
  trivial,
  Cert.Ffn.gateW,
  trivial,
  Cert.Ffn.gateX,
  trivial,
  Cert.Ffn.up,
  trivial,
  Cert.Ffn.downLn,
  trivial,
  Cert.Proj.inProj,
  trivial,
  Cert.Proj.inX,
  trivial,
  Cert.Proj.inW,
  trivial,
  Cert.Proj.outX,
  trivial,
  Cert.Proj.outW,
  trivial,
  Cert.Proj.outLn,
  trivial,
  Cert.Proj.mlaQ,
  trivial,
  Cert.Proj.mlaQX,
  trivial,
  Cert.Proj.mlaQW,
  trivial,
  Cert.Proj.mlaKv,
  trivial,
  Cert.Proj.mlaKvX,
  trivial,
  Cert.Proj.mlaKvW,
  trivial,
  Cert.Row.mlaNorm,
  trivial,
  Cert.Row.ssdPost,
  trivial,
  Cert.Row.rope,
  trivial,
  Cert.Row.ropeT,
  trivial,
  Cert.Row.adam,
  trivial,
  Cert.Row.loss,
  trivial,
  Cert.Row.ssdDt,
  trivial,
  Cert.Row.ffnLnBwd,
  trivial,
  Cert.Row.mixLnBwd⟩

end Cert.Proof

end
